-- ==== Defs.lean ====
def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_Wff1Kernel (m : (ℓ : Loc Cert.Wff1Kernel.nD Cert.Wff1Kernel.τ Cert.Wff1Kernel.sig) → Buf (Elt Bits) ℓ) : Prop :=
  True

def Pre_Wff1KernelIdeal (m : (ℓ : Loc Cert.Wff1KernelIdeal.nD Cert.Wff1KernelIdeal.τ Cert.Wff1KernelIdeal.sig) → Buf (Elt Ideal) ℓ) : Prop :=
  True

def Pre_Wff1ReferenceIdeal (m : (ℓ : Loc Cert.Wff1ReferenceIdeal.nD Cert.Wff1ReferenceIdeal.τ Cert.Wff1ReferenceIdeal.sig) → Buf (Elt Ideal) ℓ) : Prop :=
  True

def Pre_Wff2Kernel (m : (ℓ : Loc Cert.Wff2Kernel.nD Cert.Wff2Kernel.τ Cert.Wff2Kernel.sig) → Buf (Elt Bits) ℓ) : Prop :=
  True

def Pre_Wff2KernelIdeal (m : (ℓ : Loc Cert.Wff2KernelIdeal.nD Cert.Wff2KernelIdeal.τ Cert.Wff2KernelIdeal.sig) → Buf (Elt Ideal) ℓ) : Prop :=
  True

def Pre_Wff2ReferenceIdeal (m : (ℓ : Loc Cert.Wff2ReferenceIdeal.nD Cert.Wff2ReferenceIdeal.τ Cert.Wff2ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_GateBKernel (m : (ℓ : Loc Cert.GateBKernel.nD Cert.GateBKernel.τ Cert.GateBKernel.sig) → Buf (Elt Bits) ℓ) : Prop :=
  True

def Pre_GateBKernelIdeal (m : (ℓ : Loc Cert.GateBKernelIdeal.nD Cert.GateBKernelIdeal.τ Cert.GateBKernelIdeal.sig) → Buf (Elt Ideal) ℓ) : Prop :=
  True

def Pre_GateBReferenceIdeal (m : (ℓ : Loc Cert.GateBReferenceIdeal.nD Cert.GateBReferenceIdeal.τ Cert.GateBReferenceIdeal.sig) → Buf (Elt Ideal) ℓ) : Prop :=
  True

def Pre_GlaNormKernel (m : (ℓ : Loc Cert.GlaNormKernel.nD Cert.GlaNormKernel.τ Cert.GlaNormKernel.sig) → Buf (Elt Bits) ℓ) : Prop :=
  True

def Pre_GlaNormKernelIdeal (m : (ℓ : Loc Cert.GlaNormKernelIdeal.nD Cert.GlaNormKernelIdeal.τ Cert.GlaNormKernelIdeal.sig) → Buf (Elt Ideal) ℓ) : Prop :=
  True

def Pre_GlaNormReferenceIdeal (m : (ℓ : Loc Cert.GlaNormReferenceIdeal.nD Cert.GlaNormReferenceIdeal.τ Cert.GlaNormReferenceIdeal.sig) → Buf (Elt Ideal) ℓ) : Prop :=
  True

def Pre_RelKernel (m : (ℓ : Loc Cert.RelKernel.nD Cert.RelKernel.τ Cert.RelKernel.sig) → Buf (Elt Bits) ℓ) : Prop :=
  True

def Pre_RelKernelIdeal (m : (ℓ : Loc Cert.RelKernelIdeal.nD Cert.RelKernelIdeal.τ Cert.RelKernelIdeal.sig) → Buf (Elt Ideal) ℓ) : Prop :=
  True

def Pre_RelReferenceIdeal (m : (ℓ : Loc Cert.RelReferenceIdeal.nD Cert.RelReferenceIdeal.τ Cert.RelReferenceIdeal.sig) → Buf (Elt Ideal) ℓ) : Prop :=
  True

def Pre_TotalKernel (m : (ℓ : Loc Cert.TotalKernel.nD Cert.TotalKernel.τ Cert.TotalKernel.sig) → Buf (Elt Bits) ℓ) : Prop :=
  True

def Pre_TotalKernelIdeal (m : (ℓ : Loc Cert.TotalKernelIdeal.nD Cert.TotalKernelIdeal.τ Cert.TotalKernelIdeal.sig) → Buf (Elt Ideal) ℓ) : Prop :=
  True

def Pre_TotalReferenceIdeal (m : (ℓ : Loc Cert.TotalReferenceIdeal.nD Cert.TotalReferenceIdeal.τ Cert.TotalReferenceIdeal.sig) → Buf (Elt Ideal) ℓ) : Prop :=
  True

def Pre_OutUpdKernel [hPre_outupd_chip : Cert.Pre_outupd_chip.Facts] (m : (ℓ : Loc Cert.OutUpdKernel.nD Cert.OutUpdKernel.τ Cert.OutUpdKernel.sig) → Buf (Elt Bits) ℓ) : Prop :=
  ∀ c : Dev Cert.OutUpdKernel.nD,
    (Cert.Pre_outupd_chip.fn (F := Bits) (m ((c.tc : Thread Cert.OutUpdKernel.nD Cert.OutUpdKernel.τ).loc Cert.OutUpdKernel.main_arg0)) (m ((c.tc : Thread Cert.OutUpdKernel.nD Cert.OutUpdKernel.τ).loc Cert.OutUpdKernel.main_arg1)) (m ((c.tc : Thread Cert.OutUpdKernel.nD Cert.OutUpdKernel.τ).loc Cert.OutUpdKernel.main_arg2)) (m ((c.tc : Thread Cert.OutUpdKernel.nD Cert.OutUpdKernel.τ).loc Cert.OutUpdKernel.main_arg3)) (m ((c.tc : Thread Cert.OutUpdKernel.nD Cert.OutUpdKernel.τ).loc Cert.OutUpdKernel.main_arg4)) (m ((c.tc : Thread Cert.OutUpdKernel.nD Cert.OutUpdKernel.τ).loc Cert.OutUpdKernel.main_arg5))) = (fun _ => 1#1)

def Pre_OutUpdKernelIdeal [hPre_outupd_chip : Cert.Pre_outupd_chip.Facts] (m : (ℓ : Loc Cert.OutUpdKernelIdeal.nD Cert.OutUpdKernelIdeal.τ Cert.OutUpdKernelIdeal.sig) → Buf (Elt Ideal) ℓ) : Prop :=
  ∀ c : Dev Cert.OutUpdKernelIdeal.nD,
    (Cert.Pre_outupd_chip.fn (F := Ideal) (m ((c.tc : Thread Cert.OutUpdKernelIdeal.nD Cert.OutUpdKernelIdeal.τ).loc Cert.OutUpdKernelIdeal.main_arg0)) (m ((c.tc : Thread Cert.OutUpdKernelIdeal.nD Cert.OutUpdKernelIdeal.τ).loc Cert.OutUpdKernelIdeal.main_arg1)) (m ((c.tc : Thread Cert.OutUpdKernelIdeal.nD Cert.OutUpdKernelIdeal.τ).loc Cert.OutUpdKernelIdeal.main_arg2)) (m ((c.tc : Thread Cert.OutUpdKernelIdeal.nD Cert.OutUpdKernelIdeal.τ).loc Cert.OutUpdKernelIdeal.main_arg3)) (m ((c.tc : Thread Cert.OutUpdKernelIdeal.nD Cert.OutUpdKernelIdeal.τ).loc Cert.OutUpdKernelIdeal.main_arg4)) (m ((c.tc : Thread Cert.OutUpdKernelIdeal.nD Cert.OutUpdKernelIdeal.τ).loc Cert.OutUpdKernelIdeal.main_arg5))) = (fun _ => 1#1)

def Pre_OutUpdReferenceIdeal (m : (ℓ : Loc Cert.OutUpdReferenceIdeal.nD Cert.OutUpdReferenceIdeal.τ Cert.OutUpdReferenceIdeal.sig) → Buf (Elt Ideal) ℓ) : Prop :=
  True

def Pre_OutUpdReferenceIdeal_outupd_chip [hPre_outupd_chip : Cert.Pre_outupd_chip.Facts] (m : (ℓ : Loc Cert.OutUpdReferenceIdeal.nD Cert.OutUpdReferenceIdeal.τ Cert.OutUpdReferenceIdeal.sig) → Buf (Elt Ideal) ℓ) : Prop :=
  ∀ c : Dev Cert.OutUpdReferenceIdeal.nD,
    (Cert.Pre_outupd_chip.fn (F := Ideal) (m ((c.tc : Thread Cert.OutUpdReferenceIdeal.nD Cert.OutUpdReferenceIdeal.τ).loc Cert.OutUpdReferenceIdeal.main_arg0)) (m ((c.tc : Thread Cert.OutUpdReferenceIdeal.nD Cert.OutUpdReferenceIdeal.τ).loc Cert.OutUpdReferenceIdeal.main_arg1)) (m ((c.tc : Thread Cert.OutUpdReferenceIdeal.nD Cert.OutUpdReferenceIdeal.τ).loc Cert.OutUpdReferenceIdeal.main_arg2)) (m ((c.tc : Thread Cert.OutUpdReferenceIdeal.nD Cert.OutUpdReferenceIdeal.τ).loc Cert.OutUpdReferenceIdeal.main_arg3)) (m ((c.tc : Thread Cert.OutUpdReferenceIdeal.nD Cert.OutUpdReferenceIdeal.τ).loc Cert.OutUpdReferenceIdeal.main_arg4)) (m ((c.tc : Thread Cert.OutUpdReferenceIdeal.nD Cert.OutUpdReferenceIdeal.τ).loc Cert.OutUpdReferenceIdeal.main_arg5))) = (fun _ => 1#1)

def Pre_FfUpdKernel [hPre_ffupd_chip : Cert.Pre_ffupd_chip.Facts] (m : (ℓ : Loc Cert.FfUpdKernel.nD Cert.FfUpdKernel.τ Cert.FfUpdKernel.sig) → Buf (Elt Bits) ℓ) : Prop :=
  ∀ c : Dev Cert.FfUpdKernel.nD,
    (Cert.Pre_ffupd_chip.fn (F := Bits) (m ((c.tc : Thread Cert.FfUpdKernel.nD Cert.FfUpdKernel.τ).loc Cert.FfUpdKernel.main_arg0)) (m ((c.tc : Thread Cert.FfUpdKernel.nD Cert.FfUpdKernel.τ).loc Cert.FfUpdKernel.main_arg1)) (m ((c.tc : Thread Cert.FfUpdKernel.nD Cert.FfUpdKernel.τ).loc Cert.FfUpdKernel.main_arg2)) (m ((c.tc : Thread Cert.FfUpdKernel.nD Cert.FfUpdKernel.τ).loc Cert.FfUpdKernel.main_arg3)) (m ((c.tc : Thread Cert.FfUpdKernel.nD Cert.FfUpdKernel.τ).loc Cert.FfUpdKernel.main_arg4)) (m ((c.tc : Thread Cert.FfUpdKernel.nD Cert.FfUpdKernel.τ).loc Cert.FfUpdKernel.main_arg5))) = (fun _ => 1#1)

def Pre_FfUpdKernelIdeal [hPre_ffupd_chip : Cert.Pre_ffupd_chip.Facts] (m : (ℓ : Loc Cert.FfUpdKernelIdeal.nD Cert.FfUpdKernelIdeal.τ Cert.FfUpdKernelIdeal.sig) → Buf (Elt Ideal) ℓ) : Prop :=
  ∀ c : Dev Cert.FfUpdKernelIdeal.nD,
    (Cert.Pre_ffupd_chip.fn (F := Ideal) (m ((c.tc : Thread Cert.FfUpdKernelIdeal.nD Cert.FfUpdKernelIdeal.τ).loc Cert.FfUpdKernelIdeal.main_arg0)) (m ((c.tc : Thread Cert.FfUpdKernelIdeal.nD Cert.FfUpdKernelIdeal.τ).loc Cert.FfUpdKernelIdeal.main_arg1)) (m ((c.tc : Thread Cert.FfUpdKernelIdeal.nD Cert.FfUpdKernelIdeal.τ).loc Cert.FfUpdKernelIdeal.main_arg2)) (m ((c.tc : Thread Cert.FfUpdKernelIdeal.nD Cert.FfUpdKernelIdeal.τ).loc Cert.FfUpdKernelIdeal.main_arg3)) (m ((c.tc : Thread Cert.FfUpdKernelIdeal.nD Cert.FfUpdKernelIdeal.τ).loc Cert.FfUpdKernelIdeal.main_arg4)) (m ((c.tc : Thread Cert.FfUpdKernelIdeal.nD Cert.FfUpdKernelIdeal.τ).loc Cert.FfUpdKernelIdeal.main_arg5))) = (fun _ => 1#1)

def Pre_FfUpdReferenceIdeal (m : (ℓ : Loc Cert.FfUpdReferenceIdeal.nD Cert.FfUpdReferenceIdeal.τ Cert.FfUpdReferenceIdeal.sig) → Buf (Elt Ideal) ℓ) : Prop :=
  True

def Pre_FfUpdReferenceIdeal_ffupd_chip [hPre_ffupd_chip : Cert.Pre_ffupd_chip.Facts] (m : (ℓ : Loc Cert.FfUpdReferenceIdeal.nD Cert.FfUpdReferenceIdeal.τ Cert.FfUpdReferenceIdeal.sig) → Buf (Elt Ideal) ℓ) : Prop :=
  ∀ c : Dev Cert.FfUpdReferenceIdeal.nD,
    (Cert.Pre_ffupd_chip.fn (F := Ideal) (m ((c.tc : Thread Cert.FfUpdReferenceIdeal.nD Cert.FfUpdReferenceIdeal.τ).loc Cert.FfUpdReferenceIdeal.main_arg0)) (m ((c.tc : Thread Cert.FfUpdReferenceIdeal.nD Cert.FfUpdReferenceIdeal.τ).loc Cert.FfUpdReferenceIdeal.main_arg1)) (m ((c.tc : Thread Cert.FfUpdReferenceIdeal.nD Cert.FfUpdReferenceIdeal.τ).loc Cert.FfUpdReferenceIdeal.main_arg2)) (m ((c.tc : Thread Cert.FfUpdReferenceIdeal.nD Cert.FfUpdReferenceIdeal.τ).loc Cert.FfUpdReferenceIdeal.main_arg3)) (m ((c.tc : Thread Cert.FfUpdReferenceIdeal.nD Cert.FfUpdReferenceIdeal.τ).loc Cert.FfUpdReferenceIdeal.main_arg4)) (m ((c.tc : Thread Cert.FfUpdReferenceIdeal.nD Cert.FfUpdReferenceIdeal.τ).loc Cert.FfUpdReferenceIdeal.main_arg5))) = (fun _ => 1#1)

def Pre_InUpdKernel [hPre_inupd_chip : Cert.Pre_inupd_chip.Facts] (m : (ℓ : Loc Cert.InUpdKernel.nD Cert.InUpdKernel.τ Cert.InUpdKernel.sig) → Buf (Elt Bits) ℓ) : Prop :=
  ∀ c : Dev Cert.InUpdKernel.nD,
    (Cert.Pre_inupd_chip.fn (F := Bits) (m ((c.tc : Thread Cert.InUpdKernel.nD Cert.InUpdKernel.τ).loc Cert.InUpdKernel.main_arg0)) (m ((c.tc : Thread Cert.InUpdKernel.nD Cert.InUpdKernel.τ).loc Cert.InUpdKernel.main_arg1)) (m ((c.tc : Thread Cert.InUpdKernel.nD Cert.InUpdKernel.τ).loc Cert.InUpdKernel.main_arg2)) (m ((c.tc : Thread Cert.InUpdKernel.nD Cert.InUpdKernel.τ).loc Cert.InUpdKernel.main_arg3)) (m ((c.tc : Thread Cert.InUpdKernel.nD Cert.InUpdKernel.τ).loc Cert.InUpdKernel.main_arg4)) (m ((c.tc : Thread Cert.InUpdKernel.nD Cert.InUpdKernel.τ).loc Cert.InUpdKernel.main_arg5))) = (fun _ => 1#1)

def Pre_InUpdKernelIdeal [hPre_inupd_chip : Cert.Pre_inupd_chip.Facts] (m : (ℓ : Loc Cert.InUpdKernelIdeal.nD Cert.InUpdKernelIdeal.τ Cert.InUpdKernelIdeal.sig) → Buf (Elt Ideal) ℓ) : Prop :=
  ∀ c : Dev Cert.InUpdKernelIdeal.nD,
    (Cert.Pre_inupd_chip.fn (F := Ideal) (m ((c.tc : Thread Cert.InUpdKernelIdeal.nD Cert.InUpdKernelIdeal.τ).loc Cert.InUpdKernelIdeal.main_arg0)) (m ((c.tc : Thread Cert.InUpdKernelIdeal.nD Cert.InUpdKernelIdeal.τ).loc Cert.InUpdKernelIdeal.main_arg1)) (m ((c.tc : Thread Cert.InUpdKernelIdeal.nD Cert.InUpdKernelIdeal.τ).loc Cert.InUpdKernelIdeal.main_arg2)) (m ((c.tc : Thread Cert.InUpdKernelIdeal.nD Cert.InUpdKernelIdeal.τ).loc Cert.InUpdKernelIdeal.main_arg3)) (m ((c.tc : Thread Cert.InUpdKernelIdeal.nD Cert.InUpdKernelIdeal.τ).loc Cert.InUpdKernelIdeal.main_arg4)) (m ((c.tc : Thread Cert.InUpdKernelIdeal.nD Cert.InUpdKernelIdeal.τ).loc Cert.InUpdKernelIdeal.main_arg5))) = (fun _ => 1#1)

def Pre_InUpdReferenceIdeal (m : (ℓ : Loc Cert.InUpdReferenceIdeal.nD Cert.InUpdReferenceIdeal.τ Cert.InUpdReferenceIdeal.sig) → Buf (Elt Ideal) ℓ) : Prop :=
  True

def Pre_InUpdReferenceIdeal_inupd_chip [hPre_inupd_chip : Cert.Pre_inupd_chip.Facts] (m : (ℓ : Loc Cert.InUpdReferenceIdeal.nD Cert.InUpdReferenceIdeal.τ Cert.InUpdReferenceIdeal.sig) → Buf (Elt Ideal) ℓ) : Prop :=
  ∀ c : Dev Cert.InUpdReferenceIdeal.nD,
    (Cert.Pre_inupd_chip.fn (F := Ideal) (m ((c.tc : Thread Cert.InUpdReferenceIdeal.nD Cert.InUpdReferenceIdeal.τ).loc Cert.InUpdReferenceIdeal.main_arg0)) (m ((c.tc : Thread Cert.InUpdReferenceIdeal.nD Cert.InUpdReferenceIdeal.τ).loc Cert.InUpdReferenceIdeal.main_arg1)) (m ((c.tc : Thread Cert.InUpdReferenceIdeal.nD Cert.InUpdReferenceIdeal.τ).loc Cert.InUpdReferenceIdeal.main_arg2)) (m ((c.tc : Thread Cert.InUpdReferenceIdeal.nD Cert.InUpdReferenceIdeal.τ).loc Cert.InUpdReferenceIdeal.main_arg3)) (m ((c.tc : Thread Cert.InUpdReferenceIdeal.nD Cert.InUpdReferenceIdeal.τ).loc Cert.InUpdReferenceIdeal.main_arg4)) (m ((c.tc : Thread Cert.InUpdReferenceIdeal.nD Cert.InUpdReferenceIdeal.τ).loc Cert.InUpdReferenceIdeal.main_arg5))) = (fun _ => 1#1)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4)
      ∧ r.2.mem ((c.tc : Thread Cert.DxKernel.nD Cert.DxKernel.τ).loc Cert.DxKernel.main_arg5) = m ((c.tc : Thread Cert.DxKernel.nD Cert.DxKernel.τ).loc Cert.DxKernel.main_arg5)
      ∧ r.2.mem ((c.tc : Thread Cert.DxKernel.nD Cert.DxKernel.τ).loc Cert.DxKernel.main_arg6) = m ((c.tc : Thread Cert.DxKernel.nD Cert.DxKernel.τ).loc Cert.DxKernel.main_arg6)
      ∧ r.2.mem ((c.tc : Thread Cert.DxKernel.nD Cert.DxKernel.τ).loc Cert.DxKernel.main_arg7) = m ((c.tc : Thread Cert.DxKernel.nD Cert.DxKernel.τ).loc Cert.DxKernel.main_arg7))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
      ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6)
      ∧ r.2.mem ((c.tc : Thread Cert.DxKernelIdeal.nD Cert.DxKernelIdeal.τ).loc Cert.DxKernelIdeal.main_arg7) = m ((c.tc : Thread Cert.DxKernelIdeal.nD Cert.DxKernelIdeal.τ).loc Cert.DxKernelIdeal.main_arg7))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6)
      ∧ r.2.mem ((c.tc : Thread Cert.DxReferenceIdeal.nD Cert.DxReferenceIdeal.τ).loc Cert.DxReferenceIdeal.main_arg7) = m ((c.tc : Thread Cert.DxReferenceIdeal.nD Cert.DxReferenceIdeal.τ).loc Cert.DxReferenceIdeal.main_arg7))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_Wff1Kernel [hWff1Kernel : Cert.Wff1Kernel.Facts] : Prop :=
  ∀ (m : (ℓ : Loc Cert.Wff1Kernel.nD Cert.Wff1Kernel.τ Cert.Wff1Kernel.sig) → Buf (Elt Bits) ℓ) (g : Dev Cert.Wff1Kernel.nD → PrngReg), Pre_Wff1Kernel m →
    θ_run (Cert.Wff1Kernel.defs (F := Bits)) (onTc (τ := Cert.Wff1Kernel.τ) (Cert.Wff1Kernel.main (F := Bits))) ⟨m, fun _ => 0, g⟩ (fun r => (∀ c : Dev Cert.Wff1Kernel.nD,
      r.2.mem ((c.tc : Thread Cert.Wff1Kernel.nD Cert.Wff1Kernel.τ).loc Cert.Wff1Kernel.main_arg0) = m ((c.tc : Thread Cert.Wff1Kernel.nD Cert.Wff1Kernel.τ).loc Cert.Wff1Kernel.main_arg0)
      ∧ r.2.mem ((c.tc : Thread Cert.Wff1Kernel.nD Cert.Wff1Kernel.τ).loc Cert.Wff1Kernel.main_arg1) = m ((c.tc : Thread Cert.Wff1Kernel.nD Cert.Wff1Kernel.τ).loc Cert.Wff1Kernel.main_arg1))
      ∧ r.2.sem = fun _ => 0)

def quiescent_Wff1KernelIdeal [hWff1KernelIdeal : Cert.Wff1KernelIdeal.Facts] : Prop :=
  ∀ (m : (ℓ : Loc Cert.Wff1KernelIdeal.nD Cert.Wff1KernelIdeal.τ Cert.Wff1KernelIdeal.sig) → Buf (Elt Ideal) ℓ) (g : Dev Cert.Wff1KernelIdeal.nD → PrngReg), Pre_Wff1KernelIdeal m →
    θ_run (Cert.Wff1KernelIdeal.defs (F := Ideal)) (onTc (τ := Cert.Wff1KernelIdeal.τ) (Cert.Wff1KernelIdeal.main (F := Ideal))) ⟨m, fun _ => 0, g⟩ (fun r => (∀ c : Dev Cert.Wff1KernelIdeal.nD,
      r.2.mem ((c.tc : Thread Cert.Wff1KernelIdeal.nD Cert.Wff1KernelIdeal.τ).loc Cert.Wff1KernelIdeal.main_arg0) = m ((c.tc : Thread Cert.Wff1KernelIdeal.nD Cert.Wff1KernelIdeal.τ).loc Cert.Wff1KernelIdeal.main_arg0)
      ∧ r.2.mem ((c.tc : Thread Cert.Wff1KernelIdeal.nD Cert.Wff1KernelIdeal.τ).loc Cert.Wff1KernelIdeal.main_arg1) = m ((c.tc : Thread Cert.Wff1KernelIdeal.nD Cert.Wff1KernelIdeal.τ).loc Cert.Wff1KernelIdeal.main_arg1))
      ∧ r.2.sem = fun _ => 0)

def quiescent_Wff1ReferenceIdeal [hWff1ReferenceIdeal : Cert.Wff1ReferenceIdeal.Facts] : Prop :=
  ∀ (m : (ℓ : Loc Cert.Wff1ReferenceIdeal.nD Cert.Wff1ReferenceIdeal.τ Cert.Wff1ReferenceIdeal.sig) → Buf (Elt Ideal) ℓ) (g : Dev Cert.Wff1ReferenceIdeal.nD → PrngReg), Pre_Wff1ReferenceIdeal m →
    θ_run (Cert.Wff1ReferenceIdeal.defs (F := Ideal)) (onTc (τ := Cert.Wff1ReferenceIdeal.τ) (Cert.Wff1ReferenceIdeal.main (F := Ideal))) ⟨m, fun _ => 0, g⟩ (fun r => (∀ c : Dev Cert.Wff1ReferenceIdeal.nD,
      r.2.mem ((c.tc : Thread Cert.Wff1ReferenceIdeal.nD Cert.Wff1ReferenceIdeal.τ).loc Cert.Wff1ReferenceIdeal.main_arg0) = m ((c.tc : Thread Cert.Wff1ReferenceIdeal.nD Cert.Wff1ReferenceIdeal.τ).loc Cert.Wff1ReferenceIdeal.main_arg0)
      ∧ r.2.mem ((c.tc : Thread Cert.Wff1ReferenceIdeal.nD Cert.Wff1ReferenceIdeal.τ).loc Cert.Wff1ReferenceIdeal.main_arg1) = m ((c.tc : Thread Cert.Wff1ReferenceIdeal.nD Cert.Wff1ReferenceIdeal.τ).loc Cert.Wff1ReferenceIdeal.main_arg1))
      ∧ r.2.sem = fun _ => 0)

def quiescent_Wff2Kernel [hWff2Kernel : Cert.Wff2Kernel.Facts] : Prop :=
  ∀ (m : (ℓ : Loc Cert.Wff2Kernel.nD Cert.Wff2Kernel.τ Cert.Wff2Kernel.sig) → Buf (Elt Bits) ℓ) (g : Dev Cert.Wff2Kernel.nD → PrngReg), Pre_Wff2Kernel m →
    θ_run (Cert.Wff2Kernel.defs (F := Bits)) (onTc (τ := Cert.Wff2Kernel.τ) (Cert.Wff2Kernel.main (F := Bits))) ⟨m, fun _ => 0, g⟩ (fun r => (∀ c : Dev Cert.Wff2Kernel.nD,
      r.2.mem ((c.tc : Thread Cert.Wff2Kernel.nD Cert.Wff2Kernel.τ).loc Cert.Wff2Kernel.main_arg0) = m ((c.tc : Thread Cert.Wff2Kernel.nD Cert.Wff2Kernel.τ).loc Cert.Wff2Kernel.main_arg0)
      ∧ r.2.mem ((c.tc : Thread Cert.Wff2Kernel.nD Cert.Wff2Kernel.τ).loc Cert.Wff2Kernel.main_arg1) = m ((c.tc : Thread Cert.Wff2Kernel.nD Cert.Wff2Kernel.τ).loc Cert.Wff2Kernel.main_arg1))
      ∧ r.2.sem = fun _ => 0)

def quiescent_Wff2KernelIdeal [hWff2KernelIdeal : Cert.Wff2KernelIdeal.Facts] : Prop :=
  ∀ (m : (ℓ : Loc Cert.Wff2KernelIdeal.nD Cert.Wff2KernelIdeal.τ Cert.Wff2KernelIdeal.sig) → Buf (Elt Ideal) ℓ) (g : Dev Cert.Wff2KernelIdeal.nD → PrngReg), Pre_Wff2KernelIdeal m →
    θ_run (Cert.Wff2KernelIdeal.defs (F := Ideal)) (onTc (τ := Cert.Wff2KernelIdeal.τ) (Cert.Wff2KernelIdeal.main (F := Ideal))) ⟨m, fun _ => 0, g⟩ (fun r => (∀ c : Dev Cert.Wff2KernelIdeal.nD,
      r.2.mem ((c.tc : Thread Cert.Wff2KernelIdeal.nD Cert.Wff2KernelIdeal.τ).loc Cert.Wff2KernelIdeal.main_arg0) = m ((c.tc : Thread Cert.Wff2KernelIdeal.nD Cert.Wff2KernelIdeal.τ).loc Cert.Wff2KernelIdeal.main_arg0)
      ∧ r.2.mem ((c.tc : Thread Cert.Wff2KernelIdeal.nD Cert.Wff2KernelIdeal.τ).loc Cert.Wff2KernelIdeal.main_arg1) = m ((c.tc : Thread Cert.Wff2KernelIdeal.nD Cert.Wff2KernelIdeal.τ).loc Cert.Wff2KernelIdeal.main_arg1))
      ∧ r.2.sem = fun _ => 0)

def quiescent_Wff2ReferenceIdeal [hWff2ReferenceIdeal : Cert.Wff2ReferenceIdeal.Facts] : Prop :=
  ∀ (m : (ℓ : Loc Cert.Wff2ReferenceIdeal.nD Cert.Wff2ReferenceIdeal.τ Cert.Wff2ReferenceIdeal.sig) → Buf (Elt Ideal) ℓ) (g : Dev Cert.Wff2ReferenceIdeal.nD → PrngReg), Pre_Wff2ReferenceIdeal m →
    θ_run (Cert.Wff2ReferenceIdeal.defs (F := Ideal)) (onTc (τ := Cert.Wff2ReferenceIdeal.τ) (Cert.Wff2ReferenceIdeal.main (F := Ideal))) ⟨m, fun _ => 0, g⟩ (fun r => (∀ c : Dev Cert.Wff2ReferenceIdeal.nD,
      r.2.mem ((c.tc : Thread Cert.Wff2ReferenceIdeal.nD Cert.Wff2ReferenceIdeal.τ).loc Cert.Wff2ReferenceIdeal.main_arg0) = m ((c.tc : Thread Cert.Wff2ReferenceIdeal.nD Cert.Wff2ReferenceIdeal.τ).loc Cert.Wff2ReferenceIdeal.main_arg0)
      ∧ r.2.mem ((c.tc : Thread Cert.Wff2ReferenceIdeal.nD Cert.Wff2ReferenceIdeal.τ).loc Cert.Wff2ReferenceIdeal.main_arg1) = m ((c.tc : Thread Cert.Wff2ReferenceIdeal.nD Cert.Wff2ReferenceIdeal.τ).loc Cert.Wff2ReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4))
      ∧ r.2.sem = fun _ => 0)

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1)
      ∧ r.2.mem ((c.tc : Thread Cert.GainKernel.nD Cert.GainKernel.τ).loc Cert.GainKernel.main_arg2) = m ((c.tc : Thread Cert.GainKernel.nD Cert.GainKernel.τ).loc Cert.GainKernel.main_arg2)
      ∧ r.2.mem ((c.tc : Thread Cert.GainKernel.nD Cert.GainKernel.τ).loc Cert.GainKernel.main_arg3) = m ((c.tc : Thread Cert.GainKernel.nD Cert.GainKernel.τ).loc Cert.GainKernel.main_arg3))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
      ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2)
      ∧ r.2.mem ((c.tc : Thread Cert.GainKernelIdeal.nD Cert.GainKernelIdeal.τ).loc Cert.GainKernelIdeal.main_arg3) = m ((c.tc : Thread Cert.GainKernelIdeal.nD Cert.GainKernelIdeal.τ).loc Cert.GainKernelIdeal.main_arg3))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1)
      ∧ r.2.mem ((c.tc : Thread Cert.GainReferenceIdeal.nD Cert.GainReferenceIdeal.τ).loc Cert.GainReferenceIdeal.main_arg2) = m ((c.tc : Thread Cert.GainReferenceIdeal.nD Cert.GainReferenceIdeal.τ).loc Cert.GainReferenceIdeal.main_arg2)
      ∧ r.2.mem ((c.tc : Thread Cert.GainReferenceIdeal.nD Cert.GainReferenceIdeal.τ).loc Cert.GainReferenceIdeal.main_arg3) = m ((c.tc : Thread Cert.GainReferenceIdeal.nD Cert.GainReferenceIdeal.τ).loc Cert.GainReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateBKernel [hGateBKernel : Cert.GateBKernel.Facts] : Prop :=
  ∀ (m : (ℓ : Loc Cert.GateBKernel.nD Cert.GateBKernel.τ Cert.GateBKernel.sig) → Buf (Elt Bits) ℓ) (g : Dev Cert.GateBKernel.nD → PrngReg), Pre_GateBKernel m →
    θ_run (Cert.GateBKernel.defs (F := Bits)) (onTc (τ := Cert.GateBKernel.τ) (Cert.GateBKernel.main (F := Bits))) ⟨m, fun _ => 0, g⟩ (fun r => (∀ c : Dev Cert.GateBKernel.nD,
      r.2.mem ((c.tc : Thread Cert.GateBKernel.nD Cert.GateBKernel.τ).loc Cert.GateBKernel.main_arg0) = m ((c.tc : Thread Cert.GateBKernel.nD Cert.GateBKernel.τ).loc Cert.GateBKernel.main_arg0)
      ∧ r.2.mem ((c.tc : Thread Cert.GateBKernel.nD Cert.GateBKernel.τ).loc Cert.GateBKernel.main_arg1) = m ((c.tc : Thread Cert.GateBKernel.nD Cert.GateBKernel.τ).loc Cert.GateBKernel.main_arg1)
      ∧ r.2.mem ((c.tc : Thread Cert.GateBKernel.nD Cert.GateBKernel.τ).loc Cert.GateBKernel.main_arg2) = m ((c.tc : Thread Cert.GateBKernel.nD Cert.GateBKernel.τ).loc Cert.GateBKernel.main_arg2)
      ∧ r.2.mem ((c.tc : Thread Cert.GateBKernel.nD Cert.GateBKernel.τ).loc Cert.GateBKernel.main_arg3) = m ((c.tc : Thread Cert.GateBKernel.nD Cert.GateBKernel.τ).loc Cert.GateBKernel.main_arg3))
      ∧ r.2.sem = fun _ => 0)

def quiescent_GateBKernelIdeal [hGateBKernelIdeal : Cert.GateBKernelIdeal.Facts] : Prop :=
  ∀ (m : (ℓ : Loc Cert.GateBKernelIdeal.nD Cert.GateBKernelIdeal.τ Cert.GateBKernelIdeal.sig) → Buf (Elt Ideal) ℓ) (g : Dev Cert.GateBKernelIdeal.nD → PrngReg), Pre_GateBKernelIdeal m →
    θ_run (Cert.GateBKernelIdeal.defs (F := Ideal)) (onTc (τ := Cert.GateBKernelIdeal.τ) (Cert.GateBKernelIdeal.main (F := Ideal))) ⟨m, fun _ => 0, g⟩ (fun r => (∀ c : Dev Cert.GateBKernelIdeal.nD,
      r.2.mem ((c.tc : Thread Cert.GateBKernelIdeal.nD Cert.GateBKernelIdeal.τ).loc Cert.GateBKernelIdeal.main_arg0) = m ((c.tc : Thread Cert.GateBKernelIdeal.nD Cert.GateBKernelIdeal.τ).loc Cert.GateBKernelIdeal.main_arg0)
      ∧ r.2.mem ((c.tc : Thread Cert.GateBKernelIdeal.nD Cert.GateBKernelIdeal.τ).loc Cert.GateBKernelIdeal.main_arg1) = m ((c.tc : Thread Cert.GateBKernelIdeal.nD Cert.GateBKernelIdeal.τ).loc Cert.GateBKernelIdeal.main_arg1)
      ∧ r.2.mem ((c.tc : Thread Cert.GateBKernelIdeal.nD Cert.GateBKernelIdeal.τ).loc Cert.GateBKernelIdeal.main_arg2) = m ((c.tc : Thread Cert.GateBKernelIdeal.nD Cert.GateBKernelIdeal.τ).loc Cert.GateBKernelIdeal.main_arg2)
      ∧ r.2.mem ((c.tc : Thread Cert.GateBKernelIdeal.nD Cert.GateBKernelIdeal.τ).loc Cert.GateBKernelIdeal.main_arg3) = m ((c.tc : Thread Cert.GateBKernelIdeal.nD Cert.GateBKernelIdeal.τ).loc Cert.GateBKernelIdeal.main_arg3))
      ∧ r.2.sem = fun _ => 0)

def quiescent_GateBReferenceIdeal [hGateBReferenceIdeal : Cert.GateBReferenceIdeal.Facts] : Prop :=
  ∀ (m : (ℓ : Loc Cert.GateBReferenceIdeal.nD Cert.GateBReferenceIdeal.τ Cert.GateBReferenceIdeal.sig) → Buf (Elt Ideal) ℓ) (g : Dev Cert.GateBReferenceIdeal.nD → PrngReg), Pre_GateBReferenceIdeal m →
    θ_run (Cert.GateBReferenceIdeal.defs (F := Ideal)) (onTc (τ := Cert.GateBReferenceIdeal.τ) (Cert.GateBReferenceIdeal.main (F := Ideal))) ⟨m, fun _ => 0, g⟩ (fun r => (∀ c : Dev Cert.GateBReferenceIdeal.nD,
      r.2.mem ((c.tc : Thread Cert.GateBReferenceIdeal.nD Cert.GateBReferenceIdeal.τ).loc Cert.GateBReferenceIdeal.main_arg0) = m ((c.tc : Thread Cert.GateBReferenceIdeal.nD Cert.GateBReferenceIdeal.τ).loc Cert.GateBReferenceIdeal.main_arg0)
      ∧ r.2.mem ((c.tc : Thread Cert.GateBReferenceIdeal.nD Cert.GateBReferenceIdeal.τ).loc Cert.GateBReferenceIdeal.main_arg1) = m ((c.tc : Thread Cert.GateBReferenceIdeal.nD Cert.GateBReferenceIdeal.τ).loc Cert.GateBReferenceIdeal.main_arg1)
      ∧ r.2.mem ((c.tc : Thread Cert.GateBReferenceIdeal.nD Cert.GateBReferenceIdeal.τ).loc Cert.GateBReferenceIdeal.main_arg2) = m ((c.tc : Thread Cert.GateBReferenceIdeal.nD Cert.GateBReferenceIdeal.τ).loc Cert.GateBReferenceIdeal.main_arg2)
      ∧ r.2.mem ((c.tc : Thread Cert.GateBReferenceIdeal.nD Cert.GateBReferenceIdeal.τ).loc Cert.GateBReferenceIdeal.main_arg3) = m ((c.tc : Thread Cert.GateBReferenceIdeal.nD Cert.GateBReferenceIdeal.τ).loc Cert.GateBReferenceIdeal.main_arg3))
      ∧ r.2.sem = fun _ => 0)

def quiescent_GlaNormKernel [hGlaNormKernel : Cert.GlaNormKernel.Facts] : Prop :=
  ∀ (m : (ℓ : Loc Cert.GlaNormKernel.nD Cert.GlaNormKernel.τ Cert.GlaNormKernel.sig) → Buf (Elt Bits) ℓ) (g : Dev Cert.GlaNormKernel.nD → PrngReg), Pre_GlaNormKernel m →
    θ_run (Cert.GlaNormKernel.defs (F := Bits)) (onTc (τ := Cert.GlaNormKernel.τ) (Cert.GlaNormKernel.main (F := Bits))) ⟨m, fun _ => 0, g⟩ (fun r => (∀ c : Dev Cert.GlaNormKernel.nD,
      r.2.mem ((c.tc : Thread Cert.GlaNormKernel.nD Cert.GlaNormKernel.τ).loc Cert.GlaNormKernel.main_arg0) = m ((c.tc : Thread Cert.GlaNormKernel.nD Cert.GlaNormKernel.τ).loc Cert.GlaNormKernel.main_arg0)
      ∧ r.2.mem ((c.tc : Thread Cert.GlaNormKernel.nD Cert.GlaNormKernel.τ).loc Cert.GlaNormKernel.main_arg1) = m ((c.tc : Thread Cert.GlaNormKernel.nD Cert.GlaNormKernel.τ).loc Cert.GlaNormKernel.main_arg1)
      ∧ r.2.mem ((c.tc : Thread Cert.GlaNormKernel.nD Cert.GlaNormKernel.τ).loc Cert.GlaNormKernel.main_arg2) = m ((c.tc : Thread Cert.GlaNormKernel.nD Cert.GlaNormKernel.τ).loc Cert.GlaNormKernel.main_arg2)
      ∧ r.2.mem ((c.tc : Thread Cert.GlaNormKernel.nD Cert.GlaNormKernel.τ).loc Cert.GlaNormKernel.main_arg3) = m ((c.tc : Thread Cert.GlaNormKernel.nD Cert.GlaNormKernel.τ).loc Cert.GlaNormKernel.main_arg3))
      ∧ r.2.sem = fun _ => 0)

def quiescent_GlaNormKernelIdeal [hGlaNormKernelIdeal : Cert.GlaNormKernelIdeal.Facts] : Prop :=
  ∀ (m : (ℓ : Loc Cert.GlaNormKernelIdeal.nD Cert.GlaNormKernelIdeal.τ Cert.GlaNormKernelIdeal.sig) → Buf (Elt Ideal) ℓ) (g : Dev Cert.GlaNormKernelIdeal.nD → PrngReg), Pre_GlaNormKernelIdeal m →
    θ_run (Cert.GlaNormKernelIdeal.defs (F := Ideal)) (onTc (τ := Cert.GlaNormKernelIdeal.τ) (Cert.GlaNormKernelIdeal.main (F := Ideal))) ⟨m, fun _ => 0, g⟩ (fun r => (∀ c : Dev Cert.GlaNormKernelIdeal.nD,
      r.2.mem ((c.tc : Thread Cert.GlaNormKernelIdeal.nD Cert.GlaNormKernelIdeal.τ).loc Cert.GlaNormKernelIdeal.main_arg0) = m ((c.tc : Thread Cert.GlaNormKernelIdeal.nD Cert.GlaNormKernelIdeal.τ).loc Cert.GlaNormKernelIdeal.main_arg0)
      ∧ r.2.mem ((c.tc : Thread Cert.GlaNormKernelIdeal.nD Cert.GlaNormKernelIdeal.τ).loc Cert.GlaNormKernelIdeal.main_arg1) = m ((c.tc : Thread Cert.GlaNormKernelIdeal.nD Cert.GlaNormKernelIdeal.τ).loc Cert.GlaNormKernelIdeal.main_arg1)
      ∧ r.2.mem ((c.tc : Thread Cert.GlaNormKernelIdeal.nD Cert.GlaNormKernelIdeal.τ).loc Cert.GlaNormKernelIdeal.main_arg2) = m ((c.tc : Thread Cert.GlaNormKernelIdeal.nD Cert.GlaNormKernelIdeal.τ).loc Cert.GlaNormKernelIdeal.main_arg2)
      ∧ r.2.mem ((c.tc : Thread Cert.GlaNormKernelIdeal.nD Cert.GlaNormKernelIdeal.τ).loc Cert.GlaNormKernelIdeal.main_arg3) = m ((c.tc : Thread Cert.GlaNormKernelIdeal.nD Cert.GlaNormKernelIdeal.τ).loc Cert.GlaNormKernelIdeal.main_arg3))
      ∧ r.2.sem = fun _ => 0)

def quiescent_GlaNormReferenceIdeal [hGlaNormReferenceIdeal : Cert.GlaNormReferenceIdeal.Facts] : Prop :=
  ∀ (m : (ℓ : Loc Cert.GlaNormReferenceIdeal.nD Cert.GlaNormReferenceIdeal.τ Cert.GlaNormReferenceIdeal.sig) → Buf (Elt Ideal) ℓ) (g : Dev Cert.GlaNormReferenceIdeal.nD → PrngReg), Pre_GlaNormReferenceIdeal m →
    θ_run (Cert.GlaNormReferenceIdeal.defs (F := Ideal)) (onTc (τ := Cert.GlaNormReferenceIdeal.τ) (Cert.GlaNormReferenceIdeal.main (F := Ideal))) ⟨m, fun _ => 0, g⟩ (fun r => (∀ c : Dev Cert.GlaNormReferenceIdeal.nD,
      r.2.mem ((c.tc : Thread Cert.GlaNormReferenceIdeal.nD Cert.GlaNormReferenceIdeal.τ).loc Cert.GlaNormReferenceIdeal.main_arg0) = m ((c.tc : Thread Cert.GlaNormReferenceIdeal.nD Cert.GlaNormReferenceIdeal.τ).loc Cert.GlaNormReferenceIdeal.main_arg0)
      ∧ r.2.mem ((c.tc : Thread Cert.GlaNormReferenceIdeal.nD Cert.GlaNormReferenceIdeal.τ).loc Cert.GlaNormReferenceIdeal.main_arg1) = m ((c.tc : Thread Cert.GlaNormReferenceIdeal.nD Cert.GlaNormReferenceIdeal.τ).loc Cert.GlaNormReferenceIdeal.main_arg1)
      ∧ r.2.mem ((c.tc : Thread Cert.GlaNormReferenceIdeal.nD Cert.GlaNormReferenceIdeal.τ).loc Cert.GlaNormReferenceIdeal.main_arg2) = m ((c.tc : Thread Cert.GlaNormReferenceIdeal.nD Cert.GlaNormReferenceIdeal.τ).loc Cert.GlaNormReferenceIdeal.main_arg2)
      ∧ r.2.mem ((c.tc : Thread Cert.GlaNormReferenceIdeal.nD Cert.GlaNormReferenceIdeal.τ).loc Cert.GlaNormReferenceIdeal.main_arg3) = m ((c.tc : Thread Cert.GlaNormReferenceIdeal.nD Cert.GlaNormReferenceIdeal.τ).loc Cert.GlaNormReferenceIdeal.main_arg3))
      ∧ r.2.sem = fun _ => 0)

def quiescent_RelKernel [hRelKernel : Cert.RelKernel.Facts] : Prop :=
  ∀ (m : (ℓ : Loc Cert.RelKernel.nD Cert.RelKernel.τ Cert.RelKernel.sig) → Buf (Elt Bits) ℓ) (g : Dev Cert.RelKernel.nD → PrngReg), Pre_RelKernel m →
    θ_run (Cert.RelKernel.defs (F := Bits)) (onTc (τ := Cert.RelKernel.τ) (Cert.RelKernel.main (F := Bits))) ⟨m, fun _ => 0, g⟩ (fun r => (∀ c : Dev Cert.RelKernel.nD,
      r.2.mem ((c.tc : Thread Cert.RelKernel.nD Cert.RelKernel.τ).loc Cert.RelKernel.main_arg0) = m ((c.tc : Thread Cert.RelKernel.nD Cert.RelKernel.τ).loc Cert.RelKernel.main_arg0)
      ∧ r.2.mem ((c.tc : Thread Cert.RelKernel.nD Cert.RelKernel.τ).loc Cert.RelKernel.main_arg1) = m ((c.tc : Thread Cert.RelKernel.nD Cert.RelKernel.τ).loc Cert.RelKernel.main_arg1)
      ∧ r.2.mem ((c.tc : Thread Cert.RelKernel.nD Cert.RelKernel.τ).loc Cert.RelKernel.main_arg2) = m ((c.tc : Thread Cert.RelKernel.nD Cert.RelKernel.τ).loc Cert.RelKernel.main_arg2)
      ∧ r.2.mem ((c.tc : Thread Cert.RelKernel.nD Cert.RelKernel.τ).loc Cert.RelKernel.main_arg3) = m ((c.tc : Thread Cert.RelKernel.nD Cert.RelKernel.τ).loc Cert.RelKernel.main_arg3))
      ∧ r.2.sem = fun _ => 0)

def quiescent_RelKernelIdeal [hRelKernelIdeal : Cert.RelKernelIdeal.Facts] : Prop :=
  ∀ (m : (ℓ : Loc Cert.RelKernelIdeal.nD Cert.RelKernelIdeal.τ Cert.RelKernelIdeal.sig) → Buf (Elt Ideal) ℓ) (g : Dev Cert.RelKernelIdeal.nD → PrngReg), Pre_RelKernelIdeal m →
    θ_run (Cert.RelKernelIdeal.defs (F := Ideal)) (onTc (τ := Cert.RelKernelIdeal.τ) (Cert.RelKernelIdeal.main (F := Ideal))) ⟨m, fun _ => 0, g⟩ (fun r => (∀ c : Dev Cert.RelKernelIdeal.nD,
      r.2.mem ((c.tc : Thread Cert.RelKernelIdeal.nD Cert.RelKernelIdeal.τ).loc Cert.RelKernelIdeal.main_arg0) = m ((c.tc : Thread Cert.RelKernelIdeal.nD Cert.RelKernelIdeal.τ).loc Cert.RelKernelIdeal.main_arg0)
      ∧ r.2.mem ((c.tc : Thread Cert.RelKernelIdeal.nD Cert.RelKernelIdeal.τ).loc Cert.RelKernelIdeal.main_arg1) = m ((c.tc : Thread Cert.RelKernelIdeal.nD Cert.RelKernelIdeal.τ).loc Cert.RelKernelIdeal.main_arg1)
      ∧ r.2.mem ((c.tc : Thread Cert.RelKernelIdeal.nD Cert.RelKernelIdeal.τ).loc Cert.RelKernelIdeal.main_arg2) = m ((c.tc : Thread Cert.RelKernelIdeal.nD Cert.RelKernelIdeal.τ).loc Cert.RelKernelIdeal.main_arg2)
      ∧ r.2.mem ((c.tc : Thread Cert.RelKernelIdeal.nD Cert.RelKernelIdeal.τ).loc Cert.RelKernelIdeal.main_arg3) = m ((c.tc : Thread Cert.RelKernelIdeal.nD Cert.RelKernelIdeal.τ).loc Cert.RelKernelIdeal.main_arg3))
      ∧ r.2.sem = fun _ => 0)

def quiescent_RelReferenceIdeal [hRelReferenceIdeal : Cert.RelReferenceIdeal.Facts] : Prop :=
  ∀ (m : (ℓ : Loc Cert.RelReferenceIdeal.nD Cert.RelReferenceIdeal.τ Cert.RelReferenceIdeal.sig) → Buf (Elt Ideal) ℓ) (g : Dev Cert.RelReferenceIdeal.nD → PrngReg), Pre_RelReferenceIdeal m →
    θ_run (Cert.RelReferenceIdeal.defs (F := Ideal)) (onTc (τ := Cert.RelReferenceIdeal.τ) (Cert.RelReferenceIdeal.main (F := Ideal))) ⟨m, fun _ => 0, g⟩ (fun r => (∀ c : Dev Cert.RelReferenceIdeal.nD,
      r.2.mem ((c.tc : Thread Cert.RelReferenceIdeal.nD Cert.RelReferenceIdeal.τ).loc Cert.RelReferenceIdeal.main_arg0) = m ((c.tc : Thread Cert.RelReferenceIdeal.nD Cert.RelReferenceIdeal.τ).loc Cert.RelReferenceIdeal.main_arg0)
      ∧ r.2.mem ((c.tc : Thread Cert.RelReferenceIdeal.nD Cert.RelReferenceIdeal.τ).loc Cert.RelReferenceIdeal.main_arg1) = m ((c.tc : Thread Cert.RelReferenceIdeal.nD Cert.RelReferenceIdeal.τ).loc Cert.RelReferenceIdeal.main_arg1)
      ∧ r.2.mem ((c.tc : Thread Cert.RelReferenceIdeal.nD Cert.RelReferenceIdeal.τ).loc Cert.RelReferenceIdeal.main_arg2) = m ((c.tc : Thread Cert.RelReferenceIdeal.nD Cert.RelReferenceIdeal.τ).loc Cert.RelReferenceIdeal.main_arg2)
      ∧ r.2.mem ((c.tc : Thread Cert.RelReferenceIdeal.nD Cert.RelReferenceIdeal.τ).loc Cert.RelReferenceIdeal.main_arg3) = m ((c.tc : Thread Cert.RelReferenceIdeal.nD Cert.RelReferenceIdeal.τ).loc Cert.RelReferenceIdeal.main_arg3))
      ∧ r.2.sem = fun _ => 0)

def quiescent_TotalKernel [hTotalKernel : Cert.TotalKernel.Facts] : Prop :=
  ∀ (m : (ℓ : Loc Cert.TotalKernel.nD Cert.TotalKernel.τ Cert.TotalKernel.sig) → Buf (Elt Bits) ℓ) (g : Dev Cert.TotalKernel.nD → PrngReg), Pre_TotalKernel m →
    θ_run (Cert.TotalKernel.defs (F := Bits)) (onTc (τ := Cert.TotalKernel.τ) (Cert.TotalKernel.main (F := Bits))) ⟨m, fun _ => 0, g⟩ (fun r => (∀ c : Dev Cert.TotalKernel.nD,
      r.2.mem ((c.tc : Thread Cert.TotalKernel.nD Cert.TotalKernel.τ).loc Cert.TotalKernel.main_arg0) = m ((c.tc : Thread Cert.TotalKernel.nD Cert.TotalKernel.τ).loc Cert.TotalKernel.main_arg0))
      ∧ r.2.sem = fun _ => 0)

def quiescent_TotalKernelIdeal [hTotalKernelIdeal : Cert.TotalKernelIdeal.Facts] : Prop :=
  ∀ (m : (ℓ : Loc Cert.TotalKernelIdeal.nD Cert.TotalKernelIdeal.τ Cert.TotalKernelIdeal.sig) → Buf (Elt Ideal) ℓ) (g : Dev Cert.TotalKernelIdeal.nD → PrngReg), Pre_TotalKernelIdeal m →
    θ_run (Cert.TotalKernelIdeal.defs (F := Ideal)) (onTc (τ := Cert.TotalKernelIdeal.τ) (Cert.TotalKernelIdeal.main (F := Ideal))) ⟨m, fun _ => 0, g⟩ (fun r => (∀ c : Dev Cert.TotalKernelIdeal.nD,
      r.2.mem ((c.tc : Thread Cert.TotalKernelIdeal.nD Cert.TotalKernelIdeal.τ).loc Cert.TotalKernelIdeal.main_arg0) = m ((c.tc : Thread Cert.TotalKernelIdeal.nD Cert.TotalKernelIdeal.τ).loc Cert.TotalKernelIdeal.main_arg0))
      ∧ r.2.sem = fun _ => 0)

def quiescent_TotalReferenceIdeal [hTotalReferenceIdeal : Cert.TotalReferenceIdeal.Facts] : Prop :=
  ∀ (m : (ℓ : Loc Cert.TotalReferenceIdeal.nD Cert.TotalReferenceIdeal.τ Cert.TotalReferenceIdeal.sig) → Buf (Elt Ideal) ℓ) (g : Dev Cert.TotalReferenceIdeal.nD → PrngReg), Pre_TotalReferenceIdeal m →
    θ_run (Cert.TotalReferenceIdeal.defs (F := Ideal)) (onTc (τ := Cert.TotalReferenceIdeal.τ) (Cert.TotalReferenceIdeal.main (F := Ideal))) ⟨m, fun _ => 0, g⟩ (fun r => (∀ c : Dev Cert.TotalReferenceIdeal.nD,
      r.2.mem ((c.tc : Thread Cert.TotalReferenceIdeal.nD Cert.TotalReferenceIdeal.τ).loc Cert.TotalReferenceIdeal.main_arg0) = m ((c.tc : Thread Cert.TotalReferenceIdeal.nD Cert.TotalReferenceIdeal.τ).loc Cert.TotalReferenceIdeal.main_arg0))
      ∧ r.2.sem = fun _ => 0)

def quiescent_OutUpdKernel [hOutUpdKernel : Cert.OutUpdKernel.Facts] [hPre_outupd_chip : Cert.Pre_outupd_chip.Facts] : Prop :=
  ∀ (m : (ℓ : Loc Cert.OutUpdKernel.nD Cert.OutUpdKernel.τ Cert.OutUpdKernel.sig) → Buf (Elt Bits) ℓ) (g : Dev Cert.OutUpdKernel.nD → PrngReg), Pre_OutUpdKernel m →
    θ_run (Cert.OutUpdKernel.defs (F := Bits)) (onTc (τ := Cert.OutUpdKernel.τ) (Cert.OutUpdKernel.main (F := Bits))) ⟨m, fun _ => 0, g⟩ (fun r => (∀ c : Dev Cert.OutUpdKernel.nD,
      r.2.mem ((c.tc : Thread Cert.OutUpdKernel.nD Cert.OutUpdKernel.τ).loc Cert.OutUpdKernel.main_arg0) = m ((c.tc : Thread Cert.OutUpdKernel.nD Cert.OutUpdKernel.τ).loc Cert.OutUpdKernel.main_arg0)
      ∧ r.2.mem ((c.tc : Thread Cert.OutUpdKernel.nD Cert.OutUpdKernel.τ).loc Cert.OutUpdKernel.main_arg1) = m ((c.tc : Thread Cert.OutUpdKernel.nD Cert.OutUpdKernel.τ).loc Cert.OutUpdKernel.main_arg1)
      ∧ r.2.mem ((c.tc : Thread Cert.OutUpdKernel.nD Cert.OutUpdKernel.τ).loc Cert.OutUpdKernel.main_arg2) = m ((c.tc : Thread Cert.OutUpdKernel.nD Cert.OutUpdKernel.τ).loc Cert.OutUpdKernel.main_arg2)
      ∧ r.2.mem ((c.tc : Thread Cert.OutUpdKernel.nD Cert.OutUpdKernel.τ).loc Cert.OutUpdKernel.main_arg3) = m ((c.tc : Thread Cert.OutUpdKernel.nD Cert.OutUpdKernel.τ).loc Cert.OutUpdKernel.main_arg3)
      ∧ r.2.mem ((c.tc : Thread Cert.OutUpdKernel.nD Cert.OutUpdKernel.τ).loc Cert.OutUpdKernel.main_arg4) = m ((c.tc : Thread Cert.OutUpdKernel.nD Cert.OutUpdKernel.τ).loc Cert.OutUpdKernel.main_arg4)
      ∧ r.2.mem ((c.tc : Thread Cert.OutUpdKernel.nD Cert.OutUpdKernel.τ).loc Cert.OutUpdKernel.main_arg5) = m ((c.tc : Thread Cert.OutUpdKernel.nD Cert.OutUpdKernel.τ).loc Cert.OutUpdKernel.main_arg5))
      ∧ r.2.sem = fun _ => 0)

def quiescent_OutUpdKernelIdeal [hOutUpdKernelIdeal : Cert.OutUpdKernelIdeal.Facts] [hPre_outupd_chip : Cert.Pre_outupd_chip.Facts] : Prop :=
  ∀ (m : (ℓ : Loc Cert.OutUpdKernelIdeal.nD Cert.OutUpdKernelIdeal.τ Cert.OutUpdKernelIdeal.sig) → Buf (Elt Ideal) ℓ) (g : Dev Cert.OutUpdKernelIdeal.nD → PrngReg), Pre_OutUpdKernelIdeal m →
    θ_run (Cert.OutUpdKernelIdeal.defs (F := Ideal)) (onTc (τ := Cert.OutUpdKernelIdeal.τ) (Cert.OutUpdKernelIdeal.main (F := Ideal))) ⟨m, fun _ => 0, g⟩ (fun r => (∀ c : Dev Cert.OutUpdKernelIdeal.nD,
      r.2.mem ((c.tc : Thread Cert.OutUpdKernelIdeal.nD Cert.OutUpdKernelIdeal.τ).loc Cert.OutUpdKernelIdeal.main_arg0) = m ((c.tc : Thread Cert.OutUpdKernelIdeal.nD Cert.OutUpdKernelIdeal.τ).loc Cert.OutUpdKernelIdeal.main_arg0)
      ∧ r.2.mem ((c.tc : Thread Cert.OutUpdKernelIdeal.nD Cert.OutUpdKernelIdeal.τ).loc Cert.OutUpdKernelIdeal.main_arg1) = m ((c.tc : Thread Cert.OutUpdKernelIdeal.nD Cert.OutUpdKernelIdeal.τ).loc Cert.OutUpdKernelIdeal.main_arg1)
      ∧ r.2.mem ((c.tc : Thread Cert.OutUpdKernelIdeal.nD Cert.OutUpdKernelIdeal.τ).loc Cert.OutUpdKernelIdeal.main_arg2) = m ((c.tc : Thread Cert.OutUpdKernelIdeal.nD Cert.OutUpdKernelIdeal.τ).loc Cert.OutUpdKernelIdeal.main_arg2)
      ∧ r.2.mem ((c.tc : Thread Cert.OutUpdKernelIdeal.nD Cert.OutUpdKernelIdeal.τ).loc Cert.OutUpdKernelIdeal.main_arg3) = m ((c.tc : Thread Cert.OutUpdKernelIdeal.nD Cert.OutUpdKernelIdeal.τ).loc Cert.OutUpdKernelIdeal.main_arg3)
      ∧ r.2.mem ((c.tc : Thread Cert.OutUpdKernelIdeal.nD Cert.OutUpdKernelIdeal.τ).loc Cert.OutUpdKernelIdeal.main_arg4) = m ((c.tc : Thread Cert.OutUpdKernelIdeal.nD Cert.OutUpdKernelIdeal.τ).loc Cert.OutUpdKernelIdeal.main_arg4)
      ∧ r.2.mem ((c.tc : Thread Cert.OutUpdKernelIdeal.nD Cert.OutUpdKernelIdeal.τ).loc Cert.OutUpdKernelIdeal.main_arg5) = m ((c.tc : Thread Cert.OutUpdKernelIdeal.nD Cert.OutUpdKernelIdeal.τ).loc Cert.OutUpdKernelIdeal.main_arg5))
      ∧ r.2.sem = fun _ => 0)

def quiescent_OutUpdReferenceIdeal [hOutUpdReferenceIdeal : Cert.OutUpdReferenceIdeal.Facts] : Prop :=
  ∀ (m : (ℓ : Loc Cert.OutUpdReferenceIdeal.nD Cert.OutUpdReferenceIdeal.τ Cert.OutUpdReferenceIdeal.sig) → Buf (Elt Ideal) ℓ) (g : Dev Cert.OutUpdReferenceIdeal.nD → PrngReg), Pre_OutUpdReferenceIdeal m →
    θ_run (Cert.OutUpdReferenceIdeal.defs (F := Ideal)) (onTc (τ := Cert.OutUpdReferenceIdeal.τ) (Cert.OutUpdReferenceIdeal.main (F := Ideal))) ⟨m, fun _ => 0, g⟩ (fun r => (∀ c : Dev Cert.OutUpdReferenceIdeal.nD,
      r.2.mem ((c.tc : Thread Cert.OutUpdReferenceIdeal.nD Cert.OutUpdReferenceIdeal.τ).loc Cert.OutUpdReferenceIdeal.main_arg0) = m ((c.tc : Thread Cert.OutUpdReferenceIdeal.nD Cert.OutUpdReferenceIdeal.τ).loc Cert.OutUpdReferenceIdeal.main_arg0)
      ∧ r.2.mem ((c.tc : Thread Cert.OutUpdReferenceIdeal.nD Cert.OutUpdReferenceIdeal.τ).loc Cert.OutUpdReferenceIdeal.main_arg1) = m ((c.tc : Thread Cert.OutUpdReferenceIdeal.nD Cert.OutUpdReferenceIdeal.τ).loc Cert.OutUpdReferenceIdeal.main_arg1)
      ∧ r.2.mem ((c.tc : Thread Cert.OutUpdReferenceIdeal.nD Cert.OutUpdReferenceIdeal.τ).loc Cert.OutUpdReferenceIdeal.main_arg2) = m ((c.tc : Thread Cert.OutUpdReferenceIdeal.nD Cert.OutUpdReferenceIdeal.τ).loc Cert.OutUpdReferenceIdeal.main_arg2)
      ∧ r.2.mem ((c.tc : Thread Cert.OutUpdReferenceIdeal.nD Cert.OutUpdReferenceIdeal.τ).loc Cert.OutUpdReferenceIdeal.main_arg3) = m ((c.tc : Thread Cert.OutUpdReferenceIdeal.nD Cert.OutUpdReferenceIdeal.τ).loc Cert.OutUpdReferenceIdeal.main_arg3)
      ∧ r.2.mem ((c.tc : Thread Cert.OutUpdReferenceIdeal.nD Cert.OutUpdReferenceIdeal.τ).loc Cert.OutUpdReferenceIdeal.main_arg4) = m ((c.tc : Thread Cert.OutUpdReferenceIdeal.nD Cert.OutUpdReferenceIdeal.τ).loc Cert.OutUpdReferenceIdeal.main_arg4)
      ∧ r.2.mem ((c.tc : Thread Cert.OutUpdReferenceIdeal.nD Cert.OutUpdReferenceIdeal.τ).loc Cert.OutUpdReferenceIdeal.main_arg5) = m ((c.tc : Thread Cert.OutUpdReferenceIdeal.nD Cert.OutUpdReferenceIdeal.τ).loc Cert.OutUpdReferenceIdeal.main_arg5))
      ∧ r.2.sem = fun _ => 0)

def quiescent_OutUpdReferenceIdeal_pre_outupd_chip [hOutUpdReferenceIdeal : Cert.OutUpdReferenceIdeal.Facts] [hPre_outupd_chip : Cert.Pre_outupd_chip.Facts] : Prop :=
  ∀ (m : (ℓ : Loc Cert.OutUpdReferenceIdeal.nD Cert.OutUpdReferenceIdeal.τ Cert.OutUpdReferenceIdeal.sig) → Buf (Elt Ideal) ℓ) (g : Dev Cert.OutUpdReferenceIdeal.nD → PrngReg), Pre_OutUpdReferenceIdeal_outupd_chip m →
    θ_run (Cert.OutUpdReferenceIdeal.defs (F := Ideal)) (onTc (τ := Cert.OutUpdReferenceIdeal.τ) (Cert.OutUpdReferenceIdeal.main (F := Ideal))) ⟨m, fun _ => 0, g⟩ (fun r => (∀ c : Dev Cert.OutUpdReferenceIdeal.nD,
      r.2.mem ((c.tc : Thread Cert.OutUpdReferenceIdeal.nD Cert.OutUpdReferenceIdeal.τ).loc Cert.OutUpdReferenceIdeal.main_arg0) = m ((c.tc : Thread Cert.OutUpdReferenceIdeal.nD Cert.OutUpdReferenceIdeal.τ).loc Cert.OutUpdReferenceIdeal.main_arg0)
      ∧ r.2.mem ((c.tc : Thread Cert.OutUpdReferenceIdeal.nD Cert.OutUpdReferenceIdeal.τ).loc Cert.OutUpdReferenceIdeal.main_arg1) = m ((c.tc : Thread Cert.OutUpdReferenceIdeal.nD Cert.OutUpdReferenceIdeal.τ).loc Cert.OutUpdReferenceIdeal.main_arg1)
      ∧ r.2.mem ((c.tc : Thread Cert.OutUpdReferenceIdeal.nD Cert.OutUpdReferenceIdeal.τ).loc Cert.OutUpdReferenceIdeal.main_arg2) = m ((c.tc : Thread Cert.OutUpdReferenceIdeal.nD Cert.OutUpdReferenceIdeal.τ).loc Cert.OutUpdReferenceIdeal.main_arg2)
      ∧ r.2.mem ((c.tc : Thread Cert.OutUpdReferenceIdeal.nD Cert.OutUpdReferenceIdeal.τ).loc Cert.OutUpdReferenceIdeal.main_arg3) = m ((c.tc : Thread Cert.OutUpdReferenceIdeal.nD Cert.OutUpdReferenceIdeal.τ).loc Cert.OutUpdReferenceIdeal.main_arg3)
      ∧ r.2.mem ((c.tc : Thread Cert.OutUpdReferenceIdeal.nD Cert.OutUpdReferenceIdeal.τ).loc Cert.OutUpdReferenceIdeal.main_arg4) = m ((c.tc : Thread Cert.OutUpdReferenceIdeal.nD Cert.OutUpdReferenceIdeal.τ).loc Cert.OutUpdReferenceIdeal.main_arg4)
      ∧ r.2.mem ((c.tc : Thread Cert.OutUpdReferenceIdeal.nD Cert.OutUpdReferenceIdeal.τ).loc Cert.OutUpdReferenceIdeal.main_arg5) = m ((c.tc : Thread Cert.OutUpdReferenceIdeal.nD Cert.OutUpdReferenceIdeal.τ).loc Cert.OutUpdReferenceIdeal.main_arg5))
      ∧ r.2.sem = fun _ => 0)

def quiescent_FfUpdKernel [hFfUpdKernel : Cert.FfUpdKernel.Facts] [hPre_ffupd_chip : Cert.Pre_ffupd_chip.Facts] : Prop :=
  ∀ (m : (ℓ : Loc Cert.FfUpdKernel.nD Cert.FfUpdKernel.τ Cert.FfUpdKernel.sig) → Buf (Elt Bits) ℓ) (g : Dev Cert.FfUpdKernel.nD → PrngReg), Pre_FfUpdKernel m →
    θ_run (Cert.FfUpdKernel.defs (F := Bits)) (onTc (τ := Cert.FfUpdKernel.τ) (Cert.FfUpdKernel.main (F := Bits))) ⟨m, fun _ => 0, g⟩ (fun r => (∀ c : Dev Cert.FfUpdKernel.nD,
      r.2.mem ((c.tc : Thread Cert.FfUpdKernel.nD Cert.FfUpdKernel.τ).loc Cert.FfUpdKernel.main_arg0) = m ((c.tc : Thread Cert.FfUpdKernel.nD Cert.FfUpdKernel.τ).loc Cert.FfUpdKernel.main_arg0)
      ∧ r.2.mem ((c.tc : Thread Cert.FfUpdKernel.nD Cert.FfUpdKernel.τ).loc Cert.FfUpdKernel.main_arg1) = m ((c.tc : Thread Cert.FfUpdKernel.nD Cert.FfUpdKernel.τ).loc Cert.FfUpdKernel.main_arg1)
      ∧ r.2.mem ((c.tc : Thread Cert.FfUpdKernel.nD Cert.FfUpdKernel.τ).loc Cert.FfUpdKernel.main_arg2) = m ((c.tc : Thread Cert.FfUpdKernel.nD Cert.FfUpdKernel.τ).loc Cert.FfUpdKernel.main_arg2)
      ∧ r.2.mem ((c.tc : Thread Cert.FfUpdKernel.nD Cert.FfUpdKernel.τ).loc Cert.FfUpdKernel.main_arg3) = m ((c.tc : Thread Cert.FfUpdKernel.nD Cert.FfUpdKernel.τ).loc Cert.FfUpdKernel.main_arg3)
      ∧ r.2.mem ((c.tc : Thread Cert.FfUpdKernel.nD Cert.FfUpdKernel.τ).loc Cert.FfUpdKernel.main_arg4) = m ((c.tc : Thread Cert.FfUpdKernel.nD Cert.FfUpdKernel.τ).loc Cert.FfUpdKernel.main_arg4)
      ∧ r.2.mem ((c.tc : Thread Cert.FfUpdKernel.nD Cert.FfUpdKernel.τ).loc Cert.FfUpdKernel.main_arg5) = m ((c.tc : Thread Cert.FfUpdKernel.nD Cert.FfUpdKernel.τ).loc Cert.FfUpdKernel.main_arg5))
      ∧ r.2.sem = fun _ => 0)

def quiescent_FfUpdKernelIdeal [hFfUpdKernelIdeal : Cert.FfUpdKernelIdeal.Facts] [hPre_ffupd_chip : Cert.Pre_ffupd_chip.Facts] : Prop :=
  ∀ (m : (ℓ : Loc Cert.FfUpdKernelIdeal.nD Cert.FfUpdKernelIdeal.τ Cert.FfUpdKernelIdeal.sig) → Buf (Elt Ideal) ℓ) (g : Dev Cert.FfUpdKernelIdeal.nD → PrngReg), Pre_FfUpdKernelIdeal m →
    θ_run (Cert.FfUpdKernelIdeal.defs (F := Ideal)) (onTc (τ := Cert.FfUpdKernelIdeal.τ) (Cert.FfUpdKernelIdeal.main (F := Ideal))) ⟨m, fun _ => 0, g⟩ (fun r => (∀ c : Dev Cert.FfUpdKernelIdeal.nD,
      r.2.mem ((c.tc : Thread Cert.FfUpdKernelIdeal.nD Cert.FfUpdKernelIdeal.τ).loc Cert.FfUpdKernelIdeal.main_arg0) = m ((c.tc : Thread Cert.FfUpdKernelIdeal.nD Cert.FfUpdKernelIdeal.τ).loc Cert.FfUpdKernelIdeal.main_arg0)
      ∧ r.2.mem ((c.tc : Thread Cert.FfUpdKernelIdeal.nD Cert.FfUpdKernelIdeal.τ).loc Cert.FfUpdKernelIdeal.main_arg1) = m ((c.tc : Thread Cert.FfUpdKernelIdeal.nD Cert.FfUpdKernelIdeal.τ).loc Cert.FfUpdKernelIdeal.main_arg1)
      ∧ r.2.mem ((c.tc : Thread Cert.FfUpdKernelIdeal.nD Cert.FfUpdKernelIdeal.τ).loc Cert.FfUpdKernelIdeal.main_arg2) = m ((c.tc : Thread Cert.FfUpdKernelIdeal.nD Cert.FfUpdKernelIdeal.τ).loc Cert.FfUpdKernelIdeal.main_arg2)
      ∧ r.2.mem ((c.tc : Thread Cert.FfUpdKernelIdeal.nD Cert.FfUpdKernelIdeal.τ).loc Cert.FfUpdKernelIdeal.main_arg3) = m ((c.tc : Thread Cert.FfUpdKernelIdeal.nD Cert.FfUpdKernelIdeal.τ).loc Cert.FfUpdKernelIdeal.main_arg3)
      ∧ r.2.mem ((c.tc : Thread Cert.FfUpdKernelIdeal.nD Cert.FfUpdKernelIdeal.τ).loc Cert.FfUpdKernelIdeal.main_arg4) = m ((c.tc : Thread Cert.FfUpdKernelIdeal.nD Cert.FfUpdKernelIdeal.τ).loc Cert.FfUpdKernelIdeal.main_arg4)
      ∧ r.2.mem ((c.tc : Thread Cert.FfUpdKernelIdeal.nD Cert.FfUpdKernelIdeal.τ).loc Cert.FfUpdKernelIdeal.main_arg5) = m ((c.tc : Thread Cert.FfUpdKernelIdeal.nD Cert.FfUpdKernelIdeal.τ).loc Cert.FfUpdKernelIdeal.main_arg5))
      ∧ r.2.sem = fun _ => 0)

def quiescent_FfUpdReferenceIdeal [hFfUpdReferenceIdeal : Cert.FfUpdReferenceIdeal.Facts] : Prop :=
  ∀ (m : (ℓ : Loc Cert.FfUpdReferenceIdeal.nD Cert.FfUpdReferenceIdeal.τ Cert.FfUpdReferenceIdeal.sig) → Buf (Elt Ideal) ℓ) (g : Dev Cert.FfUpdReferenceIdeal.nD → PrngReg), Pre_FfUpdReferenceIdeal m →
    θ_run (Cert.FfUpdReferenceIdeal.defs (F := Ideal)) (onTc (τ := Cert.FfUpdReferenceIdeal.τ) (Cert.FfUpdReferenceIdeal.main (F := Ideal))) ⟨m, fun _ => 0, g⟩ (fun r => (∀ c : Dev Cert.FfUpdReferenceIdeal.nD,
      r.2.mem ((c.tc : Thread Cert.FfUpdReferenceIdeal.nD Cert.FfUpdReferenceIdeal.τ).loc Cert.FfUpdReferenceIdeal.main_arg0) = m ((c.tc : Thread Cert.FfUpdReferenceIdeal.nD Cert.FfUpdReferenceIdeal.τ).loc Cert.FfUpdReferenceIdeal.main_arg0)
      ∧ r.2.mem ((c.tc : Thread Cert.FfUpdReferenceIdeal.nD Cert.FfUpdReferenceIdeal.τ).loc Cert.FfUpdReferenceIdeal.main_arg1) = m ((c.tc : Thread Cert.FfUpdReferenceIdeal.nD Cert.FfUpdReferenceIdeal.τ).loc Cert.FfUpdReferenceIdeal.main_arg1)
      ∧ r.2.mem ((c.tc : Thread Cert.FfUpdReferenceIdeal.nD Cert.FfUpdReferenceIdeal.τ).loc Cert.FfUpdReferenceIdeal.main_arg2) = m ((c.tc : Thread Cert.FfUpdReferenceIdeal.nD Cert.FfUpdReferenceIdeal.τ).loc Cert.FfUpdReferenceIdeal.main_arg2)
      ∧ r.2.mem ((c.tc : Thread Cert.FfUpdReferenceIdeal.nD Cert.FfUpdReferenceIdeal.τ).loc Cert.FfUpdReferenceIdeal.main_arg3) = m ((c.tc : Thread Cert.FfUpdReferenceIdeal.nD Cert.FfUpdReferenceIdeal.τ).loc Cert.FfUpdReferenceIdeal.main_arg3)
      ∧ r.2.mem ((c.tc : Thread Cert.FfUpdReferenceIdeal.nD Cert.FfUpdReferenceIdeal.τ).loc Cert.FfUpdReferenceIdeal.main_arg4) = m ((c.tc : Thread Cert.FfUpdReferenceIdeal.nD Cert.FfUpdReferenceIdeal.τ).loc Cert.FfUpdReferenceIdeal.main_arg4)
      ∧ r.2.mem ((c.tc : Thread Cert.FfUpdReferenceIdeal.nD Cert.FfUpdReferenceIdeal.τ).loc Cert.FfUpdReferenceIdeal.main_arg5) = m ((c.tc : Thread Cert.FfUpdReferenceIdeal.nD Cert.FfUpdReferenceIdeal.τ).loc Cert.FfUpdReferenceIdeal.main_arg5))
      ∧ r.2.sem = fun _ => 0)

def quiescent_FfUpdReferenceIdeal_pre_ffupd_chip [hFfUpdReferenceIdeal : Cert.FfUpdReferenceIdeal.Facts] [hPre_ffupd_chip : Cert.Pre_ffupd_chip.Facts] : Prop :=
  ∀ (m : (ℓ : Loc Cert.FfUpdReferenceIdeal.nD Cert.FfUpdReferenceIdeal.τ Cert.FfUpdReferenceIdeal.sig) → Buf (Elt Ideal) ℓ) (g : Dev Cert.FfUpdReferenceIdeal.nD → PrngReg), Pre_FfUpdReferenceIdeal_ffupd_chip m →
    θ_run (Cert.FfUpdReferenceIdeal.defs (F := Ideal)) (onTc (τ := Cert.FfUpdReferenceIdeal.τ) (Cert.FfUpdReferenceIdeal.main (F := Ideal))) ⟨m, fun _ => 0, g⟩ (fun r => (∀ c : Dev Cert.FfUpdReferenceIdeal.nD,
      r.2.mem ((c.tc : Thread Cert.FfUpdReferenceIdeal.nD Cert.FfUpdReferenceIdeal.τ).loc Cert.FfUpdReferenceIdeal.main_arg0) = m ((c.tc : Thread Cert.FfUpdReferenceIdeal.nD Cert.FfUpdReferenceIdeal.τ).loc Cert.FfUpdReferenceIdeal.main_arg0)
      ∧ r.2.mem ((c.tc : Thread Cert.FfUpdReferenceIdeal.nD Cert.FfUpdReferenceIdeal.τ).loc Cert.FfUpdReferenceIdeal.main_arg1) = m ((c.tc : Thread Cert.FfUpdReferenceIdeal.nD Cert.FfUpdReferenceIdeal.τ).loc Cert.FfUpdReferenceIdeal.main_arg1)
      ∧ r.2.mem ((c.tc : Thread Cert.FfUpdReferenceIdeal.nD Cert.FfUpdReferenceIdeal.τ).loc Cert.FfUpdReferenceIdeal.main_arg2) = m ((c.tc : Thread Cert.FfUpdReferenceIdeal.nD Cert.FfUpdReferenceIdeal.τ).loc Cert.FfUpdReferenceIdeal.main_arg2)
      ∧ r.2.mem ((c.tc : Thread Cert.FfUpdReferenceIdeal.nD Cert.FfUpdReferenceIdeal.τ).loc Cert.FfUpdReferenceIdeal.main_arg3) = m ((c.tc : Thread Cert.FfUpdReferenceIdeal.nD Cert.FfUpdReferenceIdeal.τ).loc Cert.FfUpdReferenceIdeal.main_arg3)
      ∧ r.2.mem ((c.tc : Thread Cert.FfUpdReferenceIdeal.nD Cert.FfUpdReferenceIdeal.τ).loc Cert.FfUpdReferenceIdeal.main_arg4) = m ((c.tc : Thread Cert.FfUpdReferenceIdeal.nD Cert.FfUpdReferenceIdeal.τ).loc Cert.FfUpdReferenceIdeal.main_arg4)
      ∧ r.2.mem ((c.tc : Thread Cert.FfUpdReferenceIdeal.nD Cert.FfUpdReferenceIdeal.τ).loc Cert.FfUpdReferenceIdeal.main_arg5) = m ((c.tc : Thread Cert.FfUpdReferenceIdeal.nD Cert.FfUpdReferenceIdeal.τ).loc Cert.FfUpdReferenceIdeal.main_arg5))
      ∧ r.2.sem = fun _ => 0)

def quiescent_InUpdKernel [hInUpdKernel : Cert.InUpdKernel.Facts] [hPre_inupd_chip : Cert.Pre_inupd_chip.Facts] : Prop :=
  ∀ (m : (ℓ : Loc Cert.InUpdKernel.nD Cert.InUpdKernel.τ Cert.InUpdKernel.sig) → Buf (Elt Bits) ℓ) (g : Dev Cert.InUpdKernel.nD → PrngReg), Pre_InUpdKernel m →
    θ_run (Cert.InUpdKernel.defs (F := Bits)) (onTc (τ := Cert.InUpdKernel.τ) (Cert.InUpdKernel.main (F := Bits))) ⟨m, fun _ => 0, g⟩ (fun r => (∀ c : Dev Cert.InUpdKernel.nD,
      r.2.mem ((c.tc : Thread Cert.InUpdKernel.nD Cert.InUpdKernel.τ).loc Cert.InUpdKernel.main_arg0) = m ((c.tc : Thread Cert.InUpdKernel.nD Cert.InUpdKernel.τ).loc Cert.InUpdKernel.main_arg0)
      ∧ r.2.mem ((c.tc : Thread Cert.InUpdKernel.nD Cert.InUpdKernel.τ).loc Cert.InUpdKernel.main_arg1) = m ((c.tc : Thread Cert.InUpdKernel.nD Cert.InUpdKernel.τ).loc Cert.InUpdKernel.main_arg1)
      ∧ r.2.mem ((c.tc : Thread Cert.InUpdKernel.nD Cert.InUpdKernel.τ).loc Cert.InUpdKernel.main_arg2) = m ((c.tc : Thread Cert.InUpdKernel.nD Cert.InUpdKernel.τ).loc Cert.InUpdKernel.main_arg2)
      ∧ r.2.mem ((c.tc : Thread Cert.InUpdKernel.nD Cert.InUpdKernel.τ).loc Cert.InUpdKernel.main_arg3) = m ((c.tc : Thread Cert.InUpdKernel.nD Cert.InUpdKernel.τ).loc Cert.InUpdKernel.main_arg3)
      ∧ r.2.mem ((c.tc : Thread Cert.InUpdKernel.nD Cert.InUpdKernel.τ).loc Cert.InUpdKernel.main_arg4) = m ((c.tc : Thread Cert.InUpdKernel.nD Cert.InUpdKernel.τ).loc Cert.InUpdKernel.main_arg4)
      ∧ r.2.mem ((c.tc : Thread Cert.InUpdKernel.nD Cert.InUpdKernel.τ).loc Cert.InUpdKernel.main_arg5) = m ((c.tc : Thread Cert.InUpdKernel.nD Cert.InUpdKernel.τ).loc Cert.InUpdKernel.main_arg5))
      ∧ r.2.sem = fun _ => 0)

def quiescent_InUpdKernelIdeal [hInUpdKernelIdeal : Cert.InUpdKernelIdeal.Facts] [hPre_inupd_chip : Cert.Pre_inupd_chip.Facts] : Prop :=
  ∀ (m : (ℓ : Loc Cert.InUpdKernelIdeal.nD Cert.InUpdKernelIdeal.τ Cert.InUpdKernelIdeal.sig) → Buf (Elt Ideal) ℓ) (g : Dev Cert.InUpdKernelIdeal.nD → PrngReg), Pre_InUpdKernelIdeal m →
    θ_run (Cert.InUpdKernelIdeal.defs (F := Ideal)) (onTc (τ := Cert.InUpdKernelIdeal.τ) (Cert.InUpdKernelIdeal.main (F := Ideal))) ⟨m, fun _ => 0, g⟩ (fun r => (∀ c : Dev Cert.InUpdKernelIdeal.nD,
      r.2.mem ((c.tc : Thread Cert.InUpdKernelIdeal.nD Cert.InUpdKernelIdeal.τ).loc Cert.InUpdKernelIdeal.main_arg0) = m ((c.tc : Thread Cert.InUpdKernelIdeal.nD Cert.InUpdKernelIdeal.τ).loc Cert.InUpdKernelIdeal.main_arg0)
      ∧ r.2.mem ((c.tc : Thread Cert.InUpdKernelIdeal.nD Cert.InUpdKernelIdeal.τ).loc Cert.InUpdKernelIdeal.main_arg1) = m ((c.tc : Thread Cert.InUpdKernelIdeal.nD Cert.InUpdKernelIdeal.τ).loc Cert.InUpdKernelIdeal.main_arg1)
      ∧ r.2.mem ((c.tc : Thread Cert.InUpdKernelIdeal.nD Cert.InUpdKernelIdeal.τ).loc Cert.InUpdKernelIdeal.main_arg2) = m ((c.tc : Thread Cert.InUpdKernelIdeal.nD Cert.InUpdKernelIdeal.τ).loc Cert.InUpdKernelIdeal.main_arg2)
      ∧ r.2.mem ((c.tc : Thread Cert.InUpdKernelIdeal.nD Cert.InUpdKernelIdeal.τ).loc Cert.InUpdKernelIdeal.main_arg3) = m ((c.tc : Thread Cert.InUpdKernelIdeal.nD Cert.InUpdKernelIdeal.τ).loc Cert.InUpdKernelIdeal.main_arg3)
      ∧ r.2.mem ((c.tc : Thread Cert.InUpdKernelIdeal.nD Cert.InUpdKernelIdeal.τ).loc Cert.InUpdKernelIdeal.main_arg4) = m ((c.tc : Thread Cert.InUpdKernelIdeal.nD Cert.InUpdKernelIdeal.τ).loc Cert.InUpdKernelIdeal.main_arg4)
      ∧ r.2.mem ((c.tc : Thread Cert.InUpdKernelIdeal.nD Cert.InUpdKernelIdeal.τ).loc Cert.InUpdKernelIdeal.main_arg5) = m ((c.tc : Thread Cert.InUpdKernelIdeal.nD Cert.InUpdKernelIdeal.τ).loc Cert.InUpdKernelIdeal.main_arg5))
      ∧ r.2.sem = fun _ => 0)

def quiescent_InUpdReferenceIdeal [hInUpdReferenceIdeal : Cert.InUpdReferenceIdeal.Facts] : Prop :=
  ∀ (m : (ℓ : Loc Cert.InUpdReferenceIdeal.nD Cert.InUpdReferenceIdeal.τ Cert.InUpdReferenceIdeal.sig) → Buf (Elt Ideal) ℓ) (g : Dev Cert.InUpdReferenceIdeal.nD → PrngReg), Pre_InUpdReferenceIdeal m →
    θ_run (Cert.InUpdReferenceIdeal.defs (F := Ideal)) (onTc (τ := Cert.InUpdReferenceIdeal.τ) (Cert.InUpdReferenceIdeal.main (F := Ideal))) ⟨m, fun _ => 0, g⟩ (fun r => (∀ c : Dev Cert.InUpdReferenceIdeal.nD,
      r.2.mem ((c.tc : Thread Cert.InUpdReferenceIdeal.nD Cert.InUpdReferenceIdeal.τ).loc Cert.InUpdReferenceIdeal.main_arg0) = m ((c.tc : Thread Cert.InUpdReferenceIdeal.nD Cert.InUpdReferenceIdeal.τ).loc Cert.InUpdReferenceIdeal.main_arg0)
      ∧ r.2.mem ((c.tc : Thread Cert.InUpdReferenceIdeal.nD Cert.InUpdReferenceIdeal.τ).loc Cert.InUpdReferenceIdeal.main_arg1) = m ((c.tc : Thread Cert.InUpdReferenceIdeal.nD Cert.InUpdReferenceIdeal.τ).loc Cert.InUpdReferenceIdeal.main_arg1)
      ∧ r.2.mem ((c.tc : Thread Cert.InUpdReferenceIdeal.nD Cert.InUpdReferenceIdeal.τ).loc Cert.InUpdReferenceIdeal.main_arg2) = m ((c.tc : Thread Cert.InUpdReferenceIdeal.nD Cert.InUpdReferenceIdeal.τ).loc Cert.InUpdReferenceIdeal.main_arg2)
      ∧ r.2.mem ((c.tc : Thread Cert.InUpdReferenceIdeal.nD Cert.InUpdReferenceIdeal.τ).loc Cert.InUpdReferenceIdeal.main_arg3) = m ((c.tc : Thread Cert.InUpdReferenceIdeal.nD Cert.InUpdReferenceIdeal.τ).loc Cert.InUpdReferenceIdeal.main_arg3)
      ∧ r.2.mem ((c.tc : Thread Cert.InUpdReferenceIdeal.nD Cert.InUpdReferenceIdeal.τ).loc Cert.InUpdReferenceIdeal.main_arg4) = m ((c.tc : Thread Cert.InUpdReferenceIdeal.nD Cert.InUpdReferenceIdeal.τ).loc Cert.InUpdReferenceIdeal.main_arg4)
      ∧ r.2.mem ((c.tc : Thread Cert.InUpdReferenceIdeal.nD Cert.InUpdReferenceIdeal.τ).loc Cert.InUpdReferenceIdeal.main_arg5) = m ((c.tc : Thread Cert.InUpdReferenceIdeal.nD Cert.InUpdReferenceIdeal.τ).loc Cert.InUpdReferenceIdeal.main_arg5))
      ∧ r.2.sem = fun _ => 0)

def quiescent_InUpdReferenceIdeal_pre_inupd_chip [hInUpdReferenceIdeal : Cert.InUpdReferenceIdeal.Facts] [hPre_inupd_chip : Cert.Pre_inupd_chip.Facts] : Prop :=
  ∀ (m : (ℓ : Loc Cert.InUpdReferenceIdeal.nD Cert.InUpdReferenceIdeal.τ Cert.InUpdReferenceIdeal.sig) → Buf (Elt Ideal) ℓ) (g : Dev Cert.InUpdReferenceIdeal.nD → PrngReg), Pre_InUpdReferenceIdeal_inupd_chip m →
    θ_run (Cert.InUpdReferenceIdeal.defs (F := Ideal)) (onTc (τ := Cert.InUpdReferenceIdeal.τ) (Cert.InUpdReferenceIdeal.main (F := Ideal))) ⟨m, fun _ => 0, g⟩ (fun r => (∀ c : Dev Cert.InUpdReferenceIdeal.nD,
      r.2.mem ((c.tc : Thread Cert.InUpdReferenceIdeal.nD Cert.InUpdReferenceIdeal.τ).loc Cert.InUpdReferenceIdeal.main_arg0) = m ((c.tc : Thread Cert.InUpdReferenceIdeal.nD Cert.InUpdReferenceIdeal.τ).loc Cert.InUpdReferenceIdeal.main_arg0)
      ∧ r.2.mem ((c.tc : Thread Cert.InUpdReferenceIdeal.nD Cert.InUpdReferenceIdeal.τ).loc Cert.InUpdReferenceIdeal.main_arg1) = m ((c.tc : Thread Cert.InUpdReferenceIdeal.nD Cert.InUpdReferenceIdeal.τ).loc Cert.InUpdReferenceIdeal.main_arg1)
      ∧ r.2.mem ((c.tc : Thread Cert.InUpdReferenceIdeal.nD Cert.InUpdReferenceIdeal.τ).loc Cert.InUpdReferenceIdeal.main_arg2) = m ((c.tc : Thread Cert.InUpdReferenceIdeal.nD Cert.InUpdReferenceIdeal.τ).loc Cert.InUpdReferenceIdeal.main_arg2)
      ∧ r.2.mem ((c.tc : Thread Cert.InUpdReferenceIdeal.nD Cert.InUpdReferenceIdeal.τ).loc Cert.InUpdReferenceIdeal.main_arg3) = m ((c.tc : Thread Cert.InUpdReferenceIdeal.nD Cert.InUpdReferenceIdeal.τ).loc Cert.InUpdReferenceIdeal.main_arg3)
      ∧ r.2.mem ((c.tc : Thread Cert.InUpdReferenceIdeal.nD Cert.InUpdReferenceIdeal.τ).loc Cert.InUpdReferenceIdeal.main_arg4) = m ((c.tc : Thread Cert.InUpdReferenceIdeal.nD Cert.InUpdReferenceIdeal.τ).loc Cert.InUpdReferenceIdeal.main_arg4)
      ∧ r.2.mem ((c.tc : Thread Cert.InUpdReferenceIdeal.nD Cert.InUpdReferenceIdeal.τ).loc Cert.InUpdReferenceIdeal.main_arg5) = m ((c.tc : Thread Cert.InUpdReferenceIdeal.nD Cert.InUpdReferenceIdeal.τ).loc Cert.InUpdReferenceIdeal.main_arg5))
      ∧ r.2.sem = fun _ => 0)

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)) →
    ∃ (v0 : (c : Dev Cert.PostKernelIdeal.nD) → Buf (Elt Ideal) ((c.tc : Thread Cert.PostKernelIdeal.nD Cert.PostKernelIdeal.τ).loc Cert.PostKernelIdeal.main_v5_0)) (v1 : (c : Dev Cert.PostKernelIdeal.nD) → Buf (Elt Ideal) ((c.tc : Thread Cert.PostKernelIdeal.nD Cert.PostKernelIdeal.τ).loc Cert.PostKernelIdeal.main_v5_1)) (v2 : (c : Dev Cert.PostKernelIdeal.nD) → Buf (Elt Ideal) ((c.tc : Thread Cert.PostKernelIdeal.nD Cert.PostKernelIdeal.τ).loc Cert.PostKernelIdeal.main_v5_2)) (v3 : (c : Dev Cert.PostKernelIdeal.nD) → Buf (Elt Ideal) ((c.tc : Thread Cert.PostKernelIdeal.nD Cert.PostKernelIdeal.τ).loc Cert.PostKernelIdeal.main_v5_3)) (v4 : (c : Dev Cert.PostKernelIdeal.nD) → Buf (Elt Ideal) ((c.tc : Thread Cert.PostKernelIdeal.nD Cert.PostKernelIdeal.τ).loc Cert.PostKernelIdeal.main_v5_4)) (v5 : (c : Dev Cert.PostKernelIdeal.nD) → Buf (Elt Ideal) ((c.tc : Thread Cert.PostKernelIdeal.nD Cert.PostKernelIdeal.τ).loc Cert.PostKernelIdeal.main_v5_5)) (v6 : (c : Dev Cert.PostKernelIdeal.nD) → Buf (Elt Ideal) ((c.tc : Thread Cert.PostKernelIdeal.nD Cert.PostKernelIdeal.τ).loc Cert.PostKernelIdeal.main_v5_6)) (v7 : (c : Dev Cert.PostKernelIdeal.nD) → Buf (Elt Ideal) ((c.tc : Thread Cert.PostKernelIdeal.nD Cert.PostKernelIdeal.τ).loc Cert.PostKernelIdeal.main_v5_7)) (v8 : (c : Dev Cert.PostKernelIdeal.nD) → Buf (Elt Ideal) ((c.tc : Thread Cert.PostKernelIdeal.nD Cert.PostKernelIdeal.τ).loc Cert.PostKernelIdeal.main_v5_8)) (v9 : (c : Dev Cert.PostKernelIdeal.nD) → Buf (Elt Ideal) ((c.tc : Thread Cert.PostKernelIdeal.nD Cert.PostKernelIdeal.τ).loc Cert.PostKernelIdeal.main_v5_9)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v5_0) = v0 c
          ∧ r.2.mem ((c.tc : Thread Cert.PostKernelIdeal.nD Cert.PostKernelIdeal.τ).loc Cert.PostKernelIdeal.main_v5_1) = v1 c
          ∧ r.2.mem ((c.tc : Thread Cert.PostKernelIdeal.nD Cert.PostKernelIdeal.τ).loc Cert.PostKernelIdeal.main_v5_2) = v2 c
          ∧ r.2.mem ((c.tc : Thread Cert.PostKernelIdeal.nD Cert.PostKernelIdeal.τ).loc Cert.PostKernelIdeal.main_v5_3) = v3 c
          ∧ r.2.mem ((c.tc : Thread Cert.PostKernelIdeal.nD Cert.PostKernelIdeal.τ).loc Cert.PostKernelIdeal.main_v5_4) = v4 c
          ∧ r.2.mem ((c.tc : Thread Cert.PostKernelIdeal.nD Cert.PostKernelIdeal.τ).loc Cert.PostKernelIdeal.main_v5_5) = v5 c
          ∧ r.2.mem ((c.tc : Thread Cert.PostKernelIdeal.nD Cert.PostKernelIdeal.τ).loc Cert.PostKernelIdeal.main_v5_6) = v6 c
          ∧ r.2.mem ((c.tc : Thread Cert.PostKernelIdeal.nD Cert.PostKernelIdeal.τ).loc Cert.PostKernelIdeal.main_v5_7) = v7 c
          ∧ r.2.mem ((c.tc : Thread Cert.PostKernelIdeal.nD Cert.PostKernelIdeal.τ).loc Cert.PostKernelIdeal.main_v5_8) = v8 c
          ∧ r.2.mem ((c.tc : Thread Cert.PostKernelIdeal.nD Cert.PostKernelIdeal.τ).loc Cert.PostKernelIdeal.main_v5_9) = v9 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v104) = v0 c
          ∧ r.2.mem ((c.tc : Thread Cert.PostReferenceIdeal.nD Cert.PostReferenceIdeal.τ).loc Cert.PostReferenceIdeal.main_v105) = v1 c
          ∧ r.2.mem ((c.tc : Thread Cert.PostReferenceIdeal.nD Cert.PostReferenceIdeal.τ).loc Cert.PostReferenceIdeal.main_v106) = v2 c
          ∧ r.2.mem ((c.tc : Thread Cert.PostReferenceIdeal.nD Cert.PostReferenceIdeal.τ).loc Cert.PostReferenceIdeal.main_v107) = v3 c
          ∧ r.2.mem ((c.tc : Thread Cert.PostReferenceIdeal.nD Cert.PostReferenceIdeal.τ).loc Cert.PostReferenceIdeal.main_v108) = v4 c
          ∧ r.2.mem ((c.tc : Thread Cert.PostReferenceIdeal.nD Cert.PostReferenceIdeal.τ).loc Cert.PostReferenceIdeal.main_v102) = v5 c
          ∧ r.2.mem ((c.tc : Thread Cert.PostReferenceIdeal.nD Cert.PostReferenceIdeal.τ).loc Cert.PostReferenceIdeal.main_v103) = v6 c
          ∧ r.2.mem ((c.tc : Thread Cert.PostReferenceIdeal.nD Cert.PostReferenceIdeal.τ).loc Cert.PostReferenceIdeal.main_v109) = v7 c
          ∧ r.2.mem ((c.tc : Thread Cert.PostReferenceIdeal.nD Cert.PostReferenceIdeal.τ).loc Cert.PostReferenceIdeal.main_v61) = v8 c
          ∧ r.2.mem ((c.tc : Thread Cert.PostReferenceIdeal.nD Cert.PostReferenceIdeal.τ).loc Cert.PostReferenceIdeal.main_v85) = v9 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)
      ∧ m' ((c.tc : Thread Cert.DxReferenceIdeal.nD Cert.DxReferenceIdeal.τ).loc Cert.DxReferenceIdeal.main_arg5) = m ((c.tc : Thread Cert.DxKernelIdeal.nD Cert.DxKernelIdeal.τ).loc Cert.DxKernelIdeal.main_arg5)
      ∧ m' ((c.tc : Thread Cert.DxReferenceIdeal.nD Cert.DxReferenceIdeal.τ).loc Cert.DxReferenceIdeal.main_arg6) = m ((c.tc : Thread Cert.DxKernelIdeal.nD Cert.DxKernelIdeal.τ).loc Cert.DxKernelIdeal.main_arg6)
      ∧ m' ((c.tc : Thread Cert.DxReferenceIdeal.nD Cert.DxReferenceIdeal.τ).loc Cert.DxReferenceIdeal.main_arg7) = m ((c.tc : Thread Cert.DxKernelIdeal.nD Cert.DxKernelIdeal.τ).loc Cert.DxKernelIdeal.main_arg7)) →
    ∃ (v0 : (c : Dev Cert.DxKernelIdeal.nD) → Buf (Elt Ideal) ((c.tc : Thread Cert.DxKernelIdeal.nD Cert.DxKernelIdeal.τ).loc Cert.DxKernelIdeal.main_v5_0)) (v1 : (c : Dev Cert.DxKernelIdeal.nD) → Buf (Elt Ideal) ((c.tc : Thread Cert.DxKernelIdeal.nD Cert.DxKernelIdeal.τ).loc Cert.DxKernelIdeal.main_v5_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v5_0) = v0 c
          ∧ r.2.mem ((c.tc : Thread Cert.DxKernelIdeal.nD Cert.DxKernelIdeal.τ).loc Cert.DxKernelIdeal.main_v5_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
          ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
          ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6)
          ∧ r.2.mem ((c.tc : Thread Cert.DxKernelIdeal.nD Cert.DxKernelIdeal.τ).loc Cert.DxKernelIdeal.main_arg7) = m ((c.tc : Thread Cert.DxKernelIdeal.nD Cert.DxKernelIdeal.τ).loc Cert.DxKernelIdeal.main_arg7))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v39) = v0 c
          ∧ r.2.mem ((c.tc : Thread Cert.DxReferenceIdeal.nD Cert.DxReferenceIdeal.τ).loc Cert.DxReferenceIdeal.main_v22) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6)
          ∧ r.2.mem ((c.tc : Thread Cert.DxReferenceIdeal.nD Cert.DxReferenceIdeal.τ).loc Cert.DxReferenceIdeal.main_arg7) = m' ((c.tc : Thread Cert.DxReferenceIdeal.nD Cert.DxReferenceIdeal.τ).loc Cert.DxReferenceIdeal.main_arg7))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)) →
    ∃ (v0 : (c : Dev Cert.WoutKernelIdeal.nD) → Buf (Elt Ideal) ((c.tc : Thread Cert.WoutKernelIdeal.nD Cert.WoutKernelIdeal.τ).loc Cert.WoutKernelIdeal.main_v0)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v0) = v0 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v5) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_Wff1Kernel_Wff1KernelIdeal : Prop :=
  True

def algebraic_Wff1KernelIdeal_Wff1ReferenceIdeal [hWff1KernelIdeal : Cert.Wff1KernelIdeal.Facts] [hWff1ReferenceIdeal : Cert.Wff1ReferenceIdeal.Facts] : Prop :=
  ∀ (m : (ℓ : Loc Cert.Wff1KernelIdeal.nD Cert.Wff1KernelIdeal.τ Cert.Wff1KernelIdeal.sig) → Buf (Elt Ideal) ℓ) (g : Dev Cert.Wff1KernelIdeal.nD → PrngReg)
    (m' : (ℓ : Loc Cert.Wff1ReferenceIdeal.nD Cert.Wff1ReferenceIdeal.τ Cert.Wff1ReferenceIdeal.sig) → Buf (Elt Ideal) ℓ) (g' : Dev Cert.Wff1ReferenceIdeal.nD → PrngReg), Pre_Wff1KernelIdeal m →
    (∀ c : Dev Cert.Wff1KernelIdeal.nD,
      m' ((c.tc : Thread Cert.Wff1ReferenceIdeal.nD Cert.Wff1ReferenceIdeal.τ).loc Cert.Wff1ReferenceIdeal.main_arg0) = m ((c.tc : Thread Cert.Wff1KernelIdeal.nD Cert.Wff1KernelIdeal.τ).loc Cert.Wff1KernelIdeal.main_arg0)
      ∧ m' ((c.tc : Thread Cert.Wff1ReferenceIdeal.nD Cert.Wff1ReferenceIdeal.τ).loc Cert.Wff1ReferenceIdeal.main_arg1) = m ((c.tc : Thread Cert.Wff1KernelIdeal.nD Cert.Wff1KernelIdeal.τ).loc Cert.Wff1KernelIdeal.main_arg1)) →
    ∃ (v0 : (c : Dev Cert.Wff1KernelIdeal.nD) → Buf (Elt Ideal) ((c.tc : Thread Cert.Wff1KernelIdeal.nD Cert.Wff1KernelIdeal.τ).loc Cert.Wff1KernelIdeal.main_v0)),
      θ_run (Cert.Wff1KernelIdeal.defs (F := Ideal)) (onTc (τ := Cert.Wff1KernelIdeal.τ) (Cert.Wff1KernelIdeal.main (F := Ideal))) ⟨m, fun _ => 0, g⟩ (fun r => ∀ c : Dev Cert.Wff1KernelIdeal.nD,
          r.2.mem ((c.tc : Thread Cert.Wff1KernelIdeal.nD Cert.Wff1KernelIdeal.τ).loc Cert.Wff1KernelIdeal.main_v0) = v0 c
          ∧ r.2.mem ((c.tc : Thread Cert.Wff1KernelIdeal.nD Cert.Wff1KernelIdeal.τ).loc Cert.Wff1KernelIdeal.main_arg0) = m ((c.tc : Thread Cert.Wff1KernelIdeal.nD Cert.Wff1KernelIdeal.τ).loc Cert.Wff1KernelIdeal.main_arg0)
          ∧ r.2.mem ((c.tc : Thread Cert.Wff1KernelIdeal.nD Cert.Wff1KernelIdeal.τ).loc Cert.Wff1KernelIdeal.main_arg1) = m ((c.tc : Thread Cert.Wff1KernelIdeal.nD Cert.Wff1KernelIdeal.τ).loc Cert.Wff1KernelIdeal.main_arg1))
      ∧ θ_run (Cert.Wff1ReferenceIdeal.defs (F := Ideal)) (onTc (τ := Cert.Wff1ReferenceIdeal.τ) (Cert.Wff1ReferenceIdeal.main (F := Ideal))) ⟨m', fun _ => 0, g'⟩ (fun r => ∀ c : Dev Cert.Wff1ReferenceIdeal.nD,
          r.2.mem ((c.tc : Thread Cert.Wff1ReferenceIdeal.nD Cert.Wff1ReferenceIdeal.τ).loc Cert.Wff1ReferenceIdeal.main_v8) = v0 c
          ∧ r.2.mem ((c.tc : Thread Cert.Wff1ReferenceIdeal.nD Cert.Wff1ReferenceIdeal.τ).loc Cert.Wff1ReferenceIdeal.main_arg0) = m' ((c.tc : Thread Cert.Wff1ReferenceIdeal.nD Cert.Wff1ReferenceIdeal.τ).loc Cert.Wff1ReferenceIdeal.main_arg0)
          ∧ r.2.mem ((c.tc : Thread Cert.Wff1ReferenceIdeal.nD Cert.Wff1ReferenceIdeal.τ).loc Cert.Wff1ReferenceIdeal.main_arg1) = m' ((c.tc : Thread Cert.Wff1ReferenceIdeal.nD Cert.Wff1ReferenceIdeal.τ).loc Cert.Wff1ReferenceIdeal.main_arg1))

def preserves_Wff2Kernel_Wff2KernelIdeal : Prop :=
  True

def algebraic_Wff2KernelIdeal_Wff2ReferenceIdeal [hWff2KernelIdeal : Cert.Wff2KernelIdeal.Facts] [hWff2ReferenceIdeal : Cert.Wff2ReferenceIdeal.Facts] : Prop :=
  ∀ (m : (ℓ : Loc Cert.Wff2KernelIdeal.nD Cert.Wff2KernelIdeal.τ Cert.Wff2KernelIdeal.sig) → Buf (Elt Ideal) ℓ) (g : Dev Cert.Wff2KernelIdeal.nD → PrngReg)
    (m' : (ℓ : Loc Cert.Wff2ReferenceIdeal.nD Cert.Wff2ReferenceIdeal.τ Cert.Wff2ReferenceIdeal.sig) → Buf (Elt Ideal) ℓ) (g' : Dev Cert.Wff2ReferenceIdeal.nD → PrngReg), Pre_Wff2KernelIdeal m →
    (∀ c : Dev Cert.Wff2KernelIdeal.nD,
      m' ((c.tc : Thread Cert.Wff2ReferenceIdeal.nD Cert.Wff2ReferenceIdeal.τ).loc Cert.Wff2ReferenceIdeal.main_arg0) = m ((c.tc : Thread Cert.Wff2KernelIdeal.nD Cert.Wff2KernelIdeal.τ).loc Cert.Wff2KernelIdeal.main_arg0)
      ∧ m' ((c.tc : Thread Cert.Wff2ReferenceIdeal.nD Cert.Wff2ReferenceIdeal.τ).loc Cert.Wff2ReferenceIdeal.main_arg1) = m ((c.tc : Thread Cert.Wff2KernelIdeal.nD Cert.Wff2KernelIdeal.τ).loc Cert.Wff2KernelIdeal.main_arg1)) →
    ∃ (v0 : (c : Dev Cert.Wff2KernelIdeal.nD) → Buf (Elt Ideal) ((c.tc : Thread Cert.Wff2KernelIdeal.nD Cert.Wff2KernelIdeal.τ).loc Cert.Wff2KernelIdeal.main_v0)),
      θ_run (Cert.Wff2KernelIdeal.defs (F := Ideal)) (onTc (τ := Cert.Wff2KernelIdeal.τ) (Cert.Wff2KernelIdeal.main (F := Ideal))) ⟨m, fun _ => 0, g⟩ (fun r => ∀ c : Dev Cert.Wff2KernelIdeal.nD,
          r.2.mem ((c.tc : Thread Cert.Wff2KernelIdeal.nD Cert.Wff2KernelIdeal.τ).loc Cert.Wff2KernelIdeal.main_v0) = v0 c
          ∧ r.2.mem ((c.tc : Thread Cert.Wff2KernelIdeal.nD Cert.Wff2KernelIdeal.τ).loc Cert.Wff2KernelIdeal.main_arg0) = m ((c.tc : Thread Cert.Wff2KernelIdeal.nD Cert.Wff2KernelIdeal.τ).loc Cert.Wff2KernelIdeal.main_arg0)
          ∧ r.2.mem ((c.tc : Thread Cert.Wff2KernelIdeal.nD Cert.Wff2KernelIdeal.τ).loc Cert.Wff2KernelIdeal.main_arg1) = m ((c.tc : Thread Cert.Wff2KernelIdeal.nD Cert.Wff2KernelIdeal.τ).loc Cert.Wff2KernelIdeal.main_arg1))
      ∧ θ_run (Cert.Wff2ReferenceIdeal.defs (F := Ideal)) (onTc (τ := Cert.Wff2ReferenceIdeal.τ) (Cert.Wff2ReferenceIdeal.main (F := Ideal))) ⟨m', fun _ => 0, g'⟩ (fun r => ∀ c : Dev Cert.Wff2ReferenceIdeal.nD,
          r.2.mem ((c.tc : Thread Cert.Wff2ReferenceIdeal.nD Cert.Wff2ReferenceIdeal.τ).loc Cert.Wff2ReferenceIdeal.main_v6) = v0 c
          ∧ r.2.mem ((c.tc : Thread Cert.Wff2ReferenceIdeal.nD Cert.Wff2ReferenceIdeal.τ).loc Cert.Wff2ReferenceIdeal.main_arg0) = m' ((c.tc : Thread Cert.Wff2ReferenceIdeal.nD Cert.Wff2ReferenceIdeal.τ).loc Cert.Wff2ReferenceIdeal.main_arg0)
          ∧ r.2.mem ((c.tc : Thread Cert.Wff2ReferenceIdeal.nD Cert.Wff2ReferenceIdeal.τ).loc Cert.Wff2ReferenceIdeal.main_arg1) = m' ((c.tc : Thread Cert.Wff2ReferenceIdeal.nD Cert.Wff2ReferenceIdeal.τ).loc Cert.Wff2ReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v5_0)) (v1 : (c : Dev Cert.InKernelIdeal.nD) → Buf (Elt Ideal) ((c.tc : Thread Cert.InKernelIdeal.nD Cert.InKernelIdeal.τ).loc Cert.InKernelIdeal.main_v5_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5_0) = v0 c
          ∧ r.2.mem ((c.tc : Thread Cert.InKernelIdeal.nD Cert.InKernelIdeal.τ).loc Cert.InKernelIdeal.main_v5_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v16) = v0 c
          ∧ r.2.mem ((c.tc : Thread Cert.InReferenceIdeal.nD Cert.InReferenceIdeal.τ).loc Cert.InReferenceIdeal.main_v17) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)
      ∧ m' ((c.tc : Thread Cert.WinReferenceIdeal.nD Cert.WinReferenceIdeal.τ).loc Cert.WinReferenceIdeal.main_arg3) = m ((c.tc : Thread Cert.WinKernelIdeal.nD Cert.WinKernelIdeal.τ).loc Cert.WinKernelIdeal.main_arg3)
      ∧ m' ((c.tc : Thread Cert.WinReferenceIdeal.nD Cert.WinReferenceIdeal.τ).loc Cert.WinReferenceIdeal.main_arg4) = m ((c.tc : Thread Cert.WinKernelIdeal.nD Cert.WinKernelIdeal.τ).loc Cert.WinKernelIdeal.main_arg4)) →
    ∃ (v0 : (c : Dev Cert.WinKernelIdeal.nD) → Buf (Elt Ideal) ((c.tc : Thread Cert.WinKernelIdeal.nD Cert.WinKernelIdeal.τ).loc Cert.WinKernelIdeal.main_v3)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v3) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v8) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4))

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)
      ∧ m' ((c.tc : Thread Cert.GainReferenceIdeal.nD Cert.GainReferenceIdeal.τ).loc Cert.GainReferenceIdeal.main_arg2) = m ((c.tc : Thread Cert.GainKernelIdeal.nD Cert.GainKernelIdeal.τ).loc Cert.GainKernelIdeal.main_arg2)
      ∧ m' ((c.tc : Thread Cert.GainReferenceIdeal.nD Cert.GainReferenceIdeal.τ).loc Cert.GainReferenceIdeal.main_arg3) = m ((c.tc : Thread Cert.GainKernelIdeal.nD Cert.GainKernelIdeal.τ).loc Cert.GainKernelIdeal.main_arg3)) →
    ∃ (v0 : (c : Dev Cert.GainKernelIdeal.nD) → Buf (Elt Ideal) ((c.tc : Thread Cert.GainKernelIdeal.nD Cert.GainKernelIdeal.τ).loc Cert.GainKernelIdeal.main_v0_0)) (v1 : (c : Dev Cert.GainKernelIdeal.nD) → Buf (Elt Ideal) ((c.tc : Thread Cert.GainKernelIdeal.nD Cert.GainKernelIdeal.τ).loc Cert.GainKernelIdeal.main_v0_1)) (v2 : (c : Dev Cert.GainKernelIdeal.nD) → Buf (Elt Ideal) ((c.tc : Thread Cert.GainKernelIdeal.nD Cert.GainKernelIdeal.τ).loc Cert.GainKernelIdeal.main_v0_2)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v0_0) = v0 c
          ∧ r.2.mem ((c.tc : Thread Cert.GainKernelIdeal.nD Cert.GainKernelIdeal.τ).loc Cert.GainKernelIdeal.main_v0_1) = v1 c
          ∧ r.2.mem ((c.tc : Thread Cert.GainKernelIdeal.nD Cert.GainKernelIdeal.τ).loc Cert.GainKernelIdeal.main_v0_2) = v2 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
          ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2)
          ∧ r.2.mem ((c.tc : Thread Cert.GainKernelIdeal.nD Cert.GainKernelIdeal.τ).loc Cert.GainKernelIdeal.main_arg3) = m ((c.tc : Thread Cert.GainKernelIdeal.nD Cert.GainKernelIdeal.τ).loc Cert.GainKernelIdeal.main_arg3))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v23) = v0 c
          ∧ r.2.mem ((c.tc : Thread Cert.GainReferenceIdeal.nD Cert.GainReferenceIdeal.τ).loc Cert.GainReferenceIdeal.main_v4) = v1 c
          ∧ r.2.mem ((c.tc : Thread Cert.GainReferenceIdeal.nD Cert.GainReferenceIdeal.τ).loc Cert.GainReferenceIdeal.main_v10) = v2 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1)
          ∧ r.2.mem ((c.tc : Thread Cert.GainReferenceIdeal.nD Cert.GainReferenceIdeal.τ).loc Cert.GainReferenceIdeal.main_arg2) = m' ((c.tc : Thread Cert.GainReferenceIdeal.nD Cert.GainReferenceIdeal.τ).loc Cert.GainReferenceIdeal.main_arg2)
          ∧ r.2.mem ((c.tc : Thread Cert.GainReferenceIdeal.nD Cert.GainReferenceIdeal.τ).loc Cert.GainReferenceIdeal.main_arg3) = m' ((c.tc : Thread Cert.GainReferenceIdeal.nD Cert.GainReferenceIdeal.τ).loc Cert.GainReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)) (v2 : (c : Dev Cert.GateKernelIdeal.nD) → Buf (Elt Ideal) ((c.tc : Thread Cert.GateKernelIdeal.nD Cert.GateKernelIdeal.τ).loc Cert.GateKernelIdeal.main_v0_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_v0_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v23) = v0 c
          ∧ r.2.mem ((c.tc : Thread Cert.GateReferenceIdeal.nD Cert.GateReferenceIdeal.τ).loc Cert.GateReferenceIdeal.main_v4) = v1 c
          ∧ r.2.mem ((c.tc : Thread Cert.GateReferenceIdeal.nD Cert.GateReferenceIdeal.τ).loc Cert.GateReferenceIdeal.main_v10) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_GateBKernel_GateBKernelIdeal : Prop :=
  True

def algebraic_GateBKernelIdeal_GateBReferenceIdeal [hGateBKernelIdeal : Cert.GateBKernelIdeal.Facts] [hGateBReferenceIdeal : Cert.GateBReferenceIdeal.Facts] : Prop :=
  ∀ (m : (ℓ : Loc Cert.GateBKernelIdeal.nD Cert.GateBKernelIdeal.τ Cert.GateBKernelIdeal.sig) → Buf (Elt Ideal) ℓ) (g : Dev Cert.GateBKernelIdeal.nD → PrngReg)
    (m' : (ℓ : Loc Cert.GateBReferenceIdeal.nD Cert.GateBReferenceIdeal.τ Cert.GateBReferenceIdeal.sig) → Buf (Elt Ideal) ℓ) (g' : Dev Cert.GateBReferenceIdeal.nD → PrngReg), Pre_GateBKernelIdeal m →
    (∀ c : Dev Cert.GateBKernelIdeal.nD,
      m' ((c.tc : Thread Cert.GateBReferenceIdeal.nD Cert.GateBReferenceIdeal.τ).loc Cert.GateBReferenceIdeal.main_arg0) = m ((c.tc : Thread Cert.GateBKernelIdeal.nD Cert.GateBKernelIdeal.τ).loc Cert.GateBKernelIdeal.main_arg0)
      ∧ m' ((c.tc : Thread Cert.GateBReferenceIdeal.nD Cert.GateBReferenceIdeal.τ).loc Cert.GateBReferenceIdeal.main_arg1) = m ((c.tc : Thread Cert.GateBKernelIdeal.nD Cert.GateBKernelIdeal.τ).loc Cert.GateBKernelIdeal.main_arg1)
      ∧ m' ((c.tc : Thread Cert.GateBReferenceIdeal.nD Cert.GateBReferenceIdeal.τ).loc Cert.GateBReferenceIdeal.main_arg2) = m ((c.tc : Thread Cert.GateBKernelIdeal.nD Cert.GateBKernelIdeal.τ).loc Cert.GateBKernelIdeal.main_arg2)
      ∧ m' ((c.tc : Thread Cert.GateBReferenceIdeal.nD Cert.GateBReferenceIdeal.τ).loc Cert.GateBReferenceIdeal.main_arg3) = m ((c.tc : Thread Cert.GateBKernelIdeal.nD Cert.GateBKernelIdeal.τ).loc Cert.GateBKernelIdeal.main_arg3)) →
    ∃ (v0 : (c : Dev Cert.GateBKernelIdeal.nD) → Buf (Elt Ideal) ((c.tc : Thread Cert.GateBKernelIdeal.nD Cert.GateBKernelIdeal.τ).loc Cert.GateBKernelIdeal.main_v0_0)) (v1 : (c : Dev Cert.GateBKernelIdeal.nD) → Buf (Elt Ideal) ((c.tc : Thread Cert.GateBKernelIdeal.nD Cert.GateBKernelIdeal.τ).loc Cert.GateBKernelIdeal.main_v0_1)) (v2 : (c : Dev Cert.GateBKernelIdeal.nD) → Buf (Elt Ideal) ((c.tc : Thread Cert.GateBKernelIdeal.nD Cert.GateBKernelIdeal.τ).loc Cert.GateBKernelIdeal.main_v0_2)),
      θ_run (Cert.GateBKernelIdeal.defs (F := Ideal)) (onTc (τ := Cert.GateBKernelIdeal.τ) (Cert.GateBKernelIdeal.main (F := Ideal))) ⟨m, fun _ => 0, g⟩ (fun r => ∀ c : Dev Cert.GateBKernelIdeal.nD,
          r.2.mem ((c.tc : Thread Cert.GateBKernelIdeal.nD Cert.GateBKernelIdeal.τ).loc Cert.GateBKernelIdeal.main_v0_0) = v0 c
          ∧ r.2.mem ((c.tc : Thread Cert.GateBKernelIdeal.nD Cert.GateBKernelIdeal.τ).loc Cert.GateBKernelIdeal.main_v0_1) = v1 c
          ∧ r.2.mem ((c.tc : Thread Cert.GateBKernelIdeal.nD Cert.GateBKernelIdeal.τ).loc Cert.GateBKernelIdeal.main_v0_2) = v2 c
          ∧ r.2.mem ((c.tc : Thread Cert.GateBKernelIdeal.nD Cert.GateBKernelIdeal.τ).loc Cert.GateBKernelIdeal.main_arg0) = m ((c.tc : Thread Cert.GateBKernelIdeal.nD Cert.GateBKernelIdeal.τ).loc Cert.GateBKernelIdeal.main_arg0)
          ∧ r.2.mem ((c.tc : Thread Cert.GateBKernelIdeal.nD Cert.GateBKernelIdeal.τ).loc Cert.GateBKernelIdeal.main_arg1) = m ((c.tc : Thread Cert.GateBKernelIdeal.nD Cert.GateBKernelIdeal.τ).loc Cert.GateBKernelIdeal.main_arg1)
          ∧ r.2.mem ((c.tc : Thread Cert.GateBKernelIdeal.nD Cert.GateBKernelIdeal.τ).loc Cert.GateBKernelIdeal.main_arg2) = m ((c.tc : Thread Cert.GateBKernelIdeal.nD Cert.GateBKernelIdeal.τ).loc Cert.GateBKernelIdeal.main_arg2)
          ∧ r.2.mem ((c.tc : Thread Cert.GateBKernelIdeal.nD Cert.GateBKernelIdeal.τ).loc Cert.GateBKernelIdeal.main_arg3) = m ((c.tc : Thread Cert.GateBKernelIdeal.nD Cert.GateBKernelIdeal.τ).loc Cert.GateBKernelIdeal.main_arg3))
      ∧ θ_run (Cert.GateBReferenceIdeal.defs (F := Ideal)) (onTc (τ := Cert.GateBReferenceIdeal.τ) (Cert.GateBReferenceIdeal.main (F := Ideal))) ⟨m', fun _ => 0, g'⟩ (fun r => ∀ c : Dev Cert.GateBReferenceIdeal.nD,
          r.2.mem ((c.tc : Thread Cert.GateBReferenceIdeal.nD Cert.GateBReferenceIdeal.τ).loc Cert.GateBReferenceIdeal.main_v23) = v0 c
          ∧ r.2.mem ((c.tc : Thread Cert.GateBReferenceIdeal.nD Cert.GateBReferenceIdeal.τ).loc Cert.GateBReferenceIdeal.main_v4) = v1 c
          ∧ r.2.mem ((c.tc : Thread Cert.GateBReferenceIdeal.nD Cert.GateBReferenceIdeal.τ).loc Cert.GateBReferenceIdeal.main_v10) = v2 c
          ∧ r.2.mem ((c.tc : Thread Cert.GateBReferenceIdeal.nD Cert.GateBReferenceIdeal.τ).loc Cert.GateBReferenceIdeal.main_arg0) = m' ((c.tc : Thread Cert.GateBReferenceIdeal.nD Cert.GateBReferenceIdeal.τ).loc Cert.GateBReferenceIdeal.main_arg0)
          ∧ r.2.mem ((c.tc : Thread Cert.GateBReferenceIdeal.nD Cert.GateBReferenceIdeal.τ).loc Cert.GateBReferenceIdeal.main_arg1) = m' ((c.tc : Thread Cert.GateBReferenceIdeal.nD Cert.GateBReferenceIdeal.τ).loc Cert.GateBReferenceIdeal.main_arg1)
          ∧ r.2.mem ((c.tc : Thread Cert.GateBReferenceIdeal.nD Cert.GateBReferenceIdeal.τ).loc Cert.GateBReferenceIdeal.main_arg2) = m' ((c.tc : Thread Cert.GateBReferenceIdeal.nD Cert.GateBReferenceIdeal.τ).loc Cert.GateBReferenceIdeal.main_arg2)
          ∧ r.2.mem ((c.tc : Thread Cert.GateBReferenceIdeal.nD Cert.GateBReferenceIdeal.τ).loc Cert.GateBReferenceIdeal.main_arg3) = m' ((c.tc : Thread Cert.GateBReferenceIdeal.nD Cert.GateBReferenceIdeal.τ).loc Cert.GateBReferenceIdeal.main_arg3))

def preserves_GlaNormKernel_GlaNormKernelIdeal : Prop :=
  True

def algebraic_GlaNormKernelIdeal_GlaNormReferenceIdeal [hGlaNormKernelIdeal : Cert.GlaNormKernelIdeal.Facts] [hGlaNormReferenceIdeal : Cert.GlaNormReferenceIdeal.Facts] : Prop :=
  ∀ (m : (ℓ : Loc Cert.GlaNormKernelIdeal.nD Cert.GlaNormKernelIdeal.τ Cert.GlaNormKernelIdeal.sig) → Buf (Elt Ideal) ℓ) (g : Dev Cert.GlaNormKernelIdeal.nD → PrngReg)
    (m' : (ℓ : Loc Cert.GlaNormReferenceIdeal.nD Cert.GlaNormReferenceIdeal.τ Cert.GlaNormReferenceIdeal.sig) → Buf (Elt Ideal) ℓ) (g' : Dev Cert.GlaNormReferenceIdeal.nD → PrngReg), Pre_GlaNormKernelIdeal m →
    (∀ c : Dev Cert.GlaNormKernelIdeal.nD,
      m' ((c.tc : Thread Cert.GlaNormReferenceIdeal.nD Cert.GlaNormReferenceIdeal.τ).loc Cert.GlaNormReferenceIdeal.main_arg0) = m ((c.tc : Thread Cert.GlaNormKernelIdeal.nD Cert.GlaNormKernelIdeal.τ).loc Cert.GlaNormKernelIdeal.main_arg0)
      ∧ m' ((c.tc : Thread Cert.GlaNormReferenceIdeal.nD Cert.GlaNormReferenceIdeal.τ).loc Cert.GlaNormReferenceIdeal.main_arg1) = m ((c.tc : Thread Cert.GlaNormKernelIdeal.nD Cert.GlaNormKernelIdeal.τ).loc Cert.GlaNormKernelIdeal.main_arg1)
      ∧ m' ((c.tc : Thread Cert.GlaNormReferenceIdeal.nD Cert.GlaNormReferenceIdeal.τ).loc Cert.GlaNormReferenceIdeal.main_arg2) = m ((c.tc : Thread Cert.GlaNormKernelIdeal.nD Cert.GlaNormKernelIdeal.τ).loc Cert.GlaNormKernelIdeal.main_arg2)
      ∧ m' ((c.tc : Thread Cert.GlaNormReferenceIdeal.nD Cert.GlaNormReferenceIdeal.τ).loc Cert.GlaNormReferenceIdeal.main_arg3) = m ((c.tc : Thread Cert.GlaNormKernelIdeal.nD Cert.GlaNormKernelIdeal.τ).loc Cert.GlaNormKernelIdeal.main_arg3)) →
    ∃ (v0 : (c : Dev Cert.GlaNormKernelIdeal.nD) → Buf (Elt Ideal) ((c.tc : Thread Cert.GlaNormKernelIdeal.nD Cert.GlaNormKernelIdeal.τ).loc Cert.GlaNormKernelIdeal.main_v0_0)) (v1 : (c : Dev Cert.GlaNormKernelIdeal.nD) → Buf (Elt Ideal) ((c.tc : Thread Cert.GlaNormKernelIdeal.nD Cert.GlaNormKernelIdeal.τ).loc Cert.GlaNormKernelIdeal.main_v0_1)) (v2 : (c : Dev Cert.GlaNormKernelIdeal.nD) → Buf (Elt Ideal) ((c.tc : Thread Cert.GlaNormKernelIdeal.nD Cert.GlaNormKernelIdeal.τ).loc Cert.GlaNormKernelIdeal.main_v0_2)),
      θ_run (Cert.GlaNormKernelIdeal.defs (F := Ideal)) (onTc (τ := Cert.GlaNormKernelIdeal.τ) (Cert.GlaNormKernelIdeal.main (F := Ideal))) ⟨m, fun _ => 0, g⟩ (fun r => ∀ c : Dev Cert.GlaNormKernelIdeal.nD,
          r.2.mem ((c.tc : Thread Cert.GlaNormKernelIdeal.nD Cert.GlaNormKernelIdeal.τ).loc Cert.GlaNormKernelIdeal.main_v0_0) = v0 c
          ∧ r.2.mem ((c.tc : Thread Cert.GlaNormKernelIdeal.nD Cert.GlaNormKernelIdeal.τ).loc Cert.GlaNormKernelIdeal.main_v0_1) = v1 c
          ∧ r.2.mem ((c.tc : Thread Cert.GlaNormKernelIdeal.nD Cert.GlaNormKernelIdeal.τ).loc Cert.GlaNormKernelIdeal.main_v0_2) = v2 c
          ∧ r.2.mem ((c.tc : Thread Cert.GlaNormKernelIdeal.nD Cert.GlaNormKernelIdeal.τ).loc Cert.GlaNormKernelIdeal.main_arg0) = m ((c.tc : Thread Cert.GlaNormKernelIdeal.nD Cert.GlaNormKernelIdeal.τ).loc Cert.GlaNormKernelIdeal.main_arg0)
          ∧ r.2.mem ((c.tc : Thread Cert.GlaNormKernelIdeal.nD Cert.GlaNormKernelIdeal.τ).loc Cert.GlaNormKernelIdeal.main_arg1) = m ((c.tc : Thread Cert.GlaNormKernelIdeal.nD Cert.GlaNormKernelIdeal.τ).loc Cert.GlaNormKernelIdeal.main_arg1)
          ∧ r.2.mem ((c.tc : Thread Cert.GlaNormKernelIdeal.nD Cert.GlaNormKernelIdeal.τ).loc Cert.GlaNormKernelIdeal.main_arg2) = m ((c.tc : Thread Cert.GlaNormKernelIdeal.nD Cert.GlaNormKernelIdeal.τ).loc Cert.GlaNormKernelIdeal.main_arg2)
          ∧ r.2.mem ((c.tc : Thread Cert.GlaNormKernelIdeal.nD Cert.GlaNormKernelIdeal.τ).loc Cert.GlaNormKernelIdeal.main_arg3) = m ((c.tc : Thread Cert.GlaNormKernelIdeal.nD Cert.GlaNormKernelIdeal.τ).loc Cert.GlaNormKernelIdeal.main_arg3))
      ∧ θ_run (Cert.GlaNormReferenceIdeal.defs (F := Ideal)) (onTc (τ := Cert.GlaNormReferenceIdeal.τ) (Cert.GlaNormReferenceIdeal.main (F := Ideal))) ⟨m', fun _ => 0, g'⟩ (fun r => ∀ c : Dev Cert.GlaNormReferenceIdeal.nD,
          r.2.mem ((c.tc : Thread Cert.GlaNormReferenceIdeal.nD Cert.GlaNormReferenceIdeal.τ).loc Cert.GlaNormReferenceIdeal.main_v23) = v0 c
          ∧ r.2.mem ((c.tc : Thread Cert.GlaNormReferenceIdeal.nD Cert.GlaNormReferenceIdeal.τ).loc Cert.GlaNormReferenceIdeal.main_v4) = v1 c
          ∧ r.2.mem ((c.tc : Thread Cert.GlaNormReferenceIdeal.nD Cert.GlaNormReferenceIdeal.τ).loc Cert.GlaNormReferenceIdeal.main_v10) = v2 c
          ∧ r.2.mem ((c.tc : Thread Cert.GlaNormReferenceIdeal.nD Cert.GlaNormReferenceIdeal.τ).loc Cert.GlaNormReferenceIdeal.main_arg0) = m' ((c.tc : Thread Cert.GlaNormReferenceIdeal.nD Cert.GlaNormReferenceIdeal.τ).loc Cert.GlaNormReferenceIdeal.main_arg0)
          ∧ r.2.mem ((c.tc : Thread Cert.GlaNormReferenceIdeal.nD Cert.GlaNormReferenceIdeal.τ).loc Cert.GlaNormReferenceIdeal.main_arg1) = m' ((c.tc : Thread Cert.GlaNormReferenceIdeal.nD Cert.GlaNormReferenceIdeal.τ).loc Cert.GlaNormReferenceIdeal.main_arg1)
          ∧ r.2.mem ((c.tc : Thread Cert.GlaNormReferenceIdeal.nD Cert.GlaNormReferenceIdeal.τ).loc Cert.GlaNormReferenceIdeal.main_arg2) = m' ((c.tc : Thread Cert.GlaNormReferenceIdeal.nD Cert.GlaNormReferenceIdeal.τ).loc Cert.GlaNormReferenceIdeal.main_arg2)
          ∧ r.2.mem ((c.tc : Thread Cert.GlaNormReferenceIdeal.nD Cert.GlaNormReferenceIdeal.τ).loc Cert.GlaNormReferenceIdeal.main_arg3) = m' ((c.tc : Thread Cert.GlaNormReferenceIdeal.nD Cert.GlaNormReferenceIdeal.τ).loc Cert.GlaNormReferenceIdeal.main_arg3))

def preserves_RelKernel_RelKernelIdeal : Prop :=
  True

def algebraic_RelKernelIdeal_RelReferenceIdeal [hRelKernelIdeal : Cert.RelKernelIdeal.Facts] [hRelReferenceIdeal : Cert.RelReferenceIdeal.Facts] : Prop :=
  ∀ (m : (ℓ : Loc Cert.RelKernelIdeal.nD Cert.RelKernelIdeal.τ Cert.RelKernelIdeal.sig) → Buf (Elt Ideal) ℓ) (g : Dev Cert.RelKernelIdeal.nD → PrngReg)
    (m' : (ℓ : Loc Cert.RelReferenceIdeal.nD Cert.RelReferenceIdeal.τ Cert.RelReferenceIdeal.sig) → Buf (Elt Ideal) ℓ) (g' : Dev Cert.RelReferenceIdeal.nD → PrngReg), Pre_RelKernelIdeal m →
    (∀ c : Dev Cert.RelKernelIdeal.nD,
      m' ((c.tc : Thread Cert.RelReferenceIdeal.nD Cert.RelReferenceIdeal.τ).loc Cert.RelReferenceIdeal.main_arg0) = m ((c.tc : Thread Cert.RelKernelIdeal.nD Cert.RelKernelIdeal.τ).loc Cert.RelKernelIdeal.main_arg0)
      ∧ m' ((c.tc : Thread Cert.RelReferenceIdeal.nD Cert.RelReferenceIdeal.τ).loc Cert.RelReferenceIdeal.main_arg1) = m ((c.tc : Thread Cert.RelKernelIdeal.nD Cert.RelKernelIdeal.τ).loc Cert.RelKernelIdeal.main_arg1)
      ∧ m' ((c.tc : Thread Cert.RelReferenceIdeal.nD Cert.RelReferenceIdeal.τ).loc Cert.RelReferenceIdeal.main_arg2) = m ((c.tc : Thread Cert.RelKernelIdeal.nD Cert.RelKernelIdeal.τ).loc Cert.RelKernelIdeal.main_arg2)
      ∧ m' ((c.tc : Thread Cert.RelReferenceIdeal.nD Cert.RelReferenceIdeal.τ).loc Cert.RelReferenceIdeal.main_arg3) = m ((c.tc : Thread Cert.RelKernelIdeal.nD Cert.RelKernelIdeal.τ).loc Cert.RelKernelIdeal.main_arg3)) →
    ∃ (v0 : (c : Dev Cert.RelKernelIdeal.nD) → Buf (Elt Ideal) ((c.tc : Thread Cert.RelKernelIdeal.nD Cert.RelKernelIdeal.τ).loc Cert.RelKernelIdeal.main_v0_0)) (v1 : (c : Dev Cert.RelKernelIdeal.nD) → Buf (Elt Ideal) ((c.tc : Thread Cert.RelKernelIdeal.nD Cert.RelKernelIdeal.τ).loc Cert.RelKernelIdeal.main_v0_1)) (v2 : (c : Dev Cert.RelKernelIdeal.nD) → Buf (Elt Ideal) ((c.tc : Thread Cert.RelKernelIdeal.nD Cert.RelKernelIdeal.τ).loc Cert.RelKernelIdeal.main_v0_2)),
      θ_run (Cert.RelKernelIdeal.defs (F := Ideal)) (onTc (τ := Cert.RelKernelIdeal.τ) (Cert.RelKernelIdeal.main (F := Ideal))) ⟨m, fun _ => 0, g⟩ (fun r => ∀ c : Dev Cert.RelKernelIdeal.nD,
          r.2.mem ((c.tc : Thread Cert.RelKernelIdeal.nD Cert.RelKernelIdeal.τ).loc Cert.RelKernelIdeal.main_v0_0) = v0 c
          ∧ r.2.mem ((c.tc : Thread Cert.RelKernelIdeal.nD Cert.RelKernelIdeal.τ).loc Cert.RelKernelIdeal.main_v0_1) = v1 c
          ∧ r.2.mem ((c.tc : Thread Cert.RelKernelIdeal.nD Cert.RelKernelIdeal.τ).loc Cert.RelKernelIdeal.main_v0_2) = v2 c
          ∧ r.2.mem ((c.tc : Thread Cert.RelKernelIdeal.nD Cert.RelKernelIdeal.τ).loc Cert.RelKernelIdeal.main_arg0) = m ((c.tc : Thread Cert.RelKernelIdeal.nD Cert.RelKernelIdeal.τ).loc Cert.RelKernelIdeal.main_arg0)
          ∧ r.2.mem ((c.tc : Thread Cert.RelKernelIdeal.nD Cert.RelKernelIdeal.τ).loc Cert.RelKernelIdeal.main_arg1) = m ((c.tc : Thread Cert.RelKernelIdeal.nD Cert.RelKernelIdeal.τ).loc Cert.RelKernelIdeal.main_arg1)
          ∧ r.2.mem ((c.tc : Thread Cert.RelKernelIdeal.nD Cert.RelKernelIdeal.τ).loc Cert.RelKernelIdeal.main_arg2) = m ((c.tc : Thread Cert.RelKernelIdeal.nD Cert.RelKernelIdeal.τ).loc Cert.RelKernelIdeal.main_arg2)
          ∧ r.2.mem ((c.tc : Thread Cert.RelKernelIdeal.nD Cert.RelKernelIdeal.τ).loc Cert.RelKernelIdeal.main_arg3) = m ((c.tc : Thread Cert.RelKernelIdeal.nD Cert.RelKernelIdeal.τ).loc Cert.RelKernelIdeal.main_arg3))
      ∧ θ_run (Cert.RelReferenceIdeal.defs (F := Ideal)) (onTc (τ := Cert.RelReferenceIdeal.τ) (Cert.RelReferenceIdeal.main (F := Ideal))) ⟨m', fun _ => 0, g'⟩ (fun r => ∀ c : Dev Cert.RelReferenceIdeal.nD,
          r.2.mem ((c.tc : Thread Cert.RelReferenceIdeal.nD Cert.RelReferenceIdeal.τ).loc Cert.RelReferenceIdeal.main_v23) = v0 c
          ∧ r.2.mem ((c.tc : Thread Cert.RelReferenceIdeal.nD Cert.RelReferenceIdeal.τ).loc Cert.RelReferenceIdeal.main_v4) = v1 c
          ∧ r.2.mem ((c.tc : Thread Cert.RelReferenceIdeal.nD Cert.RelReferenceIdeal.τ).loc Cert.RelReferenceIdeal.main_v10) = v2 c
          ∧ r.2.mem ((c.tc : Thread Cert.RelReferenceIdeal.nD Cert.RelReferenceIdeal.τ).loc Cert.RelReferenceIdeal.main_arg0) = m' ((c.tc : Thread Cert.RelReferenceIdeal.nD Cert.RelReferenceIdeal.τ).loc Cert.RelReferenceIdeal.main_arg0)
          ∧ r.2.mem ((c.tc : Thread Cert.RelReferenceIdeal.nD Cert.RelReferenceIdeal.τ).loc Cert.RelReferenceIdeal.main_arg1) = m' ((c.tc : Thread Cert.RelReferenceIdeal.nD Cert.RelReferenceIdeal.τ).loc Cert.RelReferenceIdeal.main_arg1)
          ∧ r.2.mem ((c.tc : Thread Cert.RelReferenceIdeal.nD Cert.RelReferenceIdeal.τ).loc Cert.RelReferenceIdeal.main_arg2) = m' ((c.tc : Thread Cert.RelReferenceIdeal.nD Cert.RelReferenceIdeal.τ).loc Cert.RelReferenceIdeal.main_arg2)
          ∧ r.2.mem ((c.tc : Thread Cert.RelReferenceIdeal.nD Cert.RelReferenceIdeal.τ).loc Cert.RelReferenceIdeal.main_arg3) = m' ((c.tc : Thread Cert.RelReferenceIdeal.nD Cert.RelReferenceIdeal.τ).loc Cert.RelReferenceIdeal.main_arg3))

def preserves_TotalKernel_TotalKernelIdeal : Prop :=
  True

def algebraic_TotalKernelIdeal_TotalReferenceIdeal [hTotalKernelIdeal : Cert.TotalKernelIdeal.Facts] [hTotalReferenceIdeal : Cert.TotalReferenceIdeal.Facts] : Prop :=
  ∀ (m : (ℓ : Loc Cert.TotalKernelIdeal.nD Cert.TotalKernelIdeal.τ Cert.TotalKernelIdeal.sig) → Buf (Elt Ideal) ℓ) (g : Dev Cert.TotalKernelIdeal.nD → PrngReg)
    (m' : (ℓ : Loc Cert.TotalReferenceIdeal.nD Cert.TotalReferenceIdeal.τ Cert.TotalReferenceIdeal.sig) → Buf (Elt Ideal) ℓ) (g' : Dev Cert.TotalReferenceIdeal.nD → PrngReg), Pre_TotalKernelIdeal m →
    (∀ c : Dev Cert.TotalKernelIdeal.nD,
      m' ((c.tc : Thread Cert.TotalReferenceIdeal.nD Cert.TotalReferenceIdeal.τ).loc Cert.TotalReferenceIdeal.main_arg0) = m ((c.tc : Thread Cert.TotalKernelIdeal.nD Cert.TotalKernelIdeal.τ).loc Cert.TotalKernelIdeal.main_arg0)) →
    ∃ (v0 : (c : Dev Cert.TotalKernelIdeal.nD) → Buf (Elt Ideal) ((c.tc : Thread Cert.TotalKernelIdeal.nD Cert.TotalKernelIdeal.τ).loc Cert.TotalKernelIdeal.main_v0)),
      θ_run (Cert.TotalKernelIdeal.defs (F := Ideal)) (onTc (τ := Cert.TotalKernelIdeal.τ) (Cert.TotalKernelIdeal.main (F := Ideal))) ⟨m, fun _ => 0, g⟩ (fun r => ∀ c : Dev Cert.TotalKernelIdeal.nD,
          r.2.mem ((c.tc : Thread Cert.TotalKernelIdeal.nD Cert.TotalKernelIdeal.τ).loc Cert.TotalKernelIdeal.main_v0) = v0 c
          ∧ r.2.mem ((c.tc : Thread Cert.TotalKernelIdeal.nD Cert.TotalKernelIdeal.τ).loc Cert.TotalKernelIdeal.main_arg0) = m ((c.tc : Thread Cert.TotalKernelIdeal.nD Cert.TotalKernelIdeal.τ).loc Cert.TotalKernelIdeal.main_arg0))
      ∧ θ_run (Cert.TotalReferenceIdeal.defs (F := Ideal)) (onTc (τ := Cert.TotalReferenceIdeal.τ) (Cert.TotalReferenceIdeal.main (F := Ideal))) ⟨m', fun _ => 0, g'⟩ (fun r => ∀ c : Dev Cert.TotalReferenceIdeal.nD,
          r.2.mem ((c.tc : Thread Cert.TotalReferenceIdeal.nD Cert.TotalReferenceIdeal.τ).loc Cert.TotalReferenceIdeal.main_v0) = v0 c
          ∧ r.2.mem ((c.tc : Thread Cert.TotalReferenceIdeal.nD Cert.TotalReferenceIdeal.τ).loc Cert.TotalReferenceIdeal.main_arg0) = m' ((c.tc : Thread Cert.TotalReferenceIdeal.nD Cert.TotalReferenceIdeal.τ).loc Cert.TotalReferenceIdeal.main_arg0))

def preserves_OutUpdKernel_OutUpdKernelIdeal : Prop :=
  True

def algebraic_OutUpdKernelIdeal_OutUpdReferenceIdeal [hOutUpdKernelIdeal : Cert.OutUpdKernelIdeal.Facts] [hOutUpdReferenceIdeal : Cert.OutUpdReferenceIdeal.Facts] [hPre_outupd_chip : Cert.Pre_outupd_chip.Facts] : Prop :=
  ∀ (m : (ℓ : Loc Cert.OutUpdKernelIdeal.nD Cert.OutUpdKernelIdeal.τ Cert.OutUpdKernelIdeal.sig) → Buf (Elt Ideal) ℓ) (g : Dev Cert.OutUpdKernelIdeal.nD → PrngReg)
    (m' : (ℓ : Loc Cert.OutUpdReferenceIdeal.nD Cert.OutUpdReferenceIdeal.τ Cert.OutUpdReferenceIdeal.sig) → Buf (Elt Ideal) ℓ) (g' : Dev Cert.OutUpdReferenceIdeal.nD → PrngReg), Pre_OutUpdKernelIdeal m →
    (∀ c : Dev Cert.OutUpdKernelIdeal.nD,
      m' ((c.tc : Thread Cert.OutUpdReferenceIdeal.nD Cert.OutUpdReferenceIdeal.τ).loc Cert.OutUpdReferenceIdeal.main_arg0) = m ((c.tc : Thread Cert.OutUpdKernelIdeal.nD Cert.OutUpdKernelIdeal.τ).loc Cert.OutUpdKernelIdeal.main_arg0)
      ∧ m' ((c.tc : Thread Cert.OutUpdReferenceIdeal.nD Cert.OutUpdReferenceIdeal.τ).loc Cert.OutUpdReferenceIdeal.main_arg1) = m ((c.tc : Thread Cert.OutUpdKernelIdeal.nD Cert.OutUpdKernelIdeal.τ).loc Cert.OutUpdKernelIdeal.main_arg1)
      ∧ m' ((c.tc : Thread Cert.OutUpdReferenceIdeal.nD Cert.OutUpdReferenceIdeal.τ).loc Cert.OutUpdReferenceIdeal.main_arg2) = m ((c.tc : Thread Cert.OutUpdKernelIdeal.nD Cert.OutUpdKernelIdeal.τ).loc Cert.OutUpdKernelIdeal.main_arg2)
      ∧ m' ((c.tc : Thread Cert.OutUpdReferenceIdeal.nD Cert.OutUpdReferenceIdeal.τ).loc Cert.OutUpdReferenceIdeal.main_arg3) = m ((c.tc : Thread Cert.OutUpdKernelIdeal.nD Cert.OutUpdKernelIdeal.τ).loc Cert.OutUpdKernelIdeal.main_arg3)
      ∧ m' ((c.tc : Thread Cert.OutUpdReferenceIdeal.nD Cert.OutUpdReferenceIdeal.τ).loc Cert.OutUpdReferenceIdeal.main_arg4) = m ((c.tc : Thread Cert.OutUpdKernelIdeal.nD Cert.OutUpdKernelIdeal.τ).loc Cert.OutUpdKernelIdeal.main_arg4)
      ∧ m' ((c.tc : Thread Cert.OutUpdReferenceIdeal.nD Cert.OutUpdReferenceIdeal.τ).loc Cert.OutUpdReferenceIdeal.main_arg5) = m ((c.tc : Thread Cert.OutUpdKernelIdeal.nD Cert.OutUpdKernelIdeal.τ).loc Cert.OutUpdKernelIdeal.main_arg5)) →
    ∃ (v0 : (c : Dev Cert.OutUpdKernelIdeal.nD) → Buf (Elt Ideal) ((c.tc : Thread Cert.OutUpdKernelIdeal.nD Cert.OutUpdKernelIdeal.τ).loc Cert.OutUpdKernelIdeal.main_v0_0)) (v1 : (c : Dev Cert.OutUpdKernelIdeal.nD) → Buf (Elt Ideal) ((c.tc : Thread Cert.OutUpdKernelIdeal.nD Cert.OutUpdKernelIdeal.τ).loc Cert.OutUpdKernelIdeal.main_v0_1)) (v2 : (c : Dev Cert.OutUpdKernelIdeal.nD) → Buf (Elt Ideal) ((c.tc : Thread Cert.OutUpdKernelIdeal.nD Cert.OutUpdKernelIdeal.τ).loc Cert.OutUpdKernelIdeal.main_v0_2)) (v3 : (c : Dev Cert.OutUpdKernelIdeal.nD) → Buf (Elt Ideal) ((c.tc : Thread Cert.OutUpdKernelIdeal.nD Cert.OutUpdKernelIdeal.τ).loc Cert.OutUpdKernelIdeal.main_v0_3)),
      θ_run (Cert.OutUpdKernelIdeal.defs (F := Ideal)) (onTc (τ := Cert.OutUpdKernelIdeal.τ) (Cert.OutUpdKernelIdeal.main (F := Ideal))) ⟨m, fun _ => 0, g⟩ (fun r => ∀ c : Dev Cert.OutUpdKernelIdeal.nD,
          r.2.mem ((c.tc : Thread Cert.OutUpdKernelIdeal.nD Cert.OutUpdKernelIdeal.τ).loc Cert.OutUpdKernelIdeal.main_v0_0) = v0 c
          ∧ r.2.mem ((c.tc : Thread Cert.OutUpdKernelIdeal.nD Cert.OutUpdKernelIdeal.τ).loc Cert.OutUpdKernelIdeal.main_v0_1) = v1 c
          ∧ r.2.mem ((c.tc : Thread Cert.OutUpdKernelIdeal.nD Cert.OutUpdKernelIdeal.τ).loc Cert.OutUpdKernelIdeal.main_v0_2) = v2 c
          ∧ r.2.mem ((c.tc : Thread Cert.OutUpdKernelIdeal.nD Cert.OutUpdKernelIdeal.τ).loc Cert.OutUpdKernelIdeal.main_v0_3) = v3 c
          ∧ r.2.mem ((c.tc : Thread Cert.OutUpdKernelIdeal.nD Cert.OutUpdKernelIdeal.τ).loc Cert.OutUpdKernelIdeal.main_arg0) = m ((c.tc : Thread Cert.OutUpdKernelIdeal.nD Cert.OutUpdKernelIdeal.τ).loc Cert.OutUpdKernelIdeal.main_arg0)
          ∧ r.2.mem ((c.tc : Thread Cert.OutUpdKernelIdeal.nD Cert.OutUpdKernelIdeal.τ).loc Cert.OutUpdKernelIdeal.main_arg1) = m ((c.tc : Thread Cert.OutUpdKernelIdeal.nD Cert.OutUpdKernelIdeal.τ).loc Cert.OutUpdKernelIdeal.main_arg1)
          ∧ r.2.mem ((c.tc : Thread Cert.OutUpdKernelIdeal.nD Cert.OutUpdKernelIdeal.τ).loc Cert.OutUpdKernelIdeal.main_arg2) = m ((c.tc : Thread Cert.OutUpdKernelIdeal.nD Cert.OutUpdKernelIdeal.τ).loc Cert.OutUpdKernelIdeal.main_arg2)
          ∧ r.2.mem ((c.tc : Thread Cert.OutUpdKernelIdeal.nD Cert.OutUpdKernelIdeal.τ).loc Cert.OutUpdKernelIdeal.main_arg3) = m ((c.tc : Thread Cert.OutUpdKernelIdeal.nD Cert.OutUpdKernelIdeal.τ).loc Cert.OutUpdKernelIdeal.main_arg3)
          ∧ r.2.mem ((c.tc : Thread Cert.OutUpdKernelIdeal.nD Cert.OutUpdKernelIdeal.τ).loc Cert.OutUpdKernelIdeal.main_arg4) = m ((c.tc : Thread Cert.OutUpdKernelIdeal.nD Cert.OutUpdKernelIdeal.τ).loc Cert.OutUpdKernelIdeal.main_arg4)
          ∧ r.2.mem ((c.tc : Thread Cert.OutUpdKernelIdeal.nD Cert.OutUpdKernelIdeal.τ).loc Cert.OutUpdKernelIdeal.main_arg5) = m ((c.tc : Thread Cert.OutUpdKernelIdeal.nD Cert.OutUpdKernelIdeal.τ).loc Cert.OutUpdKernelIdeal.main_arg5))
      ∧ θ_run (Cert.OutUpdReferenceIdeal.defs (F := Ideal)) (onTc (τ := Cert.OutUpdReferenceIdeal.τ) (Cert.OutUpdReferenceIdeal.main (F := Ideal))) ⟨m', fun _ => 0, g'⟩ (fun r => ∀ c : Dev Cert.OutUpdReferenceIdeal.nD,
          r.2.mem ((c.tc : Thread Cert.OutUpdReferenceIdeal.nD Cert.OutUpdReferenceIdeal.τ).loc Cert.OutUpdReferenceIdeal.main_v29) = v0 c
          ∧ r.2.mem ((c.tc : Thread Cert.OutUpdReferenceIdeal.nD Cert.OutUpdReferenceIdeal.τ).loc Cert.OutUpdReferenceIdeal.main_v53) = v1 c
          ∧ r.2.mem ((c.tc : Thread Cert.OutUpdReferenceIdeal.nD Cert.OutUpdReferenceIdeal.τ).loc Cert.OutUpdReferenceIdeal.main_v34) = v2 c
          ∧ r.2.mem ((c.tc : Thread Cert.OutUpdReferenceIdeal.nD Cert.OutUpdReferenceIdeal.τ).loc Cert.OutUpdReferenceIdeal.main_v40) = v3 c
          ∧ r.2.mem ((c.tc : Thread Cert.OutUpdReferenceIdeal.nD Cert.OutUpdReferenceIdeal.τ).loc Cert.OutUpdReferenceIdeal.main_arg0) = m' ((c.tc : Thread Cert.OutUpdReferenceIdeal.nD Cert.OutUpdReferenceIdeal.τ).loc Cert.OutUpdReferenceIdeal.main_arg0)
          ∧ r.2.mem ((c.tc : Thread Cert.OutUpdReferenceIdeal.nD Cert.OutUpdReferenceIdeal.τ).loc Cert.OutUpdReferenceIdeal.main_arg1) = m' ((c.tc : Thread Cert.OutUpdReferenceIdeal.nD Cert.OutUpdReferenceIdeal.τ).loc Cert.OutUpdReferenceIdeal.main_arg1)
          ∧ r.2.mem ((c.tc : Thread Cert.OutUpdReferenceIdeal.nD Cert.OutUpdReferenceIdeal.τ).loc Cert.OutUpdReferenceIdeal.main_arg2) = m' ((c.tc : Thread Cert.OutUpdReferenceIdeal.nD Cert.OutUpdReferenceIdeal.τ).loc Cert.OutUpdReferenceIdeal.main_arg2)
          ∧ r.2.mem ((c.tc : Thread Cert.OutUpdReferenceIdeal.nD Cert.OutUpdReferenceIdeal.τ).loc Cert.OutUpdReferenceIdeal.main_arg3) = m' ((c.tc : Thread Cert.OutUpdReferenceIdeal.nD Cert.OutUpdReferenceIdeal.τ).loc Cert.OutUpdReferenceIdeal.main_arg3)
          ∧ r.2.mem ((c.tc : Thread Cert.OutUpdReferenceIdeal.nD Cert.OutUpdReferenceIdeal.τ).loc Cert.OutUpdReferenceIdeal.main_arg4) = m' ((c.tc : Thread Cert.OutUpdReferenceIdeal.nD Cert.OutUpdReferenceIdeal.τ).loc Cert.OutUpdReferenceIdeal.main_arg4)
          ∧ r.2.mem ((c.tc : Thread Cert.OutUpdReferenceIdeal.nD Cert.OutUpdReferenceIdeal.τ).loc Cert.OutUpdReferenceIdeal.main_arg5) = m' ((c.tc : Thread Cert.OutUpdReferenceIdeal.nD Cert.OutUpdReferenceIdeal.τ).loc Cert.OutUpdReferenceIdeal.main_arg5))

def preserves_FfUpdKernel_FfUpdKernelIdeal : Prop :=
  True

def algebraic_FfUpdKernelIdeal_FfUpdReferenceIdeal [hFfUpdKernelIdeal : Cert.FfUpdKernelIdeal.Facts] [hFfUpdReferenceIdeal : Cert.FfUpdReferenceIdeal.Facts] [hPre_ffupd_chip : Cert.Pre_ffupd_chip.Facts] : Prop :=
  ∀ (m : (ℓ : Loc Cert.FfUpdKernelIdeal.nD Cert.FfUpdKernelIdeal.τ Cert.FfUpdKernelIdeal.sig) → Buf (Elt Ideal) ℓ) (g : Dev Cert.FfUpdKernelIdeal.nD → PrngReg)
    (m' : (ℓ : Loc Cert.FfUpdReferenceIdeal.nD Cert.FfUpdReferenceIdeal.τ Cert.FfUpdReferenceIdeal.sig) → Buf (Elt Ideal) ℓ) (g' : Dev Cert.FfUpdReferenceIdeal.nD → PrngReg), Pre_FfUpdKernelIdeal m →
    (∀ c : Dev Cert.FfUpdKernelIdeal.nD,
      m' ((c.tc : Thread Cert.FfUpdReferenceIdeal.nD Cert.FfUpdReferenceIdeal.τ).loc Cert.FfUpdReferenceIdeal.main_arg0) = m ((c.tc : Thread Cert.FfUpdKernelIdeal.nD Cert.FfUpdKernelIdeal.τ).loc Cert.FfUpdKernelIdeal.main_arg0)
      ∧ m' ((c.tc : Thread Cert.FfUpdReferenceIdeal.nD Cert.FfUpdReferenceIdeal.τ).loc Cert.FfUpdReferenceIdeal.main_arg1) = m ((c.tc : Thread Cert.FfUpdKernelIdeal.nD Cert.FfUpdKernelIdeal.τ).loc Cert.FfUpdKernelIdeal.main_arg1)
      ∧ m' ((c.tc : Thread Cert.FfUpdReferenceIdeal.nD Cert.FfUpdReferenceIdeal.τ).loc Cert.FfUpdReferenceIdeal.main_arg2) = m ((c.tc : Thread Cert.FfUpdKernelIdeal.nD Cert.FfUpdKernelIdeal.τ).loc Cert.FfUpdKernelIdeal.main_arg2)
      ∧ m' ((c.tc : Thread Cert.FfUpdReferenceIdeal.nD Cert.FfUpdReferenceIdeal.τ).loc Cert.FfUpdReferenceIdeal.main_arg3) = m ((c.tc : Thread Cert.FfUpdKernelIdeal.nD Cert.FfUpdKernelIdeal.τ).loc Cert.FfUpdKernelIdeal.main_arg3)
      ∧ m' ((c.tc : Thread Cert.FfUpdReferenceIdeal.nD Cert.FfUpdReferenceIdeal.τ).loc Cert.FfUpdReferenceIdeal.main_arg4) = m ((c.tc : Thread Cert.FfUpdKernelIdeal.nD Cert.FfUpdKernelIdeal.τ).loc Cert.FfUpdKernelIdeal.main_arg4)
      ∧ m' ((c.tc : Thread Cert.FfUpdReferenceIdeal.nD Cert.FfUpdReferenceIdeal.τ).loc Cert.FfUpdReferenceIdeal.main_arg5) = m ((c.tc : Thread Cert.FfUpdKernelIdeal.nD Cert.FfUpdKernelIdeal.τ).loc Cert.FfUpdKernelIdeal.main_arg5)) →
    ∃ (v0 : (c : Dev Cert.FfUpdKernelIdeal.nD) → Buf (Elt Ideal) ((c.tc : Thread Cert.FfUpdKernelIdeal.nD Cert.FfUpdKernelIdeal.τ).loc Cert.FfUpdKernelIdeal.main_v0_0)) (v1 : (c : Dev Cert.FfUpdKernelIdeal.nD) → Buf (Elt Ideal) ((c.tc : Thread Cert.FfUpdKernelIdeal.nD Cert.FfUpdKernelIdeal.τ).loc Cert.FfUpdKernelIdeal.main_v0_1)) (v2 : (c : Dev Cert.FfUpdKernelIdeal.nD) → Buf (Elt Ideal) ((c.tc : Thread Cert.FfUpdKernelIdeal.nD Cert.FfUpdKernelIdeal.τ).loc Cert.FfUpdKernelIdeal.main_v0_2)) (v3 : (c : Dev Cert.FfUpdKernelIdeal.nD) → Buf (Elt Ideal) ((c.tc : Thread Cert.FfUpdKernelIdeal.nD Cert.FfUpdKernelIdeal.τ).loc Cert.FfUpdKernelIdeal.main_v0_3)),
      θ_run (Cert.FfUpdKernelIdeal.defs (F := Ideal)) (onTc (τ := Cert.FfUpdKernelIdeal.τ) (Cert.FfUpdKernelIdeal.main (F := Ideal))) ⟨m, fun _ => 0, g⟩ (fun r => ∀ c : Dev Cert.FfUpdKernelIdeal.nD,
          r.2.mem ((c.tc : Thread Cert.FfUpdKernelIdeal.nD Cert.FfUpdKernelIdeal.τ).loc Cert.FfUpdKernelIdeal.main_v0_0) = v0 c
          ∧ r.2.mem ((c.tc : Thread Cert.FfUpdKernelIdeal.nD Cert.FfUpdKernelIdeal.τ).loc Cert.FfUpdKernelIdeal.main_v0_1) = v1 c
          ∧ r.2.mem ((c.tc : Thread Cert.FfUpdKernelIdeal.nD Cert.FfUpdKernelIdeal.τ).loc Cert.FfUpdKernelIdeal.main_v0_2) = v2 c
          ∧ r.2.mem ((c.tc : Thread Cert.FfUpdKernelIdeal.nD Cert.FfUpdKernelIdeal.τ).loc Cert.FfUpdKernelIdeal.main_v0_3) = v3 c
          ∧ r.2.mem ((c.tc : Thread Cert.FfUpdKernelIdeal.nD Cert.FfUpdKernelIdeal.τ).loc Cert.FfUpdKernelIdeal.main_arg0) = m ((c.tc : Thread Cert.FfUpdKernelIdeal.nD Cert.FfUpdKernelIdeal.τ).loc Cert.FfUpdKernelIdeal.main_arg0)
          ∧ r.2.mem ((c.tc : Thread Cert.FfUpdKernelIdeal.nD Cert.FfUpdKernelIdeal.τ).loc Cert.FfUpdKernelIdeal.main_arg1) = m ((c.tc : Thread Cert.FfUpdKernelIdeal.nD Cert.FfUpdKernelIdeal.τ).loc Cert.FfUpdKernelIdeal.main_arg1)
          ∧ r.2.mem ((c.tc : Thread Cert.FfUpdKernelIdeal.nD Cert.FfUpdKernelIdeal.τ).loc Cert.FfUpdKernelIdeal.main_arg2) = m ((c.tc : Thread Cert.FfUpdKernelIdeal.nD Cert.FfUpdKernelIdeal.τ).loc Cert.FfUpdKernelIdeal.main_arg2)
          ∧ r.2.mem ((c.tc : Thread Cert.FfUpdKernelIdeal.nD Cert.FfUpdKernelIdeal.τ).loc Cert.FfUpdKernelIdeal.main_arg3) = m ((c.tc : Thread Cert.FfUpdKernelIdeal.nD Cert.FfUpdKernelIdeal.τ).loc Cert.FfUpdKernelIdeal.main_arg3)
          ∧ r.2.mem ((c.tc : Thread Cert.FfUpdKernelIdeal.nD Cert.FfUpdKernelIdeal.τ).loc Cert.FfUpdKernelIdeal.main_arg4) = m ((c.tc : Thread Cert.FfUpdKernelIdeal.nD Cert.FfUpdKernelIdeal.τ).loc Cert.FfUpdKernelIdeal.main_arg4)
          ∧ r.2.mem ((c.tc : Thread Cert.FfUpdKernelIdeal.nD Cert.FfUpdKernelIdeal.τ).loc Cert.FfUpdKernelIdeal.main_arg5) = m ((c.tc : Thread Cert.FfUpdKernelIdeal.nD Cert.FfUpdKernelIdeal.τ).loc Cert.FfUpdKernelIdeal.main_arg5))
      ∧ θ_run (Cert.FfUpdReferenceIdeal.defs (F := Ideal)) (onTc (τ := Cert.FfUpdReferenceIdeal.τ) (Cert.FfUpdReferenceIdeal.main (F := Ideal))) ⟨m', fun _ => 0, g'⟩ (fun r => ∀ c : Dev Cert.FfUpdReferenceIdeal.nD,
          r.2.mem ((c.tc : Thread Cert.FfUpdReferenceIdeal.nD Cert.FfUpdReferenceIdeal.τ).loc Cert.FfUpdReferenceIdeal.main_v29) = v0 c
          ∧ r.2.mem ((c.tc : Thread Cert.FfUpdReferenceIdeal.nD Cert.FfUpdReferenceIdeal.τ).loc Cert.FfUpdReferenceIdeal.main_v53) = v1 c
          ∧ r.2.mem ((c.tc : Thread Cert.FfUpdReferenceIdeal.nD Cert.FfUpdReferenceIdeal.τ).loc Cert.FfUpdReferenceIdeal.main_v34) = v2 c
          ∧ r.2.mem ((c.tc : Thread Cert.FfUpdReferenceIdeal.nD Cert.FfUpdReferenceIdeal.τ).loc Cert.FfUpdReferenceIdeal.main_v40) = v3 c
          ∧ r.2.mem ((c.tc : Thread Cert.FfUpdReferenceIdeal.nD Cert.FfUpdReferenceIdeal.τ).loc Cert.FfUpdReferenceIdeal.main_arg0) = m' ((c.tc : Thread Cert.FfUpdReferenceIdeal.nD Cert.FfUpdReferenceIdeal.τ).loc Cert.FfUpdReferenceIdeal.main_arg0)
          ∧ r.2.mem ((c.tc : Thread Cert.FfUpdReferenceIdeal.nD Cert.FfUpdReferenceIdeal.τ).loc Cert.FfUpdReferenceIdeal.main_arg1) = m' ((c.tc : Thread Cert.FfUpdReferenceIdeal.nD Cert.FfUpdReferenceIdeal.τ).loc Cert.FfUpdReferenceIdeal.main_arg1)
          ∧ r.2.mem ((c.tc : Thread Cert.FfUpdReferenceIdeal.nD Cert.FfUpdReferenceIdeal.τ).loc Cert.FfUpdReferenceIdeal.main_arg2) = m' ((c.tc : Thread Cert.FfUpdReferenceIdeal.nD Cert.FfUpdReferenceIdeal.τ).loc Cert.FfUpdReferenceIdeal.main_arg2)
          ∧ r.2.mem ((c.tc : Thread Cert.FfUpdReferenceIdeal.nD Cert.FfUpdReferenceIdeal.τ).loc Cert.FfUpdReferenceIdeal.main_arg3) = m' ((c.tc : Thread Cert.FfUpdReferenceIdeal.nD Cert.FfUpdReferenceIdeal.τ).loc Cert.FfUpdReferenceIdeal.main_arg3)
          ∧ r.2.mem ((c.tc : Thread Cert.FfUpdReferenceIdeal.nD Cert.FfUpdReferenceIdeal.τ).loc Cert.FfUpdReferenceIdeal.main_arg4) = m' ((c.tc : Thread Cert.FfUpdReferenceIdeal.nD Cert.FfUpdReferenceIdeal.τ).loc Cert.FfUpdReferenceIdeal.main_arg4)
          ∧ r.2.mem ((c.tc : Thread Cert.FfUpdReferenceIdeal.nD Cert.FfUpdReferenceIdeal.τ).loc Cert.FfUpdReferenceIdeal.main_arg5) = m' ((c.tc : Thread Cert.FfUpdReferenceIdeal.nD Cert.FfUpdReferenceIdeal.τ).loc Cert.FfUpdReferenceIdeal.main_arg5))

def preserves_InUpdKernel_InUpdKernelIdeal : Prop :=
  True

def algebraic_InUpdKernelIdeal_InUpdReferenceIdeal [hInUpdKernelIdeal : Cert.InUpdKernelIdeal.Facts] [hInUpdReferenceIdeal : Cert.InUpdReferenceIdeal.Facts] [hPre_inupd_chip : Cert.Pre_inupd_chip.Facts] : Prop :=
  ∀ (m : (ℓ : Loc Cert.InUpdKernelIdeal.nD Cert.InUpdKernelIdeal.τ Cert.InUpdKernelIdeal.sig) → Buf (Elt Ideal) ℓ) (g : Dev Cert.InUpdKernelIdeal.nD → PrngReg)
    (m' : (ℓ : Loc Cert.InUpdReferenceIdeal.nD Cert.InUpdReferenceIdeal.τ Cert.InUpdReferenceIdeal.sig) → Buf (Elt Ideal) ℓ) (g' : Dev Cert.InUpdReferenceIdeal.nD → PrngReg), Pre_InUpdKernelIdeal m →
    (∀ c : Dev Cert.InUpdKernelIdeal.nD,
      m' ((c.tc : Thread Cert.InUpdReferenceIdeal.nD Cert.InUpdReferenceIdeal.τ).loc Cert.InUpdReferenceIdeal.main_arg0) = m ((c.tc : Thread Cert.InUpdKernelIdeal.nD Cert.InUpdKernelIdeal.τ).loc Cert.InUpdKernelIdeal.main_arg0)
      ∧ m' ((c.tc : Thread Cert.InUpdReferenceIdeal.nD Cert.InUpdReferenceIdeal.τ).loc Cert.InUpdReferenceIdeal.main_arg1) = m ((c.tc : Thread Cert.InUpdKernelIdeal.nD Cert.InUpdKernelIdeal.τ).loc Cert.InUpdKernelIdeal.main_arg1)
      ∧ m' ((c.tc : Thread Cert.InUpdReferenceIdeal.nD Cert.InUpdReferenceIdeal.τ).loc Cert.InUpdReferenceIdeal.main_arg2) = m ((c.tc : Thread Cert.InUpdKernelIdeal.nD Cert.InUpdKernelIdeal.τ).loc Cert.InUpdKernelIdeal.main_arg2)
      ∧ m' ((c.tc : Thread Cert.InUpdReferenceIdeal.nD Cert.InUpdReferenceIdeal.τ).loc Cert.InUpdReferenceIdeal.main_arg3) = m ((c.tc : Thread Cert.InUpdKernelIdeal.nD Cert.InUpdKernelIdeal.τ).loc Cert.InUpdKernelIdeal.main_arg3)
      ∧ m' ((c.tc : Thread Cert.InUpdReferenceIdeal.nD Cert.InUpdReferenceIdeal.τ).loc Cert.InUpdReferenceIdeal.main_arg4) = m ((c.tc : Thread Cert.InUpdKernelIdeal.nD Cert.InUpdKernelIdeal.τ).loc Cert.InUpdKernelIdeal.main_arg4)
      ∧ m' ((c.tc : Thread Cert.InUpdReferenceIdeal.nD Cert.InUpdReferenceIdeal.τ).loc Cert.InUpdReferenceIdeal.main_arg5) = m ((c.tc : Thread Cert.InUpdKernelIdeal.nD Cert.InUpdKernelIdeal.τ).loc Cert.InUpdKernelIdeal.main_arg5)) →
    ∃ (v0 : (c : Dev Cert.InUpdKernelIdeal.nD) → Buf (Elt Ideal) ((c.tc : Thread Cert.InUpdKernelIdeal.nD Cert.InUpdKernelIdeal.τ).loc Cert.InUpdKernelIdeal.main_v0_0)) (v1 : (c : Dev Cert.InUpdKernelIdeal.nD) → Buf (Elt Ideal) ((c.tc : Thread Cert.InUpdKernelIdeal.nD Cert.InUpdKernelIdeal.τ).loc Cert.InUpdKernelIdeal.main_v0_1)) (v2 : (c : Dev Cert.InUpdKernelIdeal.nD) → Buf (Elt Ideal) ((c.tc : Thread Cert.InUpdKernelIdeal.nD Cert.InUpdKernelIdeal.τ).loc Cert.InUpdKernelIdeal.main_v0_2)) (v3 : (c : Dev Cert.InUpdKernelIdeal.nD) → Buf (Elt Ideal) ((c.tc : Thread Cert.InUpdKernelIdeal.nD Cert.InUpdKernelIdeal.τ).loc Cert.InUpdKernelIdeal.main_v0_3)),
      θ_run (Cert.InUpdKernelIdeal.defs (F := Ideal)) (onTc (τ := Cert.InUpdKernelIdeal.τ) (Cert.InUpdKernelIdeal.main (F := Ideal))) ⟨m, fun _ => 0, g⟩ (fun r => ∀ c : Dev Cert.InUpdKernelIdeal.nD,
          r.2.mem ((c.tc : Thread Cert.InUpdKernelIdeal.nD Cert.InUpdKernelIdeal.τ).loc Cert.InUpdKernelIdeal.main_v0_0) = v0 c
          ∧ r.2.mem ((c.tc : Thread Cert.InUpdKernelIdeal.nD Cert.InUpdKernelIdeal.τ).loc Cert.InUpdKernelIdeal.main_v0_1) = v1 c
          ∧ r.2.mem ((c.tc : Thread Cert.InUpdKernelIdeal.nD Cert.InUpdKernelIdeal.τ).loc Cert.InUpdKernelIdeal.main_v0_2) = v2 c
          ∧ r.2.mem ((c.tc : Thread Cert.InUpdKernelIdeal.nD Cert.InUpdKernelIdeal.τ).loc Cert.InUpdKernelIdeal.main_v0_3) = v3 c
          ∧ r.2.mem ((c.tc : Thread Cert.InUpdKernelIdeal.nD Cert.InUpdKernelIdeal.τ).loc Cert.InUpdKernelIdeal.main_arg0) = m ((c.tc : Thread Cert.InUpdKernelIdeal.nD Cert.InUpdKernelIdeal.τ).loc Cert.InUpdKernelIdeal.main_arg0)
          ∧ r.2.mem ((c.tc : Thread Cert.InUpdKernelIdeal.nD Cert.InUpdKernelIdeal.τ).loc Cert.InUpdKernelIdeal.main_arg1) = m ((c.tc : Thread Cert.InUpdKernelIdeal.nD Cert.InUpdKernelIdeal.τ).loc Cert.InUpdKernelIdeal.main_arg1)
          ∧ r.2.mem ((c.tc : Thread Cert.InUpdKernelIdeal.nD Cert.InUpdKernelIdeal.τ).loc Cert.InUpdKernelIdeal.main_arg2) = m ((c.tc : Thread Cert.InUpdKernelIdeal.nD Cert.InUpdKernelIdeal.τ).loc Cert.InUpdKernelIdeal.main_arg2)
          ∧ r.2.mem ((c.tc : Thread Cert.InUpdKernelIdeal.nD Cert.InUpdKernelIdeal.τ).loc Cert.InUpdKernelIdeal.main_arg3) = m ((c.tc : Thread Cert.InUpdKernelIdeal.nD Cert.InUpdKernelIdeal.τ).loc Cert.InUpdKernelIdeal.main_arg3)
          ∧ r.2.mem ((c.tc : Thread Cert.InUpdKernelIdeal.nD Cert.InUpdKernelIdeal.τ).loc Cert.InUpdKernelIdeal.main_arg4) = m ((c.tc : Thread Cert.InUpdKernelIdeal.nD Cert.InUpdKernelIdeal.τ).loc Cert.InUpdKernelIdeal.main_arg4)
          ∧ r.2.mem ((c.tc : Thread Cert.InUpdKernelIdeal.nD Cert.InUpdKernelIdeal.τ).loc Cert.InUpdKernelIdeal.main_arg5) = m ((c.tc : Thread Cert.InUpdKernelIdeal.nD Cert.InUpdKernelIdeal.τ).loc Cert.InUpdKernelIdeal.main_arg5))
      ∧ θ_run (Cert.InUpdReferenceIdeal.defs (F := Ideal)) (onTc (τ := Cert.InUpdReferenceIdeal.τ) (Cert.InUpdReferenceIdeal.main (F := Ideal))) ⟨m', fun _ => 0, g'⟩ (fun r => ∀ c : Dev Cert.InUpdReferenceIdeal.nD,
          r.2.mem ((c.tc : Thread Cert.InUpdReferenceIdeal.nD Cert.InUpdReferenceIdeal.τ).loc Cert.InUpdReferenceIdeal.main_v29) = v0 c
          ∧ r.2.mem ((c.tc : Thread Cert.InUpdReferenceIdeal.nD Cert.InUpdReferenceIdeal.τ).loc Cert.InUpdReferenceIdeal.main_v53) = v1 c
          ∧ r.2.mem ((c.tc : Thread Cert.InUpdReferenceIdeal.nD Cert.InUpdReferenceIdeal.τ).loc Cert.InUpdReferenceIdeal.main_v34) = v2 c
          ∧ r.2.mem ((c.tc : Thread Cert.InUpdReferenceIdeal.nD Cert.InUpdReferenceIdeal.τ).loc Cert.InUpdReferenceIdeal.main_v40) = v3 c
          ∧ r.2.mem ((c.tc : Thread Cert.InUpdReferenceIdeal.nD Cert.InUpdReferenceIdeal.τ).loc Cert.InUpdReferenceIdeal.main_arg0) = m' ((c.tc : Thread Cert.InUpdReferenceIdeal.nD Cert.InUpdReferenceIdeal.τ).loc Cert.InUpdReferenceIdeal.main_arg0)
          ∧ r.2.mem ((c.tc : Thread Cert.InUpdReferenceIdeal.nD Cert.InUpdReferenceIdeal.τ).loc Cert.InUpdReferenceIdeal.main_arg1) = m' ((c.tc : Thread Cert.InUpdReferenceIdeal.nD Cert.InUpdReferenceIdeal.τ).loc Cert.InUpdReferenceIdeal.main_arg1)
          ∧ r.2.mem ((c.tc : Thread Cert.InUpdReferenceIdeal.nD Cert.InUpdReferenceIdeal.τ).loc Cert.InUpdReferenceIdeal.main_arg2) = m' ((c.tc : Thread Cert.InUpdReferenceIdeal.nD Cert.InUpdReferenceIdeal.τ).loc Cert.InUpdReferenceIdeal.main_arg2)
          ∧ r.2.mem ((c.tc : Thread Cert.InUpdReferenceIdeal.nD Cert.InUpdReferenceIdeal.τ).loc Cert.InUpdReferenceIdeal.main_arg3) = m' ((c.tc : Thread Cert.InUpdReferenceIdeal.nD Cert.InUpdReferenceIdeal.τ).loc Cert.InUpdReferenceIdeal.main_arg3)
          ∧ r.2.mem ((c.tc : Thread Cert.InUpdReferenceIdeal.nD Cert.InUpdReferenceIdeal.τ).loc Cert.InUpdReferenceIdeal.main_arg4) = m' ((c.tc : Thread Cert.InUpdReferenceIdeal.nD Cert.InUpdReferenceIdeal.τ).loc Cert.InUpdReferenceIdeal.main_arg4)
          ∧ r.2.mem ((c.tc : Thread Cert.InUpdReferenceIdeal.nD Cert.InUpdReferenceIdeal.τ).loc Cert.InUpdReferenceIdeal.main_arg5) = m' ((c.tc : Thread Cert.InUpdReferenceIdeal.nD Cert.InUpdReferenceIdeal.τ).loc Cert.InUpdReferenceIdeal.main_arg5))

def Claim : Prop :=
  ∃ (hPostKernel : Cert.PostKernel.Facts) (hPostKernelIdeal : Cert.PostKernelIdeal.Facts) (hPostReferenceIdeal : Cert.PostReferenceIdeal.Facts) (hDxKernel : Cert.DxKernel.Facts) (hDxKernelIdeal : Cert.DxKernelIdeal.Facts) (hDxReferenceIdeal : Cert.DxReferenceIdeal.Facts) (hWoutKernel : Cert.WoutKernel.Facts) (hWoutKernelIdeal : Cert.WoutKernelIdeal.Facts) (hWoutReferenceIdeal : Cert.WoutReferenceIdeal.Facts) (hWff1Kernel : Cert.Wff1Kernel.Facts) (hWff1KernelIdeal : Cert.Wff1KernelIdeal.Facts) (hWff1ReferenceIdeal : Cert.Wff1ReferenceIdeal.Facts) (hWff2Kernel : Cert.Wff2Kernel.Facts) (hWff2KernelIdeal : Cert.Wff2KernelIdeal.Facts) (hWff2ReferenceIdeal : Cert.Wff2ReferenceIdeal.Facts) (hInKernel : Cert.InKernel.Facts) (hInKernelIdeal : Cert.InKernelIdeal.Facts) (hInReferenceIdeal : Cert.InReferenceIdeal.Facts) (hWinKernel : Cert.WinKernel.Facts) (hWinKernelIdeal : Cert.WinKernelIdeal.Facts) (hWinReferenceIdeal : Cert.WinReferenceIdeal.Facts) (hGainKernel : Cert.GainKernel.Facts) (hGainKernelIdeal : Cert.GainKernelIdeal.Facts) (hGainReferenceIdeal : Cert.GainReferenceIdeal.Facts) (hGateKernel : Cert.GateKernel.Facts) (hGateKernelIdeal : Cert.GateKernelIdeal.Facts) (hGateReferenceIdeal : Cert.GateReferenceIdeal.Facts) (hGateBKernel : Cert.GateBKernel.Facts) (hGateBKernelIdeal : Cert.GateBKernelIdeal.Facts) (hGateBReferenceIdeal : Cert.GateBReferenceIdeal.Facts) (hGlaNormKernel : Cert.GlaNormKernel.Facts) (hGlaNormKernelIdeal : Cert.GlaNormKernelIdeal.Facts) (hGlaNormReferenceIdeal : Cert.GlaNormReferenceIdeal.Facts) (hRelKernel : Cert.RelKernel.Facts) (hRelKernelIdeal : Cert.RelKernelIdeal.Facts) (hRelReferenceIdeal : Cert.RelReferenceIdeal.Facts) (hTotalKernel : Cert.TotalKernel.Facts) (hTotalKernelIdeal : Cert.TotalKernelIdeal.Facts) (hTotalReferenceIdeal : Cert.TotalReferenceIdeal.Facts) (hOutUpdKernel : Cert.OutUpdKernel.Facts) (hOutUpdKernelIdeal : Cert.OutUpdKernelIdeal.Facts) (hOutUpdReferenceIdeal : Cert.OutUpdReferenceIdeal.Facts) (hFfUpdKernel : Cert.FfUpdKernel.Facts) (hFfUpdKernelIdeal : Cert.FfUpdKernelIdeal.Facts) (hFfUpdReferenceIdeal : Cert.FfUpdReferenceIdeal.Facts) (hInUpdKernel : Cert.InUpdKernel.Facts) (hInUpdKernelIdeal : Cert.InUpdKernelIdeal.Facts) (hInUpdReferenceIdeal : Cert.InUpdReferenceIdeal.Facts) (hPre_outupd_chip : Cert.Pre_outupd_chip.Facts) (hPre_ffupd_chip : Cert.Pre_ffupd_chip.Facts) (hPre_inupd_chip : Cert.Pre_inupd_chip.Facts),
    quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ quiescent_Wff1Kernel (hWff1Kernel := hWff1Kernel)
    ∧ quiescent_Wff1KernelIdeal (hWff1KernelIdeal := hWff1KernelIdeal)
    ∧ quiescent_Wff1ReferenceIdeal (hWff1ReferenceIdeal := hWff1ReferenceIdeal)
    ∧ quiescent_Wff2Kernel (hWff2Kernel := hWff2Kernel)
    ∧ quiescent_Wff2KernelIdeal (hWff2KernelIdeal := hWff2KernelIdeal)
    ∧ quiescent_Wff2ReferenceIdeal (hWff2ReferenceIdeal := hWff2ReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_GateBKernel (hGateBKernel := hGateBKernel)
    ∧ quiescent_GateBKernelIdeal (hGateBKernelIdeal := hGateBKernelIdeal)
    ∧ quiescent_GateBReferenceIdeal (hGateBReferenceIdeal := hGateBReferenceIdeal)
    ∧ quiescent_GlaNormKernel (hGlaNormKernel := hGlaNormKernel)
    ∧ quiescent_GlaNormKernelIdeal (hGlaNormKernelIdeal := hGlaNormKernelIdeal)
    ∧ quiescent_GlaNormReferenceIdeal (hGlaNormReferenceIdeal := hGlaNormReferenceIdeal)
    ∧ quiescent_RelKernel (hRelKernel := hRelKernel)
    ∧ quiescent_RelKernelIdeal (hRelKernelIdeal := hRelKernelIdeal)
    ∧ quiescent_RelReferenceIdeal (hRelReferenceIdeal := hRelReferenceIdeal)
    ∧ quiescent_TotalKernel (hTotalKernel := hTotalKernel)
    ∧ quiescent_TotalKernelIdeal (hTotalKernelIdeal := hTotalKernelIdeal)
    ∧ quiescent_TotalReferenceIdeal (hTotalReferenceIdeal := hTotalReferenceIdeal)
    ∧ quiescent_OutUpdKernel (hOutUpdKernel := hOutUpdKernel) (hPre_outupd_chip := hPre_outupd_chip)
    ∧ quiescent_OutUpdKernelIdeal (hOutUpdKernelIdeal := hOutUpdKernelIdeal) (hPre_outupd_chip := hPre_outupd_chip)
    ∧ quiescent_OutUpdReferenceIdeal (hOutUpdReferenceIdeal := hOutUpdReferenceIdeal)
    ∧ quiescent_OutUpdReferenceIdeal_pre_outupd_chip (hOutUpdReferenceIdeal := hOutUpdReferenceIdeal) (hPre_outupd_chip := hPre_outupd_chip)
    ∧ quiescent_FfUpdKernel (hFfUpdKernel := hFfUpdKernel) (hPre_ffupd_chip := hPre_ffupd_chip)
    ∧ quiescent_FfUpdKernelIdeal (hFfUpdKernelIdeal := hFfUpdKernelIdeal) (hPre_ffupd_chip := hPre_ffupd_chip)
    ∧ quiescent_FfUpdReferenceIdeal (hFfUpdReferenceIdeal := hFfUpdReferenceIdeal)
    ∧ quiescent_FfUpdReferenceIdeal_pre_ffupd_chip (hFfUpdReferenceIdeal := hFfUpdReferenceIdeal) (hPre_ffupd_chip := hPre_ffupd_chip)
    ∧ quiescent_InUpdKernel (hInUpdKernel := hInUpdKernel) (hPre_inupd_chip := hPre_inupd_chip)
    ∧ quiescent_InUpdKernelIdeal (hInUpdKernelIdeal := hInUpdKernelIdeal) (hPre_inupd_chip := hPre_inupd_chip)
    ∧ quiescent_InUpdReferenceIdeal (hInUpdReferenceIdeal := hInUpdReferenceIdeal)
    ∧ quiescent_InUpdReferenceIdeal_pre_inupd_chip (hInUpdReferenceIdeal := hInUpdReferenceIdeal) (hPre_inupd_chip := hPre_inupd_chip)
    ∧ preserves_PostKernel_PostKernelIdeal
    ∧ algebraic_PostKernelIdeal_PostReferenceIdeal (hPostKernelIdeal := hPostKernelIdeal) (hPostReferenceIdeal := hPostReferenceIdeal)
    ∧ preserves_DxKernel_DxKernelIdeal
    ∧ algebraic_DxKernelIdeal_DxReferenceIdeal (hDxKernelIdeal := hDxKernelIdeal) (hDxReferenceIdeal := hDxReferenceIdeal)
    ∧ preserves_WoutKernel_WoutKernelIdeal
    ∧ algebraic_WoutKernelIdeal_WoutReferenceIdeal (hWoutKernelIdeal := hWoutKernelIdeal) (hWoutReferenceIdeal := hWoutReferenceIdeal)
    ∧ preserves_Wff1Kernel_Wff1KernelIdeal
    ∧ algebraic_Wff1KernelIdeal_Wff1ReferenceIdeal (hWff1KernelIdeal := hWff1KernelIdeal) (hWff1ReferenceIdeal := hWff1ReferenceIdeal)
    ∧ preserves_Wff2Kernel_Wff2KernelIdeal
    ∧ algebraic_Wff2KernelIdeal_Wff2ReferenceIdeal (hWff2KernelIdeal := hWff2KernelIdeal) (hWff2ReferenceIdeal := hWff2ReferenceIdeal)
    ∧ preserves_InKernel_InKernelIdeal
    ∧ algebraic_InKernelIdeal_InReferenceIdeal (hInKernelIdeal := hInKernelIdeal) (hInReferenceIdeal := hInReferenceIdeal)
    ∧ preserves_WinKernel_WinKernelIdeal
    ∧ algebraic_WinKernelIdeal_WinReferenceIdeal (hWinKernelIdeal := hWinKernelIdeal) (hWinReferenceIdeal := hWinReferenceIdeal)
    ∧ preserves_GainKernel_GainKernelIdeal
    ∧ algebraic_GainKernelIdeal_GainReferenceIdeal (hGainKernelIdeal := hGainKernelIdeal) (hGainReferenceIdeal := hGainReferenceIdeal)
    ∧ preserves_GateKernel_GateKernelIdeal
    ∧ algebraic_GateKernelIdeal_GateReferenceIdeal (hGateKernelIdeal := hGateKernelIdeal) (hGateReferenceIdeal := hGateReferenceIdeal)
    ∧ preserves_GateBKernel_GateBKernelIdeal
    ∧ algebraic_GateBKernelIdeal_GateBReferenceIdeal (hGateBKernelIdeal := hGateBKernelIdeal) (hGateBReferenceIdeal := hGateBReferenceIdeal)
    ∧ preserves_GlaNormKernel_GlaNormKernelIdeal
    ∧ algebraic_GlaNormKernelIdeal_GlaNormReferenceIdeal (hGlaNormKernelIdeal := hGlaNormKernelIdeal) (hGlaNormReferenceIdeal := hGlaNormReferenceIdeal)
    ∧ preserves_RelKernel_RelKernelIdeal
    ∧ algebraic_RelKernelIdeal_RelReferenceIdeal (hRelKernelIdeal := hRelKernelIdeal) (hRelReferenceIdeal := hRelReferenceIdeal)
    ∧ preserves_TotalKernel_TotalKernelIdeal
    ∧ algebraic_TotalKernelIdeal_TotalReferenceIdeal (hTotalKernelIdeal := hTotalKernelIdeal) (hTotalReferenceIdeal := hTotalReferenceIdeal)
    ∧ preserves_OutUpdKernel_OutUpdKernelIdeal
    ∧ algebraic_OutUpdKernelIdeal_OutUpdReferenceIdeal (hOutUpdKernelIdeal := hOutUpdKernelIdeal) (hOutUpdReferenceIdeal := hOutUpdReferenceIdeal) (hPre_outupd_chip := hPre_outupd_chip)
    ∧ preserves_FfUpdKernel_FfUpdKernelIdeal
    ∧ algebraic_FfUpdKernelIdeal_FfUpdReferenceIdeal (hFfUpdKernelIdeal := hFfUpdKernelIdeal) (hFfUpdReferenceIdeal := hFfUpdReferenceIdeal) (hPre_ffupd_chip := hPre_ffupd_chip)
    ∧ preserves_InUpdKernel_InUpdKernelIdeal
    ∧ algebraic_InUpdKernelIdeal_InUpdReferenceIdeal (hInUpdKernelIdeal := hInUpdKernelIdeal) (hInUpdReferenceIdeal := hInUpdReferenceIdeal) (hPre_inupd_chip := hPre_inupd_chip)
-- ==== Pre_ffupd_chip.lean ====
abbrev S8x1024x1024 : Shape := ⟨3, ![8, 1024, 1024]⟩
abbrev S4x1024x1024 : Shape := ⟨3, ![4, 1024, 1024]⟩
abbrev S2 : Shape := ⟨1, ![2]⟩
abbrev S1024x1024 : Shape := ⟨2, ![1024, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S8x1024x1024 .bf16) (main_arg1 : FVec F S4x1024x1024 .bf16) (main_arg2 : IVec S2 32) (main_arg3 : FVec F S1024x1024 .f32) (main_arg4 : FVec F S1024x1024 .f32) (main_arg5 : FVec F S1024x1024 .f32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== Pre_inupd_chip.lean ====
abbrev S8x1024x772 : Shape := ⟨3, ![8, 1024, 772]⟩
abbrev S4x1024x772 : Shape := ⟨3, ![4, 1024, 772]⟩
abbrev S2 : Shape := ⟨1, ![2]⟩
abbrev S1024x772 : Shape := ⟨2, ![1024, 772]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S8x1024x772 .bf16) (main_arg1 : FVec F S4x1024x772 .bf16) (main_arg2 : IVec S2 32) (main_arg3 : FVec F S1024x772 .f32) (main_arg4 : FVec F S1024x772 .f32) (main_arg5 : FVec F S1024x772 .f32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== Pre_outupd_chip.lean ====
abbrev S8x256x1024 : Shape := ⟨3, ![8, 256, 1024]⟩
abbrev S4x256x1024 : Shape := ⟨3, ![4, 256, 1024]⟩
abbrev S2 : Shape := ⟨1, ![2]⟩
abbrev S256x1024 : Shape := ⟨2, ![256, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S8x256x1024 .bf16) (main_arg1 : FVec F S4x256x1024 .bf16) (main_arg2 : IVec S2 32) (main_arg3 : FVec F S256x1024 .f32) (main_arg4 : FVec F S256x1024 .f32) (main_arg5 : FVec F S256x1024 .f32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== PostKernel.lean ====
abbrev S8192x1024 : Shape := ⟨2, ![8192, 1024]⟩
abbrev S8192x512 : Shape := ⟨2, ![8192, 512]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S1x1 : Shape := ⟨2, ![1, 1]⟩
abbrev S256x1024 : Shape := ⟨2, ![256, 1024]⟩
abbrev S256x512 : Shape := ⟨2, ![256, 512]⟩
abbrev S256x4096 : Shape := ⟨2, ![256, 4096]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩
abbrev S1024 : Shape := ⟨1, ![1024]⟩

abbrev nBuf : Space → Nat
  | .hbm => 24
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024x1024, .bf16⟩
  | .hbm, ⟨10, _⟩ => ⟨S4096x1024, .bf16⟩
  | .hbm, ⟨11, _⟩ => ⟨S1024x4096, .bf16⟩
  | .hbm, ⟨12, _⟩ => ⟨S1024x4x1024, .bf16⟩
  | .hbm, ⟨13, _⟩ => ⟨S4x1024x1024, .bf16⟩
  | .hbm, ⟨14, _⟩ => ⟨S8192x1024, .bf16⟩
  | .hbm, ⟨15, _⟩ => ⟨S8192x1024, .bf16⟩
  | .hbm, ⟨16, _⟩ => ⟨S8192x4096, .bf16⟩
  | .hbm, ⟨17, _⟩ => ⟨S8192x4096, .bf16⟩
  | .hbm, ⟨18, _⟩ => ⟨S8192x1024, .bf16⟩
  | .hbm, ⟨19, _⟩ => ⟨S8192x1024, .f32⟩
  | .hbm, ⟨20, _⟩ => ⟨S8192x1024, .f32⟩
  | .hbm, ⟨21, _⟩ => ⟨S1x1, .f32⟩
  | .hbm, ⟨22, _⟩ => ⟨S1x1024, .f32⟩
  | .hbm, ⟨23, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S4x1024x1024, .bf16⟩
  | .local _ .vmem, ⟨29, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v5_8 : Ref sig .tc := ⟨.hbm, 22, rfl⟩
abbrev main_v5_9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostReferenceIdeal.lean ====
abbrev S8192x1024 : Shape := ⟨2, ![8192, 1024]⟩
abbrev S8192x512 : Shape := ⟨2, ![8192, 512]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .f32⟩
  | 3 => ⟨S8192x1024, .f32⟩
  | 4 => ⟨S1x1024, .f32⟩
  | 5 => ⟨S1x1024, .f32⟩
  | 6 => ⟨S1024x1024, .f32⟩
  | 7 => ⟨S1024x4096, .f32⟩
  | 8 => ⟨S4096x1024, .f32⟩
  | 9 => ⟨S8192x512, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S8192x4096, .f32⟩
  | 33 => ⟨S_, .f32⟩
  | 34 => ⟨S8192x4096, .f32⟩
  | 35 => ⟨S8192x4096, .f32⟩
  | 36 => ⟨S_, .f32⟩
  | 37 => ⟨S8192x4096, .f32⟩
  | 38 => ⟨S8192x4096, .i1⟩
  | 39 => ⟨S_, .f32⟩
  | 40 => ⟨S8192x4096, .f32⟩
  | 41 => ⟨S8192x4096, .f32⟩
  | 42 => ⟨S_, .f32⟩
  | 43 => ⟨S8192x4096, .f32⟩
  | 44 => ⟨S8192x4096, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192, .f32⟩
  | 73 => ⟨S_, .f32⟩
  | 74 => ⟨S8192, .f32⟩
  | 75 => ⟨S8192, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S8192, .f32⟩
  | 84 => ⟨S_, .f32⟩
  | 85 => ⟨S8192, .f32⟩
  | 86 => ⟨S8192, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S_, .f32⟩
  | 97 => ⟨S8192, .f32⟩
  | 98 => ⟨S8192x1, .f32⟩
  | 99 => ⟨S8192x1024, .f32⟩
  | 100 => ⟨S8192x1024, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x4096, .f32⟩
  | 113 => ⟨S8192x4096, .f32⟩
  | 114 => ⟨S_, .f32⟩
  | 115 => ⟨S8192x4096, .f32⟩
  | 116 => ⟨S8192x4096, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .bf16⟩
  | 16 => ⟨S8192x1024, .bf16⟩
  | 17 => ⟨S8192x4096, .bf16⟩
  | 18 => ⟨S8192x4096, .bf16⟩
  | 19 => ⟨S8192x1024, .bf16⟩
  | 20 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_cst_14 : Ref sig .tc := ⟨.hbm, 78, rfl⟩
abbrev main_v52 : Ref sig .tc := ⟨.hbm, 79, rfl⟩
abbrev main_cst_15 : Ref sig .tc := ⟨.hbm, 80, rfl⟩
abbrev main_cst_16 : Ref sig .tc := ⟨.hbm, 81, rfl⟩
abbrev main_v53 : Ref sig .tc := ⟨.hbm, 82, rfl⟩
abbrev main_v54 : Ref sig .tc := ⟨.hbm, 83, rfl⟩
abbrev main_cst_17 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_18 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_19 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_20 : Ref sig .tc := ⟨.hbm, 102, rfl⟩
abbrev main_v70 : Ref sig .tc := ⟨.hbm, 103, rfl⟩
abbrev main_v71 : Ref sig .tc := ⟨.hbm, 104, rfl⟩
abbrev main_cst_21 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_22 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_23 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_24 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_25 : Ref sig .tc := ⟨.hbm, 131, rfl⟩
abbrev main_v94 : Ref sig .tc := ⟨.hbm, 132, rfl⟩
abbrev main_v95 : Ref sig .tc := ⟨.hbm, 133, rfl⟩
abbrev main_cst_26 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== DxKernel.lean ====
abbrev S8192x1024 : Shape := ⟨2, ![8192, 1024]⟩
abbrev S1x1024 : Shape := ⟨2, ![1, 1024]⟩
abbrev S8192x1664 : Shape := ⟨2, ![8192, 1664]⟩
abbrev S8192x512 : Shape := ⟨2, ![8192, 512]⟩
abbrev S1024x3088 : Shape := ⟨2, ![1024, 3088]⟩
abbrev S1024x1552 : Shape := ⟨2, ![1024, 1552]⟩
abbrev S_ : Shape := ⟨0, ![]⟩
abbrev S1024x112 : Shape := ⟨2, ![1024, 112]⟩
abbrev S1024x1536 : Shape := ⟨2, ![1024, 1536]⟩
abbrev S1024x3200 : Shape := ⟨2, ![1024, 3200]⟩
abbrev S512x1024 : Shape := ⟨2, ![512, 1024]⟩
abbrev S512x1664 : Shape := ⟨2, ![512, 1664]⟩
abbrev S512x512 : Shape := ⟨2, ![512, 512]⟩
abbrev S1024x1664 : Shape := ⟨2, ![1024, 1664]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 16
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1664, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x3088, .f32⟩
  | .hbm, ⟨8, _⟩ => ⟨S1024x3088, .bf16⟩
  | .hbm, ⟨9, _⟩ => ⟨S1024x1552, .bf16⟩
  | .hbm, ⟨10, _⟩ => ⟨S_, .bf16⟩
  | .hbm, ⟨11, _⟩ => ⟨S1024x112, .bf16⟩
  | .hbm, ⟨12, _⟩ => ⟨S1024x1536, .bf16⟩
  | .hbm, ⟨13, _⟩ => ⟨S1024x3200, .bf16⟩
  | .hbm, ⟨14, _⟩ => ⟨S8192x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1664, .bf16⟩
  | .local _ .vmem, ⟨6, _⟩ => ⟨S512x1664, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x3200, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DxReferenceIdeal.lean ====
abbrev S8192x1024 : Shape := ⟨2, ![8192, 1024]⟩
abbrev S1x1024 : Shape := ⟨2, ![1, 1024]⟩
abbrev S8192x1664 : Shape := ⟨2, ![8192, 1664]⟩
abbrev S8192x512 : Shape := ⟨2, ![8192, 512]⟩
abbrev S1024x3088 : Shape := ⟨2, ![1024, 3088]⟩
abbrev S8192x1552 : Shape := ⟨2, ![8192, 1552]⟩
abbrev S8192x3088 : Shape := ⟨2, ![8192, 3088]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1664, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x3088, .f32⟩
  | .hbm, ⟨8, _⟩ => ⟨S8192x1552, .bf16⟩
  | .hbm, ⟨9, _⟩ => ⟨S8192x3088, .bf16⟩
  | .hbm, ⟨10, _⟩ => ⟨S8192x3088, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x3088, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== WoutKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wff1Kernel.lean ====
abbrev S8192x1024 : Shape := ⟨2, ![8192, 1024]⟩
abbrev S8192x4096 : Shape := ⟨2, ![8192, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Wff1ReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Wff2Kernel.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Wff2ReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InKernel.lean ====
abbrev S8192x1024 : Shape := ⟨2, ![8192, 1024]⟩
abbrev S1x1024 : Shape := ⟨2, ![1, 1024]⟩
abbrev S1024x3088 : Shape := ⟨2, ![1024, 3088]⟩
abbrev S1024x1552 : Shape := ⟨2, ![1024, 1552]⟩
abbrev S_ : Shape := ⟨0, ![]⟩
abbrev S1024x112 : Shape := ⟨2, ![1024, 112]⟩
abbrev S1024x1536 : Shape := ⟨2, ![1024, 1536]⟩
abbrev S1024x3200 : Shape := ⟨2, ![1024, 3200]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S1024x3088, .bf16⟩
  | .hbm, ⟨4, _⟩ => ⟨S1024x1552, .bf16⟩
  | .hbm, ⟨5, _⟩ => ⟨S_, .bf16⟩
  | .hbm, ⟨6, _⟩ => ⟨S1024x112, .bf16⟩
  | .hbm, ⟨7, _⟩ => ⟨S1024x1536, .bf16⟩
  | .hbm, ⟨8, _⟩ => ⟨S1024x3200, .bf16⟩
  | .hbm, ⟨9, _⟩ => ⟨S8192x3200, .f32⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x3200, .f32⟩
  | .local _ .vmem, ⟨4, _⟩ => ⟨S512x3200, .f32⟩
  | .local _ .vmem, ⟨5, _⟩ => ⟨S512x1024, .bf16⟩
  | .local _ .vmem, ⟨6, _⟩ => ⟨S512x1024, .bf16⟩
  | .local _ .vmem, ⟨7, _⟩ => ⟨S1024x3200, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InReferenceIdeal.lean ====
abbrev S8192x1024 : Shape := ⟨2, ![8192, 1024]⟩
abbrev S1x1024 : Shape := ⟨2, ![1, 1024]⟩
abbrev S1024x3088 : Shape := ⟨2, ![1024, 3088]⟩
abbrev S_ : Shape := ⟨0, ![]⟩
abbrev S8192 : Shape := ⟨1, ![8192]⟩
abbrev S8192x1 : Shape := ⟨2, ![8192, 1]⟩
abbrev S8192x3088 : Shape := ⟨2, ![8192, 3088]⟩
abbrev S8192x112 : Shape := ⟨2, ![8192, 112]⟩
abbrev S8192x1552 : Shape := ⟨2, ![8192, 1552]⟩
abbrev S8192x1536 : Shape := ⟨2, ![8192, 1536]⟩
abbrev S8192x3200 : Shape := ⟨2, ![8192, 3200]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3088, .f32⟩
  | .hbm, ⟨19, _⟩ => ⟨S_, .f32⟩
  | .hbm, ⟨20, _⟩ => ⟨S8192x112, .f32⟩
  | .hbm, ⟨21, _⟩ => ⟨S8192x1552, .f32⟩
  | .hbm, ⟨22, _⟩ => ⟨S8192x1536, .f32⟩
  | .hbm, ⟨23, _⟩ => ⟨S8192x3200, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== WinKernel.lean ====
abbrev S8192x1024 : Shape := ⟨2, ![8192, 1024]⟩
abbrev S8192x1664 : Shape := ⟨2, ![8192, 1664]⟩
abbrev S8192x512 : Shape := ⟨2, ![8192, 512]⟩
abbrev S1024x3200 : Shape := ⟨2, ![1024, 3200]⟩
abbrev S1024x1024 : Shape := ⟨2, ![1024, 1024]⟩
abbrev S1024x1664 : Shape := ⟨2, ![1024, 1664]⟩
abbrev S1024x512 : Shape := ⟨2, ![1024, 512]⟩
abbrev S1024x1552 : Shape := ⟨2, ![1024, 1552]⟩
abbrev S1024x1536 : Shape := ⟨2, ![1024, 1536]⟩
abbrev S1024x3088 : Shape := ⟨2, ![1024, 3088]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x3200, .bf16⟩
  | .hbm, ⟨6, _⟩ => ⟨S1024x1552, .bf16⟩
  | .hbm, ⟨7, _⟩ => ⟨S1024x1536, .bf16⟩
  | .hbm, ⟨8, _⟩ => ⟨S1024x3088, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x3200, .bf16⟩
  | .local _ .vmem, ⟨11, _⟩ => ⟨S1024x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== WinReferenceIdeal.lean ====
abbrev S8192x1024 : Shape := ⟨2, ![8192, 1024]⟩
abbrev S8192x1664 : Shape := ⟨2, ![8192, 1664]⟩
abbrev S8192x512 : Shape := ⟨2, ![8192, 512]⟩
abbrev S8192x1552 : Shape := ⟨2, ![8192, 1552]⟩
abbrev S8192x3088 : Shape := ⟨2, ![8192, 3088]⟩
abbrev S_ : Shape := ⟨0, ![]⟩
abbrev S1024x3088 : Shape := ⟨2, ![1024, 3088]⟩
abbrev S3088x1024 : Shape := ⟨2, ![3088, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x1552, .bf16⟩
  | .hbm, ⟨6, _⟩ => ⟨S8192x3088, .bf16⟩
  | .hbm, ⟨7, _⟩ => ⟨S_, .f32⟩
  | .hbm, ⟨8, _⟩ => ⟨S1024x3088, .f32⟩
  | .hbm, ⟨9, _⟩ => ⟨S8192x1024, .f32⟩
  | .hbm, ⟨10, _⟩ => ⟨S8192x3088, .f32⟩
  | .hbm, ⟨11, _⟩ => ⟨S8192x3088, .f32⟩
  | .hbm, ⟨12, _⟩ => ⟨S3088x1024, .f32⟩
  | .hbm, ⟨13, _⟩ => ⟨S1024x3088, .f32⟩
  | .hbm, ⟨14, _⟩ => ⟨S1024x3088, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== GainKernel.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GainReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GateKernel.lean ====
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GateReferenceIdeal.lean ====
abbrev S16x64 : Shape := ⟨2, ![16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S_, .f32⟩
  | .hbm, ⟨5, _⟩ => ⟨S16x64, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S_, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S_, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S_, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GateBKernel.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GateBReferenceIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GlaNormKernel.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GlaNormReferenceIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RelKernel.lean ====
abbrev S32x8 : Shape := ⟨2, ![32, 8]⟩

abbrev nBuf : Space → Nat
  | .hbm => 7
  | .vmem => 7
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S32x8, .f32⟩
  | .hbm, ⟨5, _⟩ => ⟨S32x8, .f32⟩
  | .hbm, ⟨6, _⟩ => ⟨S32x8, .f32⟩
  | .local _ .vmem, ⟨0, _⟩ => ⟨S32x8, .f32⟩
  | .local _ .vmem, ⟨1, _⟩ => ⟨S32x8, .f32⟩
  | .local _ .vmem, ⟨2, _⟩ => ⟨S32x8, .f32⟩
  | .local _ .vmem, ⟨3, _⟩ => ⟨S32x8, .f32⟩
  | .local _ .vmem, ⟨4, _⟩ => ⟨S32x8, .f32⟩
  | .local _ .vmem, ⟨5, _⟩ => ⟨S32x8, .f32⟩
  | .local _ .vmem, ⟨6, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RelReferenceIdeal.lean ====
abbrev S32x8 : Shape := ⟨2, ![32, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S_, .f32⟩
  | .hbm, ⟨5, _⟩ => ⟨S32x8, .f32⟩
  | .hbm, ⟨6, _⟩ => ⟨S32x8, .f32⟩
  | .hbm, ⟨7, _⟩ => ⟨S_, .f32⟩
  | .hbm, ⟨8, _⟩ => ⟨S32x8, .f32⟩
  | .hbm, ⟨9, _⟩ => ⟨S32x8, .f32⟩
  | .hbm, ⟨10, _⟩ => ⟨S32x8, .f32⟩
  | .hbm, ⟨11, _⟩ => ⟨S_, .f32⟩
  | .hbm, ⟨12, _⟩ => ⟨S32x8, .f32⟩
  | .hbm, ⟨13, _⟩ => ⟨S32x8, .f32⟩
  | .hbm, ⟨14, _⟩ => ⟨S32x8, .f32⟩
  | .hbm, ⟨15, _⟩ => ⟨S_, .f32⟩
  | .hbm, ⟨16, _⟩ => ⟨S32x8, .f32⟩
  | .hbm, ⟨17, _⟩ => ⟨S32x8, .f32⟩
  | .hbm, ⟨18, _⟩ => ⟨S32x8, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S_, .f32⟩
  | .hbm, ⟨23, _⟩ => ⟨S32x8, .f32⟩
  | .hbm, ⟨24, _⟩ => ⟨S32x8, .f32⟩
  | .hbm, ⟨25, _⟩ => ⟨S32x8, .f32⟩
  | .hbm, ⟨26, _⟩ => ⟨S_, .f32⟩
  | .hbm, ⟨27, _⟩ => ⟨S32x8, .f32⟩
  | .hbm, ⟨28, _⟩ => ⟨S32x8, .f32⟩
  | .hbm, ⟨29, _⟩ => ⟨S32x8, .f32⟩
  | .hbm, ⟨30, _⟩ => ⟨S_, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S_, .f32⟩
  | .hbm, ⟨35, _⟩ => ⟨S32x8, .f32⟩
  | .hbm, ⟨36, _⟩ => ⟨S32x8, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== TotalKernel.lean ====
abbrev S8x72x128 : Shape := ⟨3, ![8, 72, 128]⟩
abbrev S72x128 : Shape := ⟨2, ![72, 128]⟩
abbrev S1x72x128 : Shape := ⟨3, ![1, 72, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .local _ .vmem, ⟨0, _⟩ => ⟨S8x72x128, .f32⟩
  | .local _ .vmem, ⟨1, _⟩ => ⟨S72x128, .f32⟩
  | _, _ => ⟨S8x72x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== TotalReferenceIdeal.lean ====
abbrev S8x72x128 : Shape := ⟨3, ![8, 72, 128]⟩
abbrev S_ : Shape := ⟨0, ![]⟩
abbrev S72x128 : Shape := ⟨2, ![72, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x72x128, .f32⟩
  | .hbm, ⟨1, _⟩ => ⟨S_, .f32⟩
  | .hbm, ⟨2, _⟩ => ⟨S72x128, .f32⟩
  | _, _ => ⟨S8x72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutUpdKernel.lean ====
abbrev S8x256x1024 : Shape := ⟨3, ![8, 256, 1024]⟩
abbrev S4x256x1024 : Shape := ⟨3, ![4, 256, 1024]⟩
abbrev S2 : Shape := ⟨1, ![2]⟩
abbrev S256x1024 : Shape := ⟨2, ![256, 1024]⟩
abbrev S8x128x1024 : Shape := ⟨3, ![8, 128, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x256x1024, .bf16⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S2, .i32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutUpdReferenceIdeal.lean ====
abbrev S8x256x1024 : Shape := ⟨3, ![8, 256, 1024]⟩
abbrev S4x256x1024 : Shape := ⟨3, ![4, 256, 1024]⟩
abbrev S2 : Shape := ⟨1, ![2]⟩
abbrev S256x1024 : Shape := ⟨2, ![256, 1024]⟩
abbrev S1 : Shape := ⟨1, ![1]⟩
abbrev S_ : Shape := ⟨0, ![]⟩
abbrev S1x256x1024 : Shape := ⟨3, ![1, 256, 1024]⟩
abbrev S8 : Shape := ⟨1, ![8]⟩
abbrev S8x1x1 : Shape := ⟨3, ![8, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S4x256x1024, .bf16⟩
  | .hbm, ⟨2, _⟩ => ⟨S2, .i32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1x256x1024, .bf16⟩
  | .hbm, ⟨11, _⟩ => ⟨S256x1024, .bf16⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1x256x1024, .bf16⟩
  | .hbm, ⟨17, _⟩ => ⟨S256x1024, .bf16⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x256x1024, .bf16⟩
  | .hbm, ⟨23, _⟩ => ⟨S256x1024, .bf16⟩
  | .hbm, ⟨24, _⟩ => ⟨S1x256x1024, .bf16⟩
  | .hbm, ⟨25, _⟩ => ⟨S256x1024, .bf16⟩
  | .hbm, ⟨26, _⟩ => ⟨S256x1024, .bf16⟩
  | .hbm, ⟨27, _⟩ => ⟨S256x1024, .bf16⟩
  | .hbm, ⟨28, _⟩ => ⟨S256x1024, .bf16⟩
  | .hbm, ⟨29, _⟩ => ⟨S8, .i32⟩
  | .hbm, ⟨30, _⟩ => ⟨S8x1x1, .i32⟩
  | .hbm, ⟨31, _⟩ => ⟨S1, .i32⟩
  | .hbm, ⟨32, _⟩ => ⟨S_, .i32⟩
  | .hbm, ⟨33, _⟩ => ⟨S8x1x1, .i32⟩
  | .hbm, ⟨34, _⟩ => ⟨S8x1x1, .i1⟩
  | .hbm, ⟨35, _⟩ => ⟨S1x256x1024, .bf16⟩
  | .hbm, ⟨36, _⟩ => ⟨S8x256x1024, .i1⟩
  | .hbm, ⟨37, _⟩ => ⟨S8x256x1024, .bf16⟩
  | .hbm, ⟨38, _⟩ => ⟨S8x256x1024, .bf16⟩
  | .hbm, ⟨39, _⟩ => ⟨S8x256x1024, .f32⟩
  | .hbm, ⟨40, _⟩ => ⟨S_, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S256x1024, .f32⟩
  | .hbm, ⟨55, _⟩ => ⟨S256x1024, .f32⟩
  | .hbm, ⟨56, _⟩ => ⟨S256x1024, .f32⟩
  | .hbm, ⟨57, _⟩ => ⟨S_, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S_, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S_, .f32⟩
  | .hbm, ⟨69, _⟩ => ⟨S256x1024, .f32⟩
  | .hbm, ⟨70, _⟩ => ⟨S256x1024, .f32⟩
  | .hbm, ⟨71, _⟩ => ⟨S256x1024, .f32⟩
  | .hbm, ⟨72, _⟩ => ⟨S_, .f32⟩
  | .hbm, ⟨73, _⟩ => ⟨S256x1024, .f32⟩
  | .hbm, ⟨74, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call3_v0 : Ref sig .tc := ⟨.hbm, 36, rfl⟩
abbrev main_call3_v1 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== FfUpdKernel.lean ====
abbrev S8x1024x1024 : Shape := ⟨3, ![8, 1024, 1024]⟩
abbrev S4x1024x1024 : Shape := ⟨3, ![4, 1024, 1024]⟩
abbrev S2 : Shape := ⟨1, ![2]⟩
abbrev S1024x1024 : Shape := ⟨2, ![1024, 1024]⟩
abbrev S8x128x1024 : Shape := ⟨3, ![8, 128, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x1024, .bf16⟩
  | .hbm, ⟨1, _⟩ => ⟨S4x1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S2, .i32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfUpdReferenceIdeal.lean ====
abbrev S8x1024x1024 : Shape := ⟨3, ![8, 1024, 1024]⟩
abbrev S4x1024x1024 : Shape := ⟨3, ![4, 1024, 1024]⟩
abbrev S2 : Shape := ⟨1, ![2]⟩
abbrev S1024x1024 : Shape := ⟨2, ![1024, 1024]⟩
abbrev S1 : Shape := ⟨1, ![1]⟩
abbrev S_ : Shape := ⟨0, ![]⟩
abbrev S1x1024x1024 : Shape := ⟨3, ![1, 1024, 1024]⟩
abbrev S8 : Shape := ⟨1, ![8]⟩
abbrev S8x1x1 : Shape := ⟨3, ![8, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S4x1024x1024, .bf16⟩
  | .hbm, ⟨2, _⟩ => ⟨S2, .i32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1x1024x1024, .bf16⟩
  | .hbm, ⟨11, _⟩ => ⟨S1024x1024, .bf16⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1x1024x1024, .bf16⟩
  | .hbm, ⟨17, _⟩ => ⟨S1024x1024, .bf16⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x1024x1024, .bf16⟩
  | .hbm, ⟨23, _⟩ => ⟨S1024x1024, .bf16⟩
  | .hbm, ⟨24, _⟩ => ⟨S1x1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S8, .i32⟩
  | .hbm, ⟨30, _⟩ => ⟨S8x1x1, .i32⟩
  | .hbm, ⟨31, _⟩ => ⟨S1, .i32⟩
  | .hbm, ⟨32, _⟩ => ⟨S_, .i32⟩
  | .hbm, ⟨33, _⟩ => ⟨S8x1x1, .i32⟩
  | .hbm, ⟨34, _⟩ => ⟨S8x1x1, .i1⟩
  | .hbm, ⟨35, _⟩ => ⟨S1x1024x1024, .bf16⟩
  | .hbm, ⟨36, _⟩ => ⟨S8x1024x1024, .i1⟩
  | .hbm, ⟨37, _⟩ => ⟨S8x1024x1024, .bf16⟩
  | .hbm, ⟨38, _⟩ => ⟨S8x1024x1024, .bf16⟩
  | .hbm, ⟨39, _⟩ => ⟨S8x1024x1024, .f32⟩
  | .hbm, ⟨40, _⟩ => ⟨S_, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S_, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S_, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S_, .f32⟩
  | .hbm, ⟨73, _⟩ => ⟨S1024x1024, .f32⟩
  | .hbm, ⟨74, _⟩ => ⟨S1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call3_v0 : Ref sig .tc := ⟨.hbm, 36, rfl⟩
abbrev main_call3_v1 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== InUpdKernel.lean ====
abbrev S8x1024x772 : Shape := ⟨3, ![8, 1024, 772]⟩
abbrev S4x1024x772 : Shape := ⟨3, ![4, 1024, 772]⟩
abbrev S2 : Shape := ⟨1, ![2]⟩
abbrev S1024x772 : Shape := ⟨2, ![1024, 772]⟩
abbrev S8x128x772 : Shape := ⟨3, ![8, 128, 772]⟩
abbrev S1x128x772 : Shape := ⟨3, ![1, 128, 772]⟩
abbrev S1 : Shape := ⟨1, ![1]⟩
abbrev S128x772 : Shape := ⟨2, ![128, 772]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x772, .bf16⟩
  | .hbm, ⟨1, _⟩ => ⟨S4x1024x772, .bf16⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .hbm, ⟨7, _⟩ => ⟨S1024x772, .f32⟩
  | .hbm, ⟨8, _⟩ => ⟨S1024x772, .f32⟩
  | .local _ .vmem, ⟨0, _⟩ => ⟨S8x128x772, .bf16⟩
  | .local _ .vmem, ⟨1, _⟩ => ⟨S8x128x772, .bf16⟩
  | .local _ .vmem, ⟨2, _⟩ => ⟨S1x128x772, .bf16⟩
  | .local _ .vmem, ⟨3, _⟩ => ⟨S1x128x772, .bf16⟩
  | .local _ .vmem, ⟨4, _⟩ => ⟨S128x772, .f32⟩
  | .local _ .vmem, ⟨5, _⟩ => ⟨S128x772, .f32⟩
  | .local _ .vmem, ⟨6, _⟩ => ⟨S128x772, .f32⟩
  | .local _ .vmem, ⟨7, _⟩ => ⟨S128x772, .f32⟩
  | .local _ .vmem, ⟨8, _⟩ => ⟨S128x772, .f32⟩
  | .local _ .vmem, ⟨9, _⟩ => ⟨S128x772, .f32⟩
  | .local _ .vmem, ⟨10, _⟩ => ⟨S128x772, .f32⟩
  | .local _ .vmem, ⟨11, _⟩ => ⟨S128x772, .f32⟩
  | .local _ .vmem, ⟨12, _⟩ => ⟨S128x772, .f32⟩
  | .local _ .vmem, ⟨13, _⟩ => ⟨S128x772, .f32⟩
  | .local _ .vmem, ⟨14, _⟩ => ⟨S128x772, .f32⟩
  | .local _ .vmem, ⟨15, _⟩ => ⟨S128x772, .f32⟩
  | .local _ .vmem, ⟨16, _⟩ => ⟨S128x772, .f32⟩
  | .local _ .vmem, ⟨17, _⟩ => ⟨S128x772, .f32⟩
  | .local _ .smem, ⟨0, _⟩ => ⟨S2, .i32⟩
  | _, _ => ⟨S8x1024x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x772 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x772 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InUpdReferenceIdeal.lean ====
abbrev S8x1024x772 : Shape := ⟨3, ![8, 1024, 772]⟩
abbrev S4x1024x772 : Shape := ⟨3, ![4, 1024, 772]⟩
abbrev S2 : Shape := ⟨1, ![2]⟩
abbrev S1024x772 : Shape := ⟨2, ![1024, 772]⟩
abbrev S1 : Shape := ⟨1, ![1]⟩
abbrev S_ : Shape := ⟨0, ![]⟩
abbrev S1x1024x772 : Shape := ⟨3, ![1, 1024, 772]⟩
abbrev S8 : Shape := ⟨1, ![8]⟩
abbrev S8x1x1 : Shape := ⟨3, ![8, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x1024x772, .bf16⟩
  | .hbm, ⟨1, _⟩ => ⟨S4x1024x772, .bf16⟩
  | .hbm, ⟨2, _⟩ => ⟨S2, .i32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1x1024x772, .bf16⟩
  | .hbm, ⟨11, _⟩ => ⟨S1024x772, .bf16⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1x1024x772, .bf16⟩
  | .hbm, ⟨17, _⟩ => ⟨S1024x772, .bf16⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x1024x772, .bf16⟩
  | .hbm, ⟨23, _⟩ => ⟨S1024x772, .bf16⟩
  | .hbm, ⟨24, _⟩ => ⟨S1x1024x772, .bf16⟩
  | .hbm, ⟨25, _⟩ => ⟨S1024x772, .bf16⟩
  | .hbm, ⟨26, _⟩ => ⟨S1024x772, .bf16⟩
  | .hbm, ⟨27, _⟩ => ⟨S1024x772, .bf16⟩
  | .hbm, ⟨28, _⟩ => ⟨S1024x772, .bf16⟩
  | .hbm, ⟨29, _⟩ => ⟨S8, .i32⟩
  | .hbm, ⟨30, _⟩ => ⟨S8x1x1, .i32⟩
  | .hbm, ⟨31, _⟩ => ⟨S1, .i32⟩
  | .hbm, ⟨32, _⟩ => ⟨S_, .i32⟩
  | .hbm, ⟨33, _⟩ => ⟨S8x1x1, .i32⟩
  | .hbm, ⟨34, _⟩ => ⟨S8x1x1, .i1⟩
  | .hbm, ⟨35, _⟩ => ⟨S1x1024x772, .bf16⟩
  | .hbm, ⟨36, _⟩ => ⟨S8x1024x772, .i1⟩
  | .hbm, ⟨37, _⟩ => ⟨S8x1024x772, .bf16⟩
  | .hbm, ⟨38, _⟩ => ⟨S8x1024x772, .bf16⟩
  | .hbm, ⟨39, _⟩ => ⟨S8x1024x772, .f32⟩
  | .hbm, ⟨40, _⟩ => ⟨S_, .f32⟩
  | .hbm, ⟨41, _⟩ => ⟨S1024x772, .f32⟩
  | .hbm, ⟨42, _⟩ => ⟨S_, .f32⟩
  | .hbm, ⟨43, _⟩ => ⟨S1024x772, .f32⟩
  | .hbm, ⟨44, _⟩ => ⟨S1024x772, .f32⟩
  | .hbm, ⟨45, _⟩ => ⟨S_, .f32⟩
  | .hbm, ⟨46, _⟩ => ⟨S1024x772, .f32⟩
  | .hbm, ⟨47, _⟩ => ⟨S1024x772, .f32⟩
  | .hbm, ⟨48, _⟩ => ⟨S1024x772, .f32⟩
  | .hbm, ⟨49, _⟩ => ⟨S_, .f32⟩
  | .hbm, ⟨50, _⟩ => ⟨S1024x772, .f32⟩
  | .hbm, ⟨51, _⟩ => ⟨S1024x772, .f32⟩
  | .hbm, ⟨52, _⟩ => ⟨S1024x772, .f32⟩
  | .hbm, ⟨53, _⟩ => ⟨S_, .f32⟩
  | .hbm, ⟨54, _⟩ => ⟨S1024x772, .f32⟩
  | .hbm, ⟨55, _⟩ => ⟨S1024x772, .f32⟩
  | .hbm, ⟨56, _⟩ => ⟨S1024x772, .f32⟩
  | .hbm, ⟨57, _⟩ => ⟨S_, .f32⟩
  | .hbm, ⟨58, _⟩ => ⟨S1024x772, .f32⟩
  | .hbm, ⟨59, _⟩ => ⟨S1024x772, .f32⟩
  | .hbm, ⟨60, _⟩ => ⟨S_, .f32⟩
  | .hbm, ⟨61, _⟩ => ⟨S1024x772, .f32⟩
  | .hbm, ⟨62, _⟩ => ⟨S1024x772, .f32⟩
  | .hbm, ⟨63, _⟩ => ⟨S1024x772, .f32⟩
  | .hbm, ⟨64, _⟩ => ⟨S_, .f32⟩
  | .hbm, ⟨65, _⟩ => ⟨S1024x772, .f32⟩
  | .hbm, ⟨66, _⟩ => ⟨S1024x772, .f32⟩
  | .hbm, ⟨67, _⟩ => ⟨S1024x772, .f32⟩
  | .hbm, ⟨68, _⟩ => ⟨S_, .f32⟩
  | .hbm, ⟨69, _⟩ => ⟨S1024x772, .f32⟩
  | .hbm, ⟨70, _⟩ => ⟨S1024x772, .f32⟩
  | .hbm, ⟨71, _⟩ => ⟨S1024x772, .f32⟩
  | .hbm, ⟨72, _⟩ => ⟨S_, .f32⟩
  | .hbm, ⟨73, _⟩ => ⟨S1024x772, .f32⟩
  | .hbm, ⟨74, _⟩ => ⟨S1024x772, .f32⟩
  | _, _ => ⟨S8x1024x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call3_v0 : Ref sig .tc := ⟨.hbm, 36, rfl⟩
abbrev main_call3_v1 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.Post.Rows.lean ====
/-
  Rows of matrices over the extended reals. The kernel's vector operations, read at an index: a matrix product is a sum
  over the contracted coordinate, a reduction a sum over the reduced one, a broadcast or a reshape the operand's element.
  Everything is for any extents; nothing here depends on the kernel.
-/
module

public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Cert.Rows

open Idealize.ShloMosaic Idealize.ShloMosaic.ValueIdx
open scoped BigOperators

variable {M N K : ℕ} {φ φ₁ φ₂ : FTy}

/-- A row of a matrix. -/
abbrev row {α : Type} (v : (⟨2, ![M, N]⟩ : Shape).Idx → α) (r : Fin M) : Fin N → α := fun d => v (ix2 r d)

section Elementwise
variable {s : Shape} (a b : FVec Ideal s φ) (i : s.Idx)
/-- A sum of vectors at an index. -/
theorem addf_at : addf a b i = a i + b i := rfl
/-- A difference at an index. -/
theorem subf_at : subf a b i = a i - b i := rfl
/-- A product at an index. -/
theorem mulf_at : mulf a b i = a i * b i := rfl
/-- A quotient at an index. -/
theorem divf_at : divf a b i = Ideal.div (a i) (b i) := rfl
/-- A maximum at an index. -/
theorem maximumf_at : maximumf a b i = max (a i) (b i) := rfl
/-- A reciprocal square root at an index. -/
theorem rsqrt_at : rsqrt a i = Ideal.rsqrt (a i) := rfl
/-- An exponential at an index. -/
theorem exp_at : exp a i = Ideal.exp (a i) := rfl
/-- A narrowing cast changes nothing over the extended reals. -/
theorem truncf_at (ψ : FTy) (h : ψ.bits < φ.bits) : (truncf ψ a h : FVec Ideal s ψ) i = a i := rfl
/-- A widening cast changes nothing either. -/
theorem extf_at (ψ : FTy) (h : φ.bits < ψ.bits) : (extf ψ a h : FVec Ideal s ψ) i = a i := rfl
/-- A splat at an index. -/
theorem splat_at (b : BitVec φ.bits) : broadcast s (Scalar.ofBits (F := Ideal) φ b) i = Ideal.ofBits φ b := rfl
/-- A splat constant at an index. -/
theorem constant_at (b : BitVec φ.bits) : (constant s φ b : FVec Ideal s φ) i = Ideal.ofBits φ b := rfl
end Elementwise

/-- A product onto zero, read at an index. -/
theorem mm_at (prec : Option ContractPrecision) (l : FVec Ideal ⟨2, ![M, K]⟩ φ₁) (r : FVec Ideal ⟨2, ![K, N]⟩ φ₂)
    (i : Fin M) (j : Fin N) :
    matmul (DotDims.plain M K N) prec l r (constant ⟨2, ![M, N]⟩ .f32 0x00000000#32) (ix2 i j)
      = ∑ k : Fin K, l (ix2 i k) * r (ix2 k j) := by
  refine (Ideal.matmul_plain_apply prec l r _ i j).trans ?_
  rw [constant_at, Ideal.ofBits_zero_f32, zero_add]

/-- A product with the right operand transposed, onto zero. -/
theorem mmT_at (prec : Option ContractPrecision) (l : FVec Ideal ⟨2, ![M, K]⟩ φ₁) (r : FVec Ideal ⟨2, ![N, K]⟩ φ₂)
    (i : Fin M) (j : Fin N) :
    matmul (DotDims.transposedRhs M K N) prec l r (constant ⟨2, ![M, N]⟩ .f32 0x00000000#32) (ix2 i j)
      = ∑ k : Fin K, l (ix2 i k) * r (ix2 j k) := by
  refine (Ideal.matmul_transposedRhs_apply prec l r _ i j).trans ?_
  rw [constant_at, Ideal.ofBits_zero_f32, zero_add]

/-- The sums of a matrix's rows, as a column. -/
theorem rowsum_at (x : FVec Ideal ⟨2, ![M, N]⟩ φ) (acc : BitVec φ.bits) (h : (⟨2, ![M, N]⟩ : Shape).Reduces [1] ⟨1, ![M]⟩)
    (hφ : FKind.Formats φ) (hacc : acc = FKind.add.neutral φ hφ) (hc : (⟨1, ![M]⟩ : Shape).ShapeCasts ⟨2, ![M, 1]⟩)
    (r : Fin M) (u : Fin 1) :
    shapeCast ⟨2, ![M, 1]⟩ (multiReduction .add [1] ⟨1, ![M]⟩ x acc h hφ hacc) hc (ix2 r u) = ∑ k : Fin N, x (ix2 r k) := by
  rw [shapeCast_apply _ hc (ix2 r u) (ix1 r) (by
    rw [Shape.rowMajor_val_one, Shape.rowMajor_val_two]
    show r.val = r.val * 1 + u.val
    omega)]
  rw [Ideal.multiReduction_add_single]
  refine Finset.sum_congr rfl fun k _ => congrArg x ?_
  funext a
  apply Fin.ext
  match a with
  | ⟨0, _⟩ => rfl
  | ⟨1, _⟩ => rfl

/-- The sums of a matrix's columns, as a row. -/
theorem colsum_at (x : FVec Ideal ⟨2, ![M, N]⟩ φ) (acc : BitVec φ.bits) (h : (⟨2, ![M, N]⟩ : Shape).Reduces [0] ⟨1, ![N]⟩)
    (hφ : FKind.Formats φ) (hacc : acc = FKind.add.neutral φ hφ) (hc : (⟨1, ![N]⟩ : Shape).ShapeCasts ⟨2, ![1, N]⟩)
    (u : Fin 1) (d : Fin N) :
    shapeCast ⟨2, ![1, N]⟩ (multiReduction .add [0] ⟨1, ![N]⟩ x acc h hφ hacc) hc (ix2 u d) = ∑ r : Fin M, x (ix2 r d) := by
  rw [shapeCast_apply _ hc (ix2 u d) (ix1 d) (by
    rw [Shape.rowMajor_val_one, Shape.rowMajor_val_two]
    show d.val = u.val * N + d.val
    have : u.val = 0 := by omega
    rw [this]; omega)]
  rw [Ideal.multiReduction_add_single]
  refine Finset.sum_congr rfl fun k _ => congrArg x ?_
  funext a
  apply Fin.ext
  match a with
  | ⟨0, _⟩ => rfl
  | ⟨1, _⟩ => rfl

/-- A column broadcast along the rows. -/
theorem bcol_at {α : Type} (x : (⟨2, ![M, 1]⟩ : Shape).Idx → α) (h : (⟨2, ![M, 1]⟩ : Shape).Broadcasts ⟨2, ![M, N]⟩)
    (r : Fin M) (d : Fin N) : broadcastTo ⟨2, ![M, N]⟩ x h (ix2 r d) = x (ix2 r 0) :=
  broadcastTo_apply x h _ _ fun a => by
    match a with
    | ⟨0, _⟩ =>
      show r.val = if M = 1 then 0 else r.val
      split
      · have := r.isLt; omega
      · rfl
    | ⟨1, _⟩ => rfl

/-- A row broadcast down the columns. -/
theorem brow_at {α : Type} (x : (⟨2, ![1, N]⟩ : Shape).Idx → α) (h : (⟨2, ![1, N]⟩ : Shape).Broadcasts ⟨2, ![M, N]⟩)
    (r : Fin M) (d : Fin N) : broadcastTo ⟨2, ![M, N]⟩ x h (ix2 r d) = x (ix2 0 d) :=
  broadcastTo_apply x h _ _ fun a => by
    match a with
    | ⟨0, _⟩ => rfl
    | ⟨1, _⟩ =>
      show d.val = if N = 1 then 0 else d.val
      split
      · have := d.isLt; omega
      · rfl

/-- A stack of one matrix read as the matrix. -/
theorem drop_at {α : Type} (x : (⟨3, ![1, M, N]⟩ : Shape).Idx → α) (h : (⟨3, ![1, M, N]⟩ : Shape).ShapeCasts ⟨2, ![M, N]⟩)
    (r : Fin M) (d : Fin N) : shapeCast ⟨2, ![M, N]⟩ x h (ix2 r d) = x (ix3 0 r d) :=
  shapeCast_apply x h _ _ (by
    rw [Shape.rowMajor_val_three, Shape.rowMajor_val_two]
    show (0 * M + r.val) * N + d.val = r.val * N + d.val
    rw [Nat.zero_mul, Nat.zero_add])

/-- Two matrices side by side, read at an index. -/
theorem cat_at {α : Type} {A B : ℕ} (x : (⟨2, ![M, A]⟩ : Shape).Idx → α) (y : (⟨2, ![M, B]⟩ : Shape).Idx → α)
    (h : Shape.Concatenates [(⟨2, ![M, A]⟩ : Shape), ⟨2, ![M, B]⟩] ⟨2, ![M, N]⟩ 1) (hN : N = A + B) (r : Fin M) (d : Fin N) :
    concatenate ⟨2, ![M, N]⟩ 1 [⟨⟨2, ![M, A]⟩, x⟩, ⟨⟨2, ![M, B]⟩, y⟩] h (ix2 r d)
      = if hd : d.val < A then x (ix2 r ⟨d.val, hd⟩) else y (ix2 r ⟨d.val - A, by have := d.isLt; omega⟩) := by
  by_cases hd : d.val < A
  · rw [dif_pos hd]
    refine concatenate_pair_apply_left (t := ⟨2, ![M, N]⟩) 1 x y h (ix2 r d) rfl _ fun b => ?_
    match b with
    | ⟨0, _⟩ => rfl
    | ⟨1, _⟩ => rfl
  · rw [dif_neg hd]
    refine concatenate_pair_apply_right (t := ⟨2, ![M, N]⟩) 1 x y h (ix2 r d) rfl rfl _ (fun b hb => ?_) ?_
    · match b with
      | ⟨0, _⟩ => rfl
      | ⟨1, _⟩ => exact absurd rfl hb
    · show d.val - A + A = d.val
      omega

end Cert.Rows

end
-- ==== Proof.Post.Model.lean ====
/-
  What the kernel computes for one token, over the extended reals. A token's data are its rows of the arguments and the
  weights; every quantity below is a function of them. A hidden column `f` of the 4096 is column `q` of block `j` of the
  four blocks of 1024 (`blk`).
-/
module

public import Idealize.ShloMosaic.PureOps.Ideal.Laws
public import Mathlib.Algebra.BigOperators.Fin

@[expose] public section

noncomputable section

namespace Cert.Post

open Idealize.ShloMosaic
open scoped BigOperators

/-- The width 1024, as the programs write it. -/
abbrev cN : EReal := Ideal.ofBits .f32 0x44800000#32
/-- Its reciprocal. -/
abbrev cInv : EReal := Ideal.ofBits .f32 0x3A800000#32
/-- The number two. -/
abbrev cTwo : EReal := Ideal.ofBits .f32 0x40000000#32
/-- One half. -/
abbrev cHalf : EReal := Ideal.ofBits .f32 0x3F000000#32
/-- The norm's small positive number. -/
abbrev cEps : EReal := Ideal.ofBits .f32 0x358637BD#32

/-- Two half rows side by side. -/
def cat (p q : Fin 512 → EReal) : Fin 1024 → EReal :=
  fun k => if h : k.val < 512 then p ⟨k.val, h⟩ else q ⟨k.val - 512, by have := k.isLt; omega⟩

/-- The reciprocal root mean square of a row. -/
def rstd (h : Fin 1024 → EReal) : EReal := Ideal.rsqrt (Ideal.div (∑ d, h d * h d) cN + cEps)

/-- The derivative of a row's normalisation, as the kernel writes it: `rs` the reciprocal root mean square, `hn` the
    normalised row, `g` the derivative with respect to it. -/
def normBack (rs : EReal) (hn g : Fin 1024 → EReal) : Fin 1024 → EReal :=
  fun d => rs * (g d - hn d * Ideal.div (∑ k, g k * hn k) cN)

/-- Hidden column `q` of block `j`. -/
def blk (j : Fin 4) (q : Fin 1024) : Fin 4096 := ⟨1024 * j.val + q.val, by have := j.isLt; have := q.isLt; omega⟩

/-- A sum over the hidden columns is the sum of the four blocks' sums, added in order onto zero. -/
theorem sum_blk (f : Fin 4096 → EReal) :
    (((0 + ∑ q, f (blk 0 q)) + ∑ q, f (blk 1 q)) + ∑ q, f (blk 2 q)) + ∑ q, f (blk 3 q) = ∑ k, f k := by
  have e : ∑ k, f k = ∑ p : Fin 4 × Fin 1024, f (blk p.1 p.2) := by
    refine (Equiv.sum_comp (finProdFinEquiv (m := 4) (n := 1024)) f).symm.trans (Finset.sum_congr rfl fun p _ => congrArg f (Fin.ext ?_))
    show p.2.val + 1024 * p.1.val = 1024 * p.1.val + p.2.val
    omega
  rw [e, Fintype.sum_prod_type, Fin.sum_univ_four, zero_add]

/-- One token's rows and the weights. -/
@[ext]
structure Tok where
  /-- The residual row. -/
  x : Fin 1024 → EReal
  /-- The two attention branches' row. -/
  mixed : Fin 1024 → EReal
  /-- The target row. -/
  tgt : Fin 1024 → EReal
  /-- The second norm's gains. -/
  g2 : Fin 1024 → EReal
  /-- The last norm's gains. -/
  gf : Fin 1024 → EReal
  /-- The mixing weights. -/
  wo : Fin 1024 → Fin 1024 → EReal
  /-- The first feed-forward weights. -/
  w1 : Fin 1024 → Fin 4096 → EReal
  /-- The second feed-forward weights. -/
  w2 : Fin 4096 → Fin 1024 → EReal

namespace Tok

variable (p : Tok)

/-- The residual row after mixing. -/
def h1 : Fin 1024 → EReal := fun d => p.x d + ∑ k, p.mixed k * p.wo k d
/-- … normalised … -/
def hn1 : Fin 1024 → EReal := fun d => p.h1 d * rstd p.h1
/-- … and scaled. -/
def nm : Fin 1024 → EReal := fun d => p.hn1 d * p.g2 d
/-- The hidden row after the rectifier. -/
def r : Fin 4096 → EReal := fun f => max (∑ d, p.nm d * p.w1 d f) 0
/-- … squared. -/
def a : Fin 4096 → EReal := fun f => p.r f * p.r f
/-- The residual row after the feed-forward part. -/
def h2 : Fin 1024 → EReal := fun d => p.h1 d + ∑ f, p.a f * p.w2 f d
/-- … normalised. -/
def hnf : Fin 1024 → EReal := fun d => p.h2 d * rstd p.h2
/-- The error. -/
def diff : Fin 1024 → EReal := fun d => p.hnf d * p.gf d - p.tgt d
/-- The token's mean squared error. -/
def err : EReal := (∑ d, p.diff d * p.diff d) * cInv
/-- The loss's derivative with respect to the prediction. -/
def dy : Fin 1024 → EReal := fun d => p.diff d * cInv
/-- The derivative with respect to `h2`. -/
def dh2 : Fin 1024 → EReal := normBack (rstd p.h2) p.hnf fun d => p.dy d * p.gf d
/-- The derivative with respect to the hidden row before the rectifier. -/
def du : Fin 4096 → EReal := fun f => (∑ d, p.dh2 d * p.w2 f d) * (cTwo * p.r f)
/-- The derivative with respect to the scaled norm. -/
def dnm : Fin 1024 → EReal := fun d => ∑ f, p.du f * p.w1 d f
/-- The derivative with respect to `h1`. -/
def dh1 : Fin 1024 → EReal := fun d => p.dh2 d + normBack (rstd p.h1) p.hn1 (fun d => p.dnm d * p.g2 d) d
/-- The derivative with respect to the branches' row. -/
def dmixed : Fin 1024 → EReal := fun k => ∑ d, p.dh1 d * p.wo k d
/-- The token's share of the derivative with respect to the last gains. -/
def dgf : Fin 1024 → EReal := fun d => p.dy d * p.hnf d
/-- The token's share of the derivative with respect to the second gains. -/
def dg2 : Fin 1024 → EReal := fun d => p.dnm d * p.hn1 d

end Tok

end Cert.Post

end
-- ==== Proof.Post.Payload.lean ====
/-
  The kernel's pure values, read at an index. `B` holds what the body loads at one grid point: the blocks of the
  arguments and the weights. Each lemma reads one named value of the body at a row and a column, as the token's quantity.
-/
module

public import proofs.«01_k».proof.Proof.Gen.PostKernelIdeal.Skeleton
public import proofs.«01_k».proof.Proof.Post.Rows
public import proofs.«01_k».proof.Proof.Post.Model

@[expose] public section

set_option maxRecDepth 16384

noncomputable section

namespace Cert.Post

open Cert.PostKernelIdeal Cert.PostKernelIdeal.Gen Cert.Rows Idealize.ShloMosaic Idealize.ShloMosaic.ValueIdx
open scoped BigOperators

/-- What the body loads at one grid point. -/
structure Blocks where
  x : FVec Ideal S256x1024 .f32
  oa : FVec Ideal S256x512 .bf16
  ob : FVec Ideal S256x512 .f32
  tgt : FVec Ideal S256x1024 .f32
  g2 : FVec Ideal S1x1024 .f32
  gf : FVec Ideal S1x1024 .f32
  wo : FVec Ideal S1024x1024 .bf16
  w1 : Fin 4 → FVec Ideal S1x1024x1024 .bf16
  w2 : Fin 4 → FVec Ideal S1024x1024 .bf16

namespace Blocks

variable (B : Blocks)

/-- The token whose row is row `r` of the blocks. -/
def tok (r : Fin 256) : Tok where
  x := row B.x r
  mixed := cat (row B.oa r) (row B.ob r)
  tgt := row B.tgt r
  g2 := row B.g2 0
  gf := row B.gf 0
  wo := fun k d => B.wo (ix2 k d)
  w1 := fun d f => B.w1 ⟨f.val / 1024, by have := f.isLt; omega⟩ (ix3 0 d ⟨f.val % 1024, by omega⟩)
  w2 := fun f d => B.w2 ⟨f.val / 1024, by have := f.isLt; omega⟩ (ix2 ⟨f.val % 1024, by omega⟩ d)

theorem w1_blk (r : Fin 256) (d : Fin 1024) (j : Fin 4) (q : Fin 1024) : (B.tok r).w1 d (blk j q) = B.w1 j (ix3 0 d q) := by
  have hj : (⟨(blk j q).val / 1024, by have := (blk j q).isLt; omega⟩ : Fin 4) = j :=
    Fin.ext (by have := q.isLt; show (1024 * j.val + q.val) / 1024 = j.val; omega)
  have hq : (⟨(blk j q).val % 1024, by omega⟩ : Fin 1024) = q :=
    Fin.ext (by have := q.isLt; show (1024 * j.val + q.val) % 1024 = q.val; omega)
  show B.w1 ⟨(blk j q).val / 1024, _⟩ (ix3 0 d ⟨(blk j q).val % 1024, _⟩) = _
  rw [hj, hq]

theorem w2_blk (r : Fin 256) (d : Fin 1024) (j : Fin 4) (q : Fin 1024) : (B.tok r).w2 (blk j q) d = B.w2 j (ix2 q d) := by
  have hj : (⟨(blk j q).val / 1024, by have := (blk j q).isLt; omega⟩ : Fin 4) = j :=
    Fin.ext (by have := q.isLt; show (1024 * j.val + q.val) / 1024 = j.val; omega)
  have hq : (⟨(blk j q).val % 1024, by omega⟩ : Fin 1024) = q :=
    Fin.ext (by have := q.isLt; show (1024 * j.val + q.val) % 1024 = q.val; omega)
  show B.w2 ⟨(blk j q).val / 1024, _⟩ (ix2 ⟨(blk j q).val % 1024, _⟩ d) = _
  rw [hj, hq]

/-! The body's values, in the order it makes them. -/

abbrev vMixed := k0_pay8 (F := Ideal) B.oa B.ob
abbrev vH1 := k0_pay9 (F := Ideal) B.oa B.ob B.x B.wo
abbrev vRs1 := k0_pay10 (F := Ideal) B.oa B.ob B.x B.wo
abbrev vHn1 := k0_pay11 (F := Ideal) B.oa B.ob B.x B.wo
abbrev vNm := k0_pay12 (F := Ideal) B.oa B.ob B.x B.wo B.g2
abbrev vU0 := k0_pay14 (F := Ideal) B.oa B.ob B.x B.wo B.g2 (B.w1 0)
abbrev vMlp := k0_pay21 (F := Ideal) B.vNm (k0_pay13 (F := Ideal)) B.vU0 (B.w2 0) (B.w1 1) (B.w2 1) (B.w1 2) (B.w2 2)
abbrev vH2 := k0_pay24 (F := Ideal) B.vH1 B.vNm B.vMlp (B.w1 3) (B.w2 3)
abbrev vRsf := k0_pay25 (F := Ideal) B.vH1 B.vNm B.vMlp (B.w1 3) (B.w2 3)
abbrev vHnf := k0_pay26 (F := Ideal) B.vH1 B.vNm B.vMlp (B.w1 3) (B.w2 3)
abbrev vDiff := k0_pay27 (F := Ideal) B.vH1 B.vNm B.vMlp (B.w1 3) (B.w2 3) B.gf B.tgt
abbrev vErr := k0_pay29 (F := Ideal) B.vH1 B.vNm B.vMlp (B.w1 3) (B.w2 3) B.gf B.tgt
abbrev vLoss (acc : FVec Ideal S1x1 .f32) := k0_pay31 (F := Ideal) (k0_pay28 (F := Ideal) acc) B.vErr (k0_pay30 (F := Ideal))
abbrev vDgf (acc : FVec Ideal S1x1024 .f32) := k0_pay33 (F := Ideal) B.vHnf B.vDiff acc
abbrev vDh2 := k0_pay34 (F := Ideal) B.vRsf B.vHnf B.gf B.vDiff
abbrev vDh2b := k0_pay35 (F := Ideal) B.vRsf B.vHnf B.gf B.vDiff
abbrev vDu0 := k0_pay37 (F := Ideal) (k0_pay15 (F := Ideal) B.vU0) B.vRsf B.vHnf B.gf B.vDiff (B.w2 0)
abbrev vDu1 := k0_pay38 (F := Ideal) (k0_pay17 (F := Ideal) B.vNm (B.w1 1)) B.vDh2b (B.w2 1)
abbrev vDu2 := k0_pay39 (F := Ideal) (k0_pay19 (F := Ideal) B.vNm (B.w1 2)) B.vDh2b (B.w2 2)
abbrev vDu3 := k0_pay41 (F := Ideal) (k0_pay22 (F := Ideal) B.vNm (B.w1 3)) B.vDh2b (B.w2 3)
abbrev vDnm2 := k0_pay40 (F := Ideal) (k0_pay17 (F := Ideal) B.vNm (B.w1 1)) (k0_pay19 (F := Ideal) B.vNm (B.w1 2)) B.vDh2b (k0_pay36 (F := Ideal)) B.vDu0
  (B.w1 0) (B.w2 1) (B.w1 1) (B.w2 2) (B.w1 2)
abbrev vDnm := k0_pay1 (F := Ideal) B.vDnm2 B.vDu3 (B.w1 3)
abbrev vDg2 (acc : FVec Ideal S1x1024 .f32) := k0_pay2 (F := Ideal) B.vHn1 B.vDnm2 B.vDu3 (B.w1 3) acc
abbrev vDh1 := k0_pay3 (F := Ideal) B.vRs1 B.vHn1 B.g2 B.vDh2 B.vDnm2 B.vDu3 (B.w1 3)
abbrev vDmixed := k0_pay4 (F := Ideal) B.vRs1 B.vHn1 B.g2 B.vDh2 B.vDnm2 B.vDu3 (B.w1 3) B.wo

theorem hdot : dot_S256x1024_S1024x1024_S256x1024_1_0_0_1_n_n = DotDims.plain 256 1024 1024 := rfl
theorem hdotT : dot_S256x1024_S1024x1024_S256x1024_1_1_0_0_n_n = DotDims.transposedRhs 256 1024 1024 := rfl

variable (r : Fin 256)

theorem mixed_at (d : Fin 1024) : B.vMixed (ix2 r d) = (B.tok r).mixed d := by
  unfold vMixed k0_pay8
  exact cat_at (A := 512) (B := 512) B.oa B.ob _ rfl r d

theorem h1_at (d : Fin 1024) : B.vH1 (ix2 r d) = (B.tok r).h1 d := by
  unfold vH1 k0_pay9
  rw [addf_at, hdot, mm_at]
  exact congrArg (B.x (ix2 r d) + ·) (Finset.sum_congr rfl fun k _ => by simp only [B.mixed_at r k]; rfl)

theorem rs1_at (u : Fin 1) : B.vRs1 (ix2 r u) = rstd (B.tok r).h1 := by
  unfold vRs1 k0_pay10
  rw [rsqrt_at, addf_at, divf_at]
  erw [rowsum_at]
  rw [splat_at, splat_at]
  simp only [mulf_at, B.h1_at r]
  rfl

theorem hn1_at (d : Fin 1024) : B.vHn1 (ix2 r d) = (B.tok r).hn1 d := by
  unfold vHn1 k0_pay11
  rw [mulf_at, bcol_at]
  simp only [B.h1_at r, B.rs1_at r]
  rfl

theorem nm_at (d : Fin 1024) : B.vNm (ix2 r d) = (B.tok r).nm d := by
  unfold vNm k0_pay12
  rw [truncf_at, mulf_at, brow_at]
  simp only [B.hn1_at r]
  rfl

theorem u0_at (q : Fin 1024) : B.vU0 (ix2 r q) = ∑ d, (B.tok r).nm d * (B.tok r).w1 d (blk 0 q) := by
  unfold vU0 k0_pay14
  rw [hdot, mm_at]
  exact Finset.sum_congr rfl fun k _ => by simp only [B.nm_at r k, drop_at, w1_blk]

theorem r0_at (q : Fin 1024) : k0_pay15 (F := Ideal) B.vU0 (ix2 r q) = (B.tok r).r (blk 0 q) := by
  unfold k0_pay15
  rw [maximumf_at, splat_at, Ideal.ofBits_zero_f32]
  simp only [B.u0_at r]
  rfl

theorem a0_at (q : Fin 1024) : k0_pay16 (F := Ideal) B.vU0 (ix2 r q) = (B.tok r).a (blk 0 q) := by
  unfold k0_pay16
  rw [truncf_at, mulf_at]
  simp only [B.r0_at r]
  rfl

theorem r1_at (q : Fin 1024) : k0_pay17 (F := Ideal) B.vNm (B.w1 1) (ix2 r q) = (B.tok r).r (blk 1 q) := by
  unfold k0_pay17
  rw [maximumf_at, splat_at, hdot, mm_at, Ideal.ofBits_zero_f32]
  exact congrArg (max · 0) (Finset.sum_congr rfl fun k _ => by simp only [B.nm_at r k, drop_at, w1_blk])

theorem r2_at (q : Fin 1024) : k0_pay19 (F := Ideal) B.vNm (B.w1 2) (ix2 r q) = (B.tok r).r (blk 2 q) := by
  unfold k0_pay19
  rw [maximumf_at, splat_at, hdot, mm_at, Ideal.ofBits_zero_f32]
  exact congrArg (max · 0) (Finset.sum_congr rfl fun k _ => by simp only [B.nm_at r k, drop_at, w1_blk])

theorem r3_at (q : Fin 1024) : k0_pay22 (F := Ideal) B.vNm (B.w1 3) (ix2 r q) = (B.tok r).r (blk 3 q) := by
  unfold k0_pay22
  rw [maximumf_at, splat_at, hdot, mm_at, Ideal.ofBits_zero_f32]
  exact congrArg (max · 0) (Finset.sum_congr rfl fun k _ => by simp only [B.nm_at r k, drop_at, w1_blk])

theorem a1_at (q : Fin 1024) : k0_pay18 (F := Ideal) B.vNm (B.w1 1) (ix2 r q) = (B.tok r).a (blk 1 q) := by
  unfold k0_pay18
  rw [truncf_at, mulf_at]
  simp only [B.r1_at r]
  rfl

theorem a2_at (q : Fin 1024) : k0_pay20 (F := Ideal) B.vNm (B.w1 2) (ix2 r q) = (B.tok r).a (blk 2 q) := by
  unfold k0_pay20
  rw [truncf_at, mulf_at]
  simp only [B.r2_at r]
  rfl

theorem a3_at (q : Fin 1024) : k0_pay23 (F := Ideal) B.vNm (B.w1 3) (ix2 r q) = (B.tok r).a (blk 3 q) := by
  unfold k0_pay23
  rw [truncf_at, mulf_at]
  simp only [B.r3_at r]
  rfl

theorem h2_at (d : Fin 1024) : B.vH2 (ix2 r d) = (B.tok r).h2 d := by
  unfold vH2 k0_pay24 vMlp k0_pay21 k0_pay13
  simp only [addf_at, splat_at, hdot, mm_at, Ideal.ofBits_zero_f32, B.h1_at r, B.a0_at r, B.a1_at r, B.a2_at r, B.a3_at r,
    ← B.w2_blk r]
  rw [sum_blk fun f => (B.tok r).a f * (B.tok r).w2 f d]
  rfl

theorem rsf_at (u : Fin 1) : B.vRsf (ix2 r u) = rstd (B.tok r).h2 := by
  unfold vRsf k0_pay25
  rw [rsqrt_at, addf_at, divf_at]
  erw [rowsum_at]
  rw [splat_at, splat_at]
  simp only [mulf_at, B.h2_at r]
  rfl

theorem hnf_at (d : Fin 1024) : B.vHnf (ix2 r d) = (B.tok r).hnf d := by
  unfold vHnf k0_pay26
  rw [mulf_at, bcol_at]
  simp only [B.h2_at r, B.rsf_at r]
  rfl

theorem diff_at (d : Fin 1024) : B.vDiff (ix2 r d) = (B.tok r).diff d := by
  unfold vDiff k0_pay27
  rw [subf_at, mulf_at, brow_at]
  simp only [B.hnf_at r]
  rfl

theorem dy_at (d : Fin 1024) : k0_pay32 (F := Ideal) B.vDiff (ix2 r d) = (B.tok r).dy d := by
  unfold k0_pay32
  rw [mulf_at, splat_at]
  simp only [B.diff_at r]
  rfl

theorem dh2_at (d : Fin 1024) : B.vDh2 (ix2 r d) = (B.tok r).dh2 d := by
  unfold vDh2 k0_pay34
  simp only [mulf_at, subf_at, divf_at, bcol_at, splat_at]
  erw [rowsum_at]
  simp only [mulf_at, brow_at, B.dy_at r, B.hnf_at r, B.rsf_at r]
  rfl

theorem dh2b_at (d : Fin 1024) : B.vDh2b (ix2 r d) = (B.tok r).dh2 d := by
  unfold vDh2b k0_pay35
  exact B.dh2_at r d

theorem du0_at (q : Fin 1024) : B.vDu0 (ix2 r q) = (B.tok r).du (blk 0 q) := by
  unfold vDu0 k0_pay37
  simp only [truncf_at, mulf_at, splat_at, hdotT, mmT_at, B.r0_at r, B.dh2b_at r, ← B.w2_blk r]
  rfl

theorem du1_at (q : Fin 1024) : B.vDu1 (ix2 r q) = (B.tok r).du (blk 1 q) := by
  unfold vDu1 k0_pay38
  simp only [truncf_at, mulf_at, splat_at, hdotT, mmT_at, B.r1_at r, B.dh2b_at r, ← B.w2_blk r]
  rfl

theorem du2_at (q : Fin 1024) : B.vDu2 (ix2 r q) = (B.tok r).du (blk 2 q) := by
  unfold vDu2 k0_pay39
  simp only [truncf_at, mulf_at, splat_at, hdotT, mmT_at, B.r2_at r, B.dh2b_at r, ← B.w2_blk r]
  rfl

theorem du3_at (q : Fin 1024) : B.vDu3 (ix2 r q) = (B.tok r).du (blk 3 q) := by
  unfold vDu3 k0_pay41
  simp only [truncf_at, mulf_at, splat_at, hdotT, mmT_at, B.r3_at r, B.dh2b_at r, ← B.w2_blk r]
  rfl

theorem dnm_at (d : Fin 1024) : B.vDnm (ix2 r d) = (B.tok r).dnm d := by
  unfold vDnm k0_pay1 vDnm2 k0_pay40 k0_pay36
  simp only [addf_at, splat_at, hdotT, mmT_at, drop_at, Ideal.ofBits_zero_f32, B.du0_at r, B.du1_at r, B.du2_at r, B.du3_at r,
    ← B.w1_blk r]
  rw [sum_blk fun f => (B.tok r).du f * (B.tok r).w1 d f]
  rfl

theorem dh1_at (d : Fin 1024) : B.vDh1 (ix2 r d) = (B.tok r).dh1 d := by
  unfold vDh1 k0_pay3
  simp only [addf_at, mulf_at, subf_at, divf_at, bcol_at, splat_at]
  erw [rowsum_at]
  simp only [mulf_at, brow_at, B.dnm_at r, B.hn1_at r, B.rs1_at r, B.dh2_at r]
  rfl

theorem dmixed_at (k : Fin 1024) : B.vDmixed (ix2 r k) = (B.tok r).dmixed k := by
  unfold vDmixed k0_pay4
  simp only [hdotT, mmT_at, truncf_at, B.dh1_at r]
  rfl

/-! What the block adds to the three running sums. -/

theorem loss_at (acc : FVec Ideal S1x1 .f32) : B.vLoss acc (ix2 0 0) = acc (ix2 0 0) + cHalf * ∑ r, (B.tok r).err := by
  unfold vLoss k0_pay31 k0_pay28 k0_pay30 vErr k0_pay29
  rw [addf_at, shapeCast_self, mulf_at]
  erw [colsum_at]
  simp only [mulf_at, splat_at]
  refine congrArg (fun z => acc (ix2 0 0) + cHalf * z) (Finset.sum_congr rfl fun r _ => ?_)
  erw [rowsum_at]
  simp only [mulf_at, B.diff_at r]
  rfl

theorem dgf_at (acc : FVec Ideal S1x1024 .f32) (d : Fin 1024) :
    B.vDgf acc (ix2 0 d) = acc (ix2 0 d) + ∑ r, (B.tok r).dgf d := by
  unfold vDgf k0_pay33
  rw [addf_at, shapeCast_self]
  erw [colsum_at]
  simp only [mulf_at, B.dy_at, B.hnf_at]
  rfl

theorem dg2_at (acc : FVec Ideal S1x1024 .f32) (d : Fin 1024) :
    B.vDg2 acc (ix2 0 d) = acc (ix2 0 d) + ∑ r, (B.tok r).dg2 d := by
  unfold vDg2 k0_pay2
  rw [addf_at, shapeCast_self]
  erw [colsum_at]
  simp only [mulf_at, B.dnm_at, B.hn1_at]
  rfl

end Blocks

end Cert.Post

end
-- ==== Proof.Post.Block.lean ====
/-
  What the body leaves in each of its output blocks, as the named values of `Payload`: both at the first grid point, where
  the weights have just been copied in and the running sums start at zero, and at a later one, where the weights and the
  running sums are what the point before left.
-/
module

public import proofs.«01_k».proof.Proof.Gen.PostKernelIdeal.Frame
public import proofs.«01_k».proof.Proof.Post.Payload
public import Idealize.ShloMosaic.Lib.Pipeline.Value

@[expose] public section

set_option maxRecDepth 16384

noncomputable section

namespace Cert.Post

open Cert.PostKernelIdeal Cert.PostKernelIdeal.Gen Cert.Rows Idealize.ShloMosaic Idealize.ShloMosaic.TcCoe
  Idealize.ShloMosaic.ValueIdx

theorem hz2 : (![0, 0] : Fin 2 → Nat) = fun _ => 0 := by funext a; fin_cases a <;> rfl

/-- What one write that fills a buffer leaves there. -/
theorem canon_whole {S : Shape} {e : EltTy} (w : S.Idx → Elt Ideal e) :
    View.canon [(⟨Rect.whole S, w⟩ : View.Piece (Elt Ideal) S e)] = w := by
  funext y
  have h := View.canon_cons_emb (Val := Elt Ideal) (Rect.whole S) w [] y
  rw [Rect.emb_whole_apply] at h
  exact h

/-- A load from a buffer that one write has filled reads what was written. -/
theorem readCov_whole {sig : RefSig} {κ : Kind} {sp : Space} {S : Shape} {e : EltTy} (v : View sig κ sp S e)
    (w : S.Idx → Elt Ideal e) (r : Rect S) :
    v.readCov [(⟨Rect.whole S, w⟩ : View.Piece (Elt Ideal) S e)] r.toLoadRect = View.ld w r := by
  rw [View.readCov_eq_canon_ld _ _ _ (fun y => ⟨_, List.mem_singleton_self _, by
    show y ∈ (Rect.whole S).set; rw [Rect.set_whole]; exact Finset.mem_univ y⟩)]
  rw [canon_whole]

theorem slab_inb (j : Fin 4) : ∀ a, (![j.val, 0, 0] : Fin 3 → Nat) a + (![1, 1024, 1024] : Fin 3 → Nat) a ≤ S4x1024x1024.size a := by
  fin_cases j <;> decide

theorem part_inb (j : Fin 4) : ∀ a, (![1024 * j.val, 0] : Fin 2 → Nat) a + (![1024, 1024] : Fin 2 → Nat) a ≤ S4096x1024.size a := by
  fin_cases j <;> decide

/-- The blocks one grid point loads: the six staged blocks and the three weights. -/
def pack (x0 : Vec Ideal S256x1024 .f32) (x1 : Vec Ideal S256x512 .bf16) (x2 : Vec Ideal S256x512 .f32)
    (x3 : Vec Ideal S256x1024 .f32) (x4 : Vec Ideal S1x1024 .f32) (x5 : Vec Ideal S1x1024 .f32)
    (wo : Vec Ideal S1024x1024 .bf16) (w1 : Vec Ideal S4x1024x1024 .bf16) (w2 : Vec Ideal S4096x1024 .bf16) : Blocks where
  x := x0
  oa := x1
  ob := x2
  tgt := x3
  g2 := x4
  gf := x5
  wo := wo
  w1 := fun j => View.ld (Val := Elt Ideal) (e' := .bf16) w1 (Rect.unit ![j.val, 0, 0] ![1, 1024, 1024] (slab_inb j))
  w2 := fun j => View.ld (Val := Elt Ideal) (e' := .bf16) w2 (Rect.unit ![1024 * j.val, 0] ![1024, 1024] (part_inb j))

/-- Four tiles stored side by side in one block. -/
def tiles (v0 v1 v2 v3 : Vec Ideal S256x1024 .bf16) : Vec Ideal S256x4096 .bf16 :=
  View.canon (Val := Elt Ideal) (s := S256x4096) (e := .bf16) [⟨Rect.unit ![0, 3072] ![256, 1024] inb_S256x4096_S256x1024_0_3072, v3⟩,
    ⟨Rect.unit ![0, 2048] ![256, 1024] inb_S256x4096_S256x1024_0_2048, v2⟩,
    ⟨Rect.unit ![0, 1024] ![256, 1024] inb_S256x4096_S256x1024_0_1024, v1⟩,
    ⟨Rect.unit ![0, 0] ![256, 1024] inb_S256x4096_S256x1024_0_0, v0⟩]

theorem out_A_6 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vMixed := by
  unfold out0_A_6
  rw [View.read_writes_eq_canon _ _ _ (cover0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_unit_zero (S := S256x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_7 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vNm := by
  unfold out0_A_7
  rw [View.read_writes_eq_canon _ _ _ (cover0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_unit_zero (S := S256x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_8 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = tiles (k0_pay16 (F := Ideal) (pack x0 x1 x2 x3 x4 x5 fh0 fh1 fh2).vU0) (k0_pay18 (F := Ideal) (pack x0 x1 x2 x3 x4 x5 fh0 fh1 fh2).vNm ((pack x0 x1 x2 x3 x4 x5 fh0 fh1 fh2).w1 1)) (k0_pay20 (F := Ideal) (pack x0 x1 x2 x3 x4 x5 fh0 fh1 fh2).vNm ((pack x0 x1 x2 x3 x4 x5 fh0 fh1 fh2).w1 2)) (k0_pay23 (F := Ideal) (pack x0 x1 x2 x3 x4 x5 fh0 fh1 fh2).vNm ((pack x0 x1 x2 x3 x4 x5 fh0 fh1 fh2).w1 3)) := by
  unfold out0_A_8
  rw [View.read_writes_eq_canon _ _ _ (cover0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_9 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = tiles (pack x0 x1 x2 x3 x4 x5 fh0 fh1 fh2).vDu0 (pack x0 x1 x2 x3 x4 x5 fh0 fh1 fh2).vDu1 (pack x0 x1 x2 x3 x4 x5 fh0 fh1 fh2).vDu2 (pack x0 x1 x2 x3 x4 x5 fh0 fh1 fh2).vDu3 := by
  unfold out0_A_9
  rw [View.read_writes_eq_canon _ _ _ (cover0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_10 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vDh2b := by
  unfold out0_A_10
  rw [View.read_writes_eq_canon _ _ _ (cover0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_unit_zero (S := S256x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_11 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vDh1 := by
  unfold out0_A_11
  rw [View.read_writes_eq_canon _ _ _ (cover0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_unit_zero (S := S256x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_12 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vDmixed := by
  unfold out0_A_12
  rw [View.read_writes_eq_canon _ _ _ (cover0_A_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_unit_zero (S := S256x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_13 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vLoss (k0_pay5 (F := Ideal)) := by
  unfold out0_A_13
  rw [View.read_writes_eq_canon _ _ _ (cover0_A_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_cons_unit_zero (S := S1x1) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_14 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vDgf (k0_pay6 (F := Ideal)) := by
  unfold out0_A_14
  rw [View.read_writes_eq_canon _ _ _ (cover0_A_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_cons_unit_zero (S := S1x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_A_15 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    out0_A_15 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = (pack x0 x1 x2 x3 x4 x5 fh0 fh1 fh2).vDg2 (k0_pay7 (F := Ideal)) := by
  unfold out0_A_15
  rw [View.read_writes_eq_canon _ _ _ (cover0_A_15 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  rw [View.canon_cons_unit_zero (S := S1x1024) hz2]
  simp only [readCov_whole, View.readCov_unit_zero (S := S1x1) _ hz2, View.readCov_unit_zero (S := S1x1024) _ hz2, View.readAt_eq_ld, harg1.read_unread, harg2.read_unread, harg3.read_unread, harg4.read_unread, harg5.read_unread, harg6.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_6 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vMixed := by
  unfold out0_B_6
  rw [View.read_writes_eq_canon _ _ _ (cover0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_7 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vNm := by
  unfold out0_B_7
  rw [View.read_writes_eq_canon _ _ _ (cover0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_8 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = tiles (k0_pay16 (F := Ideal) (pack x0 x1 x2 x3 x4 x5 xs0 xs1 xs2).vU0) (k0_pay18 (F := Ideal) (pack x0 x1 x2 x3 x4 x5 xs0 xs1 xs2).vNm ((pack x0 x1 x2 x3 x4 x5 xs0 xs1 xs2).w1 1)) (k0_pay20 (F := Ideal) (pack x0 x1 x2 x3 x4 x5 xs0 xs1 xs2).vNm ((pack x0 x1 x2 x3 x4 x5 xs0 xs1 xs2).w1 2)) (k0_pay23 (F := Ideal) (pack x0 x1 x2 x3 x4 x5 xs0 xs1 xs2).vNm ((pack x0 x1 x2 x3 x4 x5 xs0 xs1 xs2).w1 3)) := by
  unfold out0_B_8
  rw [View.read_writes_eq_canon _ _ _ (cover0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_9 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = tiles (pack x0 x1 x2 x3 x4 x5 xs0 xs1 xs2).vDu0 (pack x0 x1 x2 x3 x4 x5 xs0 xs1 xs2).vDu1 (pack x0 x1 x2 x3 x4 x5 xs0 xs1 xs2).vDu2 (pack x0 x1 x2 x3 x4 x5 xs0 xs1 xs2).vDu3 := by
  unfold out0_B_9
  rw [View.read_writes_eq_canon _ _ _ (cover0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_10 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vDh2b := by
  unfold out0_B_10
  rw [View.read_writes_eq_canon _ _ _ (cover0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_11 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vDh1 := by
  unfold out0_B_11
  rw [View.read_writes_eq_canon _ _ _ (cover0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_12 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vDmixed := by
  unfold out0_B_12
  rw [View.read_writes_eq_canon _ _ _ (cover0_B_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_13 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vLoss xo13 := by
  unfold out0_B_13
  rw [View.read_writes_eq_canon _ _ _ (cover0_B_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S1x1) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_14 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vDgf xo14 := by
  unfold out0_B_14
  rw [View.read_writes_eq_canon _ _ _ (cover0_B_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S1x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem out_B_15 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : ¬cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (xo13 : Vec Ideal S1x1 .f32) (xo14 : Vec Ideal S1x1024 .f32) (xo15 : Vec Ideal S1x1024 .f32) (xs0 : Vec Ideal S1024x1024 .bf16) (xs1 : Vec Ideal S4x1024x1024 .bf16) (xs2 : Vec Ideal S4096x1024 .bf16) (fh0 : HbBuf0 (F := Ideal) c hbM0_0) (fh1 : HbBuf0 (F := Ideal) c hbM0_1) (fh2 : HbBuf0 (F := Ideal) c hbM0_2) :
    out0_B_15 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2
      = (pack x0 x1 x2 x3 x4 x5 xs0 xs1 xs2).vDg2 xo15 := by
  unfold out0_B_15
  rw [View.read_writes_eq_canon _ _ _ (cover0_B_15 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 xo13 xo14 xo15 xs0 xs1 xs2 fh0 fh1 fh2)]
  unfold kernelRun0_B
  dsimp only
  sl_unfold_words
  rw [View.canon_unit_zero (S := S1x1024) hz2]
  simp only [View.readAt_eq_ld, harg1.read_unread, harg2.read_unread, harg3.read_unread, harg4.read_unread, harg5.read_unread, harg6.read_unread, harg20.read_unread, harg21.read_unread, harg22.read_unread, harg17.read_unread, harg18.read_unread, harg19.read_unread, View.ld_unit_zero (S := S256x1024) hz2, View.ld_unit_zero (S := S256x512) hz2, View.ld_unit_zero (S := S1x1024) hz2, View.ld_unit_zero (S := S1024x1024) hz2, View.ld_unit_zero (S := S1x1) hz2, shapeCast_self]
  rfl

theorem sout_A_0 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    sout0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = fh0 := by
  unfold sout0_A_0
  rw [View.read_writes_eq_canon _ _ _ (scover0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  exact canon_whole _

theorem sout_A_1 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    sout0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = fh1 := by
  unfold sout0_A_1
  rw [View.read_writes_eq_canon _ _ _ (scover0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  exact canon_whole _

theorem sout_A_2 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .bf16) (harg10 : arg10.IsWhole) (arg11 : Memref sig .tc .vmem S256x1024 .bf16) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x1 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S4x1024x1024 .bf16) (harg21 : arg21.IsWhole) (arg22 : Memref sig .tc .vmem S4096x1024 .bf16) (harg22 : arg22.IsWhole) (hc0 : cond0_0 i)
    (x0 : Vec Ideal S256x1024 .f32) (x1 : Vec Ideal S256x512 .bf16) (x2 : Vec Ideal S256x512 .f32) (x3 : Vec Ideal S256x1024 .f32) (x4 : Vec Ideal S1x1024 .f32) (x5 : Vec Ideal S1x1024 .f32) (fh0 : HbBuf0 (F := Ideal) c hbM0_0) (fh1 : HbBuf0 (F := Ideal) c hbM0_1) (fh2 : HbBuf0 (F := Ideal) c hbM0_2) :
    sout0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2
      = fh2 := by
  unfold sout0_A_2
  rw [View.read_writes_eq_canon _ _ _ (scover0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 fh0 fh1 fh2)]
  unfold kernelRun0_A
  dsimp only
  sl_unfold_words
  exact canon_whole _

end Cert.Post

end
-- ==== Proof.Post.Points.lean ====
/-
  What the launch's grid points leave: the weights stay in their scratch buffers, each block's results are the values of
  `Payload` at that point's blocks, and the three running sums are sums over the points so far.
-/
module

public import proofs.«01_k».proof.Proof.Post.Block

@[expose] public section

set_option maxRecDepth 16384

noncomputable section

namespace Cert.Post

open Cert.PostKernelIdeal Cert.PostKernelIdeal.Gen Cert.Rows Idealize.ShloMosaic Idealize.ShloMosaic.TcCoe
  Idealize.ShloMosaic.ValueIdx Idealize.SL.Sem
open scoped BigOperators

variable (m : (ℓ : Loc nD τ sig) → Buf (Elt Ideal) ℓ) (c : Dev nD)

/-- The blocks that grid point `t` loads. -/
def bt (t : Fin cfg0.N) : Blocks :=
  pack (iblk m c 0 t) (iblk m c 1 t) (iblk m c 2 t) (iblk m c 3 t) (iblk m c 4 t) (iblk m c 5 t) (V m c main_v0)
    (V m c main_v4) (V m c main_v1)

theorem hlt {n k : ℕ} (h : n < k) (s : Fin (n + 1)) : s.val < k := by omega

/-- The point before a later point. -/
abbrev prev (t : Fin cfg0.N) : Fin cfg0.N := ⟨t.val - 1, Nat.lt_of_le_of_lt (Nat.sub_le _ _) t.isLt⟩

/-! A component of a tuple that is known whole. -/

theorem pick_0 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.1 = a0 := by
  subst h
  rfl

theorem pick_1 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.1 = a1 := by
  subst h
  rfl

theorem pick_2 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.1 = a2 := by
  subst h
  rfl

theorem pick_3 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.1 = a3 := by
  subst h
  rfl

theorem pick_4 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.1 = a4 := by
  subst h
  rfl

theorem pick_5 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.1 = a5 := by
  subst h
  rfl

theorem pick_6 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.1 = a6 := by
  subst h
  rfl

theorem pick_7 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.2.1 = a7 := by
  subst h
  rfl

theorem pick_8 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.2.2.1 = a8 := by
  subst h
  rfl

theorem pick_9 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.2.2.2.1 = a9 := by
  subst h
  rfl

theorem pick_10 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.2.2.2.2.1 = a10 := by
  subst h
  rfl

theorem pick_11 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.2.2.2.2.2.1 = a11 := by
  subst h
  rfl

theorem pick_12 {α0 α1 α2 α3 α4 α5 α6 α7 α8 α9 α10 α11 α12 : Type} {z : α0 × α1 × α2 × α3 × α4 × α5 × α6 × α7 × α8 × α9 × α10 × α11 × α12} {a0 : α0} {a1 : α1} {a2 : α2} {a3 : α3} {a4 : α4} {a5 : α5} {a6 : α6} {a7 : α7} {a8 : α8} {a9 : α9} {a10 : α10} {a11 : α11} {a12 : α12}
    (h : z = (a0, a1, a2, a3, a4, a5, a6, a7, a8, a9, a10, a11, a12)) : z.2.2.2.2.2.2.2.2.2.2.2.2 = a12 := by
  subst h
  rfl

theorem pack_first (t : Fin cfg0.N) :
    pack (iblk m c 0 t) (iblk m c 1 t) (iblk m c 2 t) (iblk m c 3 t) (iblk m c 4 t) (iblk m c 5 t) (V m c main_v0)
      (V m c main_v4) (V m c main_v1) = bt m c t := rfl

theorem scratchA_0 (t : Fin cfg0.N) (h0 : t.val % 32 = 0) : (outsAt0 m c t.val t.isLt).2.2.2.2.2.2.2.2.2.2.1 = V m c main_v0 :=
  (pick_10 (outsAt0_A m c t h0)).trans
    (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1))

theorem scratchB_0 (t : Fin cfg0.N) (h0 : ¬t.val % 32 = 0) :
    (outsAt0 m c t.val t.isLt).2.2.2.2.2.2.2.2.2.2.1 = (outsAt0 m c (prev t).val (prev t).isLt).2.2.2.2.2.2.2.2.2.2.1 :=
  pick_10 (outsAt0_B m c t h0)

theorem scratch_0 : ∀ (n : ℕ) (h : n < cfg0.N), (outsAt0 m c n h).2.2.2.2.2.2.2.2.2.2.1 = V m c main_v0
  | 0, h => scratchA_0 m c ⟨0, h⟩ rfl
  | n + 1, h => by
    by_cases h0 : (⟨n + 1, h⟩ : Fin cfg0.N).val % 32 = 0
    · exact scratchA_0 m c ⟨n + 1, h⟩ h0
    · exact (scratchB_0 m c ⟨n + 1, h⟩ h0).trans (scratch_0 n _)

theorem scratchA_1 (t : Fin cfg0.N) (h0 : t.val % 32 = 0) : (outsAt0 m c t.val t.isLt).2.2.2.2.2.2.2.2.2.2.2.1 = V m c main_v4 :=
  (pick_11 (outsAt0_A m c t h0)).trans
    (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1))

theorem scratchB_1 (t : Fin cfg0.N) (h0 : ¬t.val % 32 = 0) :
    (outsAt0 m c t.val t.isLt).2.2.2.2.2.2.2.2.2.2.2.1 = (outsAt0 m c (prev t).val (prev t).isLt).2.2.2.2.2.2.2.2.2.2.2.1 :=
  pick_11 (outsAt0_B m c t h0)

theorem scratch_1 : ∀ (n : ℕ) (h : n < cfg0.N), (outsAt0 m c n h).2.2.2.2.2.2.2.2.2.2.2.1 = V m c main_v4
  | 0, h => scratchA_1 m c ⟨0, h⟩ rfl
  | n + 1, h => by
    by_cases h0 : (⟨n + 1, h⟩ : Fin cfg0.N).val % 32 = 0
    · exact scratchA_1 m c ⟨n + 1, h⟩ h0
    · exact (scratchB_1 m c ⟨n + 1, h⟩ h0).trans (scratch_1 n _)

theorem scratchA_2 (t : Fin cfg0.N) (h0 : t.val % 32 = 0) : (outsAt0 m c t.val t.isLt).2.2.2.2.2.2.2.2.2.2.2.2 = V m c main_v1 :=
  (pick_12 (outsAt0_A m c t h0)).trans
    (sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1))

theorem scratchB_2 (t : Fin cfg0.N) (h0 : ¬t.val % 32 = 0) :
    (outsAt0 m c t.val t.isLt).2.2.2.2.2.2.2.2.2.2.2.2 = (outsAt0 m c (prev t).val (prev t).isLt).2.2.2.2.2.2.2.2.2.2.2.2 :=
  pick_12 (outsAt0_B m c t h0)

theorem scratch_2 : ∀ (n : ℕ) (h : n < cfg0.N), (outsAt0 m c n h).2.2.2.2.2.2.2.2.2.2.2.2 = V m c main_v1
  | 0, h => scratchA_2 m c ⟨0, h⟩ rfl
  | n + 1, h => by
    by_cases h0 : (⟨n + 1, h⟩ : Fin cfg0.N).val % 32 = 0
    · exact scratchA_2 m c ⟨n + 1, h⟩ h0
    · exact (scratchB_2 m c ⟨n + 1, h⟩ h0).trans (scratch_2 n _)

/-- At a later point the weights are what the first point copied in. -/
theorem pack_prev (t : Fin cfg0.N) (h : t.val - 1 < cfg0.N) :
    pack (iblk m c 0 t) (iblk m c 1 t) (iblk m c 2 t) (iblk m c 3 t) (iblk m c 4 t) (iblk m c 5 t)
      (outsAt0 m c (t.val - 1) h).2.2.2.2.2.2.2.2.2.2.1 (outsAt0 m c (t.val - 1) h).2.2.2.2.2.2.2.2.2.2.2.1 (outsAt0 m c (t.val - 1) h).2.2.2.2.2.2.2.2.2.2.2.2 = bt m c t := by
  rw [scratch_0, scratch_1, scratch_2, bt]

/-- The two products of a point, as the four tiles it stores. -/
def aTiles (B : Blocks) : Vec Ideal S256x4096 .bf16 :=
  tiles (k0_pay16 (F := Ideal) B.vU0) (k0_pay18 (F := Ideal) B.vNm (B.w1 1)) (k0_pay20 (F := Ideal) B.vNm (B.w1 2)) (k0_pay23 (F := Ideal) B.vNm (B.w1 3))

def duTiles (B : Blocks) : Vec Ideal S256x4096 .bf16 := tiles B.vDu0 B.vDu1 B.vDu2 B.vDu3

theorem outs_6 (t : Fin cfg0.N) : (outsAt0 m c t.val t.isLt).1 = (bt m c t).vMixed := by
  by_cases h0 : t.val % 32 = 0
  · exact (pick_0 (outsAt0_A m c t h0)).trans
      ((out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg Blocks.vMixed (pack_first m c t)))
  · refine (pick_0 (outsAt0_B m c t h0)).trans
      ((out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg Blocks.vMixed (pack_prev m c t _)

theorem outs_7 (t : Fin cfg0.N) : (outsAt0 m c t.val t.isLt).2.1 = (bt m c t).vNm := by
  by_cases h0 : t.val % 32 = 0
  · exact (pick_1 (outsAt0_A m c t h0)).trans
      ((out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg Blocks.vNm (pack_first m c t)))
  · refine (pick_1 (outsAt0_B m c t h0)).trans
      ((out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg Blocks.vNm (pack_prev m c t _)

theorem outs_8 (t : Fin cfg0.N) : (outsAt0 m c t.val t.isLt).2.2.1 = aTiles (bt m c t) := by
  by_cases h0 : t.val % 32 = 0
  · exact (pick_2 (outsAt0_A m c t h0)).trans
      ((out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg aTiles (pack_first m c t)))
  · refine (pick_2 (outsAt0_B m c t h0)).trans
      ((out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg aTiles (pack_prev m c t _)

theorem outs_9 (t : Fin cfg0.N) : (outsAt0 m c t.val t.isLt).2.2.2.1 = duTiles (bt m c t) := by
  by_cases h0 : t.val % 32 = 0
  · exact (pick_3 (outsAt0_A m c t h0)).trans
      ((out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg duTiles (pack_first m c t)))
  · refine (pick_3 (outsAt0_B m c t h0)).trans
      ((out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg duTiles (pack_prev m c t _)

theorem outs_10 (t : Fin cfg0.N) : (outsAt0 m c t.val t.isLt).2.2.2.2.1 = (bt m c t).vDh2b := by
  by_cases h0 : t.val % 32 = 0
  · exact (pick_4 (outsAt0_A m c t h0)).trans
      ((out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg Blocks.vDh2b (pack_first m c t)))
  · refine (pick_4 (outsAt0_B m c t h0)).trans
      ((out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg Blocks.vDh2b (pack_prev m c t _)

theorem outs_11 (t : Fin cfg0.N) : (outsAt0 m c t.val t.isLt).2.2.2.2.2.1 = (bt m c t).vDh1 := by
  by_cases h0 : t.val % 32 = 0
  · exact (pick_5 (outsAt0_A m c t h0)).trans
      ((out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg Blocks.vDh1 (pack_first m c t)))
  · refine (pick_5 (outsAt0_B m c t h0)).trans
      ((out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg Blocks.vDh1 (pack_prev m c t _)

theorem outs_12 (t : Fin cfg0.N) : (outsAt0 m c t.val t.isLt).2.2.2.2.2.2.1 = (bt m c t).vDmixed := by
  by_cases h0 : t.val % 32 = 0
  · exact (pick_6 (outsAt0_A m c t h0)).trans
      ((out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
        (congrArg Blocks.vDmixed (pack_first m c t)))
  · refine (pick_6 (outsAt0_B m c t h0)).trans
      ((out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
    exact congrArg Blocks.vDmixed (pack_prev m c t _)

theorem stepA_13 (t : Fin cfg0.N) (h0 : t.val % 32 = 0) :
    (outsAt0 m c t.val t.isLt).2.2.2.2.2.2.2.1 = (bt m c t).vLoss (k0_pay5 (F := Ideal)) :=
  (pick_7 (outsAt0_A m c t h0)).trans
    ((out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
      (congrArg (fun B => Blocks.vLoss B (k0_pay5 (F := Ideal))) (pack_first m c t)))

theorem stepB_13 (t : Fin cfg0.N) (h0 : ¬t.val % 32 = 0) :
    (outsAt0 m c t.val t.isLt).2.2.2.2.2.2.2.1 = (bt m c t).vLoss ((outsAt0 m c (prev t).val (prev t).isLt).2.2.2.2.2.2.2.1) := by
  refine (pick_7 (outsAt0_B m c t h0)).trans
    ((out_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
  exact congrArg (fun B => Blocks.vLoss B _) (pack_prev m c t _)

theorem first_13 (h : 0 < cfg0.N) : (outsAt0 m c 0 h).2.2.2.2.2.2.2.1 = (bt m c ⟨0, h⟩).vLoss (k0_pay5 (F := Ideal)) :=
  stepA_13 m c ⟨0, h⟩ rfl

theorem later_13 (n : ℕ) (h : n + 1 < cfg0.N) :
    (outsAt0 m c (n + 1) h).2.2.2.2.2.2.2.1 = (bt m c ⟨n + 1, h⟩).vLoss ((outsAt0 m c n (Nat.lt_of_succ_lt h)).2.2.2.2.2.2.2.1) := by
  have hN : cfg0.N = 32 := N_0
  have h0 : ¬(⟨n + 1, h⟩ : Fin cfg0.N).val % 32 = 0 := by dsimp only; omega
  exact stepB_13 m c ⟨n + 1, h⟩ h0

theorem stepA_14 (t : Fin cfg0.N) (h0 : t.val % 32 = 0) :
    (outsAt0 m c t.val t.isLt).2.2.2.2.2.2.2.2.1 = (bt m c t).vDgf (k0_pay6 (F := Ideal)) :=
  (pick_8 (outsAt0_A m c t h0)).trans
    ((out_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
      (congrArg (fun B => Blocks.vDgf B (k0_pay6 (F := Ideal))) (pack_first m c t)))

theorem stepB_14 (t : Fin cfg0.N) (h0 : ¬t.val % 32 = 0) :
    (outsAt0 m c t.val t.isLt).2.2.2.2.2.2.2.2.1 = (bt m c t).vDgf ((outsAt0 m c (prev t).val (prev t).isLt).2.2.2.2.2.2.2.2.1) := by
  refine (pick_8 (outsAt0_B m c t h0)).trans
    ((out_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
  exact congrArg (fun B => Blocks.vDgf B _) (pack_prev m c t _)

theorem first_14 (h : 0 < cfg0.N) : (outsAt0 m c 0 h).2.2.2.2.2.2.2.2.1 = (bt m c ⟨0, h⟩).vDgf (k0_pay6 (F := Ideal)) :=
  stepA_14 m c ⟨0, h⟩ rfl

theorem later_14 (n : ℕ) (h : n + 1 < cfg0.N) :
    (outsAt0 m c (n + 1) h).2.2.2.2.2.2.2.2.1 = (bt m c ⟨n + 1, h⟩).vDgf ((outsAt0 m c n (Nat.lt_of_succ_lt h)).2.2.2.2.2.2.2.2.1) := by
  have hN : cfg0.N = 32 := N_0
  have h0 : ¬(⟨n + 1, h⟩ : Fin cfg0.N).val % 32 = 0 := by dsimp only; omega
  exact stepB_14 m c ⟨n + 1, h⟩ h0

theorem stepA_15 (t : Fin cfg0.N) (h0 : t.val % 32 = 0) :
    (outsAt0 m c t.val t.isLt).2.2.2.2.2.2.2.2.2.1 = (bt m c t).vDg2 (k0_pay7 (F := Ideal)) :=
  (pick_9 (outsAt0_A m c t h0)).trans
    ((out_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (V m c main_v0) (V m c main_v4) (V m c main_v1)).trans
      (congrArg (fun B => Blocks.vDg2 B (k0_pay7 (F := Ideal))) (pack_first m c t)))

theorem stepB_15 (t : Fin cfg0.N) (h0 : ¬t.val % 32 = 0) :
    (outsAt0 m c t.val t.isLt).2.2.2.2.2.2.2.2.2.1 = (bt m c t).vDg2 ((outsAt0 m c (prev t).val (prev t).isLt).2.2.2.2.2.2.2.2.2.1) := by
  refine (pick_9 (outsAt0_B m c t h0)).trans
    ((out_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 (V m c main_v0) (V m c main_v4) (V m c main_v1)).trans ?_)
  exact congrArg (fun B => Blocks.vDg2 B _) (pack_prev m c t _)

theorem first_15 (h : 0 < cfg0.N) : (outsAt0 m c 0 h).2.2.2.2.2.2.2.2.2.1 = (bt m c ⟨0, h⟩).vDg2 (k0_pay7 (F := Ideal)) :=
  stepA_15 m c ⟨0, h⟩ rfl

theorem later_15 (n : ℕ) (h : n + 1 < cfg0.N) :
    (outsAt0 m c (n + 1) h).2.2.2.2.2.2.2.2.2.1 = (bt m c ⟨n + 1, h⟩).vDg2 ((outsAt0 m c n (Nat.lt_of_succ_lt h)).2.2.2.2.2.2.2.2.2.1) := by
  have hN : cfg0.N = 32 := N_0
  have h0 : ¬(⟨n + 1, h⟩ : Fin cfg0.N).val % 32 = 0 := by dsimp only; omega
  exact stepB_15 m c ⟨n + 1, h⟩ h0

/-! The running sums. -/

theorem zero_loss : (k0_pay5 (F := Ideal)) (ix2 0 0) = 0 := by
  unfold k0_pay5
  rw [splat_at, Ideal.ofBits_zero_f32]

theorem zero_dgf (d : Fin 1024) : (k0_pay6 (F := Ideal)) (ix2 0 d) = 0 := by
  unfold k0_pay6
  rw [splat_at, Ideal.ofBits_zero_f32]

theorem zero_dg2 (d : Fin 1024) : (k0_pay7 (F := Ideal)) (ix2 0 d) = 0 := by
  unfold k0_pay7
  rw [splat_at, Ideal.ofBits_zero_f32]

theorem sum_13 : ∀ (n : ℕ) (h : n < cfg0.N),
    (outsAt0 m c n h).2.2.2.2.2.2.2.1 (ix2 0 0) = ∑ s : Fin (n + 1), cHalf * ∑ r, ((bt m c ⟨s.val, hlt h s⟩).tok r).err
  | 0, h => by
    rw [first_13, Blocks.loss_at, zero_loss, zero_add, Fin.sum_univ_one]
    rfl
  | n + 1, h => by
    rw [later_13, Blocks.loss_at, sum_13 n (Nat.lt_of_succ_lt h)]
    exact (Fin.sum_univ_castSucc (n := n + 1) (fun s : Fin (n + 1 + 1) => cHalf * ∑ r, ((bt m c ⟨s.val, hlt h s⟩).tok r).err)).symm

theorem sum_14 (d : Fin 1024) : ∀ (n : ℕ) (h : n < cfg0.N),
    (outsAt0 m c n h).2.2.2.2.2.2.2.2.1 (ix2 0 d) = ∑ s : Fin (n + 1), ∑ r, ((bt m c ⟨s.val, hlt h s⟩).tok r).dgf d
  | 0, h => by
    rw [first_14, Blocks.dgf_at, zero_dgf, zero_add, Fin.sum_univ_one]
    rfl
  | n + 1, h => by
    rw [later_14, Blocks.dgf_at, sum_14 d n (Nat.lt_of_succ_lt h)]
    exact (Fin.sum_univ_castSucc (n := n + 1) (fun s : Fin (n + 1 + 1) => ∑ r, ((bt m c ⟨s.val, hlt h s⟩).tok r).dgf d)).symm

theorem sum_15 (d : Fin 1024) : ∀ (n : ℕ) (h : n < cfg0.N),
    (outsAt0 m c n h).2.2.2.2.2.2.2.2.2.1 (ix2 0 d) = ∑ s : Fin (n + 1), ∑ r, ((bt m c ⟨s.val, hlt h s⟩).tok r).dg2 d
  | 0, h => by
    rw [first_15, Blocks.dg2_at, zero_dg2, zero_add, Fin.sum_univ_one]
    rfl
  | n + 1, h => by
    rw [later_15, Blocks.dg2_at, sum_15 d n (Nat.lt_of_succ_lt h)]
    exact (Fin.sum_univ_castSucc (n := n + 1) (fun s : Fin (n + 1 + 1) => ∑ r, ((bt m c ⟨s.val, hlt h s⟩).tok r).dg2 d)).symm

end Cert.Post

end
-- ==== Proof.Post.Norm.lean ====
/-
  The laws by which the reference's derivative is the kernel's, over the extended reals, with no hypothesis on the
  arguments: the values of the constants, the derivative of the normalisation of a row, the rectifier's derivative, the
  scale of the mean squared error.
-/
module

public import proofs.«01_k».proof.Proof.Post.Model
public import Mathlib.Data.EReal.Inv

@[expose] public section

noncomputable section

namespace Cert.Post

open Idealize.ShloMosaic
open scoped BigOperators

theorem cN_eq : cN = ((1024 : ℝ) : EReal) := by
  simp [cN, Ideal.ofBits, Ideal.ieee]
  rw [← EReal.coe_mul]
  norm_num
theorem cInv_eq : cInv = ((1 / 1024 : ℝ) : EReal) := by
  simp [cInv, Ideal.ofBits, Ideal.ieee]
  rw [← EReal.coe_mul]
  norm_num
theorem cTwo_eq : cTwo = ((2 : ℝ) : EReal) := by
  simp [cTwo, Ideal.ofBits, Ideal.ieee]
  rw [← EReal.coe_mul]
  norm_num
theorem cHalf_eq : cHalf = ((1 / 2 : ℝ) : EReal) := by
  simp [cHalf, Ideal.ofBits, Ideal.ieee]
  rw [← EReal.coe_mul]
  norm_num
theorem one_eq : Ideal.ofBits .f32 0x3F800000#32 = ((1 : ℝ) : EReal) := by
  simp [Ideal.ofBits, Ideal.ieee]
  rw [← EReal.coe_mul]
  norm_num
theorem negHalf_eq : Ideal.ofBits .f32 0xBF000000#32 = ((-(1 / 2) : ℝ) : EReal) := by
  simp [Ideal.ofBits, Ideal.ieee]
  rw [← EReal.coe_mul]
  norm_num
/-- The norm's small number is a positive real. -/
theorem cEps_pos : ∃ e : ℝ, 0 < e ∧ cEps = (e : EReal) := by
  refine ⟨(8796093 : ℝ) / 2 ^ 43, by norm_num, ?_⟩
  simp [cEps, Ideal.ofBits, Ideal.ieee]
  rw [← EReal.coe_mul]
  norm_num

/-- Dividing by the width is multiplying by its reciprocal. -/
theorem div_cN (x : EReal) : Ideal.div x cN = x * cInv := by
  rw [cN_eq, Ideal.div_coe (by norm_num), cInv_eq]

/-- A nonnegative real factor comes out of a sum. -/
theorem sum_mul_real {ι : Type} (s : Finset ι) (f : ι → EReal) (ρ : ℝ) (h : 0 ≤ ρ) :
    ∑ k ∈ s, f k * (ρ : EReal) = (∑ k ∈ s, f k) * (ρ : EReal) := by
  classical
  induction s using Finset.induction_on with
  | empty => simp
  | insert a t ha ih =>
    rw [Finset.sum_insert ha, Finset.sum_insert ha, ih,
      EReal.right_distrib_of_nonneg_of_ne_top (EReal.coe_nonneg.mpr h) (EReal.coe_ne_top ρ)]

/-- A square is nonnegative. -/
theorem sq_nonneg' (x : EReal) : 0 ≤ x * x := by
  induction x with
  | bot => simp
  | top => simp
  | coe r => rw [← EReal.coe_mul]; exact EReal.coe_nonneg.mpr (mul_self_nonneg r)

/-- A square that is finite is a real's. -/
theorem real_of_sq {x : EReal} (h : x * x ≠ ⊤) : ∃ a : ℝ, x = (a : EReal) := by
  induction x with
  | bot => simp at h
  | top => simp at h
  | coe r => exact ⟨r, rfl⟩

/-- A row with a finite sum of squares is a row of reals. -/
theorem real_of_sum {h : Fin 1024 → EReal} (hs : ∑ d, h d * h d ≠ ⊤) (d : Fin 1024) : ∃ a : ℝ, h d = (a : EReal) := by
  refine real_of_sq fun e => hs ?_
  have hle : h d * h d ≤ ∑ k, h k * h k :=
    Finset.single_le_sum (f := fun k => h k * h k) (fun k _ => sq_nonneg' (h k)) (Finset.mem_univ d)
  exact top_le_iff.mp (e ▸ hle)

/-- The mean square of a row, raised by the small number. -/
def meanSq (h : Fin 1024 → EReal) : EReal := Ideal.div (∑ d, h d * h d) cN + cEps

theorem rstd_eq (h : Fin 1024 → EReal) : rstd h = Ideal.rsqrt (meanSq h) := rfl

/-- It is infinite, or a positive real and the row is real. -/
theorem meanSq_cases (h : Fin 1024 → EReal) :
    meanSq h = ⊤ ∨ ∃ z : ℝ, 0 < z ∧ meanSq h = (z : EReal) ∧ ∀ d, ∃ a : ℝ, h d = (a : EReal) := by
  obtain ⟨e, he, hE⟩ := cEps_pos
  have hnn : 0 ≤ ∑ d, h d * h d := Finset.sum_nonneg fun d _ => sq_nonneg' (h d)
  unfold meanSq
  rw [div_cN, hE, cInv_eq]
  by_cases ht : ∑ d, h d * h d = ⊤
  · left
    rw [ht, EReal.top_mul_coe_of_pos (by norm_num), EReal.top_add_coe]
  · right
    have hreal := real_of_sum ht
    have hb : ∑ d, h d * h d ≠ ⊥ := fun e => by rw [e] at hnn; exact absurd hnn (by simp)
    lift (∑ d, h d * h d) to ℝ using ⟨ht, hb⟩ with S
    have hS : 0 ≤ S := EReal.coe_nonneg.mp hnn
    exact ⟨S * (1 / 1024) + e, by positivity, by rw [EReal.coe_add, EReal.coe_mul], hreal⟩

/-- The derivative of a row's normalisation: the reference's form, which differentiates the reciprocal root mean square
    and the square separately, is the kernel's. -/
theorem normBack_eq (h g : Fin 1024 → EReal) (d : Fin 1024) :
    (g d * rstd h
        + h d * Ideal.div ((∑ k, h k * g k) * (Ideal.ofBits .f32 0xBF000000#32 * Ideal.div (rstd h) (meanSq h))) cN)
      + Ideal.div ((∑ k, h k * g k) * (Ideal.ofBits .f32 0xBF000000#32 * Ideal.div (rstd h) (meanSq h))) cN * h d
      = normBack (rstd h) (fun k => h k * rstd h) g d := by
  unfold normBack
  rw [div_cN, div_cN, rstd_eq, negHalf_eq, cInv_eq]
  rcases meanSq_cases h with hz | ⟨z, hz, hmz, hreal⟩
  · rw [hz, Ideal.rsqrt_top]
    have : Ideal.div 0 ⊤ = 0 := by simp [Ideal.div]
    simp [this]
  · choose a ha using hreal
    have hr : Ideal.rsqrt (meanSq h) = (((Real.sqrt z)⁻¹ : ℝ) : EReal) := by
      rw [hmz, Ideal.rsqrt_coe, if_neg (not_lt.mpr hz.le), if_neg hz.ne']
    rw [hr, hmz, Ideal.div_coe hz.ne']
    have hρ : 0 ≤ (Real.sqrt z)⁻¹ := inv_nonneg.mpr (Real.sqrt_nonneg z)
    have hρz : (Real.sqrt z)⁻¹ * (Real.sqrt z)⁻¹ = 1 / z := by
      rw [← mul_inv, Real.mul_self_sqrt hz.le, one_div]
    generalize (Real.sqrt z)⁻¹ = ρ at hρ hρz
    have hsum : ∑ k, g k * (h k * (ρ : EReal)) = (∑ k, h k * g k) * (ρ : EReal) := by
      rw [← sum_mul_real _ _ ρ hρ]
      exact Finset.sum_congr rfl fun k _ => by rw [← mul_assoc, mul_comm (g k)]
    rw [hsum]
    generalize (∑ k, h k * g k) = S
    show (g d * (ρ : EReal) + h d * _) + _ * h d = (ρ : EReal) * (g d - h d * (ρ : EReal) * _)
    rw [ha d]
    rw [EReal.mul_sub_of_nonneg_of_ne_top (EReal.coe_nonneg.mpr hρ) (EReal.coe_ne_top ρ), add_assoc, mul_comm (ρ : EReal) (g d),
      sub_eq_add_neg]
    refine congrArg (g d * (ρ : EReal) + ·) ?_
    have e1 : (ρ : EReal) * ((a d : EReal) * (ρ : EReal) * (S * (ρ : EReal) * ((1 / 1024 : ℝ) : EReal)))
        = S * ((a d * (ρ * (ρ * ρ) * (1 / 1024)) : ℝ) : EReal) := by
      push_cast
      ac_rfl
    have e2 : S * (((-(1 / 2) : ℝ) : EReal) * ((ρ : EReal) * ((1 / z : ℝ) : EReal))) * ((1 / 1024 : ℝ) : EReal) * (a d : EReal)
        = S * ((-(a d * (ρ * (ρ * ρ) * (1 / 1024)) * (1 / 2)) : ℝ) : EReal) := by
      have : (-(a d * (ρ * (ρ * ρ) * (1 / 1024)) * (1 / 2)) : ℝ) = (-(1 / 2)) * (ρ * (1 / z)) * (1 / 1024) * a d := by
        rw [← hρz]; ring
      rw [this]
      push_cast
      ac_rfl
    rw [mul_comm (a d : EReal) (S * _ * _), e2, e1]
    generalize a d * (ρ * (ρ * ρ) * (1 / 1024)) = κ
    rw [show -(S * (κ : EReal)) = S * ((-κ : ℝ) : EReal) by rw [EReal.coe_neg, mul_neg]]
    induction S with
    | bot =>
      rcases lt_trichotomy (-(κ * (1 / 2))) 0 with hk | hk | hk
      · rw [EReal.bot_mul_coe_of_neg hk, EReal.bot_mul_coe_of_neg (by linarith)]; rfl
      · have : κ = 0 := by linarith
        subst this; simp
      · rw [EReal.bot_mul_coe_of_pos hk, EReal.bot_mul_coe_of_pos (by linarith)]; rfl
    | top =>
      rcases lt_trichotomy (-(κ * (1 / 2))) 0 with hk | hk | hk
      · rw [EReal.top_mul_coe_of_neg hk, EReal.top_mul_coe_of_neg (by linarith)]; rfl
      · have : κ = 0 := by linarith
        subst this; simp
      · rw [EReal.top_mul_coe_of_pos hk, EReal.top_mul_coe_of_pos (by linarith)]; rfl
    | coe s =>
      rw [← EReal.coe_mul, ← EReal.coe_mul, ← EReal.coe_add]
      exact congrArg _ (by ring)

/-- The scale of the error's derivative. -/
theorem dy_scale (x : EReal) :
    Ideal.div (cHalf * Ideal.ofBits .f32 0x3F800000#32) cN * (cTwo * x) = x * cInv := by
  rw [div_cN, cHalf_eq, one_eq, cInv_eq, cTwo_eq, ← EReal.coe_mul, ← EReal.coe_mul, ← mul_assoc, ← EReal.coe_mul, mul_comm]
  exact congrArg (fun κ : ℝ => x * (κ : EReal)) (by norm_num)

/-- Where the hidden value isn't positive, the rectified value is zero and so is the derivative. -/
theorem relu_grad (u v : EReal) : (if 0 < u then v * (cTwo * max u 0) else 0) = v * (cTwo * max u 0) := by
  split
  · rfl
  · next h => rw [max_eq_right (not_lt.mp h), mul_zero, mul_zero]

/-- Half of a sum is the sum of the halves. -/
theorem half_sum {ι : Type} (s : Finset ι) (f : ι → EReal) : ∑ k ∈ s, cHalf * f k = cHalf * ∑ k ∈ s, f k := by
  rw [cHalf_eq, mul_comm, ← sum_mul_real s f _ (by norm_num)]
  exact Finset.sum_congr rfl fun k _ => mul_comm _ _

end Cert.Post

end
-- ==== Proof.Post.Ref.lean ====
/-
  The reference, one token at a time: each of its results at a token and a column is the token's quantity (`Model.lean`).
-/
module

public import proofs.«01_k».proof.Proof.Gen.PostReferenceIdeal.Read
public import proofs.«01_k».proof.Proof.Post.Rows
public import proofs.«01_k».proof.Proof.Post.Norm

@[expose] public section

set_option maxRecDepth 16384

noncomputable section

namespace Cert.Post.Ref

open Cert.PostReferenceIdeal Cert.PostReferenceIdeal.Gen Cert.PostReferenceIdeal.Read Cert.Rows Cert.Post Idealize.ShloMosaic
  Idealize.ShloMosaic.ValueIdx
open scoped BigOperators

variable (x0 : FVec Ideal S8192x1024 .f32) (x1 : FVec Ideal S8192x512 .bf16) (x2 : FVec Ideal S8192x512 .f32)
  (x3 : FVec Ideal S8192x1024 .f32) (x4 x5 : FVec Ideal S1x1024 .f32) (x6 : FVec Ideal S1024x1024 .f32)
  (x7 : FVec Ideal S1024x4096 .f32) (x8 : FVec Ideal S4096x1024 .f32)

/-- Token `t` of the arguments. -/
def tok (t : Fin 8192) : Tok where
  x := row x0 t
  mixed := cat (row x1 t) (row x2 t)
  tgt := row x3 t
  g2 := row x4 0
  gf := row x5 0
  wo := fun k d => x6 (ix2 k d)
  w1 := fun d f => x7 (ix2 d f)
  w2 := fun f d => x8 (ix2 f d)

/-- A matrix's index from its two coordinates. -/
theorem e2 {n m : ℕ} (i : (⟨2, ![n, m]⟩ : Shape).Idx) (a : Fin n) (b : Fin m) (h0 : (i 0).val = a.val) (h1 : (i 1).val = b.val) :
    i = ix2 a b := by
  funext k
  apply Fin.ext
  match k with
  | ⟨0, _⟩ => exact h0
  | ⟨1, _⟩ => exact h1

/-- The indices of a vector are its positions. -/
def idx1 (n : ℕ) : Fin n ≃ (⟨1, ![n]⟩ : Shape).Idx where
  toFun := ix1
  invFun i := i 0
  left_inv _ := rfl
  right_inv i := funext fun a => by match a with | ⟨0, _⟩ => rfl

/-- A column's element number. -/
theorem colNum (t : Fin 8192) : (idx_main_v66 (ix2 t 0) 0).val = t.val := by
  have := t.isLt
  show t.val * 1 + 0 = t.val
  omega

/-- A row's element number. -/
theorem rowNum (d : Fin 1024) : (idx_main_v61 (ix2 0 d) 0).val = d.val := by
  have := d.isLt
  show 0 * 1024 + d.val = d.val
  omega

local notation "T" => tok x0 x1 x2 x3 x4 x5 x6 x7 x8

variable (t : Fin 8192)

theorem mixed_at (d : Fin 1024) : val_main_v1 (F := Ideal) x1 x2 (ix2 t d) = (T t).mixed d := by
  unfold val_main_v1
  exact cat_at (A := 512) (B := 512) _ _ _ rfl t d

theorem h1_at (d : Fin 1024) : val_main_v3 (F := Ideal) x0 x1 x2 x6 (ix2 t d) = (T t).h1 d := by
  rw [val_main_v3_apply, val_main_v2_apply]
  refine congrArg (x0 (ix2 t d) + ·) (Finset.sum_congr rfl fun k _ => ?_)
  rw [e2 (lidx_main_v2 (ix2 t d) k) t k rfl rfl, e2 (ridx_main_v2 (ix2 t d) k) k d rfl rfl, mixed_at x0 x1 x2 x3 x4 x5 x6 x7 x8]
  rfl

theorem z1_at (u : Fin 1) : val_main_v10 (F := Ideal) x0 x1 x2 x6 (ix2 t u) = meanSq (T t).h1 := by
  rw [val_main_v10_apply, val_main_v8_apply, val_main_v6_apply, val_main_v5_apply, val_main_v7_apply, val_main_v9_apply,
    val_main_cst_apply, val_main_cst_0_apply, val_main_cst_1_apply]
  have e : ∀ k, val_main_v4 (F := Ideal) x0 x1 x2 x6 (idx_main_v5 (idx_main_v6 (ix2 t u)) k) = (T t).h1 k * (T t).h1 k := fun k => by
    rw [val_main_v4_apply, e2 (idx_main_v5 (idx_main_v6 (ix2 t u)) k) t k rfl rfl, h1_at x0 x1 x2 x3 x4 x5 x6 x7 x8]
    rfl
  rw [Finset.sum_congr rfl fun k _ => e k]
  show Ideal.div (Ideal.ofBits .f32 0x00000000#32 + ∑ k, (T t).h1 k * (T t).h1 k) cN + cEps = _
  rw [Ideal.ofBits_zero_f32, zero_add]
  rfl

theorem rs1_at (u : Fin 1) : val_main_v11 (F := Ideal) x0 x1 x2 x6 (ix2 t u) = rstd (T t).h1 := by
  rw [val_main_v11_apply, z1_at x0 x1 x2 x3 x4 x5 x6 x7 x8]
  rfl

theorem hn1_at (d : Fin 1024) : val_main_v16 (F := Ideal) x0 x1 x2 x6 (ix2 t d) = (T t).hn1 d := by
  rw [val_main_v16_apply, val_main_v15_apply, e2 (idx_main_v15 (ix2 t d)) t 0 rfl rfl, rs1_at x0 x1 x2 x3 x4 x5 x6 x7 x8,
    h1_at x0 x1 x2 x3 x4 x5 x6 x7 x8]
  rfl

theorem nm_at (d : Fin 1024) : val_main_v18 (F := Ideal) x0 x1 x2 x4 x6 (ix2 t d) = (T t).nm d := by
  rw [val_main_v18_apply, val_main_v17_apply, e2 (idx_main_v17 (ix2 t d)) 0 d rfl rfl, hn1_at x0 x1 x2 x3 x4 x5 x6 x7 x8]
  rfl

/-- The hidden row before the rectifier. -/
theorem u_at (f : Fin 4096) : val_main_v19 (F := Ideal) x0 x1 x2 x4 x6 x7 (ix2 t f) = ∑ d, (T t).nm d * (T t).w1 d f := by
  rw [val_main_v19_apply]
  refine Finset.sum_congr rfl fun k _ => ?_
  rw [e2 (lidx_main_v19 (ix2 t f) k) t k rfl rfl, e2 (ridx_main_v19 (ix2 t f) k) k f rfl rfl, nm_at x0 x1 x2 x3 x4 x5 x6 x7 x8]
  rfl

theorem r_at (f : Fin 4096) : val_main_v20 (F := Ideal) x0 x1 x2 x4 x6 x7 (ix2 t f) = (T t).r f := by
  rw [val_main_v20_apply, val_main_call0_v0_apply, val_main_call0_cst_apply, u_at x0 x1 x2 x3 x4 x5 x6 x7 x8]
  show max _ (Ideal.ofBits .f32 0x00000000#32) = _
  rw [Ideal.ofBits_zero_f32]
  rfl

theorem a_at (f : Fin 4096) : val_main_v24 (F := Ideal) x0 x1 x2 x4 x6 x7 (ix2 t f) = (T t).a f := by
  rw [val_main_v24_apply, r_at x0 x1 x2 x3 x4 x5 x6 x7 x8]
  rfl

theorem h2_at (d : Fin 1024) : val_main_v28 (F := Ideal) x0 x1 x2 x4 x6 x7 x8 (ix2 t d) = (T t).h2 d := by
  rw [val_main_v28_apply, val_main_v27_apply, h1_at x0 x1 x2 x3 x4 x5 x6 x7 x8]
  refine congrArg ((T t).h1 d + ·) (Finset.sum_congr rfl fun k _ => ?_)
  rw [e2 (lidx_main_v27 (ix2 t d) k) t k rfl rfl, e2 (ridx_main_v27 (ix2 t d) k) k d rfl rfl, a_at x0 x1 x2 x3 x4 x5 x6 x7 x8]
  rfl

theorem z2_at (u : Fin 1) : val_main_v35 (F := Ideal) x0 x1 x2 x4 x6 x7 x8 (ix2 t u) = meanSq (T t).h2 := by
  rw [val_main_v35_apply, val_main_v33_apply, val_main_v31_apply, val_main_v30_apply, val_main_v32_apply, val_main_v34_apply,
    val_main_cst_6_apply, val_main_cst_7_apply, val_main_cst_8_apply]
  have e : ∀ k, val_main_v29 (F := Ideal) x0 x1 x2 x4 x6 x7 x8 (idx_main_v30 (idx_main_v31 (ix2 t u)) k)
      = (T t).h2 k * (T t).h2 k := fun k => by
    rw [val_main_v29_apply, e2 (idx_main_v30 (idx_main_v31 (ix2 t u)) k) t k rfl rfl, h2_at x0 x1 x2 x3 x4 x5 x6 x7 x8]
    rfl
  rw [Finset.sum_congr rfl fun k _ => e k]
  show Ideal.div (Ideal.ofBits .f32 0x00000000#32 + ∑ k, (T t).h2 k * (T t).h2 k) cN + cEps = _
  rw [Ideal.ofBits_zero_f32, zero_add]
  rfl

theorem rs2_at (u : Fin 1) : val_main_v36 (F := Ideal) x0 x1 x2 x4 x6 x7 x8 (ix2 t u) = rstd (T t).h2 := by
  rw [val_main_v36_apply, z2_at x0 x1 x2 x3 x4 x5 x6 x7 x8]
  rfl

theorem hnf_at (d : Fin 1024) : val_main_v41 (F := Ideal) x0 x1 x2 x4 x6 x7 x8 (ix2 t d) = (T t).hnf d := by
  rw [val_main_v41_apply, val_main_v40_apply, e2 (idx_main_v40 (ix2 t d)) t 0 rfl rfl, rs2_at x0 x1 x2 x3 x4 x5 x6 x7 x8,
    h2_at x0 x1 x2 x3 x4 x5 x6 x7 x8]
  rfl

theorem diff_at (d : Fin 1024) : val_main_v44 (F := Ideal) x0 x1 x2 x3 x4 x5 x6 x7 x8 (ix2 t d) = (T t).diff d := by
  rw [val_main_v44_apply, val_main_v43_apply, val_main_v42_apply, e2 (idx_main_v42 (ix2 t d)) 0 d rfl rfl,
    hnf_at x0 x1 x2 x3 x4 x5 x6 x7 x8]
  rfl

theorem dy_at (d : Fin 1024) : val_main_v58 (F := Ideal) x0 x1 x2 x3 x4 x5 x6 x7 x8 (ix2 t d) = (T t).dy d := by
  rw [val_main_v58_apply, val_main_v57_apply, val_main_v56_apply, val_main_v54_apply, val_main_v53_apply, val_main_v55_apply,
    val_main_v47_apply, val_main_v46_apply, val_main_cst_10_apply, val_main_cst_15_apply, val_main_cst_16_apply,
    val_main_cst_17_apply, diff_at x0 x1 x2 x3 x4 x5 x6 x7 x8]
  exact dy_scale _

/-- The derivative with respect to the normalised prediction. -/
theorem dhnf_at (d : Fin 1024) :
    val_main_v63 (F := Ideal) x0 x1 x2 x3 x4 x5 x6 x7 x8 (ix2 t d) = (T t).dy d * (T t).gf d := by
  rw [val_main_v63_apply, val_main_v62_apply, e2 (idx_main_v62 (ix2 t d)) 0 d rfl rfl, dy_at x0 x1 x2 x3 x4 x5 x6 x7 x8]
  rfl

/-- The coefficient of `h2` in its own derivative. -/
theorem c2_at (d : Fin 1024) : val_main_v73 (F := Ideal) x0 x1 x2 x3 x4 x5 x6 x7 x8 (ix2 t d)
    = Ideal.div ((∑ k, (T t).h2 k * ((T t).dy k * (T t).gf k))
        * (Ideal.ofBits .f32 0xBF000000#32 * Ideal.div (rstd (T t).h2) (meanSq (T t).h2))) cN := by
  rw [val_main_v73_apply, val_main_v72_apply, Fin.sum_univ_one, e2 (idx_main_v72 (idx_main_v73 (ix2 t d)) 0) t 0 rfl rfl,
    val_main_v71_apply, val_main_v69_apply, val_main_v66_apply, val_main_v65_apply, val_main_v70_apply, val_main_v39_apply,
    val_main_v37_apply, val_main_v38_apply, val_main_cst_9_apply, val_main_cst_19_apply, val_main_cst_20_apply,
    val_main_cst_21_apply, rs2_at x0 x1 x2 x3 x4 x5 x6 x7 x8, z2_at x0 x1 x2 x3 x4 x5 x6 x7 x8]
  have e : ∀ k, val_main_v64 (F := Ideal) x0 x1 x2 x3 x4 x5 x6 x7 x8 (idx_main_v65 (idx_main_v66 (ix2 t 0)) k)
      = (T t).h2 k * ((T t).dy k * (T t).gf k) := fun k => by
    rw [val_main_v64_apply, e2 (idx_main_v65 (idx_main_v66 (ix2 t 0)) k) t k (colNum t) rfl, h2_at x0 x1 x2 x3 x4 x5 x6 x7 x8,
      dhnf_at x0 x1 x2 x3 x4 x5 x6 x7 x8]
    rfl
  rw [Finset.sum_congr rfl fun k _ => e k]
  show Ideal.ofBits .f32 0x00000000#32 + Ideal.div ((Ideal.ofBits .f32 0x00000000#32 + _) * _) cN = _
  rw [Ideal.ofBits_zero_f32, zero_add, zero_add]
  rfl

theorem dh2_at (d : Fin 1024) : val_main_v77 (F := Ideal) x0 x1 x2 x3 x4 x5 x6 x7 x8 (ix2 t d) = (T t).dh2 d := by
  rw [val_main_v77_apply, val_main_v75_apply, val_main_v76_apply, val_main_v74_apply, val_main_v68_apply, val_main_v67_apply,
    e2 (idx_main_v67 (ix2 t d)) t 0 rfl rfl, rs2_at x0 x1 x2 x3 x4 x5 x6 x7 x8, c2_at x0 x1 x2 x3 x4 x5 x6 x7 x8,
    h2_at x0 x1 x2 x3 x4 x5 x6 x7 x8, dhnf_at x0 x1 x2 x3 x4 x5 x6 x7 x8]
  exact normBack_eq (T t).h2 (fun k => (T t).dy k * (T t).gf k) d

theorem du_at (f : Fin 4096) : val_main_v81 (F := Ideal) x0 x1 x2 x3 x4 x5 x6 x7 x8 (ix2 t f) = (T t).du f := by
  rw [val_main_v81_apply, val_main_v79_apply, val_main_v78_apply, val_main_v80_apply, val_main_v22_apply, val_main_v21_apply,
    val_main_v26_apply, val_main_v25_apply, val_main_cst_3_apply, val_main_cst_5_apply, val_main_cst_22_apply,
    u_at x0 x1 x2 x3 x4 x5 x6 x7 x8, r_at x0 x1 x2 x3 x4 x5 x6 x7 x8]
  have e : ∀ k, val_main_v77 (F := Ideal) x0 x1 x2 x3 x4 x5 x6 x7 x8 (lidx_main_v78 (ix2 t f) k)
      * x8 (ridx_main_v78 (ix2 t f) k) = (T t).dh2 k * (T t).w2 f k := fun k => by
    rw [e2 (lidx_main_v78 (ix2 t f) k) t k rfl rfl, e2 (ridx_main_v78 (ix2 t f) k) f k rfl rfl,
      dh2_at x0 x1 x2 x3 x4 x5 x6 x7 x8]
    rfl
  rw [Finset.sum_congr rfl fun k _ => e k]
  refine Eq.trans ?_ (relu_grad (∑ d, (T t).nm d * (T t).w1 d f) (∑ k, (T t).dh2 k * (T t).w2 f k))
  show (if Ideal.cmp .ogt (∑ d, (T t).nm d * (T t).w1 d f) (Ideal.ofBits .f32 0x00000000#32) = 1#1 then _ else
    Ideal.ofBits .f32 0x00000000#32) = _
  rw [Ideal.ofBits_zero_f32]
  by_cases hu : 0 < ∑ d, (T t).nm d * (T t).w1 d f
  · rw [if_pos hu]
    exact if_pos (by simp [Ideal.cmp, hu])
  · rw [if_neg hu]
    exact if_neg (by simp [Ideal.cmp, hu])

theorem dnm_at (d : Fin 1024) : val_main_v82 (F := Ideal) x0 x1 x2 x3 x4 x5 x6 x7 x8 (ix2 t d) = (T t).dnm d := by
  rw [val_main_v82_apply]
  refine Finset.sum_congr rfl fun k _ => ?_
  rw [e2 (lidx_main_v82 (ix2 t d) k) t k rfl rfl, e2 (ridx_main_v82 (ix2 t d) k) d k rfl rfl, du_at x0 x1 x2 x3 x4 x5 x6 x7 x8]
  rfl

/-- The derivative with respect to the normalised row. -/
theorem dhn1_at (d : Fin 1024) :
    val_main_v87 (F := Ideal) x0 x1 x2 x3 x4 x5 x6 x7 x8 (ix2 t d) = (T t).dnm d * (T t).g2 d := by
  rw [val_main_v87_apply, val_main_v86_apply, e2 (idx_main_v86 (ix2 t d)) 0 d rfl rfl, dnm_at x0 x1 x2 x3 x4 x5 x6 x7 x8]
  rfl

/-- The coefficient of `h1` in its own derivative. -/
theorem c1_at (d : Fin 1024) : val_main_v97 (F := Ideal) x0 x1 x2 x3 x4 x5 x6 x7 x8 (ix2 t d)
    = Ideal.div ((∑ k, (T t).h1 k * ((T t).dnm k * (T t).g2 k))
        * (Ideal.ofBits .f32 0xBF000000#32 * Ideal.div (rstd (T t).h1) (meanSq (T t).h1))) cN := by
  rw [val_main_v97_apply, val_main_v96_apply, Fin.sum_univ_one, e2 (idx_main_v96 (idx_main_v97 (ix2 t d)) 0) t 0 rfl rfl,
    val_main_v95_apply, val_main_v93_apply, val_main_v90_apply, val_main_v89_apply, val_main_v94_apply, val_main_v14_apply,
    val_main_v12_apply, val_main_v13_apply, val_main_cst_2_apply, val_main_cst_24_apply, val_main_cst_25_apply,
    val_main_cst_26_apply, rs1_at x0 x1 x2 x3 x4 x5 x6 x7 x8, z1_at x0 x1 x2 x3 x4 x5 x6 x7 x8]
  have e : ∀ k, val_main_v88 (F := Ideal) x0 x1 x2 x3 x4 x5 x6 x7 x8 (idx_main_v89 (idx_main_v90 (ix2 t 0)) k)
      = (T t).h1 k * ((T t).dnm k * (T t).g2 k) := fun k => by
    rw [val_main_v88_apply, e2 (idx_main_v89 (idx_main_v90 (ix2 t 0)) k) t k (colNum t) rfl, h1_at x0 x1 x2 x3 x4 x5 x6 x7 x8,
      dhn1_at x0 x1 x2 x3 x4 x5 x6 x7 x8]
    rfl
  rw [Finset.sum_congr rfl fun k _ => e k]
  show Ideal.ofBits .f32 0x00000000#32 + Ideal.div ((Ideal.ofBits .f32 0x00000000#32 + _) * _) cN = _
  rw [Ideal.ofBits_zero_f32, zero_add, zero_add]
  rfl

theorem dh1_at (d : Fin 1024) : val_main_v102 (F := Ideal) x0 x1 x2 x3 x4 x5 x6 x7 x8 (ix2 t d) = (T t).dh1 d := by
  rw [val_main_v102_apply, val_main_v101_apply, val_main_v99_apply, val_main_v100_apply, val_main_v98_apply, val_main_v92_apply,
    val_main_v91_apply, e2 (idx_main_v91 (ix2 t d)) t 0 rfl rfl, rs1_at x0 x1 x2 x3 x4 x5 x6 x7 x8,
    c1_at x0 x1 x2 x3 x4 x5 x6 x7 x8, h1_at x0 x1 x2 x3 x4 x5 x6 x7 x8, dhn1_at x0 x1 x2 x3 x4 x5 x6 x7 x8,
    dh2_at x0 x1 x2 x3 x4 x5 x6 x7 x8]
  exact congrArg ((T t).dh2 d + ·) (normBack_eq (T t).h1 (fun k => (T t).dnm k * (T t).g2 k) d)

theorem dmixed_at (k : Fin 1024) : val_main_v103 (F := Ideal) x0 x1 x2 x3 x4 x5 x6 x7 x8 (ix2 t k) = (T t).dmixed k := by
  rw [val_main_v103_apply]
  refine Finset.sum_congr rfl fun d _ => ?_
  rw [e2 (lidx_main_v103 (ix2 t k) d) t d rfl rfl, e2 (ridx_main_v103 (ix2 t k) d) k d rfl rfl,
    dh1_at x0 x1 x2 x3 x4 x5 x6 x7 x8]
  rfl

/-- The loss: half the sum of the tokens' mean squared errors. -/
theorem loss_at : val_main_v109 (F := Ideal) x0 x1 x2 x3 x4 x5 x6 x7 x8 (ix2 0 0) = cHalf * ∑ t, (T t).err := by
  have h : val_main_v109 (F := Ideal) x0 x1 x2 x3 x4 x5 x6 x7 x8 (ix2 0 0)
      = val_main_v52 (F := Ideal) x0 x1 x2 x3 x4 x5 x6 x7 x8 ix0 := by
    unfold val_main_v109
    exact shapeCast_apply _ _ _ _ rfl
  rw [h, val_main_v52_apply, val_main_v51_apply, val_main_cst_13_apply, val_main_cst_14_apply]
  have e : ∀ t : Fin 8192, val_main_v50 (F := Ideal) x0 x1 x2 x3 x4 x5 x6 x7 x8 (ix1 t) = (T t).err := fun t => by
    rw [val_main_v50_apply, val_main_v48_apply, val_main_v49_apply, val_main_cst_11_apply, val_main_cst_12_apply]
    have e' : ∀ k, val_main_v45 (F := Ideal) x0 x1 x2 x3 x4 x5 x6 x7 x8 (idx_main_v48 (ix1 t) k) = (T t).diff k * (T t).diff k :=
      fun k => by
        rw [val_main_v45_apply, e2 (idx_main_v48 (ix1 t) k) t k rfl rfl, diff_at x0 x1 x2 x3 x4 x5 x6 x7 x8]
        rfl
    rw [Finset.sum_congr rfl fun k _ => e' k]
    show Ideal.div (Ideal.ofBits .f32 0x00000000#32 + _) cN = _
    rw [Ideal.ofBits_zero_f32, zero_add, div_cN]
    rfl
  show cHalf * (Ideal.ofBits .f32 0x00000000#32 + _) = _
  rw [Ideal.ofBits_zero_f32, zero_add, ← Equiv.sum_comp (idx1 8192)]
  exact congrArg (cHalf * ·) (Finset.sum_congr rfl fun t _ => e t)

theorem dgf_at (d : Fin 1024) : val_main_v61 (F := Ideal) x0 x1 x2 x3 x4 x5 x6 x7 x8 (ix2 0 d) = ∑ t, (T t).dgf d := by
  rw [val_main_v61_apply, val_main_v60_apply, val_main_cst_18_apply]
  have e : ∀ t, val_main_v59 (F := Ideal) x0 x1 x2 x3 x4 x5 x6 x7 x8 (idx_main_v60 (idx_main_v61 (ix2 0 d)) t) = (T t).dgf d :=
    fun t => by
      rw [val_main_v59_apply, e2 (idx_main_v60 (idx_main_v61 (ix2 0 d)) t) t d rfl (rowNum d), hnf_at x0 x1 x2 x3 x4 x5 x6 x7 x8,
        dy_at x0 x1 x2 x3 x4 x5 x6 x7 x8]
      exact mul_comm _ _
  rw [Finset.sum_congr rfl fun k _ => e k]
  show Ideal.ofBits .f32 0x00000000#32 + _ = _
  rw [Ideal.ofBits_zero_f32, zero_add]

theorem dg2_at (d : Fin 1024) : val_main_v85 (F := Ideal) x0 x1 x2 x3 x4 x5 x6 x7 x8 (ix2 0 d) = ∑ t, (T t).dg2 d := by
  rw [val_main_v85_apply, val_main_v84_apply, val_main_cst_23_apply]
  have e : ∀ t, val_main_v83 (F := Ideal) x0 x1 x2 x3 x4 x5 x6 x7 x8 (idx_main_v84 (idx_main_v85 (ix2 0 d)) t) = (T t).dg2 d :=
    fun t => by
      rw [val_main_v83_apply, e2 (idx_main_v84 (idx_main_v85 (ix2 0 d)) t) t d rfl (rowNum d), hn1_at x0 x1 x2 x3 x4 x5 x6 x7 x8,
        dnm_at x0 x1 x2 x3 x4 x5 x6 x7 x8]
      exact mul_comm _ _
  rw [Finset.sum_congr rfl fun k _ => e k]
  show Ideal.ofBits .f32 0x00000000#32 + _ = _
  rw [Ideal.ofBits_zero_f32, zero_add]

end Cert.Post.Ref

end
-- ==== Proof.Post.Arrays.lean ====
/-
  The launch's argument blocks and weights, read as the arguments: row `r` of point `t`'s blocks is token `256 t + r`.
-/
module

public import proofs.«01_k».proof.Proof.Post.Points
public import proofs.«01_k».proof.Proof.Post.Ref
public import Idealize.ShloMosaic.Lib.Pipeline.ValueKit
public import Idealize.ShloMosaic.Lib.StableHlo.Run

@[expose] public section

set_option maxRecDepth 16384

noncomputable section

namespace Cert.Post

open Cert.PostKernelIdeal Cert.PostKernelIdeal.Gen Cert.Rows Idealize.ShloMosaic.TcCoe Idealize.ShloMosaic.ValueIdx Idealize.SL.Sem
open Idealize.ShloMosaic hiding ix1 ix2 ix3
open scoped BigOperators

variable (m : (ℓ : Loc nD τ sig) → Buf (Elt Ideal) ℓ) (c : Dev nD)

/-- Token `i` of the kernel's arguments. -/
def tk (i : Fin 8192) : Tok :=
  Ref.tok (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) i

theorem v0_eq : (V m c main_v0 : FVec Ideal S1024x1024 .bf16) = truncf (F := Ideal) .bf16 (m ((c : Thread nD τ).loc main_arg6) : FVec Ideal S1024x1024 .f32) bitsLt_bf16_f32 := by
  unfold V
  after_results

theorem v1_eq : (V m c main_v1 : FVec Ideal S4096x1024 .bf16) = truncf (F := Ideal) .bf16 (m ((c : Thread nD τ).loc main_arg8) : FVec Ideal S4096x1024 .f32) bitsLt_bf16_f32 := by
  unfold V
  after_results

theorem v4_eq : (V m c main_v4 : FVec Ideal S4x1024x1024 .bf16) = transpose S4x1024x1024 [1, 0, 2] (shapeCast S1024x4x1024
    (truncf (F := Ideal) .bf16 (m ((c : Thread nD τ).loc main_arg7) : FVec Ideal S1024x4096 .f32) bitsLt_bf16_f32)
      shapeCasts_S1024x4096_S1024x4x1024) transposes_S1024x4x1024_S4x1024x1024_1_0_2 := by
  unfold V
  after_results
  rfl

theorem index_row : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0])

theorem N32 (t : Fin cfg0.N) : t.val < 32 := lt_of_lt_of_eq t.isLt N_0

/-- Row `r` of point `t`. -/
def at256 (t : Fin cfg0.N) (r : Fin 256) : Fin 8192 := ⟨256 * t.val + r.val, by have := N32 t; have := r.isLt; omega⟩

theorem blk0_at (t : Fin cfg0.N) (r : Fin 256) (d : Fin 1024) : (iblk m c 0 t : FVec Ideal S256x1024 .f32) (ix2 r d)
    = (m ((c : Thread nD τ).loc main_arg0) : FVec Ideal S8192x1024 .f32) (ix2 (at256 t r) d) := by
  unfold iblk
  rw [View.read_apply]
  show V m c main_arg0 _ = _
  rw [V_main_arg0]
  refine congrArg _ (Ref.e2 _ _ _ ?_ ?_)
  · refine (Pipeline.Window.rect_emb_val win0_0 t _ 0).trans ?_
    rw [(index_row t).1]
    show t.val * 256 + r.val = 256 * t.val + r.val
    omega
  · refine (Pipeline.Window.rect_emb_val win0_0 t _ 1).trans ?_
    rw [(index_row t).1]
    show 0 * 1024 + d.val = d.val
    omega

theorem blk1_at (t : Fin cfg0.N) (r : Fin 256) (d : Fin 512) : (iblk m c 1 t : FVec Ideal S256x512 .bf16) (ix2 r d)
    = (m ((c : Thread nD τ).loc main_arg1) : FVec Ideal S8192x512 .bf16) (ix2 (at256 t r) d) := by
  unfold iblk
  rw [View.read_apply]
  show V m c main_arg1 _ = _
  rw [V_main_arg1]
  refine congrArg _ (Ref.e2 _ _ _ ?_ ?_)
  · refine (Pipeline.Window.rect_emb_val win0_1 t _ 0).trans ?_
    rw [(index_row t).2.1]
    show t.val * 256 + r.val = 256 * t.val + r.val
    omega
  · refine (Pipeline.Window.rect_emb_val win0_1 t _ 1).trans ?_
    rw [(index_row t).2.1]
    show 0 * 512 + d.val = d.val
    omega

theorem blk2_at (t : Fin cfg0.N) (r : Fin 256) (d : Fin 512) : (iblk m c 2 t : FVec Ideal S256x512 .f32) (ix2 r d)
    = (m ((c : Thread nD τ).loc main_arg2) : FVec Ideal S8192x512 .f32) (ix2 (at256 t r) d) := by
  unfold iblk
  rw [View.read_apply]
  show V m c main_arg2 _ = _
  rw [V_main_arg2]
  refine congrArg _ (Ref.e2 _ _ _ ?_ ?_)
  · refine (Pipeline.Window.rect_emb_val win0_2 t _ 0).trans ?_
    rw [(index_row t).2.2.1]
    show t.val * 256 + r.val = 256 * t.val + r.val
    omega
  · refine (Pipeline.Window.rect_emb_val win0_2 t _ 1).trans ?_
    rw [(index_row t).2.2.1]
    show 0 * 512 + d.val = d.val
    omega

theorem blk3_at (t : Fin cfg0.N) (r : Fin 256) (d : Fin 1024) : (iblk m c 3 t : FVec Ideal S256x1024 .f32) (ix2 r d)
    = (m ((c : Thread nD τ).loc main_arg3) : FVec Ideal S8192x1024 .f32) (ix2 (at256 t r) d) := by
  unfold iblk
  rw [View.read_apply]
  show V m c main_arg3 _ = _
  rw [V_main_arg3]
  refine congrArg _ (Ref.e2 _ _ _ ?_ ?_)
  · refine (Pipeline.Window.rect_emb_val win0_3 t _ 0).trans ?_
    rw [(index_row t).2.2.2.1]
    show t.val * 256 + r.val = 256 * t.val + r.val
    omega
  · refine (Pipeline.Window.rect_emb_val win0_3 t _ 1).trans ?_
    rw [(index_row t).2.2.2.1]
    show 0 * 1024 + d.val = d.val
    omega

theorem blk4_at (t : Fin cfg0.N) (d : Fin 1024) : (iblk m c 4 t : FVec Ideal S1x1024 .f32) (ix2 0 d)
    = (m ((c : Thread nD τ).loc main_arg4) : FVec Ideal S1x1024 .f32) (ix2 0 d) := by
  unfold iblk
  rw [View.read_apply]
  show V m c main_arg4 _ = _
  rw [V_main_arg4]
  refine congrArg _ (Ref.e2 _ _ _ ?_ ?_)
  · refine (Pipeline.Window.rect_emb_val win0_4 t _ 0).trans ?_
    rw [(index_row t).2.2.2.2.1]
    show 0 * 1 + 0 = 0
    omega
  · refine (Pipeline.Window.rect_emb_val win0_4 t _ 1).trans ?_
    rw [(index_row t).2.2.2.2.1]
    show 0 * 1024 + d.val = d.val
    omega

theorem blk5_at (t : Fin cfg0.N) (d : Fin 1024) : (iblk m c 5 t : FVec Ideal S1x1024 .f32) (ix2 0 d)
    = (m ((c : Thread nD τ).loc main_arg5) : FVec Ideal S1x1024 .f32) (ix2 0 d) := by
  unfold iblk
  rw [View.read_apply]
  show V m c main_arg5 _ = _
  rw [V_main_arg5]
  refine congrArg _ (Ref.e2 _ _ _ ?_ ?_)
  · refine (Pipeline.Window.rect_emb_val win0_5 t _ 0).trans ?_
    rw [(index_row t).2.2.2.2.2]
    show 0 * 1 + 0 = 0
    omega
  · refine (Pipeline.Window.rect_emb_val win0_5 t _ 1).trans ?_
    rw [(index_row t).2.2.2.2.2]
    show 0 * 1024 + d.val = d.val
    omega

/-- Column `q` of slab `j` of the first product's weight is column `1024 j + q` of the argument. -/
theorem slab_at (j : Fin 4) (d q : Fin 1024) : (V m c main_v4 : FVec Ideal S4x1024x1024 .bf16) (ix3 j d q)
    = (m ((c : Thread nD τ).loc main_arg7) : FVec Ideal S1024x4096 .f32) (ix2 d (blk j q)) := by
  rw [v4_eq, transpose_apply _ _ _ (ix3 j d q) (ix3 d j q : S1024x4x1024.Idx) (fun b => by fin_cases b <;> rfl),
    shapeCast_apply _ _ (ix3 d j q : S1024x4x1024.Idx) (ix2 d (blk j q) : S1024x4096.Idx)]
  · rfl
  · rw [Shape.rowMajor_val_two, Shape.rowMajor_val_three]
    show d.val * 4096 + (1024 * j.val + q.val) = (d.val * 4 + j.val) * 1024 + q.val
    omega

theorem bt_w1 (t : Fin cfg0.N) (j : Fin 4) (d q : Fin 1024) : (bt m c t).w1 j (ix3 0 d q)
    = (m ((c : Thread nD τ).loc main_arg7) : FVec Ideal S1024x4096 .f32) (ix2 d (blk j q)) := by
  refine Eq.trans ?_ (slab_at m c j d q)
  refine congrArg (V m c main_v4 : FVec Ideal S4x1024x1024 .bf16) (funext fun a => Fin.ext ?_)
  match a with
  | ⟨0, _⟩ => show j.val + 1 * 0 = j.val; omega
  | ⟨1, _⟩ => show 0 + 1 * d.val = d.val; omega
  | ⟨2, _⟩ => show 0 + 1 * q.val = q.val; omega

theorem bt_w2 (t : Fin cfg0.N) (j : Fin 4) (q d : Fin 1024) : (bt m c t).w2 j (ix2 q d)
    = (m ((c : Thread nD τ).loc main_arg8) : FVec Ideal S4096x1024 .f32) (ix2 (blk j q) d) := by
  refine Eq.trans ?_ (congrFun (v1_eq m c) (ix2 (blk j q) d))
  refine congrArg (V m c main_v1 : FVec Ideal S4096x1024 .bf16) (Ref.e2 _ _ _ ?_ ?_)
  · show 1024 * j.val + 1 * q.val = 1024 * j.val + q.val; omega
  · show 0 + 1 * d.val = d.val; omega

theorem split4096 (f : Fin 4096) : ∃ (j : Fin 4) (q : Fin 1024), f = blk j q :=
  ⟨⟨f.val / 1024, by have := f.isLt; omega⟩, ⟨f.val % 1024, by omega⟩, Fin.ext (by show f.val = 1024 * (f.val / 1024) + f.val % 1024; omega)⟩

/-- Row `r` of the blocks that point `t` loads is token `256 t + r`. -/
theorem bt_tok (t : Fin cfg0.N) (r : Fin 256) : (bt m c t).tok r = tk m c (at256 t r) := by
  have e1 : ((bt m c t).tok r).w1 = (tk m c (at256 t r)).w1 := by
    funext d f
    obtain ⟨j, q, rfl⟩ := split4096 f
    rw [Blocks.w1_blk, bt_w1]
    rfl
  have e2 : ((bt m c t).tok r).w2 = (tk m c (at256 t r)).w2 := by
    funext f d
    obtain ⟨j, q, rfl⟩ := split4096 f
    rw [Blocks.w2_blk, bt_w2]
    rfl
  have e3 : ((bt m c t).tok r).wo = (tk m c (at256 t r)).wo := by
    funext k d
    exact congrFun (v0_eq m c) (ix2 k d)
  have e4 : ((bt m c t).tok r).x = (tk m c (at256 t r)).x := funext fun d => blk0_at m c t r d
  have e5 : ((bt m c t).tok r).tgt = (tk m c (at256 t r)).tgt := funext fun d => blk3_at m c t r d
  have e6 : ((bt m c t).tok r).g2 = (tk m c (at256 t r)).g2 := funext fun d => blk4_at m c t d
  have e7 : ((bt m c t).tok r).gf = (tk m c (at256 t r)).gf := funext fun d => blk5_at m c t d
  have e8 : ((bt m c t).tok r).mixed = (tk m c (at256 t r)).mixed :=
    congrArg₂ cat (funext fun d => blk1_at m c t r d) (funext fun d => blk2_at m c t r d)
  exact Tok.ext e4 e8 e5 e6 e7 e3 e1 e2

end Cert.Post

end
-- ==== Proof.Post.Final.lean ====
/-
  What the launch leaves in each result array, as the reference's stage of the same arguments.
-/
module

public import proofs.«01_k».proof.Proof.Post.Arrays

@[expose] public section

set_option maxRecDepth 16384

noncomputable section

namespace Cert.Post

open Cert.PostKernelIdeal Cert.PostKernelIdeal.Gen Cert.Rows Idealize.ShloMosaic.TcCoe Idealize.ShloMosaic.ValueIdx Idealize.SL.Sem
open Idealize.ShloMosaic hiding ix1 ix2 ix3
open scoped BigOperators

variable (m : (ℓ : Loc nD τ sig) → Buf (Elt Ideal) ℓ) (c : Dev nD)

/-- Every index of a two-axis shape is its two coordinates. -/
theorem eta2 {a b : ℕ} (y : (⟨2, ![a, b]⟩ : Shape).Idx) : y = ix2 (y 0) (y 1) := by
  funext k
  match k with
  | ⟨0, _⟩ => rfl
  | ⟨1, _⟩ => rfl

/-- The value of four tiles side by side. -/
def tileAt (v : Fin 4 → Vec Ideal S256x1024 .bf16) (y : S256x4096.Idx) : Elt Ideal .bf16 :=
  v ⟨(y 1).val / 1024, by have : (y 1).val < 4096 := (y 1).isLt; omega⟩
    (ix2 (⟨(y 0).val, (y 0).isLt⟩ : Fin 256) (⟨(y 1).val % 1024, by omega⟩ : Fin 1024))

theorem tileAt_blk (v : Fin 4 → Vec Ideal S256x1024 .bf16) (y : S256x4096.Idx) (j : Fin 4) (r : Fin 256) (q : Fin 1024)
    (h0 : (y 0).val = r.val) (h1 : (y 1).val = 1024 * j.val + q.val) : tileAt v y = v j (ix2 r q) := by
  have e : ∀ (j' : Fin 4) (r' : Fin 256) (q' : Fin 1024), j' = j → r' = r → q' = q → v j' (ix2 r' q') = v j (ix2 r q) := by
    rintro _ _ _ rfl rfl rfl; rfl
  have := q.isLt
  exact e _ _ _ (Fin.ext (by show (y 1).val / 1024 = j.val; omega)) (Fin.ext h0) (Fin.ext (by show (y 1).val % 1024 = q.val; omega))

theorem piece_at (v : Fin 4 → Vec Ideal S256x1024 .bf16) (j : Fin 4) (off : ℕ) (ho : off = 1024 * j.val)
    (h : ∀ a, (![0, off] : Fin 2 → ℕ) a + (![256, 1024] : Fin 2 → ℕ) a ≤ S256x4096.size a) (x : S256x1024.Idx) :
    v j x = tileAt v ((Rect.unit (s := S256x4096) ![0, off] ![256, 1024] h).emb x) := by
  refine Eq.trans (congrArg (v j) (eta2 x)) (tileAt_blk v _ j (x 0) (x 1) ?_ ?_).symm
  · show 0 + 1 * (x 0).val = (x 0).val; omega
  · show off + 1 * (x 1).val = 1024 * j.val + (x 1).val; omega

theorem piece_mem (j : Fin 4) (off : ℕ) (ho : off = 1024 * j.val)
    (h : ∀ a, (![0, off] : Fin 2 → ℕ) a + (![256, 1024] : Fin 2 → ℕ) a ≤ S256x4096.size a) (r : Fin 256) (q : Fin 1024) :
    (ix2 r (blk j q) : S256x4096.Idx) ∈ (Rect.unit (s := S256x4096) ![0, off] ![256, 1024] h).set := by
  refine Rect.mem_set_unit.mpr fun a => ?_
  have hr := r.isLt
  have hq := q.isLt
  match a with
  | ⟨0, _⟩ => exact ⟨Nat.zero_le _, show r.val < 0 + 256 by omega⟩
  | ⟨1, _⟩ => exact ⟨show off ≤ 1024 * j.val + q.val by omega, show 1024 * j.val + q.val < off + 1024 by omega⟩

/-- Four stored tiles, read in the block they make. -/
theorem tiles_at (v : Fin 4 → Vec Ideal S256x1024 .bf16) (j : Fin 4) (r : Fin 256) (q : Fin 1024) :
    tiles (v 0) (v 1) (v 2) (v 3) (ix2 r (blk j q)) = v j (ix2 r q) := by
  unfold tiles
  refine (View.canon_apply_of_pieces (Val := Elt Ideal) (tileAt v) _ ?_ _ ?_).trans (tileAt_blk v _ j r q rfl rfl)
  · intro p hp
    simp only [List.mem_cons, List.not_mem_nil, or_false] at hp
    rcases hp with rfl | rfl | rfl | rfl
    · exact fun x => piece_at v 3 3072 rfl inb_S256x4096_S256x1024_0_3072 x
    · exact fun x => piece_at v 2 2048 rfl inb_S256x4096_S256x1024_0_2048 x
    · exact fun x => piece_at v 1 1024 rfl inb_S256x4096_S256x1024_0_1024 x
    · exact fun x => piece_at v 0 0 rfl inb_S256x4096_S256x1024_0_0 x
  · fin_cases j
    · exact ⟨_, List.mem_cons_of_mem _ (List.mem_cons_of_mem _ (List.mem_cons_of_mem _ List.mem_cons_self)), piece_mem 0 0 rfl inb_S256x4096_S256x1024_0_0 r q⟩
    · exact ⟨_, List.mem_cons_of_mem _ (List.mem_cons_of_mem _ List.mem_cons_self), piece_mem 1 1024 rfl inb_S256x4096_S256x1024_0_1024 r q⟩
    · exact ⟨_, List.mem_cons_of_mem _ List.mem_cons_self, piece_mem 2 2048 rfl inb_S256x4096_S256x1024_0_2048 r q⟩
    · exact ⟨_, List.mem_cons_self, piece_mem 3 3072 rfl inb_S256x4096_S256x1024_0_3072 r q⟩

theorem aTiles_at (B : Blocks) (r : Fin 256) (f : Fin 4096) : aTiles B (ix2 r f) = (B.tok r).a f := by
  obtain ⟨j, q, rfl⟩ := split4096 f
  refine (tiles_at ![k0_pay16 (F := Ideal) B.vU0, k0_pay18 (F := Ideal) B.vNm (B.w1 1), k0_pay20 (F := Ideal) B.vNm (B.w1 2),
    k0_pay23 (F := Ideal) B.vNm (B.w1 3)] j r q).trans ?_
  fin_cases j
  · exact B.a0_at r q
  · exact B.a1_at r q
  · exact B.a2_at r q
  · exact B.a3_at r q

theorem duTiles_at (B : Blocks) (r : Fin 256) (f : Fin 4096) : duTiles B (ix2 r f) = (B.tok r).du f := by
  obtain ⟨j, q, rfl⟩ := split4096 f
  refine (tiles_at ![B.vDu0, B.vDu1, B.vDu2, B.vDu3] j r q).trans ?_
  fin_cases j
  · exact B.du0_at r q
  · exact B.du1_at r q
  · exact B.du2_at r q
  · exact B.du3_at r q

/-- A row index of the arrays is a row of one point. -/
theorem idx_of (t : Fin cfg0.N) {n : ℕ} (y : (⟨2, ![256, n]⟩ : Shape).Idx) (z : (⟨2, ![8192, n]⟩ : Shape).Idx)
    (h0 : (z 0).val = t.val * 256 + (y 0).val) (h1 : (z 1).val = (y 1).val) : z = ix2 (at256 t (y 0)) (y 1) := by
  funext k
  match k with
  | ⟨0, _⟩ => exact Fin.ext (by show (z 0).val = 256 * t.val + (y 0).val; omega)
  | ⟨1, _⟩ => exact Fin.ext h1

theorem index_6 : ∀ t : Fin cfg0.N, win0_6.index t = ![t.val, 0] :=
  (by decide +kernel : ∀ t : Fin grid0.N, win0_6.index t = ![t.val, 0])

theorem arr_6 : (dats m 0 c).arrAt 6 cfg0.N = Cert.PostReferenceIdeal.Read.val_main_v104 (F := Ideal) (m ((c : Thread nD τ).loc main_arg1)) (m ((c : Thread nD τ).loc main_arg2)) := by
  refine (dats m 0 c).arrAt_eq_of_covers 6 _ (by decide +kernel) fun t _ y => ?_
  have hz : ((cfg0.win 6).blk t).view.emb y = ix2 (at256 t (y 0)) (y 1) := by
    refine idx_of t y _ ((Pipeline.Window.rect_emb_val win0_6 t y 0).trans ?_) ((Pipeline.Window.rect_emb_val win0_6 t y 1).trans ?_)
    · rw [index_6 t]
      rfl
    · rw [index_6 t]
      show 0 * 1024 + (y 1).val = (y 1).val
      omega
  rw [hz]
  refine Eq.trans (b := (dats m 0 c).after 6 t y) rfl ?_
  rw [after0_6, outs_6]
  refine (congrArg _ (eta2 y)).trans ((Blocks.mixed_at _ (y 0) (y 1)).trans ?_)
  refine (congrArg (fun T : Tok => T.mixed (y 1)) (bt_tok m c t (y 0))).trans ?_
  exact (Ref.mixed_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

theorem index_7 : ∀ t : Fin cfg0.N, win0_7.index t = ![t.val, 0] :=
  (by decide +kernel : ∀ t : Fin grid0.N, win0_7.index t = ![t.val, 0])

theorem arr_7 : (dats m 0 c).arrAt 7 cfg0.N = Cert.PostReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_covers 7 _ (by decide +kernel) fun t _ y => ?_
  have hz : ((cfg0.win 7).blk t).view.emb y = ix2 (at256 t (y 0)) (y 1) := by
    refine idx_of t y _ ((Pipeline.Window.rect_emb_val win0_7 t y 0).trans ?_) ((Pipeline.Window.rect_emb_val win0_7 t y 1).trans ?_)
    · rw [index_7 t]
      rfl
    · rw [index_7 t]
      show 0 * 1024 + (y 1).val = (y 1).val
      omega
  rw [hz]
  refine Eq.trans (b := (dats m 0 c).after 7 t y) rfl ?_
  rw [after0_7, outs_7]
  refine (congrArg _ (eta2 y)).trans ((Blocks.nm_at _ (y 0) (y 1)).trans ?_)
  refine (congrArg (fun T : Tok => T.nm (y 1)) (bt_tok m c t (y 0))).trans ?_
  exact (Ref.nm_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

theorem index_8 : ∀ t : Fin cfg0.N, win0_8.index t = ![t.val, 0] :=
  (by decide +kernel : ∀ t : Fin grid0.N, win0_8.index t = ![t.val, 0])

theorem arr_8 : (dats m 0 c).arrAt 8 cfg0.N = Cert.PostReferenceIdeal.Read.val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) := by
  refine (dats m 0 c).arrAt_eq_of_covers 8 _ (by decide +kernel) fun t _ y => ?_
  have hz : ((cfg0.win 8).blk t).view.emb y = ix2 (at256 t (y 0)) (y 1) := by
    refine idx_of t y _ ((Pipeline.Window.rect_emb_val win0_8 t y 0).trans ?_) ((Pipeline.Window.rect_emb_val win0_8 t y 1).trans ?_)
    · rw [index_8 t]
      rfl
    · rw [index_8 t]
      show 0 * 4096 + (y 1).val = (y 1).val
      omega
  rw [hz]
  refine Eq.trans (b := (dats m 0 c).after 8 t y) rfl ?_
  rw [after0_8, outs_8]
  refine (congrArg _ (eta2 y)).trans ((aTiles_at _ (y 0) (y 1)).trans ?_)
  refine (congrArg (fun T : Tok => T.a (y 1)) (bt_tok m c t (y 0))).trans ?_
  exact (Ref.a_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

theorem index_9 : ∀ t : Fin cfg0.N, win0_9.index t = ![t.val, 0] :=
  (by decide +kernel : ∀ t : Fin grid0.N, win0_9.index t = ![t.val, 0])

theorem arr_9 : (dats m 0 c).arrAt 9 cfg0.N = Cert.PostReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  have hz : ((cfg0.win 9).blk t).view.emb y = ix2 (at256 t (y 0)) (y 1) := by
    refine idx_of t y _ ((Pipeline.Window.rect_emb_val win0_9 t y 0).trans ?_) ((Pipeline.Window.rect_emb_val win0_9 t y 1).trans ?_)
    · rw [index_9 t]
      rfl
    · rw [index_9 t]
      show 0 * 4096 + (y 1).val = (y 1).val
      omega
  rw [hz]
  refine Eq.trans (b := (dats m 0 c).after 9 t y) rfl ?_
  rw [after0_9, outs_9]
  refine (congrArg _ (eta2 y)).trans ((duTiles_at _ (y 0) (y 1)).trans ?_)
  refine (congrArg (fun T : Tok => T.du (y 1)) (bt_tok m c t (y 0))).trans ?_
  exact (Ref.du_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

theorem index_10 : ∀ t : Fin cfg0.N, win0_10.index t = ![t.val, 0] :=
  (by decide +kernel : ∀ t : Fin grid0.N, win0_10.index t = ![t.val, 0])

theorem arr_10 : (dats m 0 c).arrAt 10 cfg0.N = Cert.PostReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  have hz : ((cfg0.win 10).blk t).view.emb y = ix2 (at256 t (y 0)) (y 1) := by
    refine idx_of t y _ ((Pipeline.Window.rect_emb_val win0_10 t y 0).trans ?_) ((Pipeline.Window.rect_emb_val win0_10 t y 1).trans ?_)
    · rw [index_10 t]
      rfl
    · rw [index_10 t]
      show 0 * 1024 + (y 1).val = (y 1).val
      omega
  rw [hz]
  refine Eq.trans (b := (dats m 0 c).after 10 t y) rfl ?_
  rw [after0_10, outs_10]
  refine (congrArg _ (eta2 y)).trans ((Blocks.dh2b_at _ (y 0) (y 1)).trans ?_)
  refine (congrArg (fun T : Tok => T.dh2 (y 1)) (bt_tok m c t (y 0))).trans ?_
  exact (Ref.dh2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

theorem index_11 : ∀ t : Fin cfg0.N, win0_11.index t = ![t.val, 0] :=
  (by decide +kernel : ∀ t : Fin grid0.N, win0_11.index t = ![t.val, 0])

theorem arr_11 : (dats m 0 c).arrAt 11 cfg0.N = Cert.PostReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  have hz : ((cfg0.win 11).blk t).view.emb y = ix2 (at256 t (y 0)) (y 1) := by
    refine idx_of t y _ ((Pipeline.Window.rect_emb_val win0_11 t y 0).trans ?_) ((Pipeline.Window.rect_emb_val win0_11 t y 1).trans ?_)
    · rw [index_11 t]
      rfl
    · rw [index_11 t]
      show 0 * 1024 + (y 1).val = (y 1).val
      omega
  rw [hz]
  refine Eq.trans (b := (dats m 0 c).after 11 t y) rfl ?_
  rw [after0_11, outs_11]
  refine (congrArg _ (eta2 y)).trans ((Blocks.dh1_at _ (y 0) (y 1)).trans ?_)
  refine (congrArg (fun T : Tok => T.dh1 (y 1)) (bt_tok m c t (y 0))).trans ?_
  exact (Ref.dh1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

theorem index_12 : ∀ t : Fin cfg0.N, win0_12.index t = ![t.val, 0] :=
  (by decide +kernel : ∀ t : Fin grid0.N, win0_12.index t = ![t.val, 0])

theorem arr_12 : (dats m 0 c).arrAt 12 cfg0.N = Cert.PostReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  have hz : ((cfg0.win 12).blk t).view.emb y = ix2 (at256 t (y 0)) (y 1) := by
    refine idx_of t y _ ((Pipeline.Window.rect_emb_val win0_12 t y 0).trans ?_) ((Pipeline.Window.rect_emb_val win0_12 t y 1).trans ?_)
    · rw [index_12 t]
      rfl
    · rw [index_12 t]
      show 0 * 1024 + (y 1).val = (y 1).val
      omega
  rw [hz]
  refine Eq.trans (b := (dats m 0 c).after 12 t y) rfl ?_
  rw [after0_12, outs_12]
  refine (congrArg _ (eta2 y)).trans ((Blocks.dmixed_at _ (y 0) (y 1)).trans ?_)
  refine (congrArg (fun T : Tok => T.dmixed (y 1)) (bt_tok m c t (y 0))).trans ?_
  exact (Ref.dmixed_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (at256 t (y 0)) (y 1)).symm

/-- The last point of the grid. -/
def lastPt : Fin cfg0.N := ⟨31, by rw [show cfg0.N = 32 from N_0]; decide⟩

/-- Summing over the points and the rows of each is summing over the tokens. -/
theorem sum_tokens (f : Fin 8192 → EReal) (g : Fin (31 + 1) → Fin 256 → EReal)
    (h : ∀ s r, g s r = f (at256 ⟨s.val, hlt lastPt.isLt s⟩ r)) : ∑ s, ∑ r, g s r = ∑ i, f i := by
  rw [← Fin.sum_mul_add_fin 32 256 f rfl]
  refine Finset.sum_congr rfl fun s _ => Finset.sum_congr rfl fun r _ => ?_
  rw [h]
  exact congrArg f (Fin.ext (by show 256 * s.val + r.val = s.val * 256 + r.val; omega))

theorem whole_one (z : (⟨2, ![1, 1]⟩ : Shape).Idx) : z = ix2 0 0 := by
  funext k
  match k with
  | ⟨0, _⟩ => exact Subsingleton.elim (α := Fin 1) _ _
  | ⟨1, _⟩ => exact Subsingleton.elim (α := Fin 1) _ _

theorem whole_at {n : ℕ} (z : (⟨2, ![1, n]⟩ : Shape).Idx) (y : (⟨2, ![1, n]⟩ : Shape).Idx) (h1 : (z 1).val = (y 1).val) :
    z = ix2 0 (y 1) := by
  funext k
  match k with
  | ⟨0, _⟩ => exact Subsingleton.elim (α := Fin 1) _ _
  | ⟨1, _⟩ => exact Fin.ext h1

theorem arr_13 : (dats m 0 c).arrAt 13 cfg0.N = Cert.PostReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 13 lastPt (by decide +kernel) _ fun j => ?_
  have hj : (j : (⟨2, ![1, 1]⟩ : Shape).Idx) = ix2 0 0 := whole_one _
  refine Eq.trans (b := (dats m 0 c).after 13 lastPt j) rfl ?_
  refine Eq.trans ?_ (b := Cert.PostReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j) rfl
  rw [after0_13, hj]
  refine (sum_13 m c 31 lastPt.isLt).trans ?_
  refine Eq.trans ?_ (Ref.loss_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm
  rw [half_sum]
  refine congrArg (cHalf * ·) (sum_tokens (fun i => (tk m c i).err) _ fun s r => ?_)
  rw [bt_tok]

theorem arr_14 : (dats m 0 c).arrAt 14 cfg0.N = Cert.PostReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 14 lastPt (by decide +kernel) _ fun j => ?_
  have hj : (j : (⟨2, ![1, 1024]⟩ : Shape).Idx) = ix2 0 (j 1) := whole_at _ j rfl
  refine Eq.trans (b := (dats m 0 c).after 14 lastPt j) rfl ?_
  refine Eq.trans ?_ (b := Cert.PostReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j) rfl
  rw [after0_14, hj]
  refine (sum_14 m c (j 1) 31 lastPt.isLt).trans ?_
  refine Eq.trans ?_ (Ref.dgf_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (j 1)).symm
  refine sum_tokens (fun i => (tk m c i).dgf (j 1)) _ fun s r => ?_
  rw [bt_tok]

theorem arr_15 : (dats m 0 c).arrAt 15 cfg0.N = Cert.PostReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 15 lastPt (by decide +kernel) _ fun j => ?_
  have hj : (j : (⟨2, ![1, 1024]⟩ : Shape).Idx) = ix2 0 (j 1) := whole_at _ j rfl
  refine Eq.trans (b := (dats m 0 c).after 15 lastPt j) rfl ?_
  refine Eq.trans ?_ (b := Cert.PostReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j) rfl
  rw [after0_15, hj]
  refine (sum_15 m c (j 1) 31 lastPt.isLt).trans ?_
  refine Eq.trans ?_ (Ref.dg2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (j 1)).symm
  refine sum_tokens (fun i => (tk m c i).dg2 (j 1)) _ fun s r => ?_
  rw [bt_tok]

end Cert.Post

end
-- ==== Proof.Post.Claims.lean ====
/-
  The claims about the fused call: the frames, and the kernel's results equal to the reference's.
-/
module

public import proofs.«01_k».proof.Proof.Post.Final
public import proofs.«01_k».proof.Proof.Gen.PostKernel
public import proofs.«01_k».proof.Proof.Gen.PostKernel.Frame
public import proofs.«01_k».proof.Defs
public import Idealize.ShloMosaic.Adequacy
public import Idealize.ShloMosaic.Init

@[expose] public section

set_option maxRecDepth 16384

noncomputable section

namespace Cert.Post

open Idealize.ShloMosaic Idealize.SL.Sem

theorem frame_bits : Cert.quiescent_PostKernel := fun m ρ _ => Cert.PostKernel.Gen.frame m ρ

theorem frame_ideal : Cert.quiescent_PostKernelIdeal := fun m ρ _ => Cert.PostKernelIdeal.Gen.frame m ρ

theorem frame_reference : Cert.quiescent_PostReferenceIdeal := fun m ρ _ =>
  (θ_run Cert.PostReferenceIdeal.defs _ _).mono (fun r h => ⟨fun c => (h c).2.2.2.2.2.2.2.2.2.2,
      Idealize.ShloMosaic.sem_eq_zero_of_no_sems (by decide) r.2⟩)
    (Cert.PostReferenceIdeal.Value.run (F := Ideal) m ρ)

set_option maxHeartbeats 4000000 in
open Idealize.ShloMosaic.TcCoe Idealize.ShloMosaic.Pipeline Cert.PostKernelIdeal Cert.PostKernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v5_0) = Cert.PostReferenceIdeal.Read.val_main_v104 (F := Ideal) (m ((c : Thread nD τ).loc main_arg1)) (m ((c : Thread nD τ).loc main_arg2))
      ∧ r.2.mem ((c : Thread nD τ).loc main_v5_1) = Cert.PostReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg6))
      ∧ r.2.mem ((c : Thread nD τ).loc main_v5_2) = Cert.PostReferenceIdeal.Read.val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7))
      ∧ r.2.mem ((c : Thread nD τ).loc main_v5_3) = Cert.PostReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_4) = Cert.PostReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_5) = Cert.PostReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_6) = Cert.PostReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_7) = Cert.PostReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_8) = Cert.PostReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_9) = Cert.PostReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨
    ((h c).1 6).trans (arr_6 m c),
    ((h c).1 7).trans (arr_7 m c),
    ((h c).1 8).trans (arr_8 m c),
    ((h c).1 9).trans (arr_9 m c),
    ((h c).1 10).trans (arr_10 m c),
    ((h c).1 11).trans (arr_11 m c),
    ((h c).1 12).trans (arr_12 m c),
    ((h c).1 13).trans (arr_13 m c),
    ((h c).1 14).trans (arr_14 m c),
    ((h c).1 15).trans (arr_15 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩)
    (run_main m ρ)

set_option maxHeartbeats 4000000 in
open Idealize.ShloMosaic.TcCoe Cert.PostReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v104) = Read.val_main_v104 (F := Ideal) (m ((c : Thread nD τ).loc main_arg1)) (m ((c : Thread nD τ).loc main_arg2))
      ∧ r.2.mem ((c : Thread nD τ).loc main_v105) = Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg6))
      ∧ r.2.mem ((c : Thread nD τ).loc main_v106) = Read.val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7))
      ∧ r.2.mem ((c : Thread nD τ).loc main_v107) = Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v108) = Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v102) = Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v103) = Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v109) = Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v61) = Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v85) = Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => by
    obtain ⟨h0, h1, h2, h3, h4, h5, h6, h7, h8, h9, ha⟩ := h c
    exact ⟨h0.trans (Read.val_main_v104_eq (StableHlo.launchContents m c)),
      h1.trans (Read.val_main_v105_eq (StableHlo.launchContents m c)),
      h2.trans (Read.val_main_v106_eq (StableHlo.launchContents m c)),
      h3.trans (Read.val_main_v107_eq (StableHlo.launchContents m c)),
      h4.trans (Read.val_main_v108_eq (StableHlo.launchContents m c)),
      h5.trans (Read.val_main_v102_eq (StableHlo.launchContents m c)),
      h6.trans (Read.val_main_v103_eq (StableHlo.launchContents m c)),
      h7.trans (Read.val_main_v109_eq (StableHlo.launchContents m c)),
      h8.trans (Read.val_main_v61_eq (StableHlo.launchContents m c)),
      h9.trans (Read.val_main_v85_eq (StableHlo.launchContents m c)), ha⟩)
    (Value.run (F := Ideal) m ρ)

set_option maxHeartbeats 4000000 in
theorem algebraic : Cert.algebraic_PostKernelIdeal_PostReferenceIdeal := by
  intro m ρ m' ρ' _ hagree
  refine ⟨_, _, _, _, _, _, _, _, _, _, kernel_run m ρ, ?_⟩
  refine (θ_run Cert.PostReferenceIdeal.defs _ _).mono (fun r h c => ?_) (reference_run m' ρ')
  obtain ⟨e0, e1, e2, e3, e4, e5, e6, e7, e8⟩ := hagree c
  have hc := h c
  rw [e0, e1, e2, e3, e4, e5, e6, e7, e8] at hc
  rw [e0, e1, e2, e3, e4, e5, e6, e7, e8]
  exact hc

end Cert.Post

end
-- ==== Proof.Dx.Model.lean ====
/-
  What the input projection's backward call computes for one token, over the extended reals: the derivative with respect
  to the normalised row, from the four pieces of the projection's derivative, and from it the two results.
-/
module

public import proofs.«01_k».proof.Proof.Post.Model

@[expose] public section

noncomputable section

namespace Cert.Dx

open Idealize.ShloMosaic Cert.Post
open scoped BigOperators

/-- A token's share of the derivative with respect to the row of its residual, added to `dh`. -/
def dxRow (x dh g dn : Fin 1024 → EReal) : Fin 1024 → EReal :=
  fun d => dh d + normBack (rstd x) (fun k => x k * rstd x) (fun k => dn k * g k) d

/-- A token's share of the derivative with respect to the gains. -/
def dgRow (x dn : Fin 1024 → EReal) : Fin 1024 → EReal := fun d => dn d * (x d * rstd x)

/-- Column `k` of the first group of the padded weights … -/
def colA (k : Fin 1664) : Fin 3200 := ⟨k.val, by have := k.isLt; omega⟩
/-- … of the second … -/
def colQ (k : Fin 512) : Fin 3200 := ⟨1664 + k.val, by have := k.isLt; omega⟩
/-- … of the third … -/
def colK (k : Fin 512) : Fin 3200 := ⟨2176 + k.val, by have := k.isLt; omega⟩
/-- … and of the fourth. -/
def colV (k : Fin 512) : Fin 3200 := ⟨2688 + k.val, by have := k.isLt; omega⟩

/-- The four products of the pieces with the groups of a padded weight row, added in order. -/
def dnPad (a : Fin 1664 → EReal) (q k v : Fin 512 → EReal) (w : Fin 3200 → EReal) : EReal :=
  ((∑ l, a l * w (colA l) + ∑ l, q l * w (colQ l)) + ∑ l, k l * w (colK l)) + ∑ l, v l * w (colV l)

/-- The pieces side by side; of the first its leading 1552 columns. -/
def join (a : Fin 1664 → EReal) (q k v : Fin 512 → EReal) : Fin 3088 → EReal := fun l =>
  if h : l.val < 1552 then a ⟨l.val, by omega⟩
  else if h1 : l.val < 2064 then q ⟨l.val - 1552, by omega⟩
  else if h2 : l.val < 2576 then k ⟨l.val - 2064, by omega⟩
  else v ⟨l.val - 2576, by have := l.isLt; omega⟩

/-- A weight row with 112 zeros put in after its column 1552. -/
def pad (w : Fin 3088 → EReal) : Fin 3200 → EReal := fun l =>
  if h : l.val < 1552 then w ⟨l.val, by omega⟩
  else if h1 : l.val < 1664 then 0
  else w ⟨l.val - 112, by have := l.isLt; omega⟩

theorem sum_split {a b n : ℕ} (h : n = a + b) (f : Fin n → EReal) :
    ∑ l, f l = ∑ l : Fin a, f ⟨l.val, by have := l.isLt; omega⟩ + ∑ l : Fin b, f ⟨a + l.val, by have := l.isLt; omega⟩ := by
  subst h
  exact Fin.sum_univ_add f

/-- The four products with the padded row are the one product with the row. -/
theorem dnPad_eq (a : Fin 1664 → EReal) (q k v : Fin 512 → EReal) (w : Fin 3088 → EReal) :
    dnPad a q k v (pad w) = ∑ l, join a q k v l * w l := by
  rw [sum_split (a := 2576) (b := 512) rfl (fun l : Fin 3088 => join a q k v l * w l),
    sum_split (a := 2064) (b := 512) rfl (fun l : Fin 2576 => join a q k v ⟨l.val, by have := l.isLt; omega⟩ * w ⟨l.val, by have := l.isLt; omega⟩),
    sum_split (a := 1552) (b := 512) rfl (fun l : Fin 2064 => join a q k v ⟨l.val, by have := l.isLt; omega⟩ * w ⟨l.val, by have := l.isLt; omega⟩)]
  unfold dnPad
  refine congrArg₂ (· + ·) (congrArg₂ (· + ·) (congrArg₂ (· + ·) ?_ ?_) ?_) ?_
  · rw [sum_split (a := 1552) (b := 112) rfl (fun l : Fin 1664 => a l * pad w (colA l))]
    have hz : ∑ l : Fin 112, a ⟨1552 + l.val, by have := l.isLt; omega⟩ * pad w (colA ⟨1552 + l.val, by have := l.isLt; omega⟩) = 0 :=
      Finset.sum_eq_zero fun l _ => by
        have hl := l.isLt
        have e : pad w (colA ⟨1552 + l.val, by omega⟩) = 0 := by
          unfold pad
          rw [dif_neg (by show ¬1552 + l.val < 1552; omega), dif_pos (by show 1552 + l.val < 1664; omega)]
        rw [e, mul_zero]
    rw [hz, add_zero]
    refine Finset.sum_congr rfl fun l _ => ?_
    have hl := l.isLt
    unfold pad join
    rw [dif_pos (show l.val < 1552 from hl), dif_pos (show (colA ⟨l.val, by omega⟩).val < 1552 from hl)]
    rfl
  · refine Finset.sum_congr rfl fun l _ => ?_
    have hl := l.isLt
    unfold pad join
    rw [dif_neg (show ¬1552 + l.val < 1552 by omega), dif_pos (show 1552 + l.val < 2064 by omega),
      dif_neg (show ¬(colQ l).val < 1552 by show ¬1664 + l.val < 1552; omega),
      dif_neg (show ¬(colQ l).val < 1664 by show ¬1664 + l.val < 1664; omega)]
    exact congrArg₂ (· * ·) (congrArg q (Fin.ext (by show l.val = 1552 + l.val - 1552; omega)))
      (congrArg w (Fin.ext (by show 1664 + l.val - 112 = 1552 + l.val; omega)))
  · refine Finset.sum_congr rfl fun l _ => ?_
    have hl := l.isLt
    unfold pad join
    rw [dif_neg (show ¬2064 + l.val < 1552 by omega), dif_neg (show ¬2064 + l.val < 2064 by omega),
      dif_pos (show 2064 + l.val < 2576 by omega),
      dif_neg (show ¬(colK l).val < 1552 by show ¬2176 + l.val < 1552; omega),
      dif_neg (show ¬(colK l).val < 1664 by show ¬2176 + l.val < 1664; omega)]
    exact congrArg₂ (· * ·) (congrArg k (Fin.ext (by show l.val = 2064 + l.val - 2064; omega)))
      (congrArg w (Fin.ext (by show 2176 + l.val - 112 = 2064 + l.val; omega)))
  · refine Finset.sum_congr rfl fun l _ => ?_
    have hl := l.isLt
    unfold pad join
    rw [dif_neg (show ¬2576 + l.val < 1552 by omega), dif_neg (show ¬2576 + l.val < 2064 by omega),
      dif_neg (show ¬2576 + l.val < 2576 by omega),
      dif_neg (show ¬(colV l).val < 1552 by show ¬2688 + l.val < 1552; omega),
      dif_neg (show ¬(colV l).val < 1664 by show ¬2688 + l.val < 1664; omega)]
    exact congrArg₂ (· * ·) (congrArg v (Fin.ext (by show l.val = 2576 + l.val - 2576; omega)))
      (congrArg w (Fin.ext (by show 2688 + l.val - 112 = 2576 + l.val; omega)))

end Cert.Dx

end
-- ==== Proof.Dx.Payload.lean ====
/-
  The pure values of the input projection's backward call, read at an index.
-/
module

public import proofs.«01_k».proof.Proof.Gen.DxKernelIdeal.Skeleton
public import proofs.«01_k».proof.Proof.Post.Rows
public import proofs.«01_k».proof.Proof.Dx.Model
public import Idealize.ShloMosaic.Lib.Pipeline.Value

@[expose] public section

set_option maxRecDepth 16384

noncomputable section

namespace Cert.Dx

open Cert.DxKernelIdeal Cert.DxKernelIdeal.Gen Cert.Rows Cert.Post Idealize.ShloMosaic Idealize.ShloMosaic.ValueIdx
open scoped BigOperators

variable (x dh : FVec Ideal S512x1024 .f32) (g : FVec Ideal S1x1024 .f32) (a : FVec Ideal S512x1664 .bf16)
  (q k v : FVec Ideal S512x512 .bf16) (w : FVec Ideal S1024x3200 .bf16) (acc : FVec Ideal S1x1024 .f32)

/-- The derivative with respect to the normalised and scaled rows. -/
def vDn : FVec Ideal S512x1024 .f32 :=
  k0_pay4 (F := Ideal) a (View.ld (Val := Elt Ideal) (e' := .bf16) w (Rect.unit (s := S1024x3200) ![0, 0] S1024x1664.size inb_S1024x3200_S1024x1664_0_0))
    q (View.ld (Val := Elt Ideal) (e' := .bf16) w (Rect.unit (s := S1024x3200) ![0, 1664] S1024x512.size inb_S1024x3200_S1024x512_0_1664))
    k (View.ld (Val := Elt Ideal) (e' := .bf16) w (Rect.unit (s := S1024x3200) ![0, 2176] S1024x512.size inb_S1024x3200_S1024x512_0_2176))
    v (View.ld (Val := Elt Ideal) (e' := .bf16) w (Rect.unit (s := S1024x3200) ![0, 2688] S1024x512.size inb_S1024x3200_S1024x512_0_2688))

/-- The block of the first result. -/
def vDx : FVec Ideal S512x1024 .f32 :=
  k0_pay2 (F := Ideal) (vDn a q k v w) (k0_pay5 (F := Ideal) x) (k0_pay6 (F := Ideal) x) g dh

/-- The second result's running sum. -/
def vDg : FVec Ideal S1x1024 .f32 := k0_pay1 (F := Ideal) (vDn a q k v w) (k0_pay6 (F := Ideal) x) acc

theorem hdotA : dot_S512x1664_S1024x1664_S512x1024_1_1_0_0_n_n = DotDims.transposedRhs 512 1664 1024 := rfl
theorem hdotQ : dot_S512x512_S1024x512_S512x1024_1_1_0_0_n_n = DotDims.transposedRhs 512 512 1024 := rfl

/-- The derivative's element at a row and a column. -/
def dnAt (r : Fin 512) (d : Fin 1024) : EReal := dnPad (row a r) (row q r) (row k r) (row v r) (row w d)

variable (r : Fin 512) (d : Fin 1024)

theorem ldA_at (l : Fin 1664) : View.ld (Val := Elt Ideal) (e' := .bf16) w
    (Rect.unit (s := S1024x3200) ![0, 0] S1024x1664.size inb_S1024x3200_S1024x1664_0_0) (ix2 d l) = w (ix2 d (colA l)) := by
  refine congrArg w (funext fun b => Fin.ext ?_)
  match b with
  | ⟨0, _⟩ => show 0 + 1 * d.val = d.val; omega
  | ⟨1, _⟩ => show 0 + 1 * l.val = l.val; omega

theorem ldQ_at (l : Fin 512) : View.ld (Val := Elt Ideal) (e' := .bf16) w
    (Rect.unit (s := S1024x3200) ![0, 1664] S1024x512.size inb_S1024x3200_S1024x512_0_1664) (ix2 d l) = w (ix2 d (colQ l)) := by
  refine congrArg w (funext fun b => Fin.ext ?_)
  match b with
  | ⟨0, _⟩ => show 0 + 1 * d.val = d.val; omega
  | ⟨1, _⟩ => show 1664 + 1 * l.val = 1664 + l.val; omega

theorem ldK_at (l : Fin 512) : View.ld (Val := Elt Ideal) (e' := .bf16) w
    (Rect.unit (s := S1024x3200) ![0, 2176] S1024x512.size inb_S1024x3200_S1024x512_0_2176) (ix2 d l) = w (ix2 d (colK l)) := by
  refine congrArg w (funext fun b => Fin.ext ?_)
  match b with
  | ⟨0, _⟩ => show 0 + 1 * d.val = d.val; omega
  | ⟨1, _⟩ => show 2176 + 1 * l.val = 2176 + l.val; omega

theorem ldV_at (l : Fin 512) : View.ld (Val := Elt Ideal) (e' := .bf16) w
    (Rect.unit (s := S1024x3200) ![0, 2688] S1024x512.size inb_S1024x3200_S1024x512_0_2688) (ix2 d l) = w (ix2 d (colV l)) := by
  refine congrArg w (funext fun b => Fin.ext ?_)
  match b with
  | ⟨0, _⟩ => show 0 + 1 * d.val = d.val; omega
  | ⟨1, _⟩ => show 2688 + 1 * l.val = 2688 + l.val; omega

theorem dn_at : vDn a q k v w (ix2 r d) = dnAt a q k v w r d := by
  unfold vDn k0_pay4
  rw [addf_at, addf_at, addf_at, hdotA, hdotQ, mmT_at, mmT_at, mmT_at, mmT_at]
  refine congrArg₂ (· + ·) (congrArg₂ (· + ·) (congrArg₂ (· + ·) ?_ ?_) ?_) ?_
  · exact Finset.sum_congr rfl fun l _ => congrArg (a (ix2 r l) * ·) (ldA_at w d l)
  · exact Finset.sum_congr rfl fun l _ => congrArg (q (ix2 r l) * ·) (ldQ_at w d l)
  · exact Finset.sum_congr rfl fun l _ => congrArg (k (ix2 r l) * ·) (ldK_at w d l)
  · exact Finset.sum_congr rfl fun l _ => congrArg (v (ix2 r l) * ·) (ldV_at w d l)

theorem rs_at (u : Fin 1) : k0_pay5 (F := Ideal) x (ix2 r u) = rstd (row x r) := by
  unfold k0_pay5
  rw [rsqrt_at, addf_at, divf_at]
  erw [rowsum_at]
  rw [splat_at, splat_at]
  rfl

theorem hn_at : k0_pay6 (F := Ideal) x (ix2 r d) = row x r d * rstd (row x r) := by
  unfold k0_pay6
  rw [mulf_at, bcol_at, rs_at]

theorem dx_at : vDx x dh g a q k v w (ix2 r d) = dxRow (row x r) (row dh r) (row g 0) (dnAt a q k v w r) d := by
  unfold vDx k0_pay2
  rw [addf_at, mulf_at, subf_at, mulf_at, mulf_at, bcol_at, bcol_at, divf_at, brow_at, rs_at, hn_at]
  erw [rowsum_at]
  simp only [mulf_at, brow_at, hn_at, dn_at, splat_at]
  rfl

theorem dg_at : vDg x a q k v w acc (ix2 0 d) = acc (ix2 0 d) + ∑ r, dgRow (row x r) (dnAt a q k v w r) d := by
  unfold vDg k0_pay1
  rw [addf_at, shapeCast_self]
  erw [colsum_at]
  refine congrArg (acc (ix2 0 d) + ·) (Finset.sum_congr rfl fun r _ => ?_)
  rw [mulf_at, dn_at, hn_at]
  rfl

end Cert.Dx

end
-- ==== Proof.Cover.lean ====
/-
  A buffer that one write has filled.
-/
module

public import Idealize.ShloMosaic.Lib.Pipeline.FrameBody
public import Idealize.ShloMosaic.Lib.Pipeline.Value
public import Idealize.ShloMosaic.Lib.ValueIdx

@[expose] public section

noncomputable section

namespace Cert.Cover

open Idealize.ShloMosaic Idealize.ShloMosaic.ValueIdx

theorem hz2 : (![0, 0] : Fin 2 → Nat) = fun _ => 0 := by funext a; fin_cases a <;> rfl

theorem hz3 : (![0, 0, 0] : Fin 3 → Nat) = fun _ => 0 := by funext a; fin_cases a <;> rfl

/-- What one write that fills a buffer leaves there. -/
theorem canon_whole {S : Shape} {e : EltTy} (w : S.Idx → Elt Ideal e) :
    View.canon [(⟨Rect.whole S, w⟩ : View.Piece (Elt Ideal) S e)] = w := by
  funext y
  have h := View.canon_cons_emb (Val := Elt Ideal) (Rect.whole S) w [] y
  rw [Rect.emb_whole_apply] at h
  exact h

/-- A load from a buffer that one write has filled reads what was written. -/
theorem readCov_whole {sig : RefSig} {κ : Kind} {sp : Space} {S : Shape} {e : EltTy} (v : View sig κ sp S e)
    (w : S.Idx → Elt Ideal e) (r : Rect S) :
    v.readCov [(⟨Rect.whole S, w⟩ : View.Piece (Elt Ideal) S e)] r.toLoadRect = View.ld w r := by
  rw [View.readCov_eq_canon_ld _ _ _ (fun y => ⟨_, List.mem_singleton_self _, by
    show y ∈ (Rect.whole S).set; rw [Rect.set_whole]; exact Finset.mem_univ y⟩)]
  rw [canon_whole]

/-- A matrix's index is made of its two coordinates. -/
theorem eta2 {n m : ℕ} (y : (⟨2, ![n, m]⟩ : Shape).Idx) : y = ix2 (y 0) (y 1) := by
  funext k
  match k with
  | ⟨0, _⟩ => rfl
  | ⟨1, _⟩ => rfl

/-- A matrix's index from its two coordinates. -/
theorem e2 {n m : ℕ} (i : (⟨2, ![n, m]⟩ : Shape).Idx) (a : Fin n) (b : Fin m) (h0 : (i 0).val = a.val) (h1 : (i 1).val = b.val) :
    i = ix2 a b := by
  funext k
  apply Fin.ext
  match k with
  | ⟨0, _⟩ => exact h0
  | ⟨1, _⟩ => exact h1

theorem hlt {n k : ℕ} (h : n < k) (s : Fin (n + 1)) : s.val < k := by omega

end Cert.Cover

end
-- ==== Proof.Dx.Block.lean ====
/-
  What the input projection's backward call leaves in each of its output blocks, as the named values of `Payload`.
-/
module

public import proofs.«01_k».proof.Proof.Gen.DxKernelIdeal.Frame
public import proofs.«01_k».proof.Proof.Dx.Payload
public import proofs.«01_k».proof.Proof.Cover

@[expose] public section

set_option maxRecDepth 16384

noncomputable section

namespace Cert.Dx

open Cert.DxKernelIdeal Cert.DxKernelIdeal.Gen Cert.Rows Cert.Cover Idealize.ShloMosaic Idealize.ShloMosaic.TcCoe
  Idealize.ShloMosaic.ValueIdx

theorem out_A_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1664 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S512x1024 .f32) (harg9 : arg9.IsWhole) (arg10 : Memref sig .tc .vmem S1x1024 .f32) (harg10 : arg10.IsWhole) (arg11 : Memref sig .tc .vmem S1024x3200 .bf16) (harg11 : arg11.IsWhole) (hc0 : cond0_0 i)
    (x0 : Vec Ideal S512x1024 .f32) (x1 : Vec Ideal S512x1024 .f32) (x2 : Vec Ideal S1x1024 .f32) (x3 : Vec Ideal S512x1664 .bf16) (x4 : Vec Ideal S512x512 .bf16) (x5 : Vec Ideal S512x512 .bf16) (x6 : Vec Ideal S512x512 .bf16) (fh0 : HbBuf0 (F := Ideal) c hbM0_0) :
    out0_A_7 c i arg1 harg1 arg2 harg2 arg3 harg3 arg4 harg4 arg5 harg5 arg6 harg6 arg7 harg7 arg9 harg9 arg10 harg10 arg11 harg11 hc0 x0 x1 x2 x3 x4 x5 x6 fh0
      = vDx x0 x1 x2 x3 x4 x5 x6 fh0 := by
  unfold out0_A_7
  rw [View.read_writes_eq_canon _ _ _ (cover0_A_7 c i arg1 harg1 arg2 harg2 arg3 harg3 arg4 harg4 arg5 harg5 arg6 harg6 arg7 harg7 arg9 harg9 arg10 harg10 arg11 harg11 hc0 x0 x1 x2 x3 x4 x5 x6 fh0)]
  unfold kernelRun0_A
  dsimp only
  sl_unfold_words
  rw [View.canon_unit_zero (S := S512x1024) hz2]
  simp only [readCov_whole, View.readCov_unit_zero (S := S1x1024) _ hz2, View.readAt_eq_ld, harg1.read_unread, harg2.read_unread, harg3.read_unread, harg4.read_unread, harg5.read_unread, harg6.read_unread, harg7.read_unread, View.ld_unit_zero (S := S512x1024) hz2, View.ld_unit_zero (S := S1x1024) hz2, View.ld_unit_zero (S := S512x1664) hz2, View.ld_unit_zero (S := S512x512) hz2, shapeCast_self]
  rfl

theorem out_A_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1664 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S512x1024 .f32) (harg9 : arg9.IsWhole) (arg10 : Memref sig .tc .vmem S1x1024 .f32) (harg10 : arg10.IsWhole) (arg11 : Memref sig .tc .vmem S1024x3200 .bf16) (harg11 : arg11.IsWhole) (hc0 : cond0_0 i)
    (x0 : Vec Ideal S512x1024 .f32) (x1 : Vec Ideal S512x1024 .f32) (x2 : Vec Ideal S1x1024 .f32) (x3 : Vec Ideal S512x1664 .bf16) (x4 : Vec Ideal S512x512 .bf16) (x5 : Vec Ideal S512x512 .bf16) (x6 : Vec Ideal S512x512 .bf16) (fh0 : HbBuf0 (F := Ideal) c hbM0_0) :
    out0_A_8 c i arg1 harg1 arg2 harg2 arg3 harg3 arg4 harg4 arg5 harg5 arg6 harg6 arg7 harg7 arg9 harg9 arg10 harg10 arg11 harg11 hc0 x0 x1 x2 x3 x4 x5 x6 fh0
      = vDg x0 x3 x4 x5 x6 fh0 (k0_pay3 (F := Ideal)) := by
  unfold out0_A_8
  rw [View.read_writes_eq_canon _ _ _ (cover0_A_8 c i arg1 harg1 arg2 harg2 arg3 harg3 arg4 harg4 arg5 harg5 arg6 harg6 arg7 harg7 arg9 harg9 arg10 harg10 arg11 harg11 hc0 x0 x1 x2 x3 x4 x5 x6 fh0)]
  unfold kernelRun0_A
  dsimp only
  sl_unfold_words
  rw [View.canon_cons_unit_zero (S := S1x1024) hz2]
  simp only [readCov_whole, View.readCov_unit_zero (S := S1x1024) _ hz2, View.readAt_eq_ld, harg1.read_unread, harg2.read_unread, harg3.read_unread, harg4.read_unread, harg5.read_unread, harg6.read_unread, harg7.read_unread, View.ld_unit_zero (S := S512x1024) hz2, View.ld_unit_zero (S := S1x1024) hz2, View.ld_unit_zero (S := S512x1664) hz2, View.ld_unit_zero (S := S512x512) hz2, shapeCast_self]
  rfl

theorem out_B_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1664 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S512x1024 .f32) (harg9 : arg9.IsWhole) (arg10 : Memref sig .tc .vmem S1x1024 .f32) (harg10 : arg10.IsWhole) (arg11 : Memref sig .tc .vmem S1024x3200 .bf16) (harg11 : arg11.IsWhole) (hc0 : ¬cond0_0 i)
    (x0 : Vec Ideal S512x1024 .f32) (x1 : Vec Ideal S512x1024 .f32) (x2 : Vec Ideal S1x1024 .f32) (x3 : Vec Ideal S512x1664 .bf16) (x4 : Vec Ideal S512x512 .bf16) (x5 : Vec Ideal S512x512 .bf16) (x6 : Vec Ideal S512x512 .bf16) (xo8 : Vec Ideal S1x1024 .f32) (xs0 : Vec Ideal S1024x3200 .bf16) (fh0 : HbBuf0 (F := Ideal) c hbM0_0) :
    out0_B_7 c i arg1 harg1 arg2 harg2 arg3 harg3 arg4 harg4 arg5 harg5 arg6 harg6 arg7 harg7 arg9 harg9 arg10 harg10 arg11 harg11 hc0 x0 x1 x2 x3 x4 x5 x6 xo8 xs0 fh0
      = vDx x0 x1 x2 x3 x4 x5 x6 xs0 := by
  unfold out0_B_7
  rw [View.read_writes_eq_canon _ _ _ (cover0_B_7 c i arg1 harg1 arg2 harg2 arg3 harg3 arg4 harg4 arg5 harg5 arg6 harg6 arg7 harg7 arg9 harg9 arg10 harg10 arg11 harg11 hc0 x0 x1 x2 x3 x4 x5 x6 xo8 xs0 fh0)]
  unfold kernelRun0_B
  dsimp only
  sl_unfold_words
  rw [View.canon_unit_zero (S := S512x1024) hz2]
  simp only [View.readAt_eq_ld, harg1.read_unread, harg2.read_unread, harg3.read_unread, harg4.read_unread, harg5.read_unread, harg6.read_unread, harg7.read_unread, harg10.read_unread, harg11.read_unread, View.ld_unit_zero (S := S512x1024) hz2, View.ld_unit_zero (S := S1x1024) hz2, View.ld_unit_zero (S := S512x1664) hz2, View.ld_unit_zero (S := S512x512) hz2, shapeCast_self]
  rfl

theorem out_B_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1664 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S512x1024 .f32) (harg9 : arg9.IsWhole) (arg10 : Memref sig .tc .vmem S1x1024 .f32) (harg10 : arg10.IsWhole) (arg11 : Memref sig .tc .vmem S1024x3200 .bf16) (harg11 : arg11.IsWhole) (hc0 : ¬cond0_0 i)
    (x0 : Vec Ideal S512x1024 .f32) (x1 : Vec Ideal S512x1024 .f32) (x2 : Vec Ideal S1x1024 .f32) (x3 : Vec Ideal S512x1664 .bf16) (x4 : Vec Ideal S512x512 .bf16) (x5 : Vec Ideal S512x512 .bf16) (x6 : Vec Ideal S512x512 .bf16) (xo8 : Vec Ideal S1x1024 .f32) (xs0 : Vec Ideal S1024x3200 .bf16) (fh0 : HbBuf0 (F := Ideal) c hbM0_0) :
    out0_B_8 c i arg1 harg1 arg2 harg2 arg3 harg3 arg4 harg4 arg5 harg5 arg6 harg6 arg7 harg7 arg9 harg9 arg10 harg10 arg11 harg11 hc0 x0 x1 x2 x3 x4 x5 x6 xo8 xs0 fh0
      = vDg x0 x3 x4 x5 x6 xs0 xo8 := by
  unfold out0_B_8
  rw [View.read_writes_eq_canon _ _ _ (cover0_B_8 c i arg1 harg1 arg2 harg2 arg3 harg3 arg4 harg4 arg5 harg5 arg6 harg6 arg7 harg7 arg9 harg9 arg10 harg10 arg11 harg11 hc0 x0 x1 x2 x3 x4 x5 x6 xo8 xs0 fh0)]
  unfold kernelRun0_B
  dsimp only
  sl_unfold_words
  rw [View.canon_unit_zero (S := S1x1024) hz2]
  simp only [View.readAt_eq_ld, harg1.read_unread, harg2.read_unread, harg3.read_unread, harg4.read_unread, harg5.read_unread, harg6.read_unread, harg7.read_unread, harg10.read_unread, harg11.read_unread, View.ld_unit_zero (S := S512x1024) hz2, View.ld_unit_zero (S := S1x1024) hz2, View.ld_unit_zero (S := S512x1664) hz2, View.ld_unit_zero (S := S512x512) hz2, shapeCast_self]
  rfl

theorem sout_A_0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1664 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S512x1024 .f32) (harg9 : arg9.IsWhole) (arg10 : Memref sig .tc .vmem S1x1024 .f32) (harg10 : arg10.IsWhole) (arg11 : Memref sig .tc .vmem S1024x3200 .bf16) (harg11 : arg11.IsWhole) (hc0 : cond0_0 i)
    (x0 : Vec Ideal S512x1024 .f32) (x1 : Vec Ideal S512x1024 .f32) (x2 : Vec Ideal S1x1024 .f32) (x3 : Vec Ideal S512x1664 .bf16) (x4 : Vec Ideal S512x512 .bf16) (x5 : Vec Ideal S512x512 .bf16) (x6 : Vec Ideal S512x512 .bf16) (fh0 : HbBuf0 (F := Ideal) c hbM0_0) :
    sout0_A_0 c i arg1 harg1 arg2 harg2 arg3 harg3 arg4 harg4 arg5 harg5 arg6 harg6 arg7 harg7 arg9 harg9 arg10 harg10 arg11 harg11 hc0 x0 x1 x2 x3 x4 x5 x6 fh0
      = fh0 := by
  unfold sout0_A_0
  rw [View.read_writes_eq_canon _ _ _ (scover0_A_0 c i arg1 harg1 arg2 harg2 arg3 harg3 arg4 harg4 arg5 harg5 arg6 harg6 arg7 harg7 arg9 harg9 arg10 harg10 arg11 harg11 hc0 x0 x1 x2 x3 x4 x5 x6 fh0)]
  unfold kernelRun0_A
  dsimp only
  sl_unfold_words
  exact canon_whole _

end Cert.Dx

end
-- ==== Proof.Dx.Points.lean ====
/-
  What the grid points of the input projection's backward call leave: the weights stay in their scratch buffer, each
  point's block of the first result is the value of `Payload` at that point's blocks, and the second result is a sum over
  the points so far.
-/
module

public import proofs.«01_k».proof.Proof.Dx.Block

@[expose] public section

set_option maxRecDepth 16384

noncomputable section

namespace Cert.Dx

open Cert.DxKernelIdeal Cert.DxKernelIdeal.Gen Cert.Rows Cert.Cover Idealize.ShloMosaic.TcCoe
  Idealize.ShloMosaic.ValueIdx Idealize.SL.Sem
open Idealize.ShloMosaic
open scoped BigOperators

variable (m : (ℓ : Loc nD τ sig) → Buf (Elt Ideal) ℓ) (c : Dev nD)

/-- The point before a later point. -/
abbrev prev (t : Fin cfg0.N) : Fin cfg0.N := ⟨t.val - 1, Nat.lt_of_le_of_lt (Nat.sub_le _ _) t.isLt⟩

theorem pick_0 {α0 α1 α2 : Type} {z : α0 × α1 × α2} {a0 : α0} {a1 : α1} {a2 : α2} (h : z = (a0, a1, a2)) :
    z.1 = a0 := by
  subst h
  rfl

theorem pick_1 {α0 α1 α2 : Type} {z : α0 × α1 × α2} {a0 : α0} {a1 : α1} {a2 : α2} (h : z = (a0, a1, a2)) :
    z.2.1 = a1 := by
  subst h
  rfl

theorem pick_2 {α0 α1 α2 : Type} {z : α0 × α1 × α2} {a0 : α0} {a1 : α1} {a2 : α2} (h : z = (a0, a1, a2)) :
    z.2.2 = a2 := by
  subst h
  rfl

theorem scratchA (t : Fin cfg0.N) (h0 : t.val % 16 = 0) : (outsAt0 m c t.val t.isLt).2.2 = V m c main_v4 :=
  (pick_2 (outsAt0_A m c t h0)).trans
    (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (V m c main_v4))

theorem scratchB (t : Fin cfg0.N) (h0 : ¬t.val % 16 = 0) :
    (outsAt0 m c t.val t.isLt).2.2 = (outsAt0 m c (prev t).val (prev t).isLt).2.2 :=
  pick_2 (outsAt0_B m c t h0)

theorem scratch : ∀ (n : ℕ) (h : n < cfg0.N), (outsAt0 m c n h).2.2 = V m c main_v4
  | 0, h => scratchA m c ⟨0, h⟩ rfl
  | n + 1, h => by
    by_cases h0 : (⟨n + 1, h⟩ : Fin cfg0.N).val % 16 = 0
    · exact scratchA m c ⟨n + 1, h⟩ h0
    · exact (scratchB m c ⟨n + 1, h⟩ h0).trans (scratch n _)

/-- The first result's block at a point. -/
def dxB (t : Fin cfg0.N) : FVec Ideal S512x1024 .f32 := vDx (iblk m c 0 t) (iblk m c 1 t) (iblk m c 2 t) (iblk m c 3 t) (iblk m c 4 t) (iblk m c 5 t) (iblk m c 6 t) (V m c main_v4)

/-- The second result after a point, from what the point before left. -/
def dgB (t : Fin cfg0.N) (acc : FVec Ideal S1x1024 .f32) : FVec Ideal S1x1024 .f32 := vDg (iblk m c 0 t) (iblk m c 3 t) (iblk m c 4 t) (iblk m c 5 t) (iblk m c 6 t) (V m c main_v4) acc

theorem outs_7 (t : Fin cfg0.N) : (outsAt0 m c t.val t.isLt).1 = dxB m c t := by
  by_cases h0 : t.val % 16 = 0
  · exact (pick_0 (outsAt0_A m c t h0)).trans
      (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (V m c main_v4))
  · refine (pick_0 (outsAt0_B m c t h0)).trans
      ((out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (V m c main_v4)).trans ?_)
    exact congrArg (fun w => vDx (iblk m c 0 t) (iblk m c 1 t) (iblk m c 2 t) (iblk m c 3 t) (iblk m c 4 t) (iblk m c 5 t) (iblk m c 6 t) w) (scratch m c _ _)

theorem stepA_8 (t : Fin cfg0.N) (h0 : t.val % 16 = 0) :
    (outsAt0 m c t.val t.isLt).2.1 = dgB m c t (k0_pay3 (F := Ideal)) :=
  (pick_1 (outsAt0_A m c t h0)).trans
    (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (V m c main_v4))

theorem stepB_8 (t : Fin cfg0.N) (h0 : ¬t.val % 16 = 0) :
    (outsAt0 m c t.val t.isLt).2.1 = dgB m c t ((outsAt0 m c (prev t).val (prev t).isLt).2.1) := by
  refine (pick_1 (outsAt0_B m c t h0)).trans
    ((out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (V m c main_v4)).trans ?_)
  exact congrArg (fun w => vDg (iblk m c 0 t) (iblk m c 3 t) (iblk m c 4 t) (iblk m c 5 t) (iblk m c 6 t) w _) (scratch m c _ _)

theorem first_8 (h : 0 < cfg0.N) : (outsAt0 m c 0 h).2.1 = dgB m c ⟨0, h⟩ (k0_pay3 (F := Ideal)) :=
  stepA_8 m c ⟨0, h⟩ rfl

theorem later_8 (n : ℕ) (h : n + 1 < cfg0.N) :
    (outsAt0 m c (n + 1) h).2.1 = dgB m c ⟨n + 1, h⟩ ((outsAt0 m c n (Nat.lt_of_succ_lt h)).2.1) := by
  have hN : cfg0.N = 16 := N_0
  have h0 : ¬(⟨n + 1, h⟩ : Fin cfg0.N).val % 16 = 0 := by dsimp only; omega
  exact stepB_8 m c ⟨n + 1, h⟩ h0

/-- The derivative's element that point `t` uses at its row `r` and column `d`. -/
def dnP (t : Fin cfg0.N) (r : Fin 512) (d : Fin 1024) : EReal :=
  dnAt (iblk m c 3 t) (iblk m c 4 t) (iblk m c 5 t) (iblk m c 6 t) (V m c main_v4) r d

/-- Row `r` of the first block of point `t`. -/
def xP (t : Fin cfg0.N) (r : Fin 512) : Fin 1024 → EReal := row (iblk m c 0 t : FVec Ideal S512x1024 .f32) r

theorem zero_dg (d : Fin 1024) : (k0_pay3 (F := Ideal)) (ix2 0 d) = 0 := by
  unfold k0_pay3
  rw [splat_at, Ideal.ofBits_zero_f32]

theorem dgB_at (t : Fin cfg0.N) (acc : FVec Ideal S1x1024 .f32) (d : Fin 1024) :
    dgB m c t acc (ix2 0 d) = acc (ix2 0 d) + ∑ r, dgRow (xP m c t r) (dnP m c t r) d := dg_at _ _ _ _ _ _ acc d

theorem sum_8 (d : Fin 1024) : ∀ (n : ℕ) (h : n < cfg0.N), (outsAt0 m c n h).2.1 (ix2 0 d)
    = ∑ s : Fin (n + 1), ∑ r, dgRow (xP m c ⟨s.val, hlt h s⟩ r) (dnP m c ⟨s.val, hlt h s⟩ r) d
  | 0, h => by
    rw [first_8, dgB_at, zero_dg, zero_add, Fin.sum_univ_one]
    rfl
  | n + 1, h => by
    rw [later_8, dgB_at, sum_8 d n (Nat.lt_of_succ_lt h)]
    exact (Fin.sum_univ_castSucc (n := n + 1) (fun s : Fin (n + 1 + 1) =>
      ∑ r, dgRow (xP m c ⟨s.val, hlt h s⟩ r) (dnP m c ⟨s.val, hlt h s⟩ r) d)).symm

end Cert.Dx

end
-- ==== Proof.Dx.Ref.lean ====
/-
  The reference of the input projection's backward call, one token at a time.
-/
module

public import proofs.«01_k».proof.Proof.Gen.DxReferenceIdeal.Read
public import proofs.«01_k».proof.Proof.Post.Rows
public import proofs.«01_k».proof.Proof.Post.Norm
public import proofs.«01_k».proof.Proof.Dx.Model

@[expose] public section

set_option maxRecDepth 16384

noncomputable section

namespace Cert.Dx.Ref

open Cert.DxReferenceIdeal Cert.DxReferenceIdeal.Gen Cert.DxReferenceIdeal.Read Cert.Rows Cert.Post Idealize.ShloMosaic
  Idealize.ShloMosaic.ValueIdx
open scoped BigOperators

variable (x0 x1 : FVec Ideal S8192x1024 .f32) (x2 : FVec Ideal S1x1024 .f32) (x3 : FVec Ideal S8192x1664 .bf16)
  (x4 x5 x6 : FVec Ideal S8192x512 .bf16) (x7 : FVec Ideal S1024x3088 .f32)

/-- A matrix's index from its two coordinates. -/
theorem e2 {n m : ℕ} (i : (⟨2, ![n, m]⟩ : Shape).Idx) (a : Fin n) (b : Fin m) (h0 : (i 0).val = a.val) (h1 : (i 1).val = b.val) :
    i = ix2 a b := by
  funext k
  apply Fin.ext
  match k with
  | ⟨0, _⟩ => exact h0
  | ⟨1, _⟩ => exact h1

/-- The pieces side by side, at a token. -/
abbrev joined (t : Fin 8192) : Fin 3088 → EReal := join (row x3 t) (row x4 t) (row x5 t) (row x6 t)

/-- The derivative with respect to a token's normalised and scaled row. -/
def dnR (t : Fin 8192) (d : Fin 1024) : EReal := ∑ l, joined x3 x4 x5 x6 t l * x7 (ix2 d l)

variable (t : Fin 8192)

theorem colNum : (idx_main_v5 (ix2 t 0) 0).val = t.val := rfl

theorem rowNum (d : Fin 1024) : (idx_main_v22 (ix2 0 d) 0).val = d.val := by
  have := d.isLt
  show 0 * 1024 + d.val = d.val
  omega

theorem col27 : (idx_main_v27 (ix2 t 0) 0).val = t.val := by
  have := t.isLt
  show t.val * 1 + 0 = t.val
  omega

theorem joined_at (l : Fin 3088) : val_main_v2 (F := Ideal) x3 x4 x5 x6 (ix2 t l) = joined x3 x4 x5 x6 t l := by
  rw [val_main_v2_apply]
  show val_main_v1 (F := Ideal) x3 x4 x5 x6 (ix2 t l) = join _ _ _ _ l
  have hl := l.isLt
  unfold val_main_v1 join
  by_cases h0 : l.val < 1552
  · rw [dif_pos h0]
    refine (concatenate_apply_piece 1 _ _ (ix2 t l) 0 (by show 0 < 4; omega) S8192x1552 (val_main_v0 (F := Ideal) x3) rfl rfl 0 rfl (ix2 t ⟨l.val, h0⟩)
      (fun b hb => ?_) ?_).trans ?_
    · match b with
      | ⟨0, _⟩ => rfl
      | ⟨1, _⟩ => exact absurd rfl hb
    · exact Nat.zero_add _
    · rw [val_main_v0_apply]
      exact congrArg x3 (e2 _ _ _ rfl rfl)
  rw [dif_neg h0]
  by_cases h1 : l.val < 2064
  · rw [dif_pos h1]
    refine concatenate_apply_piece 1 _ _ (ix2 t l) 1 (by show 1 < 4; omega) S8192x512 x4 rfl rfl 1552 rfl (ix2 t ⟨l.val - 1552, by omega⟩)
      (fun b hb => ?_) ?_
    · match b with
      | ⟨0, _⟩ => rfl
      | ⟨1, _⟩ => exact absurd rfl hb
    · show 1552 + (l.val - 1552) = l.val
      omega
  rw [dif_neg h1]
  by_cases h2 : l.val < 2576
  · rw [dif_pos h2]
    refine concatenate_apply_piece 1 _ _ (ix2 t l) 2 (by show 2 < 4; omega) S8192x512 x5 rfl rfl 2064 rfl (ix2 t ⟨l.val - 2064, by omega⟩)
      (fun b hb => ?_) ?_
    · match b with
      | ⟨0, _⟩ => rfl
      | ⟨1, _⟩ => exact absurd rfl hb
    · show 2064 + (l.val - 2064) = l.val
      omega
  rw [dif_neg h2]
  refine concatenate_apply_piece 1 _ _ (ix2 t l) 3 (by show 3 < 4; omega) S8192x512 x6 rfl rfl 2576 rfl (ix2 t ⟨l.val - 2576, by omega⟩)
    (fun b hb => ?_) ?_
  · match b with
    | ⟨0, _⟩ => rfl
    | ⟨1, _⟩ => exact absurd rfl hb
  · show 2576 + (l.val - 2576) = l.val
    omega

theorem z_at (u : Fin 1) : val_main_v9 (F := Ideal) x0 (ix2 t u) = meanSq (row x0 t) := by
  rw [val_main_v9_apply, val_main_v7_apply, val_main_v5_apply, val_main_v4_apply, val_main_v6_apply, val_main_v8_apply,
    val_main_cst_apply, val_main_cst_0_apply, val_main_cst_1_apply]
  have e : ∀ k, val_main_v3 (F := Ideal) x0 (idx_main_v4 (idx_main_v5 (ix2 t u)) k) = row x0 t k * row x0 t k := fun k => by
    rw [val_main_v3_apply, e2 (idx_main_v4 (idx_main_v5 (ix2 t u)) k) t k rfl rfl]
    rfl
  rw [Finset.sum_congr rfl fun k _ => e k]
  show Ideal.div (Ideal.ofBits .f32 0x00000000#32 + ∑ k, row x0 t k * row x0 t k) cN + cEps = _
  rw [Ideal.ofBits_zero_f32, zero_add]
  rfl

theorem rs_at (u : Fin 1) : val_main_v10 (F := Ideal) x0 (ix2 t u) = rstd (row x0 t) := by
  rw [val_main_v10_apply, z_at]
  rfl

theorem hn_at (d : Fin 1024) : val_main_v15 (F := Ideal) x0 (ix2 t d) = row x0 t d * rstd (row x0 t) := by
  rw [val_main_v15_apply, val_main_v14_apply, e2 (idx_main_v14 (ix2 t d)) t 0 rfl rfl, rs_at]
  rfl

theorem dn_at (d : Fin 1024) : val_main_v19 (F := Ideal) x3 x4 x5 x6 x7 (ix2 t d) = dnR x3 x4 x5 x6 x7 t d := by
  rw [val_main_v19_apply]
  refine Finset.sum_congr rfl fun k _ => ?_
  rw [e2 (lidx_main_v19 (ix2 t d) k) t k rfl rfl, e2 (ridx_main_v19 (ix2 t d) k) d k rfl rfl, joined_at]

theorem dhn_at (d : Fin 1024) :
    val_main_v24 (F := Ideal) x2 x3 x4 x5 x6 x7 (ix2 t d) = dnR x3 x4 x5 x6 x7 t d * row x2 0 d := by
  rw [val_main_v24_apply, val_main_v23_apply, e2 (idx_main_v23 (ix2 t d)) 0 d rfl rfl, dn_at]
  rfl

/-- The coefficient of the row in its own derivative. -/
theorem c_at (d : Fin 1024) : val_main_v34 (F := Ideal) x0 x2 x3 x4 x5 x6 x7 (ix2 t d)
    = Ideal.div ((∑ k, row x0 t k * (dnR x3 x4 x5 x6 x7 t k * row x2 0 k))
        * (Ideal.ofBits .f32 0xBF000000#32 * Ideal.div (rstd (row x0 t)) (meanSq (row x0 t)))) cN := by
  rw [val_main_v34_apply, val_main_v33_apply, Fin.sum_univ_one, e2 (idx_main_v33 (idx_main_v34 (ix2 t d)) 0) t 0 rfl rfl,
    val_main_v32_apply, val_main_v30_apply, val_main_v27_apply, val_main_v26_apply, val_main_v31_apply, val_main_v13_apply,
    val_main_v11_apply, val_main_v12_apply, val_main_cst_2_apply, val_main_cst_4_apply, val_main_cst_5_apply,
    val_main_cst_6_apply, rs_at, z_at]
  have e : ∀ k, val_main_v25 (F := Ideal) x0 x2 x3 x4 x5 x6 x7 (idx_main_v26 (idx_main_v27 (ix2 t 0)) k)
      = row x0 t k * (dnR x3 x4 x5 x6 x7 t k * row x2 0 k) := fun k => by
    rw [val_main_v25_apply, e2 (idx_main_v26 (idx_main_v27 (ix2 t 0)) k) t k (col27 t) rfl, dhn_at]
    rfl
  rw [Finset.sum_congr rfl fun k _ => e k]
  show Ideal.ofBits .f32 0x00000000#32 + Ideal.div ((Ideal.ofBits .f32 0x00000000#32 + _) * _) cN = _
  rw [Ideal.ofBits_zero_f32, zero_add, zero_add]
  rfl

theorem dx_at (d : Fin 1024) : val_main_v39 (F := Ideal) x0 x1 x2 x3 x4 x5 x6 x7 (ix2 t d)
    = dxRow (row x0 t) (row x1 t) (row x2 0) (dnR x3 x4 x5 x6 x7 t) d := by
  rw [val_main_v39_apply, val_main_v38_apply, val_main_v36_apply, val_main_v37_apply, val_main_v35_apply, val_main_v29_apply,
    val_main_v28_apply, e2 (idx_main_v28 (ix2 t d)) t 0 rfl rfl, rs_at, c_at, dhn_at]
  exact congrArg (row x1 t d + ·) (normBack_eq (row x0 t) (fun k => dnR x3 x4 x5 x6 x7 t k * row x2 0 k) d)

theorem dg_at (d : Fin 1024) : val_main_v22 (F := Ideal) x0 x3 x4 x5 x6 x7 (ix2 0 d)
    = ∑ t, dgRow (row x0 t) (dnR x3 x4 x5 x6 x7 t) d := by
  rw [val_main_v22_apply, val_main_v21_apply, val_main_cst_3_apply]
  have e : ∀ t, val_main_v20 (F := Ideal) x0 x3 x4 x5 x6 x7 (idx_main_v21 (idx_main_v22 (ix2 0 d)) t)
      = dgRow (row x0 t) (dnR x3 x4 x5 x6 x7 t) d :=
    fun t => by
      rw [val_main_v20_apply, e2 (idx_main_v21 (idx_main_v22 (ix2 0 d)) t) t d rfl (rowNum d), hn_at, dn_at]
      exact mul_comm _ _
  rw [Finset.sum_congr rfl fun k _ => e k]
  show Ideal.ofBits .f32 0x00000000#32 + _ = _
  rw [Ideal.ofBits_zero_f32, zero_add]

end Cert.Dx.Ref

end
-- ==== Proof.Dx.Final.lean ====
/-
  What the input projection's backward call leaves in each result array, as the reference's stage of the same arguments:
  row `r` of point `t`'s blocks is token `512 t + r`, and the scratch buffer holds the weights with the padding columns.
-/
module

public import proofs.«01_k».proof.Proof.Dx.Points
public import proofs.«01_k».proof.Proof.Dx.Ref
public import Idealize.ShloMosaic.Lib.Pipeline.ValueKit
public import Idealize.ShloMosaic.Lib.StableHlo.Run

@[expose] public section

set_option maxRecDepth 16384

noncomputable section

namespace Cert.Dx

open Cert.DxKernelIdeal Cert.DxKernelIdeal.Gen Cert.Rows Cert.Cover Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (c : Dev nD)

theorem N16 (t : Fin cfg0.N) : t.val < 16 := lt_of_lt_of_eq t.isLt N_0

/-- Row `r` of point `t`. -/
def at512 (t : Fin cfg0.N) (r : Fin 512) : Fin 8192 := ⟨512 * t.val + r.val, by have := N16 t; have := r.isLt; omega⟩

theorem v4_eq : (V m c main_v4 : FVec Ideal S1024x3200 .bf16) = concatenate S1024x3200 1
    [⟨S1024x1552, (extractStridedSlice S1024x1552 ![0, 0] (truncf (F := Ideal) .bf16 (m ((c : Thread nD τ).loc main_arg7) : FVec Ideal S1024x3088 .f32) bitsLt_bf16_f32) slices_S1024x3088_S1024x1552_0_0 : FVec Ideal S1024x1552 .bf16)⟩,
      ⟨S1024x112, (broadcastInDim S1024x112 ![] bcast_S_S1024x112 (constant S_ .bf16 0x0000#16 : FVec Ideal S_ .bf16) : FVec Ideal S1024x112 .bf16)⟩,
      ⟨S1024x1536, (extractStridedSlice S1024x1536 ![0, 1552] (truncf (F := Ideal) .bf16 (m ((c : Thread nD τ).loc main_arg7) : FVec Ideal S1024x3088 .f32) bitsLt_bf16_f32) slices_S1024x3088_S1024x1536_0_1552 : FVec Ideal S1024x1536 .bf16)⟩]
    concatenates_S1024x1552_S1024x112_S1024x1536_S1024x3200_d1 := by
  unfold V
  after_results
  rfl

/-- A row of the padded weights. -/
theorem pad_at (d : Fin 1024) (l : Fin 3200) : (V m c main_v4 : FVec Ideal S1024x3200 .bf16) (ix2 d l)
    = pad (row (m ((c : Thread nD τ).loc main_arg7) : FVec Ideal S1024x3088 .f32) d) l := by
  rw [v4_eq]
  have hl := l.isLt
  unfold pad
  by_cases h0 : l.val < 1552
  · rw [dif_pos h0]
    refine (concatenate_apply_piece 1 _ _ (ix2 d l) 0 (by show 0 < 3; omega) S1024x1552 _ rfl rfl 0 rfl (ix2 d ⟨l.val, h0⟩)
      (fun b hb => ?_) ?_).trans ?_
    · match b with
      | ⟨0, _⟩ => rfl
      | ⟨1, _⟩ => exact absurd rfl hb
    · exact Nat.zero_add _
    · refine (extractStridedSlice_apply _ _ _ (ix2 d ⟨l.val, h0⟩) (ix2 d ⟨l.val, by omega⟩ : S1024x3088.Idx) (fun b => ?_)).trans rfl
      match b with
      | ⟨0, _⟩ => show d.val = 0 + d.val; omega
      | ⟨1, _⟩ => show l.val = 0 + l.val; omega
  rw [dif_neg h0]
  by_cases h1 : l.val < 1664
  · rw [dif_pos h1]
    refine (concatenate_apply_piece 1 _ _ (ix2 d l) 1 (by show 1 < 3; omega) S1024x112 _ rfl rfl 1552 rfl (ix2 d ⟨l.val - 1552, by omega⟩)
      (fun b hb => ?_) ?_).trans ?_
    · match b with
      | ⟨0, _⟩ => rfl
      | ⟨1, _⟩ => exact absurd rfl hb
    · show 1552 + (l.val - 1552) = l.val
      omega
    · exact Ideal.ofBits_zero_bf16
  rw [dif_neg h1]
  refine (concatenate_apply_piece 1 _ _ (ix2 d l) 2 (by show 2 < 3; omega) S1024x1536 _ rfl rfl 1664 rfl (ix2 d ⟨l.val - 1664, by omega⟩)
    (fun b hb => ?_) ?_).trans ?_
  · match b with
    | ⟨0, _⟩ => rfl
    | ⟨1, _⟩ => exact absurd rfl hb
  · show 1664 + (l.val - 1664) = l.val
    omega
  · refine (extractStridedSlice_apply _ _ _ (ix2 d ⟨l.val - 1664, by omega⟩) (ix2 d ⟨l.val - 112, by omega⟩ : S1024x3088.Idx) (fun b => ?_)).trans rfl
    match b with
    | ⟨0, _⟩ => show d.val = 0 + d.val; omega
    | ⟨1, _⟩ => show l.val - 112 = 1552 + (l.val - 1664); omega

theorem index_0 : ∀ t : Fin cfg0.N, win0_0.index t = ![t.val, 0] :=
  (by decide +kernel : ∀ t : Fin grid0.N, win0_0.index t = ![t.val, 0])

theorem blk0_at (t : Fin cfg0.N) (r : Fin 512) (d : Fin 1024) : (iblk m c 0 t : FVec Ideal S512x1024 .f32) (ix2 r d)
    = (m ((c : Thread nD τ).loc main_arg0) : FVec Ideal S8192x1024 .f32) (ix2 (at512 t r) d) := by
  unfold iblk
  rw [View.read_apply]
  show V m c main_arg0 _ = _
  rw [V_main_arg0]
  refine congrArg _ (e2 _ _ _ ?_ ?_)
  · refine (Pipeline.Window.rect_emb_val win0_0 t _ 0).trans ?_
    rw [index_0 t]
    show t.val * 512 + r.val = 512 * t.val + r.val
    omega
  · refine (Pipeline.Window.rect_emb_val win0_0 t _ 1).trans ?_
    rw [index_0 t]
    show 0 * 1024 + d.val = d.val
    omega

theorem index_1 : ∀ t : Fin cfg0.N, win0_1.index t = ![t.val, 0] :=
  (by decide +kernel : ∀ t : Fin grid0.N, win0_1.index t = ![t.val, 0])

theorem blk1_at (t : Fin cfg0.N) (r : Fin 512) (d : Fin 1024) : (iblk m c 1 t : FVec Ideal S512x1024 .f32) (ix2 r d)
    = (m ((c : Thread nD τ).loc main_arg1) : FVec Ideal S8192x1024 .f32) (ix2 (at512 t r) d) := by
  unfold iblk
  rw [View.read_apply]
  show V m c main_arg1 _ = _
  rw [V_main_arg1]
  refine congrArg _ (e2 _ _ _ ?_ ?_)
  · refine (Pipeline.Window.rect_emb_val win0_1 t _ 0).trans ?_
    rw [index_1 t]
    show t.val * 512 + r.val = 512 * t.val + r.val
    omega
  · refine (Pipeline.Window.rect_emb_val win0_1 t _ 1).trans ?_
    rw [index_1 t]
    show 0 * 1024 + d.val = d.val
    omega

theorem index_2 : ∀ t : Fin cfg0.N, win0_2.index t = ![0, 0] :=
  (by decide +kernel : ∀ t : Fin grid0.N, win0_2.index t = ![0, 0])

theorem blk2_at (t : Fin cfg0.N) (d : Fin 1024) : (iblk m c 2 t : FVec Ideal S1x1024 .f32) (ix2 0 d)
    = (m ((c : Thread nD τ).loc main_arg2) : FVec Ideal S1x1024 .f32) (ix2 0 d) := by
  unfold iblk
  rw [View.read_apply]
  show V m c main_arg2 _ = _
  rw [V_main_arg2]
  refine congrArg _ (e2 _ _ _ ?_ ?_)
  · refine (Pipeline.Window.rect_emb_val win0_2 t _ 0).trans ?_
    rw [index_2 t]
    show 0 * 1 + 0 = 0
    omega
  · refine (Pipeline.Window.rect_emb_val win0_2 t _ 1).trans ?_
    rw [index_2 t]
    show 0 * 1024 + d.val = d.val
    omega

theorem index_3 : ∀ t : Fin cfg0.N, win0_3.index t = ![t.val, 0] :=
  (by decide +kernel : ∀ t : Fin grid0.N, win0_3.index t = ![t.val, 0])

theorem blk3_at (t : Fin cfg0.N) (r : Fin 512) (d : Fin 1664) : (iblk m c 3 t : FVec Ideal S512x1664 .bf16) (ix2 r d)
    = (m ((c : Thread nD τ).loc main_arg3) : FVec Ideal S8192x1664 .bf16) (ix2 (at512 t r) d) := by
  unfold iblk
  rw [View.read_apply]
  show V m c main_arg3 _ = _
  rw [V_main_arg3]
  refine congrArg _ (e2 _ _ _ ?_ ?_)
  · refine (Pipeline.Window.rect_emb_val win0_3 t _ 0).trans ?_
    rw [index_3 t]
    show t.val * 512 + r.val = 512 * t.val + r.val
    omega
  · refine (Pipeline.Window.rect_emb_val win0_3 t _ 1).trans ?_
    rw [index_3 t]
    show 0 * 1664 + d.val = d.val
    omega

theorem index_4 : ∀ t : Fin cfg0.N, win0_4.index t = ![t.val, 0] :=
  (by decide +kernel : ∀ t : Fin grid0.N, win0_4.index t = ![t.val, 0])

theorem blk4_at (t : Fin cfg0.N) (r : Fin 512) (d : Fin 512) : (iblk m c 4 t : FVec Ideal S512x512 .bf16) (ix2 r d)
    = (m ((c : Thread nD τ).loc main_arg4) : FVec Ideal S8192x512 .bf16) (ix2 (at512 t r) d) := by
  unfold iblk
  rw [View.read_apply]
  show V m c main_arg4 _ = _
  rw [V_main_arg4]
  refine congrArg _ (e2 _ _ _ ?_ ?_)
  · refine (Pipeline.Window.rect_emb_val win0_4 t _ 0).trans ?_
    rw [index_4 t]
    show t.val * 512 + r.val = 512 * t.val + r.val
    omega
  · refine (Pipeline.Window.rect_emb_val win0_4 t _ 1).trans ?_
    rw [index_4 t]
    show 0 * 512 + d.val = d.val
    omega

theorem index_5 : ∀ t : Fin cfg0.N, win0_5.index t = ![t.val, 0] :=
  (by decide +kernel : ∀ t : Fin grid0.N, win0_5.index t = ![t.val, 0])

theorem blk5_at (t : Fin cfg0.N) (r : Fin 512) (d : Fin 512) : (iblk m c 5 t : FVec Ideal S512x512 .bf16) (ix2 r d)
    = (m ((c : Thread nD τ).loc main_arg5) : FVec Ideal S8192x512 .bf16) (ix2 (at512 t r) d) := by
  unfold iblk
  rw [View.read_apply]
  show V m c main_arg5 _ = _
  rw [V_main_arg5]
  refine congrArg _ (e2 _ _ _ ?_ ?_)
  · refine (Pipeline.Window.rect_emb_val win0_5 t _ 0).trans ?_
    rw [index_5 t]
    show t.val * 512 + r.val = 512 * t.val + r.val
    omega
  · refine (Pipeline.Window.rect_emb_val win0_5 t _ 1).trans ?_
    rw [index_5 t]
    show 0 * 512 + d.val = d.val
    omega

theorem index_6 : ∀ t : Fin cfg0.N, win0_6.index t = ![t.val, 0] :=
  (by decide +kernel : ∀ t : Fin grid0.N, win0_6.index t = ![t.val, 0])

theorem blk6_at (t : Fin cfg0.N) (r : Fin 512) (d : Fin 512) : (iblk m c 6 t : FVec Ideal S512x512 .bf16) (ix2 r d)
    = (m ((c : Thread nD τ).loc main_arg6) : FVec Ideal S8192x512 .bf16) (ix2 (at512 t r) d) := by
  unfold iblk
  rw [View.read_apply]
  show V m c main_arg6 _ = _
  rw [V_main_arg6]
  refine congrArg _ (e2 _ _ _ ?_ ?_)
  · refine (Pipeline.Window.rect_emb_val win0_6 t _ 0).trans ?_
    rw [index_6 t]
    show t.val * 512 + r.val = 512 * t.val + r.val
    omega
  · refine (Pipeline.Window.rect_emb_val win0_6 t _ 1).trans ?_
    rw [index_6 t]
    show 0 * 512 + d.val = d.val
    omega

theorem xP_eq (t : Fin cfg0.N) (r : Fin 512) :
    xP m c t r = row (m ((c : Thread nD τ).loc main_arg0) : FVec Ideal S8192x1024 .f32) (at512 t r) :=
  funext fun d => blk0_at m c t r d

/-- The derivative's element is the reference's. -/
theorem dnP_eq (t : Fin cfg0.N) (r : Fin 512) :
    dnP m c t r = Ref.dnR (m ((c : Thread nD τ).loc main_arg3)) (m ((c : Thread nD τ).loc main_arg4)) (m ((c : Thread nD τ).loc main_arg5)) (m ((c : Thread nD τ).loc main_arg6)) (m ((c : Thread nD τ).loc main_arg7)) (at512 t r) := by
  funext d
  have ew : row (V m c main_v4 : FVec Ideal S1024x3200 .bf16) d
      = pad (row (m ((c : Thread nD τ).loc main_arg7) : FVec Ideal S1024x3088 .f32) d) := funext fun l => pad_at m c d l
  have e3 : row (iblk m c 3 t : FVec Ideal S512x1664 .bf16) r
      = row (m ((c : Thread nD τ).loc main_arg3) : FVec Ideal S8192x1664 .bf16) (at512 t r) := funext fun l => blk3_at m c t r l
  have e4 : row (iblk m c 4 t : FVec Ideal S512x512 .bf16) r
      = row (m ((c : Thread nD τ).loc main_arg4) : FVec Ideal S8192x512 .bf16) (at512 t r) := funext fun l => blk4_at m c t r l
  have e5 : row (iblk m c 5 t : FVec Ideal S512x512 .bf16) r
      = row (m ((c : Thread nD τ).loc main_arg5) : FVec Ideal S8192x512 .bf16) (at512 t r) := funext fun l => blk5_at m c t r l
  have e6 : row (iblk m c 6 t : FVec Ideal S512x512 .bf16) r
      = row (m ((c : Thread nD τ).loc main_arg6) : FVec Ideal S8192x512 .bf16) (at512 t r) := funext fun l => blk6_at m c t r l
  unfold dnP dnAt
  rw [ew, e3, e4, e5, e6, dnPad_eq]
  rfl

theorem dxB_at (t : Fin cfg0.N) (r : Fin 512) (d : Fin 1024) : dxB m c t (ix2 r d)
    = dxRow (row (m ((c : Thread nD τ).loc main_arg0) : FVec Ideal S8192x1024 .f32) (at512 t r))
      (row (m ((c : Thread nD τ).loc main_arg1) : FVec Ideal S8192x1024 .f32) (at512 t r))
      (row (m ((c : Thread nD τ).loc main_arg2) : FVec Ideal S1x1024 .f32) 0)
      (Ref.dnR (m ((c : Thread nD τ).loc main_arg3)) (m ((c : Thread nD τ).loc main_arg4)) (m ((c : Thread nD τ).loc main_arg5)) (m ((c : Thread nD τ).loc main_arg6)) (m ((c : Thread nD τ).loc main_arg7)) (at512 t r)) d := by
  unfold dxB
  rw [dx_at, ← dnP_eq m c t r, ← xP_eq m c t r]
  have e1 : row (iblk m c 1 t : FVec Ideal S512x1024 .f32) r
      = row (m ((c : Thread nD τ).loc main_arg1) : FVec Ideal S8192x1024 .f32) (at512 t r) := funext fun l => blk1_at m c t r l
  have e2 : row (iblk m c 2 t : FVec Ideal S1x1024 .f32) 0
      = row (m ((c : Thread nD τ).loc main_arg2) : FVec Ideal S1x1024 .f32) 0 := funext fun l => blk2_at m c t l
  rw [← e1, ← e2]
  rfl

theorem index_7 : ∀ t : Fin cfg0.N, win0_7.index t = ![t.val, 0] :=
  (by decide +kernel : ∀ t : Fin grid0.N, win0_7.index t = ![t.val, 0])

theorem arr_7 : (dats m 0 c).arrAt 7 cfg0.N = Cert.DxReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t _ y => ?_
  have hz : ((cfg0.win 7).blk t).view.emb y = ix2 (at512 t (y 0)) (y 1) := by
    refine e2 _ _ _ ((Pipeline.Window.rect_emb_val win0_7 t y 0).trans ?_) ((Pipeline.Window.rect_emb_val win0_7 t y 1).trans ?_)
    · rw [index_7 t]
      show t.val * 512 + (y 0).val = 512 * t.val + (y 0).val
      omega
    · rw [index_7 t]
      show 0 * 1024 + (y 1).val = (y 1).val
      omega
  rw [hz]
  refine Eq.trans (b := (dats m 0 c).after 7 t y) rfl ?_
  rw [after0_7, outs_7]
  refine (congrArg _ (eta2 y)).trans ((dxB_at m c t (y 0) (y 1)).trans ?_)
  exact (Ref.dx_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (at512 t (y 0)) (y 1)).symm

/-- The last point of the grid. -/
def lastPt : Fin cfg0.N := ⟨15, by rw [show cfg0.N = 16 from N_0]; decide⟩

/-- Summing over the points and the rows of each is summing over the tokens. -/
theorem sum_tokens (f : Fin 8192 → EReal) (g : Fin (15 + 1) → Fin 512 → EReal)
    (h : ∀ s r, g s r = f (at512 ⟨s.val, hlt lastPt.isLt s⟩ r)) : ∑ s, ∑ r, g s r = ∑ i, f i := by
  rw [← Fin.sum_mul_add_fin 16 512 f rfl]
  refine Finset.sum_congr rfl fun s _ => Finset.sum_congr rfl fun r _ => ?_
  rw [h]
  exact congrArg f (Fin.ext (by show 512 * s.val + r.val = s.val * 512 + r.val; omega))

theorem arr_8 : (dats m 0 c).arrAt 8 cfg0.N = Cert.DxReferenceIdeal.Read.val_main_v22 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 8 lastPt (by decide +kernel) _ fun j => ?_
  have hj : (j : (⟨2, ![1, 1024]⟩ : Shape).Idx) = ix2 0 (j 1) := e2 _ _ _ (by have : (j 0).val < 1 := (j 0).isLt; show (j 0).val = 0; omega) rfl
  refine Eq.trans (b := (dats m 0 c).after 8 lastPt j) rfl ?_
  refine Eq.trans ?_ (b := Cert.DxReferenceIdeal.Read.val_main_v22 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) j) rfl
  rw [after0_8, hj]
  refine (sum_8 m c (j 1) 15 lastPt.isLt).trans ?_
  refine Eq.trans ?_ (Ref.dg_at (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (j 1)).symm
  refine sum_tokens (fun i => dgRow (row (m ((c : Thread nD τ).loc main_arg0) : FVec Ideal S8192x1024 .f32) i)
    (Ref.dnR (m ((c : Thread nD τ).loc main_arg3)) (m ((c : Thread nD τ).loc main_arg4)) (m ((c : Thread nD τ).loc main_arg5)) (m ((c : Thread nD τ).loc main_arg6)) (m ((c : Thread nD τ).loc main_arg7)) i) (j 1)) _ fun s r => ?_
  rw [xP_eq, dnP_eq]

end Cert.Dx

end
-- ==== Proof.Dx.Claims.lean ====
/-
  The claims about the input projection's backward call: the frames, and the kernel's results equal to the reference's.
-/
module

public import proofs.«01_k».proof.Proof.Dx.Final
public import proofs.«01_k».proof.Proof.Gen.DxKernel
public import proofs.«01_k».proof.Proof.Gen.DxKernel.Frame
public import proofs.«01_k».proof.Defs
public import Idealize.ShloMosaic.Adequacy
public import Idealize.ShloMosaic.Init

@[expose] public section

set_option maxRecDepth 16384

noncomputable section

namespace Cert.Dx

open Idealize.ShloMosaic Idealize.SL.Sem

theorem frame_bits : Cert.quiescent_DxKernel := fun m ρ _ => Cert.DxKernel.Gen.frame m ρ

theorem frame_ideal : Cert.quiescent_DxKernelIdeal := fun m ρ _ => Cert.DxKernelIdeal.Gen.frame m ρ

theorem frame_reference : Cert.quiescent_DxReferenceIdeal := fun m ρ _ =>
  (θ_run Cert.DxReferenceIdeal.defs _ _).mono (fun r h => ⟨fun c => (h c).2.2,
      Idealize.ShloMosaic.sem_eq_zero_of_no_sems (by decide) r.2⟩)
    (Cert.DxReferenceIdeal.Value.run (F := Ideal) m ρ)

set_option maxHeartbeats 4000000 in
open Idealize.ShloMosaic.TcCoe Idealize.ShloMosaic.Pipeline Cert.DxKernelIdeal Cert.DxKernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v5_0) = Cert.DxReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v5_1) = Cert.DxReferenceIdeal.Read.val_main_v22 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => ⟨
    ((h c).1 7).trans (arr_7 m c),
    ((h c).1 8).trans (arr_8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c)⟩)
    (run_main m ρ)

set_option maxHeartbeats 4000000 in
open Idealize.ShloMosaic.TcCoe Cert.DxReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v39) = Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v22) = Read.val_main_v22 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => by
    obtain ⟨h0, h1, ha⟩ := h c
    exact ⟨h0.trans (Read.val_main_v39_eq m c),
      h1.trans (Read.val_main_v22_eq _ _ _ _ _ _), ha⟩)
    (Value.run (F := Ideal) m ρ)

set_option maxHeartbeats 4000000 in
theorem algebraic : Cert.algebraic_DxKernelIdeal_DxReferenceIdeal := by
  intro m ρ m' ρ' _ hagree
  refine ⟨_, _, kernel_run m ρ, ?_⟩
  refine (θ_run Cert.DxReferenceIdeal.defs _ _).mono (fun r h c => ?_) (reference_run m' ρ')
  obtain ⟨e0, e1, e2, e3, e4, e5, e6, e7⟩ := hagree c
  have hc := h c
  rw [e0, e1, e2, e3, e4, e5, e6, e7] at hc
  rw [e0, e1, e2, e3, e4, e5, e6, e7]
  exact hc

end Cert.Dx

end
-- ==== Proof.Wgrad.Product.lean ====
/-
  The product of a matrix's transpose with a matrix, both contracted on their rows, read at an index.
-/
module

public import proofs.«01_k».proof.Proof.Post.Rows

@[expose] public section

noncomputable section

namespace Cert.Wgrad

open Cert.Rows Idealize.ShloMosaic Idealize.ShloMosaic.ValueIdx
open scoped BigOperators

/-- `K×M` by `K×N`, both operands contracted on their first axis. -/
def tl (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem tl_rank (K M N : ℕ) : (tl K M N).contr.rank = 1 := rfl

theorem tl_size (K M N : ℕ) : (tl K M N).contr.size ⟨0, by rw [tl_rank]; exact Nat.one_pos⟩ = K := rfl

/-- The contraction index as its one coordinate. -/
def tlContr (K M N : ℕ) : (tl K M N).contr.Idx ≃ Fin K := contrEquiv1 _ K (tl_rank K M N) (tl_size K M N)

/-- The product at an index, onto zero: the sum over the contracted rows. -/
theorem mmL_at {K M N : ℕ} {φ₁ φ₂ : FTy} (prec : Option ContractPrecision) (l : FVec Ideal ⟨2, ![K, M]⟩ φ₁)
    (r : FVec Ideal ⟨2, ![K, N]⟩ φ₂) (i : Fin M) (j : Fin N) :
    matmul (tl K M N) prec l r (constant ⟨2, ![M, N]⟩ .f32 0x00000000#32) (ix2 i j)
      = ∑ k : Fin K, l (ix2 k i) * r (ix2 k j) := by
  refine (Ideal.matmul_apply (tl K M N) prec l r _ (ix2 i j)).trans ?_
  rw [constant_at, Ideal.ofBits_zero_f32, zero_add, ← Equiv.sum_comp (tlContr K M N).symm]
  refine Finset.sum_congr rfl fun k _ => ?_
  have hk := contrEquiv1_symm_val _ K (tl_rank K M N) (tl_size K M N) k
  have el : (tl K M N).lhsIdx (ix2 i j) ((tlContr K M N).symm k) = ix2 k i := by
    funext a; apply Fin.ext
    match a with
    | ⟨0, _⟩ => exact hk
    | ⟨1, _⟩ => rfl
  have er : (tl K M N).rhsIdx (ix2 i j) ((tlContr K M N).symm k) = ix2 k j := by
    funext a; apply Fin.ext
    match a with
    | ⟨0, _⟩ => exact hk
    | ⟨1, _⟩ => rfl
  rw [el, er]

end Cert.Wgrad

end
-- ==== Proof.Wout.Block.lean ====
/-
  The output projection's weight gradient: what a grid point adds, read at an index, and what each point leaves in its buffers.
-/
module

public import proofs.«01_k».proof.Proof.Gen.WoutKernelIdeal.Frame
public import proofs.«01_k».proof.Proof.Wgrad.Product
public import proofs.«01_k».proof.Proof.Cover

@[expose] public section

set_option maxRecDepth 16384

noncomputable section

namespace Cert.Wout

open Cert.WoutKernelIdeal Cert.WoutKernelIdeal.Gen Cert.Rows Cert.Cover Cert.Wgrad Idealize.ShloMosaic Idealize.ShloMosaic.TcCoe
  Idealize.ShloMosaic.ValueIdx
open scoped BigOperators

theorem hdot : dot_S2048x1024_S2048x1024_S1024x1024_0_0_1_1_n_n = tl 2048 1024 1024 := rfl

/-- What a point adds, at a row and a column. -/
theorem part_at (a : FVec Ideal S2048x1024 .bf16) (b : FVec Ideal S2048x1024 .f32) (i j : Fin 1024) :
    k0_pay1 (F := Ideal) a b (ix2 i j) = ∑ k : Fin 2048, a (ix2 k i) * b (ix2 k j) := by
  unfold k0_pay1
  rw [hdot]
  exact mmL_at none a (truncf (F := Ideal) .bf16 b bitsLt_bf16_f32) i j

/-- What the last point of a sum writes, at an index. -/
theorem last_at (a : FVec Ideal S2048x1024 .bf16) (b : FVec Ideal S2048x1024 .f32) (acc : FVec Ideal S1024x1024 .f32) (y : S1024x1024.Idx) :
    k0_pay4 (F := Ideal) a b acc y = acc y + k0_pay1 (F := Ideal) a b y := rfl

theorem sout_A (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .f32) :
    sout0_A_0 c i arg3 harg3 arg4 harg4 arg5 harg5 arg6 harg6 hc0 hc1 hc2 x0 x1
      = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz2]
  simp only [View.readAt_eq_ld, harg3.read_unread, harg4.read_unread, View.ld_unit_zero (S := S2048x1024) hz2, View.ld_unit_zero (S := S1024x1024) hz2, k0_pay2, shapeCast_self]

theorem sout_B (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .f32) (xs0 : Vec Ideal S1024x1024 .f32) :
    sout0_B_0 c i arg3 harg3 arg4 harg4 arg5 harg5 arg6 harg6 hc0 hc1 hc2 x0 x1 xs0
      = addf xs0 (k0_pay1 (F := Ideal) x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x1024) hz2]
  simp only [View.readAt_eq_ld, harg3.read_unread, harg4.read_unread, harg6.read_unread, View.ld_unit_zero (S := S2048x1024) hz2, View.ld_unit_zero (S := S1024x1024) hz2, k0_pay3, shapeCast_self]

theorem out_last (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec Ideal S2048x1024 .bf16) (x1 : Vec Ideal S2048x1024 .f32) (xs0 : Vec Ideal S1024x1024 .f32) :
    out0_C_2 c i arg3 harg3 arg4 harg4 arg5 harg5 arg6 harg6 hc0 hc1 hc2 x0 x1 xs0
      = k0_pay4 (F := Ideal) x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x1024) hz2]
  simp only [View.readAt_eq_ld, harg3.read_unread, harg4.read_unread, harg6.read_unread, View.ld_unit_zero (S := S2048x1024) hz2, View.ld_unit_zero (S := S1024x1024) hz2, shapeCast_self]

end Cert.Wout

end
-- ==== Proof.Wout.Ref.lean ====
/-
  The reference's output projection's weight gradient at an index: the sum over the tokens.
-/
module

public import proofs.«01_k».proof.Proof.Gen.WoutReferenceIdeal.Read
public import proofs.«01_k».proof.Proof.Cover

@[expose] public section

set_option maxRecDepth 16384

noncomputable section

namespace Cert.Wout.Ref

open Cert.WoutReferenceIdeal Cert.WoutReferenceIdeal.Read Cert.Cover Idealize.ShloMosaic.ValueIdx
open Idealize.ShloMosaic
open scoped BigOperators

theorem ref_at (x0 : FVec Ideal S8192x1024 .bf16) (x1 : FVec Ideal S8192x1024 .f32) (i j : Fin 1024) :
    val_main_v5 (F := Ideal) x0 x1 (ix2 i j) = ∑ k : Fin 8192, x0 (ix2 k i) * x1 (ix2 k j) := by
  refine Eq.trans (b := val_main_v4 (F := Ideal) x0 x1 (ix2 i j)) rfl ?_
  rw [val_main_v4_apply, val_main_v3_apply]
  refine Finset.sum_congr rfl fun k _ => (mul_comm _ _).trans ?_
  exact congrArg₂ (· * ·) (congrArg x0 (e2 _ _ _ rfl rfl)) (congrArg x1 (e2 _ _ _ rfl rfl))

end Cert.Wout.Ref

end
-- ==== Proof.Wout.Final.lean ====
/-
  The output projection's weight gradient, as the reference's stage of the same arguments: each output block is a sum over the token
  blocks, carried from point to point in the scratch buffer.
-/
module

public import proofs.«01_k».proof.Proof.Wout.Block
public import proofs.«01_k».proof.Proof.Wout.Ref
public import Idealize.ShloMosaic.Lib.Pipeline.ValueKit
public import Idealize.ShloMosaic.Lib.StableHlo.Run

@[expose] public section

set_option maxRecDepth 16384

noncomputable section

namespace Cert.Wout

open Cert.WoutKernelIdeal Cert.WoutKernelIdeal.Gen Cert.Rows Cert.Cover Cert.Wgrad Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (c : Dev nD)

/-- The first argument. -/
def arg0 : FVec Ideal S8192x1024 .bf16 := m ((c : Thread nD τ).loc main_arg0)

/-- The second argument. -/
def arg1 : FVec Ideal S8192x1024 .f32 := m ((c : Thread nD τ).loc main_arg1)

theorem NN (t : Fin cfg0.N) : t.val < 4 := lt_of_lt_of_eq t.isLt N_0

/-- The point before a later point. -/
abbrev prev (t : Fin cfg0.N) : Fin cfg0.N := ⟨t.val - 1, Nat.lt_of_le_of_lt (Nat.sub_le _ _) t.isLt⟩

theorem pick_0 {α β : Type} {z : α × β} {a : α} {b : β} (h : z = (a, b)) : z.1 = a := by
  subst h
  rfl

theorem pick_1 {α β : Type} {z : α × β} {a : α} {b : β} (h : z = (a, b)) : z.2 = b := by
  subst h
  rfl

/-- What a point adds. -/
def part (t : Fin cfg0.N) : FVec Ideal S1024x1024 .f32 := k0_pay1 (F := Ideal) (iblk m c 0 t) (iblk m c 1 t)

theorem sum_A (t : Fin cfg0.N) (h0 : t.val % 4 = 0) (h1 : ¬(1 ≤ t.val % 4 ∧ t.val % 4 ≤ 2)) (h2 : ¬t.val % 4 = 3) :
    (outsAt0 m c t.val t.isLt).2 = part m c t :=
  (pick_1 (outsAt0_A m c t h0 h1 h2)).trans
    (sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk m c 0 t) (iblk m c 1 t))

theorem sum_B (t : Fin cfg0.N) (h0 : ¬t.val % 4 = 0) (h1 : (1 ≤ t.val % 4 ∧ t.val % 4 ≤ 2)) (h2 : ¬t.val % 4 = 3) :
    (outsAt0 m c t.val t.isLt).2 = addf (outsAt0 m c (prev t).val (prev t).isLt).2 (part m c t) :=
  (pick_1 (outsAt0_B m c t h0 h1 h2)).trans
    (sout_B c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2)

theorem out_C (t : Fin cfg0.N) (h0 : ¬t.val % 4 = 0) (h1 : ¬(1 ≤ t.val % 4 ∧ t.val % 4 ≤ 2)) (h2 : t.val % 4 = 3) :
    (outsAt0 m c t.val t.isLt).1 = k0_pay4 (F := Ideal) (iblk m c 0 t) (iblk m c 1 t) (outsAt0 m c (prev t).val (prev t).isLt).2 :=
  (pick_0 (outsAt0_C m c t h0 h1 h2)).trans
    (out_last c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).2)

/-- A point of the grid. -/
def pt (s : Fin 4) : Fin cfg0.N := ⟨s.val, lt_of_lt_of_eq s.isLt N_0.symm⟩

/-- The last point leaves the sum of what the points add. -/
theorem out_sum (y : S1024x1024.Idx) : (outsAt0 m c (pt 3).val (pt 3).isLt).1 y = ∑ s : Fin 4, part m c (pt s) y := by
  have a : (outsAt0 m c (pt 0).val (pt 0).isLt).2 = part m c (pt 0) := sum_A m c (pt 0) (by decide) (by decide) (by decide)
  have b : (outsAt0 m c (pt 1).val (pt 1).isLt).2 = addf (outsAt0 m c (pt 0).val (pt 0).isLt).2 (part m c (pt 1)) :=
    sum_B m c (pt 1) (by decide) (by decide) (by decide)
  have d : (outsAt0 m c (pt 2).val (pt 2).isLt).2 = addf (outsAt0 m c (pt 1).val (pt 1).isLt).2 (part m c (pt 2)) :=
    sum_B m c (pt 2) (by decide) (by decide) (by decide)
  have e : (outsAt0 m c (pt 3).val (pt 3).isLt).1
      = k0_pay4 (F := Ideal) (iblk m c 0 (pt 3)) (iblk m c 1 (pt 3)) (outsAt0 m c (pt 2).val (pt 2).isLt).2 :=
    out_C m c (pt 3) (by decide) (by decide) (by decide)
  rw [e, d, b, a, Fin.sum_univ_four]
  exact last_at _ _ _ y

/-- Row `r` of point `t`'s token block. -/
def tok (t : Fin cfg0.N) (r : Fin 2048) : Fin 8192 := ⟨2048 * t.val + r.val, by have := NN t; have := r.isLt; omega⟩

theorem index_0 : ∀ t : Fin cfg0.N, win0_0.index t = ![t.val, 0] :=
  (by decide +kernel : ∀ t : Fin grid0.N, win0_0.index t = ![t.val, 0])

theorem blk0_at (t : Fin cfg0.N) (r : Fin 2048) (d : Fin 1024) : (iblk m c 0 t : FVec Ideal S2048x1024 .bf16) (ix2 r d)
    = arg0 m c (ix2 (tok t r) d) := by
  unfold iblk
  rw [View.read_apply]
  show V m c main_arg0 _ = _
  rw [V_main_arg0]
  refine congrArg (arg0 m c) (e2 _ _ _ ?_ ?_)
  · refine (Pipeline.Window.rect_emb_val win0_0 t _ 0).trans ?_
    rw [index_0 t]
    show t.val * 2048 + r.val = 2048 * (t.val) + r.val
    omega
  · refine (Pipeline.Window.rect_emb_val win0_0 t _ 1).trans ?_
    rw [index_0 t]
    show 0 * 1024 + d.val = d.val
    omega

theorem index_1 : ∀ t : Fin cfg0.N, win0_1.index t = ![t.val, 0] :=
  (by decide +kernel : ∀ t : Fin grid0.N, win0_1.index t = ![t.val, 0])

theorem blk1_at (t : Fin cfg0.N) (r : Fin 2048) (d : Fin 1024) : (iblk m c 1 t : FVec Ideal S2048x1024 .f32) (ix2 r d)
    = arg1 m c (ix2 (tok t r) d) := by
  unfold iblk
  rw [View.read_apply]
  show V m c main_arg1 _ = _
  rw [V_main_arg1]
  refine congrArg (arg1 m c) (e2 _ _ _ ?_ ?_)
  · refine (Pipeline.Window.rect_emb_val win0_1 t _ 0).trans ?_
    rw [index_1 t]
    show t.val * 2048 + r.val = 2048 * (t.val) + r.val
    omega
  · refine (Pipeline.Window.rect_emb_val win0_1 t _ 1).trans ?_
    rw [index_1 t]
    show 0 * 1024 + d.val = d.val
    omega

/-- What a point adds, as a sum over its tokens. -/
theorem part_tok (t : Fin cfg0.N) (i j : Fin 1024) : part m c t (ix2 i j)
    = ∑ r : Fin 2048, arg0 m c (ix2 (tok t r) i) * arg1 m c (ix2 (tok t r) j) := by
  unfold part
  rw [part_at]
  exact Finset.sum_congr rfl fun r _ => congrArg₂ (fun a b : EReal => a * b) (blk0_at m c t r i) (blk1_at m c t r j)

theorem arr_2 : (dats m 0 c).arrAt 2 cfg0.N = Cert.WoutReferenceIdeal.Read.val_main_v5 (F := Ideal) (m ((c : Thread nD τ).loc main_arg0)) (m ((c : Thread nD τ).loc main_arg1)) := by
  refine (dats m 0 c).arrAt_eq_of_after_last 2 (pt 3) (by decide +kernel) _ fun j => ?_
  have hj : (j : (⟨2, ![1024, 1024]⟩ : Shape).Idx) = ix2 (j 0) (j 1) := eta2 j
  refine Eq.trans (b := (dats m 0 c).after 2 (pt 3) j) rfl ?_
  refine Eq.trans ?_ (b := Cert.WoutReferenceIdeal.Read.val_main_v5 (F := Ideal) (m ((c : Thread nD τ).loc main_arg0)) (m ((c : Thread nD τ).loc main_arg1)) j) rfl
  rw [after0_2, hj]
  refine (out_sum m c (ix2 (j 0) (j 1))).trans ?_
  refine Eq.trans ?_ (Ref.ref_at (arg0 m c) (arg1 m c) (j 0) (j 1)).symm
  rw [← Fin.sum_mul_add_fin 4 2048 (fun k : Fin 8192 => arg0 m c (ix2 k (j 0)) * arg1 m c (ix2 k (j 1))) rfl]
  refine Finset.sum_congr rfl fun s _ => (part_tok m c (pt s) (j 0) (j 1)).trans (Finset.sum_congr rfl fun r _ => ?_)
  have e : tok (pt s) r = ⟨s.val * 2048 + r.val, by have := s.isLt; have := r.isLt; omega⟩ :=
    Fin.ext (by show 2048 * s.val + r.val = s.val * 2048 + r.val; omega)
  rw [e]

end Cert.Wout

end
-- ==== Proof.Wout.Claims.lean ====
/-
  The claims about the output projection's weight gradient: the frames, and the kernel's results equal to the reference's.
-/
module

public import proofs.«01_k».proof.Proof.Wout.Final
public import proofs.«01_k».proof.Proof.Gen.WoutKernel
public import proofs.«01_k».proof.Proof.Gen.WoutKernel.Frame
public import proofs.«01_k».proof.Defs
public import Idealize.ShloMosaic.Adequacy
public import Idealize.ShloMosaic.Init

@[expose] public section

set_option maxRecDepth 16384

noncomputable section

namespace Cert.Wout

open Idealize.ShloMosaic Idealize.SL.Sem

theorem frame_bits : Cert.quiescent_WoutKernel := fun m ρ _ => Cert.WoutKernel.Gen.frame m ρ

theorem frame_ideal : Cert.quiescent_WoutKernelIdeal := fun m ρ _ => Cert.WoutKernelIdeal.Gen.frame m ρ

theorem frame_reference : Cert.quiescent_WoutReferenceIdeal := fun m ρ _ =>
  (θ_run Cert.WoutReferenceIdeal.defs _ _).mono (fun r h => ⟨fun c => (h c).2,
      Idealize.ShloMosaic.sem_eq_zero_of_no_sems (by decide) r.2⟩)
    (Cert.WoutReferenceIdeal.Value.run (F := Ideal) m ρ)

set_option maxHeartbeats 4000000 in
open Idealize.ShloMosaic.TcCoe Idealize.ShloMosaic.Pipeline Cert.WoutKernelIdeal Cert.WoutKernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0) = Cert.WoutReferenceIdeal.Read.val_main_v5 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨
    ((h c).1 2).trans (arr_2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

set_option maxHeartbeats 4000000 in
open Idealize.ShloMosaic.TcCoe Cert.WoutReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v5) = Read.val_main_v5 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => by
    obtain ⟨h0, ha⟩ := h c
    exact ⟨h0.trans (Read.val_main_v5_eq _ _), ha⟩)
    (Value.run (F := Ideal) m ρ)

set_option maxHeartbeats 4000000 in
theorem algebraic : Cert.algebraic_WoutKernelIdeal_WoutReferenceIdeal := by
  intro m ρ m' ρ' _ hagree
  refine ⟨_, kernel_run m ρ, ?_⟩
  refine (θ_run Cert.WoutReferenceIdeal.defs _ _).mono (fun r h c => ?_) (reference_run m' ρ')
  obtain ⟨e0, e1⟩ := hagree c
  have hc := h c
  rw [e0, e1] at hc
  rw [e0, e1]
  exact hc

end Cert.Wout

end
-- ==== Proof.Wff1.Block.lean ====
/-
  The first MLP matrix's weight gradient: what a grid point adds, read at an index, and what each point leaves in its buffers.
-/
module

public import proofs.«01_k».proof.Proof.Gen.Wff1KernelIdeal.Frame
public import proofs.«01_k».proof.Proof.Wgrad.Product
public import proofs.«01_k».proof.Proof.Cover

@[expose] public section

set_option maxRecDepth 16384

noncomputable section

namespace Cert.Wff1

open Cert.Wff1KernelIdeal Cert.Wff1KernelIdeal.Gen Cert.Rows Cert.Cover Cert.Wgrad Idealize.ShloMosaic Idealize.ShloMosaic.TcCoe
  Idealize.ShloMosaic.ValueIdx
open scoped BigOperators

theorem hdot : dot_S4096x1024_S4096x1024_S1024x1024_0_0_1_1_n_n = tl 4096 1024 1024 := rfl

/-- What a point adds, at a row and a column. -/
theorem part_at (a : FVec Ideal S4096x1024 .bf16) (b : FVec Ideal S4096x1024 .bf16) (i j : Fin 1024) :
    k0_pay1 (F := Ideal) a b (ix2 i j) = ∑ k : Fin 4096, a (ix2 k i) * b (ix2 k j) := by
  unfold k0_pay1
  rw [hdot]
  exact mmL_at none a b i j

/-- What the last point of a sum writes, at an index. -/
theorem last_at (a : FVec Ideal S4096x1024 .bf16) (b : FVec Ideal S4096x1024 .bf16) (acc : FVec Ideal S1024x1024 .f32) (y : S1x1024x1024.Idx) :
    k0_pay4 (F := Ideal) a b acc y = acc (ix2 (y 1) (y 2)) + k0_pay1 (F := Ideal) a b (ix2 (y 1) (y 2)) := by
  unfold k0_pay4
  refine (shapeCast_apply _ shapeCasts_S1024x1024_S1x1024x1024 y (ix2 (y 1) (y 2)) ?_).trans rfl
  rw [Shape.rowMajor_val_three, Shape.rowMajor_val_two]
  have h : (y 0).val < 1 := (y 0).isLt
  show (y 1).val * 1024 + (y 2).val = ((y 0).val * 1024 + (y 1).val) * 1024 + (y 2).val
  omega

theorem sout_A (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S4096x1024 .bf16) (x1 : Vec Ideal S4096x1024 .bf16) :
    sout0_A_0 c i arg3 harg3 arg4 harg4 arg5 harg5 arg6 harg6 hc0 hc1 hc2 x0 x1
      = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz2]
  simp only [View.readAt_eq_ld, harg3.read_unread, harg4.read_unread, View.ld_unit_zero (S := S4096x1024) hz2, View.ld_unit_zero (S := S1024x1024) hz2, k0_pay2, shapeCast_self]

theorem out_last (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec Ideal S4096x1024 .bf16) (x1 : Vec Ideal S4096x1024 .bf16) (xs0 : Vec Ideal S1024x1024 .f32) :
    out0_B_2 c i arg3 harg3 arg4 harg4 arg5 harg5 arg6 harg6 hc0 hc1 hc2 x0 x1 xs0
      = k0_pay4 (F := Ideal) x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero (S := S1x1024x1024) hz3]
  simp only [View.readAt_eq_ld, harg3.read_unread, harg4.read_unread, harg6.read_unread, View.ld_unit_zero (S := S4096x1024) hz2, View.ld_unit_zero (S := S1024x1024) hz2]

end Cert.Wff1

end
-- ==== Proof.Wff1.Ref.lean ====
/-
  The reference's first MLP matrix's weight gradient at an index: the sum over the tokens.
-/
module

public import proofs.«01_k».proof.Proof.Gen.Wff1ReferenceIdeal.Read
public import proofs.«01_k».proof.Proof.Cover

@[expose] public section

set_option maxRecDepth 16384

noncomputable section

namespace Cert.Wff1.Ref

open Cert.Wff1ReferenceIdeal Cert.Wff1ReferenceIdeal.Read Cert.Cover Idealize.ShloMosaic.ValueIdx
open Idealize.ShloMosaic
open scoped BigOperators

/-- Column `d` of column block `s`. -/
def col (s : Fin 4) (d : Fin 1024) : Fin 4096 := ⟨1024 * s.val + d.val, by have := s.isLt; have := d.isLt; omega⟩

theorem ref_at (x0 : FVec Ideal S8192x1024 .bf16) (x1 : FVec Ideal S8192x4096 .bf16) (s : Fin 4) (i j : Fin 1024) :
    val_main_v8 (F := Ideal) x0 x1 (ix3 s i j) = ∑ k : Fin 8192, x0 (ix2 k i) * x1 (ix2 k (col s j)) := by
  rw [val_main_v8_apply, val_main_v7_apply]
  have hi := i.isLt
  have hs := s.isLt
  have hj := j.isLt
  have e : idx_main_v7 (idx_main_v8 (ix3 s i j)) = ix2 i (col s j) := by
    refine e2 _ _ _ ?_ ?_
    · show ((i.val * 4 + s.val) * 1024 + j.val) / 4096 = i.val
      omega
    · show ((i.val * 4 + s.val) * 1024 + j.val) % 4096 = 1024 * s.val + j.val
      omega
  rw [e]
  refine Eq.trans (b := val_main_v5 (F := Ideal) x0 x1 (ix2 i (col s j))) rfl ?_
  rw [val_main_v5_apply, val_main_v4_apply]
  refine Finset.sum_congr rfl fun k _ => (mul_comm _ _).trans ?_
  exact congrArg₂ (· * ·) (congrArg x0 (e2 _ _ _ rfl rfl)) (congrArg x1 (e2 _ _ _ rfl rfl))

end Cert.Wff1.Ref

end
-- ==== Proof.Wff1.Final.lean ====
/-
  The first MLP matrix's weight gradient, as the reference's stage of the same arguments: each output block is a sum over the token
  blocks, carried from point to point in the scratch buffer.
-/
module

public import proofs.«01_k».proof.Proof.Wff1.Block
public import proofs.«01_k».proof.Proof.Wff1.Ref
public import Idealize.ShloMosaic.Lib.Pipeline.ValueKit
public import Idealize.ShloMosaic.Lib.StableHlo.Run

@[expose] public section

set_option maxRecDepth 16384

noncomputable section

namespace Cert.Wff1

open Cert.Wff1KernelIdeal Cert.Wff1KernelIdeal.Gen Cert.Rows Cert.Cover Cert.Wgrad Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (c : Dev nD)

/-- The first argument. -/
def arg0 : FVec Ideal S8192x1024 .bf16 := m ((c : Thread nD τ).loc main_arg0)

/-- The second argument. -/
def arg1 : FVec Ideal S8192x4096 .bf16 := m ((c : Thread nD τ).loc main_arg1)

theorem NN (t : Fin cfg0.N) : t.val < 8 := lt_of_lt_of_eq t.isLt N_0

/-- The point before a later point. -/
abbrev prev (t : Fin cfg0.N) : Fin cfg0.N := ⟨t.val - 1, Nat.lt_of_le_of_lt (Nat.sub_le _ _) t.isLt⟩

theorem pick_0 {α β : Type} {z : α × β} {a : α} {b : β} (h : z = (a, b)) : z.1 = a := by
  subst h
  rfl

theorem pick_1 {α β : Type} {z : α × β} {a : α} {b : β} (h : z = (a, b)) : z.2 = b := by
  subst h
  rfl

/-- What a point adds. -/
def part (t : Fin cfg0.N) : FVec Ideal S1024x1024 .f32 := k0_pay1 (F := Ideal) (iblk m c 0 t) (iblk m c 1 t)

theorem sum_A (t : Fin cfg0.N) (h0 : t.val % 2 = 0) (h2 : ¬t.val % 2 = 1) : (outsAt0 m c t.val t.isLt).2 = part m c t :=
  (pick_1 (outsAt0_A m c t h0 h2)).trans
    (sout_A c (grid0.coords t) (ms0_0 t) (hs0_0 t) (ms0_1 t) (hs0_1 t) (ms0_2 t) (hs0_2 t) scM0_0 (Memref.isWhole_whole _) ((hcond0_0 t).mpr h0) (hcond0_1 t) (fun h => h2 ((hcond0_2 t).mp h)) (iblk m c 0 t) (iblk m c 1 t))

theorem out_B (t : Fin cfg0.N) (h0 : ¬t.val % 2 = 0) (h2 : t.val % 2 = 1) :
    (outsAt0 m c t.val t.isLt).1 = k0_pay4 (F := Ideal) (iblk m c 0 t) (iblk m c 1 t) (outsAt0 m c (prev t).val (prev t).isLt).2 :=
  (pick_0 (outsAt0_B m c t h0 h2)).trans
    (out_last c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr h2) (iblk m c 0 t) (iblk m c 1 t) (outsAt0 m c (t.val - 1) (Nat.lt_of_le_of_lt (Nat.sub_le _ _) t.isLt)).2)

/-- The second point of a pair leaves the sum of what the two add. -/
theorem out_sum (t : Fin cfg0.N) (h : t.val % 2 = 1) (y : S1x1024x1024.Idx) : (outsAt0 m c t.val t.isLt).1 y
    = part m c (prev t) (ix2 (y 1) (y 2)) + part m c t (ix2 (y 1) (y 2)) := by
  have a : (outsAt0 m c (prev t).val (prev t).isLt).2 = part m c (prev t) :=
    sum_A m c (prev t) (by show (t.val - 1) % 2 = 0; omega) (by show ¬(t.val - 1) % 2 = 1; omega)
  rw [out_B m c t (by omega) h, a]
  exact last_at _ _ _ y

/-- Row `r` of point `t`'s token block. -/
def tok (t : Fin cfg0.N) (r : Fin 4096) : Fin 8192 := ⟨4096 * (t.val % 2) + r.val, by have := r.isLt; omega⟩

/-- Column `d` of point `t`'s column block. -/
def wide (t : Fin cfg0.N) (d : Fin 1024) : Fin 4096 := ⟨1024 * (t.val / 2) + d.val, by have := NN t; have := d.isLt; omega⟩

theorem index_0 : ∀ t : Fin cfg0.N, win0_0.index t = ![t.val % 2, 0] :=
  (by decide +kernel : ∀ t : Fin grid0.N, win0_0.index t = ![t.val % 2, 0])

theorem blk0_at (t : Fin cfg0.N) (r : Fin 4096) (d : Fin 1024) : (iblk m c 0 t : FVec Ideal S4096x1024 .bf16) (ix2 r d)
    = arg0 m c (ix2 (tok t r) d) := by
  unfold iblk
  rw [View.read_apply]
  show V m c main_arg0 _ = _
  rw [V_main_arg0]
  refine congrArg (arg0 m c) (e2 _ _ _ ?_ ?_)
  · refine (Pipeline.Window.rect_emb_val win0_0 t _ 0).trans ?_
    rw [index_0 t]
    show t.val % 2 * 4096 + r.val = 4096 * (t.val % 2) + r.val
    omega
  · refine (Pipeline.Window.rect_emb_val win0_0 t _ 1).trans ?_
    rw [index_0 t]
    show 0 * 1024 + d.val = d.val
    omega

theorem index_1 : ∀ t : Fin cfg0.N, win0_1.index t = ![t.val % 2, t.val / 2] :=
  (by decide +kernel : ∀ t : Fin grid0.N, win0_1.index t = ![t.val % 2, t.val / 2])

theorem blk1_at (t : Fin cfg0.N) (r : Fin 4096) (d : Fin 1024) : (iblk m c 1 t : FVec Ideal S4096x1024 .bf16) (ix2 r d)
    = arg1 m c (ix2 (tok t r) (wide t d)) := by
  unfold iblk
  rw [View.read_apply]
  show V m c main_arg1 _ = _
  rw [V_main_arg1]
  refine congrArg (arg1 m c) (e2 _ _ _ ?_ ?_)
  · refine (Pipeline.Window.rect_emb_val win0_1 t _ 0).trans ?_
    rw [index_1 t]
    show t.val % 2 * 4096 + r.val = 4096 * (t.val % 2) + r.val
    omega
  · refine (Pipeline.Window.rect_emb_val win0_1 t _ 1).trans ?_
    rw [index_1 t]
    show t.val / 2 * 1024 + d.val = 1024 * (t.val / 2) + d.val
    omega

/-- What a point adds, as a sum over its tokens. -/
theorem part_tok (t : Fin cfg0.N) (i j : Fin 1024) : part m c t (ix2 i j)
    = ∑ r : Fin 4096, arg0 m c (ix2 (tok t r) i) * arg1 m c (ix2 (tok t r) (wide t j)) := by
  unfold part
  rw [part_at]
  exact Finset.sum_congr rfl fun r _ => congrArg₂ (fun a b : EReal => a * b) (blk0_at m c t r i) (blk1_at m c t r j)

theorem index_2 : ∀ t : Fin cfg0.N, win0_2.index t = ![t.val / 2, 0, 0] :=
  (by decide +kernel : ∀ t : Fin grid0.N, win0_2.index t = ![t.val / 2, 0, 0])

theorem arr_2 : (dats m 0 c).arrAt 2 cfg0.N = Cert.Wff1ReferenceIdeal.Read.val_main_v8 (F := Ideal) (m ((c : Thread nD τ).loc main_arg0)) (m ((c : Thread nD τ).loc main_arg1)) := by
  refine (dats m 0 c).arrAt_eq_of_covers 2 _ (by decide +kernel) fun t ht y => ?_
  have h : t.val % 2 = 1 := (flush0_2 t).mp ht
  have hz : ((cfg0.win 2).blk t).view.emb y = ix3 (⟨t.val / 2, by have := NN t; omega⟩ : Fin 4) (y 1) (y 2) := by
    funext k
    apply Fin.ext
    match k with
    | ⟨0, _⟩ =>
      refine (Pipeline.Window.rect_emb_val win0_2 t y 0).trans ?_
      rw [index_2 t]
      have h0 : (y 0).val < 1 := (y 0).isLt
      show t.val / 2 * 1 + (y 0).val = t.val / 2
      omega
    | ⟨1, _⟩ =>
      refine (Pipeline.Window.rect_emb_val win0_2 t y 1).trans ?_
      rw [index_2 t]
      show 0 * 1024 + (y 1).val = (y 1).val
      omega
    | ⟨2, _⟩ =>
      refine (Pipeline.Window.rect_emb_val win0_2 t y 2).trans ?_
      rw [index_2 t]
      show 0 * 1024 + (y 2).val = (y 2).val
      omega
  rw [hz]
  refine Eq.trans (b := (dats m 0 c).after 2 t y) rfl ?_
  rw [after0_2]
  refine (out_sum m c t h y).trans ?_
  refine Eq.trans ?_ (Ref.ref_at (arg0 m c) (arg1 m c) (⟨t.val / 2, by have := NN t; omega⟩ : Fin 4) (y 1) (y 2)).symm
  refine Eq.trans ?_ (b := ∑ k : Fin 8192, arg0 m c (ix2 k (y 1)) * arg1 m c (ix2 k (wide t (y 2)))) rfl
  rw [← Fin.sum_mul_add_fin 2 4096 (fun k : Fin 8192 => arg0 m c (ix2 k (y 1)) * arg1 m c (ix2 k (wide t (y 2)))) rfl, Fin.sum_univ_two]
  have hy : (ix2 (y 1) (y 2) : S1024x1024.Idx) = ix2 (y 1) (y 2) := rfl
  refine congrArg₂ (· + ·) ?_ ?_
  · refine (congrArg (part m c (prev t)) hy).trans ((part_tok m c (prev t) (y 1) (y 2)).trans (Finset.sum_congr rfl fun r _ => ?_))
    have e : tok (prev t) r = ⟨(0 : Fin 2).val * 4096 + r.val, by have := r.isLt; show 0 * 4096 + r.val < 8192; omega⟩ :=
      Fin.ext (by show 4096 * ((t.val - 1) % 2) + r.val = 0 * 4096 + r.val; omega)
    have ew : wide (prev t) (y 2) = wide t (y 2) :=
      Fin.ext (by show 1024 * ((t.val - 1) / 2) + _ = 1024 * (t.val / 2) + _; congr 2; omega)
    rw [e, ew]
  · refine (congrArg (part m c t) hy).trans ((part_tok m c t (y 1) (y 2)).trans (Finset.sum_congr rfl fun r _ => ?_))
    have e : tok t r = ⟨(1 : Fin 2).val * 4096 + r.val, by have := r.isLt; show 1 * 4096 + r.val < 8192; omega⟩ :=
      Fin.ext (by show 4096 * (t.val % 2) + r.val = 1 * 4096 + r.val; omega)
    rw [e]

end Cert.Wff1

end
-- ==== Proof.Wff1.Claims.lean ====
/-
  The claims about the first MLP matrix's weight gradient: the frames, and the kernel's results equal to the reference's.
-/
module

public import proofs.«01_k».proof.Proof.Wff1.Final
public import proofs.«01_k».proof.Proof.Gen.Wff1Kernel
public import proofs.«01_k».proof.Proof.Gen.Wff1Kernel.Frame
public import proofs.«01_k».proof.Defs
public import Idealize.ShloMosaic.Adequacy
public import Idealize.ShloMosaic.Init

@[expose] public section

set_option maxRecDepth 16384

noncomputable section

namespace Cert.Wff1

open Idealize.ShloMosaic Idealize.SL.Sem

theorem frame_bits : Cert.quiescent_Wff1Kernel := fun m ρ _ => Cert.Wff1Kernel.Gen.frame m ρ

theorem frame_ideal : Cert.quiescent_Wff1KernelIdeal := fun m ρ _ => Cert.Wff1KernelIdeal.Gen.frame m ρ

theorem frame_reference : Cert.quiescent_Wff1ReferenceIdeal := fun m ρ _ =>
  (θ_run Cert.Wff1ReferenceIdeal.defs _ _).mono (fun r h => ⟨fun c => (h c).2,
      Idealize.ShloMosaic.sem_eq_zero_of_no_sems (by decide) r.2⟩)
    (Cert.Wff1ReferenceIdeal.Value.run (F := Ideal) m ρ)

set_option maxHeartbeats 4000000 in
open Idealize.ShloMosaic.TcCoe Idealize.ShloMosaic.Pipeline Cert.Wff1KernelIdeal Cert.Wff1KernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0) = Cert.Wff1ReferenceIdeal.Read.val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨
    ((h c).1 2).trans (arr_2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

set_option maxHeartbeats 4000000 in
open Idealize.ShloMosaic.TcCoe Cert.Wff1ReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v8) = Read.val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => by
    obtain ⟨h0, ha⟩ := h c
    exact ⟨h0.trans (Read.val_main_v8_eq _ _), ha⟩)
    (Value.run (F := Ideal) m ρ)

set_option maxHeartbeats 4000000 in
theorem algebraic : Cert.algebraic_Wff1KernelIdeal_Wff1ReferenceIdeal := by
  intro m ρ m' ρ' _ hagree
  refine ⟨_, kernel_run m ρ, ?_⟩
  refine (θ_run Cert.Wff1ReferenceIdeal.defs _ _).mono (fun r h c => ?_) (reference_run m' ρ')
  obtain ⟨e0, e1⟩ := hagree c
  have hc := h c
  rw [e0, e1] at hc
  rw [e0, e1]
  exact hc

end Cert.Wff1

end
-- ==== Proof.Wff2.Block.lean ====
/-
  The second MLP matrix's weight gradient: what a grid point adds, read at an index, and what each point leaves in its buffers.
-/
module

public import proofs.«01_k».proof.Proof.Gen.Wff2KernelIdeal.Frame
public import proofs.«01_k».proof.Proof.Wgrad.Product
public import proofs.«01_k».proof.Proof.Cover

@[expose] public section

set_option maxRecDepth 16384

noncomputable section

namespace Cert.Wff2

open Cert.Wff2KernelIdeal Cert.Wff2KernelIdeal.Gen Cert.Rows Cert.Cover Cert.Wgrad Idealize.ShloMosaic Idealize.ShloMosaic.TcCoe
  Idealize.ShloMosaic.ValueIdx
open scoped BigOperators

theorem hdot : dot_S4096x1024_S4096x1024_S1024x1024_0_0_1_1_n_n = tl 4096 1024 1024 := rfl

/-- What a point adds, at a row and a column. -/
theorem part_at (a : FVec Ideal S4096x1024 .bf16) (b : FVec Ideal S4096x1024 .bf16) (i j : Fin 1024) :
    k0_pay1 (F := Ideal) a b (ix2 i j) = ∑ k : Fin 4096, a (ix2 k i) * b (ix2 k j) := by
  unfold k0_pay1
  rw [hdot]
  exact mmL_at none a b i j

/-- What the last point of a sum writes, at an index. -/
theorem last_at (a : FVec Ideal S4096x1024 .bf16) (b : FVec Ideal S4096x1024 .bf16) (acc : FVec Ideal S1024x1024 .f32) (y : S1024x1024.Idx) :
    k0_pay4 (F := Ideal) a b acc y = acc y + k0_pay1 (F := Ideal) a b y := rfl

theorem sout_A (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S4096x1024 .bf16) (x1 : Vec Ideal S4096x1024 .bf16) :
    sout0_A_0 c i arg3 harg3 arg4 harg4 arg5 harg5 arg6 harg6 hc0 hc1 hc2 x0 x1
      = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz2]
  simp only [View.readAt_eq_ld, harg3.read_unread, harg4.read_unread, View.ld_unit_zero (S := S4096x1024) hz2, View.ld_unit_zero (S := S1024x1024) hz2, k0_pay2, shapeCast_self]

theorem out_last (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec Ideal S4096x1024 .bf16) (x1 : Vec Ideal S4096x1024 .bf16) (xs0 : Vec Ideal S1024x1024 .f32) :
    out0_B_2 c i arg3 harg3 arg4 harg4 arg5 harg5 arg6 harg6 hc0 hc1 hc2 x0 x1 xs0
      = k0_pay4 (F := Ideal) x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero (S := S1024x1024) hz2]
  simp only [View.readAt_eq_ld, harg3.read_unread, harg4.read_unread, harg6.read_unread, View.ld_unit_zero (S := S4096x1024) hz2, View.ld_unit_zero (S := S1024x1024) hz2, shapeCast_self]

end Cert.Wff2

end
-- ==== Proof.Wff2.Ref.lean ====
/-
  The reference's second MLP matrix's weight gradient at an index: the sum over the tokens.
-/
module

public import proofs.«01_k».proof.Proof.Gen.Wff2ReferenceIdeal.Read
public import proofs.«01_k».proof.Proof.Cover

@[expose] public section

set_option maxRecDepth 16384

noncomputable section

namespace Cert.Wff2.Ref

open Cert.Wff2ReferenceIdeal Cert.Wff2ReferenceIdeal.Read Cert.Cover Idealize.ShloMosaic.ValueIdx
open Idealize.ShloMosaic
open scoped BigOperators

theorem ref_at (x0 : FVec Ideal S8192x4096 .bf16) (x1 : FVec Ideal S8192x1024 .bf16) (i : Fin 4096) (j : Fin 1024) :
    val_main_v6 (F := Ideal) x0 x1 (ix2 i j) = ∑ k : Fin 8192, x0 (ix2 k i) * x1 (ix2 k j) := by
  refine Eq.trans (b := val_main_v5 (F := Ideal) x0 x1 (ix2 i j)) rfl ?_
  rw [val_main_v5_apply, val_main_v4_apply]
  refine Finset.sum_congr rfl fun k _ => (mul_comm _ _).trans ?_
  exact congrArg₂ (· * ·) (congrArg x0 (e2 _ _ _ rfl rfl)) (congrArg x1 (e2 _ _ _ rfl rfl))

end Cert.Wff2.Ref

end
-- ==== Proof.Wff2.Final.lean ====
/-
  The second MLP matrix's weight gradient, as the reference's stage of the same arguments: each output block is a sum over the token
  blocks, carried from point to point in the scratch buffer.
-/
module

public import proofs.«01_k».proof.Proof.Wff2.Block
public import proofs.«01_k».proof.Proof.Wff2.Ref
public import Idealize.ShloMosaic.Lib.Pipeline.ValueKit
public import Idealize.ShloMosaic.Lib.StableHlo.Run

@[expose] public section

set_option maxRecDepth 16384

noncomputable section

namespace Cert.Wff2

open Cert.Wff2KernelIdeal Cert.Wff2KernelIdeal.Gen Cert.Rows Cert.Cover Cert.Wgrad Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (c : Dev nD)

/-- The first argument. -/
def arg0 : FVec Ideal S8192x4096 .bf16 := m ((c : Thread nD τ).loc main_arg0)

/-- The second argument. -/
def arg1 : FVec Ideal S8192x1024 .bf16 := m ((c : Thread nD τ).loc main_arg1)

theorem NN (t : Fin cfg0.N) : t.val < 8 := lt_of_lt_of_eq t.isLt N_0

/-- The point before a later point. -/
abbrev prev (t : Fin cfg0.N) : Fin cfg0.N := ⟨t.val - 1, Nat.lt_of_le_of_lt (Nat.sub_le _ _) t.isLt⟩

theorem pick_0 {α β : Type} {z : α × β} {a : α} {b : β} (h : z = (a, b)) : z.1 = a := by
  subst h
  rfl

theorem pick_1 {α β : Type} {z : α × β} {a : α} {b : β} (h : z = (a, b)) : z.2 = b := by
  subst h
  rfl

/-- What a point adds. -/
def part (t : Fin cfg0.N) : FVec Ideal S1024x1024 .f32 := k0_pay1 (F := Ideal) (iblk m c 0 t) (iblk m c 1 t)

theorem sum_A (t : Fin cfg0.N) (h0 : t.val % 2 = 0) (h2 : ¬t.val % 2 = 1) : (outsAt0 m c t.val t.isLt).2 = part m c t :=
  (pick_1 (outsAt0_A m c t h0 h2)).trans
    (sout_A c (grid0.coords t) (ms0_0 t) (hs0_0 t) (ms0_1 t) (hs0_1 t) (ms0_2 t) (hs0_2 t) scM0_0 (Memref.isWhole_whole _) ((hcond0_0 t).mpr h0) (hcond0_1 t) (fun h => h2 ((hcond0_2 t).mp h)) (iblk m c 0 t) (iblk m c 1 t))

theorem out_B (t : Fin cfg0.N) (h0 : ¬t.val % 2 = 0) (h2 : t.val % 2 = 1) :
    (outsAt0 m c t.val t.isLt).1 = k0_pay4 (F := Ideal) (iblk m c 0 t) (iblk m c 1 t) (outsAt0 m c (prev t).val (prev t).isLt).2 :=
  (pick_0 (outsAt0_B m c t h0 h2)).trans
    (out_last c (grid0.coords t) (ms0_0 t) (hs0_0 t) (ms0_1 t) (hs0_1 t) (ms0_2 t) (hs0_2 t) scM0_0 (Memref.isWhole_whole _) (fun h => h0 ((hcond0_0 t).mp h)) (hcond0_1 t) ((hcond0_2 t).mpr h2) (iblk m c 0 t) (iblk m c 1 t) (outsAt0 m c (t.val - 1) (Nat.lt_of_le_of_lt (Nat.sub_le _ _) t.isLt)).2)

/-- The second point of a pair leaves the sum of what the two add. -/
theorem out_sum (t : Fin cfg0.N) (h : t.val % 2 = 1) (y : S1024x1024.Idx) : (outsAt0 m c t.val t.isLt).1 y
    = part m c (prev t) y + part m c t y := by
  have a : (outsAt0 m c (prev t).val (prev t).isLt).2 = part m c (prev t) :=
    sum_A m c (prev t) (by show (t.val - 1) % 2 = 0; omega) (by show ¬(t.val - 1) % 2 = 1; omega)
  rw [out_B m c t (by omega) h, a]
  exact last_at _ _ _ y

/-- Row `r` of point `t`'s token block. -/
def tok (t : Fin cfg0.N) (r : Fin 4096) : Fin 8192 := ⟨4096 * (t.val % 2) + r.val, by have := r.isLt; omega⟩

/-- Column `d` of point `t`'s column block. -/
def wide (t : Fin cfg0.N) (d : Fin 1024) : Fin 4096 := ⟨1024 * (t.val / 2) + d.val, by have := NN t; have := d.isLt; omega⟩

theorem index_0 : ∀ t : Fin cfg0.N, win0_0.index t = ![t.val % 2, t.val / 2] :=
  (by decide +kernel : ∀ t : Fin grid0.N, win0_0.index t = ![t.val % 2, t.val / 2])

theorem blk0_at (t : Fin cfg0.N) (r : Fin 4096) (d : Fin 1024) : (iblk m c 0 t : FVec Ideal S4096x1024 .bf16) (ix2 r d)
    = arg0 m c (ix2 (tok t r) (wide t d)) := by
  unfold iblk
  rw [View.read_apply]
  show V m c main_arg0 _ = _
  rw [V_main_arg0]
  refine congrArg (arg0 m c) (e2 _ _ _ ?_ ?_)
  · refine (Pipeline.Window.rect_emb_val win0_0 t _ 0).trans ?_
    rw [index_0 t]
    show t.val % 2 * 4096 + r.val = 4096 * (t.val % 2) + r.val
    omega
  · refine (Pipeline.Window.rect_emb_val win0_0 t _ 1).trans ?_
    rw [index_0 t]
    show t.val / 2 * 1024 + d.val = 1024 * (t.val / 2) + d.val
    omega

theorem index_1 : ∀ t : Fin cfg0.N, win0_1.index t = ![t.val % 2, 0] :=
  (by decide +kernel : ∀ t : Fin grid0.N, win0_1.index t = ![t.val % 2, 0])

theorem blk1_at (t : Fin cfg0.N) (r : Fin 4096) (d : Fin 1024) : (iblk m c 1 t : FVec Ideal S4096x1024 .bf16) (ix2 r d)
    = arg1 m c (ix2 (tok t r) d) := by
  unfold iblk
  rw [View.read_apply]
  show V m c main_arg1 _ = _
  rw [V_main_arg1]
  refine congrArg (arg1 m c) (e2 _ _ _ ?_ ?_)
  · refine (Pipeline.Window.rect_emb_val win0_1 t _ 0).trans ?_
    rw [index_1 t]
    show t.val % 2 * 4096 + r.val = 4096 * (t.val % 2) + r.val
    omega
  · refine (Pipeline.Window.rect_emb_val win0_1 t _ 1).trans ?_
    rw [index_1 t]
    show 0 * 1024 + d.val = d.val
    omega

/-- What a point adds, as a sum over its tokens. -/
theorem part_tok (t : Fin cfg0.N) (i j : Fin 1024) : part m c t (ix2 i j)
    = ∑ r : Fin 4096, arg0 m c (ix2 (tok t r) (wide t i)) * arg1 m c (ix2 (tok t r) j) := by
  unfold part
  rw [part_at]
  exact Finset.sum_congr rfl fun r _ => congrArg₂ (fun a b : EReal => a * b) (blk0_at m c t r i) (blk1_at m c t r j)

theorem index_2 : ∀ t : Fin cfg0.N, win0_2.index t = ![t.val / 2, 0] :=
  (by decide +kernel : ∀ t : Fin grid0.N, win0_2.index t = ![t.val / 2, 0])

theorem arr_2 : (dats m 0 c).arrAt 2 cfg0.N = Cert.Wff2ReferenceIdeal.Read.val_main_v6 (F := Ideal) (m ((c : Thread nD τ).loc main_arg0)) (m ((c : Thread nD τ).loc main_arg1)) := by
  refine (dats m 0 c).arrAt_eq_of_covers 2 _ (by decide +kernel) fun t ht y => ?_
  have h : t.val % 2 = 1 := (flush0_2 t).mp ht
  have hz : ((cfg0.win 2).blk t).view.emb y = ix2 (wide t (y 0)) (y 1) := by
    refine e2 _ _ _ ((Pipeline.Window.rect_emb_val win0_2 t y 0).trans ?_) ((Pipeline.Window.rect_emb_val win0_2 t y 1).trans ?_)
    · rw [index_2 t]
      show t.val / 2 * 1024 + (y 0).val = 1024 * (t.val / 2) + (y 0).val
      omega
    · rw [index_2 t]
      show 0 * 1024 + (y 1).val = (y 1).val
      omega
  rw [hz]
  refine Eq.trans (b := (dats m 0 c).after 2 t y) rfl ?_
  rw [after0_2]
  refine (out_sum m c t h y).trans ?_
  refine Eq.trans ?_ (Ref.ref_at (arg0 m c) (arg1 m c) (wide t (y 0)) (y 1)).symm
  refine Eq.trans ?_ (b := ∑ k : Fin 8192, arg0 m c (ix2 k (wide t (y 0))) * arg1 m c (ix2 k (y 1))) rfl
  rw [← Fin.sum_mul_add_fin 2 4096 (fun k : Fin 8192 => arg0 m c (ix2 k (wide t (y 0))) * arg1 m c (ix2 k (y 1))) rfl, Fin.sum_univ_two]
  have hy : (y : S1024x1024.Idx) = ix2 (y 0) (y 1) := eta2 y
  refine congrArg₂ (· + ·) ?_ ?_
  · refine (congrArg (part m c (prev t)) hy).trans ((part_tok m c (prev t) (y 0) (y 1)).trans (Finset.sum_congr rfl fun r _ => ?_))
    have e : tok (prev t) r = ⟨(0 : Fin 2).val * 4096 + r.val, by have := r.isLt; show 0 * 4096 + r.val < 8192; omega⟩ :=
      Fin.ext (by show 4096 * ((t.val - 1) % 2) + r.val = 0 * 4096 + r.val; omega)
    have ew : wide (prev t) (y 0) = wide t (y 0) :=
      Fin.ext (by show 1024 * ((t.val - 1) / 2) + _ = 1024 * (t.val / 2) + _; congr 2; omega)
    rw [e, ew]
  · refine (congrArg (part m c t) hy).trans ((part_tok m c t (y 0) (y 1)).trans (Finset.sum_congr rfl fun r _ => ?_))
    have e : tok t r = ⟨(1 : Fin 2).val * 4096 + r.val, by have := r.isLt; show 1 * 4096 + r.val < 8192; omega⟩ :=
      Fin.ext (by show 4096 * (t.val % 2) + r.val = 1 * 4096 + r.val; omega)
    rw [e]

end Cert.Wff2

end
-- ==== Proof.Wff2.Claims.lean ====
/-
  The claims about the second MLP matrix's weight gradient: the frames, and the kernel's results equal to the reference's.
-/
module

public import proofs.«01_k».proof.Proof.Wff2.Final
public import proofs.«01_k».proof.Proof.Gen.Wff2Kernel
public import proofs.«01_k».proof.Proof.Gen.Wff2Kernel.Frame
public import proofs.«01_k».proof.Defs
public import Idealize.ShloMosaic.Adequacy
public import Idealize.ShloMosaic.Init

@[expose] public section

set_option maxRecDepth 16384

noncomputable section

namespace Cert.Wff2

open Idealize.ShloMosaic Idealize.SL.Sem

theorem frame_bits : Cert.quiescent_Wff2Kernel := fun m ρ _ => Cert.Wff2Kernel.Gen.frame m ρ

theorem frame_ideal : Cert.quiescent_Wff2KernelIdeal := fun m ρ _ => Cert.Wff2KernelIdeal.Gen.frame m ρ

theorem frame_reference : Cert.quiescent_Wff2ReferenceIdeal := fun m ρ _ =>
  (θ_run Cert.Wff2ReferenceIdeal.defs _ _).mono (fun r h => ⟨fun c => (h c).2,
      Idealize.ShloMosaic.sem_eq_zero_of_no_sems (by decide) r.2⟩)
    (Cert.Wff2ReferenceIdeal.Value.run (F := Ideal) m ρ)

set_option maxHeartbeats 4000000 in
open Idealize.ShloMosaic.TcCoe Idealize.ShloMosaic.Pipeline Cert.Wff2KernelIdeal Cert.Wff2KernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0) = Cert.Wff2ReferenceIdeal.Read.val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨
    ((h c).1 2).trans (arr_2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

set_option maxHeartbeats 4000000 in
open Idealize.ShloMosaic.TcCoe Cert.Wff2ReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v6) = Read.val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => by
    obtain ⟨h0, ha⟩ := h c
    exact ⟨h0.trans (Read.val_main_v6_eq _ _), ha⟩)
    (Value.run (F := Ideal) m ρ)

set_option maxHeartbeats 4000000 in
theorem algebraic : Cert.algebraic_Wff2KernelIdeal_Wff2ReferenceIdeal := by
  intro m ρ m' ρ' _ hagree
  refine ⟨_, kernel_run m ρ, ?_⟩
  refine (θ_run Cert.Wff2ReferenceIdeal.defs _ _).mono (fun r h c => ?_) (reference_run m' ρ')
  obtain ⟨e0, e1⟩ := hagree c
  have hc := h c
  rw [e0, e1] at hc
  rw [e0, e1]
  exact hc

end Cert.Wff2

end
-- ==== Proof.In.Block.lean ====
/-
  The input projection's forward call: the values of a block of 512 tokens read at an index, and what each grid point
  leaves in its buffers.
-/
module

public import proofs.«01_k».proof.Proof.Gen.InKernelIdeal.Frame
public import proofs.«01_k».proof.Proof.Post.Rows
public import proofs.«01_k».proof.Proof.Dx.Model
public import proofs.«01_k».proof.Proof.Cover

@[expose] public section

set_option maxRecDepth 16384

noncomputable section

namespace Cert.In

open Cert.InKernelIdeal Cert.InKernelIdeal.Gen Cert.Rows Cert.Cover Cert.Post Idealize.ShloMosaic Idealize.ShloMosaic.TcCoe
  Idealize.ShloMosaic.ValueIdx
open scoped BigOperators

/-- A row normalised and scaled by a gain. -/
def normed (x g : Fin 1024 → EReal) (d : Fin 1024) : EReal := x d * rstd x * g d

section Values

variable (x : FVec Ideal S512x1024 .f32) (g : FVec Ideal S1x1024 .f32) (w : FVec Ideal S1024x3200 .bf16)

theorem hdot : dot_S512x1024_S1024x3200_S512x3200_1_0_0_1_n_n = DotDims.plain 512 1024 3200 := rfl

/-- The normed rows at an index. -/
theorem nx_at (r : Fin 512) (d : Fin 1024) : k0_pay1 (F := Ideal) x g (ix2 r d) = normed (row x r) (row g 0) d := by
  unfold k0_pay1
  rw [truncf_at, mulf_at, mulf_at, bcol_at, brow_at, rsqrt_at, addf_at, divf_at]
  erw [rowsum_at]
  rw [splat_at, splat_at]
  rfl

/-- The projection at an index. -/
theorem proj_at (r : Fin 512) (l : Fin 3200) :
    k0_pay2 (F := Ideal) x g w (ix2 r l) = ∑ k, normed (row x r) (row g 0) k * w (ix2 k l) := by
  unfold k0_pay2
  rw [hdot, mm_at]
  exact Finset.sum_congr rfl fun k _ => congrArg (· * w (ix2 k l)) (nx_at x g r k)

end Values

theorem out_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x3200 .f32) (harg4 : arg4.IsWhole) (arg5 : Memref sig .tc .vmem S512x1024 .bf16) (harg5 : arg5.IsWhole) (arg6 : Memref sig .tc .vmem S1024x3200 .bf16) (harg6 : arg6.IsWhole) (hc0 : cond0_0 i)
    (x0 : Vec Ideal S512x1024 .f32) (x1 : Vec Ideal S1x1024 .f32) (fh0 : HbBuf0 (F := Ideal) c hbM0_0) :
    out0_A_2 c i arg1 harg1 arg2 harg2 arg4 harg4 arg5 harg5 arg6 harg6 hc0 x0 x1 fh0
      = k0_pay2 (F := Ideal) x0 x1 fh0 := by
  unfold out0_A_2
  rw [View.read_writes_eq_canon _ _ _ (cover0_A_2 c i arg1 harg1 arg2 harg2 arg4 harg4 arg5 harg5 arg6 harg6 hc0 x0 x1 fh0)]
  unfold kernelRun0_A
  dsimp only
  sl_unfold_words
  rw [View.canon_unit_zero (S := S512x3200) hz2]
  simp only [readCov_whole, View.readAt_eq_ld, harg1.read_unread, harg2.read_unread, View.ld_unit_zero (S := S512x1024) hz2, View.ld_unit_zero (S := S1x1024) hz2, View.ld_unit_zero (S := S1024x3200) hz2]
  rfl

theorem out_A_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x3200 .f32) (harg4 : arg4.IsWhole) (arg5 : Memref sig .tc .vmem S512x1024 .bf16) (harg5 : arg5.IsWhole) (arg6 : Memref sig .tc .vmem S1024x3200 .bf16) (harg6 : arg6.IsWhole) (hc0 : cond0_0 i)
    (x0 : Vec Ideal S512x1024 .f32) (x1 : Vec Ideal S1x1024 .f32) (fh0 : HbBuf0 (F := Ideal) c hbM0_0) :
    out0_A_3 c i arg1 harg1 arg2 harg2 arg4 harg4 arg5 harg5 arg6 harg6 hc0 x0 x1 fh0
      = k0_pay1 (F := Ideal) x0 x1 := by
  unfold out0_A_3
  rw [View.read_writes_eq_canon _ _ _ (cover0_A_3 c i arg1 harg1 arg2 harg2 arg4 harg4 arg5 harg5 arg6 harg6 hc0 x0 x1 fh0)]
  unfold kernelRun0_A
  dsimp only
  sl_unfold_words
  rw [View.canon_unit_zero (S := S512x1024) hz2]
  simp only [View.readAt_eq_ld, harg1.read_unread, harg2.read_unread, View.ld_unit_zero (S := S512x1024) hz2, View.ld_unit_zero (S := S1x1024) hz2, View.ld_unit_zero (S := S1024x3200) hz2]

theorem out_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x3200 .f32) (harg4 : arg4.IsWhole) (arg5 : Memref sig .tc .vmem S512x1024 .bf16) (harg5 : arg5.IsWhole) (arg6 : Memref sig .tc .vmem S1024x3200 .bf16) (harg6 : arg6.IsWhole) (hc0 : ¬cond0_0 i)
    (x0 : Vec Ideal S512x1024 .f32) (x1 : Vec Ideal S1x1024 .f32) (xs0 : Vec Ideal S1024x3200 .bf16) (fh0 : HbBuf0 (F := Ideal) c hbM0_0) :
    out0_B_2 c i arg1 harg1 arg2 harg2 arg4 harg4 arg5 harg5 arg6 harg6 hc0 x0 x1 xs0 fh0
      = k0_pay2 (F := Ideal) x0 x1 xs0 := by
  unfold out0_B_2
  rw [View.read_writes_eq_canon _ _ _ (cover0_B_2 c i arg1 harg1 arg2 harg2 arg4 harg4 arg5 harg5 arg6 harg6 hc0 x0 x1 xs0 fh0)]
  unfold kernelRun0_B
  dsimp only
  sl_unfold_words
  rw [View.canon_unit_zero (S := S512x3200) hz2]
  simp only [View.readAt_eq_ld, harg1.read_unread, harg2.read_unread, harg6.read_unread, View.ld_unit_zero (S := S512x1024) hz2, View.ld_unit_zero (S := S1x1024) hz2, View.ld_unit_zero (S := S1024x3200) hz2]

theorem out_B_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x3200 .f32) (harg4 : arg4.IsWhole) (arg5 : Memref sig .tc .vmem S512x1024 .bf16) (harg5 : arg5.IsWhole) (arg6 : Memref sig .tc .vmem S1024x3200 .bf16) (harg6 : arg6.IsWhole) (hc0 : ¬cond0_0 i)
    (x0 : Vec Ideal S512x1024 .f32) (x1 : Vec Ideal S1x1024 .f32) (xs0 : Vec Ideal S1024x3200 .bf16) (fh0 : HbBuf0 (F := Ideal) c hbM0_0) :
    out0_B_3 c i arg1 harg1 arg2 harg2 arg4 harg4 arg5 harg5 arg6 harg6 hc0 x0 x1 xs0 fh0
      = k0_pay1 (F := Ideal) x0 x1 := by
  unfold out0_B_3
  rw [View.read_writes_eq_canon _ _ _ (cover0_B_3 c i arg1 harg1 arg2 harg2 arg4 harg4 arg5 harg5 arg6 harg6 hc0 x0 x1 xs0 fh0)]
  unfold kernelRun0_B
  dsimp only
  sl_unfold_words
  rw [View.canon_unit_zero (S := S512x1024) hz2]
  simp only [View.readAt_eq_ld, harg1.read_unread, harg2.read_unread, harg6.read_unread, View.ld_unit_zero (S := S512x1024) hz2, View.ld_unit_zero (S := S1x1024) hz2, View.ld_unit_zero (S := S1024x3200) hz2]

theorem sout_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x3200 .f32) (harg4 : arg4.IsWhole) (arg5 : Memref sig .tc .vmem S512x1024 .bf16) (harg5 : arg5.IsWhole) (arg6 : Memref sig .tc .vmem S1024x3200 .bf16) (harg6 : arg6.IsWhole) (hc0 : cond0_0 i)
    (x0 : Vec Ideal S512x1024 .f32) (x1 : Vec Ideal S1x1024 .f32) (fh0 : HbBuf0 (F := Ideal) c hbM0_0) :
    sout0_A_0 c i arg1 harg1 arg2 harg2 arg4 harg4 arg5 harg5 arg6 harg6 hc0 x0 x1 fh0
      = fh0 := by
  unfold sout0_A_0
  rw [View.read_writes_eq_canon _ _ _ (scover0_A_0 c i arg1 harg1 arg2 harg2 arg4 harg4 arg5 harg5 arg6 harg6 hc0 x0 x1 fh0)]
  unfold kernelRun0_A
  dsimp only
  sl_unfold_words
  exact canon_whole _

end Cert.In

end
-- ==== Proof.In.Ref.lean ====
/-
  The reference of the input projection's forward call, one token at a time.
-/
module

public import proofs.«01_k».proof.Proof.Gen.InReferenceIdeal.Read
public import proofs.«01_k».proof.Proof.In.Block

@[expose] public section

set_option maxRecDepth 16384

noncomputable section

namespace Cert.In.Ref

open Cert.InReferenceIdeal Cert.InReferenceIdeal.Gen Cert.InReferenceIdeal.Read Cert.Rows Cert.Cover Cert.Post Cert.In
  Idealize.ShloMosaic Idealize.ShloMosaic.ValueIdx
open scoped BigOperators

variable (x0 : FVec Ideal S8192x1024 .f32) (x1 : FVec Ideal S1x1024 .f32) (x2 : FVec Ideal S1024x3088 .f32) (t : Fin 8192)

theorem nx_at (d : Fin 1024) : val_main_v11 (F := Ideal) x0 x1 (ix2 t d) = normed (row x0 t) (row x1 0) d := by
  rw [val_main_v11_apply, val_main_v9_apply, val_main_v10_apply, val_main_v8_apply, val_main_v7_apply, val_main_v6_apply,
    val_main_v4_apply, val_main_v2_apply, val_main_v1_apply, val_main_v3_apply, val_main_v5_apply, val_main_cst_apply,
    val_main_cst_0_apply, val_main_cst_1_apply]
  have e : ∀ k, val_main_v0 (F := Ideal) x0 (idx_main_v1 (idx_main_v2 (idx_main_v8 (ix2 t d))) k) = row x0 t k * row x0 t k := fun k => by
    rw [val_main_v0_apply, e2 (idx_main_v1 (idx_main_v2 (idx_main_v8 (ix2 t d))) k) t k rfl rfl]
    rfl
  rw [Finset.sum_congr rfl fun k _ => e k, e2 (idx_main_v10 (ix2 t d)) 0 d rfl rfl]
  show (x0 (ix2 t d) * Ideal.rsqrt (Ideal.div (Ideal.ofBits .f32 0x00000000#32 + ∑ k, row x0 t k * row x0 t k) cN + cEps)) * x1 (ix2 0 d) = _
  rw [Ideal.ofBits_zero_f32, zero_add]
  rfl

theorem normed_at (d : Fin 1024) : val_main_v17 (F := Ideal) x0 x1 (ix2 t d) = normed (row x0 t) (row x1 0) d := by
  rw [val_main_v17_apply]
  exact nx_at x0 x1 t d

/-- The product at a token and a column of the weights. -/
theorem dot_at (l : Fin 3088) :
    val_main_v12 (F := Ideal) x0 x1 x2 (ix2 t l) = ∑ k, normed (row x0 t) (row x1 0) k * x2 (ix2 k l) := by
  rw [val_main_v12_apply]
  refine Finset.sum_congr rfl fun k _ => ?_
  rw [e2 (lidx_main_v12 (ix2 t l) k) t k rfl rfl, e2 (ridx_main_v12 (ix2 t l) k) k l rfl rfl, nx_at]

/-- The projection with its empty columns is the product with the weights that have zeros there. -/
theorem proj_at (l : Fin 3200) : val_main_v16 (F := Ideal) x0 x1 x2 (ix2 t l)
    = ∑ k, normed (row x0 t) (row x1 0) k * Cert.Dx.pad (row x2 k) l := by
  have hl := l.isLt
  unfold val_main_v16 Cert.Dx.pad
  by_cases h0 : l.val < 1552
  · refine (concatenate_apply_piece 1 _ _ (ix2 t l) 0 (by show 0 < 3; omega) S8192x1552 (val_main_v14 (F := Ideal) x0 x1 x2) rfl rfl 0 rfl (ix2 t ⟨l.val, h0⟩)
      (fun b hb => ?_) ?_).trans ?_
    · match b with
      | ⟨0, _⟩ => rfl
      | ⟨1, _⟩ => exact absurd rfl hb
    · exact Nat.zero_add _
    · rw [val_main_v14_apply, e2 (idx_main_v14 (ix2 t ⟨l.val, h0⟩)) t ⟨l.val, by omega⟩ rfl rfl, dot_at]
      exact Finset.sum_congr rfl fun k _ => by rw [dif_pos h0]
  by_cases h1 : l.val < 1664
  · refine (concatenate_apply_piece 1 _ _ (ix2 t l) 1 (by show 1 < 3; omega) S8192x112 (val_main_v13 (F := Ideal)) rfl rfl 1552 rfl (ix2 t ⟨l.val - 1552, by omega⟩)
      (fun b hb => ?_) ?_).trans ?_
    · match b with
      | ⟨0, _⟩ => rfl
      | ⟨1, _⟩ => exact absurd rfl hb
    · show 1552 + (l.val - 1552) = l.val
      omega
    · rw [val_main_v13_apply, val_main_cst_2_apply]
      refine Eq.trans (b := (0 : EReal)) Ideal.ofBits_zero_f32 (Finset.sum_eq_zero fun k _ => ?_).symm
      rw [dif_neg h0, dif_pos h1, mul_zero]
  · refine (concatenate_apply_piece 1 _ _ (ix2 t l) 2 (by show 2 < 3; omega) S8192x1536 (val_main_v15 (F := Ideal) x0 x1 x2) rfl rfl 1664 rfl (ix2 t ⟨l.val - 1664, by omega⟩)
      (fun b hb => ?_) ?_).trans ?_
    · match b with
      | ⟨0, _⟩ => rfl
      | ⟨1, _⟩ => exact absurd rfl hb
    · show 1664 + (l.val - 1664) = l.val
      omega
    · rw [val_main_v15_apply, e2 (idx_main_v15 (ix2 t ⟨l.val - 1664, by omega⟩)) t ⟨l.val - 112, by omega⟩ rfl
        (by show 1552 + (l.val - 1664) = l.val - 112; omega), dot_at]
      exact Finset.sum_congr rfl fun k _ => by rw [dif_neg h0, dif_neg h1]

end Cert.In.Ref

end
-- ==== Proof.In.Final.lean ====
/-
  What the input projection's forward call leaves in each result array, as the reference's stage of the same arguments:
  row `r` of point `t`'s blocks is token `512 t + r`, and the scratch buffer holds the weights with the padding columns.
-/
module

public import proofs.«01_k».proof.Proof.In.Block
public import proofs.«01_k».proof.Proof.In.Ref
public import Idealize.ShloMosaic.Lib.Pipeline.ValueKit
public import Idealize.ShloMosaic.Lib.StableHlo.Run

@[expose] public section

set_option maxRecDepth 16384

noncomputable section

namespace Cert.In

open Cert.InKernelIdeal Cert.InKernelIdeal.Gen Cert.Rows Cert.Cover Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (c : Dev nD)

theorem N16 (t : Fin cfg0.N) : t.val < 16 := lt_of_lt_of_eq t.isLt N_0

/-- Row `r` of point `t`. -/
def at512 (t : Fin cfg0.N) (r : Fin 512) : Fin 8192 := ⟨512 * t.val + r.val, by have := N16 t; have := r.isLt; omega⟩

theorem v4_eq : (V m c main_v4 : FVec Ideal S1024x3200 .bf16) = concatenate S1024x3200 1
    [⟨S1024x1552, (extractStridedSlice S1024x1552 ![0, 0] (truncf (F := Ideal) .bf16 (m ((c : Thread nD τ).loc main_arg2) : FVec Ideal S1024x3088 .f32) bitsLt_bf16_f32) slices_S1024x3088_S1024x1552_0_0 : FVec Ideal S1024x1552 .bf16)⟩,
      ⟨S1024x112, (broadcastInDim S1024x112 ![] bcast_S_S1024x112 (constant S_ .bf16 0x0000#16 : FVec Ideal S_ .bf16) : FVec Ideal S1024x112 .bf16)⟩,
      ⟨S1024x1536, (extractStridedSlice S1024x1536 ![0, 1552] (truncf (F := Ideal) .bf16 (m ((c : Thread nD τ).loc main_arg2) : FVec Ideal S1024x3088 .f32) bitsLt_bf16_f32) slices_S1024x3088_S1024x1536_0_1552 : FVec Ideal S1024x1536 .bf16)⟩]
    concatenates_S1024x1552_S1024x112_S1024x1536_S1024x3200_d1 := by
  unfold V
  after_results
  rfl

/-- A row of the padded weights. -/
theorem pad_at (d : Fin 1024) (l : Fin 3200) : (V m c main_v4 : FVec Ideal S1024x3200 .bf16) (ix2 d l)
    = Cert.Dx.pad (row (m ((c : Thread nD τ).loc main_arg2) : FVec Ideal S1024x3088 .f32) d) l := by
  rw [v4_eq]
  have hl := l.isLt
  unfold Cert.Dx.pad
  by_cases h0 : l.val < 1552
  · rw [dif_pos h0]
    refine (concatenate_apply_piece 1 _ _ (ix2 d l) 0 (by show 0 < 3; omega) S1024x1552 _ rfl rfl 0 rfl (ix2 d ⟨l.val, h0⟩)
      (fun b hb => ?_) ?_).trans ?_
    · match b with
      | ⟨0, _⟩ => rfl
      | ⟨1, _⟩ => exact absurd rfl hb
    · exact Nat.zero_add _
    · refine (extractStridedSlice_apply _ _ _ (ix2 d ⟨l.val, h0⟩) (ix2 d ⟨l.val, by omega⟩ : S1024x3088.Idx) (fun b => ?_)).trans rfl
      match b with
      | ⟨0, _⟩ => show d.val = 0 + d.val; omega
      | ⟨1, _⟩ => show l.val = 0 + l.val; omega
  rw [dif_neg h0]
  by_cases h1 : l.val < 1664
  · rw [dif_pos h1]
    refine (concatenate_apply_piece 1 _ _ (ix2 d l) 1 (by show 1 < 3; omega) S1024x112 _ rfl rfl 1552 rfl (ix2 d ⟨l.val - 1552, by omega⟩)
      (fun b hb => ?_) ?_).trans ?_
    · match b with
      | ⟨0, _⟩ => rfl
      | ⟨1, _⟩ => exact absurd rfl hb
    · show 1552 + (l.val - 1552) = l.val
      omega
    · exact Ideal.ofBits_zero_bf16
  rw [dif_neg h1]
  refine (concatenate_apply_piece 1 _ _ (ix2 d l) 2 (by show 2 < 3; omega) S1024x1536 _ rfl rfl 1664 rfl (ix2 d ⟨l.val - 1664, by omega⟩)
    (fun b hb => ?_) ?_).trans ?_
  · match b with
    | ⟨0, _⟩ => rfl
    | ⟨1, _⟩ => exact absurd rfl hb
  · show 1664 + (l.val - 1664) = l.val
    omega
  · refine (extractStridedSlice_apply _ _ _ (ix2 d ⟨l.val - 1664, by omega⟩) (ix2 d ⟨l.val - 112, by omega⟩ : S1024x3088.Idx) (fun b => ?_)).trans rfl
    match b with
    | ⟨0, _⟩ => show d.val = 0 + d.val; omega
    | ⟨1, _⟩ => show l.val - 112 = 1552 + (l.val - 1664); omega

theorem index_0 : ∀ t : Fin cfg0.N, win0_0.index t = ![t.val, 0] :=
  (by decide +kernel : ∀ t : Fin grid0.N, win0_0.index t = ![t.val, 0])

theorem blk0_at (t : Fin cfg0.N) (r : Fin 512) (d : Fin 1024) : (iblk m c 0 t : FVec Ideal S512x1024 .f32) (ix2 r d)
    = (m ((c : Thread nD τ).loc main_arg0) : FVec Ideal S8192x1024 .f32) (ix2 (at512 t r) d) := by
  unfold iblk
  rw [View.read_apply]
  show V m c main_arg0 _ = _
  rw [V_main_arg0]
  refine congrArg _ (e2 _ _ _ ?_ ?_)
  · refine (Pipeline.Window.rect_emb_val win0_0 t _ 0).trans ?_
    rw [index_0 t]
    show t.val * 512 + r.val = 512 * t.val + r.val
    omega
  · refine (Pipeline.Window.rect_emb_val win0_0 t _ 1).trans ?_
    rw [index_0 t]
    show 0 * 1024 + d.val = d.val
    omega

theorem index_1 : ∀ t : Fin cfg0.N, win0_1.index t = ![0, 0] :=
  (by decide +kernel : ∀ t : Fin grid0.N, win0_1.index t = ![0, 0])

theorem blk1_at (t : Fin cfg0.N) (d : Fin 1024) : (iblk m c 1 t : FVec Ideal S1x1024 .f32) (ix2 0 d)
    = (m ((c : Thread nD τ).loc main_arg1) : FVec Ideal S1x1024 .f32) (ix2 0 d) := by
  unfold iblk
  rw [View.read_apply]
  show V m c main_arg1 _ = _
  rw [V_main_arg1]
  refine congrArg _ (e2 _ _ _ ?_ ?_)
  · refine (Pipeline.Window.rect_emb_val win0_1 t _ 0).trans ?_
    rw [index_1 t]
    show 0 * 1 + 0 = 0
    omega
  · refine (Pipeline.Window.rect_emb_val win0_1 t _ 1).trans ?_
    rw [index_1 t]
    show 0 * 1024 + d.val = d.val
    omega

/-- The point before a later point. -/
abbrev prev (t : Fin cfg0.N) : Fin cfg0.N := ⟨t.val - 1, Nat.lt_of_le_of_lt (Nat.sub_le _ _) t.isLt⟩

theorem pick_0 {α0 α1 α2 : Type} {z : α0 × α1 × α2} {a0 : α0} {a1 : α1} {a2 : α2} (h : z = (a0, a1, a2)) :
    z.1 = a0 := by
  subst h
  rfl

theorem pick_1 {α0 α1 α2 : Type} {z : α0 × α1 × α2} {a0 : α0} {a1 : α1} {a2 : α2} (h : z = (a0, a1, a2)) :
    z.2.1 = a1 := by
  subst h
  rfl

theorem pick_2 {α0 α1 α2 : Type} {z : α0 × α1 × α2} {a0 : α0} {a1 : α1} {a2 : α2} (h : z = (a0, a1, a2)) :
    z.2.2 = a2 := by
  subst h
  rfl

theorem scratchA (t : Fin cfg0.N) (h0 : t.val % 16 = 0) : (outsAt0 m c t.val t.isLt).2.2 = V m c main_v4 :=
  (pick_2 (outsAt0_A m c t h0)).trans
    (sout_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (V m c main_v4))

theorem scratchB (t : Fin cfg0.N) (h0 : ¬t.val % 16 = 0) :
    (outsAt0 m c t.val t.isLt).2.2 = (outsAt0 m c (prev t).val (prev t).isLt).2.2 :=
  pick_2 (outsAt0_B m c t h0)

theorem scratch : ∀ (n : ℕ) (h : n < cfg0.N), (outsAt0 m c n h).2.2 = V m c main_v4
  | 0, h => scratchA m c ⟨0, h⟩ rfl
  | n + 1, h => by
    by_cases h0 : (⟨n + 1, h⟩ : Fin cfg0.N).val % 16 = 0
    · exact scratchA m c ⟨n + 1, h⟩ h0
    · exact (scratchB m c ⟨n + 1, h⟩ h0).trans (scratch n _)

theorem outs_2 (t : Fin cfg0.N) : (outsAt0 m c t.val t.isLt).1 = k0_pay2 (F := Ideal) (iblk m c 0 t) (iblk m c 1 t) (V m c main_v4) := by
  by_cases h0 : t.val % 16 = 0
  · exact (pick_0 (outsAt0_A m c t h0)).trans
      (out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (V m c main_v4))
  · refine (pick_0 (outsAt0_B m c t h0)).trans
      ((out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2 (V m c main_v4)).trans ?_)
    exact congrArg (fun w => k0_pay2 (F := Ideal) (iblk m c 0 t) (iblk m c 1 t) w) (scratch m c _ _)

theorem outs_3 (t : Fin cfg0.N) : (outsAt0 m c t.val t.isLt).2.1 = k0_pay1 (F := Ideal) (iblk m c 0 t) (iblk m c 1 t) := by
  by_cases h0 : t.val % 16 = 0
  · exact (pick_1 (outsAt0_A m c t h0)).trans
      (out_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (V m c main_v4))
  · exact (pick_1 (outsAt0_B m c t h0)).trans
      (out_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2 (V m c main_v4))

theorem normed_eq (t : Fin cfg0.N) (r : Fin 512) :
    normed (row (iblk m c 0 t : FVec Ideal S512x1024 .f32) r) (row (iblk m c 1 t : FVec Ideal S1x1024 .f32) 0)
      = normed (row (m ((c : Thread nD τ).loc main_arg0) : FVec Ideal S8192x1024 .f32) (at512 t r))
        (row (m ((c : Thread nD τ).loc main_arg1) : FVec Ideal S1x1024 .f32) 0) :=
  congrArg₂ normed (funext fun d => blk0_at m c t r d) (funext fun d => blk1_at m c t d)

theorem index_2 : ∀ t : Fin cfg0.N, win0_2.index t = ![t.val, 0] :=
  (by decide +kernel : ∀ t : Fin grid0.N, win0_2.index t = ![t.val, 0])

theorem arr_2 : (dats m 0 c).arrAt 2 cfg0.N = Cert.InReferenceIdeal.Read.val_main_v16 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  have hz : ((cfg0.win 2).blk t).view.emb y = ix2 (at512 t (y 0)) (y 1) := by
    refine e2 _ _ _ ((Pipeline.Window.rect_emb_val win0_2 t y 0).trans ?_) ((Pipeline.Window.rect_emb_val win0_2 t y 1).trans ?_)
    · rw [index_2 t]
      show t.val * 512 + (y 0).val = 512 * t.val + (y 0).val
      omega
    · rw [index_2 t]
      show 0 * 3200 + (y 1).val = (y 1).val
      omega
  rw [hz]
  refine Eq.trans (b := (dats m 0 c).after 2 t y) rfl ?_
  rw [after0_2, outs_2]
  refine (congrArg _ (eta2 y)).trans ((proj_at _ _ _ (y 0) (y 1)).trans ?_)
  refine Eq.trans ?_ (Ref.proj_at (m ((c : Thread nD τ).loc main_arg0)) (m ((c : Thread nD τ).loc main_arg1)) (m ((c : Thread nD τ).loc main_arg2)) (at512 t (y 0)) (y 1)).symm
  exact Finset.sum_congr rfl fun k _ => congrArg₂ (fun a b : EReal => a * b) (congrFun (normed_eq m c t (y 0)) k) (pad_at m c k (y 1))

theorem index_3 : ∀ t : Fin cfg0.N, win0_3.index t = ![t.val, 0] :=
  (by decide +kernel : ∀ t : Fin grid0.N, win0_3.index t = ![t.val, 0])

theorem arr_3 : (dats m 0 c).arrAt 3 cfg0.N = Cert.InReferenceIdeal.Read.val_main_v17 (F := Ideal) (m ((c : Thread nD τ).loc main_arg0)) (m ((c : Thread nD τ).loc main_arg1)) := by
  refine (dats m 0 c).arrAt_eq_of_covers 3 _ (by decide +kernel) fun t _ y => ?_
  have hz : ((cfg0.win 3).blk t).view.emb y = ix2 (at512 t (y 0)) (y 1) := by
    refine e2 _ _ _ ((Pipeline.Window.rect_emb_val win0_3 t y 0).trans ?_) ((Pipeline.Window.rect_emb_val win0_3 t y 1).trans ?_)
    · rw [index_3 t]
      show t.val * 512 + (y 0).val = 512 * t.val + (y 0).val
      omega
    · rw [index_3 t]
      show 0 * 1024 + (y 1).val = (y 1).val
      omega
  rw [hz]
  refine Eq.trans (b := (dats m 0 c).after 3 t y) rfl ?_
  rw [after0_3, outs_3]
  refine (congrArg _ (eta2 y)).trans ((nx_at _ _ (y 0) (y 1)).trans ?_)
  refine Eq.trans ?_ (Ref.normed_at (m ((c : Thread nD τ).loc main_arg0)) (m ((c : Thread nD τ).loc main_arg1)) (at512 t (y 0)) (y 1)).symm
  exact congrFun (normed_eq m c t (y 0)) (y 1)

end Cert.In

end
-- ==== Proof.In.Claims.lean ====
/-
  The claims about the input projection's forward call: the frames, and the kernel's results equal to the reference's.
-/
module

public import proofs.«01_k».proof.Proof.In.Final
public import proofs.«01_k».proof.Proof.Gen.InKernel
public import proofs.«01_k».proof.Proof.Gen.InKernel.Frame
public import proofs.«01_k».proof.Defs
public import Idealize.ShloMosaic.Adequacy
public import Idealize.ShloMosaic.Init

@[expose] public section

set_option maxRecDepth 16384

noncomputable section

namespace Cert.In

open Idealize.ShloMosaic Idealize.SL.Sem

theorem frame_bits : Cert.quiescent_InKernel := fun m ρ _ => Cert.InKernel.Gen.frame m ρ

theorem frame_ideal : Cert.quiescent_InKernelIdeal := fun m ρ _ => Cert.InKernelIdeal.Gen.frame m ρ

theorem frame_reference : Cert.quiescent_InReferenceIdeal := fun m ρ _ =>
  (θ_run Cert.InReferenceIdeal.defs _ _).mono (fun r h => ⟨fun c => (h c).2.2,
      Idealize.ShloMosaic.sem_eq_zero_of_no_sems (by decide) r.2⟩)
    (Cert.InReferenceIdeal.Value.run (F := Ideal) m ρ)

set_option maxHeartbeats 4000000 in
open Idealize.ShloMosaic.TcCoe Idealize.ShloMosaic.Pipeline Cert.InKernelIdeal Cert.InKernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v5_0) = Cert.InReferenceIdeal.Read.val_main_v16 (F := Ideal) (m ((c : Thread nD τ).loc main_arg0)) (m ((c : Thread nD τ).loc main_arg1)) (m ((c : Thread nD τ).loc main_arg2))
      ∧ r.2.mem ((c : Thread nD τ).loc main_v5_1) = Cert.InReferenceIdeal.Read.val_main_v17 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨
    ((h c).1 2).trans (arr_2 m c),
    ((h c).1 3).trans (arr_3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩)
    (run_main m ρ)

set_option maxHeartbeats 4000000 in
open Idealize.ShloMosaic.TcCoe Cert.InReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v16) = Read.val_main_v16 (F := Ideal) (m ((c : Thread nD τ).loc main_arg0)) (m ((c : Thread nD τ).loc main_arg1)) (m ((c : Thread nD τ).loc main_arg2))
      ∧ r.2.mem ((c : Thread nD τ).loc main_v17) = Read.val_main_v17 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => by
    obtain ⟨h0, h1, ha⟩ := h c
    exact ⟨h0.trans (Read.val_main_v16_eq _ _ _),
      h1.trans (Read.val_main_v17_eq _ _), ha⟩)
    (Value.run (F := Ideal) m ρ)

set_option maxHeartbeats 4000000 in
theorem algebraic : Cert.algebraic_InKernelIdeal_InReferenceIdeal := by
  intro m ρ m' ρ' _ hagree
  refine ⟨_, _, kernel_run m ρ, ?_⟩
  refine (θ_run Cert.InReferenceIdeal.defs _ _).mono (fun r h c => ?_) (reference_run m' ρ')
  obtain ⟨e0, e1, e2⟩ := hagree c
  have hc := h c
  rw [e0, e1, e2] at hc
  rw [e0, e1, e2]
  exact hc

end Cert.In

end
-- ==== Proof.Win.Block.lean ====
/-
  The input projection's weight gradient: what a grid point adds, read at an index, and what each point leaves in its buffers.
-/
module

public import proofs.«01_k».proof.Proof.Gen.WinKernelIdeal.Frame
public import proofs.«01_k».proof.Proof.Wgrad.Product
public import proofs.«01_k».proof.Proof.Cover
public import Idealize.ShloMosaic.Lib.Pipeline.ReadBack

@[expose] public section

set_option maxRecDepth 16384

noncomputable section

namespace Cert.Win

open Cert.WinKernelIdeal Cert.WinKernelIdeal.Gen Cert.Rows Cert.Cover Cert.Wgrad Idealize.ShloMosaic Idealize.ShloMosaic.TcCoe
  Idealize.ShloMosaic.ValueIdx
open scoped BigOperators

theorem hdotw : dot_S1024x1024_S1024x1664_S1024x1664_0_0_1_1_n_n = tl 1024 1024 1664 := rfl

theorem hdotn : dot_S1024x1024_S1024x512_S1024x512_0_0_1_1_n_n = tl 1024 1024 512 := rfl

/-- The four pieces of the projection's gradient side by side. -/
def cols {n : ℕ} (a : FVec Ideal ⟨2, ![n, 1664]⟩ .bf16) (q k v : FVec Ideal ⟨2, ![n, 512]⟩ .bf16) (r : Fin n) (l : Fin 3200) : EReal :=
  if h0 : l.val < 1664 then a (ix2 r ⟨l.val, h0⟩)
  else if h1 : l.val < 2176 then q (ix2 r ⟨l.val - 1664, by omega⟩)
  else if h2 : l.val < 2688 then k (ix2 r ⟨l.val - 2176, by omega⟩)
  else v (ix2 r ⟨l.val - 2688, by have := l.isLt; omega⟩)

/-- What a point adds at a row and a column. -/
def part (x : FVec Ideal S1024x1024 .bf16) (a : FVec Ideal S1024x1664 .bf16) (q k v : FVec Ideal S1024x512 .bf16)
    (i : Fin 1024) (l : Fin 3200) : EReal := ∑ r : Fin 1024, x (ix2 r i) * cols a q k v r l

theorem zero_at (y : S1024x3200.Idx) : k0_pay3 (F := Ideal) y = 0 := by
  unfold k0_pay3
  simp only [shapeCast_self]
  exact Ideal.ofBits_zero_f32

theorem pay4_at (x : FVec Ideal S1024x1024 .bf16) (w : FVec Ideal S1024x1664 .f32) (a : FVec Ideal S1024x1664 .bf16) (i : Fin 1024) (j : Fin 1664) :
    k0_pay4 (F := Ideal) x w a (ix2 i j) = w (ix2 i j) + ∑ r : Fin 1024, x (ix2 r i) * a (ix2 r j) := by
  unfold k0_pay4
  simp only [shapeCast_self]
  rw [addf_at, hdotw]
  exact congrArg (w (ix2 i j) + ·) (mmL_at none x a i j)

theorem pay5_at (x : FVec Ideal S1024x1024 .bf16) (w : FVec Ideal S1024x512 .f32) (a : FVec Ideal S1024x512 .bf16) (i : Fin 1024) (j : Fin 512) :
    k0_pay5 (F := Ideal) x w a (ix2 i j) = w (ix2 i j) + ∑ r : Fin 1024, x (ix2 r i) * a (ix2 r j) := by
  unfold k0_pay5
  simp only [shapeCast_self]
  rw [addf_at, hdotn]
  exact congrArg (w (ix2 i j) + ·) (mmL_at none x a i j)

theorem pay6_at (x : FVec Ideal S1024x1024 .bf16) (w : FVec Ideal S1024x512 .f32) (a : FVec Ideal S1024x512 .bf16) (i : Fin 1024) (j : Fin 512) :
    k0_pay6 (F := Ideal) x w a (ix2 i j) = w (ix2 i j) + ∑ r : Fin 1024, x (ix2 r i) * a (ix2 r j) := by
  unfold k0_pay6
  simp only [shapeCast_self]
  rw [addf_at, hdotn]
  exact congrArg (w (ix2 i j) + ·) (mmL_at none x a i j)

theorem pay1_at (x : FVec Ideal S1024x1024 .bf16) (w : FVec Ideal S1024x512 .f32) (a : FVec Ideal S1024x512 .bf16) (i : Fin 1024) (j : Fin 512) :
    k0_pay1 (F := Ideal) x w a (ix2 i j) = w (ix2 i j) + ∑ r : Fin 1024, x (ix2 r i) * a (ix2 r j) := by
  unfold k0_pay1
  simp only [shapeCast_self]
  rw [addf_at, hdotn]
  exact congrArg (w (ix2 i j) + ·) (mmL_at none x a i j)

/-- What a point leaves of a sum. -/
def added (W : FVec Ideal S1024x3200 .f32) (x : FVec Ideal S1024x1024 .bf16) (a : FVec Ideal S1024x1664 .bf16) (q k v : FVec Ideal S1024x512 .bf16) :
    FVec Ideal S1024x3200 .f32 := fun z => W z + part x a q k v (z 0) (z 1)

/-- The four pieces that a point stores into the sum. -/
def pieces (W : Vec Ideal S1024x3200 .f32) (x : Vec Ideal S1024x1024 .bf16) (a : Vec Ideal S1024x1664 .bf16) (q k v : Vec Ideal S1024x512 .bf16) : List (View.Piece (Elt Ideal) S1024x3200 .f32) :=
    [⟨Rect.unit ![0, 2688] ![1024, 512] inb_S1024x3200_S1024x512_0_2688, k0_pay1 (F := Ideal) x (View.ld W (Rect.unit ![0, 2688] ![1024, 512] inb_S1024x3200_S1024x512_0_2688)) v⟩,
      ⟨Rect.unit ![0, 2176] ![1024, 512] inb_S1024x3200_S1024x512_0_2176, k0_pay6 (F := Ideal) x (View.ld W (Rect.unit ![0, 2176] ![1024, 512] inb_S1024x3200_S1024x512_0_2176)) k⟩,
      ⟨Rect.unit ![0, 1664] ![1024, 512] inb_S1024x3200_S1024x512_0_1664, k0_pay5 (F := Ideal) x (View.ld W (Rect.unit ![0, 1664] ![1024, 512] inb_S1024x3200_S1024x512_0_1664)) q⟩,
      ⟨Rect.unit ![0, 0] ![1024, 1664] inb_S1024x3200_S1024x1664_0_0, k0_pay4 (F := Ideal) x (View.ld W (Rect.unit ![0, 0] ![1024, 1664] inb_S1024x3200_S1024x1664_0_0)) a⟩]

theorem cols_1 {n : ℕ} (a : FVec Ideal ⟨2, ![n, 1664]⟩ .bf16) (q k v : FVec Ideal ⟨2, ![n, 512]⟩ .bf16) (r : Fin n) (j : Fin 512) (l : Fin 3200)
    (h : l.val = 2688 + j.val) : cols a q k v r l = v (ix2 r j) := by
  have := j.isLt
  unfold cols
  rw [dif_neg (by omega), dif_neg (by omega), dif_neg (by omega)]
  exact congrArg (fun z => v (ix2 r z)) (Fin.ext (by show l.val - 2688 = j.val; omega))

theorem piece_1 (W : Vec Ideal S1024x3200 .f32) (x : Vec Ideal S1024x1024 .bf16) (a : Vec Ideal S1024x1664 .bf16) (q k v : Vec Ideal S1024x512 .bf16) (y : (⟨2, ![1024, 512]⟩ : Shape).Idx) :
    k0_pay1 (F := Ideal) x (View.ld W (Rect.unit ![0, 2688] ![1024, 512] inb_S1024x3200_S1024x512_0_2688)) v y
      = added W x a q k v ((Rect.unit ![0, 2688] ![1024, 512] inb_S1024x3200_S1024x512_0_2688 : Rect S1024x3200).emb y) := by
  obtain ⟨i, j, rfl⟩ : ∃ (i : Fin 1024) (j : Fin 512), y = ix2 i j := ⟨y 0, y 1, eta2 y⟩
  refine (pay1_at x _ v i j).trans ?_
  unfold added
  refine congrArg₂ (fun s t : EReal => s + t) rfl ?_
  unfold part
  refine Finset.sum_congr rfl fun r _ => ?_
  refine congrArg₂ (fun s t : EReal => s * t) (congrArg (fun i => x (ix2 r i)) ?_) (cols_1 a q k v r j _ ?_).symm
  · exact Fin.ext (by show i.val = 0 + 1 * i.val; omega)
  · show 2688 + 1 * j.val = 2688 + j.val
    omega

theorem cols_6 {n : ℕ} (a : FVec Ideal ⟨2, ![n, 1664]⟩ .bf16) (q k v : FVec Ideal ⟨2, ![n, 512]⟩ .bf16) (r : Fin n) (j : Fin 512) (l : Fin 3200)
    (h : l.val = 2176 + j.val) : cols a q k v r l = k (ix2 r j) := by
  have := j.isLt
  unfold cols
  rw [dif_neg (by omega), dif_neg (by omega), dif_pos (by omega)]
  exact congrArg (fun z => k (ix2 r z)) (Fin.ext (by show l.val - 2176 = j.val; omega))

theorem piece_6 (W : Vec Ideal S1024x3200 .f32) (x : Vec Ideal S1024x1024 .bf16) (a : Vec Ideal S1024x1664 .bf16) (q k v : Vec Ideal S1024x512 .bf16) (y : (⟨2, ![1024, 512]⟩ : Shape).Idx) :
    k0_pay6 (F := Ideal) x (View.ld W (Rect.unit ![0, 2176] ![1024, 512] inb_S1024x3200_S1024x512_0_2176)) k y
      = added W x a q k v ((Rect.unit ![0, 2176] ![1024, 512] inb_S1024x3200_S1024x512_0_2176 : Rect S1024x3200).emb y) := by
  obtain ⟨i, j, rfl⟩ : ∃ (i : Fin 1024) (j : Fin 512), y = ix2 i j := ⟨y 0, y 1, eta2 y⟩
  refine (pay6_at x _ k i j).trans ?_
  unfold added
  refine congrArg₂ (fun s t : EReal => s + t) rfl ?_
  unfold part
  refine Finset.sum_congr rfl fun r _ => ?_
  refine congrArg₂ (fun s t : EReal => s * t) (congrArg (fun i => x (ix2 r i)) ?_) (cols_6 a q k v r j _ ?_).symm
  · exact Fin.ext (by show i.val = 0 + 1 * i.val; omega)
  · show 2176 + 1 * j.val = 2176 + j.val
    omega

theorem cols_5 {n : ℕ} (a : FVec Ideal ⟨2, ![n, 1664]⟩ .bf16) (q k v : FVec Ideal ⟨2, ![n, 512]⟩ .bf16) (r : Fin n) (j : Fin 512) (l : Fin 3200)
    (h : l.val = 1664 + j.val) : cols a q k v r l = q (ix2 r j) := by
  have := j.isLt
  unfold cols
  rw [dif_neg (by omega), dif_pos (by omega)]
  exact congrArg (fun z => q (ix2 r z)) (Fin.ext (by show l.val - 1664 = j.val; omega))

theorem piece_5 (W : Vec Ideal S1024x3200 .f32) (x : Vec Ideal S1024x1024 .bf16) (a : Vec Ideal S1024x1664 .bf16) (q k v : Vec Ideal S1024x512 .bf16) (y : (⟨2, ![1024, 512]⟩ : Shape).Idx) :
    k0_pay5 (F := Ideal) x (View.ld W (Rect.unit ![0, 1664] ![1024, 512] inb_S1024x3200_S1024x512_0_1664)) q y
      = added W x a q k v ((Rect.unit ![0, 1664] ![1024, 512] inb_S1024x3200_S1024x512_0_1664 : Rect S1024x3200).emb y) := by
  obtain ⟨i, j, rfl⟩ : ∃ (i : Fin 1024) (j : Fin 512), y = ix2 i j := ⟨y 0, y 1, eta2 y⟩
  refine (pay5_at x _ q i j).trans ?_
  unfold added
  refine congrArg₂ (fun s t : EReal => s + t) rfl ?_
  unfold part
  refine Finset.sum_congr rfl fun r _ => ?_
  refine congrArg₂ (fun s t : EReal => s * t) (congrArg (fun i => x (ix2 r i)) ?_) (cols_5 a q k v r j _ ?_).symm
  · exact Fin.ext (by show i.val = 0 + 1 * i.val; omega)
  · show 1664 + 1 * j.val = 1664 + j.val
    omega

theorem cols_4 {n : ℕ} (a : FVec Ideal ⟨2, ![n, 1664]⟩ .bf16) (q k v : FVec Ideal ⟨2, ![n, 512]⟩ .bf16) (r : Fin n) (j : Fin 1664) (l : Fin 3200)
    (h : l.val = 0 + j.val) : cols a q k v r l = a (ix2 r j) := by
  have := j.isLt
  unfold cols
  rw [dif_pos (by omega)]
  exact congrArg (fun z => a (ix2 r z)) (Fin.ext (by show l.val = j.val; omega))

theorem piece_4 (W : Vec Ideal S1024x3200 .f32) (x : Vec Ideal S1024x1024 .bf16) (a : Vec Ideal S1024x1664 .bf16) (q k v : Vec Ideal S1024x512 .bf16) (y : (⟨2, ![1024, 1664]⟩ : Shape).Idx) :
    k0_pay4 (F := Ideal) x (View.ld W (Rect.unit ![0, 0] ![1024, 1664] inb_S1024x3200_S1024x1664_0_0)) a y
      = added W x a q k v ((Rect.unit ![0, 0] ![1024, 1664] inb_S1024x3200_S1024x1664_0_0 : Rect S1024x3200).emb y) := by
  obtain ⟨i, j, rfl⟩ : ∃ (i : Fin 1024) (j : Fin 1664), y = ix2 i j := ⟨y 0, y 1, eta2 y⟩
  refine (pay4_at x _ a i j).trans ?_
  unfold added
  refine congrArg₂ (fun s t : EReal => s + t) rfl ?_
  unfold part
  refine Finset.sum_congr rfl fun r _ => ?_
  refine congrArg₂ (fun s t : EReal => s * t) (congrArg (fun i => x (ix2 r i)) ?_) (cols_4 a q k v r j _ ?_).symm
  · exact Fin.ext (by show i.val = 0 + 1 * i.val; omega)
  · show 0 + 1 * j.val = 0 + j.val
    omega

theorem pieces_of (W : Vec Ideal S1024x3200 .f32) (x : Vec Ideal S1024x1024 .bf16) (a : Vec Ideal S1024x1664 .bf16) (q k v : Vec Ideal S1024x512 .bf16) : View.PiecesOf (added W x a q k v) (pieces W x a q k v) :=
  ⟨fun y => piece_1 W x a q k v y, fun y => piece_6 W x a q k v y, fun y => piece_5 W x a q k v y, fun y => piece_4 W x a q k v y, trivial⟩

/-- What the four pieces leave, over any earlier stores. -/
theorem canon_pieces (L' : List (View.Piece (Elt Ideal) S1024x3200 .f32)) (W : Vec Ideal S1024x3200 .f32) (x : Vec Ideal S1024x1024 .bf16) (a : Vec Ideal S1024x1664 .bf16) (q k v : Vec Ideal S1024x512 .bf16) :
    View.canon (pieces W x a q k v ++ L') = added W x a q k v := by
  funext y
  exact View.canon_append_of_piecesOf (added W x a q k v) L' (pieces W x a q k v)
    (pieces_of W x a q k v) y
    (View.cover_of_tiledBy (pieces W x a q k v) ![1024, 128] (by sl_kernel_rfl) y)

theorem sout_A (c : Dev nD) (i : grid0.Coords) (arg1 : Memref sig .tc .vmem S1024x1024 .bf16) (harg1 : arg1.IsWhole) (arg2 : Memref sig .tc .vmem S1024x1664 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x3200 .bf16) (harg6 : arg6.IsWhole) (arg7 : Memref sig .tc .vmem S1024x3200 .f32) (harg7 : arg7.IsWhole) (hc0 : cond0_0 i) (hc1 : ¬cond0_1 i)
    (x0 : Vec Ideal S1024x1024 .bf16) (x1 : Vec Ideal S1024x1664 .bf16) (x2 : Vec Ideal S1024x512 .bf16) (x3 : Vec Ideal S1024x512 .bf16) (x4 : Vec Ideal S1024x512 .bf16) :
    sout0_A_0 c i arg1 harg1 arg2 harg2 arg3 harg3 arg4 harg4 arg5 harg5 arg6 harg6 arg7 harg7 hc0 hc1 x0 x1 x2 x3 x4
      = added (k0_pay3 (F := Ideal)) x0 x1 x2 x3 x4 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  simp (discharger := decide) only [↓View.readCov_skip, View.readCov_fill]
  simp only [View.readAt_eq_ld, harg1.read_unread, harg2.read_unread, harg3.read_unread, harg4.read_unread, harg5.read_unread, View.ld_unit_zero (S := S1024x1024) hz2, View.ld_unit_zero (S := S1024x1664) hz2, View.ld_unit_zero (S := S1024x512) hz2]
  exact canon_pieces [⟨Rect.unit ![0, 0] ![1024, 3200] inb_S1024x3200_S1024x3200_0_0, k0_pay3 (F := Ideal)⟩] (k0_pay3 (F := Ideal)) x0 x1 x2 x3 x4

theorem sout_B (c : Dev nD) (i : grid0.Coords) (arg1 : Memref sig .tc .vmem S1024x1024 .bf16) (harg1 : arg1.IsWhole) (arg2 : Memref sig .tc .vmem S1024x1664 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x3200 .bf16) (harg6 : arg6.IsWhole) (arg7 : Memref sig .tc .vmem S1024x3200 .f32) (harg7 : arg7.IsWhole) (hc0 : ¬cond0_0 i) (hc1 : ¬cond0_1 i)
    (x0 : Vec Ideal S1024x1024 .bf16) (x1 : Vec Ideal S1024x1664 .bf16) (x2 : Vec Ideal S1024x512 .bf16) (x3 : Vec Ideal S1024x512 .bf16) (x4 : Vec Ideal S1024x512 .bf16) (xs0 : Vec Ideal S1024x3200 .f32) :
    sout0_B_0 c i arg1 harg1 arg2 harg2 arg3 harg3 arg4 harg4 arg5 harg5 arg6 harg6 arg7 harg7 hc0 hc1 x0 x1 x2 x3 x4 xs0
      = added xs0 x0 x1 x2 x3 x4 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  simp only [View.readAt_eq_ld, harg1.read_unread, harg2.read_unread, harg3.read_unread, harg4.read_unread, harg5.read_unread, harg7.read_unread, View.ld_unit_zero (S := S1024x1024) hz2, View.ld_unit_zero (S := S1024x1664) hz2, View.ld_unit_zero (S := S1024x512) hz2]
  exact canon_pieces [] xs0 x0 x1 x2 x3 x4

theorem out_C (c : Dev nD) (i : grid0.Coords) (arg1 : Memref sig .tc .vmem S1024x1024 .bf16) (harg1 : arg1.IsWhole) (arg2 : Memref sig .tc .vmem S1024x1664 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x3200 .bf16) (harg6 : arg6.IsWhole) (arg7 : Memref sig .tc .vmem S1024x3200 .f32) (harg7 : arg7.IsWhole) (hc0 : ¬cond0_0 i) (hc1 : cond0_1 i)
    (x0 : Vec Ideal S1024x1024 .bf16) (x1 : Vec Ideal S1024x1664 .bf16) (x2 : Vec Ideal S1024x512 .bf16) (x3 : Vec Ideal S1024x512 .bf16) (x4 : Vec Ideal S1024x512 .bf16) (xs0 : Vec Ideal S1024x3200 .f32) :
    out0_C_5 c i arg1 harg1 arg2 harg2 arg3 harg3 arg4 harg4 arg5 harg5 arg6 harg6 arg7 harg7 hc0 hc1 x0 x1 x2 x3 x4 xs0
      = added xs0 x0 x1 x2 x3 x4 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero (S := S1024x3200) hz2]
  simp only [View.readAt_eq_ld, harg1.read_unread, harg2.read_unread, harg3.read_unread, harg4.read_unread, harg5.read_unread, harg7.read_unread, View.ld_unit_zero (S := S1024x1024) hz2, View.ld_unit_zero (S := S1024x1664) hz2, View.ld_unit_zero (S := S1024x512) hz2]
  refine Eq.trans (b := k0_pay2 (F := Ideal) (arg7.view.readCov (pieces xs0 x0 x1 x2 x3 x4) (Rect.unit ![0, 0] ![1024, 3200] inb_S1024x3200_S1024x3200_0_0 : Rect S1024x3200).toLoadRect)) rfl ?_
  rw [View.readCov_eq_canon_ld _ _ _ (View.cover_of_tiledBy (pieces xs0 x0 x1 x2 x3 x4) ![1024, 128] (by sl_kernel_rfl)), View.ld_unit_zero (S := S1024x3200) hz2,
    ← List.append_nil (pieces xs0 x0 x1 x2 x3 x4), canon_pieces]
  funext y
  rfl

end Cert.Win

end
-- ==== Proof.Win.Ref.lean ====
/-
  The reference's weight gradient of the input projection at an index: the sum over the tokens.
-/
module

public import proofs.«01_k».proof.Proof.Gen.WinReferenceIdeal.Read
public import proofs.«01_k».proof.Proof.Win.Block

@[expose] public section

set_option maxRecDepth 16384

noncomputable section

namespace Cert.Win.Ref

open Cert.WinReferenceIdeal Cert.WinReferenceIdeal.Read Cert.Cover Idealize.ShloMosaic.ValueIdx
open Idealize.ShloMosaic
open scoped BigOperators

/-- Where a column of the gradient lies among the padded columns. -/
def up (l : Fin 3088) : Fin 3200 :=
  if h : l.val < 1552 then ⟨l.val, by omega⟩ else ⟨l.val + 112, by have := l.isLt; omega⟩

theorem up_low (l : Fin 3088) (h : l.val < 1552) : (up l).val = l.val := by
  unfold up
  rw [dif_pos h]

theorem up_high (l : Fin 3088) (h : ¬l.val < 1552) : (up l).val = l.val + 112 := by
  unfold up
  rw [dif_neg h]

theorem joined_at (x1 : FVec Ideal S8192x1664 .bf16) (x2 x3 x4 : FVec Ideal S8192x512 .bf16) (t : Fin 8192) (l : Fin 3088) :
    val_main_v1 (F := Ideal) x1 x2 x3 x4 (ix2 t l) = Cert.Win.cols x1 x2 x3 x4 t (up l) := by
  have hl := l.isLt
  unfold val_main_v1
  by_cases h0 : l.val < 1552
  · rw [Cert.Win.cols_4 x1 x2 x3 x4 t ⟨l.val, by omega⟩ (up l) (by rw [up_low l h0]; show l.val = 0 + l.val; omega)]
    refine (concatenate_apply_piece 1 _ _ (ix2 t l) 0 (by show 0 < 4; omega) S8192x1552 (val_main_v0 (F := Ideal) x1) rfl rfl 0 rfl (ix2 t ⟨l.val, h0⟩)
      (fun b hb => ?_) ?_).trans ?_
    · match b with
      | ⟨0, _⟩ => rfl
      | ⟨1, _⟩ => exact absurd rfl hb
    · exact Nat.zero_add _
    · rw [val_main_v0_apply]
      exact congrArg x1 (e2 _ _ _ rfl rfl)
  by_cases h1 : l.val < 2064
  · rw [Cert.Win.cols_5 x1 x2 x3 x4 t ⟨l.val - 1552, by omega⟩ (up l) (by rw [up_high l h0]; show l.val + 112 = 1664 + (l.val - 1552); omega)]
    refine concatenate_apply_piece 1 _ _ (ix2 t l) 1 (by show 1 < 4; omega) S8192x512 x2 rfl rfl 1552 rfl (ix2 t ⟨l.val - 1552, by omega⟩)
      (fun b hb => ?_) ?_
    · match b with
      | ⟨0, _⟩ => rfl
      | ⟨1, _⟩ => exact absurd rfl hb
    · show 1552 + (l.val - 1552) = l.val
      omega
  by_cases h2 : l.val < 2576
  · rw [Cert.Win.cols_6 x1 x2 x3 x4 t ⟨l.val - 2064, by omega⟩ (up l) (by rw [up_high l h0]; show l.val + 112 = 2176 + (l.val - 2064); omega)]
    refine concatenate_apply_piece 1 _ _ (ix2 t l) 2 (by show 2 < 4; omega) S8192x512 x3 rfl rfl 2064 rfl (ix2 t ⟨l.val - 2064, by omega⟩)
      (fun b hb => ?_) ?_
    · match b with
      | ⟨0, _⟩ => rfl
      | ⟨1, _⟩ => exact absurd rfl hb
    · show 2064 + (l.val - 2064) = l.val
      omega
  rw [Cert.Win.cols_1 x1 x2 x3 x4 t ⟨l.val - 2576, by omega⟩ (up l) (by rw [up_high l h0]; show l.val + 112 = 2688 + (l.val - 2576); omega)]
  refine concatenate_apply_piece 1 _ _ (ix2 t l) 3 (by show 3 < 4; omega) S8192x512 x4 rfl rfl 2576 rfl (ix2 t ⟨l.val - 2576, by omega⟩)
    (fun b hb => ?_) ?_
  · match b with
    | ⟨0, _⟩ => rfl
    | ⟨1, _⟩ => exact absurd rfl hb
  · show 2576 + (l.val - 2576) = l.val
    omega

theorem ref_at (x0 : FVec Ideal S8192x1024 .bf16) (x1 : FVec Ideal S8192x1664 .bf16) (x2 x3 x4 : FVec Ideal S8192x512 .bf16) (i : Fin 1024) (l : Fin 3088) :
    val_main_v8 (F := Ideal) x0 x1 x2 x3 x4 (ix2 i l) = ∑ k : Fin 8192, x0 (ix2 k i) * Cert.Win.cols x1 x2 x3 x4 k (up l) := by
  refine Eq.trans (b := val_main_v7 (F := Ideal) x0 x1 x2 x3 x4 (ix2 i l)) rfl ?_
  rw [val_main_v7_apply, val_main_v6_apply]
  refine Finset.sum_congr rfl fun k _ => (mul_comm _ _).trans ?_
  refine congrArg₂ (fun a b : EReal => a * b) (congrArg x0 (e2 _ _ _ rfl rfl)) ?_
  refine Eq.trans (b := val_main_v1 (F := Ideal) x1 x2 x3 x4 (lidx_main_v6 (idx_main_v7 (ix2 i l)) k)) rfl ?_
  refine Eq.trans (congrArg (val_main_v1 (F := Ideal) x1 x2 x3 x4) (e2 _ k l rfl rfl)) (joined_at x1 x2 x3 x4 k l)

end Cert.Win.Ref

end
-- ==== Proof.Win.Final.lean ====
/-
  The input projection's weight gradient, as the reference's stage of the same arguments: a sum over the token blocks, carried from
  point to point in the scratch buffer, with the padding columns cut out on the host.
-/
module

public import proofs.«01_k».proof.Proof.Win.Ref
public import Idealize.ShloMosaic.Lib.Pipeline.ValueKit
public import Idealize.ShloMosaic.Lib.StableHlo.Run

@[expose] public section

set_option maxRecDepth 16384

noncomputable section

namespace Cert.Win

open Cert.WinKernelIdeal Cert.WinKernelIdeal.Gen Cert.Rows Cert.Cover Cert.Wgrad Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (c : Dev nD)

/-- Argument 0. -/
def arg0 : FVec Ideal S8192x1024 .bf16 := m ((c : Thread nD τ).loc main_arg0)

/-- Argument 1. -/
def arg1 : FVec Ideal S8192x1664 .bf16 := m ((c : Thread nD τ).loc main_arg1)

/-- Argument 2. -/
def arg2 : FVec Ideal S8192x512 .bf16 := m ((c : Thread nD τ).loc main_arg2)

/-- Argument 3. -/
def arg3 : FVec Ideal S8192x512 .bf16 := m ((c : Thread nD τ).loc main_arg3)

/-- Argument 4. -/
def arg4 : FVec Ideal S8192x512 .bf16 := m ((c : Thread nD τ).loc main_arg4)

theorem NN (t : Fin cfg0.N) : t.val < 8 := lt_of_lt_of_eq t.isLt N_0

/-- The point before a later point. -/
abbrev prev (t : Fin cfg0.N) : Fin cfg0.N := ⟨t.val - 1, Nat.lt_of_le_of_lt (Nat.sub_le _ _) t.isLt⟩

theorem pick_0 {α β : Type} {z : α × β} {a : α} {b : β} (h : z = (a, b)) : z.1 = a := by
  subst h
  rfl

theorem pick_1 {α β : Type} {z : α × β} {a : α} {b : β} (h : z = (a, b)) : z.2 = b := by
  subst h
  rfl

/-- What a point adds. -/
def adds (t : Fin cfg0.N) (i : Fin 1024) (l : Fin 3200) : EReal := part (iblk m c 0 t) (iblk m c 1 t) (iblk m c 2 t) (iblk m c 3 t) (iblk m c 4 t) i l

theorem sum_A (t : Fin cfg0.N) (h0 : t.val % 8 = 0) (h1 : ¬t.val % 8 = 7) :
    (outsAt0 m c t.val t.isLt).2 = added (k0_pay3 (F := Ideal)) (iblk m c 0 t) (iblk m c 1 t) (iblk m c 2 t) (iblk m c 3 t) (iblk m c 4 t) :=
  (pick_1 (outsAt0_A m c t h0 h1)).trans
    (sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))

theorem sum_B (t : Fin cfg0.N) (h0 : ¬t.val % 8 = 0) (h1 : ¬t.val % 8 = 7) :
    (outsAt0 m c t.val t.isLt).2 = added (outsAt0 m c (prev t).val (prev t).isLt).2 (iblk m c 0 t) (iblk m c 1 t) (iblk m c 2 t) (iblk m c 3 t) (iblk m c 4 t) :=
  (pick_1 (outsAt0_B m c t h0 h1)).trans
    (sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2)

theorem last_C (t : Fin cfg0.N) (h0 : ¬t.val % 8 = 0) (h1 : t.val % 8 = 7) :
    (outsAt0 m c t.val t.isLt).1 = added (outsAt0 m c (prev t).val (prev t).isLt).2 (iblk m c 0 t) (iblk m c 1 t) (iblk m c 2 t) (iblk m c 3 t) (iblk m c 4 t) :=
  (pick_0 (outsAt0_C m c t h0 h1)).trans
    (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)

/-- A point of the grid. -/
def pt (s : Fin 8) : Fin cfg0.N := ⟨s.val, lt_of_lt_of_eq s.isLt N_0.symm⟩

theorem added_at (W : FVec Ideal S1024x3200 .f32) (t : Fin cfg0.N) (i : Fin 1024) (l : Fin 3200) :
    added W (iblk m c 0 t) (iblk m c 1 t) (iblk m c 2 t) (iblk m c 3 t) (iblk m c 4 t) (ix2 i l) = W (ix2 i l) + adds m c t i l := rfl

/-- The last point leaves the sum of what the points add. -/
theorem out_sum (i : Fin 1024) (l : Fin 3200) : (outsAt0 m c (pt 7).val (pt 7).isLt).1 (ix2 i l) = ∑ s : Fin 8, adds m c (pt s) i l := by
  have s0 : (outsAt0 m c (pt 0).val (pt 0).isLt).2 (ix2 i l) = adds m c (pt 0) i l :=
    (congrFun (sum_A m c (pt 0) (by decide) (by decide)) (ix2 i l)).trans
      ((added_at m c _ (pt 0) i l).trans ((congrArg (fun z : EReal => z + adds m c (pt 0) i l) (zero_at (ix2 i l))).trans (zero_add _)))
  have s1 : (outsAt0 m c (pt 1).val (pt 1).isLt).2 (ix2 i l) = (outsAt0 m c (pt 0).val (pt 0).isLt).2 (ix2 i l) + adds m c (pt 1) i l :=
    congrFun (sum_B m c (pt 1) (by decide) (by decide)) (ix2 i l)
  have s2 : (outsAt0 m c (pt 2).val (pt 2).isLt).2 (ix2 i l) = (outsAt0 m c (pt 1).val (pt 1).isLt).2 (ix2 i l) + adds m c (pt 2) i l :=
    congrFun (sum_B m c (pt 2) (by decide) (by decide)) (ix2 i l)
  have s3 : (outsAt0 m c (pt 3).val (pt 3).isLt).2 (ix2 i l) = (outsAt0 m c (pt 2).val (pt 2).isLt).2 (ix2 i l) + adds m c (pt 3) i l :=
    congrFun (sum_B m c (pt 3) (by decide) (by decide)) (ix2 i l)
  have s4 : (outsAt0 m c (pt 4).val (pt 4).isLt).2 (ix2 i l) = (outsAt0 m c (pt 3).val (pt 3).isLt).2 (ix2 i l) + adds m c (pt 4) i l :=
    congrFun (sum_B m c (pt 4) (by decide) (by decide)) (ix2 i l)
  have s5 : (outsAt0 m c (pt 5).val (pt 5).isLt).2 (ix2 i l) = (outsAt0 m c (pt 4).val (pt 4).isLt).2 (ix2 i l) + adds m c (pt 5) i l :=
    congrFun (sum_B m c (pt 5) (by decide) (by decide)) (ix2 i l)
  have s6 : (outsAt0 m c (pt 6).val (pt 6).isLt).2 (ix2 i l) = (outsAt0 m c (pt 5).val (pt 5).isLt).2 (ix2 i l) + adds m c (pt 6) i l :=
    congrFun (sum_B m c (pt 6) (by decide) (by decide)) (ix2 i l)
  have s7 : (outsAt0 m c (pt 7).val (pt 7).isLt).1 (ix2 i l) = (outsAt0 m c (pt 6).val (pt 6).isLt).2 (ix2 i l) + adds m c (pt 7) i l :=
    congrFun (last_C m c (pt 7) (by decide) (by decide)) (ix2 i l)
  rw [s7, s6, s5, s4, s3, s2, s1, s0, Fin.sum_univ_eight]

/-- Row `r` of point `t`'s token block. -/
def tok (t : Fin cfg0.N) (r : Fin 1024) : Fin 8192 := ⟨1024 * t.val + r.val, by have := NN t; have := r.isLt; omega⟩

theorem index_0 : ∀ t : Fin cfg0.N, win0_0.index t = ![t.val, 0] :=
  (by decide +kernel : ∀ t : Fin grid0.N, win0_0.index t = ![t.val, 0])

theorem blk0_at (t : Fin cfg0.N) (r : Fin 1024) (d : Fin 1024) : (iblk m c 0 t : FVec Ideal S1024x1024 .bf16) (ix2 r d)
    = arg0 m c (ix2 (tok t r) d) := by
  unfold iblk
  rw [View.read_apply]
  show V m c main_arg0 _ = _
  rw [V_main_arg0]
  refine congrArg (arg0 m c) (e2 _ _ _ ?_ ?_)
  · refine (Pipeline.Window.rect_emb_val win0_0 t _ 0).trans ?_
    rw [index_0 t]
    show t.val * 1024 + r.val = 1024 * t.val + r.val
    omega
  · refine (Pipeline.Window.rect_emb_val win0_0 t _ 1).trans ?_
    rw [index_0 t]
    show 0 * 1024 + d.val = d.val
    omega

theorem index_1 : ∀ t : Fin cfg0.N, win0_1.index t = ![t.val, 0] :=
  (by decide +kernel : ∀ t : Fin grid0.N, win0_1.index t = ![t.val, 0])

theorem blk1_at (t : Fin cfg0.N) (r : Fin 1024) (d : Fin 1664) : (iblk m c 1 t : FVec Ideal S1024x1664 .bf16) (ix2 r d)
    = arg1 m c (ix2 (tok t r) d) := by
  unfold iblk
  rw [View.read_apply]
  show V m c main_arg1 _ = _
  rw [V_main_arg1]
  refine congrArg (arg1 m c) (e2 _ _ _ ?_ ?_)
  · refine (Pipeline.Window.rect_emb_val win0_1 t _ 0).trans ?_
    rw [index_1 t]
    show t.val * 1024 + r.val = 1024 * t.val + r.val
    omega
  · refine (Pipeline.Window.rect_emb_val win0_1 t _ 1).trans ?_
    rw [index_1 t]
    show 0 * 1664 + d.val = d.val
    omega

theorem index_2 : ∀ t : Fin cfg0.N, win0_2.index t = ![t.val, 0] :=
  (by decide +kernel : ∀ t : Fin grid0.N, win0_2.index t = ![t.val, 0])

theorem blk2_at (t : Fin cfg0.N) (r : Fin 1024) (d : Fin 512) : (iblk m c 2 t : FVec Ideal S1024x512 .bf16) (ix2 r d)
    = arg2 m c (ix2 (tok t r) d) := by
  unfold iblk
  rw [View.read_apply]
  show V m c main_arg2 _ = _
  rw [V_main_arg2]
  refine congrArg (arg2 m c) (e2 _ _ _ ?_ ?_)
  · refine (Pipeline.Window.rect_emb_val win0_2 t _ 0).trans ?_
    rw [index_2 t]
    show t.val * 1024 + r.val = 1024 * t.val + r.val
    omega
  · refine (Pipeline.Window.rect_emb_val win0_2 t _ 1).trans ?_
    rw [index_2 t]
    show 0 * 512 + d.val = d.val
    omega

theorem index_3 : ∀ t : Fin cfg0.N, win0_3.index t = ![t.val, 0] :=
  (by decide +kernel : ∀ t : Fin grid0.N, win0_3.index t = ![t.val, 0])

theorem blk3_at (t : Fin cfg0.N) (r : Fin 1024) (d : Fin 512) : (iblk m c 3 t : FVec Ideal S1024x512 .bf16) (ix2 r d)
    = arg3 m c (ix2 (tok t r) d) := by
  unfold iblk
  rw [View.read_apply]
  show V m c main_arg3 _ = _
  rw [V_main_arg3]
  refine congrArg (arg3 m c) (e2 _ _ _ ?_ ?_)
  · refine (Pipeline.Window.rect_emb_val win0_3 t _ 0).trans ?_
    rw [index_3 t]
    show t.val * 1024 + r.val = 1024 * t.val + r.val
    omega
  · refine (Pipeline.Window.rect_emb_val win0_3 t _ 1).trans ?_
    rw [index_3 t]
    show 0 * 512 + d.val = d.val
    omega

theorem index_4 : ∀ t : Fin cfg0.N, win0_4.index t = ![t.val, 0] :=
  (by decide +kernel : ∀ t : Fin grid0.N, win0_4.index t = ![t.val, 0])

theorem blk4_at (t : Fin cfg0.N) (r : Fin 1024) (d : Fin 512) : (iblk m c 4 t : FVec Ideal S1024x512 .bf16) (ix2 r d)
    = arg4 m c (ix2 (tok t r) d) := by
  unfold iblk
  rw [View.read_apply]
  show V m c main_arg4 _ = _
  rw [V_main_arg4]
  refine congrArg (arg4 m c) (e2 _ _ _ ?_ ?_)
  · refine (Pipeline.Window.rect_emb_val win0_4 t _ 0).trans ?_
    rw [index_4 t]
    show t.val * 1024 + r.val = 1024 * t.val + r.val
    omega
  · refine (Pipeline.Window.rect_emb_val win0_4 t _ 1).trans ?_
    rw [index_4 t]
    show 0 * 512 + d.val = d.val
    omega

theorem cols_blk (t : Fin cfg0.N) (r : Fin 1024) (l : Fin 3200) :
    cols (n := 1024) (iblk m c 1 t) (iblk m c 2 t) (iblk m c 3 t) (iblk m c 4 t) r l = cols (arg1 m c) (arg2 m c) (arg3 m c) (arg4 m c) (tok t r) l := by
  unfold cols
  by_cases h0 : l.val < 1664
  · rw [dif_pos h0, dif_pos h0]
    exact blk1_at m c t r _
  rw [dif_neg h0, dif_neg h0]
  by_cases h1 : l.val < 2176
  · rw [dif_pos h1, dif_pos h1]
    exact blk2_at m c t r _
  rw [dif_neg h1, dif_neg h1]
  by_cases h2 : l.val < 2688
  · rw [dif_pos h2, dif_pos h2]
    exact blk3_at m c t r _
  rw [dif_neg h2, dif_neg h2]
  exact blk4_at m c t r _

/-- What a point adds, as a sum over its tokens. -/
theorem adds_tok (t : Fin cfg0.N) (i : Fin 1024) (l : Fin 3200) : adds m c t i l
    = ∑ r : Fin 1024, arg0 m c (ix2 (tok t r) i) * cols (arg1 m c) (arg2 m c) (arg3 m c) (arg4 m c) (tok t r) l := by
  unfold adds part
  exact Finset.sum_congr rfl fun r _ => congrArg₂ (fun a b : EReal => a * b) (blk0_at m c t r i) (cols_blk m c t r l)

/-- The sum over all tokens, with the padding columns. -/
def whole : FVec Ideal S1024x3200 .bf16 := fun y => ∑ k : Fin 8192, arg0 m c (ix2 k (y 0)) * cols (arg1 m c) (arg2 m c) (arg3 m c) (arg4 m c) k (y 1)

theorem arr_5 : (dats m 0 c).arrAt 5 cfg0.N = whole m c := by
  refine (dats m 0 c).arrAt_eq_of_after_last 5 (pt 7) (by decide +kernel) _ fun j => ?_
  have hj : (j : (⟨2, ![1024, 3200]⟩ : Shape).Idx) = ix2 (j 0) (j 1) := eta2 j
  refine Eq.trans (b := (dats m 0 c).after 5 (pt 7) j) rfl ?_
  refine Eq.trans ?_ (b := whole m c j) rfl
  rw [after0_5, hj]
  refine (out_sum m c (j 0) (j 1)).trans ?_
  refine Eq.trans (b := ∑ k : Fin 8192, arg0 m c (ix2 k (j 0)) * cols (arg1 m c) (arg2 m c) (arg3 m c) (arg4 m c) k (j 1)) ?_ rfl
  rw [← Fin.sum_mul_add_fin 8 1024 (fun k : Fin 8192 => arg0 m c (ix2 k (j 0)) * cols (arg1 m c) (arg2 m c) (arg3 m c) (arg4 m c) k (j 1)) rfl]
  refine Finset.sum_congr rfl fun s _ => (adds_tok m c (pt s) (j 0) (j 1)).trans (Finset.sum_congr rfl fun r _ => ?_)
  have e : tok (pt s) r = ⟨s.val * 1024 + r.val, by have := s.isLt; have := r.isLt; omega⟩ :=
    Fin.ext (by show 1024 * s.val + r.val = s.val * 1024 + r.val; omega)
  rw [e]

/-- The host's cut of the padding columns. -/
theorem cut_at (X : FVec Ideal S1024x3200 .bf16) (i : Fin 1024) (l : Fin 3088) :
    concatenate S1024x3088 1 [⟨S1024x1552, (extractStridedSlice S1024x1552 ![0, 0] X slices_S1024x3200_S1024x1552_0_0 : FVec Ideal S1024x1552 .bf16)⟩,
      ⟨S1024x1536, (extractStridedSlice S1024x1536 ![0, 1664] X slices_S1024x3200_S1024x1536_0_1664 : FVec Ideal S1024x1536 .bf16)⟩]
      concatenates_S1024x1552_S1024x1536_S1024x3088_d1 (ix2 i l) = X (ix2 i (Ref.up l)) := by
  have hl := l.isLt
  by_cases h0 : l.val < 1552
  · refine (concatenate_apply_piece 1 _ _ (ix2 i l) 0 (by show 0 < 2; omega) S1024x1552 _ rfl rfl 0 rfl (ix2 i ⟨l.val, h0⟩)
      (fun b hb => ?_) ?_).trans ?_
    · match b with
      | ⟨0, _⟩ => rfl
      | ⟨1, _⟩ => exact absurd rfl hb
    · exact Nat.zero_add _
    · refine (extractStridedSlice_apply _ _ _ (ix2 i ⟨l.val, h0⟩) (ix2 i (Ref.up l) : S1024x3200.Idx) (fun b => ?_)).trans rfl
      match b with
      | ⟨0, _⟩ => show i.val = 0 + i.val; omega
      | ⟨1, _⟩ => show (Ref.up l).val = 0 + l.val; rw [Ref.up_low l h0]; omega
  · refine (concatenate_apply_piece 1 _ _ (ix2 i l) 1 (by show 1 < 2; omega) S1024x1536 _ rfl rfl 1552 rfl (ix2 i ⟨l.val - 1552, by omega⟩)
      (fun b hb => ?_) ?_).trans ?_
    · match b with
      | ⟨0, _⟩ => rfl
      | ⟨1, _⟩ => exact absurd rfl hb
    · show 1552 + (l.val - 1552) = l.val
      omega
    · refine (extractStridedSlice_apply _ _ _ (ix2 i ⟨l.val - 1552, by omega⟩) (ix2 i (Ref.up l) : S1024x3200.Idx) (fun b => ?_)).trans rfl
      match b with
      | ⟨0, _⟩ => show i.val = 0 + i.val; omega
      | ⟨1, _⟩ => show (Ref.up l).val = 1664 + (l.val - 1552); rw [Ref.up_high l h0]; omega

theorem tail_eq : Pipeline.afterTail₀ cfgs (dats m) 0 (V0 m) [hostOps1] c main_v3
    = Cert.WinReferenceIdeal.Read.val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N) (Proc.devRef .tc main_v0) = whole m c :=
    (Pipeline.withArrays_arr (cfgs 0).spec (by decide) c (V0 m c) (fun w => (dats m 0 c).arrAt w (cfgs 0).N) 5).trans (arr_5 m c)
  unfold Pipeline.afterTail₀
  simp only [List.flatten_cons, List.flatten_nil, List.append_nil]
  after_results
  rw [e]
  funext y
  rw [eta2 y]
  exact (cut_at (whole m c) (y 0) (y 1)).trans (Ref.ref_at (arg0 m c) (arg1 m c) (arg2 m c) (arg3 m c) (arg4 m c) (y 0) (y 1)).symm

end Cert.Win

end
-- ==== Proof.Win.Claims.lean ====
/-
  The claims about the input projection's weight gradient: the frames, and the kernel's results equal to the reference's.
-/
module

public import proofs.«01_k».proof.Proof.Win.Final
public import proofs.«01_k».proof.Proof.Gen.WinKernel
public import proofs.«01_k».proof.Proof.Gen.WinKernel.Frame
public import proofs.«01_k».proof.Defs
public import Idealize.ShloMosaic.Adequacy
public import Idealize.ShloMosaic.Init

@[expose] public section

set_option maxRecDepth 16384

noncomputable section

namespace Cert.Win

open Idealize.ShloMosaic Idealize.SL.Sem

theorem frame_bits : Cert.quiescent_WinKernel := fun m ρ _ => Cert.WinKernel.Gen.frame m ρ

theorem frame_ideal : Cert.quiescent_WinKernelIdeal := fun m ρ _ => Cert.WinKernelIdeal.Gen.frame m ρ

theorem frame_reference : Cert.quiescent_WinReferenceIdeal := fun m ρ _ =>
  (θ_run Cert.WinReferenceIdeal.defs _ _).mono (fun r h => ⟨fun c => (h c).2,
      Idealize.ShloMosaic.sem_eq_zero_of_no_sems (by decide) r.2⟩)
    (Cert.WinReferenceIdeal.Value.run (F := Ideal) m ρ)

set_option maxHeartbeats 4000000 in
open Idealize.ShloMosaic.TcCoe Idealize.ShloMosaic.Pipeline Cert.WinKernelIdeal Cert.WinKernelIdeal.Gen in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v3) = Cert.WinReferenceIdeal.Read.val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨
    ((h c).2 main_v3 (Pipeline.mem_restRefs_of main_v3 (by decide) (by decide))).trans (tail_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩)
    (run_main m ρ)

set_option maxHeartbeats 4000000 in
open Idealize.ShloMosaic.TcCoe Cert.WinReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v8) = Read.val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => by
    obtain ⟨h0, ha⟩ := h c
    exact ⟨h0.trans (Read.val_main_v8_eq _ _ _ _ _), ha⟩)
    (Value.run (F := Ideal) m ρ)

set_option maxHeartbeats 4000000 in
theorem algebraic : Cert.algebraic_WinKernelIdeal_WinReferenceIdeal := by
  intro m ρ m' ρ' _ hagree
  refine ⟨_, kernel_run m ρ, ?_⟩
  refine (θ_run Cert.WinReferenceIdeal.defs _ _).mono (fun r h c => ?_) (reference_run m' ρ')
  obtain ⟨e0, e1, e2, e3, e4⟩ := hagree c
  have hc := h c
  rw [e0, e1, e2, e3, e4] at hc
  rw [e0, e1, e2, e3, e4]
  exact hc

end Cert.Win

end
-- ==== Proof.Gain.Claims.lean ====
/-
  The claims about the update of a norm's gain: the frames, and the kernel's results equal to the reference's.
-/
module

public import proofs.«01_k».proof.Proof.Gen.GainKernelIdeal.Value
public import proofs.«01_k».proof.Proof.Gen.GainReferenceIdeal.Read
public import proofs.«01_k».proof.Proof.Gen.GainReferenceIdeal.Run
public import proofs.«01_k».proof.Proof.Gen.GainKernel
public import proofs.«01_k».proof.Proof.Gen.GainKernel.Frame
public import proofs.«01_k».proof.Defs
public import Idealize.ShloMosaic.Adequacy
public import Idealize.ShloMosaic.Init

@[expose] public section

set_option maxRecDepth 16384

noncomputable section

namespace Cert.Gain

open Idealize.ShloMosaic Idealize.SL.Sem

theorem frame_bits : Cert.quiescent_GainKernel := fun m ρ _ => Cert.GainKernel.Gen.frame m ρ

theorem frame_ideal : Cert.quiescent_GainKernelIdeal := fun m ρ _ => Cert.GainKernelIdeal.Gen.frame m ρ

theorem frame_reference : Cert.quiescent_GainReferenceIdeal := fun m ρ _ =>
  (θ_run Cert.GainReferenceIdeal.defs _ _).mono (fun r h => ⟨fun c => (h c).2.2.2,
      Idealize.ShloMosaic.sem_eq_zero_of_no_sems (by decide) r.2⟩)
    (Cert.GainReferenceIdeal.Value.run (F := Ideal) m ρ)

section Values
open Cert.GainKernelIdeal Cert.GainReferenceIdeal.Read

variable (w g m v : FVec Ideal S1x1024 .f32)

/-- The new first moment. -/
theorem moment_eq : Value.G5 (F := Ideal) g m = val_main_v4 (F := Ideal) g m := by
  funext i
  rw [val_main_v4_apply, val_main_v1_apply, val_main_v3_apply, val_main_v0_apply, val_main_v2_apply, val_main_cst_apply,
    val_main_cst_0_apply]

/-- The new second moment. -/
theorem second_eq : Value.G6 (F := Ideal) g v = val_main_v10 (F := Ideal) g v := by
  funext i
  rw [val_main_v10_apply, val_main_v6_apply, val_main_v9_apply, val_main_v7_apply, val_main_v5_apply, val_main_v8_apply,
    val_main_cst_1_apply, val_main_cst_2_apply]

/-- The step. -/
theorem delta_eq : Value.G4 (F := Ideal) w g m v = val_main_v23 (F := Ideal) w g m v := by
  funext i
  have h1 := congrFun (moment_eq g m) i
  have h2 := congrFun (second_eq g v) i
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, val_main_v12_apply, val_main_v11_apply, val_main_cst_3_apply,
    ← h1, ← h2]
  rfl

end Values

set_option maxHeartbeats 4000000 in
open Idealize.ShloMosaic.TcCoe Cert.GainKernelIdeal in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = Cert.GainReferenceIdeal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.GainReferenceIdeal.Read.val_main_v4 (F := Ideal) (m ((c : Thread nD τ).loc main_arg1)) (m ((c : Thread nD τ).loc main_arg2))
      ∧ r.2.mem ((c : Thread nD τ).loc main_v0_2) = Cert.GainReferenceIdeal.Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (delta_eq _ _ _ _), h1.trans (moment_eq _ _), h2.trans (second_eq _ _), ha⟩)
    (Value.run (F := Ideal) m ρ)

set_option maxHeartbeats 4000000 in
open Idealize.ShloMosaic.TcCoe Cert.GainReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v23) = Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4) = Read.val_main_v4 (F := Ideal) (m ((c : Thread nD τ).loc main_arg1)) (m ((c : Thread nD τ).loc main_arg2))
      ∧ r.2.mem ((c : Thread nD τ).loc main_v10) = Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (Read.val_main_v23_eq _ _ _ _), h1.trans (Read.val_main_v4_eq _ _), h2.trans (Read.val_main_v10_eq _ _), ha⟩)
    (Value.run (F := Ideal) m ρ)

set_option maxHeartbeats 4000000 in
theorem algebraic : Cert.algebraic_GainKernelIdeal_GainReferenceIdeal := by
  intro m ρ m' ρ' _ hagree
  refine ⟨_, _, _, kernel_run m ρ, ?_⟩
  refine (θ_run Cert.GainReferenceIdeal.defs _ _).mono (fun r h c => ?_) (reference_run m' ρ')
  obtain ⟨e0, e1, e2, e3⟩ := hagree c
  have hc := h c
  rw [e0, e1, e2, e3] at hc
  rw [e0, e1, e2, e3]
  exact hc

end Cert.Gain

end
-- ==== Proof.Gate.Claims.lean ====
/-
  The claims about the update of the low-rank gate's matrix: the frames, and the kernel's results equal to the reference's.
-/
module

public import proofs.«01_k».proof.Proof.Gen.GateKernelIdeal.Value
public import proofs.«01_k».proof.Proof.Gen.GateReferenceIdeal.Read
public import proofs.«01_k».proof.Proof.Gen.GateReferenceIdeal.Run
public import proofs.«01_k».proof.Proof.Gen.GateKernel
public import proofs.«01_k».proof.Proof.Gen.GateKernel.Frame
public import proofs.«01_k».proof.Defs
public import Idealize.ShloMosaic.Adequacy
public import Idealize.ShloMosaic.Init

@[expose] public section

set_option maxRecDepth 16384

noncomputable section

namespace Cert.Gate

open Idealize.ShloMosaic Idealize.SL.Sem

theorem frame_bits : Cert.quiescent_GateKernel := fun m ρ _ => Cert.GateKernel.Gen.frame m ρ

theorem frame_ideal : Cert.quiescent_GateKernelIdeal := fun m ρ _ => Cert.GateKernelIdeal.Gen.frame m ρ

theorem frame_reference : Cert.quiescent_GateReferenceIdeal := fun m ρ _ =>
  (θ_run Cert.GateReferenceIdeal.defs _ _).mono (fun r h => ⟨fun c => (h c).2.2.2,
      Idealize.ShloMosaic.sem_eq_zero_of_no_sems (by decide) r.2⟩)
    (Cert.GateReferenceIdeal.Value.run (F := Ideal) m ρ)

section Values
open Cert.GateKernelIdeal Cert.GateReferenceIdeal.Read

variable (w g m v : FVec Ideal S16x64 .f32)

/-- The new first moment. -/
theorem moment_eq : Value.G5 (F := Ideal) g m = val_main_v4 (F := Ideal) g m := by
  funext i
  rw [val_main_v4_apply, val_main_v1_apply, val_main_v3_apply, val_main_v0_apply, val_main_v2_apply, val_main_cst_apply,
    val_main_cst_0_apply]

/-- The new second moment. -/
theorem second_eq : Value.G6 (F := Ideal) g v = val_main_v10 (F := Ideal) g v := by
  funext i
  rw [val_main_v10_apply, val_main_v6_apply, val_main_v9_apply, val_main_v7_apply, val_main_v5_apply, val_main_v8_apply,
    val_main_cst_1_apply, val_main_cst_2_apply]

/-- The step. -/
theorem delta_eq : Value.G4 (F := Ideal) w g m v = val_main_v23 (F := Ideal) w g m v := by
  funext i
  have h1 := congrFun (moment_eq g m) i
  have h2 := congrFun (second_eq g v) i
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, val_main_v12_apply, val_main_v11_apply, val_main_cst_3_apply,
    ← h1, ← h2]
  rfl

end Values

set_option maxHeartbeats 4000000 in
open Idealize.ShloMosaic.TcCoe Cert.GateKernelIdeal in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = Cert.GateReferenceIdeal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.GateReferenceIdeal.Read.val_main_v4 (F := Ideal) (m ((c : Thread nD τ).loc main_arg1)) (m ((c : Thread nD τ).loc main_arg2))
      ∧ r.2.mem ((c : Thread nD τ).loc main_v0_2) = Cert.GateReferenceIdeal.Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (delta_eq _ _ _ _), h1.trans (moment_eq _ _), h2.trans (second_eq _ _), ha⟩)
    (Value.run (F := Ideal) m ρ)

set_option maxHeartbeats 4000000 in
open Idealize.ShloMosaic.TcCoe Cert.GateReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v23) = Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4) = Read.val_main_v4 (F := Ideal) (m ((c : Thread nD τ).loc main_arg1)) (m ((c : Thread nD τ).loc main_arg2))
      ∧ r.2.mem ((c : Thread nD τ).loc main_v10) = Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (Read.val_main_v23_eq _ _ _ _), h1.trans (Read.val_main_v4_eq _ _), h2.trans (Read.val_main_v10_eq _ _), ha⟩)
    (Value.run (F := Ideal) m ρ)

set_option maxHeartbeats 4000000 in
theorem algebraic : Cert.algebraic_GateKernelIdeal_GateReferenceIdeal := by
  intro m ρ m' ρ' _ hagree
  refine ⟨_, _, _, kernel_run m ρ, ?_⟩
  refine (θ_run Cert.GateReferenceIdeal.defs _ _).mono (fun r h c => ?_) (reference_run m' ρ')
  obtain ⟨e0, e1, e2, e3⟩ := hagree c
  have hc := h c
  rw [e0, e1, e2, e3] at hc
  rw [e0, e1, e2, e3]
  exact hc

end Cert.Gate

end
-- ==== Proof.GateB.Claims.lean ====
/-
  The claims about the update of the gate's bias: the frames, and the kernel's results equal to the reference's.
-/
module

public import proofs.«01_k».proof.Proof.Gen.GateBKernelIdeal.Value
public import proofs.«01_k».proof.Proof.Gen.GateBReferenceIdeal.Read
public import proofs.«01_k».proof.Proof.Gen.GateBReferenceIdeal.Run
public import proofs.«01_k».proof.Proof.Gen.GateBKernel
public import proofs.«01_k».proof.Proof.Gen.GateBKernel.Frame
public import proofs.«01_k».proof.Defs
public import Idealize.ShloMosaic.Adequacy
public import Idealize.ShloMosaic.Init

@[expose] public section

set_option maxRecDepth 16384

noncomputable section

namespace Cert.GateB

open Idealize.ShloMosaic Idealize.SL.Sem

theorem frame_bits : Cert.quiescent_GateBKernel := fun m ρ _ => Cert.GateBKernel.Gen.frame m ρ

theorem frame_ideal : Cert.quiescent_GateBKernelIdeal := fun m ρ _ => Cert.GateBKernelIdeal.Gen.frame m ρ

theorem frame_reference : Cert.quiescent_GateBReferenceIdeal := fun m ρ _ =>
  (θ_run Cert.GateBReferenceIdeal.defs _ _).mono (fun r h => ⟨fun c => (h c).2.2.2,
      Idealize.ShloMosaic.sem_eq_zero_of_no_sems (by decide) r.2⟩)
    (Cert.GateBReferenceIdeal.Value.run (F := Ideal) m ρ)

section Values
open Cert.GateBKernelIdeal Cert.GateBReferenceIdeal.Read

variable (w g m v : FVec Ideal S1x256 .f32)

/-- The new first moment. -/
theorem moment_eq : Value.G5 (F := Ideal) g m = val_main_v4 (F := Ideal) g m := by
  funext i
  rw [val_main_v4_apply, val_main_v1_apply, val_main_v3_apply, val_main_v0_apply, val_main_v2_apply, val_main_cst_apply,
    val_main_cst_0_apply]

/-- The new second moment. -/
theorem second_eq : Value.G6 (F := Ideal) g v = val_main_v10 (F := Ideal) g v := by
  funext i
  rw [val_main_v10_apply, val_main_v6_apply, val_main_v9_apply, val_main_v7_apply, val_main_v5_apply, val_main_v8_apply,
    val_main_cst_1_apply, val_main_cst_2_apply]

/-- The step. -/
theorem delta_eq : Value.G4 (F := Ideal) w g m v = val_main_v23 (F := Ideal) w g m v := by
  funext i
  have h1 := congrFun (moment_eq g m) i
  have h2 := congrFun (second_eq g v) i
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, val_main_v12_apply, val_main_v11_apply, val_main_cst_3_apply,
    ← h1, ← h2]
  rfl

end Values

set_option maxHeartbeats 4000000 in
open Idealize.ShloMosaic.TcCoe Cert.GateBKernelIdeal in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = Cert.GateBReferenceIdeal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.GateBReferenceIdeal.Read.val_main_v4 (F := Ideal) (m ((c : Thread nD τ).loc main_arg1)) (m ((c : Thread nD τ).loc main_arg2))
      ∧ r.2.mem ((c : Thread nD τ).loc main_v0_2) = Cert.GateBReferenceIdeal.Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (delta_eq _ _ _ _), h1.trans (moment_eq _ _), h2.trans (second_eq _ _), ha⟩)
    (Value.run (F := Ideal) m ρ)

set_option maxHeartbeats 4000000 in
open Idealize.ShloMosaic.TcCoe Cert.GateBReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v23) = Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4) = Read.val_main_v4 (F := Ideal) (m ((c : Thread nD τ).loc main_arg1)) (m ((c : Thread nD τ).loc main_arg2))
      ∧ r.2.mem ((c : Thread nD τ).loc main_v10) = Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (Read.val_main_v23_eq _ _ _ _), h1.trans (Read.val_main_v4_eq _ _), h2.trans (Read.val_main_v10_eq _ _), ha⟩)
    (Value.run (F := Ideal) m ρ)

set_option maxHeartbeats 4000000 in
theorem algebraic : Cert.algebraic_GateBKernelIdeal_GateBReferenceIdeal := by
  intro m ρ m' ρ' _ hagree
  refine ⟨_, _, _, kernel_run m ρ, ?_⟩
  refine (θ_run Cert.GateBReferenceIdeal.defs _ _).mono (fun r h c => ?_) (reference_run m' ρ')
  obtain ⟨e0, e1, e2, e3⟩ := hagree c
  have hc := h c
  rw [e0, e1, e2, e3] at hc
  rw [e0, e1, e2, e3]
  exact hc

end Cert.GateB

end
-- ==== Proof.GlaNorm.Claims.lean ====
/-
  The claims about the update of the mixer's norm gain: the frames, and the kernel's results equal to the reference's.
-/
module

public import proofs.«01_k».proof.Proof.Gen.GlaNormKernelIdeal.Value
public import proofs.«01_k».proof.Proof.Gen.GlaNormReferenceIdeal.Read
public import proofs.«01_k».proof.Proof.Gen.GlaNormReferenceIdeal.Run
public import proofs.«01_k».proof.Proof.Gen.GlaNormKernel
public import proofs.«01_k».proof.Proof.Gen.GlaNormKernel.Frame
public import proofs.«01_k».proof.Defs
public import Idealize.ShloMosaic.Adequacy
public import Idealize.ShloMosaic.Init

@[expose] public section

set_option maxRecDepth 16384

noncomputable section

namespace Cert.GlaNorm

open Idealize.ShloMosaic Idealize.SL.Sem

theorem frame_bits : Cert.quiescent_GlaNormKernel := fun m ρ _ => Cert.GlaNormKernel.Gen.frame m ρ

theorem frame_ideal : Cert.quiescent_GlaNormKernelIdeal := fun m ρ _ => Cert.GlaNormKernelIdeal.Gen.frame m ρ

theorem frame_reference : Cert.quiescent_GlaNormReferenceIdeal := fun m ρ _ =>
  (θ_run Cert.GlaNormReferenceIdeal.defs _ _).mono (fun r h => ⟨fun c => (h c).2.2.2,
      Idealize.ShloMosaic.sem_eq_zero_of_no_sems (by decide) r.2⟩)
    (Cert.GlaNormReferenceIdeal.Value.run (F := Ideal) m ρ)

section Values
open Cert.GlaNormKernelIdeal Cert.GlaNormReferenceIdeal.Read

variable (w g m v : FVec Ideal S1x512 .f32)

/-- The new first moment. -/
theorem moment_eq : Value.G5 (F := Ideal) g m = val_main_v4 (F := Ideal) g m := by
  funext i
  rw [val_main_v4_apply, val_main_v1_apply, val_main_v3_apply, val_main_v0_apply, val_main_v2_apply, val_main_cst_apply,
    val_main_cst_0_apply]

/-- The new second moment. -/
theorem second_eq : Value.G6 (F := Ideal) g v = val_main_v10 (F := Ideal) g v := by
  funext i
  rw [val_main_v10_apply, val_main_v6_apply, val_main_v9_apply, val_main_v7_apply, val_main_v5_apply, val_main_v8_apply,
    val_main_cst_1_apply, val_main_cst_2_apply]

/-- The step. -/
theorem delta_eq : Value.G4 (F := Ideal) w g m v = val_main_v23 (F := Ideal) w g m v := by
  funext i
  have h1 := congrFun (moment_eq g m) i
  have h2 := congrFun (second_eq g v) i
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, val_main_v12_apply, val_main_v11_apply, val_main_cst_3_apply,
    ← h1, ← h2]
  rfl

end Values

set_option maxHeartbeats 4000000 in
open Idealize.ShloMosaic.TcCoe Cert.GlaNormKernelIdeal in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = Cert.GlaNormReferenceIdeal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.GlaNormReferenceIdeal.Read.val_main_v4 (F := Ideal) (m ((c : Thread nD τ).loc main_arg1)) (m ((c : Thread nD τ).loc main_arg2))
      ∧ r.2.mem ((c : Thread nD τ).loc main_v0_2) = Cert.GlaNormReferenceIdeal.Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (delta_eq _ _ _ _), h1.trans (moment_eq _ _), h2.trans (second_eq _ _), ha⟩)
    (Value.run (F := Ideal) m ρ)

set_option maxHeartbeats 4000000 in
open Idealize.ShloMosaic.TcCoe Cert.GlaNormReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v23) = Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4) = Read.val_main_v4 (F := Ideal) (m ((c : Thread nD τ).loc main_arg1)) (m ((c : Thread nD τ).loc main_arg2))
      ∧ r.2.mem ((c : Thread nD τ).loc main_v10) = Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (Read.val_main_v23_eq _ _ _ _), h1.trans (Read.val_main_v4_eq _ _), h2.trans (Read.val_main_v10_eq _ _), ha⟩)
    (Value.run (F := Ideal) m ρ)

set_option maxHeartbeats 4000000 in
theorem algebraic : Cert.algebraic_GlaNormKernelIdeal_GlaNormReferenceIdeal := by
  intro m ρ m' ρ' _ hagree
  refine ⟨_, _, _, kernel_run m ρ, ?_⟩
  refine (θ_run Cert.GlaNormReferenceIdeal.defs _ _).mono (fun r h c => ?_) (reference_run m' ρ')
  obtain ⟨e0, e1, e2, e3⟩ := hagree c
  have hc := h c
  rw [e0, e1, e2, e3] at hc
  rw [e0, e1, e2, e3]
  exact hc

end Cert.GlaNorm

end
-- ==== Proof.Rel.Claims.lean ====
/-
  The claims about the update of the relative position table: the frames, and the kernel's results equal to the reference's.
-/
module

public import proofs.«01_k».proof.Proof.Gen.RelKernelIdeal.Value
public import proofs.«01_k».proof.Proof.Gen.RelReferenceIdeal.Read
public import proofs.«01_k».proof.Proof.Gen.RelReferenceIdeal.Run
public import proofs.«01_k».proof.Proof.Gen.RelKernel
public import proofs.«01_k».proof.Proof.Gen.RelKernel.Frame
public import proofs.«01_k».proof.Defs
public import Idealize.ShloMosaic.Adequacy
public import Idealize.ShloMosaic.Init

@[expose] public section

set_option maxRecDepth 16384

noncomputable section

namespace Cert.Rel

open Idealize.ShloMosaic Idealize.SL.Sem

theorem frame_bits : Cert.quiescent_RelKernel := fun m ρ _ => Cert.RelKernel.Gen.frame m ρ

theorem frame_ideal : Cert.quiescent_RelKernelIdeal := fun m ρ _ => Cert.RelKernelIdeal.Gen.frame m ρ

theorem frame_reference : Cert.quiescent_RelReferenceIdeal := fun m ρ _ =>
  (θ_run Cert.RelReferenceIdeal.defs _ _).mono (fun r h => ⟨fun c => (h c).2.2.2,
      Idealize.ShloMosaic.sem_eq_zero_of_no_sems (by decide) r.2⟩)
    (Cert.RelReferenceIdeal.Value.run (F := Ideal) m ρ)

section Values
open Cert.RelKernelIdeal Cert.RelReferenceIdeal.Read

variable (w g m v : FVec Ideal S32x8 .f32)

/-- The new first moment. -/
theorem moment_eq : Value.G5 (F := Ideal) g m = val_main_v4 (F := Ideal) g m := by
  funext i
  rw [val_main_v4_apply, val_main_v1_apply, val_main_v3_apply, val_main_v0_apply, val_main_v2_apply, val_main_cst_apply,
    val_main_cst_0_apply]

/-- The new second moment. -/
theorem second_eq : Value.G6 (F := Ideal) g v = val_main_v10 (F := Ideal) g v := by
  funext i
  rw [val_main_v10_apply, val_main_v6_apply, val_main_v9_apply, val_main_v7_apply, val_main_v5_apply, val_main_v8_apply,
    val_main_cst_1_apply, val_main_cst_2_apply]

/-- The step. -/
theorem delta_eq : Value.G4 (F := Ideal) w g m v = val_main_v23 (F := Ideal) w g m v := by
  funext i
  have h1 := congrFun (moment_eq g m) i
  have h2 := congrFun (second_eq g v) i
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, val_main_v12_apply, val_main_v11_apply, val_main_cst_3_apply,
    ← h1, ← h2]
  rfl

end Values

set_option maxHeartbeats 4000000 in
open Idealize.ShloMosaic.TcCoe Cert.RelKernelIdeal in
/-- The kernel's results are the reference's stages of the kernel's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = Cert.RelReferenceIdeal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.RelReferenceIdeal.Read.val_main_v4 (F := Ideal) (m ((c : Thread nD τ).loc main_arg1)) (m ((c : Thread nD τ).loc main_arg2))
      ∧ r.2.mem ((c : Thread nD τ).loc main_v0_2) = Cert.RelReferenceIdeal.Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (delta_eq _ _ _ _), h1.trans (moment_eq _ _), h2.trans (second_eq _ _), ha⟩)
    (Value.run (F := Ideal) m ρ)

set_option maxHeartbeats 4000000 in
open Idealize.ShloMosaic.TcCoe Cert.RelReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v23) = Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4) = Read.val_main_v4 (F := Ideal) (m ((c : Thread nD τ).loc main_arg1)) (m ((c : Thread nD τ).loc main_arg2))
      ∧ r.2.mem ((c : Thread nD τ).loc main_v10) = Read.val_main_v10 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h0, h1, h2, ha⟩ := h c
    exact ⟨h0.trans (Read.val_main_v23_eq _ _ _ _), h1.trans (Read.val_main_v4_eq _ _), h2.trans (Read.val_main_v10_eq _ _), ha⟩)
    (Value.run (F := Ideal) m ρ)

set_option maxHeartbeats 4000000 in
theorem algebraic : Cert.algebraic_RelKernelIdeal_RelReferenceIdeal := by
  intro m ρ m' ρ' _ hagree
  refine ⟨_, _, _, kernel_run m ρ, ?_⟩
  refine (θ_run Cert.RelReferenceIdeal.defs _ _).mono (fun r h c => ?_) (reference_run m' ρ')
  obtain ⟨e0, e1, e2, e3⟩ := hagree c
  have hc := h c
  rw [e0, e1, e2, e3] at hc
  rw [e0, e1, e2, e3]
  exact hc

end Cert.Rel

end
-- ==== Proof.Total.Claims.lean ====
/-
  The claims about the sum of the devices' packed small results: the frames, and the kernel's result equal to the reference's.
-/
module

public import proofs.«01_k».proof.Proof.Gen.TotalKernelIdeal.Value
public import proofs.«01_k».proof.Proof.Gen.TotalReferenceIdeal.Read
public import proofs.«01_k».proof.Proof.Gen.TotalReferenceIdeal.Run
public import proofs.«01_k».proof.Proof.Gen.TotalKernel
public import proofs.«01_k».proof.Proof.Gen.TotalKernel.Frame
public import proofs.«01_k».proof.Defs
public import Idealize.ShloMosaic.Adequacy
public import Idealize.ShloMosaic.Init

@[expose] public section

set_option maxRecDepth 16384

noncomputable section

namespace Cert.Total

open Idealize.ShloMosaic Idealize.SL.Sem

theorem frame_bits : Cert.quiescent_TotalKernel := fun m ρ _ => Cert.TotalKernel.Gen.frame m ρ

theorem frame_ideal : Cert.quiescent_TotalKernelIdeal := fun m ρ _ => Cert.TotalKernelIdeal.Gen.frame m ρ

theorem frame_reference : Cert.quiescent_TotalReferenceIdeal := fun m ρ _ =>
  (θ_run Cert.TotalReferenceIdeal.defs _ _).mono (fun r h => ⟨fun c => (h c).2,
      Idealize.ShloMosaic.sem_eq_zero_of_no_sems (by decide) r.2⟩)
    (Cert.TotalReferenceIdeal.Value.run (F := Ideal) m ρ)

section Values
open Cert.TotalKernelIdeal Cert.TotalKernelIdeal.Gen Cert.TotalReferenceIdeal.Read
open scoped BigOperators

variable (a : Vec Ideal S8x72x128 .f32)

theorem slab_0 (x : S72x128.Idx) : (View.ld a r0_0 : Vec Ideal S1x72x128 .f32) (Value.ix1_0 (r0_8.idx x)) = a (idx_main_v0 x 0) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_1 (x : S72x128.Idx) : (View.ld a r0_1 : Vec Ideal S1x72x128 .f32) (Value.ix1_1 (r0_8.idx x)) = a (idx_main_v0 x 1) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_2 (x : S72x128.Idx) : (View.ld a r0_2 : Vec Ideal S1x72x128 .f32) (Value.ix1_2 (r0_8.idx x)) = a (idx_main_v0 x 2) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_3 (x : S72x128.Idx) : (View.ld a r0_3 : Vec Ideal S1x72x128 .f32) (Value.ix1_3 (r0_8.idx x)) = a (idx_main_v0 x 3) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_4 (x : S72x128.Idx) : (View.ld a r0_4 : Vec Ideal S1x72x128 .f32) (Value.ix1_4 (r0_8.idx x)) = a (idx_main_v0 x 4) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_5 (x : S72x128.Idx) : (View.ld a r0_5 : Vec Ideal S1x72x128 .f32) (Value.ix1_5 (r0_8.idx x)) = a (idx_main_v0 x 5) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_6 (x : S72x128.Idx) : (View.ld a r0_6 : Vec Ideal S1x72x128 .f32) (Value.ix1_6 (r0_8.idx x)) = a (idx_main_v0 x 6) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

theorem slab_7 (x : S72x128.Idx) : (View.ld a r0_7 : Vec Ideal S1x72x128 .f32) (Value.ix1_7 (r0_8.idx x)) = a (idx_main_v0 x 7) :=
  congrArg a (funext fun b => Fin.ext (by
    match b with
    | ⟨0, _⟩ => rfl
    | ⟨1, _⟩ => show 0 + 1 * (0 + 1 * (x 0).val) = (x 0).val; omega
    | ⟨2, _⟩ => show 0 + 1 * (0 + 1 * (x 1).val) = (x 1).val; omega))

/-- The call's value at an index. -/
theorem pay_at (P0 P1 P2 P3 P4 P5 P6 P7 : Vec Ideal S1x72x128 .f32) (x : S72x128.Idx) :
    k0_pay1 (F := Ideal) P0 P1 P2 P3 P4 P5 P6 P7 x = ( (P0 (Value.ix1_0 (r0_8.idx x)) : EReal) + (P1 (Value.ix1_1 (r0_8.idx x)) : EReal) + (P2 (Value.ix1_2 (r0_8.idx x)) : EReal) + (P3 (Value.ix1_3 (r0_8.idx x)) : EReal) + (P4 (Value.ix1_4 (r0_8.idx x)) : EReal) + (P5 (Value.ix1_5 (r0_8.idx x)) : EReal) + (P6 (Value.ix1_6 (r0_8.idx x)) : EReal) + (P7 (Value.ix1_7 (r0_8.idx x)) : EReal) ) :=
  Value.piece1_0 (F := Ideal) P0 P1 P2 P3 P4 P5 P6 P7 x

/-- The eight slots added one after the other are their sum. -/
theorem total_eq : Value.G1 (F := Ideal) a = val_main_v0 (F := Ideal) a := by
  funext x
  rw [val_main_v0_apply, val_main_cst_apply, Fin.sum_univ_eight]
  refine (pay_at (View.ld a r0_0) (View.ld a r0_1) (View.ld a r0_2) (View.ld a r0_3) (View.ld a r0_4) (View.ld a r0_5) (View.ld a r0_6) (View.ld a r0_7) x).trans ?_
  refine Eq.trans ?_ (congrArg (· + _) Ideal.ofBits_zero_f32).symm
  rw [zero_add, slab_0, slab_1, slab_2, slab_3, slab_4, slab_5, slab_6, slab_7]

end Values

set_option maxHeartbeats 4000000 in
open Idealize.ShloMosaic.TcCoe Cert.TotalKernelIdeal in
/-- The kernel's result is the reference's stage of the kernel's argument. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0) = Cert.TotalReferenceIdeal.Read.val_main_v0 (F := Ideal) (m ((c : Thread nD τ).loc main_arg0))
      ∧ r.2.mem ((c : Thread nD τ).loc main_arg0) = m ((c : Thread nD τ).loc main_arg0)) :=
  (θ_run defs _ _).mono (fun r h c => ⟨(h c).1.trans (total_eq _), (h c).2⟩) (Value.run (F := Ideal) m ρ)

set_option maxHeartbeats 4000000 in
open Idealize.ShloMosaic.TcCoe Cert.TotalReferenceIdeal in
/-- The reference's result is the stage of its argument. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v0) = Read.val_main_v0 (F := Ideal) (m ((c : Thread nD τ).loc main_arg0))
      ∧ r.2.mem ((c : Thread nD τ).loc main_arg0) = m ((c : Thread nD τ).loc main_arg0)) :=
  (θ_run defs _ _).mono (fun r h c => ⟨(h c).1.trans (Read.val_main_v0_eq _), (h c).2⟩) (Value.run (F := Ideal) m ρ)

set_option maxHeartbeats 4000000 in
theorem algebraic : Cert.algebraic_TotalKernelIdeal_TotalReferenceIdeal := by
  intro m ρ m' ρ' _ hagree
  refine ⟨_, kernel_run m ρ, ?_⟩
  refine (θ_run Cert.TotalReferenceIdeal.defs _ _).mono (fun r h c => ?_) (reference_run m' ρ')
  have e0 := hagree c
  have hc := h c
  rw [e0] at hc
  rw [e0]
  exact hc

end Cert.Total

end
-- ==== Proof.OutUpd.Block.lean ====
/-
  The summed update: what a grid point writes, from its blocks and the pair of words.
-/
module

public import proofs.«01_k».proof.Proof.Gen.OutUpdKernelIdeal.Frame
public import proofs.«01_k».proof.Proof.Cover
public import Idealize.ShloMosaic.PureOps.Ideal.Laws

@[expose] public section

set_option maxRecDepth 16384

noncomputable section

namespace Cert.OutUpd

open Cert.OutUpdKernelIdeal Cert.OutUpdKernelIdeal.Gen Cert.Cover Idealize.ShloMosaic Idealize.ShloMosaic.TcCoe
  Idealize.ShloMosaic.ValueIdx
open scoped BigOperators

/-- What slot `k` adds: the chip's own share in its own slot, else what lies in the slot. -/
def pick (w : BitVec 32) (k : Fin 8) (own p : EReal) : EReal := Scalar.select (IntOp.cmpi .eq (BitVec.ofNat 32 k.val) w) own p

/-- The first word of the pair, as the kernel reads it. -/
def word (c : Dev nD) (xt0 : TbBuf0 (F := Ideal) c tbM0_0) : BitVec 32 :=
  View.ld (View.read (Elt Ideal) (View.whole main_arg2) xt0) (Rect.unit (s := S2) ![0] ![1] inb_S2_S1_0) (Shape.Idx.first (by decide))

/-- The gradient of a block. -/
def grad (w : BitVec 32) (x0 : Vec Ideal S8x128x1024 .bf16) (x1 : Vec Ideal S1x128x1024 .bf16) : FVec Ideal S128x1024 .f32 :=
  k0_pay6 (F := Ideal) (k0_pay4 x1)
    (k0_pay5 x1 w (View.ld x0 (Rect.unit (s := S8x128x1024) ![0, 0, 0] ![1, 128, 1024] inb_S8x128x1024_S1x128x1024_0_0_0))
      w (View.ld x0 (Rect.unit (s := S8x128x1024) ![1, 0, 0] ![1, 128, 1024] inb_S8x128x1024_S1x128x1024_1_0_0))
      w (View.ld x0 (Rect.unit (s := S8x128x1024) ![2, 0, 0] ![1, 128, 1024] inb_S8x128x1024_S1x128x1024_2_0_0))
      w (View.ld x0 (Rect.unit (s := S8x128x1024) ![3, 0, 0] ![1, 128, 1024] inb_S8x128x1024_S1x128x1024_3_0_0)))
    w 4#32 (View.ld x0 (Rect.unit (s := S8x128x1024) ![4, 0, 0] ![1, 128, 1024] inb_S8x128x1024_S1x128x1024_4_0_0))
    w (View.ld x0 (Rect.unit (s := S8x128x1024) ![5, 0, 0] ![1, 128, 1024] inb_S8x128x1024_S1x128x1024_5_0_0))
    w (View.ld x0 (Rect.unit (s := S8x128x1024) ![6, 0, 0] ![1, 128, 1024] inb_S8x128x1024_S1x128x1024_6_0_0))
    w (View.ld x0 (Rect.unit (s := S8x128x1024) ![7, 0, 0] ![1, 128, 1024] inb_S8x128x1024_S1x128x1024_7_0_0))

theorem out_5 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0
      = grad (word c xt0) x0 x1 := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

theorem out_6 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0
      = k0_pay3 (F := Ideal) (grad (word c xt0) x0 x1) x2 x3 x4 k0_pay7 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

theorem out_7 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0
      = k0_pay1 (F := Ideal) (grad (word c xt0) x0 x1) x3 k0_pay7 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

theorem out_8 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0
      = k0_pay2 (F := Ideal) (grad (word c xt0) x0 x1) x4 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

/-- A choice between two arrays, read at an index. -/
theorem select_at {S : Shape} (b : BitVec 1) (x y : FVec Ideal S .f32) (i : S.Idx) :
    (Scalar.select b x y : FVec Ideal S .f32) i = Scalar.select b (x i) (y i) := by
  unfold Scalar.select
  split <;> rfl

/-- A block of one slab, as a matrix. -/
theorem slab_at (x : Vec Ideal S1x128x1024 .bf16) (r : Fin 128) (j : Fin 1024) :
    k0_pay4 (F := Ideal) x (ix2 r j) = x (ix3 0 r j) := by
  unfold k0_pay4
  refine (shapeCast_apply x _ _ (ix3 0 r j : S1x128x1024.Idx) ?_)
  rw [Shape.rowMajor_val_three, Shape.rowMajor_val_two]
  show (0 * 128 + r.val) * 1024 + j.val = r.val * 1024 + j.val
  omega

theorem eq_comm_word (w : BitVec 32) (k : ℕ) : Scalar.cmpi .eq w (BitVec.ofNat 32 k) = IntOp.cmpi .eq (BitVec.ofNat 32 k) w := by
  show BitVec.ofBool (w == BitVec.ofNat 32 k) = BitVec.ofBool (BitVec.ofNat 32 k == w)
  rw [Bool.beq_comm]

theorem ld_0 (x : Vec Ideal S8x128x1024 .bf16) (r : Fin 128) (j : Fin 1024) :
    (View.ld x (Rect.unit (s := S8x128x1024) ![0, 0, 0] ![1, 128, 1024] inb_S8x128x1024_S1x128x1024_0_0_0) : Vec Ideal S1x128x1024 .bf16) (ix3 0 r j) = x (ix3 0 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_1 (x : Vec Ideal S8x128x1024 .bf16) (r : Fin 128) (j : Fin 1024) :
    (View.ld x (Rect.unit (s := S8x128x1024) ![1, 0, 0] ![1, 128, 1024] inb_S8x128x1024_S1x128x1024_1_0_0) : Vec Ideal S1x128x1024 .bf16) (ix3 0 r j) = x (ix3 1 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_2 (x : Vec Ideal S8x128x1024 .bf16) (r : Fin 128) (j : Fin 1024) :
    (View.ld x (Rect.unit (s := S8x128x1024) ![2, 0, 0] ![1, 128, 1024] inb_S8x128x1024_S1x128x1024_2_0_0) : Vec Ideal S1x128x1024 .bf16) (ix3 0 r j) = x (ix3 2 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_3 (x : Vec Ideal S8x128x1024 .bf16) (r : Fin 128) (j : Fin 1024) :
    (View.ld x (Rect.unit (s := S8x128x1024) ![3, 0, 0] ![1, 128, 1024] inb_S8x128x1024_S1x128x1024_3_0_0) : Vec Ideal S1x128x1024 .bf16) (ix3 0 r j) = x (ix3 3 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_4 (x : Vec Ideal S8x128x1024 .bf16) (r : Fin 128) (j : Fin 1024) :
    (View.ld x (Rect.unit (s := S8x128x1024) ![4, 0, 0] ![1, 128, 1024] inb_S8x128x1024_S1x128x1024_4_0_0) : Vec Ideal S1x128x1024 .bf16) (ix3 0 r j) = x (ix3 4 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_5 (x : Vec Ideal S8x128x1024 .bf16) (r : Fin 128) (j : Fin 1024) :
    (View.ld x (Rect.unit (s := S8x128x1024) ![5, 0, 0] ![1, 128, 1024] inb_S8x128x1024_S1x128x1024_5_0_0) : Vec Ideal S1x128x1024 .bf16) (ix3 0 r j) = x (ix3 5 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_6 (x : Vec Ideal S8x128x1024 .bf16) (r : Fin 128) (j : Fin 1024) :
    (View.ld x (Rect.unit (s := S8x128x1024) ![6, 0, 0] ![1, 128, 1024] inb_S8x128x1024_S1x128x1024_6_0_0) : Vec Ideal S1x128x1024 .bf16) (ix3 0 r j) = x (ix3 6 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_7 (x : Vec Ideal S8x128x1024 .bf16) (r : Fin 128) (j : Fin 1024) :
    (View.ld x (Rect.unit (s := S8x128x1024) ![7, 0, 0] ![1, 128, 1024] inb_S8x128x1024_S1x128x1024_7_0_0) : Vec Ideal S1x128x1024 .bf16) (ix3 0 r j) = x (ix3 7 r j) :=
  congrArg x (funext fun b => Fin.ext (by
    match b with
    | ⟨0, _⟩ => rfl
    | ⟨1, _⟩ => show 0 + 1 * r.val = r.val; omega
    | ⟨2, _⟩ => show 0 + 1 * j.val = j.val; omega))

/-- The gradient of a block, at a row and a column. -/
theorem grad_at (w : BitVec 32) (x0 : Vec Ideal S8x128x1024 .bf16) (x1 : Vec Ideal S1x128x1024 .bf16) (r : Fin 128) (j : Fin 1024) :
    grad w x0 x1 (ix2 r j) = ∑ k : Fin 8, pick w k (x1 (ix3 0 r j)) (x0 (ix3 k r j)) := by
  have step (s : ℕ) (k : Fin 8) (hk : k.val = s) (p : Vec Ideal S1x128x1024 .bf16) (hp : p (ix3 0 r j) = x0 (ix3 k r j)) :
      (Scalar.select (Scalar.cmpi .eq w (BitVec.ofNat 32 s)) (k0_pay4 (F := Ideal) x1) (k0_pay4 (F := Ideal) p) : FVec Ideal S128x1024 .f32) (ix2 r j)
        = pick w k (x1 (ix3 0 r j)) (x0 (ix3 k r j)) := by
    rw [select_at, slab_at, slab_at, hp, eq_comm_word]
    subst hk
    rfl
  rw [Fin.sum_univ_eight,
    ← step 0 0 rfl _ (ld_0 x0 r j), ← step 1 1 rfl _ (ld_1 x0 r j), ← step 2 2 rfl _ (ld_2 x0 r j), ← step 3 3 rfl _ (ld_3 x0 r j),
    ← step 4 4 rfl _ (ld_4 x0 r j), ← step 5 5 rfl _ (ld_5 x0 r j), ← step 6 6 rfl _ (ld_6 x0 r j), ← step 7 7 rfl _ (ld_7 x0 r j)]
  unfold grad k0_pay6 k0_pay5
  refine Eq.trans (b := (Scalar.ofBits (F := Ideal) .f32 0x00000000#32 : EReal) + _ + _ + _ + _ + _ + _ + _ + _) rfl ?_
  have hz : (Scalar.ofBits (F := Ideal) .f32 0x00000000#32 : EReal) = 0 := Ideal.ofBits_zero_f32
  rw [hz, zero_add]
  rfl

end Cert.OutUpd

end
-- ==== Proof.OutUpd.Ref.lean ====
/-
  The summed update's gradient in the reference, read at an index: a sum over the eight slots.
-/
module

public import proofs.«01_k».proof.Proof.Gen.OutUpdReferenceIdeal.Read
public import proofs.«01_k».proof.Proof.Cover
public import proofs.«01_k».proof.Proof.OutUpd.Block

@[expose] public section

set_option maxRecDepth 16384

noncomputable section

namespace Cert.OutUpd.Ref

open Cert.OutUpdReferenceIdeal Cert.OutUpdReferenceIdeal.Read Cert.OutUpdReferenceIdeal.Gen Cert.Cover Idealize.ShloMosaic Idealize.ShloMosaic.TcCoe
  Idealize.ShloMosaic.ValueIdx
open scoped BigOperators

/-- One word of the pair. -/
def at0 : S2.Idx := fun a => match a with
  | ⟨0, _⟩ => ⟨0, by show 0 < 2; omega⟩

def at1 : S2.Idx := fun a => match a with
  | ⟨0, _⟩ => ⟨1, by show 1 < 2; omega⟩

variable (x0 : FVec Ideal S8x256x1024 .bf16) (x1 : FVec Ideal S4x256x1024 .bf16) (x2 : IVec S2 32)

theorem chip_at (i : S_.Idx) : val_main_v23 (F := Ideal) x2 i = x2 at0 := by
  unfold val_main_v23
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v22_apply]
  refine congrArg x2 (funext fun a => Fin.ext ?_)
  match a with
  | ⟨0, _⟩ => rfl

theorem share0_at (i : S_.Idx) : val_main_v1 (F := Ideal) x2 i = x2 at1 := by
  unfold val_main_v1
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v0_apply]
  refine congrArg x2 (funext fun a => Fin.ext ?_)
  match a with
  | ⟨0, _⟩ => rfl

theorem share1_at (i : S_.Idx) : val_main_v6 (F := Ideal) x2 i = x2 at1 := by
  unfold val_main_v6
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v5_apply]
  refine congrArg x2 (funext fun a => Fin.ext ?_)
  match a with
  | ⟨0, _⟩ => rfl

theorem share2_at (i : S_.Idx) : val_main_v11 (F := Ideal) x2 i = x2 at1 := by
  unfold val_main_v11
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v10_apply]
  refine congrArg x2 (funext fun a => Fin.ext ?_)
  match a with
  | ⟨0, _⟩ => rfl

theorem slab0_at (i : Fin 256) (j : Fin 1024) : val_main_v4 (F := Ideal) x1 (ix2 i j) = x1 (ix3 0 i j) := by
  rw [val_main_v4_apply, val_main_v3_apply]
  refine congrArg x1 (funext fun a => Fin.ext ?_)
  have hi := i.isLt
  have hj := j.isLt
  match a with
  | ⟨0, _⟩ =>
    first
      | rfl
      | (show 0 + 0 = 0; rfl)
  | ⟨1, _⟩ =>
    show (i.val * 1024 + j.val) / 1024 % 256 = i.val
    omega
  | ⟨2, _⟩ =>
    show (i.val * 1024 + j.val) % 1024 = j.val
    omega

theorem slab1_at (i : Fin 256) (j : Fin 1024) : val_main_v9 (F := Ideal) x1 (ix2 i j) = x1 (ix3 1 i j) := by
  rw [val_main_v9_apply, val_main_v8_apply]
  refine congrArg x1 (funext fun a => Fin.ext ?_)
  have hi := i.isLt
  have hj := j.isLt
  match a with
  | ⟨0, _⟩ =>
    first
      | rfl
      | (show 1 + 0 = 1; rfl)
  | ⟨1, _⟩ =>
    show (i.val * 1024 + j.val) / 1024 % 256 = i.val
    omega
  | ⟨2, _⟩ =>
    show (i.val * 1024 + j.val) % 1024 = j.val
    omega

theorem slab2_at (i : Fin 256) (j : Fin 1024) : val_main_v14 (F := Ideal) x1 (ix2 i j) = x1 (ix3 2 i j) := by
  rw [val_main_v14_apply, val_main_v13_apply]
  refine congrArg x1 (funext fun a => Fin.ext ?_)
  have hi := i.isLt
  have hj := j.isLt
  match a with
  | ⟨0, _⟩ =>
    first
      | rfl
      | (show 2 + 0 = 2; rfl)
  | ⟨1, _⟩ =>
    show (i.val * 1024 + j.val) / 1024 % 256 = i.val
    omega
  | ⟨2, _⟩ =>
    show (i.val * 1024 + j.val) % 1024 = j.val
    omega

theorem slab3_at (i : Fin 256) (j : Fin 1024) : val_main_v16 (F := Ideal) x1 (ix2 i j) = x1 (ix3 3 i j) := by
  rw [val_main_v16_apply, val_main_v15_apply]
  refine congrArg x1 (funext fun a => Fin.ext ?_)
  have hi := i.isLt
  have hj := j.isLt
  match a with
  | ⟨0, _⟩ =>
    first
      | rfl
      | (show 3 + 0 = 3; rfl)
  | ⟨1, _⟩ =>
    show (i.val * 1024 + j.val) / 1024 % 256 = i.val
    omega
  | ⟨2, _⟩ =>
    show (i.val * 1024 + j.val) % 1024 = j.val
    omega

/-- A choice between two arrays on one flag, read at an index. -/
theorem where_at (b : IVec S_ 1) (x y : FVec Ideal S256x1024 .bf16) (z : BitVec 1) (hz : ∀ i, b i = z) (i : S256x1024.Idx) :
    (select (broadcastInDim S256x1024 ![] bcast_S_S256x1024 b) x y : FVec Ideal S256x1024 .bf16) i = Scalar.select z (x i) (y i) := by
  refine Eq.trans (b := Scalar.select (b (fun a => a.elim0)) (x i) (y i)) ?_ (by rw [hz])
  show Scalar.select (broadcastInDim S256x1024 ![] bcast_S_S256x1024 b i) (x i) (y i) = _
  rw [broadcastInDim_apply _ bcast_S_S256x1024 _ i (fun a => a.elim0) (fun a => a.elim0)]

theorem word_eq (w : BitVec 32) (n : Fin 4) (h0 : w.toInt = n.val) : w = BitVec.ofNat 32 n.val := by
  apply BitVec.eq_of_toInt_eq
  rw [h0]
  clear h0
  revert n
  decide

/-- The chip's own share, at a row and a column. -/
theorem own_at (n : Fin 4) (h0 : (x2 at1).toInt = n.val) (i : Fin 256) (j : Fin 1024) :
    val_main_v19 (F := Ideal) x1 x2 (ix2 i j) = x1 (ix3 n i j) := by
  have hw := word_eq _ n h0
  unfold val_main_v19
  rw [where_at _ _ _ (IntOp.cmpi .eq (x2 at1) 0#32) (fun i => by rw [val_main_v2_apply, share0_at, val_main_c_apply])]
  unfold val_main_v18
  rw [where_at _ _ _ (IntOp.cmpi .eq (x2 at1) 1#32) (fun i => by rw [val_main_v7_apply, share1_at, val_main_c_0_apply])]
  unfold val_main_v17
  rw [where_at _ _ _ (IntOp.cmpi .eq (x2 at1) 2#32) (fun i => by rw [val_main_v12_apply, share2_at, val_main_c_1_apply])]
  rw [slab0_at, slab1_at, slab2_at, slab3_at, hw]
  match n with
  | 0 => rfl
  | 1 => rfl
  | 2 => rfl
  | 3 => rfl

/-- The gradient at a row and a column. -/
theorem grad_at (n : Fin 4) (h0 : (x2 at1).toInt = n.val) (i : Fin 256) (j : Fin 1024) :
    val_main_v29 (F := Ideal) x0 x1 x2 (ix2 i j) = ∑ k : Fin 8, pick (x2 at0) k (x1 (ix3 n i j)) (x0 (ix3 k i j)) := by
  rw [val_main_v29_apply, val_main_cst_apply]
  refine (congrArg (· + _) Ideal.ofBits_zero_f32).trans ((zero_add _).trans (Finset.sum_congr rfl fun k _ => ?_))
  rw [val_main_v28_apply, val_main_v27_apply, val_main_call3_v0_apply, val_main_v25_apply, val_main_v21_apply, val_main_v20_apply,
    val_main_v24_apply, chip_at, val_main_call3_v1_apply, val_main_v26_apply]
  have e : (idx_main_v26 (idx_main_call3_v1 (idx_main_v29 (ix2 i j) k)) : S256x1024.Idx) = ix2 i j := by
    funext a
    apply Fin.ext
    match a with
    | ⟨0, _⟩ => rfl
    | ⟨1, _⟩ => rfl
  rw [e, own_at x1 x2 n h0 i j]
  have e' : (idx_main_v29 (ix2 i j) k : S8x256x1024.Idx) = ix3 k i j := by
    funext a
    apply Fin.ext
    match a with
    | ⟨0, _⟩ => rfl
    | ⟨1, _⟩ => rfl
    | ⟨2, _⟩ => rfl
  rw [e']
  rfl

end Cert.OutUpd.Ref

end
-- ==== Proof.OutUpd.Chip.lean ====
/-
  What the precondition says: the second word of the pair is one of the four share numbers.
-/
module

public import proofs.«01_k».proof.Proof.Gen.Pre_outupd_chip
public import proofs.«01_k».proof.Proof.Gen.OutUpdKernel.Frame
public import proofs.«01_k».proof.Proof.Gen.OutUpdKernelIdeal.Frame
public import Idealize.ShloMosaic.Lib.StableHlo.Predicate
public import Idealize.ShloMosaic.Lib.Pipeline.Value
public import Idealize.ShloMosaic.PureOps.BitExact
public import Idealize.ShloMosaic.PureOps.Ideal

@[expose] public section

set_option maxRecDepth 16384

noncomputable section

namespace Cert.OutUpd

open Idealize.ShloMosaic Idealize.ShloMosaic.TcCoe

/-- The place of the second word. -/
def at1 : Cert.Pre_outupd_chip.S2.Idx := fun a => match a with
  | ⟨0, _⟩ => ⟨1, by show 1 < 2; omega⟩

theorem share_bound {F : FTy → Type} [FloatOps F] (a0 : FVec F Cert.Pre_outupd_chip.S8x256x1024 .bf16) (a1 : FVec F Cert.Pre_outupd_chip.S4x256x1024 .bf16)
    (a2 : IVec Cert.Pre_outupd_chip.S2 32) (a3 a4 a5 : FVec F Cert.Pre_outupd_chip.S256x1024 .f32)
    (h : Cert.Pre_outupd_chip.fn (F := F) a0 a1 a2 a3 a4 a5 = fun _ => 1#1) :
    0 ≤ (a2 at1).toInt ∧ (a2 at1).toInt ≤ 3 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h (fun a => a.elim0)
  have e : (shapeCast Cert.Pre_outupd_chip.S_ (extractStridedSlice Cert.Pre_outupd_chip.S1 ![1] a2 Cert.Pre_outupd_chip.Facts.slices_S2_S1_1)
      Cert.Pre_outupd_chip.Facts.shapeCasts_S1_S_ : IVec Cert.Pre_outupd_chip.S_ 32) (fun a => a.elim0) = a2 at1 := by
    refine (shapeCast_apply _ _ _ (fun a => match a with | ⟨0, _⟩ => ⟨0, by show 0 < 1; omega⟩ : Cert.Pre_outupd_chip.S1.Idx) ?_).trans
      (extractStridedSlice_apply _ _ _ _ at1 (fun a => ?_))
    · decide
    · match a with
      | ⟨0, _⟩ => rfl
  simp only [Cert.Pre_outupd_chip.fn, constantI, cmpi, andi, andi_one] at pre
  rw [e] at pre
  simp only [ofBool_eq_one, IntOp.cmpi, BitVec.sle, decide_eq_true_eq] at pre
  exact pre

theorem one_word (x : Cert.Pre_outupd_chip.S2.Idx) (h : (x 0).val = 1) : x = at1 := by
  funext b
  apply Fin.ext
  match b with
  | ⟨0, _⟩ => exact h

theorem nat_of_bound (w : BitVec 32) (h : 0 ≤ w.toInt ∧ w.toInt ≤ 3) : w.toNat ≤ 3 ∧ w.toInt = w.toNat := by
  have := w.isLt
  have := BitVec.toInt_eq_toNat_cond w
  split at this <;> omega

section
open Cert.OutUpdKernel Cert.OutUpdKernel.Gen

theorem ok_bits (m : (ℓ : Loc nD τ sig) → Buf (Elt Bits) ℓ)
    (h : ((m (((0 : Dev nD) : Thread nD τ).loc main_arg2) : IVec S2 32) at1).toNat ≤ 3) : Ok (F := Bits) m := by
  unfold Ok ok0
  intro i
  have hi : (i 0).val < 2 := (i 0).isLt
  have e : cc0_transform_1 inb_S2_S1_1 numel1_S1 (tbl m) i = ![((m (((0 : Dev nD) : Thread nD τ).loc main_arg2) : IVec S2 32) at1).toNat, (i 0).val, 0] := by
    funext a
    match a with
    | ⟨0, _⟩ =>
      refine congrArg (fun x : S2.Idx => ((m (((0 : Dev nD) : Thread nD τ).loc main_arg2) : IVec S2 32) x).toNat) ?_
      exact one_word _ rfl
    | ⟨1, _⟩ => show (BitVec.ofNat 32 (i 0).val).toNat = (i 0).val; rw [BitVec.toNat_ofNat]; omega
    | ⟨2, _⟩ => rfl
  rw [e]
  refine ⟨fun a => ?_, .inr ?_⟩
  · match a with
    | ⟨0, _⟩ => show (((m (((0 : Dev nD) : Thread nD τ).loc main_arg2) : IVec S2 32) at1).toNat + 1) * 1 ≤ 4; omega
    | ⟨1, _⟩ => show ((i 0).val + 1) * 128 ≤ 256; omega
    | ⟨2, _⟩ => show (0 + 1) * 1024 ≤ 1024; omega
  · exact Affine.block_words_dvd (of_decide_eq_true rfl) (by decide)

end

section
open Cert.OutUpdKernelIdeal Cert.OutUpdKernelIdeal.Gen

theorem ok_ideal (m : (ℓ : Loc nD τ sig) → Buf (Elt Ideal) ℓ)
    (h : ((m (((0 : Dev nD) : Thread nD τ).loc main_arg2) : IVec S2 32) at1).toNat ≤ 3) : Ok (F := Ideal) m := by
  unfold Ok ok0
  intro i
  have hi : (i 0).val < 2 := (i 0).isLt
  have e : cc0_transform_1 inb_S2_S1_1 numel1_S1 (tbl m) i = ![((m (((0 : Dev nD) : Thread nD τ).loc main_arg2) : IVec S2 32) at1).toNat, (i 0).val, 0] := by
    funext a
    match a with
    | ⟨0, _⟩ =>
      refine congrArg (fun x : S2.Idx => ((m (((0 : Dev nD) : Thread nD τ).loc main_arg2) : IVec S2 32) x).toNat) ?_
      exact one_word _ rfl
    | ⟨1, _⟩ => show (BitVec.ofNat 32 (i 0).val).toNat = (i 0).val; rw [BitVec.toNat_ofNat]; omega
    | ⟨2, _⟩ => rfl
  rw [e]
  refine ⟨fun a => ?_, .inr ?_⟩
  · match a with
    | ⟨0, _⟩ => show (((m (((0 : Dev nD) : Thread nD τ).loc main_arg2) : IVec S2 32) at1).toNat + 1) * 1 ≤ 4; omega
    | ⟨1, _⟩ => show ((i 0).val + 1) * 128 ≤ 256; omega
    | ⟨2, _⟩ => show (0 + 1) * 1024 ≤ 1024; omega
  · exact Affine.block_words_dvd (of_decide_eq_true rfl) (by decide)

end

end Cert.OutUpd

end
-- ==== Proof.OutUpd.Final.lean ====
/-
  The summed update: the four arrays the kernel leaves are the reference's stages of the same arguments.
-/
module

public import proofs.«01_k».proof.Proof.OutUpd.Block
public import proofs.«01_k».proof.Proof.OutUpd.Ref
public import proofs.«01_k».proof.Proof.OutUpd.Chip
public import Idealize.ShloMosaic.Lib.Pipeline.ValueKit
public import Idealize.ShloMosaic.Lib.StableHlo.Run

@[expose] public section

set_option maxRecDepth 16384

noncomputable section

namespace Cert.OutUpd

section Values
open Cert.OutUpdKernelIdeal Cert.OutUpdKernelIdeal.Gen Cert.OutUpdReferenceIdeal.Read Idealize.ShloMosaic

variable (g x2 x3 x4 : FVec Ideal S128x1024 .f32) (y : S128x1024.Idx)
  (a0 : FVec Ideal S8x256x1024 .bf16) (a1 : FVec Ideal S4x256x1024 .bf16) (a2 : IVec S2 32) (a3 a4 a5 : FVec Ideal S256x1024 .f32) (i : S256x1024.Idx)

/-- The new first moment, from a block's gradient and moment. -/
theorem moment_at (hg : g y = val_main_v29 (F := Ideal) a0 a1 a2 i) (hm : x3 y = a4 i) :
    k0_pay1 (F := Ideal) g x3 k0_pay7 y = val_main_v34 (F := Ideal) a0 a1 a2 a4 i := by
  rw [val_main_v34_apply, val_main_v31_apply, val_main_v33_apply, val_main_v30_apply, val_main_v32_apply, val_main_cst_2_apply,
    val_main_cst_3_apply, ← hg, ← hm]
  rfl

/-- The new second moment, from a block's gradient and moment. -/
theorem second_at (hg : g y = val_main_v29 (F := Ideal) a0 a1 a2 i) (hv : x4 y = a5 i) :
    k0_pay2 (F := Ideal) g x4 y = val_main_v40 (F := Ideal) a0 a1 a2 a5 i := by
  rw [val_main_v40_apply, val_main_v36_apply, val_main_v39_apply, val_main_v37_apply, val_main_v35_apply, val_main_v38_apply,
    val_main_cst_4_apply, val_main_cst_5_apply, ← hg, ← hv]
  rfl

/-- The step, from a block's gradient, weight and moments. -/
theorem delta_at (hg : g y = val_main_v29 (F := Ideal) a0 a1 a2 i) (hw : x2 y = a3 i) (hm : x3 y = a4 i) (hv : x4 y = a5 i) :
    k0_pay3 (F := Ideal) g x2 x3 x4 k0_pay7 y = val_main_v53 (F := Ideal) a0 a1 a2 a3 a4 a5 i := by
  have h1 := moment_at g x3 y a0 a1 a2 a4 i hg hm
  have h2 := second_at g x4 y a0 a1 a2 a5 i hg hv
  rw [val_main_v53_apply, val_main_v52_apply, val_main_cst_10_apply, val_main_v51_apply, val_main_v50_apply, val_main_v49_apply,
    val_main_cst_9_apply, val_main_v48_apply, val_main_v47_apply, val_main_v46_apply, val_main_cst_8_apply, val_main_v45_apply,
    val_main_v44_apply, val_main_v43_apply, val_main_cst_7_apply, val_main_v42_apply, val_main_v41_apply, val_main_cst_6_apply,
    ← h1, ← h2, ← hw]
  rfl

end Values

open Cert.OutUpdKernelIdeal Cert.OutUpdKernelIdeal.Gen Cert.Cover Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (hO : Ok m)

/-- The first argument: the partial gradients in the slots. -/
def arg0 : FVec Ideal S8x256x1024 .bf16 := m (((0 : Dev nD) : Thread nD τ).loc main_arg0)

/-- The second argument: the chip's own partial gradients, a share per block. -/
def arg1 : FVec Ideal S4x256x1024 .bf16 := m (((0 : Dev nD) : Thread nD τ).loc main_arg1)

/-- The third argument: the pair of words. -/
def arg2 : IVec S2 32 := m (((0 : Dev nD) : Thread nD τ).loc main_arg2)

/-- The fourth argument: the weights. -/
def arg3 : FVec Ideal S256x1024 .f32 := m (((0 : Dev nD) : Thread nD τ).loc main_arg3)

/-- The fifth argument: the first moment. -/
def arg4 : FVec Ideal S256x1024 .f32 := m (((0 : Dev nD) : Thread nD τ).loc main_arg4)

/-- The sixth argument: the second moment. -/
def arg5 : FVec Ideal S256x1024 .f32 := m (((0 : Dev nD) : Thread nD τ).loc main_arg5)

theorem NN (t : Fin (cfgM m hO).N) : t.val < 2 := lt_of_lt_of_eq t.isLt N_0

/-- Row `r` of point `t`'s block. -/
def row (t : Fin (cfgM m hO).N) (r : Fin 128) : Fin 256 := ⟨128 * t.val + r.val, by have := NN m hO t; have := r.isLt; omega⟩

theorem coord_0 : ∀ t : Fin grid0.N, (grid0.coords t 0).val = t.val := by decide +kernel

theorem index_0 : ∀ t : Fin (cfgM m hO).N, ((cfgM m hO).win 0).index t = ![0, t.val, 0] :=
  (by decide +kernel : ∀ t : Fin grid0.N, cc0_transform_0 (grid0.coords t) = ![0, t.val, 0])

theorem blk0_at (t : Fin (cfgM m hO).N) (k : Fin 8) (r : Fin 128) (j : Fin 1024) :
    (iblk m hO 0 0 t : FVec Ideal S8x128x1024 .bf16) (ix3 k r j) = arg0 m (ix3 k (row m hO t r) j) := by
  unfold iblk
  refine (View.read_apply _ _).trans ?_
  refine congrArg (arg0 m) (funext fun a => Fin.ext ?_)
  match a with
  | ⟨0, _⟩ =>
    refine (Pipeline.Window.rect_emb_val ((cfgM m hO).win 0) t _ (0 : Fin 3)).trans ?_
    rw [index_0 m hO t]
    show 0 * 8 + k.val = k.val
    omega
  | ⟨1, _⟩ =>
    refine (Pipeline.Window.rect_emb_val ((cfgM m hO).win 0) t _ (1 : Fin 3)).trans ?_
    rw [index_0 m hO t]
    show t.val * 128 + r.val = 128 * t.val + r.val
    omega
  | ⟨2, _⟩ =>
    refine (Pipeline.Window.rect_emb_val ((cfgM m hO).win 0) t _ (2 : Fin 3)).trans ?_
    rw [index_0 m hO t]
    show 0 * 1024 + j.val = j.val
    omega

theorem index_1 (t : Fin (cfgM m hO).N) : ((cfgM m hO).win 1).index t = ![(arg2 m at1).toNat, t.val, 0] := by
  refine Eq.trans (b := cc0_transform_1 inb_S2_S1_1 numel1_S1 (tbl m) (grid0.coords t)) rfl ?_
  have ht := NN m hO t
  funext a
  match a with
  | ⟨0, _⟩ =>
    refine congrArg (fun x : S2.Idx => (arg2 m x).toNat) ?_
    exact one_word _ rfl
  | ⟨1, _⟩ =>
    show (BitVec.ofNat 32 (grid0.coords t 0).val).toNat = t.val
    rw [coord_0 t, BitVec.toNat_ofNat]
    omega
  | ⟨2, _⟩ => rfl

theorem blk1_at (n : Fin 4) (hn : (arg2 m at1).toNat = n.val) (t : Fin (cfgM m hO).N) (r : Fin 128) (j : Fin 1024) :
    (iblk m hO 0 1 t : FVec Ideal S1x128x1024 .bf16) (ix3 0 r j) = arg1 m (ix3 n (row m hO t r) j) := by
  unfold iblk
  refine (View.read_apply _ _).trans ?_
  refine congrArg (arg1 m) (funext fun a => Fin.ext ?_)
  match a with
  | ⟨0, _⟩ =>
    refine (Pipeline.Window.rect_emb_val ((cfgM m hO).win 1) t _ (0 : Fin 3)).trans ?_
    rw [index_1 m hO t]
    show (arg2 m at1).toNat * 1 + 0 = n.val
    omega
  | ⟨1, _⟩ =>
    refine (Pipeline.Window.rect_emb_val ((cfgM m hO).win 1) t _ (1 : Fin 3)).trans ?_
    rw [index_1 m hO t]
    show t.val * 128 + r.val = 128 * t.val + r.val
    omega
  | ⟨2, _⟩ =>
    refine (Pipeline.Window.rect_emb_val ((cfgM m hO).win 1) t _ (2 : Fin 3)).trans ?_
    rw [index_1 m hO t]
    show 0 * 1024 + j.val = j.val
    omega

theorem index_2 : ∀ t : Fin (cfgM m hO).N, ((cfgM m hO).win 2).index t = ![t.val, 0] :=
  (by decide +kernel : ∀ t : Fin grid0.N, cc0_transform_2 (grid0.coords t) = ![t.val, 0])

theorem blk2_at (t : Fin (cfgM m hO).N) (r : Fin 128) (j : Fin 1024) :
    (iblk m hO 0 2 t : FVec Ideal S128x1024 .f32) (ix2 r j) = arg3 m (ix2 (row m hO t r) j) := by
  unfold iblk
  refine (View.read_apply _ _).trans ?_
  refine congrArg (arg3 m) (e2 _ _ _ ?_ ?_)
  · refine (Pipeline.Window.rect_emb_val ((cfgM m hO).win 2) t _ (0 : Fin 2)).trans ?_
    rw [index_2 m hO t]
    show t.val * 128 + r.val = 128 * t.val + r.val
    omega
  · refine (Pipeline.Window.rect_emb_val ((cfgM m hO).win 2) t _ (1 : Fin 2)).trans ?_
    rw [index_2 m hO t]
    show 0 * 1024 + j.val = j.val
    omega

theorem index_3 : ∀ t : Fin (cfgM m hO).N, ((cfgM m hO).win 3).index t = ![t.val, 0] :=
  (by decide +kernel : ∀ t : Fin grid0.N, cc0_transform_3 (grid0.coords t) = ![t.val, 0])

theorem blk3_at (t : Fin (cfgM m hO).N) (r : Fin 128) (j : Fin 1024) :
    (iblk m hO 0 3 t : FVec Ideal S128x1024 .f32) (ix2 r j) = arg4 m (ix2 (row m hO t r) j) := by
  unfold iblk
  refine (View.read_apply _ _).trans ?_
  refine congrArg (arg4 m) (e2 _ _ _ ?_ ?_)
  · refine (Pipeline.Window.rect_emb_val ((cfgM m hO).win 3) t _ (0 : Fin 2)).trans ?_
    rw [index_3 m hO t]
    show t.val * 128 + r.val = 128 * t.val + r.val
    omega
  · refine (Pipeline.Window.rect_emb_val ((cfgM m hO).win 3) t _ (1 : Fin 2)).trans ?_
    rw [index_3 m hO t]
    show 0 * 1024 + j.val = j.val
    omega

theorem index_4 : ∀ t : Fin (cfgM m hO).N, ((cfgM m hO).win 4).index t = ![t.val, 0] :=
  (by decide +kernel : ∀ t : Fin grid0.N, cc0_transform_4 (grid0.coords t) = ![t.val, 0])

theorem blk4_at (t : Fin (cfgM m hO).N) (r : Fin 128) (j : Fin 1024) :
    (iblk m hO 0 4 t : FVec Ideal S128x1024 .f32) (ix2 r j) = arg5 m (ix2 (row m hO t r) j) := by
  unfold iblk
  refine (View.read_apply _ _).trans ?_
  refine congrArg (arg5 m) (e2 _ _ _ ?_ ?_)
  · refine (Pipeline.Window.rect_emb_val ((cfgM m hO).win 4) t _ (0 : Fin 2)).trans ?_
    rw [index_4 m hO t]
    show t.val * 128 + r.val = 128 * t.val + r.val
    omega
  · refine (Pipeline.Window.rect_emb_val ((cfgM m hO).win 4) t _ (1 : Fin 2)).trans ?_
    rw [index_4 m hO t]
    show 0 * 1024 + j.val = j.val
    omega

theorem index_5 : ∀ t : Fin (cfgM m hO).N, ((cfgM m hO).win 5).index t = ![t.val, 0] :=
  (by decide +kernel : ∀ t : Fin grid0.N, cc0_transform_5 (grid0.coords t) = ![t.val, 0])

theorem covers_5 : ((cfgM m hO).win 5).Covers := by
  refine ⟨fun a => by match a with | ⟨0, _⟩ => show 0 < 128; omega | ⟨1, _⟩ => show 0 < 1024; omega, fun β => ?_⟩
  have h0 : (β (0 : Fin 2)).val < (256 + 128 - 1) / 128 := (β (0 : Fin 2)).isLt
  have h1 : (β (1 : Fin 2)).val < (1024 + 1024 - 1) / 1024 := (β (1 : Fin 2)).isLt
  have h2 : (β (0 : Fin 2)).val < 2 := by omega
  refine ⟨(⟨(β (0 : Fin 2)).val, lt_of_lt_of_eq h2 N_0.symm⟩ : Fin grid0.N), flush0_5 _ _, fun a => ⟨?_, .inl rfl⟩⟩
  rw [index_5 m hO]
  match a with
  | ⟨0, _⟩ => rfl
  | ⟨1, _⟩ => show 0 = (β (1 : Fin 2)).val; omega

theorem emb_5 (t : Fin (cfgM m hO).N) (y : S128x1024.Idx) :
    (((cfgM m hO).win 5).blk t).view.emb y = ix2 (row m hO t (y 0)) (y 1) := by
  refine e2 _ _ _ ?_ ?_
  · refine (Pipeline.Window.rect_emb_val ((cfgM m hO).win 5) t y (0 : Fin 2)).trans ?_
    rw [index_5 m hO t]
    show t.val * 128 + (y 0).val = 128 * t.val + (y 0).val
    omega
  · refine (Pipeline.Window.rect_emb_val ((cfgM m hO).win 5) t y (1 : Fin 2)).trans ?_
    rw [index_5 m hO t]
    show 0 * 1024 + (y 1).val = (y 1).val
    omega

theorem index_6 : ∀ t : Fin (cfgM m hO).N, ((cfgM m hO).win 6).index t = ![t.val, 0] :=
  (by decide +kernel : ∀ t : Fin grid0.N, cc0_transform_6 (grid0.coords t) = ![t.val, 0])

theorem covers_6 : ((cfgM m hO).win 6).Covers := by
  refine ⟨fun a => by match a with | ⟨0, _⟩ => show 0 < 128; omega | ⟨1, _⟩ => show 0 < 1024; omega, fun β => ?_⟩
  have h0 : (β (0 : Fin 2)).val < (256 + 128 - 1) / 128 := (β (0 : Fin 2)).isLt
  have h1 : (β (1 : Fin 2)).val < (1024 + 1024 - 1) / 1024 := (β (1 : Fin 2)).isLt
  have h2 : (β (0 : Fin 2)).val < 2 := by omega
  refine ⟨(⟨(β (0 : Fin 2)).val, lt_of_lt_of_eq h2 N_0.symm⟩ : Fin grid0.N), flush0_6 _ _, fun a => ⟨?_, .inl rfl⟩⟩
  rw [index_6 m hO]
  match a with
  | ⟨0, _⟩ => rfl
  | ⟨1, _⟩ => show 0 = (β (1 : Fin 2)).val; omega

theorem emb_6 (t : Fin (cfgM m hO).N) (y : S128x1024.Idx) :
    (((cfgM m hO).win 6).blk t).view.emb y = ix2 (row m hO t (y 0)) (y 1) := by
  refine e2 _ _ _ ?_ ?_
  · refine (Pipeline.Window.rect_emb_val ((cfgM m hO).win 6) t y (0 : Fin 2)).trans ?_
    rw [index_6 m hO t]
    show t.val * 128 + (y 0).val = 128 * t.val + (y 0).val
    omega
  · refine (Pipeline.Window.rect_emb_val ((cfgM m hO).win 6) t y (1 : Fin 2)).trans ?_
    rw [index_6 m hO t]
    show 0 * 1024 + (y 1).val = (y 1).val
    omega

theorem index_7 : ∀ t : Fin (cfgM m hO).N, ((cfgM m hO).win 7).index t = ![t.val, 0] :=
  (by decide +kernel : ∀ t : Fin grid0.N, cc0_transform_7 (grid0.coords t) = ![t.val, 0])

theorem covers_7 : ((cfgM m hO).win 7).Covers := by
  refine ⟨fun a => by match a with | ⟨0, _⟩ => show 0 < 128; omega | ⟨1, _⟩ => show 0 < 1024; omega, fun β => ?_⟩
  have h0 : (β (0 : Fin 2)).val < (256 + 128 - 1) / 128 := (β (0 : Fin 2)).isLt
  have h1 : (β (1 : Fin 2)).val < (1024 + 1024 - 1) / 1024 := (β (1 : Fin 2)).isLt
  have h2 : (β (0 : Fin 2)).val < 2 := by omega
  refine ⟨(⟨(β (0 : Fin 2)).val, lt_of_lt_of_eq h2 N_0.symm⟩ : Fin grid0.N), flush0_7 _ _, fun a => ⟨?_, .inl rfl⟩⟩
  rw [index_7 m hO]
  match a with
  | ⟨0, _⟩ => rfl
  | ⟨1, _⟩ => show 0 = (β (1 : Fin 2)).val; omega

theorem emb_7 (t : Fin (cfgM m hO).N) (y : S128x1024.Idx) :
    (((cfgM m hO).win 7).blk t).view.emb y = ix2 (row m hO t (y 0)) (y 1) := by
  refine e2 _ _ _ ?_ ?_
  · refine (Pipeline.Window.rect_emb_val ((cfgM m hO).win 7) t y (0 : Fin 2)).trans ?_
    rw [index_7 m hO t]
    show t.val * 128 + (y 0).val = 128 * t.val + (y 0).val
    omega
  · refine (Pipeline.Window.rect_emb_val ((cfgM m hO).win 7) t y (1 : Fin 2)).trans ?_
    rw [index_7 m hO t]
    show 0 * 1024 + (y 1).val = (y 1).val
    omega

theorem index_8 : ∀ t : Fin (cfgM m hO).N, ((cfgM m hO).win 8).index t = ![t.val, 0] :=
  (by decide +kernel : ∀ t : Fin grid0.N, cc0_transform_8 (grid0.coords t) = ![t.val, 0])

theorem covers_8 : ((cfgM m hO).win 8).Covers := by
  refine ⟨fun a => by match a with | ⟨0, _⟩ => show 0 < 128; omega | ⟨1, _⟩ => show 0 < 1024; omega, fun β => ?_⟩
  have h0 : (β (0 : Fin 2)).val < (256 + 128 - 1) / 128 := (β (0 : Fin 2)).isLt
  have h1 : (β (1 : Fin 2)).val < (1024 + 1024 - 1) / 1024 := (β (1 : Fin 2)).isLt
  have h2 : (β (0 : Fin 2)).val < 2 := by omega
  refine ⟨(⟨(β (0 : Fin 2)).val, lt_of_lt_of_eq h2 N_0.symm⟩ : Fin grid0.N), flush0_8 _ _, fun a => ⟨?_, .inl rfl⟩⟩
  rw [index_8 m hO]
  match a with
  | ⟨0, _⟩ => rfl
  | ⟨1, _⟩ => show 0 = (β (1 : Fin 2)).val; omega

theorem emb_8 (t : Fin (cfgM m hO).N) (y : S128x1024.Idx) :
    (((cfgM m hO).win 8).blk t).view.emb y = ix2 (row m hO t (y 0)) (y 1) := by
  refine e2 _ _ _ ?_ ?_
  · refine (Pipeline.Window.rect_emb_val ((cfgM m hO).win 8) t y (0 : Fin 2)).trans ?_
    rw [index_8 m hO t]
    show t.val * 128 + (y 0).val = 128 * t.val + (y 0).val
    omega
  · refine (Pipeline.Window.rect_emb_val ((cfgM m hO).win 8) t y (1 : Fin 2)).trans ?_
    rw [index_8 m hO t]
    show 0 * 1024 + (y 1).val = (y 1).val
    omega

/-- The kernel's first word is the pair's first word. -/
theorem word_eq : word 0 (tbl m 0) = arg2 m Ref.at0 := by
  unfold word
  refine congrArg (arg2 m) (funext fun a => Fin.ext ?_)
  match a with
  | ⟨0, _⟩ => rfl

variable (n : Fin 4) (hn : (arg2 m at1).toNat = n.val) (hi : (arg2 m at1).toInt = n.val)
include hn hi

/-- A block's gradient is the reference's at the block's rows. -/
theorem grad_eq (t : Fin (cfgM m hO).N) (r : Fin 128) (j : Fin 1024) :
    grad (arg2 m Ref.at0) (iblk m hO 0 0 t) (iblk m hO 0 1 t) (ix2 r j)
      = Cert.OutUpdReferenceIdeal.Read.val_main_v29 (F := Ideal) (arg0 m) (arg1 m) (arg2 m) (ix2 (row m hO t r) j) := by
  refine (grad_at _ _ _ r j).trans ?_
  refine Eq.trans ?_ (Ref.grad_at (arg0 m) (arg1 m) (arg2 m) n hi (row m hO t r) j).symm
  exact Finset.sum_congr rfl fun k _ => congrArg₂ (pick (arg2 m Ref.at0) k) (blk1_at m hO n hn t r j) (blk0_at m hO t k r j)

omit hn hi in
theorem eta_out (y : S128x1024.Idx) : y = ix2 (y 0) (y 1) := eta2 y

omit hn hi in
theorem o_5 (t : Fin (cfgM m hO).N) : (outsAt0 m hO 0 t).1 = grad (arg2 m Ref.at0) (iblk m hO 0 0 t) (iblk m hO 0 1 t) := by
  unfold outsAt0
  dsimp only
  refine (out_5 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => grad (w) (iblk m hO 0 0 t) (iblk m hO 0 1 t)) (word_eq m)

theorem at_5 (t : Fin (cfgM m hO).N) (y : S128x1024.Idx) : (outsAt0 m hO 0 t).1 y
    = Cert.OutUpdReferenceIdeal.Read.val_main_v29 (F := Ideal) (arg0 m) (arg1 m) (arg2 m) (ix2 (row m hO t (y 0)) (y 1)) := by
  refine (congrFun (o_5 m hO t) y).trans ?_
  refine (congrArg (grad (arg2 m Ref.at0) (iblk m hO 0 0 t) (iblk m hO 0 1 t)) (eta_out y)).trans ?_
  exact grad_eq m hO n hn hi t (y 0) (y 1)

theorem arr_5 : (dats m hO 0 0).arrAt 5 (cfgM m hO).N = Cert.OutUpdReferenceIdeal.Read.val_main_v29 (F := Ideal) (arg0 m) (arg1 m) (arg2 m) := by
  refine (dats m hO 0 0).arrAt_eq_of_covers 5 _ (covers_5 m hO) fun t ht y => ?_
  refine Eq.trans (b := (dats m hO 0 0).after 5 t y) rfl ?_
  refine (congrFun (after0_5 m hO 0 t) y).trans ?_
  refine (at_5 m hO n hn hi t y).trans ?_
  exact congrArg (Cert.OutUpdReferenceIdeal.Read.val_main_v29 (F := Ideal) (arg0 m) (arg1 m) (arg2 m)) (emb_5 m hO t y).symm

omit hn hi in
theorem o_6 (t : Fin (cfgM m hO).N) : (outsAt0 m hO 0 t).2.1 = k0_pay3 (F := Ideal) (grad (arg2 m Ref.at0) (iblk m hO 0 0 t) (iblk m hO 0 1 t)) (iblk m hO 0 2 t) (iblk m hO 0 3 t) (iblk m hO 0 4 t) k0_pay7 := by
  unfold outsAt0
  dsimp only
  refine (out_6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay3 (F := Ideal) (grad (w) (iblk m hO 0 0 t) (iblk m hO 0 1 t)) (iblk m hO 0 2 t) (iblk m hO 0 3 t) (iblk m hO 0 4 t) k0_pay7) (word_eq m)

theorem at_6 (t : Fin (cfgM m hO).N) (y : S128x1024.Idx) : (outsAt0 m hO 0 t).2.1 y
    = Cert.OutUpdReferenceIdeal.Read.val_main_v53 (F := Ideal) (arg0 m) (arg1 m) (arg2 m) (arg3 m) (arg4 m) (arg5 m) (ix2 (row m hO t (y 0)) (y 1)) := by
  refine (congrFun (o_6 m hO t) y).trans ?_
  refine (congrArg (k0_pay3 (F := Ideal) (grad (arg2 m Ref.at0) (iblk m hO 0 0 t) (iblk m hO 0 1 t)) (iblk m hO 0 2 t) (iblk m hO 0 3 t) (iblk m hO 0 4 t) k0_pay7) (eta_out y)).trans ?_
  exact delta_at _ _ _ _ _ _ _ _ _ _ _ _ (grad_eq m hO n hn hi t (y 0) (y 1)) (blk2_at m hO t (y 0) (y 1)) (blk3_at m hO t (y 0) (y 1)) (blk4_at m hO t (y 0) (y 1))

theorem arr_6 : (dats m hO 0 0).arrAt 6 (cfgM m hO).N = Cert.OutUpdReferenceIdeal.Read.val_main_v53 (F := Ideal) (arg0 m) (arg1 m) (arg2 m) (arg3 m) (arg4 m) (arg5 m) := by
  refine (dats m hO 0 0).arrAt_eq_of_covers 6 _ (covers_6 m hO) fun t ht y => ?_
  refine Eq.trans (b := (dats m hO 0 0).after 6 t y) rfl ?_
  refine (congrFun (after0_6 m hO 0 t) y).trans ?_
  refine (at_6 m hO n hn hi t y).trans ?_
  exact congrArg (Cert.OutUpdReferenceIdeal.Read.val_main_v53 (F := Ideal) (arg0 m) (arg1 m) (arg2 m) (arg3 m) (arg4 m) (arg5 m)) (emb_6 m hO t y).symm

omit hn hi in
theorem o_7 (t : Fin (cfgM m hO).N) : (outsAt0 m hO 0 t).2.2.1 = k0_pay1 (F := Ideal) (grad (arg2 m Ref.at0) (iblk m hO 0 0 t) (iblk m hO 0 1 t)) (iblk m hO 0 3 t) k0_pay7 := by
  unfold outsAt0
  dsimp only
  refine (out_7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay1 (F := Ideal) (grad (w) (iblk m hO 0 0 t) (iblk m hO 0 1 t)) (iblk m hO 0 3 t) k0_pay7) (word_eq m)

theorem at_7 (t : Fin (cfgM m hO).N) (y : S128x1024.Idx) : (outsAt0 m hO 0 t).2.2.1 y
    = Cert.OutUpdReferenceIdeal.Read.val_main_v34 (F := Ideal) (arg0 m) (arg1 m) (arg2 m) (arg4 m) (ix2 (row m hO t (y 0)) (y 1)) := by
  refine (congrFun (o_7 m hO t) y).trans ?_
  refine (congrArg (k0_pay1 (F := Ideal) (grad (arg2 m Ref.at0) (iblk m hO 0 0 t) (iblk m hO 0 1 t)) (iblk m hO 0 3 t) k0_pay7) (eta_out y)).trans ?_
  exact moment_at _ _ _ _ _ _ _ _ (grad_eq m hO n hn hi t (y 0) (y 1)) (blk3_at m hO t (y 0) (y 1))

theorem arr_7 : (dats m hO 0 0).arrAt 7 (cfgM m hO).N = Cert.OutUpdReferenceIdeal.Read.val_main_v34 (F := Ideal) (arg0 m) (arg1 m) (arg2 m) (arg4 m) := by
  refine (dats m hO 0 0).arrAt_eq_of_covers 7 _ (covers_7 m hO) fun t ht y => ?_
  refine Eq.trans (b := (dats m hO 0 0).after 7 t y) rfl ?_
  refine (congrFun (after0_7 m hO 0 t) y).trans ?_
  refine (at_7 m hO n hn hi t y).trans ?_
  exact congrArg (Cert.OutUpdReferenceIdeal.Read.val_main_v34 (F := Ideal) (arg0 m) (arg1 m) (arg2 m) (arg4 m)) (emb_7 m hO t y).symm

omit hn hi in
theorem o_8 (t : Fin (cfgM m hO).N) : (outsAt0 m hO 0 t).2.2.2 = k0_pay2 (F := Ideal) (grad (arg2 m Ref.at0) (iblk m hO 0 0 t) (iblk m hO 0 1 t)) (iblk m hO 0 4 t) := by
  unfold outsAt0
  dsimp only
  refine (out_8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay2 (F := Ideal) (grad (w) (iblk m hO 0 0 t) (iblk m hO 0 1 t)) (iblk m hO 0 4 t)) (word_eq m)

theorem at_8 (t : Fin (cfgM m hO).N) (y : S128x1024.Idx) : (outsAt0 m hO 0 t).2.2.2 y
    = Cert.OutUpdReferenceIdeal.Read.val_main_v40 (F := Ideal) (arg0 m) (arg1 m) (arg2 m) (arg5 m) (ix2 (row m hO t (y 0)) (y 1)) := by
  refine (congrFun (o_8 m hO t) y).trans ?_
  refine (congrArg (k0_pay2 (F := Ideal) (grad (arg2 m Ref.at0) (iblk m hO 0 0 t) (iblk m hO 0 1 t)) (iblk m hO 0 4 t)) (eta_out y)).trans ?_
  exact second_at _ _ _ _ _ _ _ _ (grad_eq m hO n hn hi t (y 0) (y 1)) (blk4_at m hO t (y 0) (y 1))

theorem arr_8 : (dats m hO 0 0).arrAt 8 (cfgM m hO).N = Cert.OutUpdReferenceIdeal.Read.val_main_v40 (F := Ideal) (arg0 m) (arg1 m) (arg2 m) (arg5 m) := by
  refine (dats m hO 0 0).arrAt_eq_of_covers 8 _ (covers_8 m hO) fun t ht y => ?_
  refine Eq.trans (b := (dats m hO 0 0).after 8 t y) rfl ?_
  refine (congrFun (after0_8 m hO 0 t) y).trans ?_
  refine (at_8 m hO n hn hi t y).trans ?_
  exact congrArg (Cert.OutUpdReferenceIdeal.Read.val_main_v40 (F := Ideal) (arg0 m) (arg1 m) (arg2 m) (arg5 m)) (emb_8 m hO t y).symm

end Cert.OutUpd

end
-- ==== Proof.OutUpd.Claims.lean ====
/-
  The claims about the summed update of the output projection: the frames, and the kernel's results equal to the reference's.
-/
module

public import proofs.«01_k».proof.Proof.OutUpd.Final
public import proofs.«01_k».proof.Proof.Gen.OutUpdReferenceIdeal.Run
public import proofs.«01_k».proof.Defs
public import Idealize.ShloMosaic.Adequacy
public import Idealize.ShloMosaic.Init

@[expose] public section

set_option maxRecDepth 16384

noncomputable section

namespace Cert.OutUpd

open Idealize.ShloMosaic Idealize.SL.Sem

theorem frame_bits : Cert.quiescent_OutUpdKernel := fun m ρ h =>
  Cert.OutUpdKernel.Gen.frame m ρ (ok_bits m (nat_of_bound _ (share_bound _ _ _ _ _ _ (h 0))).1)

theorem frame_ideal : Cert.quiescent_OutUpdKernelIdeal := fun m ρ h =>
  Cert.OutUpdKernelIdeal.Gen.frame m ρ (ok_ideal m (nat_of_bound _ (share_bound _ _ _ _ _ _ (h 0))).1)

theorem frame_reference : Cert.quiescent_OutUpdReferenceIdeal := fun m ρ _ =>
  (θ_run Cert.OutUpdReferenceIdeal.defs _ _).mono (fun r h => ⟨fun c => (h c).2.2.2.2,
      Idealize.ShloMosaic.sem_eq_zero_of_no_sems (by decide) r.2⟩)
    (Cert.OutUpdReferenceIdeal.Value.run (F := Ideal) m ρ)

theorem frame_reference_pre : Cert.quiescent_OutUpdReferenceIdeal_pre_outupd_chip := fun m ρ _ =>
  frame_reference m ρ trivial

set_option maxHeartbeats 4000000 in
open Idealize.ShloMosaic.TcCoe Idealize.ShloMosaic.Pipeline Cert.OutUpdKernelIdeal Cert.OutUpdKernelIdeal.Gen in
/-- The kernel's results are the reference's stages of the kernel's arguments. -/
theorem kernel_run (m : (ℓ : Loc nD τ sig) → Buf (Elt Ideal) ℓ) (ρ : Dev nD → PrngReg)
    (hb : 0 ≤ (arg2 m at1).toInt ∧ (arg2 m at1).toInt ≤ 3) :
    θ_run (defs (F := Ideal)) (onTc (τ := τ) (main (F := Ideal))) ⟨m, fun _ => 0, ρ⟩ (fun r => ∀ c : Dev nD,
      r.2.mem ((c : Thread nD τ).loc main_v0_0) = Cert.OutUpdReferenceIdeal.Read.val_main_v29 (F := Ideal) (m ((c : Thread nD τ).loc main_arg0)) (m ((c : Thread nD τ).loc main_arg1)) (m ((c : Thread nD τ).loc main_arg2))
      ∧ r.2.mem ((c : Thread nD τ).loc main_v0_1) = Cert.OutUpdReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.OutUpdReferenceIdeal.Read.val_main_v34 (F := Ideal) (m ((c : Thread nD τ).loc main_arg0)) (m ((c : Thread nD τ).loc main_arg1)) (m ((c : Thread nD τ).loc main_arg2)) (m ((c : Thread nD τ).loc main_arg4))
      ∧ r.2.mem ((c : Thread nD τ).loc main_v0_3) = Cert.OutUpdReferenceIdeal.Read.val_main_v40 (F := Ideal) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  obtain ⟨hle, hint⟩ := nat_of_bound _ hb
  have hO : Ok m := ok_ideal m hle
  let n : Fin 4 := ⟨(arg2 m at1).toNat, Nat.lt_succ_of_le hle⟩
  refine (θ_run defs _ _).mono (fun r h c => ?_) (run_main m ρ hO)
  obtain rfl : c = 0 := Subsingleton.elim _ _
  exact ⟨
    ((h 0).1 5).trans (arr_5 m hO n rfl hint),
    ((h 0).1 6).trans (arr_6 m hO n rfl hint),
    ((h 0).1 7).trans (arr_7 m hO n rfl hint),
    ((h 0).1 8).trans (arr_8 m hO n rfl hint),
    ((h 0).1 0).trans (((dats m hO 0 0).arrAt_in 0 rfl _).trans ((A_eq m hO 0 0).trans (V_main_arg0 m 0))),
    ((h 0).1 1).trans (((dats m hO 0 0).arrAt_in 1 rfl _).trans ((A_eq m hO 0 1).trans (V_main_arg1 m 0))),
    ((h 0).2 main_arg2 (by decide : main_arg2 ∈ Pipeline.restRefs sig spec0)).trans (V_main_arg2 m 0),
    ((h 0).1 2).trans (((dats m hO 0 0).arrAt_in 2 rfl _).trans ((A_eq m hO 0 2).trans (V_main_arg3 m 0))),
    ((h 0).1 3).trans (((dats m hO 0 0).arrAt_in 3 rfl _).trans ((A_eq m hO 0 3).trans (V_main_arg4 m 0))),
    ((h 0).1 4).trans (((dats m hO 0 0).arrAt_in 4 rfl _).trans ((A_eq m hO 0 4).trans (V_main_arg5 m 0)))⟩

set_option maxHeartbeats 4000000 in
open Idealize.ShloMosaic.TcCoe Cert.OutUpdReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v29) = Read.val_main_v29 (F := Ideal) (m ((c : Thread nD τ).loc main_arg0)) (m ((c : Thread nD τ).loc main_arg1)) (m ((c : Thread nD τ).loc main_arg2))
      ∧ r.2.mem ((c : Thread nD τ).loc main_v53) = Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v34) = Read.val_main_v34 (F := Ideal) (m ((c : Thread nD τ).loc main_arg0)) (m ((c : Thread nD τ).loc main_arg1)) (m ((c : Thread nD τ).loc main_arg2)) (m ((c : Thread nD τ).loc main_arg4))
      ∧ r.2.mem ((c : Thread nD τ).loc main_v40) = Read.val_main_v40 (F := Ideal) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
    obtain ⟨h0, h1, h2, h3, ha⟩ := h c
    exact ⟨h0.trans (Read.val_main_v29_eq _ _ _), h1.trans (Read.val_main_v53_eq _ _), h2.trans (Read.val_main_v34_eq _ _ _ _),
      h3.trans (Read.val_main_v40_eq _ _), ha⟩)
    (Value.run (F := Ideal) m ρ)

set_option maxHeartbeats 4000000 in
theorem algebraic : Cert.algebraic_OutUpdKernelIdeal_OutUpdReferenceIdeal := by
  intro m ρ m' ρ' h hagree
  refine ⟨_, _, _, _, kernel_run m ρ (share_bound _ _ _ _ _ _ (h 0)), ?_⟩
  refine (θ_run Cert.OutUpdReferenceIdeal.defs _ _).mono (fun r h c => ?_) (reference_run m' ρ')
  obtain ⟨e0, e1, e2, e3, e4, e5⟩ := hagree c
  have hc := h c
  rw [e0, e1, e2, e3, e4, e5] at hc
  rw [e0, e1, e2, e3, e4, e5]
  exact hc

end Cert.OutUpd

end
-- ==== Proof.FfUpd.Block.lean ====
/-
  The summed update: what a grid point writes, from its blocks and the pair of words.
-/
module

public import proofs.«01_k».proof.Proof.Gen.FfUpdKernelIdeal.Frame
public import proofs.«01_k».proof.Proof.Cover
public import Idealize.ShloMosaic.PureOps.Ideal.Laws

@[expose] public section

set_option maxRecDepth 16384

noncomputable section

namespace Cert.FfUpd

open Cert.FfUpdKernelIdeal Cert.FfUpdKernelIdeal.Gen Cert.Cover Idealize.ShloMosaic Idealize.ShloMosaic.TcCoe
  Idealize.ShloMosaic.ValueIdx
open scoped BigOperators

/-- What slot `k` adds: the chip's own share in its own slot, else what lies in the slot. -/
def pick (w : BitVec 32) (k : Fin 8) (own p : EReal) : EReal := Scalar.select (IntOp.cmpi .eq (BitVec.ofNat 32 k.val) w) own p

/-- The first word of the pair, as the kernel reads it. -/
def word (c : Dev nD) (xt0 : TbBuf0 (F := Ideal) c tbM0_0) : BitVec 32 :=
  View.ld (View.read (Elt Ideal) (View.whole main_arg2) xt0) (Rect.unit (s := S2) ![0] ![1] inb_S2_S1_0) (Shape.Idx.first (by decide))

/-- The gradient of a block. -/
def grad (w : BitVec 32) (x0 : Vec Ideal S8x128x1024 .bf16) (x1 : Vec Ideal S1x128x1024 .bf16) : FVec Ideal S128x1024 .f32 :=
  k0_pay6 (F := Ideal) (k0_pay4 x1)
    (k0_pay5 x1 w (View.ld x0 (Rect.unit (s := S8x128x1024) ![0, 0, 0] ![1, 128, 1024] inb_S8x128x1024_S1x128x1024_0_0_0))
      w (View.ld x0 (Rect.unit (s := S8x128x1024) ![1, 0, 0] ![1, 128, 1024] inb_S8x128x1024_S1x128x1024_1_0_0))
      w (View.ld x0 (Rect.unit (s := S8x128x1024) ![2, 0, 0] ![1, 128, 1024] inb_S8x128x1024_S1x128x1024_2_0_0))
      w (View.ld x0 (Rect.unit (s := S8x128x1024) ![3, 0, 0] ![1, 128, 1024] inb_S8x128x1024_S1x128x1024_3_0_0)))
    w 4#32 (View.ld x0 (Rect.unit (s := S8x128x1024) ![4, 0, 0] ![1, 128, 1024] inb_S8x128x1024_S1x128x1024_4_0_0))
    w (View.ld x0 (Rect.unit (s := S8x128x1024) ![5, 0, 0] ![1, 128, 1024] inb_S8x128x1024_S1x128x1024_5_0_0))
    w (View.ld x0 (Rect.unit (s := S8x128x1024) ![6, 0, 0] ![1, 128, 1024] inb_S8x128x1024_S1x128x1024_6_0_0))
    w (View.ld x0 (Rect.unit (s := S8x128x1024) ![7, 0, 0] ![1, 128, 1024] inb_S8x128x1024_S1x128x1024_7_0_0))

theorem out_5 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0
      = grad (word c xt0) x0 x1 := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

theorem out_6 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0
      = k0_pay3 (F := Ideal) (grad (word c xt0) x0 x1) x2 x3 x4 k0_pay7 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

theorem out_7 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0
      = k0_pay1 (F := Ideal) (grad (word c xt0) x0 x1) x3 k0_pay7 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

theorem out_8 (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0
      = k0_pay2 (F := Ideal) (grad (word c xt0) x0 x1) x4 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x1024) hz2]
  simp only [View.readAt_eq_ld, harg2.read_unread, harg3.read_unread, harg4.read_unread, harg5.read_unread, harg6.read_unread, View.ld_unit_zero (S := S128x1024) hz2, View.ld_unit_zero (S := S1x128x1024) hz3]
  rfl

/-- A choice between two arrays, read at an index. -/
theorem select_at {S : Shape} (b : BitVec 1) (x y : FVec Ideal S .f32) (i : S.Idx) :
    (Scalar.select b x y : FVec Ideal S .f32) i = Scalar.select b (x i) (y i) := by
  unfold Scalar.select
  split <;> rfl

/-- A block of one slab, as a matrix. -/
theorem slab_at (x : Vec Ideal S1x128x1024 .bf16) (r : Fin 128) (j : Fin 1024) :
    k0_pay4 (F := Ideal) x (ix2 r j) = x (ix3 0 r j) := by
  unfold k0_pay4
  refine (shapeCast_apply x _ _ (ix3 0 r j : S1x128x1024.Idx) ?_)
  rw [Shape.rowMajor_val_three, Shape.rowMajor_val_two]
  show (0 * 128 + r.val) * 1024 + j.val = r.val * 1024 + j.val
  omega

theorem eq_comm_word (w : BitVec 32) (k : ℕ) : Scalar.cmpi .eq w (BitVec.ofNat 32 k) = IntOp.cmpi .eq (BitVec.ofNat 32 k) w := by
  show BitVec.ofBool (w == BitVec.ofNat 32 k) = BitVec.ofBool (BitVec.ofNat 32 k == w)
  rw [Bool.beq_comm]

theorem ld_0 (x : Vec Ideal S8x128x1024 .bf16) (r : Fin 128) (j : Fin 1024) :
    (View.ld x (Rect.unit (s := S8x128x1024) ![0, 0, 0] ![1, 128, 1024] inb_S8x128x1024_S1x128x1024_0_0_0) : Vec Ideal S1x128x1024 .bf16) (ix3 0 r j) = x (ix3 0 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_1 (x : Vec Ideal S8x128x1024 .bf16) (r : Fin 128) (j : Fin 1024) :
    (View.ld x (Rect.unit (s := S8x128x1024) ![1, 0, 0] ![1, 128, 1024] inb_S8x128x1024_S1x128x1024_1_0_0) : Vec Ideal S1x128x1024 .bf16) (ix3 0 r j) = x (ix3 1 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_2 (x : Vec Ideal S8x128x1024 .bf16) (r : Fin 128) (j : Fin 1024) :
    (View.ld x (Rect.unit (s := S8x128x1024) ![2, 0, 0] ![1, 128, 1024] inb_S8x128x1024_S1x128x1024_2_0_0) : Vec Ideal S1x128x1024 .bf16) (ix3 0 r j) = x (ix3 2 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_3 (x : Vec Ideal S8x128x1024 .bf16) (r : Fin 128) (j : Fin 1024) :
    (View.ld x (Rect.unit (s := S8x128x1024) ![3, 0, 0] ![1, 128, 1024] inb_S8x128x1024_S1x128x1024_3_0_0) : Vec Ideal S1x128x1024 .bf16) (ix3 0 r j) = x (ix3 3 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_4 (x : Vec Ideal S8x128x1024 .bf16) (r : Fin 128) (j : Fin 1024) :
    (View.ld x (Rect.unit (s := S8x128x1024) ![4, 0, 0] ![1, 128, 1024] inb_S8x128x1024_S1x128x1024_4_0_0) : Vec Ideal S1x128x1024 .bf16) (ix3 0 r j) = x (ix3 4 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_5 (x : Vec Ideal S8x128x1024 .bf16) (r : Fin 128) (j : Fin 1024) :
    (View.ld x (Rect.unit (s := S8x128x1024) ![5, 0, 0] ![1, 128, 1024] inb_S8x128x1024_S1x128x1024_5_0_0) : Vec Ideal S1x128x1024 .bf16) (ix3 0 r j) = x (ix3 5 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_6 (x : Vec Ideal S8x128x1024 .bf16) (r : Fin 128) (j : Fin 1024) :
    (View.ld x (Rect.unit (s := S8x128x1024) ![6, 0, 0] ![1, 128, 1024] inb_S8x128x1024_S1x128x1024_6_0_0) : Vec Ideal S1x128x1024 .bf16) (ix3 0 r j) = x (ix3 6 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_7 (x : Vec Ideal S8x128x1024 .bf16) (r : Fin 128) (j : Fin 1024) :
    (View.ld x (Rect.unit (s := S8x128x1024) ![7, 0, 0] ![1, 128, 1024] inb_S8x128x1024_S1x128x1024_7_0_0) : Vec Ideal S1x128x1024 .bf16) (ix3 0 r j) = x (ix3 7 r j) :=
  congrArg x (funext fun b => Fin.ext (by
    match b with
    | ⟨0, _⟩ => rfl
    | ⟨1, _⟩ => show 0 + 1 * r.val = r.val; omega
    | ⟨2, _⟩ => show 0 + 1 * j.val = j.val; omega))

/-- The gradient of a block, at a row and a column. -/
theorem grad_at (w : BitVec 32) (x0 : Vec Ideal S8x128x1024 .bf16) (x1 : Vec Ideal S1x128x1024 .bf16) (r : Fin 128) (j : Fin 1024) :
    grad w x0 x1 (ix2 r j) = ∑ k : Fin 8, pick w k (x1 (ix3 0 r j)) (x0 (ix3 k r j)) := by
  have step (s : ℕ) (k : Fin 8) (hk : k.val = s) (p : Vec Ideal S1x128x1024 .bf16) (hp : p (ix3 0 r j) = x0 (ix3 k r j)) :
      (Scalar.select (Scalar.cmpi .eq w (BitVec.ofNat 32 s)) (k0_pay4 (F := Ideal) x1) (k0_pay4 (F := Ideal) p) : FVec Ideal S128x1024 .f32) (ix2 r j)
        = pick w k (x1 (ix3 0 r j)) (x0 (ix3 k r j)) := by
    rw [select_at, slab_at, slab_at, hp, eq_comm_word]
    subst hk
    rfl
  rw [Fin.sum_univ_eight,
    ← step 0 0 rfl _ (ld_0 x0 r j), ← step 1 1 rfl _ (ld_1 x0 r j), ← step 2 2 rfl _ (ld_2 x0 r j), ← step 3 3 rfl _ (ld_3 x0 r j),
    ← step 4 4 rfl _ (ld_4 x0 r j), ← step 5 5 rfl _ (ld_5 x0 r j), ← step 6 6 rfl _ (ld_6 x0 r j), ← step 7 7 rfl _ (ld_7 x0 r j)]
  unfold grad k0_pay6 k0_pay5
  refine Eq.trans (b := (Scalar.ofBits (F := Ideal) .f32 0x00000000#32 : EReal) + _ + _ + _ + _ + _ + _ + _ + _) rfl ?_
  have hz : (Scalar.ofBits (F := Ideal) .f32 0x00000000#32 : EReal) = 0 := Ideal.ofBits_zero_f32
  rw [hz, zero_add]
  rfl

end Cert.FfUpd

end
-- ==== Proof.FfUpd.Ref.lean ====
/-
  The summed update's gradient in the reference, read at an index: a sum over the eight slots.
-/
module

public import proofs.«01_k».proof.Proof.Gen.FfUpdReferenceIdeal.Read
public import proofs.«01_k».proof.Proof.Cover
public import proofs.«01_k».proof.Proof.FfUpd.Block

@[expose] public section

set_option maxRecDepth 16384

noncomputable section

namespace Cert.FfUpd.Ref

open Cert.FfUpdReferenceIdeal Cert.FfUpdReferenceIdeal.Read Cert.FfUpdReferenceIdeal.Gen Cert.Cover Idealize.ShloMosaic Idealize.ShloMosaic.TcCoe
  Idealize.ShloMosaic.ValueIdx
open scoped BigOperators

/-- One word of the pair. -/
def at0 : S2.Idx := fun a => match a with
  | ⟨0, _⟩ => ⟨0, by show 0 < 2; omega⟩

def at1 : S2.Idx := fun a => match a with
  | ⟨0, _⟩ => ⟨1, by show 1 < 2; omega⟩

variable (x0 : FVec Ideal S8x1024x1024 .bf16) (x1 : FVec Ideal S4x1024x1024 .bf16) (x2 : IVec S2 32)

theorem chip_at (i : S_.Idx) : val_main_v23 (F := Ideal) x2 i = x2 at0 := by
  unfold val_main_v23
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v22_apply]
  refine congrArg x2 (funext fun a => Fin.ext ?_)
  match a with
  | ⟨0, _⟩ => rfl

theorem share0_at (i : S_.Idx) : val_main_v1 (F := Ideal) x2 i = x2 at1 := by
  unfold val_main_v1
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v0_apply]
  refine congrArg x2 (funext fun a => Fin.ext ?_)
  match a with
  | ⟨0, _⟩ => rfl

theorem share1_at (i : S_.Idx) : val_main_v6 (F := Ideal) x2 i = x2 at1 := by
  unfold val_main_v6
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v5_apply]
  refine congrArg x2 (funext fun a => Fin.ext ?_)
  match a with
  | ⟨0, _⟩ => rfl

theorem share2_at (i : S_.Idx) : val_main_v11 (F := Ideal) x2 i = x2 at1 := by
  unfold val_main_v11
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v10_apply]
  refine congrArg x2 (funext fun a => Fin.ext ?_)
  match a with
  | ⟨0, _⟩ => rfl

theorem slab0_at (i : Fin 1024) (j : Fin 1024) : val_main_v4 (F := Ideal) x1 (ix2 i j) = x1 (ix3 0 i j) := by
  rw [val_main_v4_apply, val_main_v3_apply]
  refine congrArg x1 (funext fun a => Fin.ext ?_)
  have hi := i.isLt
  have hj := j.isLt
  match a with
  | ⟨0, _⟩ =>
    first
      | rfl
      | (show 0 + 0 = 0; rfl)
  | ⟨1, _⟩ =>
    show (i.val * 1024 + j.val) / 1024 % 1024 = i.val
    omega
  | ⟨2, _⟩ =>
    show (i.val * 1024 + j.val) % 1024 = j.val
    omega

theorem slab1_at (i : Fin 1024) (j : Fin 1024) : val_main_v9 (F := Ideal) x1 (ix2 i j) = x1 (ix3 1 i j) := by
  rw [val_main_v9_apply, val_main_v8_apply]
  refine congrArg x1 (funext fun a => Fin.ext ?_)
  have hi := i.isLt
  have hj := j.isLt
  match a with
  | ⟨0, _⟩ =>
    first
      | rfl
      | (show 1 + 0 = 1; rfl)
  | ⟨1, _⟩ =>
    show (i.val * 1024 + j.val) / 1024 % 1024 = i.val
    omega
  | ⟨2, _⟩ =>
    show (i.val * 1024 + j.val) % 1024 = j.val
    omega

theorem slab2_at (i : Fin 1024) (j : Fin 1024) : val_main_v14 (F := Ideal) x1 (ix2 i j) = x1 (ix3 2 i j) := by
  rw [val_main_v14_apply, val_main_v13_apply]
  refine congrArg x1 (funext fun a => Fin.ext ?_)
  have hi := i.isLt
  have hj := j.isLt
  match a with
  | ⟨0, _⟩ =>
    first
      | rfl
      | (show 2 + 0 = 2; rfl)
  | ⟨1, _⟩ =>
    show (i.val * 1024 + j.val) / 1024 % 1024 = i.val
    omega
  | ⟨2, _⟩ =>
    show (i.val * 1024 + j.val) % 1024 = j.val
    omega

theorem slab3_at (i : Fin 1024) (j : Fin 1024) : val_main_v16 (F := Ideal) x1 (ix2 i j) = x1 (ix3 3 i j) := by
  rw [val_main_v16_apply, val_main_v15_apply]
  refine congrArg x1 (funext fun a => Fin.ext ?_)
  have hi := i.isLt
  have hj := j.isLt
  match a with
  | ⟨0, _⟩ =>
    first
      | rfl
      | (show 3 + 0 = 3; rfl)
  | ⟨1, _⟩ =>
    show (i.val * 1024 + j.val) / 1024 % 1024 = i.val
    omega
  | ⟨2, _⟩ =>
    show (i.val * 1024 + j.val) % 1024 = j.val
    omega

/-- A choice between two arrays on one flag, read at an index. -/
theorem where_at (b : IVec S_ 1) (x y : FVec Ideal S1024x1024 .bf16) (z : BitVec 1) (hz : ∀ i, b i = z) (i : S1024x1024.Idx) :
    (select (broadcastInDim S1024x1024 ![] bcast_S_S1024x1024 b) x y : FVec Ideal S1024x1024 .bf16) i = Scalar.select z (x i) (y i) := by
  refine Eq.trans (b := Scalar.select (b (fun a => a.elim0)) (x i) (y i)) ?_ (by rw [hz])
  show Scalar.select (broadcastInDim S1024x1024 ![] bcast_S_S1024x1024 b i) (x i) (y i) = _
  rw [broadcastInDim_apply _ bcast_S_S1024x1024 _ i (fun a => a.elim0) (fun a => a.elim0)]

theorem word_eq (w : BitVec 32) (n : Fin 4) (h0 : w.toInt = n.val) : w = BitVec.ofNat 32 n.val := by
  apply BitVec.eq_of_toInt_eq
  rw [h0]
  clear h0
  revert n
  decide

/-- The chip's own share, at a row and a column. -/
theorem own_at (n : Fin 4) (h0 : (x2 at1).toInt = n.val) (i : Fin 1024) (j : Fin 1024) :
    val_main_v19 (F := Ideal) x1 x2 (ix2 i j) = x1 (ix3 n i j) := by
  have hw := word_eq _ n h0
  unfold val_main_v19
  rw [where_at _ _ _ (IntOp.cmpi .eq (x2 at1) 0#32) (fun i => by rw [val_main_v2_apply, share0_at, val_main_c_apply])]
  unfold val_main_v18
  rw [where_at _ _ _ (IntOp.cmpi .eq (x2 at1) 1#32) (fun i => by rw [val_main_v7_apply, share1_at, val_main_c_0_apply])]
  unfold val_main_v17
  rw [where_at _ _ _ (IntOp.cmpi .eq (x2 at1) 2#32) (fun i => by rw [val_main_v12_apply, share2_at, val_main_c_1_apply])]
  rw [slab0_at, slab1_at, slab2_at, slab3_at, hw]
  match n with
  | 0 => rfl
  | 1 => rfl
  | 2 => rfl
  | 3 => rfl

/-- The gradient at a row and a column. -/
theorem grad_at (n : Fin 4) (h0 : (x2 at1).toInt = n.val) (i : Fin 1024) (j : Fin 1024) :
    val_main_v29 (F := Ideal) x0 x1 x2 (ix2 i j) = ∑ k : Fin 8, pick (x2 at0) k (x1 (ix3 n i j)) (x0 (ix3 k i j)) := by
  rw [val_main_v29_apply, val_main_cst_apply]
  refine (congrArg (· + _) Ideal.ofBits_zero_f32).trans ((zero_add _).trans (Finset.sum_congr rfl fun k _ => ?_))
  rw [val_main_v28_apply, val_main_v27_apply, val_main_call3_v0_apply, val_main_v25_apply, val_main_v21_apply, val_main_v20_apply,
    val_main_v24_apply, chip_at, val_main_call3_v1_apply, val_main_v26_apply]
  have e : (idx_main_v26 (idx_main_call3_v1 (idx_main_v29 (ix2 i j) k)) : S1024x1024.Idx) = ix2 i j := by
    funext a
    apply Fin.ext
    match a with
    | ⟨0, _⟩ => rfl
    | ⟨1, _⟩ => rfl
  rw [e, own_at x1 x2 n h0 i j]
  have e' : (idx_main_v29 (ix2 i j) k : S8x1024x1024.Idx) = ix3 k i j := by
    funext a
    apply Fin.ext
    match a with
    | ⟨0, _⟩ => rfl
    | ⟨1, _⟩ => rfl
    | ⟨2, _⟩ => rfl
  rw [e']
  rfl

end Cert.FfUpd.Ref

end
-- ==== Proof.FfUpd.Chip.lean ====
/-
  What the precondition says: the second word of the pair is one of the four share numbers.
-/
module

public import proofs.«01_k».proof.Proof.Gen.Pre_ffupd_chip
public import proofs.«01_k».proof.Proof.Gen.FfUpdKernel.Frame
public import proofs.«01_k».proof.Proof.Gen.FfUpdKernelIdeal.Frame
public import Idealize.ShloMosaic.Lib.StableHlo.Predicate
public import Idealize.ShloMosaic.Lib.Pipeline.Value
public import Idealize.ShloMosaic.PureOps.BitExact
public import Idealize.ShloMosaic.PureOps.Ideal

@[expose] public section

set_option maxRecDepth 16384

noncomputable section

namespace Cert.FfUpd

open Idealize.ShloMosaic Idealize.ShloMosaic.TcCoe

/-- The place of the second word. -/
def at1 : Cert.Pre_ffupd_chip.S2.Idx := fun a => match a with
  | ⟨0, _⟩ => ⟨1, by show 1 < 2; omega⟩

theorem share_bound {F : FTy → Type} [FloatOps F] (a0 : FVec F Cert.Pre_ffupd_chip.S8x1024x1024 .bf16) (a1 : FVec F Cert.Pre_ffupd_chip.S4x1024x1024 .bf16)
    (a2 : IVec Cert.Pre_ffupd_chip.S2 32) (a3 a4 a5 : FVec F Cert.Pre_ffupd_chip.S1024x1024 .f32)
    (h : Cert.Pre_ffupd_chip.fn (F := F) a0 a1 a2 a3 a4 a5 = fun _ => 1#1) :
    0 ≤ (a2 at1).toInt ∧ (a2 at1).toInt ≤ 3 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h (fun a => a.elim0)
  have e : (shapeCast Cert.Pre_ffupd_chip.S_ (extractStridedSlice Cert.Pre_ffupd_chip.S1 ![1] a2 Cert.Pre_ffupd_chip.Facts.slices_S2_S1_1)
      Cert.Pre_ffupd_chip.Facts.shapeCasts_S1_S_ : IVec Cert.Pre_ffupd_chip.S_ 32) (fun a => a.elim0) = a2 at1 := by
    refine (shapeCast_apply _ _ _ (fun a => match a with | ⟨0, _⟩ => ⟨0, by show 0 < 1; omega⟩ : Cert.Pre_ffupd_chip.S1.Idx) ?_).trans
      (extractStridedSlice_apply _ _ _ _ at1 (fun a => ?_))
    · decide
    · match a with
      | ⟨0, _⟩ => rfl
  simp only [Cert.Pre_ffupd_chip.fn, constantI, cmpi, andi, andi_one] at pre
  rw [e] at pre
  simp only [ofBool_eq_one, IntOp.cmpi, BitVec.sle, decide_eq_true_eq] at pre
  exact pre

theorem one_word (x : Cert.Pre_ffupd_chip.S2.Idx) (h : (x 0).val = 1) : x = at1 := by
  funext b
  apply Fin.ext
  match b with
  | ⟨0, _⟩ => exact h

theorem nat_of_bound (w : BitVec 32) (h : 0 ≤ w.toInt ∧ w.toInt ≤ 3) : w.toNat ≤ 3 ∧ w.toInt = w.toNat := by
  have := w.isLt
  have := BitVec.toInt_eq_toNat_cond w
  split at this <;> omega

section
open Cert.FfUpdKernel Cert.FfUpdKernel.Gen

theorem ok_bits (m : (ℓ : Loc nD τ sig) → Buf (Elt Bits) ℓ)
    (h : ((m (((0 : Dev nD) : Thread nD τ).loc main_arg2) : IVec S2 32) at1).toNat ≤ 3) : Ok (F := Bits) m := by
  unfold Ok ok0
  intro i
  have hi : (i 0).val < 8 := (i 0).isLt
  have e : cc0_transform_1 inb_S2_S1_1 numel1_S1 (tbl m) i = ![((m (((0 : Dev nD) : Thread nD τ).loc main_arg2) : IVec S2 32) at1).toNat, (i 0).val, 0] := by
    funext a
    match a with
    | ⟨0, _⟩ =>
      refine congrArg (fun x : S2.Idx => ((m (((0 : Dev nD) : Thread nD τ).loc main_arg2) : IVec S2 32) x).toNat) ?_
      exact one_word _ rfl
    | ⟨1, _⟩ => show (BitVec.ofNat 32 (i 0).val).toNat = (i 0).val; rw [BitVec.toNat_ofNat]; omega
    | ⟨2, _⟩ => rfl
  rw [e]
  refine ⟨fun a => ?_, .inr ?_⟩
  · match a with
    | ⟨0, _⟩ => show (((m (((0 : Dev nD) : Thread nD τ).loc main_arg2) : IVec S2 32) at1).toNat + 1) * 1 ≤ 4; omega
    | ⟨1, _⟩ => show ((i 0).val + 1) * 128 ≤ 1024; omega
    | ⟨2, _⟩ => show (0 + 1) * 1024 ≤ 1024; omega
  · exact Affine.block_words_dvd (of_decide_eq_true rfl) (by decide)

end

section
open Cert.FfUpdKernelIdeal Cert.FfUpdKernelIdeal.Gen

theorem ok_ideal (m : (ℓ : Loc nD τ sig) → Buf (Elt Ideal) ℓ)
    (h : ((m (((0 : Dev nD) : Thread nD τ).loc main_arg2) : IVec S2 32) at1).toNat ≤ 3) : Ok (F := Ideal) m := by
  unfold Ok ok0
  intro i
  have hi : (i 0).val < 8 := (i 0).isLt
  have e : cc0_transform_1 inb_S2_S1_1 numel1_S1 (tbl m) i = ![((m (((0 : Dev nD) : Thread nD τ).loc main_arg2) : IVec S2 32) at1).toNat, (i 0).val, 0] := by
    funext a
    match a with
    | ⟨0, _⟩ =>
      refine congrArg (fun x : S2.Idx => ((m (((0 : Dev nD) : Thread nD τ).loc main_arg2) : IVec S2 32) x).toNat) ?_
      exact one_word _ rfl
    | ⟨1, _⟩ => show (BitVec.ofNat 32 (i 0).val).toNat = (i 0).val; rw [BitVec.toNat_ofNat]; omega
    | ⟨2, _⟩ => rfl
  rw [e]
  refine ⟨fun a => ?_, .inr ?_⟩
  · match a with
    | ⟨0, _⟩ => show (((m (((0 : Dev nD) : Thread nD τ).loc main_arg2) : IVec S2 32) at1).toNat + 1) * 1 ≤ 4; omega
    | ⟨1, _⟩ => show ((i 0).val + 1) * 128 ≤ 1024; omega
    | ⟨2, _⟩ => show (0 + 1) * 1024 ≤ 1024; omega
  · exact Affine.block_words_dvd (of_decide_eq_true rfl) (by decide)

end

end Cert.FfUpd

end
-- ==== Proof.FfUpd.Final.lean ====
/-
  The summed update: the four arrays the kernel leaves are the reference's stages of the same arguments.
-/
module

public import proofs.«01_k».proof.Proof.FfUpd.Block
public import proofs.«01_k».proof.Proof.FfUpd.Ref
public import proofs.«01_k».proof.Proof.FfUpd.Chip
public import Idealize.ShloMosaic.Lib.Pipeline.ValueKit
public import Idealize.ShloMosaic.Lib.StableHlo.Run

@[expose] public section

set_option maxRecDepth 16384

noncomputable section

namespace Cert.FfUpd

section Values
open Cert.FfUpdKernelIdeal Cert.FfUpdKernelIdeal.Gen Cert.FfUpdReferenceIdeal.Read Idealize.ShloMosaic

variable (g x2 x3 x4 : FVec Ideal S128x1024 .f32) (y : S128x1024.Idx)
  (a0 : FVec Ideal S8x1024x1024 .bf16) (a1 : FVec Ideal S4x1024x1024 .bf16) (a2 : IVec S2 32) (a3 a4 a5 : FVec Ideal S1024x1024 .f32) (i : S1024x1024.Idx)

/-- The new first moment, from a block's gradient and moment. -/
theorem moment_at (hg : g y = val_main_v29 (F := Ideal) a0 a1 a2 i) (hm : x3 y = a4 i) :
    k0_pay1 (F := Ideal) g x3 k0_pay7 y = val_main_v34 (F := Ideal) a0 a1 a2 a4 i := by
  rw [val_main_v34_apply, val_main_v31_apply, val_main_v33_apply, val_main_v30_apply, val_main_v32_apply, val_main_cst_2_apply,
    val_main_cst_3_apply, ← hg, ← hm]
  rfl

/-- The new second moment, from a block's gradient and moment. -/
theorem second_at (hg : g y = val_main_v29 (F := Ideal) a0 a1 a2 i) (hv : x4 y = a5 i) :
    k0_pay2 (F := Ideal) g x4 y = val_main_v40 (F := Ideal) a0 a1 a2 a5 i := by
  rw [val_main_v40_apply, val_main_v36_apply, val_main_v39_apply, val_main_v37_apply, val_main_v35_apply, val_main_v38_apply,
    val_main_cst_4_apply, val_main_cst_5_apply, ← hg, ← hv]
  rfl

/-- The step, from a block's gradient, weight and moments. -/
theorem delta_at (hg : g y = val_main_v29 (F := Ideal) a0 a1 a2 i) (hw : x2 y = a3 i) (hm : x3 y = a4 i) (hv : x4 y = a5 i) :
    k0_pay3 (F := Ideal) g x2 x3 x4 k0_pay7 y = val_main_v53 (F := Ideal) a0 a1 a2 a3 a4 a5 i := by
  have h1 := moment_at g x3 y a0 a1 a2 a4 i hg hm
  have h2 := second_at g x4 y a0 a1 a2 a5 i hg hv
  rw [val_main_v53_apply, val_main_v52_apply, val_main_cst_10_apply, val_main_v51_apply, val_main_v50_apply, val_main_v49_apply,
    val_main_cst_9_apply, val_main_v48_apply, val_main_v47_apply, val_main_v46_apply, val_main_cst_8_apply, val_main_v45_apply,
    val_main_v44_apply, val_main_v43_apply, val_main_cst_7_apply, val_main_v42_apply, val_main_v41_apply, val_main_cst_6_apply,
    ← h1, ← h2, ← hw]
  rfl

end Values

open Cert.FfUpdKernelIdeal Cert.FfUpdKernelIdeal.Gen Cert.Cover Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (hO : Ok m)

/-- The first argument: the partial gradients in the slots. -/
def arg0 : FVec Ideal S8x1024x1024 .bf16 := m (((0 : Dev nD) : Thread nD τ).loc main_arg0)

/-- The second argument: the chip's own partial gradients, a share per block. -/
def arg1 : FVec Ideal S4x1024x1024 .bf16 := m (((0 : Dev nD) : Thread nD τ).loc main_arg1)

/-- The third argument: the pair of words. -/
def arg2 : IVec S2 32 := m (((0 : Dev nD) : Thread nD τ).loc main_arg2)

/-- The fourth argument: the weights. -/
def arg3 : FVec Ideal S1024x1024 .f32 := m (((0 : Dev nD) : Thread nD τ).loc main_arg3)

/-- The fifth argument: the first moment. -/
def arg4 : FVec Ideal S1024x1024 .f32 := m (((0 : Dev nD) : Thread nD τ).loc main_arg4)

/-- The sixth argument: the second moment. -/
def arg5 : FVec Ideal S1024x1024 .f32 := m (((0 : Dev nD) : Thread nD τ).loc main_arg5)

theorem NN (t : Fin (cfgM m hO).N) : t.val < 8 := lt_of_lt_of_eq t.isLt N_0

/-- Row `r` of point `t`'s block. -/
def row (t : Fin (cfgM m hO).N) (r : Fin 128) : Fin 1024 := ⟨128 * t.val + r.val, by have := NN m hO t; have := r.isLt; omega⟩

theorem coord_0 : ∀ t : Fin grid0.N, (grid0.coords t 0).val = t.val := by decide +kernel

theorem index_0 : ∀ t : Fin (cfgM m hO).N, ((cfgM m hO).win 0).index t = ![0, t.val, 0] :=
  (by decide +kernel : ∀ t : Fin grid0.N, cc0_transform_0 (grid0.coords t) = ![0, t.val, 0])

theorem blk0_at (t : Fin (cfgM m hO).N) (k : Fin 8) (r : Fin 128) (j : Fin 1024) :
    (iblk m hO 0 0 t : FVec Ideal S8x128x1024 .bf16) (ix3 k r j) = arg0 m (ix3 k (row m hO t r) j) := by
  unfold iblk
  refine (View.read_apply _ _).trans ?_
  refine congrArg (arg0 m) (funext fun a => Fin.ext ?_)
  match a with
  | ⟨0, _⟩ =>
    refine (Pipeline.Window.rect_emb_val ((cfgM m hO).win 0) t _ (0 : Fin 3)).trans ?_
    rw [index_0 m hO t]
    show 0 * 8 + k.val = k.val
    omega
  | ⟨1, _⟩ =>
    refine (Pipeline.Window.rect_emb_val ((cfgM m hO).win 0) t _ (1 : Fin 3)).trans ?_
    rw [index_0 m hO t]
    show t.val * 128 + r.val = 128 * t.val + r.val
    omega
  | ⟨2, _⟩ =>
    refine (Pipeline.Window.rect_emb_val ((cfgM m hO).win 0) t _ (2 : Fin 3)).trans ?_
    rw [index_0 m hO t]
    show 0 * 1024 + j.val = j.val
    omega

theorem index_1 (t : Fin (cfgM m hO).N) : ((cfgM m hO).win 1).index t = ![(arg2 m at1).toNat, t.val, 0] := by
  refine Eq.trans (b := cc0_transform_1 inb_S2_S1_1 numel1_S1 (tbl m) (grid0.coords t)) rfl ?_
  have ht := NN m hO t
  funext a
  match a with
  | ⟨0, _⟩ =>
    refine congrArg (fun x : S2.Idx => (arg2 m x).toNat) ?_
    exact one_word _ rfl
  | ⟨1, _⟩ =>
    show (BitVec.ofNat 32 (grid0.coords t 0).val).toNat = t.val
    rw [coord_0 t, BitVec.toNat_ofNat]
    omega
  | ⟨2, _⟩ => rfl

theorem blk1_at (n : Fin 4) (hn : (arg2 m at1).toNat = n.val) (t : Fin (cfgM m hO).N) (r : Fin 128) (j : Fin 1024) :
    (iblk m hO 0 1 t : FVec Ideal S1x128x1024 .bf16) (ix3 0 r j) = arg1 m (ix3 n (row m hO t r) j) := by
  unfold iblk
  refine (View.read_apply _ _).trans ?_
  refine congrArg (arg1 m) (funext fun a => Fin.ext ?_)
  match a with
  | ⟨0, _⟩ =>
    refine (Pipeline.Window.rect_emb_val ((cfgM m hO).win 1) t _ (0 : Fin 3)).trans ?_
    rw [index_1 m hO t]
    show (arg2 m at1).toNat * 1 + 0 = n.val
    omega
  | ⟨1, _⟩ =>
    refine (Pipeline.Window.rect_emb_val ((cfgM m hO).win 1) t _ (1 : Fin 3)).trans ?_
    rw [index_1 m hO t]
    show t.val * 128 + r.val = 128 * t.val + r.val
    omega
  | ⟨2, _⟩ =>
    refine (Pipeline.Window.rect_emb_val ((cfgM m hO).win 1) t _ (2 : Fin 3)).trans ?_
    rw [index_1 m hO t]
    show 0 * 1024 + j.val = j.val
    omega

theorem index_2 : ∀ t : Fin (cfgM m hO).N, ((cfgM m hO).win 2).index t = ![t.val, 0] :=
  (by decide +kernel : ∀ t : Fin grid0.N, cc0_transform_2 (grid0.coords t) = ![t.val, 0])

theorem blk2_at (t : Fin (cfgM m hO).N) (r : Fin 128) (j : Fin 1024) :
    (iblk m hO 0 2 t : FVec Ideal S128x1024 .f32) (ix2 r j) = arg3 m (ix2 (row m hO t r) j) := by
  unfold iblk
  refine (View.read_apply _ _).trans ?_
  refine congrArg (arg3 m) (e2 _ _ _ ?_ ?_)
  · refine (Pipeline.Window.rect_emb_val ((cfgM m hO).win 2) t _ (0 : Fin 2)).trans ?_
    rw [index_2 m hO t]
    show t.val * 128 + r.val = 128 * t.val + r.val
    omega
  · refine (Pipeline.Window.rect_emb_val ((cfgM m hO).win 2) t _ (1 : Fin 2)).trans ?_
    rw [index_2 m hO t]
    show 0 * 1024 + j.val = j.val
    omega

theorem index_3 : ∀ t : Fin (cfgM m hO).N, ((cfgM m hO).win 3).index t = ![t.val, 0] :=
  (by decide +kernel : ∀ t : Fin grid0.N, cc0_transform_3 (grid0.coords t) = ![t.val, 0])

theorem blk3_at (t : Fin (cfgM m hO).N) (r : Fin 128) (j : Fin 1024) :
    (iblk m hO 0 3 t : FVec Ideal S128x1024 .f32) (ix2 r j) = arg4 m (ix2 (row m hO t r) j) := by
  unfold iblk
  refine (View.read_apply _ _).trans ?_
  refine congrArg (arg4 m) (e2 _ _ _ ?_ ?_)
  · refine (Pipeline.Window.rect_emb_val ((cfgM m hO).win 3) t _ (0 : Fin 2)).trans ?_
    rw [index_3 m hO t]
    show t.val * 128 + r.val = 128 * t.val + r.val
    omega
  · refine (Pipeline.Window.rect_emb_val ((cfgM m hO).win 3) t _ (1 : Fin 2)).trans ?_
    rw [index_3 m hO t]
    show 0 * 1024 + j.val = j.val
    omega

theorem index_4 : ∀ t : Fin (cfgM m hO).N, ((cfgM m hO).win 4).index t = ![t.val, 0] :=
  (by decide +kernel : ∀ t : Fin grid0.N, cc0_transform_4 (grid0.coords t) = ![t.val, 0])

theorem blk4_at (t : Fin (cfgM m hO).N) (r : Fin 128) (j : Fin 1024) :
    (iblk m hO 0 4 t : FVec Ideal S128x1024 .f32) (ix2 r j) = arg5 m (ix2 (row m hO t r) j) := by
  unfold iblk
  refine (View.read_apply _ _).trans ?_
  refine congrArg (arg5 m) (e2 _ _ _ ?_ ?_)
  · refine (Pipeline.Window.rect_emb_val ((cfgM m hO).win 4) t _ (0 : Fin 2)).trans ?_
    rw [index_4 m hO t]
    show t.val * 128 + r.val = 128 * t.val + r.val
    omega
  · refine (Pipeline.Window.rect_emb_val ((cfgM m hO).win 4) t _ (1 : Fin 2)).trans ?_
    rw [index_4 m hO t]
    show 0 * 1024 + j.val = j.val
    omega

theorem index_5 : ∀ t : Fin (cfgM m hO).N, ((cfgM m hO).win 5).index t = ![t.val, 0] :=
  (by decide +kernel : ∀ t : Fin grid0.N, cc0_transform_5 (grid0.coords t) = ![t.val, 0])

theorem covers_5 : ((cfgM m hO).win 5).Covers := by
  refine ⟨fun a => by match a with | ⟨0, _⟩ => show 0 < 128; omega | ⟨1, _⟩ => show 0 < 1024; omega, fun β => ?_⟩
  have h0 : (β (0 : Fin 2)).val < (1024 + 128 - 1) / 128 := (β (0 : Fin 2)).isLt
  have h1 : (β (1 : Fin 2)).val < (1024 + 1024 - 1) / 1024 := (β (1 : Fin 2)).isLt
  have h2 : (β (0 : Fin 2)).val < 8 := by omega
  refine ⟨(⟨(β (0 : Fin 2)).val, lt_of_lt_of_eq h2 N_0.symm⟩ : Fin grid0.N), flush0_5 _ _, fun a => ⟨?_, .inl rfl⟩⟩
  rw [index_5 m hO]
  match a with
  | ⟨0, _⟩ => rfl
  | ⟨1, _⟩ => show 0 = (β (1 : Fin 2)).val; omega

theorem emb_5 (t : Fin (cfgM m hO).N) (y : S128x1024.Idx) :
    (((cfgM m hO).win 5).blk t).view.emb y = ix2 (row m hO t (y 0)) (y 1) := by
  refine e2 _ _ _ ?_ ?_
  · refine (Pipeline.Window.rect_emb_val ((cfgM m hO).win 5) t y (0 : Fin 2)).trans ?_
    rw [index_5 m hO t]
    show t.val * 128 + (y 0).val = 128 * t.val + (y 0).val
    omega
  · refine (Pipeline.Window.rect_emb_val ((cfgM m hO).win 5) t y (1 : Fin 2)).trans ?_
    rw [index_5 m hO t]
    show 0 * 1024 + (y 1).val = (y 1).val
    omega

theorem index_6 : ∀ t : Fin (cfgM m hO).N, ((cfgM m hO).win 6).index t = ![t.val, 0] :=
  (by decide +kernel : ∀ t : Fin grid0.N, cc0_transform_6 (grid0.coords t) = ![t.val, 0])

theorem covers_6 : ((cfgM m hO).win 6).Covers := by
  refine ⟨fun a => by match a with | ⟨0, _⟩ => show 0 < 128; omega | ⟨1, _⟩ => show 0 < 1024; omega, fun β => ?_⟩
  have h0 : (β (0 : Fin 2)).val < (1024 + 128 - 1) / 128 := (β (0 : Fin 2)).isLt
  have h1 : (β (1 : Fin 2)).val < (1024 + 1024 - 1) / 1024 := (β (1 : Fin 2)).isLt
  have h2 : (β (0 : Fin 2)).val < 8 := by omega
  refine ⟨(⟨(β (0 : Fin 2)).val, lt_of_lt_of_eq h2 N_0.symm⟩ : Fin grid0.N), flush0_6 _ _, fun a => ⟨?_, .inl rfl⟩⟩
  rw [index_6 m hO]
  match a with
  | ⟨0, _⟩ => rfl
  | ⟨1, _⟩ => show 0 = (β (1 : Fin 2)).val; omega

theorem emb_6 (t : Fin (cfgM m hO).N) (y : S128x1024.Idx) :
    (((cfgM m hO).win 6).blk t).view.emb y = ix2 (row m hO t (y 0)) (y 1) := by
  refine e2 _ _ _ ?_ ?_
  · refine (Pipeline.Window.rect_emb_val ((cfgM m hO).win 6) t y (0 : Fin 2)).trans ?_
    rw [index_6 m hO t]
    show t.val * 128 + (y 0).val = 128 * t.val + (y 0).val
    omega
  · refine (Pipeline.Window.rect_emb_val ((cfgM m hO).win 6) t y (1 : Fin 2)).trans ?_
    rw [index_6 m hO t]
    show 0 * 1024 + (y 1).val = (y 1).val
    omega

theorem index_7 : ∀ t : Fin (cfgM m hO).N, ((cfgM m hO).win 7).index t = ![t.val, 0] :=
  (by decide +kernel : ∀ t : Fin grid0.N, cc0_transform_7 (grid0.coords t) = ![t.val, 0])

theorem covers_7 : ((cfgM m hO).win 7).Covers := by
  refine ⟨fun a => by match a with | ⟨0, _⟩ => show 0 < 128; omega | ⟨1, _⟩ => show 0 < 1024; omega, fun β => ?_⟩
  have h0 : (β (0 : Fin 2)).val < (1024 + 128 - 1) / 128 := (β (0 : Fin 2)).isLt
  have h1 : (β (1 : Fin 2)).val < (1024 + 1024 - 1) / 1024 := (β (1 : Fin 2)).isLt
  have h2 : (β (0 : Fin 2)).val < 8 := by omega
  refine ⟨(⟨(β (0 : Fin 2)).val, lt_of_lt_of_eq h2 N_0.symm⟩ : Fin grid0.N), flush0_7 _ _, fun a => ⟨?_, .inl rfl⟩⟩
  rw [index_7 m hO]
  match a with
  | ⟨0, _⟩ => rfl
  | ⟨1, _⟩ => show 0 = (β (1 : Fin 2)).val; omega

theorem emb_7 (t : Fin (cfgM m hO).N) (y : S128x1024.Idx) :
    (((cfgM m hO).win 7).blk t).view.emb y = ix2 (row m hO t (y 0)) (y 1) := by
  refine e2 _ _ _ ?_ ?_
  · refine (Pipeline.Window.rect_emb_val ((cfgM m hO).win 7) t y (0 : Fin 2)).trans ?_
    rw [index_7 m hO t]
    show t.val * 128 + (y 0).val = 128 * t.val + (y 0).val
    omega
  · refine (Pipeline.Window.rect_emb_val ((cfgM m hO).win 7) t y (1 : Fin 2)).trans ?_
    rw [index_7 m hO t]
    show 0 * 1024 + (y 1).val = (y 1).val
    omega

theorem index_8 : ∀ t : Fin (cfgM m hO).N, ((cfgM m hO).win 8).index t = ![t.val, 0] :=
  (by decide +kernel : ∀ t : Fin grid0.N, cc0_transform_8 (grid0.coords t) = ![t.val, 0])

theorem covers_8 : ((cfgM m hO).win 8).Covers := by
  refine ⟨fun a => by match a with | ⟨0, _⟩ => show 0 < 128; omega | ⟨1, _⟩ => show 0 < 1024; omega, fun β => ?_⟩
  have h0 : (β (0 : Fin 2)).val < (1024 + 128 - 1) / 128 := (β (0 : Fin 2)).isLt
  have h1 : (β (1 : Fin 2)).val < (1024 + 1024 - 1) / 1024 := (β (1 : Fin 2)).isLt
  have h2 : (β (0 : Fin 2)).val < 8 := by omega
  refine ⟨(⟨(β (0 : Fin 2)).val, lt_of_lt_of_eq h2 N_0.symm⟩ : Fin grid0.N), flush0_8 _ _, fun a => ⟨?_, .inl rfl⟩⟩
  rw [index_8 m hO]
  match a with
  | ⟨0, _⟩ => rfl
  | ⟨1, _⟩ => show 0 = (β (1 : Fin 2)).val; omega

theorem emb_8 (t : Fin (cfgM m hO).N) (y : S128x1024.Idx) :
    (((cfgM m hO).win 8).blk t).view.emb y = ix2 (row m hO t (y 0)) (y 1) := by
  refine e2 _ _ _ ?_ ?_
  · refine (Pipeline.Window.rect_emb_val ((cfgM m hO).win 8) t y (0 : Fin 2)).trans ?_
    rw [index_8 m hO t]
    show t.val * 128 + (y 0).val = 128 * t.val + (y 0).val
    omega
  · refine (Pipeline.Window.rect_emb_val ((cfgM m hO).win 8) t y (1 : Fin 2)).trans ?_
    rw [index_8 m hO t]
    show 0 * 1024 + (y 1).val = (y 1).val
    omega

/-- The kernel's first word is the pair's first word. -/
theorem word_eq : word 0 (tbl m 0) = arg2 m Ref.at0 := by
  unfold word
  refine congrArg (arg2 m) (funext fun a => Fin.ext ?_)
  match a with
  | ⟨0, _⟩ => rfl

variable (n : Fin 4) (hn : (arg2 m at1).toNat = n.val) (hi : (arg2 m at1).toInt = n.val)
include hn hi

/-- A block's gradient is the reference's at the block's rows. -/
theorem grad_eq (t : Fin (cfgM m hO).N) (r : Fin 128) (j : Fin 1024) :
    grad (arg2 m Ref.at0) (iblk m hO 0 0 t) (iblk m hO 0 1 t) (ix2 r j)
      = Cert.FfUpdReferenceIdeal.Read.val_main_v29 (F := Ideal) (arg0 m) (arg1 m) (arg2 m) (ix2 (row m hO t r) j) := by
  refine (grad_at _ _ _ r j).trans ?_
  refine Eq.trans ?_ (Ref.grad_at (arg0 m) (arg1 m) (arg2 m) n hi (row m hO t r) j).symm
  exact Finset.sum_congr rfl fun k _ => congrArg₂ (pick (arg2 m Ref.at0) k) (blk1_at m hO n hn t r j) (blk0_at m hO t k r j)

omit hn hi in
theorem eta_out (y : S128x1024.Idx) : y = ix2 (y 0) (y 1) := eta2 y

omit hn hi in
theorem o_5 (t : Fin (cfgM m hO).N) : (outsAt0 m hO 0 t).1 = grad (arg2 m Ref.at0) (iblk m hO 0 0 t) (iblk m hO 0 1 t) := by
  unfold outsAt0
  dsimp only
  refine (out_5 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => grad (w) (iblk m hO 0 0 t) (iblk m hO 0 1 t)) (word_eq m)

theorem at_5 (t : Fin (cfgM m hO).N) (y : S128x1024.Idx) : (outsAt0 m hO 0 t).1 y
    = Cert.FfUpdReferenceIdeal.Read.val_main_v29 (F := Ideal) (arg0 m) (arg1 m) (arg2 m) (ix2 (row m hO t (y 0)) (y 1)) := by
  refine (congrFun (o_5 m hO t) y).trans ?_
  refine (congrArg (grad (arg2 m Ref.at0) (iblk m hO 0 0 t) (iblk m hO 0 1 t)) (eta_out y)).trans ?_
  exact grad_eq m hO n hn hi t (y 0) (y 1)

theorem arr_5 : (dats m hO 0 0).arrAt 5 (cfgM m hO).N = Cert.FfUpdReferenceIdeal.Read.val_main_v29 (F := Ideal) (arg0 m) (arg1 m) (arg2 m) := by
  refine (dats m hO 0 0).arrAt_eq_of_covers 5 _ (covers_5 m hO) fun t ht y => ?_
  refine Eq.trans (b := (dats m hO 0 0).after 5 t y) rfl ?_
  refine (congrFun (after0_5 m hO 0 t) y).trans ?_
  refine (at_5 m hO n hn hi t y).trans ?_
  exact congrArg (Cert.FfUpdReferenceIdeal.Read.val_main_v29 (F := Ideal) (arg0 m) (arg1 m) (arg2 m)) (emb_5 m hO t y).symm

omit hn hi in
theorem o_6 (t : Fin (cfgM m hO).N) : (outsAt0 m hO 0 t).2.1 = k0_pay3 (F := Ideal) (grad (arg2 m Ref.at0) (iblk m hO 0 0 t) (iblk m hO 0 1 t)) (iblk m hO 0 2 t) (iblk m hO 0 3 t) (iblk m hO 0 4 t) k0_pay7 := by
  unfold outsAt0
  dsimp only
  refine (out_6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay3 (F := Ideal) (grad (w) (iblk m hO 0 0 t) (iblk m hO 0 1 t)) (iblk m hO 0 2 t) (iblk m hO 0 3 t) (iblk m hO 0 4 t) k0_pay7) (word_eq m)

theorem at_6 (t : Fin (cfgM m hO).N) (y : S128x1024.Idx) : (outsAt0 m hO 0 t).2.1 y
    = Cert.FfUpdReferenceIdeal.Read.val_main_v53 (F := Ideal) (arg0 m) (arg1 m) (arg2 m) (arg3 m) (arg4 m) (arg5 m) (ix2 (row m hO t (y 0)) (y 1)) := by
  refine (congrFun (o_6 m hO t) y).trans ?_
  refine (congrArg (k0_pay3 (F := Ideal) (grad (arg2 m Ref.at0) (iblk m hO 0 0 t) (iblk m hO 0 1 t)) (iblk m hO 0 2 t) (iblk m hO 0 3 t) (iblk m hO 0 4 t) k0_pay7) (eta_out y)).trans ?_
  exact delta_at _ _ _ _ _ _ _ _ _ _ _ _ (grad_eq m hO n hn hi t (y 0) (y 1)) (blk2_at m hO t (y 0) (y 1)) (blk3_at m hO t (y 0) (y 1)) (blk4_at m hO t (y 0) (y 1))

theorem arr_6 : (dats m hO 0 0).arrAt 6 (cfgM m hO).N = Cert.FfUpdReferenceIdeal.Read.val_main_v53 (F := Ideal) (arg0 m) (arg1 m) (arg2 m) (arg3 m) (arg4 m) (arg5 m) := by
  refine (dats m hO 0 0).arrAt_eq_of_covers 6 _ (covers_6 m hO) fun t ht y => ?_
  refine Eq.trans (b := (dats m hO 0 0).after 6 t y) rfl ?_
  refine (congrFun (after0_6 m hO 0 t) y).trans ?_
  refine (at_6 m hO n hn hi t y).trans ?_
  exact congrArg (Cert.FfUpdReferenceIdeal.Read.val_main_v53 (F := Ideal) (arg0 m) (arg1 m) (arg2 m) (arg3 m) (arg4 m) (arg5 m)) (emb_6 m hO t y).symm

omit hn hi in
theorem o_7 (t : Fin (cfgM m hO).N) : (outsAt0 m hO 0 t).2.2.1 = k0_pay1 (F := Ideal) (grad (arg2 m Ref.at0) (iblk m hO 0 0 t) (iblk m hO 0 1 t)) (iblk m hO 0 3 t) k0_pay7 := by
  unfold outsAt0
  dsimp only
  refine (out_7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay1 (F := Ideal) (grad (w) (iblk m hO 0 0 t) (iblk m hO 0 1 t)) (iblk m hO 0 3 t) k0_pay7) (word_eq m)

theorem at_7 (t : Fin (cfgM m hO).N) (y : S128x1024.Idx) : (outsAt0 m hO 0 t).2.2.1 y
    = Cert.FfUpdReferenceIdeal.Read.val_main_v34 (F := Ideal) (arg0 m) (arg1 m) (arg2 m) (arg4 m) (ix2 (row m hO t (y 0)) (y 1)) := by
  refine (congrFun (o_7 m hO t) y).trans ?_
  refine (congrArg (k0_pay1 (F := Ideal) (grad (arg2 m Ref.at0) (iblk m hO 0 0 t) (iblk m hO 0 1 t)) (iblk m hO 0 3 t) k0_pay7) (eta_out y)).trans ?_
  exact moment_at _ _ _ _ _ _ _ _ (grad_eq m hO n hn hi t (y 0) (y 1)) (blk3_at m hO t (y 0) (y 1))

theorem arr_7 : (dats m hO 0 0).arrAt 7 (cfgM m hO).N = Cert.FfUpdReferenceIdeal.Read.val_main_v34 (F := Ideal) (arg0 m) (arg1 m) (arg2 m) (arg4 m) := by
  refine (dats m hO 0 0).arrAt_eq_of_covers 7 _ (covers_7 m hO) fun t ht y => ?_
  refine Eq.trans (b := (dats m hO 0 0).after 7 t y) rfl ?_
  refine (congrFun (after0_7 m hO 0 t) y).trans ?_
  refine (at_7 m hO n hn hi t y).trans ?_
  exact congrArg (Cert.FfUpdReferenceIdeal.Read.val_main_v34 (F := Ideal) (arg0 m) (arg1 m) (arg2 m) (arg4 m)) (emb_7 m hO t y).symm

omit hn hi in
theorem o_8 (t : Fin (cfgM m hO).N) : (outsAt0 m hO 0 t).2.2.2 = k0_pay2 (F := Ideal) (grad (arg2 m Ref.at0) (iblk m hO 0 0 t) (iblk m hO 0 1 t)) (iblk m hO 0 4 t) := by
  unfold outsAt0
  dsimp only
  refine (out_8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay2 (F := Ideal) (grad (w) (iblk m hO 0 0 t) (iblk m hO 0 1 t)) (iblk m hO 0 4 t)) (word_eq m)

theorem at_8 (t : Fin (cfgM m hO).N) (y : S128x1024.Idx) : (outsAt0 m hO 0 t).2.2.2 y
    = Cert.FfUpdReferenceIdeal.Read.val_main_v40 (F := Ideal) (arg0 m) (arg1 m) (arg2 m) (arg5 m) (ix2 (row m hO t (y 0)) (y 1)) := by
  refine (congrFun (o_8 m hO t) y).trans ?_
  refine (congrArg (k0_pay2 (F := Ideal) (grad (arg2 m Ref.at0) (iblk m hO 0 0 t) (iblk m hO 0 1 t)) (iblk m hO 0 4 t)) (eta_out y)).trans ?_
  exact second_at _ _ _ _ _ _ _ _ (grad_eq m hO n hn hi t (y 0) (y 1)) (blk4_at m hO t (y 0) (y 1))

theorem arr_8 : (dats m hO 0 0).arrAt 8 (cfgM m hO).N = Cert.FfUpdReferenceIdeal.Read.val_main_v40 (F := Ideal) (arg0 m) (arg1 m) (arg2 m) (arg5 m) := by
  refine (dats m hO 0 0).arrAt_eq_of_covers 8 _ (covers_8 m hO) fun t ht y => ?_
  refine Eq.trans (b := (dats m hO 0 0).after 8 t y) rfl ?_
  refine (congrFun (after0_8 m hO 0 t) y).trans ?_
  refine (at_8 m hO n hn hi t y).trans ?_
  exact congrArg (Cert.FfUpdReferenceIdeal.Read.val_main_v40 (F := Ideal) (arg0 m) (arg1 m) (arg2 m) (arg5 m)) (emb_8 m hO t y).symm

end Cert.FfUpd

end
-- ==== Proof.FfUpd.Claims.lean ====
/-
  The claims about the summed update of the MLP matrices: the frames, and the kernel's results equal to the reference's.
-/
module

public import proofs.«01_k».proof.Proof.FfUpd.Final
public import proofs.«01_k».proof.Proof.Gen.FfUpdReferenceIdeal.Run
public import proofs.«01_k».proof.Defs
public import Idealize.ShloMosaic.Adequacy
public import Idealize.ShloMosaic.Init

@[expose] public section

set_option maxRecDepth 16384

noncomputable section

namespace Cert.FfUpd

open Idealize.ShloMosaic Idealize.SL.Sem

theorem frame_bits : Cert.quiescent_FfUpdKernel := fun m ρ h =>
  Cert.FfUpdKernel.Gen.frame m ρ (ok_bits m (nat_of_bound _ (share_bound _ _ _ _ _ _ (h 0))).1)

theorem frame_ideal : Cert.quiescent_FfUpdKernelIdeal := fun m ρ h =>
  Cert.FfUpdKernelIdeal.Gen.frame m ρ (ok_ideal m (nat_of_bound _ (share_bound _ _ _ _ _ _ (h 0))).1)

theorem frame_reference : Cert.quiescent_FfUpdReferenceIdeal := fun m ρ _ =>
  (θ_run Cert.FfUpdReferenceIdeal.defs _ _).mono (fun r h => ⟨fun c => (h c).2.2.2.2,
      Idealize.ShloMosaic.sem_eq_zero_of_no_sems (by decide) r.2⟩)
    (Cert.FfUpdReferenceIdeal.Value.run (F := Ideal) m ρ)

theorem frame_reference_pre : Cert.quiescent_FfUpdReferenceIdeal_pre_ffupd_chip := fun m ρ _ =>
  frame_reference m ρ trivial

set_option maxHeartbeats 4000000 in
open Idealize.ShloMosaic.TcCoe Idealize.ShloMosaic.Pipeline Cert.FfUpdKernelIdeal Cert.FfUpdKernelIdeal.Gen in
/-- The kernel's results are the reference's stages of the kernel's arguments. -/
theorem kernel_run (m : (ℓ : Loc nD τ sig) → Buf (Elt Ideal) ℓ) (ρ : Dev nD → PrngReg)
    (hb : 0 ≤ (arg2 m at1).toInt ∧ (arg2 m at1).toInt ≤ 3) :
    θ_run (defs (F := Ideal)) (onTc (τ := τ) (main (F := Ideal))) ⟨m, fun _ => 0, ρ⟩ (fun r => ∀ c : Dev nD,
      r.2.mem ((c : Thread nD τ).loc main_v0_0) = Cert.FfUpdReferenceIdeal.Read.val_main_v29 (F := Ideal) (m ((c : Thread nD τ).loc main_arg0)) (m ((c : Thread nD τ).loc main_arg1)) (m ((c : Thread nD τ).loc main_arg2))
      ∧ r.2.mem ((c : Thread nD τ).loc main_v0_1) = Cert.FfUpdReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.FfUpdReferenceIdeal.Read.val_main_v34 (F := Ideal) (m ((c : Thread nD τ).loc main_arg0)) (m ((c : Thread nD τ).loc main_arg1)) (m ((c : Thread nD τ).loc main_arg2)) (m ((c : Thread nD τ).loc main_arg4))
      ∧ r.2.mem ((c : Thread nD τ).loc main_v0_3) = Cert.FfUpdReferenceIdeal.Read.val_main_v40 (F := Ideal) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  obtain ⟨hle, hint⟩ := nat_of_bound _ hb
  have hO : Ok m := ok_ideal m hle
  let n : Fin 4 := ⟨(arg2 m at1).toNat, Nat.lt_succ_of_le hle⟩
  refine (θ_run defs _ _).mono (fun r h c => ?_) (run_main m ρ hO)
  obtain rfl : c = 0 := Subsingleton.elim _ _
  exact ⟨
    ((h 0).1 5).trans (arr_5 m hO n rfl hint),
    ((h 0).1 6).trans (arr_6 m hO n rfl hint),
    ((h 0).1 7).trans (arr_7 m hO n rfl hint),
    ((h 0).1 8).trans (arr_8 m hO n rfl hint),
    ((h 0).1 0).trans (((dats m hO 0 0).arrAt_in 0 rfl _).trans ((A_eq m hO 0 0).trans (V_main_arg0 m 0))),
    ((h 0).1 1).trans (((dats m hO 0 0).arrAt_in 1 rfl _).trans ((A_eq m hO 0 1).trans (V_main_arg1 m 0))),
    ((h 0).2 main_arg2 (by decide : main_arg2 ∈ Pipeline.restRefs sig spec0)).trans (V_main_arg2 m 0),
    ((h 0).1 2).trans (((dats m hO 0 0).arrAt_in 2 rfl _).trans ((A_eq m hO 0 2).trans (V_main_arg3 m 0))),
    ((h 0).1 3).trans (((dats m hO 0 0).arrAt_in 3 rfl _).trans ((A_eq m hO 0 3).trans (V_main_arg4 m 0))),
    ((h 0).1 4).trans (((dats m hO 0 0).arrAt_in 4 rfl _).trans ((A_eq m hO 0 4).trans (V_main_arg5 m 0)))⟩

set_option maxHeartbeats 4000000 in
open Idealize.ShloMosaic.TcCoe Cert.FfUpdReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v29) = Read.val_main_v29 (F := Ideal) (m ((c : Thread nD τ).loc main_arg0)) (m ((c : Thread nD τ).loc main_arg1)) (m ((c : Thread nD τ).loc main_arg2))
      ∧ r.2.mem ((c : Thread nD τ).loc main_v53) = Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v34) = Read.val_main_v34 (F := Ideal) (m ((c : Thread nD τ).loc main_arg0)) (m ((c : Thread nD τ).loc main_arg1)) (m ((c : Thread nD τ).loc main_arg2)) (m ((c : Thread nD τ).loc main_arg4))
      ∧ r.2.mem ((c : Thread nD τ).loc main_v40) = Read.val_main_v40 (F := Ideal) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
    obtain ⟨h0, h1, h2, h3, ha⟩ := h c
    exact ⟨h0.trans (Read.val_main_v29_eq _ _ _), h1.trans (Read.val_main_v53_eq _ _), h2.trans (Read.val_main_v34_eq _ _ _ _),
      h3.trans (Read.val_main_v40_eq _ _), ha⟩)
    (Value.run (F := Ideal) m ρ)

set_option maxHeartbeats 4000000 in
theorem algebraic : Cert.algebraic_FfUpdKernelIdeal_FfUpdReferenceIdeal := by
  intro m ρ m' ρ' h hagree
  refine ⟨_, _, _, _, kernel_run m ρ (share_bound _ _ _ _ _ _ (h 0)), ?_⟩
  refine (θ_run Cert.FfUpdReferenceIdeal.defs _ _).mono (fun r h c => ?_) (reference_run m' ρ')
  obtain ⟨e0, e1, e2, e3, e4, e5⟩ := hagree c
  have hc := h c
  rw [e0, e1, e2, e3, e4, e5] at hc
  rw [e0, e1, e2, e3, e4, e5]
  exact hc

end Cert.FfUpd

end
-- ==== Proof.InUpd.Block.lean ====
/-
  The summed update: what a grid point writes, from its blocks and the pair of words.
-/
module

public import proofs.«01_k».proof.Proof.Gen.InUpdKernelIdeal.Frame
public import proofs.«01_k».proof.Proof.Cover
public import Idealize.ShloMosaic.PureOps.Ideal.Laws

@[expose] public section

set_option maxRecDepth 16384

noncomputable section

namespace Cert.InUpd

open Cert.InUpdKernelIdeal Cert.InUpdKernelIdeal.Gen Cert.Cover Idealize.ShloMosaic Idealize.ShloMosaic.TcCoe
  Idealize.ShloMosaic.ValueIdx
open scoped BigOperators

/-- What slot `k` adds: the chip's own share in its own slot, else what lies in the slot. -/
def pick (w : BitVec 32) (k : Fin 8) (own p : EReal) : EReal := Scalar.select (IntOp.cmpi .eq (BitVec.ofNat 32 k.val) w) own p

/-- The first word of the pair, as the kernel reads it. -/
def word (c : Dev nD) (xt0 : TbBuf0 (F := Ideal) c tbM0_0) : BitVec 32 :=
  View.ld (View.read (Elt Ideal) (View.whole main_arg2) xt0) (Rect.unit (s := S2) ![0] ![1] inb_S2_S1_0) (Shape.Idx.first (by decide))

/-- The gradient of a block. -/
def grad (w : BitVec 32) (x0 : Vec Ideal S8x128x772 .bf16) (x1 : Vec Ideal S1x128x772 .bf16) : FVec Ideal S128x772 .f32 :=
  k0_pay6 (F := Ideal) (k0_pay4 x1)
    (k0_pay5 x1 w (View.ld x0 (Rect.unit (s := S8x128x772) ![0, 0, 0] ![1, 128, 772] inb_S8x128x772_S1x128x772_0_0_0))
      w (View.ld x0 (Rect.unit (s := S8x128x772) ![1, 0, 0] ![1, 128, 772] inb_S8x128x772_S1x128x772_1_0_0))
      w (View.ld x0 (Rect.unit (s := S8x128x772) ![2, 0, 0] ![1, 128, 772] inb_S8x128x772_S1x128x772_2_0_0))
      w (View.ld x0 (Rect.unit (s := S8x128x772) ![3, 0, 0] ![1, 128, 772] inb_S8x128x772_S1x128x772_3_0_0)))
    w 4#32 (View.ld x0 (Rect.unit (s := S8x128x772) ![4, 0, 0] ![1, 128, 772] inb_S8x128x772_S1x128x772_4_0_0))
    w (View.ld x0 (Rect.unit (s := S8x128x772) ![5, 0, 0] ![1, 128, 772] inb_S8x128x772_S1x128x772_5_0_0))
    w (View.ld x0 (Rect.unit (s := S8x128x772) ![6, 0, 0] ![1, 128, 772] inb_S8x128x772_S1x128x772_6_0_0))
    w (View.ld x0 (Rect.unit (s := S8x128x772) ![7, 0, 0] ![1, 128, 772] inb_S8x128x772_S1x128x772_7_0_0))

theorem out_5 (c : Dev nD) (i : grid0.Coords) (arg2 : Memref sig .tc .vmem S8x128x772 .bf16) (harg2 : arg2.IsWhole) (arg3 : Memref sig .tc .vmem S1x128x772 .bf16) (harg3 : arg3.IsWhole) (arg4 : Memref sig .tc .vmem S128x772 .f32) (harg4 : arg4.IsWhole) (arg5 : Memref sig .tc .vmem S128x772 .f32) (harg5 : arg5.IsWhole) (arg6 : Memref sig .tc .vmem S128x772 .f32) (harg6 : arg6.IsWhole) (arg7 : Memref sig .tc .vmem S128x772 .f32) (harg7 : arg7.IsWhole) (arg8 : Memref sig .tc .vmem S128x772 .f32) (harg8 : arg8.IsWhole) (arg9 : Memref sig .tc .vmem S128x772 .f32) (harg9 : arg9.IsWhole) (arg10 : Memref sig .tc .vmem S128x772 .f32) (harg10 : arg10.IsWhole)
    (x0 : Vec Ideal S8x128x772 .bf16) (x1 : Vec Ideal S1x128x772 .bf16) (x2 : Vec Ideal S128x772 .f32) (x3 : Vec Ideal S128x772 .f32) (x4 : Vec Ideal S128x772 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0
      = grad (word c xt0) x0 x1 := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x772) hz2]
  simp only [View.readAt_eq_ld, harg2.read_unread, harg3.read_unread, harg4.read_unread, harg5.read_unread, harg6.read_unread, View.ld_unit_zero (S := S128x772) hz2, View.ld_unit_zero (S := S1x128x772) hz3]
  rfl

theorem out_6 (c : Dev nD) (i : grid0.Coords) (arg2 : Memref sig .tc .vmem S8x128x772 .bf16) (harg2 : arg2.IsWhole) (arg3 : Memref sig .tc .vmem S1x128x772 .bf16) (harg3 : arg3.IsWhole) (arg4 : Memref sig .tc .vmem S128x772 .f32) (harg4 : arg4.IsWhole) (arg5 : Memref sig .tc .vmem S128x772 .f32) (harg5 : arg5.IsWhole) (arg6 : Memref sig .tc .vmem S128x772 .f32) (harg6 : arg6.IsWhole) (arg7 : Memref sig .tc .vmem S128x772 .f32) (harg7 : arg7.IsWhole) (arg8 : Memref sig .tc .vmem S128x772 .f32) (harg8 : arg8.IsWhole) (arg9 : Memref sig .tc .vmem S128x772 .f32) (harg9 : arg9.IsWhole) (arg10 : Memref sig .tc .vmem S128x772 .f32) (harg10 : arg10.IsWhole)
    (x0 : Vec Ideal S8x128x772 .bf16) (x1 : Vec Ideal S1x128x772 .bf16) (x2 : Vec Ideal S128x772 .f32) (x3 : Vec Ideal S128x772 .f32) (x4 : Vec Ideal S128x772 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0
      = k0_pay3 (F := Ideal) (grad (word c xt0) x0 x1) x2 x3 x4 k0_pay7 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x772) hz2]
  simp only [View.readAt_eq_ld, harg2.read_unread, harg3.read_unread, harg4.read_unread, harg5.read_unread, harg6.read_unread, View.ld_unit_zero (S := S128x772) hz2, View.ld_unit_zero (S := S1x128x772) hz3]
  rfl

theorem out_7 (c : Dev nD) (i : grid0.Coords) (arg2 : Memref sig .tc .vmem S8x128x772 .bf16) (harg2 : arg2.IsWhole) (arg3 : Memref sig .tc .vmem S1x128x772 .bf16) (harg3 : arg3.IsWhole) (arg4 : Memref sig .tc .vmem S128x772 .f32) (harg4 : arg4.IsWhole) (arg5 : Memref sig .tc .vmem S128x772 .f32) (harg5 : arg5.IsWhole) (arg6 : Memref sig .tc .vmem S128x772 .f32) (harg6 : arg6.IsWhole) (arg7 : Memref sig .tc .vmem S128x772 .f32) (harg7 : arg7.IsWhole) (arg8 : Memref sig .tc .vmem S128x772 .f32) (harg8 : arg8.IsWhole) (arg9 : Memref sig .tc .vmem S128x772 .f32) (harg9 : arg9.IsWhole) (arg10 : Memref sig .tc .vmem S128x772 .f32) (harg10 : arg10.IsWhole)
    (x0 : Vec Ideal S8x128x772 .bf16) (x1 : Vec Ideal S1x128x772 .bf16) (x2 : Vec Ideal S128x772 .f32) (x3 : Vec Ideal S128x772 .f32) (x4 : Vec Ideal S128x772 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0
      = k0_pay1 (F := Ideal) (grad (word c xt0) x0 x1) x3 k0_pay7 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x772) hz2]
  simp only [View.readAt_eq_ld, harg2.read_unread, harg3.read_unread, harg4.read_unread, harg5.read_unread, harg6.read_unread, View.ld_unit_zero (S := S128x772) hz2, View.ld_unit_zero (S := S1x128x772) hz3]
  rfl

theorem out_8 (c : Dev nD) (i : grid0.Coords) (arg2 : Memref sig .tc .vmem S8x128x772 .bf16) (harg2 : arg2.IsWhole) (arg3 : Memref sig .tc .vmem S1x128x772 .bf16) (harg3 : arg3.IsWhole) (arg4 : Memref sig .tc .vmem S128x772 .f32) (harg4 : arg4.IsWhole) (arg5 : Memref sig .tc .vmem S128x772 .f32) (harg5 : arg5.IsWhole) (arg6 : Memref sig .tc .vmem S128x772 .f32) (harg6 : arg6.IsWhole) (arg7 : Memref sig .tc .vmem S128x772 .f32) (harg7 : arg7.IsWhole) (arg8 : Memref sig .tc .vmem S128x772 .f32) (harg8 : arg8.IsWhole) (arg9 : Memref sig .tc .vmem S128x772 .f32) (harg9 : arg9.IsWhole) (arg10 : Memref sig .tc .vmem S128x772 .f32) (harg10 : arg10.IsWhole)
    (x0 : Vec Ideal S8x128x772 .bf16) (x1 : Vec Ideal S1x128x772 .bf16) (x2 : Vec Ideal S128x772 .f32) (x3 : Vec Ideal S128x772 .f32) (x4 : Vec Ideal S128x772 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0
      = k0_pay2 (F := Ideal) (grad (word c xt0) x0 x1) x4 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero (S := S128x772) hz2]
  simp only [View.readAt_eq_ld, harg2.read_unread, harg3.read_unread, harg4.read_unread, harg5.read_unread, harg6.read_unread, View.ld_unit_zero (S := S128x772) hz2, View.ld_unit_zero (S := S1x128x772) hz3]
  rfl

/-- A choice between two arrays, read at an index. -/
theorem select_at {S : Shape} (b : BitVec 1) (x y : FVec Ideal S .f32) (i : S.Idx) :
    (Scalar.select b x y : FVec Ideal S .f32) i = Scalar.select b (x i) (y i) := by
  unfold Scalar.select
  split <;> rfl

/-- A block of one slab, as a matrix. -/
theorem slab_at (x : Vec Ideal S1x128x772 .bf16) (r : Fin 128) (j : Fin 772) :
    k0_pay4 (F := Ideal) x (ix2 r j) = x (ix3 0 r j) := by
  unfold k0_pay4
  refine (shapeCast_apply x _ _ (ix3 0 r j : S1x128x772.Idx) ?_)
  rw [Shape.rowMajor_val_three, Shape.rowMajor_val_two]
  show (0 * 128 + r.val) * 772 + j.val = r.val * 772 + j.val
  omega

theorem eq_comm_word (w : BitVec 32) (k : ℕ) : Scalar.cmpi .eq w (BitVec.ofNat 32 k) = IntOp.cmpi .eq (BitVec.ofNat 32 k) w := by
  show BitVec.ofBool (w == BitVec.ofNat 32 k) = BitVec.ofBool (BitVec.ofNat 32 k == w)
  rw [Bool.beq_comm]

theorem ld_0 (x : Vec Ideal S8x128x772 .bf16) (r : Fin 128) (j : Fin 772) :
    (View.ld x (Rect.unit (s := S8x128x772) ![0, 0, 0] ![1, 128, 772] inb_S8x128x772_S1x128x772_0_0_0) : Vec Ideal S1x128x772 .bf16) (ix3 0 r j) = x (ix3 0 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_1 (x : Vec Ideal S8x128x772 .bf16) (r : Fin 128) (j : Fin 772) :
    (View.ld x (Rect.unit (s := S8x128x772) ![1, 0, 0] ![1, 128, 772] inb_S8x128x772_S1x128x772_1_0_0) : Vec Ideal S1x128x772 .bf16) (ix3 0 r j) = x (ix3 1 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_2 (x : Vec Ideal S8x128x772 .bf16) (r : Fin 128) (j : Fin 772) :
    (View.ld x (Rect.unit (s := S8x128x772) ![2, 0, 0] ![1, 128, 772] inb_S8x128x772_S1x128x772_2_0_0) : Vec Ideal S1x128x772 .bf16) (ix3 0 r j) = x (ix3 2 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_3 (x : Vec Ideal S8x128x772 .bf16) (r : Fin 128) (j : Fin 772) :
    (View.ld x (Rect.unit (s := S8x128x772) ![3, 0, 0] ![1, 128, 772] inb_S8x128x772_S1x128x772_3_0_0) : Vec Ideal S1x128x772 .bf16) (ix3 0 r j) = x (ix3 3 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_4 (x : Vec Ideal S8x128x772 .bf16) (r : Fin 128) (j : Fin 772) :
    (View.ld x (Rect.unit (s := S8x128x772) ![4, 0, 0] ![1, 128, 772] inb_S8x128x772_S1x128x772_4_0_0) : Vec Ideal S1x128x772 .bf16) (ix3 0 r j) = x (ix3 4 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_5 (x : Vec Ideal S8x128x772 .bf16) (r : Fin 128) (j : Fin 772) :
    (View.ld x (Rect.unit (s := S8x128x772) ![5, 0, 0] ![1, 128, 772] inb_S8x128x772_S1x128x772_5_0_0) : Vec Ideal S1x128x772 .bf16) (ix3 0 r j) = x (ix3 5 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_6 (x : Vec Ideal S8x128x772 .bf16) (r : Fin 128) (j : Fin 772) :
    (View.ld x (Rect.unit (s := S8x128x772) ![6, 0, 0] ![1, 128, 772] inb_S8x128x772_S1x128x772_6_0_0) : Vec Ideal S1x128x772 .bf16) (ix3 0 r j) = x (ix3 6 r j) :=
  congrArg x (funext fun b => Fin.ext (by
    match b with
    | ⟨0, _⟩ => rfl
    | ⟨1, _⟩ => show 0 + 1 * r.val = r.val; omega
    | ⟨2, _⟩ => show 0 + 1 * j.val = j.val; omega))

theorem ld_7 (x : Vec Ideal S8x128x772 .bf16) (r : Fin 128) (j : Fin 772) :
    (View.ld x (Rect.unit (s := S8x128x772) ![7, 0, 0] ![1, 128, 772] inb_S8x128x772_S1x128x772_7_0_0) : Vec Ideal S1x128x772 .bf16) (ix3 0 r j) = x (ix3 7 r j) :=
  congrArg x (funext fun b => Fin.ext (by
    match b with
    | ⟨0, _⟩ => rfl
    | ⟨1, _⟩ => show 0 + 1 * r.val = r.val; omega
    | ⟨2, _⟩ => show 0 + 1 * j.val = j.val; omega))

/-- The gradient of a block, at a row and a column. -/
theorem grad_at (w : BitVec 32) (x0 : Vec Ideal S8x128x772 .bf16) (x1 : Vec Ideal S1x128x772 .bf16) (r : Fin 128) (j : Fin 772) :
    grad w x0 x1 (ix2 r j) = ∑ k : Fin 8, pick w k (x1 (ix3 0 r j)) (x0 (ix3 k r j)) := by
  have step (s : ℕ) (k : Fin 8) (hk : k.val = s) (p : Vec Ideal S1x128x772 .bf16) (hp : p (ix3 0 r j) = x0 (ix3 k r j)) :
      (Scalar.select (Scalar.cmpi .eq w (BitVec.ofNat 32 s)) (k0_pay4 (F := Ideal) x1) (k0_pay4 (F := Ideal) p) : FVec Ideal S128x772 .f32) (ix2 r j)
        = pick w k (x1 (ix3 0 r j)) (x0 (ix3 k r j)) := by
    rw [select_at, slab_at, slab_at, hp, eq_comm_word]
    subst hk
    rfl
  rw [Fin.sum_univ_eight,
    ← step 0 0 rfl _ (ld_0 x0 r j), ← step 1 1 rfl _ (ld_1 x0 r j), ← step 2 2 rfl _ (ld_2 x0 r j), ← step 3 3 rfl _ (ld_3 x0 r j),
    ← step 4 4 rfl _ (ld_4 x0 r j), ← step 5 5 rfl _ (ld_5 x0 r j), ← step 6 6 rfl _ (ld_6 x0 r j), ← step 7 7 rfl _ (ld_7 x0 r j)]
  unfold grad k0_pay6 k0_pay5
  refine Eq.trans (b := (Scalar.ofBits (F := Ideal) .f32 0x00000000#32 : EReal) + _ + _ + _ + _ + _ + _ + _ + _) rfl ?_
  have hz : (Scalar.ofBits (F := Ideal) .f32 0x00000000#32 : EReal) = 0 := Ideal.ofBits_zero_f32
  rw [hz, zero_add]
  rfl

end Cert.InUpd

end
-- ==== Proof.InUpd.Ref.lean ====
/-
  The summed update's gradient in the reference, read at an index: a sum over the eight slots.
-/
module

public import proofs.«01_k».proof.Proof.Gen.InUpdReferenceIdeal.Read
public import proofs.«01_k».proof.Proof.Cover
public import proofs.«01_k».proof.Proof.InUpd.Block

@[expose] public section

set_option maxRecDepth 16384

noncomputable section

namespace Cert.InUpd.Ref

open Cert.InUpdReferenceIdeal Cert.InUpdReferenceIdeal.Read Cert.InUpdReferenceIdeal.Gen Cert.Cover Idealize.ShloMosaic Idealize.ShloMosaic.TcCoe
  Idealize.ShloMosaic.ValueIdx
open scoped BigOperators

/-- One word of the pair. -/
def at0 : S2.Idx := fun a => match a with
  | ⟨0, _⟩ => ⟨0, by show 0 < 2; omega⟩

def at1 : S2.Idx := fun a => match a with
  | ⟨0, _⟩ => ⟨1, by show 1 < 2; omega⟩

variable (x0 : FVec Ideal S8x1024x772 .bf16) (x1 : FVec Ideal S4x1024x772 .bf16) (x2 : IVec S2 32)

theorem chip_at (i : S_.Idx) : val_main_v23 (F := Ideal) x2 i = x2 at0 := by
  unfold val_main_v23
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v22_apply]
  refine congrArg x2 (funext fun a => Fin.ext ?_)
  match a with
  | ⟨0, _⟩ => rfl

theorem share0_at (i : S_.Idx) : val_main_v1 (F := Ideal) x2 i = x2 at1 := by
  unfold val_main_v1
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v0_apply]
  refine congrArg x2 (funext fun a => Fin.ext ?_)
  match a with
  | ⟨0, _⟩ => rfl

theorem share1_at (i : S_.Idx) : val_main_v6 (F := Ideal) x2 i = x2 at1 := by
  unfold val_main_v6
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v5_apply]
  refine congrArg x2 (funext fun a => Fin.ext ?_)
  match a with
  | ⟨0, _⟩ => rfl

theorem share2_at (i : S_.Idx) : val_main_v11 (F := Ideal) x2 i = x2 at1 := by
  unfold val_main_v11
  refine (shapeCast_apply _ _ i (fun a => match a with | ⟨0, _⟩ => ⟨0, by show 0 < 1; omega⟩ : S1.Idx) (by have h := (S_.rowMajor i).isLt; rw [Shape.rowMajor_val_one]; have e : S_.numel = 1 := rfl; show 0 = (S_.rowMajor i).val; omega)).trans ?_
  rw [val_main_v10_apply]
  refine congrArg x2 (funext fun a => Fin.ext ?_)
  match a with
  | ⟨0, _⟩ => rfl

theorem slab0_at (i : Fin 1024) (j : Fin 772) : val_main_v4 (F := Ideal) x1 (ix2 i j) = x1 (ix3 0 i j) := by
  rw [val_main_v4_apply, val_main_v3_apply]
  refine congrArg x1 (funext fun a => Fin.ext ?_)
  have hi := i.isLt
  have hj := j.isLt
  match a with
  | ⟨0, _⟩ =>
    first
      | rfl
      | (show 0 + 0 = 0; rfl)
  | ⟨1, _⟩ =>
    show (i.val * 772 + j.val) / 772 % 1024 = i.val
    omega
  | ⟨2, _⟩ =>
    show (i.val * 772 + j.val) % 772 = j.val
    omega

theorem slab1_at (i : Fin 1024) (j : Fin 772) : val_main_v9 (F := Ideal) x1 (ix2 i j) = x1 (ix3 1 i j) := by
  rw [val_main_v9_apply, val_main_v8_apply]
  refine congrArg x1 (funext fun a => Fin.ext ?_)
  have hi := i.isLt
  have hj := j.isLt
  match a with
  | ⟨0, _⟩ =>
    first
      | rfl
      | (show 1 + 0 = 1; rfl)
  | ⟨1, _⟩ =>
    show (i.val * 772 + j.val) / 772 % 1024 = i.val
    omega
  | ⟨2, _⟩ =>
    show (i.val * 772 + j.val) % 772 = j.val
    omega

theorem slab2_at (i : Fin 1024) (j : Fin 772) : val_main_v14 (F := Ideal) x1 (ix2 i j) = x1 (ix3 2 i j) := by
  rw [val_main_v14_apply, val_main_v13_apply]
  refine congrArg x1 (funext fun a => Fin.ext ?_)
  have hi := i.isLt
  have hj := j.isLt
  match a with
  | ⟨0, _⟩ =>
    first
      | rfl
      | (show 2 + 0 = 2; rfl)
  | ⟨1, _⟩ =>
    show (i.val * 772 + j.val) / 772 % 1024 = i.val
    omega
  | ⟨2, _⟩ =>
    show (i.val * 772 + j.val) % 772 = j.val
    omega

theorem slab3_at (i : Fin 1024) (j : Fin 772) : val_main_v16 (F := Ideal) x1 (ix2 i j) = x1 (ix3 3 i j) := by
  rw [val_main_v16_apply, val_main_v15_apply]
  refine congrArg x1 (funext fun a => Fin.ext ?_)
  have hi := i.isLt
  have hj := j.isLt
  match a with
  | ⟨0, _⟩ =>
    first
      | rfl
      | (show 3 + 0 = 3; rfl)
  | ⟨1, _⟩ =>
    show (i.val * 772 + j.val) / 772 % 1024 = i.val
    omega
  | ⟨2, _⟩ =>
    show (i.val * 772 + j.val) % 772 = j.val
    omega

/-- A choice between two arrays on one flag, read at an index. -/
theorem where_at (b : IVec S_ 1) (x y : FVec Ideal S1024x772 .bf16) (z : BitVec 1) (hz : ∀ i, b i = z) (i : S1024x772.Idx) :
    (select (broadcastInDim S1024x772 ![] bcast_S_S1024x772 b) x y : FVec Ideal S1024x772 .bf16) i = Scalar.select z (x i) (y i) := by
  refine Eq.trans (b := Scalar.select (b (fun a => a.elim0)) (x i) (y i)) ?_ (by rw [hz])
  show Scalar.select (broadcastInDim S1024x772 ![] bcast_S_S1024x772 b i) (x i) (y i) = _
  rw [broadcastInDim_apply _ bcast_S_S1024x772 _ i (fun a => a.elim0) (fun a => a.elim0)]

theorem word_eq (w : BitVec 32) (n : Fin 4) (h0 : w.toInt = n.val) : w = BitVec.ofNat 32 n.val := by
  apply BitVec.eq_of_toInt_eq
  rw [h0]
  clear h0
  revert n
  decide

/-- The chip's own share, at a row and a column. -/
theorem own_at (n : Fin 4) (h0 : (x2 at1).toInt = n.val) (i : Fin 1024) (j : Fin 772) :
    val_main_v19 (F := Ideal) x1 x2 (ix2 i j) = x1 (ix3 n i j) := by
  have hw := word_eq _ n h0
  unfold val_main_v19
  rw [where_at _ _ _ (IntOp.cmpi .eq (x2 at1) 0#32) (fun i => by rw [val_main_v2_apply, share0_at, val_main_c_apply])]
  unfold val_main_v18
  rw [where_at _ _ _ (IntOp.cmpi .eq (x2 at1) 1#32) (fun i => by rw [val_main_v7_apply, share1_at, val_main_c_0_apply])]
  unfold val_main_v17
  rw [where_at _ _ _ (IntOp.cmpi .eq (x2 at1) 2#32) (fun i => by rw [val_main_v12_apply, share2_at, val_main_c_1_apply])]
  rw [slab0_at, slab1_at, slab2_at, slab3_at, hw]
  match n with
  | 0 => rfl
  | 1 => rfl
  | 2 => rfl
  | 3 => rfl

/-- The gradient at a row and a column. -/
theorem grad_at (n : Fin 4) (h0 : (x2 at1).toInt = n.val) (i : Fin 1024) (j : Fin 772) :
    val_main_v29 (F := Ideal) x0 x1 x2 (ix2 i j) = ∑ k : Fin 8, pick (x2 at0) k (x1 (ix3 n i j)) (x0 (ix3 k i j)) := by
  rw [val_main_v29_apply, val_main_cst_apply]
  refine (congrArg (· + _) Ideal.ofBits_zero_f32).trans ((zero_add _).trans (Finset.sum_congr rfl fun k _ => ?_))
  rw [val_main_v28_apply, val_main_v27_apply, val_main_call3_v0_apply, val_main_v25_apply, val_main_v21_apply, val_main_v20_apply,
    val_main_v24_apply, chip_at, val_main_call3_v1_apply, val_main_v26_apply]
  have e : (idx_main_v26 (idx_main_call3_v1 (idx_main_v29 (ix2 i j) k)) : S1024x772.Idx) = ix2 i j := by
    funext a
    apply Fin.ext
    match a with
    | ⟨0, _⟩ => rfl
    | ⟨1, _⟩ => rfl
  rw [e, own_at x1 x2 n h0 i j]
  have e' : (idx_main_v29 (ix2 i j) k : S8x1024x772.Idx) = ix3 k i j := by
    funext a
    apply Fin.ext
    match a with
    | ⟨0, _⟩ => rfl
    | ⟨1, _⟩ => rfl
    | ⟨2, _⟩ => rfl
  rw [e']
  rfl

end Cert.InUpd.Ref

end
-- ==== Proof.InUpd.Chip.lean ====
/-
  What the precondition says: the second word of the pair is one of the four share numbers.
-/
module

public import proofs.«01_k».proof.Proof.Gen.Pre_inupd_chip
public import proofs.«01_k».proof.Proof.Gen.InUpdKernel.Frame
public import proofs.«01_k».proof.Proof.Gen.InUpdKernelIdeal.Frame
public import Idealize.ShloMosaic.Lib.StableHlo.Predicate
public import Idealize.ShloMosaic.Lib.Pipeline.Value
public import Idealize.ShloMosaic.PureOps.BitExact
public import Idealize.ShloMosaic.PureOps.Ideal

@[expose] public section

set_option maxRecDepth 16384

noncomputable section

namespace Cert.InUpd

open Idealize.ShloMosaic Idealize.ShloMosaic.TcCoe

/-- The place of the second word. -/
def at1 : Cert.Pre_inupd_chip.S2.Idx := fun a => match a with
  | ⟨0, _⟩ => ⟨1, by show 1 < 2; omega⟩

theorem share_bound {F : FTy → Type} [FloatOps F] (a0 : FVec F Cert.Pre_inupd_chip.S8x1024x772 .bf16) (a1 : FVec F Cert.Pre_inupd_chip.S4x1024x772 .bf16)
    (a2 : IVec Cert.Pre_inupd_chip.S2 32) (a3 a4 a5 : FVec F Cert.Pre_inupd_chip.S1024x772 .f32)
    (h : Cert.Pre_inupd_chip.fn (F := F) a0 a1 a2 a3 a4 a5 = fun _ => 1#1) :
    0 ≤ (a2 at1).toInt ∧ (a2 at1).toInt ≤ 3 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h (fun a => a.elim0)
  have e : (shapeCast Cert.Pre_inupd_chip.S_ (extractStridedSlice Cert.Pre_inupd_chip.S1 ![1] a2 Cert.Pre_inupd_chip.Facts.slices_S2_S1_1)
      Cert.Pre_inupd_chip.Facts.shapeCasts_S1_S_ : IVec Cert.Pre_inupd_chip.S_ 32) (fun a => a.elim0) = a2 at1 := by
    refine (shapeCast_apply _ _ _ (fun a => match a with | ⟨0, _⟩ => ⟨0, by show 0 < 1; omega⟩ : Cert.Pre_inupd_chip.S1.Idx) ?_).trans
      (extractStridedSlice_apply _ _ _ _ at1 (fun a => ?_))
    · decide
    · match a with
      | ⟨0, _⟩ => rfl
  simp only [Cert.Pre_inupd_chip.fn, constantI, cmpi, andi, andi_one] at pre
  rw [e] at pre
  simp only [ofBool_eq_one, IntOp.cmpi, BitVec.sle, decide_eq_true_eq] at pre
  exact pre

theorem one_word (x : Cert.Pre_inupd_chip.S2.Idx) (h : (x 0).val = 1) : x = at1 := by
  funext b
  apply Fin.ext
  match b with
  | ⟨0, _⟩ => exact h

theorem nat_of_bound (w : BitVec 32) (h : 0 ≤ w.toInt ∧ w.toInt ≤ 3) : w.toNat ≤ 3 ∧ w.toInt = w.toNat := by
  have := w.isLt
  have := BitVec.toInt_eq_toNat_cond w
  split at this <;> omega

section
open Cert.InUpdKernel Cert.InUpdKernel.Gen

theorem ok_bits (m : (ℓ : Loc nD τ sig) → Buf (Elt Bits) ℓ)
    (h : ((m (((0 : Dev nD) : Thread nD τ).loc main_arg2) : IVec S2 32) at1).toNat ≤ 3) : Ok (F := Bits) m := by
  unfold Ok ok0
  intro i
  have hi : (i 0).val < 8 := (i 0).isLt
  have e : cc0_transform_1 inb_S2_S1_1 numel1_S1 (tbl m) i = ![((m (((0 : Dev nD) : Thread nD τ).loc main_arg2) : IVec S2 32) at1).toNat, (i 0).val, 0] := by
    funext a
    match a with
    | ⟨0, _⟩ =>
      refine congrArg (fun x : S2.Idx => ((m (((0 : Dev nD) : Thread nD τ).loc main_arg2) : IVec S2 32) x).toNat) ?_
      exact one_word _ rfl
    | ⟨1, _⟩ => show (BitVec.ofNat 32 (i 0).val).toNat = (i 0).val; rw [BitVec.toNat_ofNat]; omega
    | ⟨2, _⟩ => rfl
  rw [e]
  refine ⟨fun a => ?_, .inr ?_⟩
  · match a with
    | ⟨0, _⟩ => show (((m (((0 : Dev nD) : Thread nD τ).loc main_arg2) : IVec S2 32) at1).toNat + 1) * 1 ≤ 4; omega
    | ⟨1, _⟩ => show ((i 0).val + 1) * 128 ≤ 1024; omega
    | ⟨2, _⟩ => show (0 + 1) * 772 ≤ 772; omega
  · exact Affine.block_words_dvd (of_decide_eq_true rfl) (by decide)

end

section
open Cert.InUpdKernelIdeal Cert.InUpdKernelIdeal.Gen

theorem ok_ideal (m : (ℓ : Loc nD τ sig) → Buf (Elt Ideal) ℓ)
    (h : ((m (((0 : Dev nD) : Thread nD τ).loc main_arg2) : IVec S2 32) at1).toNat ≤ 3) : Ok (F := Ideal) m := by
  unfold Ok ok0
  intro i
  have hi : (i 0).val < 8 := (i 0).isLt
  have e : cc0_transform_1 inb_S2_S1_1 numel1_S1 (tbl m) i = ![((m (((0 : Dev nD) : Thread nD τ).loc main_arg2) : IVec S2 32) at1).toNat, (i 0).val, 0] := by
    funext a
    match a with
    | ⟨0, _⟩ =>
      refine congrArg (fun x : S2.Idx => ((m (((0 : Dev nD) : Thread nD τ).loc main_arg2) : IVec S2 32) x).toNat) ?_
      exact one_word _ rfl
    | ⟨1, _⟩ => show (BitVec.ofNat 32 (i 0).val).toNat = (i 0).val; rw [BitVec.toNat_ofNat]; omega
    | ⟨2, _⟩ => rfl
  rw [e]
  refine ⟨fun a => ?_, .inr ?_⟩
  · match a with
    | ⟨0, _⟩ => show (((m (((0 : Dev nD) : Thread nD τ).loc main_arg2) : IVec S2 32) at1).toNat + 1) * 1 ≤ 4; omega
    | ⟨1, _⟩ => show ((i 0).val + 1) * 128 ≤ 1024; omega
    | ⟨2, _⟩ => show (0 + 1) * 772 ≤ 772; omega
  · exact Affine.block_words_dvd (of_decide_eq_true rfl) (by decide)

end

end Cert.InUpd

end
-- ==== Proof.InUpd.Final.lean ====
/-
  The summed update: the four arrays the kernel leaves are the reference's stages of the same arguments.
-/
module

public import proofs.«01_k».proof.Proof.InUpd.Block
public import proofs.«01_k».proof.Proof.InUpd.Ref
public import proofs.«01_k».proof.Proof.InUpd.Chip
public import Idealize.ShloMosaic.Lib.Pipeline.ValueKit
public import Idealize.ShloMosaic.Lib.StableHlo.Run

@[expose] public section

set_option maxRecDepth 16384

noncomputable section

namespace Cert.InUpd

section Values
open Cert.InUpdKernelIdeal Cert.InUpdKernelIdeal.Gen Cert.InUpdReferenceIdeal.Read Idealize.ShloMosaic

variable (g x2 x3 x4 : FVec Ideal S128x772 .f32) (y : S128x772.Idx)
  (a0 : FVec Ideal S8x1024x772 .bf16) (a1 : FVec Ideal S4x1024x772 .bf16) (a2 : IVec S2 32) (a3 a4 a5 : FVec Ideal S1024x772 .f32) (i : S1024x772.Idx)

/-- The new first moment, from a block's gradient and moment. -/
theorem moment_at (hg : g y = val_main_v29 (F := Ideal) a0 a1 a2 i) (hm : x3 y = a4 i) :
    k0_pay1 (F := Ideal) g x3 k0_pay7 y = val_main_v34 (F := Ideal) a0 a1 a2 a4 i := by
  rw [val_main_v34_apply, val_main_v31_apply, val_main_v33_apply, val_main_v30_apply, val_main_v32_apply, val_main_cst_2_apply,
    val_main_cst_3_apply, ← hg, ← hm]
  rfl

/-- The new second moment, from a block's gradient and moment. -/
theorem second_at (hg : g y = val_main_v29 (F := Ideal) a0 a1 a2 i) (hv : x4 y = a5 i) :
    k0_pay2 (F := Ideal) g x4 y = val_main_v40 (F := Ideal) a0 a1 a2 a5 i := by
  rw [val_main_v40_apply, val_main_v36_apply, val_main_v39_apply, val_main_v37_apply, val_main_v35_apply, val_main_v38_apply,
    val_main_cst_4_apply, val_main_cst_5_apply, ← hg, ← hv]
  rfl

/-- The step, from a block's gradient, weight and moments. -/
theorem delta_at (hg : g y = val_main_v29 (F := Ideal) a0 a1 a2 i) (hw : x2 y = a3 i) (hm : x3 y = a4 i) (hv : x4 y = a5 i) :
    k0_pay3 (F := Ideal) g x2 x3 x4 k0_pay7 y = val_main_v53 (F := Ideal) a0 a1 a2 a3 a4 a5 i := by
  have h1 := moment_at g x3 y a0 a1 a2 a4 i hg hm
  have h2 := second_at g x4 y a0 a1 a2 a5 i hg hv
  rw [val_main_v53_apply, val_main_v52_apply, val_main_cst_10_apply, val_main_v51_apply, val_main_v50_apply, val_main_v49_apply,
    val_main_cst_9_apply, val_main_v48_apply, val_main_v47_apply, val_main_v46_apply, val_main_cst_8_apply, val_main_v45_apply,
    val_main_v44_apply, val_main_v43_apply, val_main_cst_7_apply, val_main_v42_apply, val_main_v41_apply, val_main_cst_6_apply,
    ← h1, ← h2, ← hw]
  rfl

end Values

open Cert.InUpdKernelIdeal Cert.InUpdKernelIdeal.Gen Cert.Cover Idealize.ShloMosaic.TcCoe
  Idealize.ShloMosaic.ValueIdx Idealize.SL.Sem
open Idealize.ShloMosaic hiding ix1 ix2 ix3
open scoped BigOperators

variable (m : (ℓ : Loc nD τ sig) → Buf (Elt Ideal) ℓ) (hO : Ok m)

/-- The first argument: the partial gradients in the slots. -/
def arg0 : FVec Ideal S8x1024x772 .bf16 := m (((0 : Dev nD) : Thread nD τ).loc main_arg0)

/-- The second argument: the chip's own partial gradients, a share per block. -/
def arg1 : FVec Ideal S4x1024x772 .bf16 := m (((0 : Dev nD) : Thread nD τ).loc main_arg1)

/-- The third argument: the pair of words. -/
def arg2 : IVec S2 32 := m (((0 : Dev nD) : Thread nD τ).loc main_arg2)

/-- The fourth argument: the weights. -/
def arg3 : FVec Ideal S1024x772 .f32 := m (((0 : Dev nD) : Thread nD τ).loc main_arg3)

/-- The fifth argument: the first moment. -/
def arg4 : FVec Ideal S1024x772 .f32 := m (((0 : Dev nD) : Thread nD τ).loc main_arg4)

/-- The sixth argument: the second moment. -/
def arg5 : FVec Ideal S1024x772 .f32 := m (((0 : Dev nD) : Thread nD τ).loc main_arg5)

theorem NN (t : Fin (cfgM m hO).N) : t.val < 8 := lt_of_lt_of_eq t.isLt N_0

/-- Row `r` of point `t`'s block. -/
def row (t : Fin (cfgM m hO).N) (r : Fin 128) : Fin 1024 := ⟨128 * t.val + r.val, by have := NN m hO t; have := r.isLt; omega⟩

theorem coord_0 : ∀ t : Fin grid0.N, (grid0.coords t 0).val = t.val := by decide +kernel

theorem index_0 : ∀ t : Fin (cfgM m hO).N, ((cfgM m hO).win 0).index t = ![0, t.val, 0] :=
  (by decide +kernel : ∀ t : Fin grid0.N, cc0_transform_0 (grid0.coords t) = ![0, t.val, 0])

theorem blk0_at (t : Fin (cfgM m hO).N) (k : Fin 8) (r : Fin 128) (j : Fin 772) :
    (iblk m hO 0 0 t : FVec Ideal S8x128x772 .bf16) (ix3 k r j) = arg0 m (ix3 k (row m hO t r) j) := by
  unfold iblk
  refine (View.read_apply _ _).trans ?_
  refine congrArg (arg0 m) (funext fun a => Fin.ext ?_)
  match a with
  | ⟨0, _⟩ =>
    refine (Pipeline.Window.rect_emb_val ((cfgM m hO).win 0) t _ (0 : Fin 3)).trans ?_
    rw [index_0 m hO t]
    show 0 * 8 + k.val = k.val
    omega
  | ⟨1, _⟩ =>
    refine (Pipeline.Window.rect_emb_val ((cfgM m hO).win 0) t _ (1 : Fin 3)).trans ?_
    rw [index_0 m hO t]
    show t.val * 128 + r.val = 128 * t.val + r.val
    omega
  | ⟨2, _⟩ =>
    refine (Pipeline.Window.rect_emb_val ((cfgM m hO).win 0) t _ (2 : Fin 3)).trans ?_
    rw [index_0 m hO t]
    show 0 * 772 + j.val = j.val
    omega

theorem index_1 (t : Fin (cfgM m hO).N) : ((cfgM m hO).win 1).index t = ![(arg2 m at1).toNat, t.val, 0] := by
  refine Eq.trans (b := cc0_transform_1 inb_S2_S1_1 numel1_S1 (tbl m) (grid0.coords t)) rfl ?_
  have ht := NN m hO t
  funext a
  match a with
  | ⟨0, _⟩ =>
    refine congrArg (fun x : S2.Idx => (arg2 m x).toNat) ?_
    exact one_word _ rfl
  | ⟨1, _⟩ =>
    show (BitVec.ofNat 32 (grid0.coords t 0).val).toNat = t.val
    rw [coord_0 t, BitVec.toNat_ofNat]
    omega
  | ⟨2, _⟩ => rfl

theorem blk1_at (n : Fin 4) (hn : (arg2 m at1).toNat = n.val) (t : Fin (cfgM m hO).N) (r : Fin 128) (j : Fin 772) :
    (iblk m hO 0 1 t : FVec Ideal S1x128x772 .bf16) (ix3 0 r j) = arg1 m (ix3 n (row m hO t r) j) := by
  unfold iblk
  refine (View.read_apply _ _).trans ?_
  refine congrArg (arg1 m) (funext fun a => Fin.ext ?_)
  match a with
  | ⟨0, _⟩ =>
    refine (Pipeline.Window.rect_emb_val ((cfgM m hO).win 1) t _ (0 : Fin 3)).trans ?_
    rw [index_1 m hO t]
    show (arg2 m at1).toNat * 1 + 0 = n.val
    omega
  | ⟨1, _⟩ =>
    refine (Pipeline.Window.rect_emb_val ((cfgM m hO).win 1) t _ (1 : Fin 3)).trans ?_
    rw [index_1 m hO t]
    show t.val * 128 + r.val = 128 * t.val + r.val
    omega
  | ⟨2, _⟩ =>
    refine (Pipeline.Window.rect_emb_val ((cfgM m hO).win 1) t _ (2 : Fin 3)).trans ?_
    rw [index_1 m hO t]
    show 0 * 772 + j.val = j.val
    omega

theorem index_2 : ∀ t : Fin (cfgM m hO).N, ((cfgM m hO).win 2).index t = ![t.val, 0] :=
  (by decide +kernel : ∀ t : Fin grid0.N, cc0_transform_2 (grid0.coords t) = ![t.val, 0])

theorem blk2_at (t : Fin (cfgM m hO).N) (r : Fin 128) (j : Fin 772) :
    (iblk m hO 0 2 t : FVec Ideal S128x772 .f32) (ix2 r j) = arg3 m (ix2 (row m hO t r) j) := by
  unfold iblk
  refine (View.read_apply _ _).trans ?_
  refine congrArg (arg3 m) (e2 _ _ _ ?_ ?_)
  · refine (Pipeline.Window.rect_emb_val ((cfgM m hO).win 2) t _ (0 : Fin 2)).trans ?_
    rw [index_2 m hO t]
    show t.val * 128 + r.val = 128 * t.val + r.val
    omega
  · refine (Pipeline.Window.rect_emb_val ((cfgM m hO).win 2) t _ (1 : Fin 2)).trans ?_
    rw [index_2 m hO t]
    show 0 * 772 + j.val = j.val
    omega

theorem index_3 : ∀ t : Fin (cfgM m hO).N, ((cfgM m hO).win 3).index t = ![t.val, 0] :=
  (by decide +kernel : ∀ t : Fin grid0.N, cc0_transform_3 (grid0.coords t) = ![t.val, 0])

theorem blk3_at (t : Fin (cfgM m hO).N) (r : Fin 128) (j : Fin 772) :
    (iblk m hO 0 3 t : FVec Ideal S128x772 .f32) (ix2 r j) = arg4 m (ix2 (row m hO t r) j) := by
  unfold iblk
  refine (View.read_apply _ _).trans ?_
  refine congrArg (arg4 m) (e2 _ _ _ ?_ ?_)
  · refine (Pipeline.Window.rect_emb_val ((cfgM m hO).win 3) t _ (0 : Fin 2)).trans ?_
    rw [index_3 m hO t]
    show t.val * 128 + r.val = 128 * t.val + r.val
    omega
  · refine (Pipeline.Window.rect_emb_val ((cfgM m hO).win 3) t _ (1 : Fin 2)).trans ?_
    rw [index_3 m hO t]
    show 0 * 772 + j.val = j.val
    omega

theorem index_4 : ∀ t : Fin (cfgM m hO).N, ((cfgM m hO).win 4).index t = ![t.val, 0] :=
  (by decide +kernel : ∀ t : Fin grid0.N, cc0_transform_4 (grid0.coords t) = ![t.val, 0])

theorem blk4_at (t : Fin (cfgM m hO).N) (r : Fin 128) (j : Fin 772) :
    (iblk m hO 0 4 t : FVec Ideal S128x772 .f32) (ix2 r j) = arg5 m (ix2 (row m hO t r) j) := by
  unfold iblk
  refine (View.read_apply _ _).trans ?_
  refine congrArg (arg5 m) (e2 _ _ _ ?_ ?_)
  · refine (Pipeline.Window.rect_emb_val ((cfgM m hO).win 4) t _ (0 : Fin 2)).trans ?_
    rw [index_4 m hO t]
    show t.val * 128 + r.val = 128 * t.val + r.val
    omega
  · refine (Pipeline.Window.rect_emb_val ((cfgM m hO).win 4) t _ (1 : Fin 2)).trans ?_
    rw [index_4 m hO t]
    show 0 * 772 + j.val = j.val
    omega

theorem index_5 : ∀ t : Fin (cfgM m hO).N, ((cfgM m hO).win 5).index t = ![t.val, 0] :=
  (by decide +kernel : ∀ t : Fin grid0.N, cc0_transform_5 (grid0.coords t) = ![t.val, 0])

theorem covers_5 : ((cfgM m hO).win 5).Covers := by
  refine ⟨fun a => by match a with | ⟨0, _⟩ => show 0 < 128; omega | ⟨1, _⟩ => show 0 < 772; omega, fun β => ?_⟩
  have h0 : (β (0 : Fin 2)).val < (1024 + 128 - 1) / 128 := (β (0 : Fin 2)).isLt
  have h1 : (β (1 : Fin 2)).val < (772 + 772 - 1) / 772 := (β (1 : Fin 2)).isLt
  have h2 : (β (0 : Fin 2)).val < 8 := by omega
  refine ⟨(⟨(β (0 : Fin 2)).val, lt_of_lt_of_eq h2 N_0.symm⟩ : Fin grid0.N), flush0_5 _ _, fun a => ⟨?_, .inl rfl⟩⟩
  rw [index_5 m hO]
  match a with
  | ⟨0, _⟩ => rfl
  | ⟨1, _⟩ => show 0 = (β (1 : Fin 2)).val; omega

theorem emb_5 (t : Fin (cfgM m hO).N) (y : S128x772.Idx) :
    (((cfgM m hO).win 5).blk t).view.emb y = ix2 (row m hO t (y 0)) (y 1) := by
  refine e2 _ _ _ ?_ ?_
  · refine (Pipeline.Window.rect_emb_val ((cfgM m hO).win 5) t y (0 : Fin 2)).trans ?_
    rw [index_5 m hO t]
    show t.val * 128 + (y 0).val = 128 * t.val + (y 0).val
    omega
  · refine (Pipeline.Window.rect_emb_val ((cfgM m hO).win 5) t y (1 : Fin 2)).trans ?_
    rw [index_5 m hO t]
    show 0 * 772 + (y 1).val = (y 1).val
    omega

theorem index_6 : ∀ t : Fin (cfgM m hO).N, ((cfgM m hO).win 6).index t = ![t.val, 0] :=
  (by decide +kernel : ∀ t : Fin grid0.N, cc0_transform_6 (grid0.coords t) = ![t.val, 0])

theorem covers_6 : ((cfgM m hO).win 6).Covers := by
  refine ⟨fun a => by match a with | ⟨0, _⟩ => show 0 < 128; omega | ⟨1, _⟩ => show 0 < 772; omega, fun β => ?_⟩
  have h0 : (β (0 : Fin 2)).val < (1024 + 128 - 1) / 128 := (β (0 : Fin 2)).isLt
  have h1 : (β (1 : Fin 2)).val < (772 + 772 - 1) / 772 := (β (1 : Fin 2)).isLt
  have h2 : (β (0 : Fin 2)).val < 8 := by omega
  refine ⟨(⟨(β (0 : Fin 2)).val, lt_of_lt_of_eq h2 N_0.symm⟩ : Fin grid0.N), flush0_6 _ _, fun a => ⟨?_, .inl rfl⟩⟩
  rw [index_6 m hO]
  match a with
  | ⟨0, _⟩ => rfl
  | ⟨1, _⟩ => show 0 = (β (1 : Fin 2)).val; omega

theorem emb_6 (t : Fin (cfgM m hO).N) (y : S128x772.Idx) :
    (((cfgM m hO).win 6).blk t).view.emb y = ix2 (row m hO t (y 0)) (y 1) := by
  refine e2 _ _ _ ?_ ?_
  · refine (Pipeline.Window.rect_emb_val ((cfgM m hO).win 6) t y (0 : Fin 2)).trans ?_
    rw [index_6 m hO t]
    show t.val * 128 + (y 0).val = 128 * t.val + (y 0).val
    omega
  · refine (Pipeline.Window.rect_emb_val ((cfgM m hO).win 6) t y (1 : Fin 2)).trans ?_
    rw [index_6 m hO t]
    show 0 * 772 + (y 1).val = (y 1).val
    omega

theorem index_7 : ∀ t : Fin (cfgM m hO).N, ((cfgM m hO).win 7).index t = ![t.val, 0] :=
  (by decide +kernel : ∀ t : Fin grid0.N, cc0_transform_7 (grid0.coords t) = ![t.val, 0])

theorem covers_7 : ((cfgM m hO).win 7).Covers := by
  refine ⟨fun a => by match a with | ⟨0, _⟩ => show 0 < 128; omega | ⟨1, _⟩ => show 0 < 772; omega, fun β => ?_⟩
  have h0 : (β (0 : Fin 2)).val < (1024 + 128 - 1) / 128 := (β (0 : Fin 2)).isLt
  have h1 : (β (1 : Fin 2)).val < (772 + 772 - 1) / 772 := (β (1 : Fin 2)).isLt
  have h2 : (β (0 : Fin 2)).val < 8 := by omega
  refine ⟨(⟨(β (0 : Fin 2)).val, lt_of_lt_of_eq h2 N_0.symm⟩ : Fin grid0.N), flush0_7 _ _, fun a => ⟨?_, .inl rfl⟩⟩
  rw [index_7 m hO]
  match a with
  | ⟨0, _⟩ => rfl
  | ⟨1, _⟩ => show 0 = (β (1 : Fin 2)).val; omega

theorem emb_7 (t : Fin (cfgM m hO).N) (y : S128x772.Idx) :
    (((cfgM m hO).win 7).blk t).view.emb y = ix2 (row m hO t (y 0)) (y 1) := by
  refine e2 _ _ _ ?_ ?_
  · refine (Pipeline.Window.rect_emb_val ((cfgM m hO).win 7) t y (0 : Fin 2)).trans ?_
    rw [index_7 m hO t]
    show t.val * 128 + (y 0).val = 128 * t.val + (y 0).val
    omega
  · refine (Pipeline.Window.rect_emb_val ((cfgM m hO).win 7) t y (1 : Fin 2)).trans ?_
    rw [index_7 m hO t]
    show 0 * 772 + (y 1).val = (y 1).val
    omega

theorem index_8 : ∀ t : Fin (cfgM m hO).N, ((cfgM m hO).win 8).index t = ![t.val, 0] :=
  (by decide +kernel : ∀ t : Fin grid0.N, cc0_transform_8 (grid0.coords t) = ![t.val, 0])

theorem covers_8 : ((cfgM m hO).win 8).Covers := by
  refine ⟨fun a => by match a with | ⟨0, _⟩ => show 0 < 128; omega | ⟨1, _⟩ => show 0 < 772; omega, fun β => ?_⟩
  have h0 : (β (0 : Fin 2)).val < (1024 + 128 - 1) / 128 := (β (0 : Fin 2)).isLt
  have h1 : (β (1 : Fin 2)).val < (772 + 772 - 1) / 772 := (β (1 : Fin 2)).isLt
  have h2 : (β (0 : Fin 2)).val < 8 := by omega
  refine ⟨(⟨(β (0 : Fin 2)).val, lt_of_lt_of_eq h2 N_0.symm⟩ : Fin grid0.N), flush0_8 _ _, fun a => ⟨?_, .inl rfl⟩⟩
  rw [index_8 m hO]
  match a with
  | ⟨0, _⟩ => rfl
  | ⟨1, _⟩ => show 0 = (β (1 : Fin 2)).val; omega

theorem emb_8 (t : Fin (cfgM m hO).N) (y : S128x772.Idx) :
    (((cfgM m hO).win 8).blk t).view.emb y = ix2 (row m hO t (y 0)) (y 1) := by
  refine e2 _ _ _ ?_ ?_
  · refine (Pipeline.Window.rect_emb_val ((cfgM m hO).win 8) t y (0 : Fin 2)).trans ?_
    rw [index_8 m hO t]
    show t.val * 128 + (y 0).val = 128 * t.val + (y 0).val
    omega
  · refine (Pipeline.Window.rect_emb_val ((cfgM m hO).win 8) t y (1 : Fin 2)).trans ?_
    rw [index_8 m hO t]
    show 0 * 772 + (y 1).val = (y 1).val
    omega

/-- The kernel's first word is the pair's first word. -/
theorem word_eq : word 0 (tbl m 0) = arg2 m Ref.at0 := by
  unfold word
  refine congrArg (arg2 m) (funext fun a => Fin.ext ?_)
  match a with
  | ⟨0, _⟩ => rfl

variable (n : Fin 4) (hn : (arg2 m at1).toNat = n.val) (hi : (arg2 m at1).toInt = n.val)
include hn hi

/-- A block's gradient is the reference's at the block's rows. -/
theorem grad_eq (t : Fin (cfgM m hO).N) (r : Fin 128) (j : Fin 772) :
    grad (arg2 m Ref.at0) (iblk m hO 0 0 t) (iblk m hO 0 1 t) (ix2 r j)
      = Cert.InUpdReferenceIdeal.Read.val_main_v29 (F := Ideal) (arg0 m) (arg1 m) (arg2 m) (ix2 (row m hO t r) j) := by
  refine (grad_at _ _ _ r j).trans ?_
  refine Eq.trans ?_ (Ref.grad_at (arg0 m) (arg1 m) (arg2 m) n hi (row m hO t r) j).symm
  exact Finset.sum_congr rfl fun k _ => congrArg₂ (pick (arg2 m Ref.at0) k) (blk1_at m hO n hn t r j) (blk0_at m hO t k r j)

omit hn hi in
theorem eta_out (y : S128x772.Idx) : y = ix2 (y 0) (y 1) := eta2 y

omit hn hi in
theorem o_5 (t : Fin (cfgM m hO).N) : (outsAt0 m hO 0 t).1 = grad (arg2 m Ref.at0) (iblk m hO 0 0 t) (iblk m hO 0 1 t) := by
  unfold outsAt0
  dsimp only
  refine (out_5 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => grad (w) (iblk m hO 0 0 t) (iblk m hO 0 1 t)) (word_eq m)

theorem at_5 (t : Fin (cfgM m hO).N) (y : S128x772.Idx) : (outsAt0 m hO 0 t).1 y
    = Cert.InUpdReferenceIdeal.Read.val_main_v29 (F := Ideal) (arg0 m) (arg1 m) (arg2 m) (ix2 (row m hO t (y 0)) (y 1)) := by
  refine (congrFun (o_5 m hO t) y).trans ?_
  refine (congrArg (grad (arg2 m Ref.at0) (iblk m hO 0 0 t) (iblk m hO 0 1 t)) (eta_out y)).trans ?_
  exact grad_eq m hO n hn hi t (y 0) (y 1)

theorem arr_5 : (dats m hO 0 0).arrAt 5 (cfgM m hO).N = Cert.InUpdReferenceIdeal.Read.val_main_v29 (F := Ideal) (arg0 m) (arg1 m) (arg2 m) := by
  refine (dats m hO 0 0).arrAt_eq_of_covers 5 _ (covers_5 m hO) fun t ht y => ?_
  refine Eq.trans (b := (dats m hO 0 0).after 5 t y) rfl ?_
  refine (congrFun (after0_5 m hO 0 t) y).trans ?_
  refine (at_5 m hO n hn hi t y).trans ?_
  exact congrArg (Cert.InUpdReferenceIdeal.Read.val_main_v29 (F := Ideal) (arg0 m) (arg1 m) (arg2 m)) (emb_5 m hO t y).symm

omit hn hi in
theorem o_6 (t : Fin (cfgM m hO).N) : (outsAt0 m hO 0 t).2.1 = k0_pay3 (F := Ideal) (grad (arg2 m Ref.at0) (iblk m hO 0 0 t) (iblk m hO 0 1 t)) (iblk m hO 0 2 t) (iblk m hO 0 3 t) (iblk m hO 0 4 t) k0_pay7 := by
  unfold outsAt0
  dsimp only
  refine (out_6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay3 (F := Ideal) (grad (w) (iblk m hO 0 0 t) (iblk m hO 0 1 t)) (iblk m hO 0 2 t) (iblk m hO 0 3 t) (iblk m hO 0 4 t) k0_pay7) (word_eq m)

theorem at_6 (t : Fin (cfgM m hO).N) (y : S128x772.Idx) : (outsAt0 m hO 0 t).2.1 y
    = Cert.InUpdReferenceIdeal.Read.val_main_v53 (F := Ideal) (arg0 m) (arg1 m) (arg2 m) (arg3 m) (arg4 m) (arg5 m) (ix2 (row m hO t (y 0)) (y 1)) := by
  refine (congrFun (o_6 m hO t) y).trans ?_
  refine (congrArg (k0_pay3 (F := Ideal) (grad (arg2 m Ref.at0) (iblk m hO 0 0 t) (iblk m hO 0 1 t)) (iblk m hO 0 2 t) (iblk m hO 0 3 t) (iblk m hO 0 4 t) k0_pay7) (eta_out y)).trans ?_
  exact delta_at _ _ _ _ _ _ _ _ _ _ _ _ (grad_eq m hO n hn hi t (y 0) (y 1)) (blk2_at m hO t (y 0) (y 1)) (blk3_at m hO t (y 0) (y 1)) (blk4_at m hO t (y 0) (y 1))

theorem arr_6 : (dats m hO 0 0).arrAt 6 (cfgM m hO).N = Cert.InUpdReferenceIdeal.Read.val_main_v53 (F := Ideal) (arg0 m) (arg1 m) (arg2 m) (arg3 m) (arg4 m) (arg5 m) := by
  refine (dats m hO 0 0).arrAt_eq_of_covers 6 _ (covers_6 m hO) fun t ht y => ?_
  refine Eq.trans (b := (dats m hO 0 0).after 6 t y) rfl ?_
  refine (congrFun (after0_6 m hO 0 t) y).trans ?_
  refine (at_6 m hO n hn hi t y).trans ?_
  exact congrArg (Cert.InUpdReferenceIdeal.Read.val_main_v53 (F := Ideal) (arg0 m) (arg1 m) (arg2 m) (arg3 m) (arg4 m) (arg5 m)) (emb_6 m hO t y).symm

omit hn hi in
theorem o_7 (t : Fin (cfgM m hO).N) : (outsAt0 m hO 0 t).2.2.1 = k0_pay1 (F := Ideal) (grad (arg2 m Ref.at0) (iblk m hO 0 0 t) (iblk m hO 0 1 t)) (iblk m hO 0 3 t) k0_pay7 := by
  unfold outsAt0
  dsimp only
  refine (out_7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay1 (F := Ideal) (grad (w) (iblk m hO 0 0 t) (iblk m hO 0 1 t)) (iblk m hO 0 3 t) k0_pay7) (word_eq m)

theorem at_7 (t : Fin (cfgM m hO).N) (y : S128x772.Idx) : (outsAt0 m hO 0 t).2.2.1 y
    = Cert.InUpdReferenceIdeal.Read.val_main_v34 (F := Ideal) (arg0 m) (arg1 m) (arg2 m) (arg4 m) (ix2 (row m hO t (y 0)) (y 1)) := by
  refine (congrFun (o_7 m hO t) y).trans ?_
  refine (congrArg (k0_pay1 (F := Ideal) (grad (arg2 m Ref.at0) (iblk m hO 0 0 t) (iblk m hO 0 1 t)) (iblk m hO 0 3 t) k0_pay7) (eta_out y)).trans ?_
  exact moment_at _ _ _ _ _ _ _ _ (grad_eq m hO n hn hi t (y 0) (y 1)) (blk3_at m hO t (y 0) (y 1))

theorem arr_7 : (dats m hO 0 0).arrAt 7 (cfgM m hO).N = Cert.InUpdReferenceIdeal.Read.val_main_v34 (F := Ideal) (arg0 m) (arg1 m) (arg2 m) (arg4 m) := by
  refine (dats m hO 0 0).arrAt_eq_of_covers 7 _ (covers_7 m hO) fun t ht y => ?_
  refine Eq.trans (b := (dats m hO 0 0).after 7 t y) rfl ?_
  refine (congrFun (after0_7 m hO 0 t) y).trans ?_
  refine (at_7 m hO n hn hi t y).trans ?_
  exact congrArg (Cert.InUpdReferenceIdeal.Read.val_main_v34 (F := Ideal) (arg0 m) (arg1 m) (arg2 m) (arg4 m)) (emb_7 m hO t y).symm

omit hn hi in
theorem o_8 (t : Fin (cfgM m hO).N) : (outsAt0 m hO 0 t).2.2.2 = k0_pay2 (F := Ideal) (grad (arg2 m Ref.at0) (iblk m hO 0 0 t) (iblk m hO 0 1 t)) (iblk m hO 0 4 t) := by
  unfold outsAt0
  dsimp only
  refine (out_8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)).trans ?_
  exact congrArg (fun w : BitVec 32 => k0_pay2 (F := Ideal) (grad (w) (iblk m hO 0 0 t) (iblk m hO 0 1 t)) (iblk m hO 0 4 t)) (word_eq m)

theorem at_8 (t : Fin (cfgM m hO).N) (y : S128x772.Idx) : (outsAt0 m hO 0 t).2.2.2 y
    = Cert.InUpdReferenceIdeal.Read.val_main_v40 (F := Ideal) (arg0 m) (arg1 m) (arg2 m) (arg5 m) (ix2 (row m hO t (y 0)) (y 1)) := by
  refine (congrFun (o_8 m hO t) y).trans ?_
  refine (congrArg (k0_pay2 (F := Ideal) (grad (arg2 m Ref.at0) (iblk m hO 0 0 t) (iblk m hO 0 1 t)) (iblk m hO 0 4 t)) (eta_out y)).trans ?_
  exact second_at _ _ _ _ _ _ _ _ (grad_eq m hO n hn hi t (y 0) (y 1)) (blk4_at m hO t (y 0) (y 1))

theorem arr_8 : (dats m hO 0 0).arrAt 8 (cfgM m hO).N = Cert.InUpdReferenceIdeal.Read.val_main_v40 (F := Ideal) (arg0 m) (arg1 m) (arg2 m) (arg5 m) := by
  refine (dats m hO 0 0).arrAt_eq_of_covers 8 _ (covers_8 m hO) fun t ht y => ?_
  refine Eq.trans (b := (dats m hO 0 0).after 8 t y) rfl ?_
  refine (congrFun (after0_8 m hO 0 t) y).trans ?_
  refine (at_8 m hO n hn hi t y).trans ?_
  exact congrArg (Cert.InUpdReferenceIdeal.Read.val_main_v40 (F := Ideal) (arg0 m) (arg1 m) (arg2 m) (arg5 m)) (emb_8 m hO t y).symm

end Cert.InUpd

end
-- ==== Proof.InUpd.Claims.lean ====
/-
  The claims about the summed update of the input projection: the frames, and the kernel's results equal to the reference's.
-/
module

public import proofs.«01_k».proof.Proof.InUpd.Final
public import proofs.«01_k».proof.Proof.Gen.InUpdReferenceIdeal.Run
public import proofs.«01_k».proof.Defs
public import Idealize.ShloMosaic.Adequacy
public import Idealize.ShloMosaic.Init

@[expose] public section

set_option maxRecDepth 16384

noncomputable section

namespace Cert.InUpd

open Idealize.ShloMosaic Idealize.SL.Sem

theorem frame_bits : Cert.quiescent_InUpdKernel := fun m ρ h =>
  Cert.InUpdKernel.Gen.frame m ρ (ok_bits m (nat_of_bound _ (share_bound _ _ _ _ _ _ (h 0))).1)

theorem frame_ideal : Cert.quiescent_InUpdKernelIdeal := fun m ρ h =>
  Cert.InUpdKernelIdeal.Gen.frame m ρ (ok_ideal m (nat_of_bound _ (share_bound _ _ _ _ _ _ (h 0))).1)

theorem frame_reference : Cert.quiescent_InUpdReferenceIdeal := fun m ρ _ =>
  (θ_run Cert.InUpdReferenceIdeal.defs _ _).mono (fun r h => ⟨fun c => (h c).2.2.2.2,
      Idealize.ShloMosaic.sem_eq_zero_of_no_sems (by decide) r.2⟩)
    (Cert.InUpdReferenceIdeal.Value.run (F := Ideal) m ρ)

theorem frame_reference_pre : Cert.quiescent_InUpdReferenceIdeal_pre_inupd_chip := fun m ρ _ =>
  frame_reference m ρ trivial

set_option maxHeartbeats 4000000 in
open Idealize.ShloMosaic.TcCoe Idealize.ShloMosaic.Pipeline Cert.InUpdKernelIdeal Cert.InUpdKernelIdeal.Gen in
/-- The kernel's results are the reference's stages of the kernel's arguments. -/
theorem kernel_run (m : (ℓ : Loc nD τ sig) → Buf (Elt Ideal) ℓ) (ρ : Dev nD → PrngReg)
    (hb : 0 ≤ (arg2 m at1).toInt ∧ (arg2 m at1).toInt ≤ 3) :
    θ_run (defs (F := Ideal)) (onTc (τ := τ) (main (F := Ideal))) ⟨m, fun _ => 0, ρ⟩ (fun r => ∀ c : Dev nD,
      r.2.mem ((c : Thread nD τ).loc main_v0_0) = Cert.InUpdReferenceIdeal.Read.val_main_v29 (F := Ideal) (m ((c : Thread nD τ).loc main_arg0)) (m ((c : Thread nD τ).loc main_arg1)) (m ((c : Thread nD τ).loc main_arg2))
      ∧ r.2.mem ((c : Thread nD τ).loc main_v0_1) = Cert.InUpdReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.InUpdReferenceIdeal.Read.val_main_v34 (F := Ideal) (m ((c : Thread nD τ).loc main_arg0)) (m ((c : Thread nD τ).loc main_arg1)) (m ((c : Thread nD τ).loc main_arg2)) (m ((c : Thread nD τ).loc main_arg4))
      ∧ r.2.mem ((c : Thread nD τ).loc main_v0_3) = Cert.InUpdReferenceIdeal.Read.val_main_v40 (F := Ideal) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  obtain ⟨hle, hint⟩ := nat_of_bound _ hb
  have hO : Ok m := ok_ideal m hle
  let n : Fin 4 := ⟨(arg2 m at1).toNat, Nat.lt_succ_of_le hle⟩
  refine (θ_run defs _ _).mono (fun r h c => ?_) (run_main m ρ hO)
  obtain rfl : c = 0 := Subsingleton.elim _ _
  exact ⟨
    ((h 0).1 5).trans (arr_5 m hO n rfl hint),
    ((h 0).1 6).trans (arr_6 m hO n rfl hint),
    ((h 0).1 7).trans (arr_7 m hO n rfl hint),
    ((h 0).1 8).trans (arr_8 m hO n rfl hint),
    ((h 0).1 0).trans (((dats m hO 0 0).arrAt_in 0 rfl _).trans ((A_eq m hO 0 0).trans (V_main_arg0 m 0))),
    ((h 0).1 1).trans (((dats m hO 0 0).arrAt_in 1 rfl _).trans ((A_eq m hO 0 1).trans (V_main_arg1 m 0))),
    ((h 0).2 main_arg2 (by decide : main_arg2 ∈ Pipeline.restRefs sig spec0)).trans (V_main_arg2 m 0),
    ((h 0).1 2).trans (((dats m hO 0 0).arrAt_in 2 rfl _).trans ((A_eq m hO 0 2).trans (V_main_arg3 m 0))),
    ((h 0).1 3).trans (((dats m hO 0 0).arrAt_in 3 rfl _).trans ((A_eq m hO 0 3).trans (V_main_arg4 m 0))),
    ((h 0).1 4).trans (((dats m hO 0 0).arrAt_in 4 rfl _).trans ((A_eq m hO 0 4).trans (V_main_arg5 m 0)))⟩

set_option maxHeartbeats 4000000 in
open Idealize.ShloMosaic.TcCoe Cert.InUpdReferenceIdeal in
/-- The reference's results are the stages of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v29) = Read.val_main_v29 (F := Ideal) (m ((c : Thread nD τ).loc main_arg0)) (m ((c : Thread nD τ).loc main_arg1)) (m ((c : Thread nD τ).loc main_arg2))
      ∧ r.2.mem ((c : Thread nD τ).loc main_v53) = Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v34) = Read.val_main_v34 (F := Ideal) (m ((c : Thread nD τ).loc main_arg0)) (m ((c : Thread nD τ).loc main_arg1)) (m ((c : Thread nD τ).loc main_arg2)) (m ((c : Thread nD τ).loc main_arg4))
      ∧ r.2.mem ((c : Thread nD τ).loc main_v40) = Read.val_main_v40 (F := Ideal) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
    obtain ⟨h0, h1, h2, h3, ha⟩ := h c
    exact ⟨h0.trans (Read.val_main_v29_eq _ _ _), h1.trans (Read.val_main_v53_eq _ _), h2.trans (Read.val_main_v34_eq _ _ _ _),
      h3.trans (Read.val_main_v40_eq _ _), ha⟩)
    (Value.run (F := Ideal) m ρ)

set_option maxHeartbeats 4000000 in
theorem algebraic : Cert.algebraic_InUpdKernelIdeal_InUpdReferenceIdeal := by
  intro m ρ m' ρ' h hagree
  refine ⟨_, _, _, _, kernel_run m ρ (share_bound _ _ _ _ _ _ (h 0)), ?_⟩
  refine (θ_run Cert.InUpdReferenceIdeal.defs _ _).mono (fun r h c => ?_) (reference_run m' ρ')
  obtain ⟨e0, e1, e2, e3, e4, e5⟩ := hagree c
  have hc := h c
  rw [e0, e1, e2, e3, e4, e5] at hc
  rw [e0, e1, e2, e3, e4, e5]
  exact hc

end Cert.InUpd

end
-- ==== Proof.lean ====
module

public import proofs.«01_k».proof.Defs
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.DxReferenceIdeal.Run
public import proofs.«01_k».proof.Proof.Gen.DxReferenceIdeal.Read
public import proofs.«01_k».proof.Proof.Gen.WoutKernel
public import proofs.«01_k».proof.Proof.Gen.WoutKernel.Skeleton
public import proofs.«01_k».proof.Proof.Gen.WoutKernel.Launch
public import proofs.«01_k».proof.Proof.Gen.WoutKernel.Points
public import proofs.«01_k».proof.Proof.Gen.WoutKernel.Frame
public import proofs.«01_k».proof.Proof.Gen.WoutKernelIdeal
public import proofs.«01_k».proof.Proof.Gen.WoutKernelIdeal.Skeleton
public import proofs.«01_k».proof.Proof.Gen.WoutKernelIdeal.Launch
public import proofs.«01_k».proof.Proof.Gen.WoutKernelIdeal.Points
public import proofs.«01_k».proof.Proof.Gen.WoutKernelIdeal.Frame
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.Gen.Wff1Kernel
public import proofs.«01_k».proof.Proof.Gen.Wff1Kernel.Skeleton
public import proofs.«01_k».proof.Proof.Gen.Wff1Kernel.Launch
public import proofs.«01_k».proof.Proof.Gen.Wff1Kernel.Points
public import proofs.«01_k».proof.Proof.Gen.Wff1Kernel.Frame
public import proofs.«01_k».proof.Proof.Gen.Wff1KernelIdeal
public import proofs.«01_k».proof.Proof.Gen.Wff1KernelIdeal.Skeleton
public import proofs.«01_k».proof.Proof.Gen.Wff1KernelIdeal.Launch
public import proofs.«01_k».proof.Proof.Gen.Wff1KernelIdeal.Points
public import proofs.«01_k».proof.Proof.Gen.Wff1KernelIdeal.Frame
public import proofs.«01_k».proof.Proof.Gen.Wff1ReferenceIdeal
public import proofs.«01_k».proof.Proof.Gen.Wff1ReferenceIdeal.Run
public import proofs.«01_k».proof.Proof.Gen.Wff1ReferenceIdeal.Read
public import proofs.«01_k».proof.Proof.Gen.Wff2Kernel
public import proofs.«01_k».proof.Proof.Gen.Wff2Kernel.Skeleton
public import proofs.«01_k».proof.Proof.Gen.Wff2Kernel.Launch
public import proofs.«01_k».proof.Proof.Gen.Wff2Kernel.Points
public import proofs.«01_k».proof.Proof.Gen.Wff2Kernel.Frame
public import proofs.«01_k».proof.Proof.Gen.Wff2KernelIdeal
public import proofs.«01_k».proof.Proof.Gen.Wff2KernelIdeal.Skeleton
public import proofs.«01_k».proof.Proof.Gen.Wff2KernelIdeal.Launch
public import proofs.«01_k».proof.Proof.Gen.Wff2KernelIdeal.Points
public import proofs.«01_k».proof.Proof.Gen.Wff2KernelIdeal.Frame
public import proofs.«01_k».proof.Proof.Gen.Wff2ReferenceIdeal
public import proofs.«01_k».proof.Proof.Gen.Wff2ReferenceIdeal.Run
public import proofs.«01_k».proof.Proof.Gen.Wff2ReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.InKernelIdeal.Value
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.GainKernel
public import proofs.«01_k».proof.Proof.Gen.GainKernel.Skeleton
public import proofs.«01_k».proof.Proof.Gen.GainKernel.Launch
public import proofs.«01_k».proof.Proof.Gen.GainKernel.Points
public import proofs.«01_k».proof.Proof.Gen.GainKernel.Frame
public import proofs.«01_k».proof.Proof.Gen.GainKernelIdeal
public import proofs.«01_k».proof.Proof.Gen.GainKernelIdeal.Skeleton
public import proofs.«01_k».proof.Proof.Gen.GainKernelIdeal.Launch
public import proofs.«01_k».proof.Proof.Gen.GainKernelIdeal.Points
public import proofs.«01_k».proof.Proof.Gen.GainKernelIdeal.Frame
public import proofs.«01_k».proof.Proof.Gen.GainReferenceIdeal
public import proofs.«01_k».proof.Proof.Gen.GainReferenceIdeal.Run
public import proofs.«01_k».proof.Proof.Gen.GainReferenceIdeal.Read
public import proofs.«01_k».proof.Proof.Gen.GainKernelIdeal.Value
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.GateKernelIdeal.Value
public import proofs.«01_k».proof.Proof.Gen.GateBKernel
public import proofs.«01_k».proof.Proof.Gen.GateBKernel.Skeleton
public import proofs.«01_k».proof.Proof.Gen.GateBKernel.Launch
public import proofs.«01_k».proof.Proof.Gen.GateBKernel.Points
public import proofs.«01_k».proof.Proof.Gen.GateBKernel.Frame
public import proofs.«01_k».proof.Proof.Gen.GateBKernelIdeal
public import proofs.«01_k».proof.Proof.Gen.GateBKernelIdeal.Skeleton
public import proofs.«01_k».proof.Proof.Gen.GateBKernelIdeal.Launch
public import proofs.«01_k».proof.Proof.Gen.GateBKernelIdeal.Points
public import proofs.«01_k».proof.Proof.Gen.GateBKernelIdeal.Frame
public import proofs.«01_k».proof.Proof.Gen.GateBReferenceIdeal
public import proofs.«01_k».proof.Proof.Gen.GateBReferenceIdeal.Run
public import proofs.«01_k».proof.Proof.Gen.GateBReferenceIdeal.Read
public import proofs.«01_k».proof.Proof.Gen.GateBKernelIdeal.Value
public import proofs.«01_k».proof.Proof.Gen.GlaNormKernel
public import proofs.«01_k».proof.Proof.Gen.GlaNormKernel.Skeleton
public import proofs.«01_k».proof.Proof.Gen.GlaNormKernel.Launch
public import proofs.«01_k».proof.Proof.Gen.GlaNormKernel.Points
public import proofs.«01_k».proof.Proof.Gen.GlaNormKernel.Frame
public import proofs.«01_k».proof.Proof.Gen.GlaNormKernelIdeal
public import proofs.«01_k».proof.Proof.Gen.GlaNormKernelIdeal.Skeleton
public import proofs.«01_k».proof.Proof.Gen.GlaNormKernelIdeal.Launch
public import proofs.«01_k».proof.Proof.Gen.GlaNormKernelIdeal.Points
public import proofs.«01_k».proof.Proof.Gen.GlaNormKernelIdeal.Frame
public import proofs.«01_k».proof.Proof.Gen.GlaNormReferenceIdeal
public import proofs.«01_k».proof.Proof.Gen.GlaNormReferenceIdeal.Run
public import proofs.«01_k».proof.Proof.Gen.GlaNormReferenceIdeal.Read
public import proofs.«01_k».proof.Proof.Gen.GlaNormKernelIdeal.Value
public import proofs.«01_k».proof.Proof.Gen.RelKernel
public import proofs.«01_k».proof.Proof.Gen.RelKernel.Skeleton
public import proofs.«01_k».proof.Proof.Gen.RelKernel.Launch
public import proofs.«01_k».proof.Proof.Gen.RelKernel.Points
public import proofs.«01_k».proof.Proof.Gen.RelKernel.Frame
public import proofs.«01_k».proof.Proof.Gen.RelKernelIdeal
public import proofs.«01_k».proof.Proof.Gen.RelKernelIdeal.Skeleton
public import proofs.«01_k».proof.Proof.Gen.RelKernelIdeal.Launch
public import proofs.«01_k».proof.Proof.Gen.RelKernelIdeal.Points
public import proofs.«01_k».proof.Proof.Gen.RelKernelIdeal.Frame
public import proofs.«01_k».proof.Proof.Gen.RelReferenceIdeal
public import proofs.«01_k».proof.Proof.Gen.RelReferenceIdeal.Run
public import proofs.«01_k».proof.Proof.Gen.RelReferenceIdeal.Read
public import proofs.«01_k».proof.Proof.Gen.RelKernelIdeal.Value
public import proofs.«01_k».proof.Proof.Gen.OutUpdKernel
public import proofs.«01_k».proof.Proof.Gen.OutUpdKernel.Skeleton
public import proofs.«01_k».proof.Proof.Gen.OutUpdKernel.Launch
public import proofs.«01_k».proof.Proof.Gen.OutUpdKernel.Points
public import proofs.«01_k».proof.Proof.Gen.OutUpdKernel.Frame
public import proofs.«01_k».proof.Proof.Gen.OutUpdKernelIdeal
public import proofs.«01_k».proof.Proof.Gen.OutUpdKernelIdeal.Skeleton
public import proofs.«01_k».proof.Proof.Gen.OutUpdKernelIdeal.Launch
public import proofs.«01_k».proof.Proof.Gen.OutUpdKernelIdeal.Points
public import proofs.«01_k».proof.Proof.Gen.OutUpdKernelIdeal.Frame
public import proofs.«01_k».proof.Proof.Gen.OutUpdReferenceIdeal
public import proofs.«01_k».proof.Proof.Gen.OutUpdReferenceIdeal.Run
public import proofs.«01_k».proof.Proof.Gen.OutUpdReferenceIdeal.Read
public import proofs.«01_k».proof.Proof.Gen.FfUpdKernel
public import proofs.«01_k».proof.Proof.Gen.FfUpdKernel.Skeleton
public import proofs.«01_k».proof.Proof.Gen.FfUpdKernel.Launch
public import proofs.«01_k».proof.Proof.Gen.FfUpdKernel.Points
public import proofs.«01_k».proof.Proof.Gen.FfUpdKernel.Frame
public import proofs.«01_k».proof.Proof.Gen.FfUpdKernelIdeal
public import proofs.«01_k».proof.Proof.Gen.FfUpdKernelIdeal.Skeleton
public import proofs.«01_k».proof.Proof.Gen.FfUpdKernelIdeal.Launch
public import proofs.«01_k».proof.Proof.Gen.FfUpdKernelIdeal.Points
public import proofs.«01_k».proof.Proof.Gen.FfUpdKernelIdeal.Frame
public import proofs.«01_k».proof.Proof.Gen.FfUpdReferenceIdeal
public import proofs.«01_k».proof.Proof.Gen.FfUpdReferenceIdeal.Run
public import proofs.«01_k».proof.Proof.Gen.FfUpdReferenceIdeal.Read
public import proofs.«01_k».proof.Proof.Gen.InUpdKernel
public import proofs.«01_k».proof.Proof.Gen.InUpdKernel.Skeleton
public import proofs.«01_k».proof.Proof.Gen.InUpdKernel.Launch
public import proofs.«01_k».proof.Proof.Gen.InUpdKernel.Points
public import proofs.«01_k».proof.Proof.Gen.InUpdKernel.Frame
public import proofs.«01_k».proof.Proof.Gen.InUpdKernelIdeal
public import proofs.«01_k».proof.Proof.Gen.InUpdKernelIdeal.Skeleton
public import proofs.«01_k».proof.Proof.Gen.InUpdKernelIdeal.Launch
public import proofs.«01_k».proof.Proof.Gen.InUpdKernelIdeal.Points
public import proofs.«01_k».proof.Proof.Gen.InUpdKernelIdeal.Frame
public import proofs.«01_k».proof.Proof.Gen.InUpdReferenceIdeal
public import proofs.«01_k».proof.Proof.Gen.InUpdReferenceIdeal.Run
public import proofs.«01_k».proof.Proof.Gen.InUpdReferenceIdeal.Read
public import proofs.«01_k».proof.Proof.Gen.Pre_outupd_chip
public import proofs.«01_k».proof.Proof.Gen.Pre_ffupd_chip
public import proofs.«01_k».proof.Proof.Gen.Pre_inupd_chip
public import proofs.«01_k».proof.Proof.Gen.TotalKernel
public import proofs.«01_k».proof.Proof.Gen.TotalKernel.Skeleton
public import proofs.«01_k».proof.Proof.Gen.TotalKernel.Launch
public import proofs.«01_k».proof.Proof.Gen.TotalKernel.Points
public import proofs.«01_k».proof.Proof.Gen.TotalKernel.Frame
public import proofs.«01_k».proof.Proof.Gen.TotalKernelIdeal
public import proofs.«01_k».proof.Proof.Gen.TotalKernelIdeal.Skeleton
public import proofs.«01_k».proof.Proof.Gen.TotalKernelIdeal.Launch
public import proofs.«01_k».proof.Proof.Gen.TotalKernelIdeal.Points
public import proofs.«01_k».proof.Proof.Gen.TotalKernelIdeal.Frame
public import proofs.«01_k».proof.Proof.Gen.TotalReferenceIdeal
public import proofs.«01_k».proof.Proof.Gen.TotalReferenceIdeal.Run
public import proofs.«01_k».proof.Proof.Gen.TotalReferenceIdeal.Read
public import proofs.«01_k».proof.Proof.Gen.TotalKernelIdeal.Value
public import proofs.«01_k».proof.Proof.Post.Claims
public import proofs.«01_k».proof.Proof.Dx.Claims
public import proofs.«01_k».proof.Proof.Wout.Claims
public import proofs.«01_k».proof.Proof.Wff1.Claims
public import proofs.«01_k».proof.Proof.Wff2.Claims
public import proofs.«01_k».proof.Proof.In.Claims
public import proofs.«01_k».proof.Proof.Win.Claims
public import proofs.«01_k».proof.Proof.Gain.Claims
public import proofs.«01_k».proof.Proof.Gate.Claims
public import proofs.«01_k».proof.Proof.GateB.Claims
public import proofs.«01_k».proof.Proof.GlaNorm.Claims
public import proofs.«01_k».proof.Proof.Rel.Claims
public import proofs.«01_k».proof.Proof.Total.Claims
public import proofs.«01_k».proof.Proof.OutUpd.Claims
public import proofs.«01_k».proof.Proof.FfUpd.Claims
public import proofs.«01_k».proof.Proof.InUpd.Claims
public import Idealize.ShloMosaic.Adequacy
public import Idealize.ShloMosaic.Init

@[expose] public section

noncomputable section

namespace Cert.Proof

open Idealize.ShloMosaic Idealize.SL.Sem

theorem claim : Cert.Claim := ⟨Cert.PostKernel.Gen.facts, Cert.PostKernelIdeal.Gen.facts, Cert.PostReferenceIdeal.Gen.facts,
  Cert.DxKernel.Gen.facts, Cert.DxKernelIdeal.Gen.facts, Cert.DxReferenceIdeal.Gen.facts,
  Cert.WoutKernel.Gen.facts, Cert.WoutKernelIdeal.Gen.facts, Cert.WoutReferenceIdeal.Gen.facts,
  Cert.Wff1Kernel.Gen.facts, Cert.Wff1KernelIdeal.Gen.facts, Cert.Wff1ReferenceIdeal.Gen.facts,
  Cert.Wff2Kernel.Gen.facts, Cert.Wff2KernelIdeal.Gen.facts, Cert.Wff2ReferenceIdeal.Gen.facts,
  Cert.InKernel.Gen.facts, Cert.InKernelIdeal.Gen.facts, Cert.InReferenceIdeal.Gen.facts,
  Cert.WinKernel.Gen.facts, Cert.WinKernelIdeal.Gen.facts, Cert.WinReferenceIdeal.Gen.facts,
  Cert.GainKernel.Gen.facts, Cert.GainKernelIdeal.Gen.facts, Cert.GainReferenceIdeal.Gen.facts,
  Cert.GateKernel.Gen.facts, Cert.GateKernelIdeal.Gen.facts, Cert.GateReferenceIdeal.Gen.facts,
  Cert.GateBKernel.Gen.facts, Cert.GateBKernelIdeal.Gen.facts, Cert.GateBReferenceIdeal.Gen.facts,
  Cert.GlaNormKernel.Gen.facts, Cert.GlaNormKernelIdeal.Gen.facts, Cert.GlaNormReferenceIdeal.Gen.facts,
  Cert.RelKernel.Gen.facts, Cert.RelKernelIdeal.Gen.facts, Cert.RelReferenceIdeal.Gen.facts,
  Cert.TotalKernel.Gen.facts, Cert.TotalKernelIdeal.Gen.facts, Cert.TotalReferenceIdeal.Gen.facts,
  Cert.OutUpdKernel.Gen.facts, Cert.OutUpdKernelIdeal.Gen.facts, Cert.OutUpdReferenceIdeal.Gen.facts,
  Cert.FfUpdKernel.Gen.facts, Cert.FfUpdKernelIdeal.Gen.facts, Cert.FfUpdReferenceIdeal.Gen.facts,
  Cert.InUpdKernel.Gen.facts, Cert.InUpdKernelIdeal.Gen.facts, Cert.InUpdReferenceIdeal.Gen.facts,
  Cert.Pre_outupd_chip.Gen.facts, Cert.Pre_ffupd_chip.Gen.facts, Cert.Pre_inupd_chip.Gen.facts,
  Cert.Post.frame_bits, Cert.Post.frame_ideal, Cert.Post.frame_reference,
  Cert.Dx.frame_bits, Cert.Dx.frame_ideal, Cert.Dx.frame_reference,
  Cert.Wout.frame_bits, Cert.Wout.frame_ideal, Cert.Wout.frame_reference,
  Cert.Wff1.frame_bits, Cert.Wff1.frame_ideal, Cert.Wff1.frame_reference,
  Cert.Wff2.frame_bits, Cert.Wff2.frame_ideal, Cert.Wff2.frame_reference,
  Cert.In.frame_bits, Cert.In.frame_ideal, Cert.In.frame_reference,
  Cert.Win.frame_bits, Cert.Win.frame_ideal, Cert.Win.frame_reference,
  Cert.Gain.frame_bits, Cert.Gain.frame_ideal, Cert.Gain.frame_reference,
  Cert.Gate.frame_bits, Cert.Gate.frame_ideal, Cert.Gate.frame_reference,
  Cert.GateB.frame_bits, Cert.GateB.frame_ideal, Cert.GateB.frame_reference,
  Cert.GlaNorm.frame_bits, Cert.GlaNorm.frame_ideal, Cert.GlaNorm.frame_reference,
  Cert.Rel.frame_bits, Cert.Rel.frame_ideal, Cert.Rel.frame_reference,
  Cert.Total.frame_bits, Cert.Total.frame_ideal, Cert.Total.frame_reference,
  Cert.OutUpd.frame_bits, Cert.OutUpd.frame_ideal, Cert.OutUpd.frame_reference, Cert.OutUpd.frame_reference_pre,
  Cert.FfUpd.frame_bits, Cert.FfUpd.frame_ideal, Cert.FfUpd.frame_reference, Cert.FfUpd.frame_reference_pre,
  Cert.InUpd.frame_bits, Cert.InUpd.frame_ideal, Cert.InUpd.frame_reference, Cert.InUpd.frame_reference_pre,
  trivial, Cert.Post.algebraic, trivial, Cert.Dx.algebraic, trivial, Cert.Wout.algebraic, trivial, Cert.Wff1.algebraic, trivial, Cert.Wff2.algebraic, trivial, Cert.In.algebraic, trivial, Cert.Win.algebraic, trivial, Cert.Gain.algebraic, trivial, Cert.Gate.algebraic, trivial, Cert.GateB.algebraic, trivial, Cert.GlaNorm.algebraic, trivial, Cert.Rel.algebraic, trivial, Cert.Total.algebraic,
  trivial, Cert.OutUpd.algebraic, trivial, Cert.FfUpd.algebraic, trivial, Cert.InUpd.algebraic⟩

end Cert.Proof

end
